-- ==== Defs.lean ====
def Pre_KDown (m : (ℓ : Loc Cert.KDown.nD Cert.KDown.τ Cert.KDown.sig) → Buf (Elt Bits) ℓ) : Prop :=
  True

def Pre_KDownIdeal (m : (ℓ : Loc Cert.KDownIdeal.nD Cert.KDownIdeal.τ Cert.KDownIdeal.sig) → Buf (Elt Ideal) ℓ) : Prop :=
  True

def Pre_KDownIdeal_scales_fit [hPre_scales_fit : Cert.Pre_scales_fit.Facts] (m : (ℓ : Loc Cert.KDownIdeal.nD Cert.KDownIdeal.τ Cert.KDownIdeal.sig) → Buf (Elt Ideal) ℓ) : Prop :=
  ∀ c : Dev Cert.KDownIdeal.nD,
    (Cert.Pre_scales_fit.fn (F := Ideal) (m ((c.tc : Thread Cert.KDownIdeal.nD Cert.KDownIdeal.τ).loc Cert.KDownIdeal.main_arg0)) (m ((c.tc : Thread Cert.KDownIdeal.nD Cert.KDownIdeal.τ).loc Cert.KDownIdeal.main_arg1)) (m ((c.tc : Thread Cert.KDownIdeal.nD Cert.KDownIdeal.τ).loc Cert.KDownIdeal.main_arg2)) (m ((c.tc : Thread Cert.KDownIdeal.nD Cert.KDownIdeal.τ).loc Cert.KDownIdeal.main_arg3))) = (fun _ => 1#1)

def Pre_RDownIdeal (m : (ℓ : Loc Cert.RDownIdeal.nD Cert.RDownIdeal.τ Cert.RDownIdeal.sig) → Buf (Elt Ideal) ℓ) : Prop :=
  True

def Pre_RDownIdeal_scales_fit [hPre_scales_fit : Cert.Pre_scales_fit.Facts] (m : (ℓ : Loc Cert.RDownIdeal.nD Cert.RDownIdeal.τ Cert.RDownIdeal.sig) → Buf (Elt Ideal) ℓ) : Prop :=
  ∀ c : Dev Cert.RDownIdeal.nD,
    (Cert.Pre_scales_fit.fn (F := Ideal) (m ((c.tc : Thread Cert.RDownIdeal.nD Cert.RDownIdeal.τ).loc Cert.RDownIdeal.main_arg0)) (m ((c.tc : Thread Cert.RDownIdeal.nD Cert.RDownIdeal.τ).loc Cert.RDownIdeal.main_arg1)) (m ((c.tc : Thread Cert.RDownIdeal.nD Cert.RDownIdeal.τ).loc Cert.RDownIdeal.main_arg2)) (m ((c.tc : Thread Cert.RDownIdeal.nD Cert.RDownIdeal.τ).loc Cert.RDownIdeal.main_arg3))) = (fun _ => 1#1)

def Pre_KFfn (m : (ℓ : Loc Cert.KFfn.nD Cert.KFfn.τ Cert.KFfn.sig) → Buf (Elt Bits) ℓ) : Prop :=
  True

def Pre_KFfnIdeal (m : (ℓ : Loc Cert.KFfnIdeal.nD Cert.KFfnIdeal.τ Cert.KFfnIdeal.sig) → Buf (Elt Ideal) ℓ) : Prop :=
  True

def Pre_KFfnIdeal_ffn_scales_fit [hPre_ffn_scales_fit : Cert.Pre_ffn_scales_fit.Facts] (m : (ℓ : Loc Cert.KFfnIdeal.nD Cert.KFfnIdeal.τ Cert.KFfnIdeal.sig) → Buf (Elt Ideal) ℓ) : Prop :=
  ∀ c : Dev Cert.KFfnIdeal.nD,
    (Cert.Pre_ffn_scales_fit.fn (F := Ideal) (m ((c.tc : Thread Cert.KFfnIdeal.nD Cert.KFfnIdeal.τ).loc Cert.KFfnIdeal.main_arg0)) (m ((c.tc : Thread Cert.KFfnIdeal.nD Cert.KFfnIdeal.τ).loc Cert.KFfnIdeal.main_arg1)) (m ((c.tc : Thread Cert.KFfnIdeal.nD Cert.KFfnIdeal.τ).loc Cert.KFfnIdeal.main_arg2)) (m ((c.tc : Thread Cert.KFfnIdeal.nD Cert.KFfnIdeal.τ).loc Cert.KFfnIdeal.main_arg3)) (m ((c.tc : Thread Cert.KFfnIdeal.nD Cert.KFfnIdeal.τ).loc Cert.KFfnIdeal.main_arg4))) = (fun _ => 1#1)

def Pre_RFfnIdeal (m : (ℓ : Loc Cert.RFfnIdeal.nD Cert.RFfnIdeal.τ Cert.RFfnIdeal.sig) → Buf (Elt Ideal) ℓ) : Prop :=
  True

def Pre_RFfnIdeal_ffn_scales_fit [hPre_ffn_scales_fit : Cert.Pre_ffn_scales_fit.Facts] (m : (ℓ : Loc Cert.RFfnIdeal.nD Cert.RFfnIdeal.τ Cert.RFfnIdeal.sig) → Buf (Elt Ideal) ℓ) : Prop :=
  ∀ c : Dev Cert.RFfnIdeal.nD,
    (Cert.Pre_ffn_scales_fit.fn (F := Ideal) (m ((c.tc : Thread Cert.RFfnIdeal.nD Cert.RFfnIdeal.τ).loc Cert.RFfnIdeal.main_arg0)) (m ((c.tc : Thread Cert.RFfnIdeal.nD Cert.RFfnIdeal.τ).loc Cert.RFfnIdeal.main_arg1)) (m ((c.tc : Thread Cert.RFfnIdeal.nD Cert.RFfnIdeal.τ).loc Cert.RFfnIdeal.main_arg2)) (m ((c.tc : Thread Cert.RFfnIdeal.nD Cert.RFfnIdeal.τ).loc Cert.RFfnIdeal.main_arg3)) (m ((c.tc : Thread Cert.RFfnIdeal.nD Cert.RFfnIdeal.τ).loc Cert.RFfnIdeal.main_arg4))) = (fun _ => 1#1)

def Pre_RFfnExactIdeal (m : (ℓ : Loc Cert.RFfnExactIdeal.nD Cert.RFfnExactIdeal.τ Cert.RFfnExactIdeal.sig) → Buf (Elt Ideal) ℓ) : Prop :=
  True

def Pre_KOproj (m : (ℓ : Loc Cert.KOproj.nD Cert.KOproj.τ Cert.KOproj.sig) → Buf (Elt Bits) ℓ) : Prop :=
  True

def Pre_KOprojIdeal (m : (ℓ : Loc Cert.KOprojIdeal.nD Cert.KOprojIdeal.τ Cert.KOprojIdeal.sig) → Buf (Elt Ideal) ℓ) : Prop :=
  True

def Pre_KOprojIdeal_o_scales_fit [hPre_o_scales_fit : Cert.Pre_o_scales_fit.Facts] (m : (ℓ : Loc Cert.KOprojIdeal.nD Cert.KOprojIdeal.τ Cert.KOprojIdeal.sig) → Buf (Elt Ideal) ℓ) : Prop :=
  ∀ c : Dev Cert.KOprojIdeal.nD,
    (Cert.Pre_o_scales_fit.fn (F := Ideal) (m ((c.tc : Thread Cert.KOprojIdeal.nD Cert.KOprojIdeal.τ).loc Cert.KOprojIdeal.main_arg0)) (m ((c.tc : Thread Cert.KOprojIdeal.nD Cert.KOprojIdeal.τ).loc Cert.KOprojIdeal.main_arg1)) (m ((c.tc : Thread Cert.KOprojIdeal.nD Cert.KOprojIdeal.τ).loc Cert.KOprojIdeal.main_arg2)) (m ((c.tc : Thread Cert.KOprojIdeal.nD Cert.KOprojIdeal.τ).loc Cert.KOprojIdeal.main_arg3)) (m ((c.tc : Thread Cert.KOprojIdeal.nD Cert.KOprojIdeal.τ).loc Cert.KOprojIdeal.main_arg4))) = (fun _ => 1#1)

def Pre_ROprojIdeal (m : (ℓ : Loc Cert.ROprojIdeal.nD Cert.ROprojIdeal.τ Cert.ROprojIdeal.sig) → Buf (Elt Ideal) ℓ) : Prop :=
  True

def Pre_ROprojIdeal_o_scales_fit [hPre_o_scales_fit : Cert.Pre_o_scales_fit.Facts] (m : (ℓ : Loc Cert.ROprojIdeal.nD Cert.ROprojIdeal.τ Cert.ROprojIdeal.sig) → Buf (Elt Ideal) ℓ) : Prop :=
  ∀ c : Dev Cert.ROprojIdeal.nD,
    (Cert.Pre_o_scales_fit.fn (F := Ideal) (m ((c.tc : Thread Cert.ROprojIdeal.nD Cert.ROprojIdeal.τ).loc Cert.ROprojIdeal.main_arg0)) (m ((c.tc : Thread Cert.ROprojIdeal.nD Cert.ROprojIdeal.τ).loc Cert.ROprojIdeal.main_arg1)) (m ((c.tc : Thread Cert.ROprojIdeal.nD Cert.ROprojIdeal.τ).loc Cert.ROprojIdeal.main_arg2)) (m ((c.tc : Thread Cert.ROprojIdeal.nD Cert.ROprojIdeal.τ).loc Cert.ROprojIdeal.main_arg3)) (m ((c.tc : Thread Cert.ROprojIdeal.nD Cert.ROprojIdeal.τ).loc Cert.ROprojIdeal.main_arg4))) = (fun _ => 1#1)

def quiescent_KDown [hKDown : Cert.KDown.Facts] : Prop :=
  ∀ (m : (ℓ : Loc Cert.KDown.nD Cert.KDown.τ Cert.KDown.sig) → Buf (Elt Bits) ℓ) (g : Dev Cert.KDown.nD → PrngReg), Pre_KDown m →
    θ_run (Cert.KDown.defs (F := Bits)) (onTc (τ := Cert.KDown.τ) (Cert.KDown.main (F := Bits))) ⟨m, fun _ => 0, g⟩ (fun r => (∀ c : Dev Cert.KDown.nD,
      r.2.mem ((c.tc : Thread Cert.KDown.nD Cert.KDown.τ).loc Cert.KDown.main_arg0) = m ((c.tc : Thread Cert.KDown.nD Cert.KDown.τ).loc Cert.KDown.main_arg0)
      ∧ r.2.mem ((c.tc : Thread Cert.KDown.nD Cert.KDown.τ).loc Cert.KDown.main_arg1) = m ((c.tc : Thread Cert.KDown.nD Cert.KDown.τ).loc Cert.KDown.main_arg1)
      ∧ r.2.mem ((c.tc : Thread Cert.KDown.nD Cert.KDown.τ).loc Cert.KDown.main_arg2) = m ((c.tc : Thread Cert.KDown.nD Cert.KDown.τ).loc Cert.KDown.main_arg2)
      ∧ r.2.mem ((c.tc : Thread Cert.KDown.nD Cert.KDown.τ).loc Cert.KDown.main_arg3) = m ((c.tc : Thread Cert.KDown.nD Cert.KDown.τ).loc Cert.KDown.main_arg3))
      ∧ r.2.sem = fun _ => 0)

def quiescent_KDownIdeal [hKDownIdeal : Cert.KDownIdeal.Facts] : Prop :=
  ∀ (m : (ℓ : Loc Cert.KDownIdeal.nD Cert.KDownIdeal.τ Cert.KDownIdeal.sig) → Buf (Elt Ideal) ℓ) (g : Dev Cert.KDownIdeal.nD → PrngReg), Pre_KDownIdeal m →
    θ_run (Cert.KDownIdeal.defs (F := Ideal)) (onTc (τ := Cert.KDownIdeal.τ) (Cert.KDownIdeal.main (F := Ideal))) ⟨m, fun _ => 0, g⟩ (fun r => (∀ c : Dev Cert.KDownIdeal.nD,
      r.2.mem ((c.tc : Thread Cert.KDownIdeal.nD Cert.KDownIdeal.τ).loc Cert.KDownIdeal.main_arg0) = m ((c.tc : Thread Cert.KDownIdeal.nD Cert.KDownIdeal.τ).loc Cert.KDownIdeal.main_arg0)
      ∧ r.2.mem ((c.tc : Thread Cert.KDownIdeal.nD Cert.KDownIdeal.τ).loc Cert.KDownIdeal.main_arg1) = m ((c.tc : Thread Cert.KDownIdeal.nD Cert.KDownIdeal.τ).loc Cert.KDownIdeal.main_arg1)
      ∧ r.2.mem ((c.tc : Thread Cert.KDownIdeal.nD Cert.KDownIdeal.τ).loc Cert.KDownIdeal.main_arg2) = m ((c.tc : Thread Cert.KDownIdeal.nD Cert.KDownIdeal.τ).loc Cert.KDownIdeal.main_arg2)
      ∧ r.2.mem ((c.tc : Thread Cert.KDownIdeal.nD Cert.KDownIdeal.τ).loc Cert.KDownIdeal.main_arg3) = m ((c.tc : Thread Cert.KDownIdeal.nD Cert.KDownIdeal.τ).loc Cert.KDownIdeal.main_arg3))
      ∧ r.2.sem = fun _ => 0)

def quiescent_KDownIdeal_pre_scales_fit [hKDownIdeal : Cert.KDownIdeal.Facts] [hPre_scales_fit : Cert.Pre_scales_fit.Facts] : Prop :=
  ∀ (m : (ℓ : Loc Cert.KDownIdeal.nD Cert.KDownIdeal.τ Cert.KDownIdeal.sig) → Buf (Elt Ideal) ℓ) (g : Dev Cert.KDownIdeal.nD → PrngReg), Pre_KDownIdeal_scales_fit m →
    θ_run (Cert.KDownIdeal.defs (F := Ideal)) (onTc (τ := Cert.KDownIdeal.τ) (Cert.KDownIdeal.main (F := Ideal))) ⟨m, fun _ => 0, g⟩ (fun r => (∀ c : Dev Cert.KDownIdeal.nD,
      r.2.mem ((c.tc : Thread Cert.KDownIdeal.nD Cert.KDownIdeal.τ).loc Cert.KDownIdeal.main_arg0) = m ((c.tc : Thread Cert.KDownIdeal.nD Cert.KDownIdeal.τ).loc Cert.KDownIdeal.main_arg0)
      ∧ r.2.mem ((c.tc : Thread Cert.KDownIdeal.nD Cert.KDownIdeal.τ).loc Cert.KDownIdeal.main_arg1) = m ((c.tc : Thread Cert.KDownIdeal.nD Cert.KDownIdeal.τ).loc Cert.KDownIdeal.main_arg1)
      ∧ r.2.mem ((c.tc : Thread Cert.KDownIdeal.nD Cert.KDownIdeal.τ).loc Cert.KDownIdeal.main_arg2) = m ((c.tc : Thread Cert.KDownIdeal.nD Cert.KDownIdeal.τ).loc Cert.KDownIdeal.main_arg2)
      ∧ r.2.mem ((c.tc : Thread Cert.KDownIdeal.nD Cert.KDownIdeal.τ).loc Cert.KDownIdeal.main_arg3) = m ((c.tc : Thread Cert.KDownIdeal.nD Cert.KDownIdeal.τ).loc Cert.KDownIdeal.main_arg3))
      ∧ r.2.sem = fun _ => 0)

def quiescent_RDownIdeal [hRDownIdeal : Cert.RDownIdeal.Facts] : Prop :=
  ∀ (m : (ℓ : Loc Cert.RDownIdeal.nD Cert.RDownIdeal.τ Cert.RDownIdeal.sig) → Buf (Elt Ideal) ℓ) (g : Dev Cert.RDownIdeal.nD → PrngReg), Pre_RDownIdeal m →
    θ_run (Cert.RDownIdeal.defs (F := Ideal)) (onTc (τ := Cert.RDownIdeal.τ) (Cert.RDownIdeal.main (F := Ideal))) ⟨m, fun _ => 0, g⟩ (fun r => (∀ c : Dev Cert.RDownIdeal.nD,
      r.2.mem ((c.tc : Thread Cert.RDownIdeal.nD Cert.RDownIdeal.τ).loc Cert.RDownIdeal.main_arg0) = m ((c.tc : Thread Cert.RDownIdeal.nD Cert.RDownIdeal.τ).loc Cert.RDownIdeal.main_arg0)
      ∧ r.2.mem ((c.tc : Thread Cert.RDownIdeal.nD Cert.RDownIdeal.τ).loc Cert.RDownIdeal.main_arg1) = m ((c.tc : Thread Cert.RDownIdeal.nD Cert.RDownIdeal.τ).loc Cert.RDownIdeal.main_arg1)
      ∧ r.2.mem ((c.tc : Thread Cert.RDownIdeal.nD Cert.RDownIdeal.τ).loc Cert.RDownIdeal.main_arg2) = m ((c.tc : Thread Cert.RDownIdeal.nD Cert.RDownIdeal.τ).loc Cert.RDownIdeal.main_arg2)
      ∧ r.2.mem ((c.tc : Thread Cert.RDownIdeal.nD Cert.RDownIdeal.τ).loc Cert.RDownIdeal.main_arg3) = m ((c.tc : Thread Cert.RDownIdeal.nD Cert.RDownIdeal.τ).loc Cert.RDownIdeal.main_arg3))
      ∧ r.2.sem = fun _ => 0)

def quiescent_RDownIdeal_pre_scales_fit [hRDownIdeal : Cert.RDownIdeal.Facts] [hPre_scales_fit : Cert.Pre_scales_fit.Facts] : Prop :=
  ∀ (m : (ℓ : Loc Cert.RDownIdeal.nD Cert.RDownIdeal.τ Cert.RDownIdeal.sig) → Buf (Elt Ideal) ℓ) (g : Dev Cert.RDownIdeal.nD → PrngReg), Pre_RDownIdeal_scales_fit m →
    θ_run (Cert.RDownIdeal.defs (F := Ideal)) (onTc (τ := Cert.RDownIdeal.τ) (Cert.RDownIdeal.main (F := Ideal))) ⟨m, fun _ => 0, g⟩ (fun r => (∀ c : Dev Cert.RDownIdeal.nD,
      r.2.mem ((c.tc : Thread Cert.RDownIdeal.nD Cert.RDownIdeal.τ).loc Cert.RDownIdeal.main_arg0) = m ((c.tc : Thread Cert.RDownIdeal.nD Cert.RDownIdeal.τ).loc Cert.RDownIdeal.main_arg0)
      ∧ r.2.mem ((c.tc : Thread Cert.RDownIdeal.nD Cert.RDownIdeal.τ).loc Cert.RDownIdeal.main_arg1) = m ((c.tc : Thread Cert.RDownIdeal.nD Cert.RDownIdeal.τ).loc Cert.RDownIdeal.main_arg1)
      ∧ r.2.mem ((c.tc : Thread Cert.RDownIdeal.nD Cert.RDownIdeal.τ).loc Cert.RDownIdeal.main_arg2) = m ((c.tc : Thread Cert.RDownIdeal.nD Cert.RDownIdeal.τ).loc Cert.RDownIdeal.main_arg2)
      ∧ r.2.mem ((c.tc : Thread Cert.RDownIdeal.nD Cert.RDownIdeal.τ).loc Cert.RDownIdeal.main_arg3) = m ((c.tc : Thread Cert.RDownIdeal.nD Cert.RDownIdeal.τ).loc Cert.RDownIdeal.main_arg3))
      ∧ r.2.sem = fun _ => 0)

def quiescent_KFfn [hKFfn : Cert.KFfn.Facts] : Prop :=
  ∀ (m : (ℓ : Loc Cert.KFfn.nD Cert.KFfn.τ Cert.KFfn.sig) → Buf (Elt Bits) ℓ) (g : Dev Cert.KFfn.nD → PrngReg), Pre_KFfn m →
    θ_run (Cert.KFfn.defs (F := Bits)) (onTc (τ := Cert.KFfn.τ) (Cert.KFfn.main (F := Bits))) ⟨m, fun _ => 0, g⟩ (fun r => (∀ c : Dev Cert.KFfn.nD,
      r.2.mem ((c.tc : Thread Cert.KFfn.nD Cert.KFfn.τ).loc Cert.KFfn.main_arg0) = m ((c.tc : Thread Cert.KFfn.nD Cert.KFfn.τ).loc Cert.KFfn.main_arg0)
      ∧ r.2.mem ((c.tc : Thread Cert.KFfn.nD Cert.KFfn.τ).loc Cert.KFfn.main_arg1) = m ((c.tc : Thread Cert.KFfn.nD Cert.KFfn.τ).loc Cert.KFfn.main_arg1)
      ∧ r.2.mem ((c.tc : Thread Cert.KFfn.nD Cert.KFfn.τ).loc Cert.KFfn.main_arg2) = m ((c.tc : Thread Cert.KFfn.nD Cert.KFfn.τ).loc Cert.KFfn.main_arg2)
      ∧ r.2.mem ((c.tc : Thread Cert.KFfn.nD Cert.KFfn.τ).loc Cert.KFfn.main_arg3) = m ((c.tc : Thread Cert.KFfn.nD Cert.KFfn.τ).loc Cert.KFfn.main_arg3)
      ∧ r.2.mem ((c.tc : Thread Cert.KFfn.nD Cert.KFfn.τ).loc Cert.KFfn.main_arg4) = m ((c.tc : Thread Cert.KFfn.nD Cert.KFfn.τ).loc Cert.KFfn.main_arg4))
      ∧ r.2.sem = fun _ => 0)

def quiescent_KFfnIdeal [hKFfnIdeal : Cert.KFfnIdeal.Facts] : Prop :=
  ∀ (m : (ℓ : Loc Cert.KFfnIdeal.nD Cert.KFfnIdeal.τ Cert.KFfnIdeal.sig) → Buf (Elt Ideal) ℓ) (g : Dev Cert.KFfnIdeal.nD → PrngReg), Pre_KFfnIdeal m →
    θ_run (Cert.KFfnIdeal.defs (F := Ideal)) (onTc (τ := Cert.KFfnIdeal.τ) (Cert.KFfnIdeal.main (F := Ideal))) ⟨m, fun _ => 0, g⟩ (fun r => (∀ c : Dev Cert.KFfnIdeal.nD,
      r.2.mem ((c.tc : Thread Cert.KFfnIdeal.nD Cert.KFfnIdeal.τ).loc Cert.KFfnIdeal.main_arg0) = m ((c.tc : Thread Cert.KFfnIdeal.nD Cert.KFfnIdeal.τ).loc Cert.KFfnIdeal.main_arg0)
      ∧ r.2.mem ((c.tc : Thread Cert.KFfnIdeal.nD Cert.KFfnIdeal.τ).loc Cert.KFfnIdeal.main_arg1) = m ((c.tc : Thread Cert.KFfnIdeal.nD Cert.KFfnIdeal.τ).loc Cert.KFfnIdeal.main_arg1)
      ∧ r.2.mem ((c.tc : Thread Cert.KFfnIdeal.nD Cert.KFfnIdeal.τ).loc Cert.KFfnIdeal.main_arg2) = m ((c.tc : Thread Cert.KFfnIdeal.nD Cert.KFfnIdeal.τ).loc Cert.KFfnIdeal.main_arg2)
      ∧ r.2.mem ((c.tc : Thread Cert.KFfnIdeal.nD Cert.KFfnIdeal.τ).loc Cert.KFfnIdeal.main_arg3) = m ((c.tc : Thread Cert.KFfnIdeal.nD Cert.KFfnIdeal.τ).loc Cert.KFfnIdeal.main_arg3)
      ∧ r.2.mem ((c.tc : Thread Cert.KFfnIdeal.nD Cert.KFfnIdeal.τ).loc Cert.KFfnIdeal.main_arg4) = m ((c.tc : Thread Cert.KFfnIdeal.nD Cert.KFfnIdeal.τ).loc Cert.KFfnIdeal.main_arg4))
      ∧ r.2.sem = fun _ => 0)

def quiescent_KFfnIdeal_pre_ffn_scales_fit [hKFfnIdeal : Cert.KFfnIdeal.Facts] [hPre_ffn_scales_fit : Cert.Pre_ffn_scales_fit.Facts] : Prop :=
  ∀ (m : (ℓ : Loc Cert.KFfnIdeal.nD Cert.KFfnIdeal.τ Cert.KFfnIdeal.sig) → Buf (Elt Ideal) ℓ) (g : Dev Cert.KFfnIdeal.nD → PrngReg), Pre_KFfnIdeal_ffn_scales_fit m →
    θ_run (Cert.KFfnIdeal.defs (F := Ideal)) (onTc (τ := Cert.KFfnIdeal.τ) (Cert.KFfnIdeal.main (F := Ideal))) ⟨m, fun _ => 0, g⟩ (fun r => (∀ c : Dev Cert.KFfnIdeal.nD,
      r.2.mem ((c.tc : Thread Cert.KFfnIdeal.nD Cert.KFfnIdeal.τ).loc Cert.KFfnIdeal.main_arg0) = m ((c.tc : Thread Cert.KFfnIdeal.nD Cert.KFfnIdeal.τ).loc Cert.KFfnIdeal.main_arg0)
      ∧ r.2.mem ((c.tc : Thread Cert.KFfnIdeal.nD Cert.KFfnIdeal.τ).loc Cert.KFfnIdeal.main_arg1) = m ((c.tc : Thread Cert.KFfnIdeal.nD Cert.KFfnIdeal.τ).loc Cert.KFfnIdeal.main_arg1)
      ∧ r.2.mem ((c.tc : Thread Cert.KFfnIdeal.nD Cert.KFfnIdeal.τ).loc Cert.KFfnIdeal.main_arg2) = m ((c.tc : Thread Cert.KFfnIdeal.nD Cert.KFfnIdeal.τ).loc Cert.KFfnIdeal.main_arg2)
      ∧ r.2.mem ((c.tc : Thread Cert.KFfnIdeal.nD Cert.KFfnIdeal.τ).loc Cert.KFfnIdeal.main_arg3) = m ((c.tc : Thread Cert.KFfnIdeal.nD Cert.KFfnIdeal.τ).loc Cert.KFfnIdeal.main_arg3)
      ∧ r.2.mem ((c.tc : Thread Cert.KFfnIdeal.nD Cert.KFfnIdeal.τ).loc Cert.KFfnIdeal.main_arg4) = m ((c.tc : Thread Cert.KFfnIdeal.nD Cert.KFfnIdeal.τ).loc Cert.KFfnIdeal.main_arg4))
      ∧ r.2.sem = fun _ => 0)

def quiescent_RFfnIdeal [hRFfnIdeal : Cert.RFfnIdeal.Facts] : Prop :=
  ∀ (m : (ℓ : Loc Cert.RFfnIdeal.nD Cert.RFfnIdeal.τ Cert.RFfnIdeal.sig) → Buf (Elt Ideal) ℓ) (g : Dev Cert.RFfnIdeal.nD → PrngReg), Pre_RFfnIdeal m →
    θ_run (Cert.RFfnIdeal.defs (F := Ideal)) (onTc (τ := Cert.RFfnIdeal.τ) (Cert.RFfnIdeal.main (F := Ideal))) ⟨m, fun _ => 0, g⟩ (fun r => (∀ c : Dev Cert.RFfnIdeal.nD,
      r.2.mem ((c.tc : Thread Cert.RFfnIdeal.nD Cert.RFfnIdeal.τ).loc Cert.RFfnIdeal.main_arg0) = m ((c.tc : Thread Cert.RFfnIdeal.nD Cert.RFfnIdeal.τ).loc Cert.RFfnIdeal.main_arg0)
      ∧ r.2.mem ((c.tc : Thread Cert.RFfnIdeal.nD Cert.RFfnIdeal.τ).loc Cert.RFfnIdeal.main_arg1) = m ((c.tc : Thread Cert.RFfnIdeal.nD Cert.RFfnIdeal.τ).loc Cert.RFfnIdeal.main_arg1)
      ∧ r.2.mem ((c.tc : Thread Cert.RFfnIdeal.nD Cert.RFfnIdeal.τ).loc Cert.RFfnIdeal.main_arg2) = m ((c.tc : Thread Cert.RFfnIdeal.nD Cert.RFfnIdeal.τ).loc Cert.RFfnIdeal.main_arg2)
      ∧ r.2.mem ((c.tc : Thread Cert.RFfnIdeal.nD Cert.RFfnIdeal.τ).loc Cert.RFfnIdeal.main_arg3) = m ((c.tc : Thread Cert.RFfnIdeal.nD Cert.RFfnIdeal.τ).loc Cert.RFfnIdeal.main_arg3)
      ∧ r.2.mem ((c.tc : Thread Cert.RFfnIdeal.nD Cert.RFfnIdeal.τ).loc Cert.RFfnIdeal.main_arg4) = m ((c.tc : Thread Cert.RFfnIdeal.nD Cert.RFfnIdeal.τ).loc Cert.RFfnIdeal.main_arg4))
      ∧ r.2.sem = fun _ => 0)

def quiescent_RFfnIdeal_pre_ffn_scales_fit [hRFfnIdeal : Cert.RFfnIdeal.Facts] [hPre_ffn_scales_fit : Cert.Pre_ffn_scales_fit.Facts] : Prop :=
  ∀ (m : (ℓ : Loc Cert.RFfnIdeal.nD Cert.RFfnIdeal.τ Cert.RFfnIdeal.sig) → Buf (Elt Ideal) ℓ) (g : Dev Cert.RFfnIdeal.nD → PrngReg), Pre_RFfnIdeal_ffn_scales_fit m →
    θ_run (Cert.RFfnIdeal.defs (F := Ideal)) (onTc (τ := Cert.RFfnIdeal.τ) (Cert.RFfnIdeal.main (F := Ideal))) ⟨m, fun _ => 0, g⟩ (fun r => (∀ c : Dev Cert.RFfnIdeal.nD,
      r.2.mem ((c.tc : Thread Cert.RFfnIdeal.nD Cert.RFfnIdeal.τ).loc Cert.RFfnIdeal.main_arg0) = m ((c.tc : Thread Cert.RFfnIdeal.nD Cert.RFfnIdeal.τ).loc Cert.RFfnIdeal.main_arg0)
      ∧ r.2.mem ((c.tc : Thread Cert.RFfnIdeal.nD Cert.RFfnIdeal.τ).loc Cert.RFfnIdeal.main_arg1) = m ((c.tc : Thread Cert.RFfnIdeal.nD Cert.RFfnIdeal.τ).loc Cert.RFfnIdeal.main_arg1)
      ∧ r.2.mem ((c.tc : Thread Cert.RFfnIdeal.nD Cert.RFfnIdeal.τ).loc Cert.RFfnIdeal.main_arg2) = m ((c.tc : Thread Cert.RFfnIdeal.nD Cert.RFfnIdeal.τ).loc Cert.RFfnIdeal.main_arg2)
      ∧ r.2.mem ((c.tc : Thread Cert.RFfnIdeal.nD Cert.RFfnIdeal.τ).loc Cert.RFfnIdeal.main_arg3) = m ((c.tc : Thread Cert.RFfnIdeal.nD Cert.RFfnIdeal.τ).loc Cert.RFfnIdeal.main_arg3)
      ∧ r.2.mem ((c.tc : Thread Cert.RFfnIdeal.nD Cert.RFfnIdeal.τ).loc Cert.RFfnIdeal.main_arg4) = m ((c.tc : Thread Cert.RFfnIdeal.nD Cert.RFfnIdeal.τ).loc Cert.RFfnIdeal.main_arg4))
      ∧ r.2.sem = fun _ => 0)

def quiescent_RFfnExactIdeal [hRFfnExactIdeal : Cert.RFfnExactIdeal.Facts] : Prop :=
  ∀ (m : (ℓ : Loc Cert.RFfnExactIdeal.nD Cert.RFfnExactIdeal.τ Cert.RFfnExactIdeal.sig) → Buf (Elt Ideal) ℓ) (g : Dev Cert.RFfnExactIdeal.nD → PrngReg), Pre_RFfnExactIdeal m →
    θ_run (Cert.RFfnExactIdeal.defs (F := Ideal)) (onTc (τ := Cert.RFfnExactIdeal.τ) (Cert.RFfnExactIdeal.main (F := Ideal))) ⟨m, fun _ => 0, g⟩ (fun r => (∀ c : Dev Cert.RFfnExactIdeal.nD,
      r.2.mem ((c.tc : Thread Cert.RFfnExactIdeal.nD Cert.RFfnExactIdeal.τ).loc Cert.RFfnExactIdeal.main_arg0) = m ((c.tc : Thread Cert.RFfnExactIdeal.nD Cert.RFfnExactIdeal.τ).loc Cert.RFfnExactIdeal.main_arg0)
      ∧ r.2.mem ((c.tc : Thread Cert.RFfnExactIdeal.nD Cert.RFfnExactIdeal.τ).loc Cert.RFfnExactIdeal.main_arg1) = m ((c.tc : Thread Cert.RFfnExactIdeal.nD Cert.RFfnExactIdeal.τ).loc Cert.RFfnExactIdeal.main_arg1)
      ∧ r.2.mem ((c.tc : Thread Cert.RFfnExactIdeal.nD Cert.RFfnExactIdeal.τ).loc Cert.RFfnExactIdeal.main_arg2) = m ((c.tc : Thread Cert.RFfnExactIdeal.nD Cert.RFfnExactIdeal.τ).loc Cert.RFfnExactIdeal.main_arg2)
      ∧ r.2.mem ((c.tc : Thread Cert.RFfnExactIdeal.nD Cert.RFfnExactIdeal.τ).loc Cert.RFfnExactIdeal.main_arg3) = m ((c.tc : Thread Cert.RFfnExactIdeal.nD Cert.RFfnExactIdeal.τ).loc Cert.RFfnExactIdeal.main_arg3)
      ∧ r.2.mem ((c.tc : Thread Cert.RFfnExactIdeal.nD Cert.RFfnExactIdeal.τ).loc Cert.RFfnExactIdeal.main_arg4) = m ((c.tc : Thread Cert.RFfnExactIdeal.nD Cert.RFfnExactIdeal.τ).loc Cert.RFfnExactIdeal.main_arg4))
      ∧ r.2.sem = fun _ => 0)

def quiescent_KOproj [hKOproj : Cert.KOproj.Facts] : Prop :=
  ∀ (m : (ℓ : Loc Cert.KOproj.nD Cert.KOproj.τ Cert.KOproj.sig) → Buf (Elt Bits) ℓ) (g : Dev Cert.KOproj.nD → PrngReg), Pre_KOproj m →
    θ_run (Cert.KOproj.defs (F := Bits)) (onTc (τ := Cert.KOproj.τ) (Cert.KOproj.main (F := Bits))) ⟨m, fun _ => 0, g⟩ (fun r => (∀ c : Dev Cert.KOproj.nD,
      r.2.mem ((c.tc : Thread Cert.KOproj.nD Cert.KOproj.τ).loc Cert.KOproj.main_arg0) = m ((c.tc : Thread Cert.KOproj.nD Cert.KOproj.τ).loc Cert.KOproj.main_arg0)
      ∧ r.2.mem ((c.tc : Thread Cert.KOproj.nD Cert.KOproj.τ).loc Cert.KOproj.main_arg1) = m ((c.tc : Thread Cert.KOproj.nD Cert.KOproj.τ).loc Cert.KOproj.main_arg1)
      ∧ r.2.mem ((c.tc : Thread Cert.KOproj.nD Cert.KOproj.τ).loc Cert.KOproj.main_arg2) = m ((c.tc : Thread Cert.KOproj.nD Cert.KOproj.τ).loc Cert.KOproj.main_arg2)
      ∧ r.2.mem ((c.tc : Thread Cert.KOproj.nD Cert.KOproj.τ).loc Cert.KOproj.main_arg3) = m ((c.tc : Thread Cert.KOproj.nD Cert.KOproj.τ).loc Cert.KOproj.main_arg3)
      ∧ r.2.mem ((c.tc : Thread Cert.KOproj.nD Cert.KOproj.τ).loc Cert.KOproj.main_arg4) = m ((c.tc : Thread Cert.KOproj.nD Cert.KOproj.τ).loc Cert.KOproj.main_arg4))
      ∧ r.2.sem = fun _ => 0)

def quiescent_KOprojIdeal [hKOprojIdeal : Cert.KOprojIdeal.Facts] : Prop :=
  ∀ (m : (ℓ : Loc Cert.KOprojIdeal.nD Cert.KOprojIdeal.τ Cert.KOprojIdeal.sig) → Buf (Elt Ideal) ℓ) (g : Dev Cert.KOprojIdeal.nD → PrngReg), Pre_KOprojIdeal m →
    θ_run (Cert.KOprojIdeal.defs (F := Ideal)) (onTc (τ := Cert.KOprojIdeal.τ) (Cert.KOprojIdeal.main (F := Ideal))) ⟨m, fun _ => 0, g⟩ (fun r => (∀ c : Dev Cert.KOprojIdeal.nD,
      r.2.mem ((c.tc : Thread Cert.KOprojIdeal.nD Cert.KOprojIdeal.τ).loc Cert.KOprojIdeal.main_arg0) = m ((c.tc : Thread Cert.KOprojIdeal.nD Cert.KOprojIdeal.τ).loc Cert.KOprojIdeal.main_arg0)
      ∧ r.2.mem ((c.tc : Thread Cert.KOprojIdeal.nD Cert.KOprojIdeal.τ).loc Cert.KOprojIdeal.main_arg1) = m ((c.tc : Thread Cert.KOprojIdeal.nD Cert.KOprojIdeal.τ).loc Cert.KOprojIdeal.main_arg1)
      ∧ r.2.mem ((c.tc : Thread Cert.KOprojIdeal.nD Cert.KOprojIdeal.τ).loc Cert.KOprojIdeal.main_arg2) = m ((c.tc : Thread Cert.KOprojIdeal.nD Cert.KOprojIdeal.τ).loc Cert.KOprojIdeal.main_arg2)
      ∧ r.2.mem ((c.tc : Thread Cert.KOprojIdeal.nD Cert.KOprojIdeal.τ).loc Cert.KOprojIdeal.main_arg3) = m ((c.tc : Thread Cert.KOprojIdeal.nD Cert.KOprojIdeal.τ).loc Cert.KOprojIdeal.main_arg3)
      ∧ r.2.mem ((c.tc : Thread Cert.KOprojIdeal.nD Cert.KOprojIdeal.τ).loc Cert.KOprojIdeal.main_arg4) = m ((c.tc : Thread Cert.KOprojIdeal.nD Cert.KOprojIdeal.τ).loc Cert.KOprojIdeal.main_arg4))
      ∧ r.2.sem = fun _ => 0)

def quiescent_KOprojIdeal_pre_o_scales_fit [hKOprojIdeal : Cert.KOprojIdeal.Facts] [hPre_o_scales_fit : Cert.Pre_o_scales_fit.Facts] : Prop :=
  ∀ (m : (ℓ : Loc Cert.KOprojIdeal.nD Cert.KOprojIdeal.τ Cert.KOprojIdeal.sig) → Buf (Elt Ideal) ℓ) (g : Dev Cert.KOprojIdeal.nD → PrngReg), Pre_KOprojIdeal_o_scales_fit m →
    θ_run (Cert.KOprojIdeal.defs (F := Ideal)) (onTc (τ := Cert.KOprojIdeal.τ) (Cert.KOprojIdeal.main (F := Ideal))) ⟨m, fun _ => 0, g⟩ (fun r => (∀ c : Dev Cert.KOprojIdeal.nD,
      r.2.mem ((c.tc : Thread Cert.KOprojIdeal.nD Cert.KOprojIdeal.τ).loc Cert.KOprojIdeal.main_arg0) = m ((c.tc : Thread Cert.KOprojIdeal.nD Cert.KOprojIdeal.τ).loc Cert.KOprojIdeal.main_arg0)
      ∧ r.2.mem ((c.tc : Thread Cert.KOprojIdeal.nD Cert.KOprojIdeal.τ).loc Cert.KOprojIdeal.main_arg1) = m ((c.tc : Thread Cert.KOprojIdeal.nD Cert.KOprojIdeal.τ).loc Cert.KOprojIdeal.main_arg1)
      ∧ r.2.mem ((c.tc : Thread Cert.KOprojIdeal.nD Cert.KOprojIdeal.τ).loc Cert.KOprojIdeal.main_arg2) = m ((c.tc : Thread Cert.KOprojIdeal.nD Cert.KOprojIdeal.τ).loc Cert.KOprojIdeal.main_arg2)
      ∧ r.2.mem ((c.tc : Thread Cert.KOprojIdeal.nD Cert.KOprojIdeal.τ).loc Cert.KOprojIdeal.main_arg3) = m ((c.tc : Thread Cert.KOprojIdeal.nD Cert.KOprojIdeal.τ).loc Cert.KOprojIdeal.main_arg3)
      ∧ r.2.mem ((c.tc : Thread Cert.KOprojIdeal.nD Cert.KOprojIdeal.τ).loc Cert.KOprojIdeal.main_arg4) = m ((c.tc : Thread Cert.KOprojIdeal.nD Cert.KOprojIdeal.τ).loc Cert.KOprojIdeal.main_arg4))
      ∧ r.2.sem = fun _ => 0)

def quiescent_ROprojIdeal [hROprojIdeal : Cert.ROprojIdeal.Facts] : Prop :=
  ∀ (m : (ℓ : Loc Cert.ROprojIdeal.nD Cert.ROprojIdeal.τ Cert.ROprojIdeal.sig) → Buf (Elt Ideal) ℓ) (g : Dev Cert.ROprojIdeal.nD → PrngReg), Pre_ROprojIdeal m →
    θ_run (Cert.ROprojIdeal.defs (F := Ideal)) (onTc (τ := Cert.ROprojIdeal.τ) (Cert.ROprojIdeal.main (F := Ideal))) ⟨m, fun _ => 0, g⟩ (fun r => (∀ c : Dev Cert.ROprojIdeal.nD,
      r.2.mem ((c.tc : Thread Cert.ROprojIdeal.nD Cert.ROprojIdeal.τ).loc Cert.ROprojIdeal.main_arg0) = m ((c.tc : Thread Cert.ROprojIdeal.nD Cert.ROprojIdeal.τ).loc Cert.ROprojIdeal.main_arg0)
      ∧ r.2.mem ((c.tc : Thread Cert.ROprojIdeal.nD Cert.ROprojIdeal.τ).loc Cert.ROprojIdeal.main_arg1) = m ((c.tc : Thread Cert.ROprojIdeal.nD Cert.ROprojIdeal.τ).loc Cert.ROprojIdeal.main_arg1)
      ∧ r.2.mem ((c.tc : Thread Cert.ROprojIdeal.nD Cert.ROprojIdeal.τ).loc Cert.ROprojIdeal.main_arg2) = m ((c.tc : Thread Cert.ROprojIdeal.nD Cert.ROprojIdeal.τ).loc Cert.ROprojIdeal.main_arg2)
      ∧ r.2.mem ((c.tc : Thread Cert.ROprojIdeal.nD Cert.ROprojIdeal.τ).loc Cert.ROprojIdeal.main_arg3) = m ((c.tc : Thread Cert.ROprojIdeal.nD Cert.ROprojIdeal.τ).loc Cert.ROprojIdeal.main_arg3)
      ∧ r.2.mem ((c.tc : Thread Cert.ROprojIdeal.nD Cert.ROprojIdeal.τ).loc Cert.ROprojIdeal.main_arg4) = m ((c.tc : Thread Cert.ROprojIdeal.nD Cert.ROprojIdeal.τ).loc Cert.ROprojIdeal.main_arg4))
      ∧ r.2.sem = fun _ => 0)

def quiescent_ROprojIdeal_pre_o_scales_fit [hROprojIdeal : Cert.ROprojIdeal.Facts] [hPre_o_scales_fit : Cert.Pre_o_scales_fit.Facts] : Prop :=
  ∀ (m : (ℓ : Loc Cert.ROprojIdeal.nD Cert.ROprojIdeal.τ Cert.ROprojIdeal.sig) → Buf (Elt Ideal) ℓ) (g : Dev Cert.ROprojIdeal.nD → PrngReg), Pre_ROprojIdeal_o_scales_fit m →
    θ_run (Cert.ROprojIdeal.defs (F := Ideal)) (onTc (τ := Cert.ROprojIdeal.τ) (Cert.ROprojIdeal.main (F := Ideal))) ⟨m, fun _ => 0, g⟩ (fun r => (∀ c : Dev Cert.ROprojIdeal.nD,
      r.2.mem ((c.tc : Thread Cert.ROprojIdeal.nD Cert.ROprojIdeal.τ).loc Cert.ROprojIdeal.main_arg0) = m ((c.tc : Thread Cert.ROprojIdeal.nD Cert.ROprojIdeal.τ).loc Cert.ROprojIdeal.main_arg0)
      ∧ r.2.mem ((c.tc : Thread Cert.ROprojIdeal.nD Cert.ROprojIdeal.τ).loc Cert.ROprojIdeal.main_arg1) = m ((c.tc : Thread Cert.ROprojIdeal.nD Cert.ROprojIdeal.τ).loc Cert.ROprojIdeal.main_arg1)
      ∧ r.2.mem ((c.tc : Thread Cert.ROprojIdeal.nD Cert.ROprojIdeal.τ).loc Cert.ROprojIdeal.main_arg2) = m ((c.tc : Thread Cert.ROprojIdeal.nD Cert.ROprojIdeal.τ).loc Cert.ROprojIdeal.main_arg2)
      ∧ r.2.mem ((c.tc : Thread Cert.ROprojIdeal.nD Cert.ROprojIdeal.τ).loc Cert.ROprojIdeal.main_arg3) = m ((c.tc : Thread Cert.ROprojIdeal.nD Cert.ROprojIdeal.τ).loc Cert.ROprojIdeal.main_arg3)
      ∧ r.2.mem ((c.tc : Thread Cert.ROprojIdeal.nD Cert.ROprojIdeal.τ).loc Cert.ROprojIdeal.main_arg4) = m ((c.tc : Thread Cert.ROprojIdeal.nD Cert.ROprojIdeal.τ).loc Cert.ROprojIdeal.main_arg4))
      ∧ r.2.sem = fun _ => 0)

def preserves_KDown_KDownIdeal : Prop :=
  True

def algebraic_KDownIdeal_RDownIdeal_pre_scales_fit [hKDownIdeal : Cert.KDownIdeal.Facts] [hRDownIdeal : Cert.RDownIdeal.Facts] [hPre_scales_fit : Cert.Pre_scales_fit.Facts] : Prop :=
  ∀ (m : (ℓ : Loc Cert.KDownIdeal.nD Cert.KDownIdeal.τ Cert.KDownIdeal.sig) → Buf (Elt Ideal) ℓ) (g : Dev Cert.KDownIdeal.nD → PrngReg)
    (m' : (ℓ : Loc Cert.RDownIdeal.nD Cert.RDownIdeal.τ Cert.RDownIdeal.sig) → Buf (Elt Ideal) ℓ) (g' : Dev Cert.RDownIdeal.nD → PrngReg), Pre_KDownIdeal_scales_fit m →
    (∀ c : Dev Cert.KDownIdeal.nD,
      m' ((c.tc : Thread Cert.RDownIdeal.nD Cert.RDownIdeal.τ).loc Cert.RDownIdeal.main_arg0) = m ((c.tc : Thread Cert.KDownIdeal.nD Cert.KDownIdeal.τ).loc Cert.KDownIdeal.main_arg0)
      ∧ m' ((c.tc : Thread Cert.RDownIdeal.nD Cert.RDownIdeal.τ).loc Cert.RDownIdeal.main_arg1) = m ((c.tc : Thread Cert.KDownIdeal.nD Cert.KDownIdeal.τ).loc Cert.KDownIdeal.main_arg1)
      ∧ m' ((c.tc : Thread Cert.RDownIdeal.nD Cert.RDownIdeal.τ).loc Cert.RDownIdeal.main_arg2) = m ((c.tc : Thread Cert.KDownIdeal.nD Cert.KDownIdeal.τ).loc Cert.KDownIdeal.main_arg2)
      ∧ m' ((c.tc : Thread Cert.RDownIdeal.nD Cert.RDownIdeal.τ).loc Cert.RDownIdeal.main_arg3) = m ((c.tc : Thread Cert.KDownIdeal.nD Cert.KDownIdeal.τ).loc Cert.KDownIdeal.main_arg3)) →
    ∃ (v0 : (c : Dev Cert.KDownIdeal.nD) → Buf (Elt Ideal) ((c.tc : Thread Cert.KDownIdeal.nD Cert.KDownIdeal.τ).loc Cert.KDownIdeal.main_v0)),
      θ_run (Cert.KDownIdeal.defs (F := Ideal)) (onTc (τ := Cert.KDownIdeal.τ) (Cert.KDownIdeal.main (F := Ideal))) ⟨m, fun _ => 0, g⟩ (fun r => ∀ c : Dev Cert.KDownIdeal.nD,
          r.2.mem ((c.tc : Thread Cert.KDownIdeal.nD Cert.KDownIdeal.τ).loc Cert.KDownIdeal.main_v0) = v0 c
          ∧ r.2.mem ((c.tc : Thread Cert.KDownIdeal.nD Cert.KDownIdeal.τ).loc Cert.KDownIdeal.main_arg0) = m ((c.tc : Thread Cert.KDownIdeal.nD Cert.KDownIdeal.τ).loc Cert.KDownIdeal.main_arg0)
          ∧ r.2.mem ((c.tc : Thread Cert.KDownIdeal.nD Cert.KDownIdeal.τ).loc Cert.KDownIdeal.main_arg1) = m ((c.tc : Thread Cert.KDownIdeal.nD Cert.KDownIdeal.τ).loc Cert.KDownIdeal.main_arg1)
          ∧ r.2.mem ((c.tc : Thread Cert.KDownIdeal.nD Cert.KDownIdeal.τ).loc Cert.KDownIdeal.main_arg2) = m ((c.tc : Thread Cert.KDownIdeal.nD Cert.KDownIdeal.τ).loc Cert.KDownIdeal.main_arg2)
          ∧ r.2.mem ((c.tc : Thread Cert.KDownIdeal.nD Cert.KDownIdeal.τ).loc Cert.KDownIdeal.main_arg3) = m ((c.tc : Thread Cert.KDownIdeal.nD Cert.KDownIdeal.τ).loc Cert.KDownIdeal.main_arg3))
      ∧ θ_run (Cert.RDownIdeal.defs (F := Ideal)) (onTc (τ := Cert.RDownIdeal.τ) (Cert.RDownIdeal.main (F := Ideal))) ⟨m', fun _ => 0, g'⟩ (fun r => ∀ c : Dev Cert.RDownIdeal.nD,
          r.2.mem ((c.tc : Thread Cert.RDownIdeal.nD Cert.RDownIdeal.τ).loc Cert.RDownIdeal.main_v82) = v0 c
          ∧ r.2.mem ((c.tc : Thread Cert.RDownIdeal.nD Cert.RDownIdeal.τ).loc Cert.RDownIdeal.main_arg0) = m' ((c.tc : Thread Cert.RDownIdeal.nD Cert.RDownIdeal.τ).loc Cert.RDownIdeal.main_arg0)
          ∧ r.2.mem ((c.tc : Thread Cert.RDownIdeal.nD Cert.RDownIdeal.τ).loc Cert.RDownIdeal.main_arg1) = m' ((c.tc : Thread Cert.RDownIdeal.nD Cert.RDownIdeal.τ).loc Cert.RDownIdeal.main_arg1)
          ∧ r.2.mem ((c.tc : Thread Cert.RDownIdeal.nD Cert.RDownIdeal.τ).loc Cert.RDownIdeal.main_arg2) = m' ((c.tc : Thread Cert.RDownIdeal.nD Cert.RDownIdeal.τ).loc Cert.RDownIdeal.main_arg2)
          ∧ r.2.mem ((c.tc : Thread Cert.RDownIdeal.nD Cert.RDownIdeal.τ).loc Cert.RDownIdeal.main_arg3) = m' ((c.tc : Thread Cert.RDownIdeal.nD Cert.RDownIdeal.τ).loc Cert.RDownIdeal.main_arg3))

def preserves_KFfn_KFfnIdeal : Prop :=
  True

def algebraic_KFfnIdeal_RFfnIdeal_on_only_codes_pre_ffn_scales_fit [hKFfnIdeal : Cert.KFfnIdeal.Facts] [hRFfnIdeal : Cert.RFfnIdeal.Facts] [hPre_ffn_scales_fit : Cert.Pre_ffn_scales_fit.Facts] [hOn_only_codes : Cert.On_only_codes.Facts] : Prop :=
  ∀ (m : (ℓ : Loc Cert.KFfnIdeal.nD Cert.KFfnIdeal.τ Cert.KFfnIdeal.sig) → Buf (Elt Ideal) ℓ) (g : Dev Cert.KFfnIdeal.nD → PrngReg)
    (m' : (ℓ : Loc Cert.RFfnIdeal.nD Cert.RFfnIdeal.τ Cert.RFfnIdeal.sig) → Buf (Elt Ideal) ℓ) (g' : Dev Cert.RFfnIdeal.nD → PrngReg), Pre_KFfnIdeal_ffn_scales_fit m →
    (∀ c : Dev Cert.KFfnIdeal.nD,
      m' ((c.tc : Thread Cert.RFfnIdeal.nD Cert.RFfnIdeal.τ).loc Cert.RFfnIdeal.main_arg0) = m ((c.tc : Thread Cert.KFfnIdeal.nD Cert.KFfnIdeal.τ).loc Cert.KFfnIdeal.main_arg0)
      ∧ m' ((c.tc : Thread Cert.RFfnIdeal.nD Cert.RFfnIdeal.τ).loc Cert.RFfnIdeal.main_arg1) = m ((c.tc : Thread Cert.KFfnIdeal.nD Cert.KFfnIdeal.τ).loc Cert.KFfnIdeal.main_arg1)
      ∧ m' ((c.tc : Thread Cert.RFfnIdeal.nD Cert.RFfnIdeal.τ).loc Cert.RFfnIdeal.main_arg2) = m ((c.tc : Thread Cert.KFfnIdeal.nD Cert.KFfnIdeal.τ).loc Cert.KFfnIdeal.main_arg2)
      ∧ m' ((c.tc : Thread Cert.RFfnIdeal.nD Cert.RFfnIdeal.τ).loc Cert.RFfnIdeal.main_arg3) = m ((c.tc : Thread Cert.KFfnIdeal.nD Cert.KFfnIdeal.τ).loc Cert.KFfnIdeal.main_arg3)
      ∧ m' ((c.tc : Thread Cert.RFfnIdeal.nD Cert.RFfnIdeal.τ).loc Cert.RFfnIdeal.main_arg4) = m ((c.tc : Thread Cert.KFfnIdeal.nD Cert.KFfnIdeal.τ).loc Cert.KFfnIdeal.main_arg4)) →
    ∃ (v0 : (c : Dev Cert.KFfnIdeal.nD) → Buf (Elt Ideal) ((c.tc : Thread Cert.KFfnIdeal.nD Cert.KFfnIdeal.τ).loc Cert.KFfnIdeal.main_v0_0)) (v1 : (c : Dev Cert.KFfnIdeal.nD) → Buf (Elt Ideal) ((c.tc : Thread Cert.KFfnIdeal.nD Cert.KFfnIdeal.τ).loc Cert.KFfnIdeal.main_v0_1)) (v2 : (c : Dev Cert.KFfnIdeal.nD) → Buf (Elt Ideal) ((c.tc : Thread Cert.KFfnIdeal.nD Cert.KFfnIdeal.τ).loc Cert.KFfnIdeal.main_v0_2)),
      θ_run (Cert.KFfnIdeal.defs (F := Ideal)) (onTc (τ := Cert.KFfnIdeal.τ) (Cert.KFfnIdeal.main (F := Ideal))) ⟨m, fun _ => 0, g⟩ (fun r => ∀ c : Dev Cert.KFfnIdeal.nD,
          (∀ i : (⟨2, ![2048, 9216]⟩ : Shape).Idx, (Cert.On_only_codes.fn (F := Ideal) (m ((c.tc : Thread Cert.KFfnIdeal.nD Cert.KFfnIdeal.τ).loc Cert.KFfnIdeal.main_arg0)) (m ((c.tc : Thread Cert.KFfnIdeal.nD Cert.KFfnIdeal.τ).loc Cert.KFfnIdeal.main_arg1)) (m ((c.tc : Thread Cert.KFfnIdeal.nD Cert.KFfnIdeal.τ).loc Cert.KFfnIdeal.main_arg2)) (m ((c.tc : Thread Cert.KFfnIdeal.nD Cert.KFfnIdeal.τ).loc Cert.KFfnIdeal.main_arg3)) (m ((c.tc : Thread Cert.KFfnIdeal.nD Cert.KFfnIdeal.τ).loc Cert.KFfnIdeal.main_arg4))).1 i = 1#1 → r.2.mem ((c.tc : Thread Cert.KFfnIdeal.nD Cert.KFfnIdeal.τ).loc Cert.KFfnIdeal.main_v0_0) i = v0 c i)
          ∧ (∀ i : (⟨2, ![2048, 288]⟩ : Shape).Idx, (Cert.On_only_codes.fn (F := Ideal) (m ((c.tc : Thread Cert.KFfnIdeal.nD Cert.KFfnIdeal.τ).loc Cert.KFfnIdeal.main_arg0)) (m ((c.tc : Thread Cert.KFfnIdeal.nD Cert.KFfnIdeal.τ).loc Cert.KFfnIdeal.main_arg1)) (m ((c.tc : Thread Cert.KFfnIdeal.nD Cert.KFfnIdeal.τ).loc Cert.KFfnIdeal.main_arg2)) (m ((c.tc : Thread Cert.KFfnIdeal.nD Cert.KFfnIdeal.τ).loc Cert.KFfnIdeal.main_arg3)) (m ((c.tc : Thread Cert.KFfnIdeal.nD Cert.KFfnIdeal.τ).loc Cert.KFfnIdeal.main_arg4))).2.1 i = 1#1 → r.2.mem ((c.tc : Thread Cert.KFfnIdeal.nD Cert.KFfnIdeal.τ).loc Cert.KFfnIdeal.main_v0_1) i = v1 c i)
          ∧ (∀ i : (⟨2, ![2048, 9216]⟩ : Shape).Idx, (Cert.On_only_codes.fn (F := Ideal) (m ((c.tc : Thread Cert.KFfnIdeal.nD Cert.KFfnIdeal.τ).loc Cert.KFfnIdeal.main_arg0)) (m ((c.tc : Thread Cert.KFfnIdeal.nD Cert.KFfnIdeal.τ).loc Cert.KFfnIdeal.main_arg1)) (m ((c.tc : Thread Cert.KFfnIdeal.nD Cert.KFfnIdeal.τ).loc Cert.KFfnIdeal.main_arg2)) (m ((c.tc : Thread Cert.KFfnIdeal.nD Cert.KFfnIdeal.τ).loc Cert.KFfnIdeal.main_arg3)) (m ((c.tc : Thread Cert.KFfnIdeal.nD Cert.KFfnIdeal.τ).loc Cert.KFfnIdeal.main_arg4))).2.2 i = 1#1 → r.2.mem ((c.tc : Thread Cert.KFfnIdeal.nD Cert.KFfnIdeal.τ).loc Cert.KFfnIdeal.main_v0_2) i = v2 c i)
          ∧ r.2.mem ((c.tc : Thread Cert.KFfnIdeal.nD Cert.KFfnIdeal.τ).loc Cert.KFfnIdeal.main_arg0) = m ((c.tc : Thread Cert.KFfnIdeal.nD Cert.KFfnIdeal.τ).loc Cert.KFfnIdeal.main_arg0)
          ∧ r.2.mem ((c.tc : Thread Cert.KFfnIdeal.nD Cert.KFfnIdeal.τ).loc Cert.KFfnIdeal.main_arg1) = m ((c.tc : Thread Cert.KFfnIdeal.nD Cert.KFfnIdeal.τ).loc Cert.KFfnIdeal.main_arg1)
          ∧ r.2.mem ((c.tc : Thread Cert.KFfnIdeal.nD Cert.KFfnIdeal.τ).loc Cert.KFfnIdeal.main_arg2) = m ((c.tc : Thread Cert.KFfnIdeal.nD Cert.KFfnIdeal.τ).loc Cert.KFfnIdeal.main_arg2)
          ∧ r.2.mem ((c.tc : Thread Cert.KFfnIdeal.nD Cert.KFfnIdeal.τ).loc Cert.KFfnIdeal.main_arg3) = m ((c.tc : Thread Cert.KFfnIdeal.nD Cert.KFfnIdeal.τ).loc Cert.KFfnIdeal.main_arg3)
          ∧ r.2.mem ((c.tc : Thread Cert.KFfnIdeal.nD Cert.KFfnIdeal.τ).loc Cert.KFfnIdeal.main_arg4) = m ((c.tc : Thread Cert.KFfnIdeal.nD Cert.KFfnIdeal.τ).loc Cert.KFfnIdeal.main_arg4))
      ∧ θ_run (Cert.RFfnIdeal.defs (F := Ideal)) (onTc (τ := Cert.RFfnIdeal.τ) (Cert.RFfnIdeal.main (F := Ideal))) ⟨m', fun _ => 0, g'⟩ (fun r => ∀ c : Dev Cert.RFfnIdeal.nD,
          (∀ i : (⟨2, ![2048, 9216]⟩ : Shape).Idx, (Cert.On_only_codes.fn (F := Ideal) (m ((c.tc : Thread Cert.KFfnIdeal.nD Cert.KFfnIdeal.τ).loc Cert.KFfnIdeal.main_arg0)) (m ((c.tc : Thread Cert.KFfnIdeal.nD Cert.KFfnIdeal.τ).loc Cert.KFfnIdeal.main_arg1)) (m ((c.tc : Thread Cert.KFfnIdeal.nD Cert.KFfnIdeal.τ).loc Cert.KFfnIdeal.main_arg2)) (m ((c.tc : Thread Cert.KFfnIdeal.nD Cert.KFfnIdeal.τ).loc Cert.KFfnIdeal.main_arg3)) (m ((c.tc : Thread Cert.KFfnIdeal.nD Cert.KFfnIdeal.τ).loc Cert.KFfnIdeal.main_arg4))).1 i = 1#1 → r.2.mem ((c.tc : Thread Cert.RFfnIdeal.nD Cert.RFfnIdeal.τ).loc Cert.RFfnIdeal.main_v204_0) i = v0 c i)
          ∧ (∀ i : (⟨2, ![2048, 288]⟩ : Shape).Idx, (Cert.On_only_codes.fn (F := Ideal) (m ((c.tc : Thread Cert.KFfnIdeal.nD Cert.KFfnIdeal.τ).loc Cert.KFfnIdeal.main_arg0)) (m ((c.tc : Thread Cert.KFfnIdeal.nD Cert.KFfnIdeal.τ).loc Cert.KFfnIdeal.main_arg1)) (m ((c.tc : Thread Cert.KFfnIdeal.nD Cert.KFfnIdeal.τ).loc Cert.KFfnIdeal.main_arg2)) (m ((c.tc : Thread Cert.KFfnIdeal.nD Cert.KFfnIdeal.τ).loc Cert.KFfnIdeal.main_arg3)) (m ((c.tc : Thread Cert.KFfnIdeal.nD Cert.KFfnIdeal.τ).loc Cert.KFfnIdeal.main_arg4))).2.1 i = 1#1 → r.2.mem ((c.tc : Thread Cert.RFfnIdeal.nD Cert.RFfnIdeal.τ).loc Cert.RFfnIdeal.main_v204_1) i = v1 c i)
          ∧ (∀ i : (⟨2, ![2048, 9216]⟩ : Shape).Idx, (Cert.On_only_codes.fn (F := Ideal) (m ((c.tc : Thread Cert.KFfnIdeal.nD Cert.KFfnIdeal.τ).loc Cert.KFfnIdeal.main_arg0)) (m ((c.tc : Thread Cert.KFfnIdeal.nD Cert.KFfnIdeal.τ).loc Cert.KFfnIdeal.main_arg1)) (m ((c.tc : Thread Cert.KFfnIdeal.nD Cert.KFfnIdeal.τ).loc Cert.KFfnIdeal.main_arg2)) (m ((c.tc : Thread Cert.KFfnIdeal.nD Cert.KFfnIdeal.τ).loc Cert.KFfnIdeal.main_arg3)) (m ((c.tc : Thread Cert.KFfnIdeal.nD Cert.KFfnIdeal.τ).loc Cert.KFfnIdeal.main_arg4))).2.2 i = 1#1 → r.2.mem ((c.tc : Thread Cert.RFfnIdeal.nD Cert.RFfnIdeal.τ).loc Cert.RFfnIdeal.main_v204_2) i = v2 c i)
          ∧ r.2.mem ((c.tc : Thread Cert.RFfnIdeal.nD Cert.RFfnIdeal.τ).loc Cert.RFfnIdeal.main_arg0) = m' ((c.tc : Thread Cert.RFfnIdeal.nD Cert.RFfnIdeal.τ).loc Cert.RFfnIdeal.main_arg0)
          ∧ r.2.mem ((c.tc : Thread Cert.RFfnIdeal.nD Cert.RFfnIdeal.τ).loc Cert.RFfnIdeal.main_arg1) = m' ((c.tc : Thread Cert.RFfnIdeal.nD Cert.RFfnIdeal.τ).loc Cert.RFfnIdeal.main_arg1)
          ∧ r.2.mem ((c.tc : Thread Cert.RFfnIdeal.nD Cert.RFfnIdeal.τ).loc Cert.RFfnIdeal.main_arg2) = m' ((c.tc : Thread Cert.RFfnIdeal.nD Cert.RFfnIdeal.τ).loc Cert.RFfnIdeal.main_arg2)
          ∧ r.2.mem ((c.tc : Thread Cert.RFfnIdeal.nD Cert.RFfnIdeal.τ).loc Cert.RFfnIdeal.main_arg3) = m' ((c.tc : Thread Cert.RFfnIdeal.nD Cert.RFfnIdeal.τ).loc Cert.RFfnIdeal.main_arg3)
          ∧ r.2.mem ((c.tc : Thread Cert.RFfnIdeal.nD Cert.RFfnIdeal.τ).loc Cert.RFfnIdeal.main_arg4) = m' ((c.tc : Thread Cert.RFfnIdeal.nD Cert.RFfnIdeal.τ).loc Cert.RFfnIdeal.main_arg4))

def preserves_KOproj_KOprojIdeal : Prop :=
  IdealRules.bf16_pair.Statement Cert.KOprojIdeal.S64x128 Cert.KOprojIdeal.S32x128

def algebraic_KOprojIdeal_ROprojIdeal_pre_o_scales_fit [hKOprojIdeal : Cert.KOprojIdeal.Facts] [hROprojIdeal : Cert.ROprojIdeal.Facts] [hPre_o_scales_fit : Cert.Pre_o_scales_fit.Facts] : Prop :=
  ∀ (m : (ℓ : Loc Cert.KOprojIdeal.nD Cert.KOprojIdeal.τ Cert.KOprojIdeal.sig) → Buf (Elt Ideal) ℓ) (g : Dev Cert.KOprojIdeal.nD → PrngReg)
    (m' : (ℓ : Loc Cert.ROprojIdeal.nD Cert.ROprojIdeal.τ Cert.ROprojIdeal.sig) → Buf (Elt Ideal) ℓ) (g' : Dev Cert.ROprojIdeal.nD → PrngReg), Pre_KOprojIdeal_o_scales_fit m →
    (∀ c : Dev Cert.KOprojIdeal.nD,
      m' ((c.tc : Thread Cert.ROprojIdeal.nD Cert.ROprojIdeal.τ).loc Cert.ROprojIdeal.main_arg0) = m ((c.tc : Thread Cert.KOprojIdeal.nD Cert.KOprojIdeal.τ).loc Cert.KOprojIdeal.main_arg0)
      ∧ m' ((c.tc : Thread Cert.ROprojIdeal.nD Cert.ROprojIdeal.τ).loc Cert.ROprojIdeal.main_arg1) = m ((c.tc : Thread Cert.KOprojIdeal.nD Cert.KOprojIdeal.τ).loc Cert.KOprojIdeal.main_arg1)
      ∧ m' ((c.tc : Thread Cert.ROprojIdeal.nD Cert.ROprojIdeal.τ).loc Cert.ROprojIdeal.main_arg2) = m ((c.tc : Thread Cert.KOprojIdeal.nD Cert.KOprojIdeal.τ).loc Cert.KOprojIdeal.main_arg2)
      ∧ m' ((c.tc : Thread Cert.ROprojIdeal.nD Cert.ROprojIdeal.τ).loc Cert.ROprojIdeal.main_arg3) = m ((c.tc : Thread Cert.KOprojIdeal.nD Cert.KOprojIdeal.τ).loc Cert.KOprojIdeal.main_arg3)
      ∧ m' ((c.tc : Thread Cert.ROprojIdeal.nD Cert.ROprojIdeal.τ).loc Cert.ROprojIdeal.main_arg4) = m ((c.tc : Thread Cert.KOprojIdeal.nD Cert.KOprojIdeal.τ).loc Cert.KOprojIdeal.main_arg4)) →
    ∃ (v0 : (c : Dev Cert.KOprojIdeal.nD) → Buf (Elt Ideal) ((c.tc : Thread Cert.KOprojIdeal.nD Cert.KOprojIdeal.τ).loc Cert.KOprojIdeal.main_v0_0)),
      θ_run (Cert.KOprojIdeal.defs (F := Ideal)) (onTc (τ := Cert.KOprojIdeal.τ) (Cert.KOprojIdeal.main (F := Ideal))) ⟨m, fun _ => 0, g⟩ (fun r => ∀ c : Dev Cert.KOprojIdeal.nD,
          r.2.mem ((c.tc : Thread Cert.KOprojIdeal.nD Cert.KOprojIdeal.τ).loc Cert.KOprojIdeal.main_v0_0) = v0 c
          ∧ r.2.mem ((c.tc : Thread Cert.KOprojIdeal.nD Cert.KOprojIdeal.τ).loc Cert.KOprojIdeal.main_arg0) = m ((c.tc : Thread Cert.KOprojIdeal.nD Cert.KOprojIdeal.τ).loc Cert.KOprojIdeal.main_arg0)
          ∧ r.2.mem ((c.tc : Thread Cert.KOprojIdeal.nD Cert.KOprojIdeal.τ).loc Cert.KOprojIdeal.main_arg1) = m ((c.tc : Thread Cert.KOprojIdeal.nD Cert.KOprojIdeal.τ).loc Cert.KOprojIdeal.main_arg1)
          ∧ r.2.mem ((c.tc : Thread Cert.KOprojIdeal.nD Cert.KOprojIdeal.τ).loc Cert.KOprojIdeal.main_arg2) = m ((c.tc : Thread Cert.KOprojIdeal.nD Cert.KOprojIdeal.τ).loc Cert.KOprojIdeal.main_arg2)
          ∧ r.2.mem ((c.tc : Thread Cert.KOprojIdeal.nD Cert.KOprojIdeal.τ).loc Cert.KOprojIdeal.main_arg3) = m ((c.tc : Thread Cert.KOprojIdeal.nD Cert.KOprojIdeal.τ).loc Cert.KOprojIdeal.main_arg3)
          ∧ r.2.mem ((c.tc : Thread Cert.KOprojIdeal.nD Cert.KOprojIdeal.τ).loc Cert.KOprojIdeal.main_arg4) = m ((c.tc : Thread Cert.KOprojIdeal.nD Cert.KOprojIdeal.τ).loc Cert.KOprojIdeal.main_arg4))
      ∧ θ_run (Cert.ROprojIdeal.defs (F := Ideal)) (onTc (τ := Cert.ROprojIdeal.τ) (Cert.ROprojIdeal.main (F := Ideal))) ⟨m', fun _ => 0, g'⟩ (fun r => ∀ c : Dev Cert.ROprojIdeal.nD,
          r.2.mem ((c.tc : Thread Cert.ROprojIdeal.nD Cert.ROprojIdeal.τ).loc Cert.ROprojIdeal.main_v82) = v0 c
          ∧ r.2.mem ((c.tc : Thread Cert.ROprojIdeal.nD Cert.ROprojIdeal.τ).loc Cert.ROprojIdeal.main_arg0) = m' ((c.tc : Thread Cert.ROprojIdeal.nD Cert.ROprojIdeal.τ).loc Cert.ROprojIdeal.main_arg0)
          ∧ r.2.mem ((c.tc : Thread Cert.ROprojIdeal.nD Cert.ROprojIdeal.τ).loc Cert.ROprojIdeal.main_arg1) = m' ((c.tc : Thread Cert.ROprojIdeal.nD Cert.ROprojIdeal.τ).loc Cert.ROprojIdeal.main_arg1)
          ∧ r.2.mem ((c.tc : Thread Cert.ROprojIdeal.nD Cert.ROprojIdeal.τ).loc Cert.ROprojIdeal.main_arg2) = m' ((c.tc : Thread Cert.ROprojIdeal.nD Cert.ROprojIdeal.τ).loc Cert.ROprojIdeal.main_arg2)
          ∧ r.2.mem ((c.tc : Thread Cert.ROprojIdeal.nD Cert.ROprojIdeal.τ).loc Cert.ROprojIdeal.main_arg3) = m' ((c.tc : Thread Cert.ROprojIdeal.nD Cert.ROprojIdeal.τ).loc Cert.ROprojIdeal.main_arg3)
          ∧ r.2.mem ((c.tc : Thread Cert.ROprojIdeal.nD Cert.ROprojIdeal.τ).loc Cert.ROprojIdeal.main_arg4) = m' ((c.tc : Thread Cert.ROprojIdeal.nD Cert.ROprojIdeal.τ).loc Cert.ROprojIdeal.main_arg4))

def Claim : Prop :=
  ∃ (hKDown : Cert.KDown.Facts) (hKDownIdeal : Cert.KDownIdeal.Facts) (hRDownIdeal : Cert.RDownIdeal.Facts) (hKFfn : Cert.KFfn.Facts) (hKFfnIdeal : Cert.KFfnIdeal.Facts) (hRFfnIdeal : Cert.RFfnIdeal.Facts) (hRFfnExactIdeal : Cert.RFfnExactIdeal.Facts) (hKOproj : Cert.KOproj.Facts) (hKOprojIdeal : Cert.KOprojIdeal.Facts) (hROprojIdeal : Cert.ROprojIdeal.Facts) (hPre_scales_fit : Cert.Pre_scales_fit.Facts) (hPre_ffn_scales_fit : Cert.Pre_ffn_scales_fit.Facts) (hPre_o_scales_fit : Cert.Pre_o_scales_fit.Facts) (hOn_only_codes : Cert.On_only_codes.Facts),
    quiescent_KDown (hKDown := hKDown)
    ∧ quiescent_KDownIdeal (hKDownIdeal := hKDownIdeal)
    ∧ quiescent_KDownIdeal_pre_scales_fit (hKDownIdeal := hKDownIdeal) (hPre_scales_fit := hPre_scales_fit)
    ∧ quiescent_RDownIdeal (hRDownIdeal := hRDownIdeal)
    ∧ quiescent_RDownIdeal_pre_scales_fit (hRDownIdeal := hRDownIdeal) (hPre_scales_fit := hPre_scales_fit)
    ∧ quiescent_KFfn (hKFfn := hKFfn)
    ∧ quiescent_KFfnIdeal (hKFfnIdeal := hKFfnIdeal)
    ∧ quiescent_KFfnIdeal_pre_ffn_scales_fit (hKFfnIdeal := hKFfnIdeal) (hPre_ffn_scales_fit := hPre_ffn_scales_fit)
    ∧ quiescent_RFfnIdeal (hRFfnIdeal := hRFfnIdeal)
    ∧ quiescent_RFfnIdeal_pre_ffn_scales_fit (hRFfnIdeal := hRFfnIdeal) (hPre_ffn_scales_fit := hPre_ffn_scales_fit)
    ∧ quiescent_RFfnExactIdeal (hRFfnExactIdeal := hRFfnExactIdeal)
    ∧ quiescent_KOproj (hKOproj := hKOproj)
    ∧ quiescent_KOprojIdeal (hKOprojIdeal := hKOprojIdeal)
    ∧ quiescent_KOprojIdeal_pre_o_scales_fit (hKOprojIdeal := hKOprojIdeal) (hPre_o_scales_fit := hPre_o_scales_fit)
    ∧ quiescent_ROprojIdeal (hROprojIdeal := hROprojIdeal)
    ∧ quiescent_ROprojIdeal_pre_o_scales_fit (hROprojIdeal := hROprojIdeal) (hPre_o_scales_fit := hPre_o_scales_fit)
    ∧ preserves_KDown_KDownIdeal
    ∧ algebraic_KDownIdeal_RDownIdeal_pre_scales_fit (hKDownIdeal := hKDownIdeal) (hRDownIdeal := hRDownIdeal) (hPre_scales_fit := hPre_scales_fit)
    ∧ preserves_KFfn_KFfnIdeal
    ∧ algebraic_KFfnIdeal_RFfnIdeal_on_only_codes_pre_ffn_scales_fit (hKFfnIdeal := hKFfnIdeal) (hRFfnIdeal := hRFfnIdeal) (hPre_ffn_scales_fit := hPre_ffn_scales_fit) (hOn_only_codes := hOn_only_codes)
    ∧ preserves_KOproj_KOprojIdeal
    ∧ algebraic_KOprojIdeal_ROprojIdeal_pre_o_scales_fit (hKOprojIdeal := hKOprojIdeal) (hROprojIdeal := hROprojIdeal) (hPre_o_scales_fit := hPre_o_scales_fit)
-- ==== On_only_codes.lean ====
abbrev S2048x2304 : Shape := ⟨2, ![2048, 2304]⟩
abbrev S9216x1152 : Shape := ⟨2, ![9216, 1152]⟩
abbrev S9216x72 : Shape := ⟨2, ![9216, 72]⟩
abbrev S_ : Shape := ⟨0, ![]⟩
abbrev S2048x9216 : Shape := ⟨2, ![2048, 9216]⟩
abbrev S2048x288 : Shape := ⟨2, ![2048, 288]⟩

class Facts : Prop where
  bcast_S_S2048x9216 : S_.BroadcastsInDim S2048x9216 (![] : Fin 0 → Fin S2048x9216.rank)
  bcast_S_S2048x288 : S_.BroadcastsInDim S2048x288 (![] : Fin 0 → Fin S2048x288.rank)

variable [Facts]

def fn {F : FTy → Type} [FloatOps F] (main_arg0 : FVec F S2048x2304 .bf16) (main_arg1 : IVec S9216x1152 8) (main_arg2 : IVec S9216x72 8) (main_arg3 : IVec S9216x1152 8) (main_arg4 : IVec S9216x72 8) : IVec S2048x9216 1 × IVec S2048x288 1 × IVec S2048x9216 1 :=
  let main_c : IVec S_ 1 := constantI S_ 1 1#1
  let main_v0 : IVec S2048x9216 1 := broadcastInDim S2048x9216 ![] bcast_S_S2048x9216 main_c
  let main_c_0 : IVec S_ 1 := constantI S_ 1 0#1
  let main_v1 : IVec S2048x288 1 := broadcastInDim S2048x288 ![] bcast_S_S2048x288 main_c_0
  let main_c_1 : IVec S_ 1 := constantI S_ 1 0#1
  let main_v2 : IVec S2048x9216 1 := broadcastInDim S2048x9216 ![] bcast_S_S2048x9216 main_c_1
  (main_v0, main_v1, main_v2)
-- ==== Pre_ffn_scales_fit.lean ====
abbrev S2048x2304 : Shape := ⟨2, ![2048, 2304]⟩
abbrev S9216x1152 : Shape := ⟨2, ![9216, 1152]⟩
abbrev S9216x72 : Shape := ⟨2, ![9216, 72]⟩
abbrev S_ : Shape := ⟨0, ![]⟩

class Facts : Prop where
  natLt_8_32 : 8 < 32
  bcast_S_S9216x72 : S_.BroadcastsInDim S9216x72 (![] : Fin 0 → Fin S9216x72.rank)

variable [Facts]

def fn {F : FTy → Type} [FloatOps F] (main_arg0 : FVec F S2048x2304 .bf16) (main_arg1 : IVec S9216x1152 8) (main_arg2 : IVec S9216x72 8) (main_arg3 : IVec S9216x1152 8) (main_arg4 : IVec S9216x72 8) : IVec S9216x72 1 :=
  let main_v0 : IVec S9216x72 32 := (extui 32 · natLt_8_32) main_arg2
  let main_c : IVec S_ 32 := constantI S_ 32 248#32
  let main_v1 : IVec S9216x72 32 := broadcastInDim S9216x72 ![] bcast_S_S9216x72 main_c
  let main_v2 : IVec S9216x72 1 := cmpi .sle main_v0 main_v1
  let main_v3 : IVec S9216x72 32 := (extui 32 · natLt_8_32) main_arg4
  let main_c_0 : IVec S_ 32 := constantI S_ 32 248#32
  let main_v4 : IVec S9216x72 32 := broadcastInDim S9216x72 ![] bcast_S_S9216x72 main_c_0
  let main_v5 : IVec S9216x72 1 := cmpi .sle main_v3 main_v4
  let main_v6 : IVec S9216x72 1 := andi main_v2 main_v5
  main_v6
-- ==== Pre_o_scales_fit.lean ====
abbrev S2048x2560 : Shape := ⟨2, ![2048, 2560]⟩
abbrev S2048x2304 : Shape := ⟨2, ![2048, 2304]⟩
abbrev S1x2304 : Shape := ⟨2, ![1, 2304]⟩
abbrev S2304x1280 : Shape := ⟨2, ![2304, 1280]⟩
abbrev S2304x80 : Shape := ⟨2, ![2304, 80]⟩
abbrev S_ : Shape := ⟨0, ![]⟩

class Facts : Prop where
  natLt_8_32 : 8 < 32
  bcast_S_S2304x80 : S_.BroadcastsInDim S2304x80 (![] : Fin 0 → Fin S2304x80.rank)

variable [Facts]

def fn {F : FTy → Type} [FloatOps F] (main_arg0 : FVec F S2048x2560 .bf16) (main_arg1 : FVec F S2048x2304 .bf16) (main_arg2 : FVec F S1x2304 .f32) (main_arg3 : IVec S2304x1280 8) (main_arg4 : IVec S2304x80 8) : IVec S2304x80 1 :=
  let main_v0 : IVec S2304x80 32 := (extui 32 · natLt_8_32) main_arg4
  let main_c : IVec S_ 32 := constantI S_ 32 248#32
  let main_v1 : IVec S2304x80 32 := broadcastInDim S2304x80 ![] bcast_S_S2304x80 main_c
  let main_v2 : IVec S2304x80 1 := cmpi .sle main_v0 main_v1
  main_v2
-- ==== Pre_scales_fit.lean ====
abbrev S2048x9216 : Shape := ⟨2, ![2048, 9216]⟩
abbrev S2048x2304 : Shape := ⟨2, ![2048, 2304]⟩
abbrev S2304x4608 : Shape := ⟨2, ![2304, 4608]⟩
abbrev S2304x288 : Shape := ⟨2, ![2304, 288]⟩
abbrev S_ : Shape := ⟨0, ![]⟩

class Facts : Prop where
  natLt_8_32 : 8 < 32
  bcast_S_S2304x288 : S_.BroadcastsInDim S2304x288 (![] : Fin 0 → Fin S2304x288.rank)

variable [Facts]

def fn {F : FTy → Type} [FloatOps F] (main_arg0 : FVec F S2048x9216 .bf16) (main_arg1 : FVec F S2048x2304 .f32) (main_arg2 : IVec S2304x4608 8) (main_arg3 : IVec S2304x288 8) : IVec S2304x288 1 :=
  let main_v0 : IVec S2304x288 32 := (extui 32 · natLt_8_32) main_arg3
  let main_c : IVec S_ 32 := constantI S_ 32 248#32
  let main_v1 : IVec S2304x288 32 := broadcastInDim S2304x288 ![] bcast_S_S2304x288 main_c
  let main_v2 : IVec S2304x288 1 := cmpi .sle main_v0 main_v1
  main_v2
-- ==== KDown.lean ====
abbrev S2048x9216 : Shape := ⟨2, ![2048, 9216]⟩
abbrev S2048x2304 : Shape := ⟨2, ![2048, 2304]⟩
abbrev S2304x4608 : Shape := ⟨2, ![2304, 4608]⟩
abbrev S2304x288 : Shape := ⟨2, ![2304, 288]⟩
abbrev S2048x256 : Shape := ⟨2, ![2048, 256]⟩
abbrev S256x4608 : Shape := ⟨2, ![256, 4608]⟩
abbrev S256x288 : Shape := ⟨2, ![256, 288]⟩
abbrev S256x9216 : Shape := ⟨2, ![256, 9216]⟩
abbrev S64x288 : Shape := ⟨2, ![64, 288]⟩
abbrev S64x96 : Shape := ⟨2, ![64, 96]⟩
abbrev S64x384 : Shape := ⟨2, ![64, 384]⟩
abbrev S64x128 : Shape := ⟨2, ![64, 128]⟩
abbrev S64x128x1 : Shape := ⟨3, ![64, 128, 1]⟩
abbrev S16x128 : Shape := ⟨2, ![16, 128]⟩
abbrev S512x256 : Shape := ⟨2, ![512, 256]⟩
abbrev S512x9216 : Shape := ⟨2, ![512, 9216]⟩

abbrev nBuf : Space → Nat
  | .hbm => 5
  | .vmem => 10
  | .smem => 0
  | _ => 0

abbrev bufTy : (tb : Table) → Fin (tcTables nBuf tb) → BufTy
  | .hbm, ⟨0, _⟩ => ⟨S2048x9216, .bf16⟩
  | .hbm, ⟨1, _⟩ => ⟨S2048x2304, .f32⟩
  | .hbm, ⟨2, _⟩ => ⟨S2304x4608, .i8⟩
  | .hbm, ⟨3, _⟩ => ⟨S2304x288, .i8⟩
  | .hbm, ⟨4, _⟩ => ⟨S2048x2304, .bf16⟩
  | .local _ .vmem, ⟨0, _⟩ => ⟨S2048x9216, .bf16⟩
  | .local _ .vmem, ⟨1, _⟩ => ⟨S2048x256, .f32⟩
  | .local _ .vmem, ⟨2, _⟩ => ⟨S2048x256, .f32⟩
  | .local _ .vmem, ⟨3, _⟩ => ⟨S256x4608, .i8⟩
  | .local _ .vmem, ⟨4, _⟩ => ⟨S256x4608, .i8⟩
  | .local _ .vmem, ⟨5, _⟩ => ⟨S256x288, .i8⟩
  | .local _ .vmem, ⟨6, _⟩ => ⟨S256x288, .i8⟩
  | .local _ .vmem, ⟨7, _⟩ => ⟨S2048x256, .bf16⟩
  | .local _ .vmem, ⟨8, _⟩ => ⟨S2048x256, .bf16⟩
  | .local _ .vmem, ⟨9, _⟩ => ⟨S256x9216, .bf16⟩
  | _, _ => ⟨S2048x9216, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![9], ![false]⟩

@[reducible] def k0_t1_loop : Scf.Loop 32 :=
  let c0_i32 : BitVec 32 := 0#32
  let c4_i32 : BitVec 32 := 4#32
  let v0 : BitVec 32 := Scalar.addi c0_i32 c4_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg7 : BitVec 32 := Scf.iv c0_i32 c1_i32 k0_t1
  let c64_i32 : BitVec 32 := 64#32
  let v29 : BitVec 32 := Scalar.muli arg7 c64_i32
  v29
def k0_off1 (k0_t1 : Fin k0_t1_loop.trips) : Fin 2 → Nat :=
  let c0_i32 : BitVec 32 := 0#32
  let c1_i32 : BitVec 32 := 1#32
  let arg7 : BitVec 32 := Scf.iv c0_i32 c1_i32 k0_t1
  let c64_i32 : BitVec 32 := 64#32
  let v29 : BitVec 32 := Scalar.muli arg7 c64_i32
  let v30 : BitVec 32 := v29
  let v31 : Index := Scalar.indexCast v30
  let c0_32 : Index := 0#32
  ![v31.toNat, 0]
def k0_off2 (k0_t1 : Fin k0_t1_loop.trips) : Fin 2 → Nat :=
  let c0_i32 : BitVec 32 := 0#32
  let c1_i32 : BitVec 32 := 1#32
  let arg7 : BitVec 32 := Scf.iv c0_i32 c1_i32 k0_t1
  let c64_i32 : BitVec 32 := 64#32
  let v29 : BitVec 32 := Scalar.muli arg7 c64_i32
  let v30 : BitVec 32 := v29
  let v58 : Index := Scalar.indexCast v30
  let c0_37 : Index := 0#32
  ![v58.toNat, 0]
def k0_off3 (k0_t1 : Fin k0_t1_loop.trips) : Fin 2 → Nat :=
  let c0_i32 : BitVec 32 := 0#32
  let c1_i32 : BitVec 32 := 1#32
  let arg7 : BitVec 32 := Scf.iv c0_i32 c1_i32 k0_t1
  let c64_i32 : BitVec 32 := 64#32
  let v29 : BitVec 32 := Scalar.muli arg7 c64_i32
  let v30 : BitVec 32 := v29
  let v80 : Index := Scalar.indexCast v30
  let c0_40 : Index := 0#32
  ![v80.toNat, 0]
def k0_off4 (k0_t1 : Fin k0_t1_loop.trips) : Fin 2 → Nat :=
  let c0_i32 : BitVec 32 := 0#32
  let c1_i32 : BitVec 32 := 1#32
  let arg7 : BitVec 32 := Scf.iv c0_i32 c1_i32 k0_t1
  let c64_i32 : BitVec 32 := 64#32
  let v29 : BitVec 32 := Scalar.muli arg7 c64_i32
  let v30 : BitVec 32 := v29
  let v87 : Index := Scalar.indexCast v30
  let c128 : Index := 128#32
  ![v87.toNat, 128]
def k0_off5 (k0_t1 : Fin k0_t1_loop.trips) : Fin 2 → Nat :=
  let c0_i32 : BitVec 32 := 0#32
  let c1_i32 : BitVec 32 := 1#32
  let arg7 : BitVec 32 := Scf.iv c0_i32 c1_i32 k0_t1
  let c64_i32 : BitVec 32 := 64#32
  let v29 : BitVec 32 := Scalar.muli arg7 c64_i32
  let v30 : BitVec 32 := v29
  let v106 : Index := Scalar.indexCast v30
  let c128_44 : Index := 128#32
  ![v106.toNat, 128]
def k0_off6 (k0_t1 : Fin k0_t1_loop.trips) : Fin 2 → Nat :=
  let c0_i32 : BitVec 32 := 0#32
  let c1_i32 : BitVec 32 := 1#32
  let arg7 : BitVec 32 := Scf.iv c0_i32 c1_i32 k0_t1
  let c64_i32 : BitVec 32 := 64#32
  let v29 : BitVec 32 := Scalar.muli arg7 c64_i32
  let v30 : BitVec 32 := v29
  let v128 : Index := Scalar.indexCast v30
  let c256 : Index := 256#32
  ![v128.toNat, 256]
def k0_off7 (k0_t1 : Fin k0_t1_loop.trips) : Fin 2 → Nat :=
  let c0_i32 : BitVec 32 := 0#32
  let c1_i32 : BitVec 32 := 1#32
  let arg7 : BitVec 32 := Scf.iv c0_i32 c1_i32 k0_t1
  let c64_i32 : BitVec 32 := 64#32
  let v29 : BitVec 32 := Scalar.muli arg7 c64_i32
  let v30 : BitVec 32 := v29
  let v135 : Index := Scalar.indexCast v30
  let c384 : Index := 384#32
  ![v135.toNat, 384]
def k0_off8 (k0_t1 : Fin k0_t1_loop.trips) : Fin 2 → Nat :=
  let c0_i32 : BitVec 32 := 0#32
  let c1_i32 : BitVec 32 := 1#32
  let arg7 : BitVec 32 := Scf.iv c0_i32 c1_i32 k0_t1
  let c64_i32 : BitVec 32 := 64#32
  let v29 : BitVec 32 := Scalar.muli arg7 c64_i32
  let v30 : BitVec 32 := v29
  let v154 : Index := Scalar.indexCast v30
  let c256_55 : Index := 256#32
  ![v154.toNat, 256]
def k0_off9 (k0_t1 : Fin k0_t1_loop.trips) : Fin 2 → Nat :=
  let c0_i32 : BitVec 32 := 0#32
  let c1_i32 : BitVec 32 := 1#32
  let arg7 : BitVec 32 := Scf.iv c0_i32 c1_i32 k0_t1
  let c64_i32 : BitVec 32 := 64#32
  let v29 : BitVec 32 := Scalar.muli arg7 c64_i32
  let v30 : BitVec 32 := v29
  let v176 : Index := Scalar.indexCast v30
  let c512_63 : Index := 512#32
  ![v176.toNat, 512]
def k0_off10 (k0_t1 : Fin k0_t1_loop.trips) : Fin 2 → Nat :=
  let c0_i32 : BitVec 32 := 0#32
  let c1_i32 : BitVec 32 := 1#32
  let arg7 : BitVec 32 := Scf.iv c0_i32 c1_i32 k0_t1
  let c64_i32 : BitVec 32 := 64#32
  let v29 : BitVec 32 := Scalar.muli arg7 c64_i32
  let v30 : BitVec 32 := v29
  let v183 : Index := Scalar.indexCast v30
  let c640 : Index := 640#32
  ![v183.toNat, 640]
def k0_off11 (k0_t1 : Fin k0_t1_loop.trips) : Fin 2 → Nat :=
  let c0_i32 : BitVec 32 := 0#32
  let c1_i32 : BitVec 32 := 1#32
  let arg7 : BitVec 32 := Scf.iv c0_i32 c1_i32 k0_t1
  let c64_i32 : BitVec 32 := 64#32
  let v29 : BitVec 32 := Scalar.muli arg7 c64_i32
  let v30 : BitVec 32 := v29
  let v202 : Index := Scalar.indexCast v30
  let c384_67 : Index := 384#32
  ![v202.toNat, 384]
def k0_off12 (k0_t1 : Fin k0_t1_loop.trips) : Fin 2 → Nat :=
  let c0_i32 : BitVec 32 := 0#32
  let c1_i32 : BitVec 32 := 1#32
  let arg7 : BitVec 32 := Scf.iv c0_i32 c1_i32 k0_t1
  let c64_i32 : BitVec 32 := 64#32
  let v29 : BitVec 32 := Scalar.muli arg7 c64_i32
  let v30 : BitVec 32 := v29
  let v224 : Index := Scalar.indexCast v30
  let c768 : Index := 768#32
  ![v224.toNat, 768]
def k0_off13 (k0_t1 : Fin k0_t1_loop.trips) : Fin 2 → Nat :=
  let c0_i32 : BitVec 32 := 0#32
  let c1_i32 : BitVec 32 := 1#32
  let arg7 : BitVec 32 := Scf.iv c0_i32 c1_i32 k0_t1
  let c64_i32 : BitVec 32 := 64#32
  let v29 : BitVec 32 := Scalar.muli arg7 c64_i32
  let v30 : BitVec 32 := v29
  let v231 : Index := Scalar.indexCast v30
  let c896 : Index := 896#32
  ![v231.toNat, 896]
def k0_off14 (k0_t1 : Fin k0_t1_loop.trips) : Fin 2 → Nat :=
  let c0_i32 : BitVec 32 := 0#32
  let c1_i32 : BitVec 32 := 1#32
  let arg7 : BitVec 32 := Scf.iv c0_i32 c1_i32 k0_t1
  let c64_i32 : BitVec 32 := 64#32
  let v29 : BitVec 32 := Scalar.muli arg7 c64_i32
  let v30 : BitVec 32 := v29
  let v250 : Index := Scalar.indexCast v30
  let c512_78 : Index := 512#32
  ![v250.toNat, 512]
def k0_off15 (k0_t1 : Fin k0_t1_loop.trips) : Fin 2 → Nat :=
  let c0_i32 : BitVec 32 := 0#32
  let c1_i32 : BitVec 32 := 1#32
  let arg7 : BitVec 32 := Scf.iv c0_i32 c1_i32 k0_t1
  let c64_i32 : BitVec 32 := 64#32
  let v29 : BitVec 32 := Scalar.muli arg7 c64_i32
  let v30 : BitVec 32 := v29
  let v272 : Index := Scalar.indexCast v30
  let c1024_86 : Index := 1024#32
  ![v272.toNat, 1024]
def k0_off16 (k0_t1 : Fin k0_t1_loop.trips) : Fin 2 → Nat :=
  let c0_i32 : BitVec 32 := 0#32
  let c1_i32 : BitVec 32 := 1#32
  let arg7 : BitVec 32 := Scf.iv c0_i32 c1_i32 k0_t1
  let c64_i32 : BitVec 32 := 64#32
  let v29 : BitVec 32 := Scalar.muli arg7 c64_i32
  let v30 : BitVec 32 := v29
  let v279 : Index := Scalar.indexCast v30
  let c1152 : Index := 1152#32
  ![v279.toNat, 1152]
def k0_off17 (k0_t1 : Fin k0_t1_loop.trips) : Fin 2 → Nat :=
  let c0_i32 : BitVec 32 := 0#32
  let c1_i32 : BitVec 32 := 1#32
  let arg7 : BitVec 32 := Scf.iv c0_i32 c1_i32 k0_t1
  let c64_i32 : BitVec 32 := 64#32
  let v29 : BitVec 32 := Scalar.muli arg7 c64_i32
  let v30 : BitVec 32 := v29
  let v298 : Index := Scalar.indexCast v30
  let c640_90 : Index := 640#32
  ![v298.toNat, 640]
def k0_off18 (k0_t1 : Fin k0_t1_loop.trips) : Fin 2 → Nat :=
  let c0_i32 : BitVec 32 := 0#32
  let c1_i32 : BitVec 32 := 1#32
  let arg7 : BitVec 32 := Scf.iv c0_i32 c1_i32 k0_t1
  let c64_i32 : BitVec 32 := 64#32
  let v29 : BitVec 32 := Scalar.muli arg7 c64_i32
  let v30 : BitVec 32 := v29
  let v320 : Index := Scalar.indexCast v30
  let c1280 : Index := 1280#32
  ![v320.toNat, 1280]
def k0_off19 (k0_t1 : Fin k0_t1_loop.trips) : Fin 2 → Nat :=
  let c0_i32 : BitVec 32 := 0#32
  let c1_i32 : BitVec 32 := 1#32
  let arg7 : BitVec 32 := Scf.iv c0_i32 c1_i32 k0_t1
  let c64_i32 : BitVec 32 := 64#32
  let v29 : BitVec 32 := Scalar.muli arg7 c64_i32
  let v30 : BitVec 32 := v29
  let v327 : Index := Scalar.indexCast v30
  let c1408 : Index := 1408#32
  ![v327.toNat, 1408]
def k0_off20 (k0_t1 : Fin k0_t1_loop.trips) : Fin 2 → Nat :=
  let c0_i32 : BitVec 32 := 0#32
  let c1_i32 : BitVec 32 := 1#32
  let arg7 : BitVec 32 := Scf.iv c0_i32 c1_i32 k0_t1
  let c64_i32 : BitVec 32 := 64#32
  let v29 : BitVec 32 := Scalar.muli arg7 c64_i32
  let v30 : BitVec 32 := v29
  let v346 : Index := Scalar.indexCast v30
  let c768_101 : Index := 768#32
  ![v346.toNat, 768]
def k0_off21 (k0_t1 : Fin k0_t1_loop.trips) : Fin 2 → Nat :=
  let c0_i32 : BitVec 32 := 0#32
  let c1_i32 : BitVec 32 := 1#32
  let arg7 : BitVec 32 := Scf.iv c0_i32 c1_i32 k0_t1
  let c64_i32 : BitVec 32 := 64#32
  let v29 : BitVec 32 := Scalar.muli arg7 c64_i32
  let v30 : BitVec 32 := v29
  let v368 : Index := Scalar.indexCast v30
  let c1536_109 : Index := 1536#32
  ![v368.toNat, 1536]
def k0_off22 (k0_t1 : Fin k0_t1_loop.trips) : Fin 2 → Nat :=
  let c0_i32 : BitVec 32 := 0#32
  let c1_i32 : BitVec 32 := 1#32
  let arg7 : BitVec 32 := Scf.iv c0_i32 c1_i32 k0_t1
  let c64_i32 : BitVec 32 := 64#32
  let v29 : BitVec 32 := Scalar.muli arg7 c64_i32
  let v30 : BitVec 32 := v29
  let v375 : Index := Scalar.indexCast v30
  let c1664 : Index := 1664#32
  ![v375.toNat, 1664]
def k0_off23 (k0_t1 : Fin k0_t1_loop.trips) : Fin 2 → Nat :=
  let c0_i32 : BitVec 32 := 0#32
  let c1_i32 : BitVec 32 := 1#32
  let arg7 : BitVec 32 := Scf.iv c0_i32 c1_i32 k0_t1
  let c64_i32 : BitVec 32 := 64#32
  let v29 : BitVec 32 := Scalar.muli arg7 c64_i32
  let v30 : BitVec 32 := v29
  let v394 : Index := Scalar.indexCast v30
  let c896_113 : Index := 896#32
  ![v394.toNat, 896]
def k0_off24 (k0_t1 : Fin k0_t1_loop.trips) : Fin 2 → Nat :=
  let c0_i32 : BitVec 32 := 0#32
  let c1_i32 : BitVec 32 := 1#32
  let arg7 : BitVec 32 := Scf.iv c0_i32 c1_i32 k0_t1
  let c64_i32 : BitVec 32 := 64#32
  let v29 : BitVec 32 := Scalar.muli arg7 c64_i32
  let v30 : BitVec 32 := v29
  let v416 : Index := Scalar.indexCast v30
  let c1792 : Index := 1792#32
  ![v416.toNat, 1792]
def k0_off25 (k0_t1 : Fin k0_t1_loop.trips) : Fin 2 → Nat :=
  let c0_i32 : BitVec 32 := 0#32
  let c1_i32 : BitVec 32 := 1#32
  let arg7 : BitVec 32 := Scf.iv c0_i32 c1_i32 k0_t1
  let c64_i32 : BitVec 32 := 64#32
  let v29 : BitVec 32 := Scalar.muli arg7 c64_i32
  let v30 : BitVec 32 := v29
  let v423 : Index := Scalar.indexCast v30
  let c1920 : Index := 1920#32
  ![v423.toNat, 1920]
def k0_off26 (k0_t1 : Fin k0_t1_loop.trips) : Fin 2 → Nat :=
  let c0_i32 : BitVec 32 := 0#32
  let c1_i32 : BitVec 32 := 1#32
  let arg7 : BitVec 32 := Scf.iv c0_i32 c1_i32 k0_t1
  let c64_i32 : BitVec 32 := 64#32
  let v29 : BitVec 32 := Scalar.muli arg7 c64_i32
  let v30 : BitVec 32 := v29
  let v442 : Index := Scalar.indexCast v30
  let c1024_125 : Index := 1024#32
  ![v442.toNat, 1024]
def k0_off27 (k0_t1 : Fin k0_t1_loop.trips) : Fin 2 → Nat :=
  let c0_i32 : BitVec 32 := 0#32
  let c1_i32 : BitVec 32 := 1#32
  let arg7 : BitVec 32 := Scf.iv c0_i32 c1_i32 k0_t1
  let c64_i32 : BitVec 32 := 64#32
  let v29 : BitVec 32 := Scalar.muli arg7 c64_i32
  let v30 : BitVec 32 := v29
  let v464 : Index := Scalar.indexCast v30
  let c2048 : Index := 2048#32
  ![v464.toNat, 2048]
def k0_off28 (k0_t1 : Fin k0_t1_loop.trips) : Fin 2 → Nat :=
  let c0_i32 : BitVec 32 := 0#32
  let c1_i32 : BitVec 32 := 1#32
  let arg7 : BitVec 32 := Scf.iv c0_i32 c1_i32 k0_t1
  let c64_i32 : BitVec 32 := 64#32
  let v29 : BitVec 32 := Scalar.muli arg7 c64_i32
  let v30 : BitVec 32 := v29
  let v471 : Index := Scalar.indexCast v30
  let c2176 : Index := 2176#32
  ![v471.toNat, 2176]
def k0_off29 (k0_t1 : Fin k0_t1_loop.trips) : Fin 2 → Nat :=
  let c0_i32 : BitVec 32 := 0#32
  let c1_i32 : BitVec 32 := 1#32
  let arg7 : BitVec 32 := Scf.iv c0_i32 c1_i32 k0_t1
  let c64_i32 : BitVec 32 := 64#32
  let v29 : BitVec 32 := Scalar.muli arg7 c64_i32
  let v30 : BitVec 32 := v29
  let v490 : Index := Scalar.indexCast v30
  let c1152_136 : Index := 1152#32
  ![v490.toNat, 1152]
def k0_off30 (k0_t1 : Fin k0_t1_loop.trips) : Fin 2 → Nat :=
  let c0_i32 : BitVec 32 := 0#32
  let c1_i32 : BitVec 32 := 1#32
  let arg7 : BitVec 32 := Scf.iv c0_i32 c1_i32 k0_t1
  let c64_i32 : BitVec 32 := 64#32
  let v29 : BitVec 32 := Scalar.muli arg7 c64_i32
  let v30 : BitVec 32 := v29
  let v512 : Index := Scalar.indexCast v30
  let c2304 : Index := 2304#32
  ![v512.toNat, 2304]
def k0_off31 (k0_t1 : Fin k0_t1_loop.trips) : Fin 2 → Nat :=
  let c0_i32 : BitVec 32 := 0#32
  let c1_i32 : BitVec 32 := 1#32
  let arg7 : BitVec 32 := Scf.iv c0_i32 c1_i32 k0_t1
  let c64_i32 : BitVec 32 := 64#32
  let v29 : BitVec 32 := Scalar.muli arg7 c64_i32
  let v30 : BitVec 32 := v29
  let v519 : Index := Scalar.indexCast v30
  let c2432 : Index := 2432#32
  ![v519.toNat, 2432]
def k0_off32 (k0_t1 : Fin k0_t1_loop.trips) : Fin 2 → Nat :=
  let c0_i32 : BitVec 32 := 0#32
  let c1_i32 : BitVec 32 := 1#32
  let arg7 : BitVec 32 := Scf.iv c0_i32 c1_i32 k0_t1
  let c64_i32 : BitVec 32 := 64#32
  let v29 : BitVec 32 := Scalar.muli arg7 c64_i32
  let v30 : BitVec 32 := v29
  let v538 : Index := Scalar.indexCast v30
  let c1280_147 : Index := 1280#32
  ![v538.toNat, 1280]
def k0_off33 (k0_t1 : Fin k0_t1_loop.trips) : Fin 2 → Nat :=
  let c0_i32 : BitVec 32 := 0#32
  let c1_i32 : BitVec 32 := 1#32
  let arg7 : BitVec 32 := Scf.iv c0_i32 c1_i32 k0_t1
  let c64_i32 : BitVec 32 := 64#32
  let v29 : BitVec 32 := Scalar.muli arg7 c64_i32
  let v30 : BitVec 32 := v29
  let v560 : Index := Scalar.indexCast v30
  let c2560 : Index := 2560#32
  ![v560.toNat, 2560]
def k0_off34 (k0_t1 : Fin k0_t1_loop.trips) : Fin 2 → Nat :=
  let c0_i32 : BitVec 32 := 0#32
  let c1_i32 : BitVec 32 := 1#32
  let arg7 : BitVec 32 := Scf.iv c0_i32 c1_i32 k0_t1
  let c64_i32 : BitVec 32 := 64#32
  let v29 : BitVec 32 := Scalar.muli arg7 c64_i32
  let v30 : BitVec 32 := v29
  let v567 : Index := Scalar.indexCast v30
  let c2688 : Index := 2688#32
  ![v567.toNat, 2688]
def k0_off35 (k0_t1 : Fin k0_t1_loop.trips) : Fin 2 → Nat :=
  let c0_i32 : BitVec 32 := 0#32
  let c1_i32 : BitVec 32 := 1#32
  let arg7 : BitVec 32 := Scf.iv c0_i32 c1_i32 k0_t1
  let c64_i32 : BitVec 32 := 64#32
  let v29 : BitVec 32 := Scalar.muli arg7 c64_i32
  let v30 : BitVec 32 := v29
  let v586 : Index := Scalar.indexCast v30
  let c1408_158 : Index := 1408#32
  ![v586.toNat, 1408]
def k0_off36 (k0_t1 : Fin k0_t1_loop.trips) : Fin 2 → Nat :=
  let c0_i32 : BitVec 32 := 0#32
  let c1_i32 : BitVec 32 := 1#32
  let arg7 : BitVec 32 := Scf.iv c0_i32 c1_i32 k0_t1
  let c64_i32 : BitVec 32 := 64#32
  let v29 : BitVec 32 := Scalar.muli arg7 c64_i32
  let v30 : BitVec 32 := v29
  let v608 : Index := Scalar.indexCast v30
  let c2816 : Index := 2816#32
  ![v608.toNat, 2816]
def k0_off37 (k0_t1 : Fin k0_t1_loop.trips) : Fin 2 → Nat :=
  let c0_i32 : BitVec 32 := 0#32
  let c1_i32 : BitVec 32 := 1#32
  let arg7 : BitVec 32 := Scf.iv c0_i32 c1_i32 k0_t1
  let c64_i32 : BitVec 32 := 64#32
  let v29 : BitVec 32 := Scalar.muli arg7 c64_i32
  let v30 : BitVec 32 := v29
  let v615 : Index := Scalar.indexCast v30
  let c2944 : Index := 2944#32
  ![v615.toNat, 2944]
def k0_off38 (k0_t1 : Fin k0_t1_loop.trips) : Fin 2 → Nat :=
  let c0_i32 : BitVec 32 := 0#32
  let c1_i32 : BitVec 32 := 1#32
  let arg7 : BitVec 32 := Scf.iv c0_i32 c1_i32 k0_t1
  let c64_i32 : BitVec 32 := 64#32
  let v29 : BitVec 32 := Scalar.muli arg7 c64_i32
  let v30 : BitVec 32 := v29
  let v634 : Index := Scalar.indexCast v30
  let c1536_169 : Index := 1536#32
  ![v634.toNat, 1536]
def k0_off39 (k0_t1 : Fin k0_t1_loop.trips) : Fin 2 → Nat :=
  let c0_i32 : BitVec 32 := 0#32
  let c1_i32 : BitVec 32 := 1#32
  let arg7 : BitVec 32 := Scf.iv c0_i32 c1_i32 k0_t1
  let c64_i32 : BitVec 32 := 64#32
  let v29 : BitVec 32 := Scalar.muli arg7 c64_i32
  let v30 : BitVec 32 := v29
  let v656 : Index := Scalar.indexCast v30
  let c3072 : Index := 3072#32
  ![v656.toNat, 3072]
def k0_off40 (k0_t1 : Fin k0_t1_loop.trips) : Fin 2 → Nat :=
  let c0_i32 : BitVec 32 := 0#32
  let c1_i32 : BitVec 32 := 1#32
  let arg7 : BitVec 32 := Scf.iv c0_i32 c1_i32 k0_t1
  let c64_i32 : BitVec 32 := 64#32
  let v29 : BitVec 32 := Scalar.muli arg7 c64_i32
  let v30 : BitVec 32 := v29
  let v663 : Index := Scalar.indexCast v30
  let c3200 : Index := 3200#32
  ![v663.toNat, 3200]
def k0_off41 (k0_t1 : Fin k0_t1_loop.trips) : Fin 2 → Nat :=
  let c0_i32 : BitVec 32 := 0#32
  let c1_i32 : BitVec 32 := 1#32
  let arg7 : BitVec 32 := Scf.iv c0_i32 c1_i32 k0_t1
  let c64_i32 : BitVec 32 := 64#32
  let v29 : BitVec 32 := Scalar.muli arg7 c64_i32
  let v30 : BitVec 32 := v29
  let v682 : Index := Scalar.indexCast v30
  let c1664_180 : Index := 1664#32
  ![v682.toNat, 1664]
def k0_off42 (k0_t1 : Fin k0_t1_loop.trips) : Fin 2 → Nat :=
  let c0_i32 : BitVec 32 := 0#32
  let c1_i32 : BitVec 32 := 1#32
  let arg7 : BitVec 32 := Scf.iv c0_i32 c1_i32 k0_t1
  let c64_i32 : BitVec 32 := 64#32
  let v29 : BitVec 32 := Scalar.muli arg7 c64_i32
  let v30 : BitVec 32 := v29
  let v704 : Index := Scalar.indexCast v30
  let c3328 : Index := 3328#32
  ![v704.toNat, 3328]
def k0_off43 (k0_t1 : Fin k0_t1_loop.trips) : Fin 2 → Nat :=
  let c0_i32 : BitVec 32 := 0#32
  let c1_i32 : BitVec 32 := 1#32
  let arg7 : BitVec 32 := Scf.iv c0_i32 c1_i32 k0_t1
  let c64_i32 : BitVec 32 := 64#32
  let v29 : BitVec 32 := Scalar.muli arg7 c64_i32
  let v30 : BitVec 32 := v29
  let v711 : Index := Scalar.indexCast v30
  let c3456 : Index := 3456#32
  ![v711.toNat, 3456]
def k0_off44 (k0_t1 : Fin k0_t1_loop.trips) : Fin 2 → Nat :=
  let c0_i32 : BitVec 32 := 0#32
  let c1_i32 : BitVec 32 := 1#32
  let arg7 : BitVec 32 := Scf.iv c0_i32 c1_i32 k0_t1
  let c64_i32 : BitVec 32 := 64#32
  let v29 : BitVec 32 := Scalar.muli arg7 c64_i32
  let v30 : BitVec 32 := v29
  let v730 : Index := Scalar.indexCast v30
  let c1792_191 : Index := 1792#32
  ![v730.toNat, 1792]
def k0_off45 (k0_t1 : Fin k0_t1_loop.trips) : Fin 2 → Nat :=
  let c0_i32 : BitVec 32 := 0#32
  let c1_i32 : BitVec 32 := 1#32
  let arg7 : BitVec 32 := Scf.iv c0_i32 c1_i32 k0_t1
  let c64_i32 : BitVec 32 := 64#32
  let v29 : BitVec 32 := Scalar.muli arg7 c64_i32
  let v30 : BitVec 32 := v29
  let v752 : Index := Scalar.indexCast v30
  let c3584 : Index := 3584#32
  ![v752.toNat, 3584]
def k0_off46 (k0_t1 : Fin k0_t1_loop.trips) : Fin 2 → Nat :=
  let c0_i32 : BitVec 32 := 0#32
  let c1_i32 : BitVec 32 := 1#32
  let arg7 : BitVec 32 := Scf.iv c0_i32 c1_i32 k0_t1
  let c64_i32 : BitVec 32 := 64#32
  let v29 : BitVec 32 := Scalar.muli arg7 c64_i32
  let v30 : BitVec 32 := v29
  let v759 : Index := Scalar.indexCast v30
  let c3712 : Index := 3712#32
  ![v759.toNat, 3712]
def k0_off47 (k0_t1 : Fin k0_t1_loop.trips) : Fin 2 → Nat :=
  let c0_i32 : BitVec 32 := 0#32
  let c1_i32 : BitVec 32 := 1#32
  let arg7 : BitVec 32 := Scf.iv c0_i32 c1_i32 k0_t1
  let c64_i32 : BitVec 32 := 64#32
  let v29 : BitVec 32 := Scalar.muli arg7 c64_i32
  let v30 : BitVec 32 := v29
  let v778 : Index := Scalar.indexCast v30
  let c1920_202 : Index := 1920#32
  ![v778.toNat, 1920]
def k0_off48 (k0_t1 : Fin k0_t1_loop.trips) : Fin 2 → Nat :=
  let c0_i32 : BitVec 32 := 0#32
  let c1_i32 : BitVec 32 := 1#32
  let arg7 : BitVec 32 := Scf.iv c0_i32 c1_i32 k0_t1
  let c64_i32 : BitVec 32 := 64#32
  let v29 : BitVec 32 := Scalar.muli arg7 c64_i32
  let v30 : BitVec 32 := v29
  let v800 : Index := Scalar.indexCast v30
  let c3840 : Index := 3840#32
  ![v800.toNat, 3840]
def k0_off49 (k0_t1 : Fin k0_t1_loop.trips) : Fin 2 → Nat :=
  let c0_i32 : BitVec 32 := 0#32
  let c1_i32 : BitVec 32 := 1#32
  let arg7 : BitVec 32 := Scf.iv c0_i32 c1_i32 k0_t1
  let c64_i32 : BitVec 32 := 64#32
  let v29 : BitVec 32 := Scalar.muli arg7 c64_i32
  let v30 : BitVec 32 := v29
  let v807 : Index := Scalar.indexCast v30
  let c3968 : Index := 3968#32
  ![v807.toNat, 3968]
def k0_off50 (k0_t1 : Fin k0_t1_loop.trips) : Fin 2 → Nat :=
  let c0_i32 : BitVec 32 := 0#32
  let c1_i32 : BitVec 32 := 1#32
  let arg7 : BitVec 32 := Scf.iv c0_i32 c1_i32 k0_t1
  let c64_i32 : BitVec 32 := 64#32
  let v29 : BitVec 32 := Scalar.muli arg7 c64_i32
  let v30 : BitVec 32 := v29
  let v826 : Index := Scalar.indexCast v30
  let c2048_214 : Index := 2048#32
  ![v826.toNat, 2048]
def k0_off51 (k0_t1 : Fin k0_t1_loop.trips) : Fin 2 → Nat :=
  let c0_i32 : BitVec 32 := 0#32
  let c1_i32 : BitVec 32 := 1#32
  let arg7 : BitVec 32 := Scf.iv c0_i32 c1_i32 k0_t1
  let c64_i32 : BitVec 32 := 64#32
  let v29 : BitVec 32 := Scalar.muli arg7 c64_i32
  let v30 : BitVec 32 := v29
  let v848 : Index := Scalar.indexCast v30
  let c4096 : Index := 4096#32
  ![v848.toNat, 4096]
def k0_off52 (k0_t1 : Fin k0_t1_loop.trips) : Fin 2 → Nat :=
  let c0_i32 : BitVec 32 := 0#32
  let c1_i32 : BitVec 32 := 1#32
  let arg7 : BitVec 32 := Scf.iv c0_i32 c1_i32 k0_t1
  let c64_i32 : BitVec 32 := 64#32
  let v29 : BitVec 32 := Scalar.muli arg7 c64_i32
  let v30 : BitVec 32 := v29
  let v855 : Index := Scalar.indexCast v30
  let c4224 : Index := 4224#32
  ![v855.toNat, 4224]
def k0_off53 (k0_t1 : Fin k0_t1_loop.trips) : Fin 2 → Nat :=
  let c0_i32 : BitVec 32 := 0#32
  let c1_i32 : BitVec 32 := 1#32
  let arg7 : BitVec 32 := Scf.iv c0_i32 c1_i32 k0_t1
  let c64_i32 : BitVec 32 := 64#32
  let v29 : BitVec 32 := Scalar.muli arg7 c64_i32
  let v30 : BitVec 32 := v29
  let v874 : Index := Scalar.indexCast v30
  let c2176_226 : Index := 2176#32
  ![v874.toNat, 2176]
def k0_off54 (k0_t1 : Fin k0_t1_loop.trips) : Fin 2 → Nat :=
  let c0_i32 : BitVec 32 := 0#32
  let c1_i32 : BitVec 32 := 1#32
  let arg7 : BitVec 32 := Scf.iv c0_i32 c1_i32 k0_t1
  let c64_i32 : BitVec 32 := 64#32
  let v29 : BitVec 32 := Scalar.muli arg7 c64_i32
  let v30 : BitVec 32 := v29
  let v896 : Index := Scalar.indexCast v30
  let c4352 : Index := 4352#32
  ![v896.toNat, 4352]
def k0_off55 (k0_t1 : Fin k0_t1_loop.trips) : Fin 2 → Nat :=
  let c0_i32 : BitVec 32 := 0#32
  let c1_i32 : BitVec 32 := 1#32
  let arg7 : BitVec 32 := Scf.iv c0_i32 c1_i32 k0_t1
  let c64_i32 : BitVec 32 := 64#32
  let v29 : BitVec 32 := Scalar.muli arg7 c64_i32
  let v30 : BitVec 32 := v29
  let v903 : Index := Scalar.indexCast v30
  let c4480 : Index := 4480#32
  ![v903.toNat, 4480]
def k0_off56 (k0_t1 : Fin k0_t1_loop.trips) : Fin 2 → Nat :=
  let c0_i32 : BitVec 32 := 0#32
  let c1_i32 : BitVec 32 := 1#32
  let arg7 : BitVec 32 := Scf.iv c0_i32 c1_i32 k0_t1
  let c64_i32 : BitVec 32 := 64#32
  let v29 : BitVec 32 := Scalar.muli arg7 c64_i32
  let v30 : BitVec 32 := v29
  let v922 : Index := Scalar.indexCast v30
  let c2304_238 : Index := 2304#32
  ![v922.toNat, 2304]
def k0_off57 (k0_t1 : Fin k0_t1_loop.trips) : Fin 2 → Nat :=
  let c0_i32 : BitVec 32 := 0#32
  let c1_i32 : BitVec 32 := 1#32
  let arg7 : BitVec 32 := Scf.iv c0_i32 c1_i32 k0_t1
  let c64_i32 : BitVec 32 := 64#32
  let v29 : BitVec 32 := Scalar.muli arg7 c64_i32
  let v30 : BitVec 32 := v29
  let v944 : Index := Scalar.indexCast v30
  let c4608 : Index := 4608#32
  ![v944.toNat, 4608]
def k0_off58 (k0_t1 : Fin k0_t1_loop.trips) : Fin 2 → Nat :=
  let c0_i32 : BitVec 32 := 0#32
  let c1_i32 : BitVec 32 := 1#32
  let arg7 : BitVec 32 := Scf.iv c0_i32 c1_i32 k0_t1
  let c64_i32 : BitVec 32 := 64#32
  let v29 : BitVec 32 := Scalar.muli arg7 c64_i32
  let v30 : BitVec 32 := v29
  let v951 : Index := Scalar.indexCast v30
  let c4736 : Index := 4736#32
  ![v951.toNat, 4736]
def k0_off59 (k0_t1 : Fin k0_t1_loop.trips) : Fin 2 → Nat :=
  let c0_i32 : BitVec 32 := 0#32
  let c1_i32 : BitVec 32 := 1#32
  let arg7 : BitVec 32 := Scf.iv c0_i32 c1_i32 k0_t1
  let c64_i32 : BitVec 32 := 64#32
  let v29 : BitVec 32 := Scalar.muli arg7 c64_i32
  let v30 : BitVec 32 := v29
  let v970 : Index := Scalar.indexCast v30
  let c2432_250 : Index := 2432#32
  ![v970.toNat, 2432]
def k0_off60 (k0_t1 : Fin k0_t1_loop.trips) : Fin 2 → Nat :=
  let c0_i32 : BitVec 32 := 0#32
  let c1_i32 : BitVec 32 := 1#32
  let arg7 : BitVec 32 := Scf.iv c0_i32 c1_i32 k0_t1
  let c64_i32 : BitVec 32 := 64#32
  let v29 : BitVec 32 := Scalar.muli arg7 c64_i32
  let v30 : BitVec 32 := v29
  let v992 : Index := Scalar.indexCast v30
  let c4864 : Index := 4864#32
  ![v992.toNat, 4864]
def k0_off61 (k0_t1 : Fin k0_t1_loop.trips) : Fin 2 → Nat :=
  let c0_i32 : BitVec 32 := 0#32
  let c1_i32 : BitVec 32 := 1#32
  let arg7 : BitVec 32 := Scf.iv c0_i32 c1_i32 k0_t1
  let c64_i32 : BitVec 32 := 64#32
  let v29 : BitVec 32 := Scalar.muli arg7 c64_i32
  let v30 : BitVec 32 := v29
  let v999 : Index := Scalar.indexCast v30
  let c4992 : Index := 4992#32
  ![v999.toNat, 4992]
def k0_off62 (k0_t1 : Fin k0_t1_loop.trips) : Fin 2 → Nat :=
  let c0_i32 : BitVec 32 := 0#32
  let c1_i32 : BitVec 32 := 1#32
  let arg7 : BitVec 32 := Scf.iv c0_i32 c1_i32 k0_t1
  let c64_i32 : BitVec 32 := 64#32
  let v29 : BitVec 32 := Scalar.muli arg7 c64_i32
  let v30 : BitVec 32 := v29
  let v1018 : Index := Scalar.indexCast v30
  let c2560_262 : Index := 2560#32
  ![v1018.toNat, 2560]
def k0_off63 (k0_t1 : Fin k0_t1_loop.trips) : Fin 2 → Nat :=
  let c0_i32 : BitVec 32 := 0#32
  let c1_i32 : BitVec 32 := 1#32
  let arg7 : BitVec 32 := Scf.iv c0_i32 c1_i32 k0_t1
  let c64_i32 : BitVec 32 := 64#32
  let v29 : BitVec 32 := Scalar.muli arg7 c64_i32
  let v30 : BitVec 32 := v29
  let v1040 : Index := Scalar.indexCast v30
  let c5120 : Index := 5120#32
  ![v1040.toNat, 5120]
def k0_off64 (k0_t1 : Fin k0_t1_loop.trips) : Fin 2 → Nat :=
  let c0_i32 : BitVec 32 := 0#32
  let c1_i32 : BitVec 32 := 1#32
  let arg7 : BitVec 32 := Scf.iv c0_i32 c1_i32 k0_t1
  let c64_i32 : BitVec 32 := 64#32
  let v29 : BitVec 32 := Scalar.muli arg7 c64_i32
  let v30 : BitVec 32 := v29
  let v1047 : Index := Scalar.indexCast v30
  let c5248 : Index := 5248#32
  ![v1047.toNat, 5248]
def k0_off65 (k0_t1 : Fin k0_t1_loop.trips) : Fin 2 → Nat :=
  let c0_i32 : BitVec 32 := 0#32
  let c1_i32 : BitVec 32 := 1#32
  let arg7 : BitVec 32 := Scf.iv c0_i32 c1_i32 k0_t1
  let c64_i32 : BitVec 32 := 64#32
  let v29 : BitVec 32 := Scalar.muli arg7 c64_i32
  let v30 : BitVec 32 := v29
  let v1066 : Index := Scalar.indexCast v30
  let c2688_274 : Index := 2688#32
  ![v1066.toNat, 2688]
def k0_off66 (k0_t1 : Fin k0_t1_loop.trips) : Fin 2 → Nat :=
  let c0_i32 : BitVec 32 := 0#32
  let c1_i32 : BitVec 32 := 1#32
  let arg7 : BitVec 32 := Scf.iv c0_i32 c1_i32 k0_t1
  let c64_i32 : BitVec 32 := 64#32
  let v29 : BitVec 32 := Scalar.muli arg7 c64_i32
  let v30 : BitVec 32 := v29
  let v1088 : Index := Scalar.indexCast v30
  let c5376 : Index := 5376#32
  ![v1088.toNat, 5376]
def k0_off67 (k0_t1 : Fin k0_t1_loop.trips) : Fin 2 → Nat :=
  let c0_i32 : BitVec 32 := 0#32
  let c1_i32 : BitVec 32 := 1#32
  let arg7 : BitVec 32 := Scf.iv c0_i32 c1_i32 k0_t1
  let c64_i32 : BitVec 32 := 64#32
  let v29 : BitVec 32 := Scalar.muli arg7 c64_i32
  let v30 : BitVec 32 := v29
  let v1095 : Index := Scalar.indexCast v30
  let c5504 : Index := 5504#32
  ![v1095.toNat, 5504]
def k0_off68 (k0_t1 : Fin k0_t1_loop.trips) : Fin 2 → Nat :=
  let c0_i32 : BitVec 32 := 0#32
  let c1_i32 : BitVec 32 := 1#32
  let arg7 : BitVec 32 := Scf.iv c0_i32 c1_i32 k0_t1
  let c64_i32 : BitVec 32 := 64#32
  let v29 : BitVec 32 := Scalar.muli arg7 c64_i32
  let v30 : BitVec 32 := v29
  let v1114 : Index := Scalar.indexCast v30
  let c2816_286 : Index := 2816#32
  ![v1114.toNat, 2816]
def k0_off69 (k0_t1 : Fin k0_t1_loop.trips) : Fin 2 → Nat :=
  let c0_i32 : BitVec 32 := 0#32
  let c1_i32 : BitVec 32 := 1#32
  let arg7 : BitVec 32 := Scf.iv c0_i32 c1_i32 k0_t1
  let c64_i32 : BitVec 32 := 64#32
  let v29 : BitVec 32 := Scalar.muli arg7 c64_i32
  let v30 : BitVec 32 := v29
  let v1136 : Index := Scalar.indexCast v30
  let c5632 : Index := 5632#32
  ![v1136.toNat, 5632]
def k0_off70 (k0_t1 : Fin k0_t1_loop.trips) : Fin 2 → Nat :=
  let c0_i32 : BitVec 32 := 0#32
  let c1_i32 : BitVec 32 := 1#32
  let arg7 : BitVec 32 := Scf.iv c0_i32 c1_i32 k0_t1
  let c64_i32 : BitVec 32 := 64#32
  let v29 : BitVec 32 := Scalar.muli arg7 c64_i32
  let v30 : BitVec 32 := v29
  let v1143 : Index := Scalar.indexCast v30
  let c5760 : Index := 5760#32
  ![v1143.toNat, 5760]
def k0_off71 (k0_t1 : Fin k0_t1_loop.trips) : Fin 2 → Nat :=
  let c0_i32 : BitVec 32 := 0#32
  let c1_i32 : BitVec 32 := 1#32
  let arg7 : BitVec 32 := Scf.iv c0_i32 c1_i32 k0_t1
  let c64_i32 : BitVec 32 := 64#32
  let v29 : BitVec 32 := Scalar.muli arg7 c64_i32
  let v30 : BitVec 32 := v29
  let v1162 : Index := Scalar.indexCast v30
  let c2944_298 : Index := 2944#32
  ![v1162.toNat, 2944]
def k0_off72 (k0_t1 : Fin k0_t1_loop.trips) : Fin 2 → Nat :=
  let c0_i32 : BitVec 32 := 0#32
  let c1_i32 : BitVec 32 := 1#32
  let arg7 : BitVec 32 := Scf.iv c0_i32 c1_i32 k0_t1
  let c64_i32 : BitVec 32 := 64#32
  let v29 : BitVec 32 := Scalar.muli arg7 c64_i32
  let v30 : BitVec 32 := v29
  let v1184 : Index := Scalar.indexCast v30
  let c5888 : Index := 5888#32
  ![v1184.toNat, 5888]
def k0_off73 (k0_t1 : Fin k0_t1_loop.trips) : Fin 2 → Nat :=
  let c0_i32 : BitVec 32 := 0#32
  let c1_i32 : BitVec 32 := 1#32
  let arg7 : BitVec 32 := Scf.iv c0_i32 c1_i32 k0_t1
  let c64_i32 : BitVec 32 := 64#32
  let v29 : BitVec 32 := Scalar.muli arg7 c64_i32
  let v30 : BitVec 32 := v29
  let v1191 : Index := Scalar.indexCast v30
  let c6016 : Index := 6016#32
  ![v1191.toNat, 6016]
def k0_off74 (k0_t1 : Fin k0_t1_loop.trips) : Fin 2 → Nat :=
  let c0_i32 : BitVec 32 := 0#32
  let c1_i32 : BitVec 32 := 1#32
  let arg7 : BitVec 32 := Scf.iv c0_i32 c1_i32 k0_t1
  let c64_i32 : BitVec 32 := 64#32
  let v29 : BitVec 32 := Scalar.muli arg7 c64_i32
  let v30 : BitVec 32 := v29
  let v1210 : Index := Scalar.indexCast v30
  let c3072_310 : Index := 3072#32
  ![v1210.toNat, 3072]
def k0_off75 (k0_t1 : Fin k0_t1_loop.trips) : Fin 2 → Nat :=
  let c0_i32 : BitVec 32 := 0#32
  let c1_i32 : BitVec 32 := 1#32
  let arg7 : BitVec 32 := Scf.iv c0_i32 c1_i32 k0_t1
  let c64_i32 : BitVec 32 := 64#32
  let v29 : BitVec 32 := Scalar.muli arg7 c64_i32
  let v30 : BitVec 32 := v29
  let v1232 : Index := Scalar.indexCast v30
  let c6144 : Index := 6144#32
  ![v1232.toNat, 6144]
def k0_off76 (k0_t1 : Fin k0_t1_loop.trips) : Fin 2 → Nat :=
  let c0_i32 : BitVec 32 := 0#32
  let c1_i32 : BitVec 32 := 1#32
  let arg7 : BitVec 32 := Scf.iv c0_i32 c1_i32 k0_t1
  let c64_i32 : BitVec 32 := 64#32
  let v29 : BitVec 32 := Scalar.muli arg7 c64_i32
  let v30 : BitVec 32 := v29
  let v1239 : Index := Scalar.indexCast v30
  let c6272 : Index := 6272#32
  ![v1239.toNat, 6272]
def k0_off77 (k0_t1 : Fin k0_t1_loop.trips) : Fin 2 → Nat :=
  let c0_i32 : BitVec 32 := 0#32
  let c1_i32 : BitVec 32 := 1#32
  let arg7 : BitVec 32 := Scf.iv c0_i32 c1_i32 k0_t1
  let c64_i32 : BitVec 32 := 64#32
  let v29 : BitVec 32 := Scalar.muli arg7 c64_i32
  let v30 : BitVec 32 := v29
  let v1258 : Index := Scalar.indexCast v30
  let c3200_322 : Index := 3200#32
  ![v1258.toNat, 3200]
def k0_off78 (k0_t1 : Fin k0_t1_loop.trips) : Fin 2 → Nat :=
  let c0_i32 : BitVec 32 := 0#32
  let c1_i32 : BitVec 32 := 1#32
  let arg7 : BitVec 32 := Scf.iv c0_i32 c1_i32 k0_t1
  let c64_i32 : BitVec 32 := 64#32
  let v29 : BitVec 32 := Scalar.muli arg7 c64_i32
  let v30 : BitVec 32 := v29
  let v1280 : Index := Scalar.indexCast v30
  let c6400 : Index := 6400#32
  ![v1280.toNat, 6400]
def k0_off79 (k0_t1 : Fin k0_t1_loop.trips) : Fin 2 → Nat :=
  let c0_i32 : BitVec 32 := 0#32
  let c1_i32 : BitVec 32 := 1#32
  let arg7 : BitVec 32 := Scf.iv c0_i32 c1_i32 k0_t1
  let c64_i32 : BitVec 32 := 64#32
  let v29 : BitVec 32 := Scalar.muli arg7 c64_i32
  let v30 : BitVec 32 := v29
  let v1287 : Index := Scalar.indexCast v30
  let c6528 : Index := 6528#32
  ![v1287.toNat, 6528]
def k0_off80 (k0_t1 : Fin k0_t1_loop.trips) : Fin 2 → Nat :=
  let c0_i32 : BitVec 32 := 0#32
  let c1_i32 : BitVec 32 := 1#32
  let arg7 : BitVec 32 := Scf.iv c0_i32 c1_i32 k0_t1
  let c64_i32 : BitVec 32 := 64#32
  let v29 : BitVec 32 := Scalar.muli arg7 c64_i32
  let v30 : BitVec 32 := v29
  let v1306 : Index := Scalar.indexCast v30
  let c3328_334 : Index := 3328#32
  ![v1306.toNat, 3328]
def k0_off81 (k0_t1 : Fin k0_t1_loop.trips) : Fin 2 → Nat :=
  let c0_i32 : BitVec 32 := 0#32
  let c1_i32 : BitVec 32 := 1#32
  let arg7 : BitVec 32 := Scf.iv c0_i32 c1_i32 k0_t1
  let c64_i32 : BitVec 32 := 64#32
  let v29 : BitVec 32 := Scalar.muli arg7 c64_i32
  let v30 : BitVec 32 := v29
  let v1328 : Index := Scalar.indexCast v30
  let c6656 : Index := 6656#32
  ![v1328.toNat, 6656]
def k0_off82 (k0_t1 : Fin k0_t1_loop.trips) : Fin 2 → Nat :=
  let c0_i32 : BitVec 32 := 0#32
  let c1_i32 : BitVec 32 := 1#32
  let arg7 : BitVec 32 := Scf.iv c0_i32 c1_i32 k0_t1
  let c64_i32 : BitVec 32 := 64#32
  let v29 : BitVec 32 := Scalar.muli arg7 c64_i32
  let v30 : BitVec 32 := v29
  let v1335 : Index := Scalar.indexCast v30
  let c6784 : Index := 6784#32
  ![v1335.toNat, 6784]
def k0_off83 (k0_t1 : Fin k0_t1_loop.trips) : Fin 2 → Nat :=
  let c0_i32 : BitVec 32 := 0#32
  let c1_i32 : BitVec 32 := 1#32
  let arg7 : BitVec 32 := Scf.iv c0_i32 c1_i32 k0_t1
  let c64_i32 : BitVec 32 := 64#32
  let v29 : BitVec 32 := Scalar.muli arg7 c64_i32
  let v30 : BitVec 32 := v29
  let v1354 : Index := Scalar.indexCast v30
  let c3456_346 : Index := 3456#32
  ![v1354.toNat, 3456]
def k0_off84 (k0_t1 : Fin k0_t1_loop.trips) : Fin 2 → Nat :=
  let c0_i32 : BitVec 32 := 0#32
  let c1_i32 : BitVec 32 := 1#32
  let arg7 : BitVec 32 := Scf.iv c0_i32 c1_i32 k0_t1
  let c64_i32 : BitVec 32 := 64#32
  let v29 : BitVec 32 := Scalar.muli arg7 c64_i32
  let v30 : BitVec 32 := v29
  let v1376 : Index := Scalar.indexCast v30
  let c6912 : Index := 6912#32
  ![v1376.toNat, 6912]
def k0_off85 (k0_t1 : Fin k0_t1_loop.trips) : Fin 2 → Nat :=
  let c0_i32 : BitVec 32 := 0#32
  let c1_i32 : BitVec 32 := 1#32
  let arg7 : BitVec 32 := Scf.iv c0_i32 c1_i32 k0_t1
  let c64_i32 : BitVec 32 := 64#32
  let v29 : BitVec 32 := Scalar.muli arg7 c64_i32
  let v30 : BitVec 32 := v29
  let v1383 : Index := Scalar.indexCast v30
  let c7040 : Index := 7040#32
  ![v1383.toNat, 7040]
def k0_off86 (k0_t1 : Fin k0_t1_loop.trips) : Fin 2 → Nat :=
  let c0_i32 : BitVec 32 := 0#32
  let c1_i32 : BitVec 32 := 1#32
  let arg7 : BitVec 32 := Scf.iv c0_i32 c1_i32 k0_t1
  let c64_i32 : BitVec 32 := 64#32
  let v29 : BitVec 32 := Scalar.muli arg7 c64_i32
  let v30 : BitVec 32 := v29
  let v1402 : Index := Scalar.indexCast v30
  let c3584_358 : Index := 3584#32
  ![v1402.toNat, 3584]
def k0_off87 (k0_t1 : Fin k0_t1_loop.trips) : Fin 2 → Nat :=
  let c0_i32 : BitVec 32 := 0#32
  let c1_i32 : BitVec 32 := 1#32
  let arg7 : BitVec 32 := Scf.iv c0_i32 c1_i32 k0_t1
  let c64_i32 : BitVec 32 := 64#32
  let v29 : BitVec 32 := Scalar.muli arg7 c64_i32
  let v30 : BitVec 32 := v29
  let v1424 : Index := Scalar.indexCast v30
  let c7168 : Index := 7168#32
  ![v1424.toNat, 7168]
def k0_off88 (k0_t1 : Fin k0_t1_loop.trips) : Fin 2 → Nat :=
  let c0_i32 : BitVec 32 := 0#32
  let c1_i32 : BitVec 32 := 1#32
  let arg7 : BitVec 32 := Scf.iv c0_i32 c1_i32 k0_t1
  let c64_i32 : BitVec 32 := 64#32
  let v29 : BitVec 32 := Scalar.muli arg7 c64_i32
  let v30 : BitVec 32 := v29
  let v1431 : Index := Scalar.indexCast v30
  let c7296 : Index := 7296#32
  ![v1431.toNat, 7296]
def k0_off89 (k0_t1 : Fin k0_t1_loop.trips) : Fin 2 → Nat :=
  let c0_i32 : BitVec 32 := 0#32
  let c1_i32 : BitVec 32 := 1#32
  let arg7 : BitVec 32 := Scf.iv c0_i32 c1_i32 k0_t1
  let c64_i32 : BitVec 32 := 64#32
  let v29 : BitVec 32 := Scalar.muli arg7 c64_i32
  let v30 : BitVec 32 := v29
  let v1450 : Index := Scalar.indexCast v30
  let c3712_370 : Index := 3712#32
  ![v1450.toNat, 3712]
def k0_off90 (k0_t1 : Fin k0_t1_loop.trips) : Fin 2 → Nat :=
  let c0_i32 : BitVec 32 := 0#32
  let c1_i32 : BitVec 32 := 1#32
  let arg7 : BitVec 32 := Scf.iv c0_i32 c1_i32 k0_t1
  let c64_i32 : BitVec 32 := 64#32
  let v29 : BitVec 32 := Scalar.muli arg7 c64_i32
  let v30 : BitVec 32 := v29
  let v1472 : Index := Scalar.indexCast v30
  let c7424 : Index := 7424#32
  ![v1472.toNat, 7424]
def k0_off91 (k0_t1 : Fin k0_t1_loop.trips) : Fin 2 → Nat :=
  let c0_i32 : BitVec 32 := 0#32
  let c1_i32 : BitVec 32 := 1#32
  let arg7 : BitVec 32 := Scf.iv c0_i32 c1_i32 k0_t1
  let c64_i32 : BitVec 32 := 64#32
  let v29 : BitVec 32 := Scalar.muli arg7 c64_i32
  let v30 : BitVec 32 := v29
  let v1479 : Index := Scalar.indexCast v30
  let c7552 : Index := 7552#32
  ![v1479.toNat, 7552]
def k0_off92 (k0_t1 : Fin k0_t1_loop.trips) : Fin 2 → Nat :=
  let c0_i32 : BitVec 32 := 0#32
  let c1_i32 : BitVec 32 := 1#32
  let arg7 : BitVec 32 := Scf.iv c0_i32 c1_i32 k0_t1
  let c64_i32 : BitVec 32 := 64#32
  let v29 : BitVec 32 := Scalar.muli arg7 c64_i32
  let v30 : BitVec 32 := v29
  let v1498 : Index := Scalar.indexCast v30
  let c3840_382 : Index := 3840#32
  ![v1498.toNat, 3840]
def k0_off93 (k0_t1 : Fin k0_t1_loop.trips) : Fin 2 → Nat :=
  let c0_i32 : BitVec 32 := 0#32
  let c1_i32 : BitVec 32 := 1#32
  let arg7 : BitVec 32 := Scf.iv c0_i32 c1_i32 k0_t1
  let c64_i32 : BitVec 32 := 64#32
  let v29 : BitVec 32 := Scalar.muli arg7 c64_i32
  let v30 : BitVec 32 := v29
  let v1520 : Index := Scalar.indexCast v30
  let c7680 : Index := 7680#32
  ![v1520.toNat, 7680]
def k0_off94 (k0_t1 : Fin k0_t1_loop.trips) : Fin 2 → Nat :=
  let c0_i32 : BitVec 32 := 0#32
  let c1_i32 : BitVec 32 := 1#32
  let arg7 : BitVec 32 := Scf.iv c0_i32 c1_i32 k0_t1
  let c64_i32 : BitVec 32 := 64#32
  let v29 : BitVec 32 := Scalar.muli arg7 c64_i32
  let v30 : BitVec 32 := v29
  let v1527 : Index := Scalar.indexCast v30
  let c7808 : Index := 7808#32
  ![v1527.toNat, 7808]
def k0_off95 (k0_t1 : Fin k0_t1_loop.trips) : Fin 2 → Nat :=
  let c0_i32 : BitVec 32 := 0#32
  let c1_i32 : BitVec 32 := 1#32
  let arg7 : BitVec 32 := Scf.iv c0_i32 c1_i32 k0_t1
  let c64_i32 : BitVec 32 := 64#32
  let v29 : BitVec 32 := Scalar.muli arg7 c64_i32
  let v30 : BitVec 32 := v29
  let v1546 : Index := Scalar.indexCast v30
  let c3968_394 : Index := 3968#32
  ![v1546.toNat, 3968]
def k0_off96 (k0_t1 : Fin k0_t1_loop.trips) : Fin 2 → Nat :=
  let c0_i32 : BitVec 32 := 0#32
  let c1_i32 : BitVec 32 := 1#32
  let arg7 : BitVec 32 := Scf.iv c0_i32 c1_i32 k0_t1
  let c64_i32 : BitVec 32 := 64#32
  let v29 : BitVec 32 := Scalar.muli arg7 c64_i32
  let v30 : BitVec 32 := v29
  let v1568 : Index := Scalar.indexCast v30
  let c7936 : Index := 7936#32
  ![v1568.toNat, 7936]
def k0_off97 (k0_t1 : Fin k0_t1_loop.trips) : Fin 2 → Nat :=
  let c0_i32 : BitVec 32 := 0#32
  let c1_i32 : BitVec 32 := 1#32
  let arg7 : BitVec 32 := Scf.iv c0_i32 c1_i32 k0_t1
  let c64_i32 : BitVec 32 := 64#32
  let v29 : BitVec 32 := Scalar.muli arg7 c64_i32
  let v30 : BitVec 32 := v29
  let v1575 : Index := Scalar.indexCast v30
  let c8064 : Index := 8064#32
  ![v1575.toNat, 8064]
def k0_off98 (k0_t1 : Fin k0_t1_loop.trips) : Fin 2 → Nat :=
  let c0_i32 : BitVec 32 := 0#32
  let c1_i32 : BitVec 32 := 1#32
  let arg7 : BitVec 32 := Scf.iv c0_i32 c1_i32 k0_t1
  let c64_i32 : BitVec 32 := 64#32
  let v29 : BitVec 32 := Scalar.muli arg7 c64_i32
  let v30 : BitVec 32 := v29
  let v1594 : Index := Scalar.indexCast v30
  let c4096_406 : Index := 4096#32
  ![v1594.toNat, 4096]
def k0_off99 (k0_t1 : Fin k0_t1_loop.trips) : Fin 2 → Nat :=
  let c0_i32 : BitVec 32 := 0#32
  let c1_i32 : BitVec 32 := 1#32
  let arg7 : BitVec 32 := Scf.iv c0_i32 c1_i32 k0_t1
  let c64_i32 : BitVec 32 := 64#32
  let v29 : BitVec 32 := Scalar.muli arg7 c64_i32
  let v30 : BitVec 32 := v29
  let v1616 : Index := Scalar.indexCast v30
  let c8192 : Index := 8192#32
  ![v1616.toNat, 8192]
def k0_off100 (k0_t1 : Fin k0_t1_loop.trips) : Fin 2 → Nat :=
  let c0_i32 : BitVec 32 := 0#32
  let c1_i32 : BitVec 32 := 1#32
  let arg7 : BitVec 32 := Scf.iv c0_i32 c1_i32 k0_t1
  let c64_i32 : BitVec 32 := 64#32
  let v29 : BitVec 32 := Scalar.muli arg7 c64_i32
  let v30 : BitVec 32 := v29
  let v1623 : Index := Scalar.indexCast v30
  let c8320 : Index := 8320#32
  ![v1623.toNat, 8320]
def k0_off101 (k0_t1 : Fin k0_t1_loop.trips) : Fin 2 → Nat :=
  let c0_i32 : BitVec 32 := 0#32
  let c1_i32 : BitVec 32 := 1#32
  let arg7 : BitVec 32 := Scf.iv c0_i32 c1_i32 k0_t1
  let c64_i32 : BitVec 32 := 64#32
  let v29 : BitVec 32 := Scalar.muli arg7 c64_i32
  let v30 : BitVec 32 := v29
  let v1642 : Index := Scalar.indexCast v30
  let c4224_418 : Index := 4224#32
  ![v1642.toNat, 4224]
def k0_off102 (k0_t1 : Fin k0_t1_loop.trips) : Fin 2 → Nat :=
  let c0_i32 : BitVec 32 := 0#32
  let c1_i32 : BitVec 32 := 1#32
  let arg7 : BitVec 32 := Scf.iv c0_i32 c1_i32 k0_t1
  let c64_i32 : BitVec 32 := 64#32
  let v29 : BitVec 32 := Scalar.muli arg7 c64_i32
  let v30 : BitVec 32 := v29
  let v1664 : Index := Scalar.indexCast v30
  let c8448 : Index := 8448#32
  ![v1664.toNat, 8448]
def k0_off103 (k0_t1 : Fin k0_t1_loop.trips) : Fin 2 → Nat :=
  let c0_i32 : BitVec 32 := 0#32
  let c1_i32 : BitVec 32 := 1#32
  let arg7 : BitVec 32 := Scf.iv c0_i32 c1_i32 k0_t1
  let c64_i32 : BitVec 32 := 64#32
  let v29 : BitVec 32 := Scalar.muli arg7 c64_i32
  let v30 : BitVec 32 := v29
  let v1671 : Index := Scalar.indexCast v30
  let c8576 : Index := 8576#32
  ![v1671.toNat, 8576]
def k0_off104 (k0_t1 : Fin k0_t1_loop.trips) : Fin 2 → Nat :=
  let c0_i32 : BitVec 32 := 0#32
  let c1_i32 : BitVec 32 := 1#32
  let arg7 : BitVec 32 := Scf.iv c0_i32 c1_i32 k0_t1
  let c64_i32 : BitVec 32 := 64#32
  let v29 : BitVec 32 := Scalar.muli arg7 c64_i32
  let v30 : BitVec 32 := v29
  let v1690 : Index := Scalar.indexCast v30
  let c4352_430 : Index := 4352#32
  ![v1690.toNat, 4352]
def k0_off105 (k0_t1 : Fin k0_t1_loop.trips) : Fin 2 → Nat :=
  let c0_i32 : BitVec 32 := 0#32
  let c1_i32 : BitVec 32 := 1#32
  let arg7 : BitVec 32 := Scf.iv c0_i32 c1_i32 k0_t1
  let c64_i32 : BitVec 32 := 64#32
  let v29 : BitVec 32 := Scalar.muli arg7 c64_i32
  let v30 : BitVec 32 := v29
  let v1712 : Index := Scalar.indexCast v30
  let c8704 : Index := 8704#32
  ![v1712.toNat, 8704]
def k0_off106 (k0_t1 : Fin k0_t1_loop.trips) : Fin 2 → Nat :=
  let c0_i32 : BitVec 32 := 0#32
  let c1_i32 : BitVec 32 := 1#32
  let arg7 : BitVec 32 := Scf.iv c0_i32 c1_i32 k0_t1
  let c64_i32 : BitVec 32 := 64#32
  let v29 : BitVec 32 := Scalar.muli arg7 c64_i32
  let v30 : BitVec 32 := v29
  let v1719 : Index := Scalar.indexCast v30
  let c8832 : Index := 8832#32
  ![v1719.toNat, 8832]
def k0_off107 (k0_t1 : Fin k0_t1_loop.trips) : Fin 2 → Nat :=
  let c0_i32 : BitVec 32 := 0#32
  let c1_i32 : BitVec 32 := 1#32
  let arg7 : BitVec 32 := Scf.iv c0_i32 c1_i32 k0_t1
  let c64_i32 : BitVec 32 := 64#32
  let v29 : BitVec 32 := Scalar.muli arg7 c64_i32
  let v30 : BitVec 32 := v29
  let v1738 : Index := Scalar.indexCast v30
  let c4480_442 : Index := 4480#32
  ![v1738.toNat, 4480]
def k0_off108 (k0_t1 : Fin k0_t1_loop.trips) : Fin 2 → Nat :=
  let c0_i32 : BitVec 32 := 0#32
  let c1_i32 : BitVec 32 := 1#32
  let arg7 : BitVec 32 := Scf.iv c0_i32 c1_i32 k0_t1
  let c64_i32 : BitVec 32 := 64#32
  let v29 : BitVec 32 := Scalar.muli arg7 c64_i32
  let v30 : BitVec 32 := v29
  let v1760 : Index := Scalar.indexCast v30
  let c8960 : Index := 8960#32
  ![v1760.toNat, 8960]
def k0_off109 (k0_t1 : Fin k0_t1_loop.trips) : Fin 2 → Nat :=
  let c0_i32 : BitVec 32 := 0#32
  let c1_i32 : BitVec 32 := 1#32
  let arg7 : BitVec 32 := Scf.iv c0_i32 c1_i32 k0_t1
  let c64_i32 : BitVec 32 := 64#32
  let v29 : BitVec 32 := Scalar.muli arg7 c64_i32
  let v30 : BitVec 32 := v29
  let v1767 : Index := Scalar.indexCast v30
  let c9088 : Index := 9088#32
  ![v1767.toNat, 9088]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2048x9216 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4608 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x288 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== RDownIdeal.lean ====
abbrev S2048x9216 : Shape := ⟨2, ![2048, 9216]⟩
abbrev S2048x2304 : Shape := ⟨2, ![2048, 2304]⟩
abbrev S2304x4608 : Shape := ⟨2, ![2304, 4608]⟩
abbrev S2304x288 : Shape := ⟨2, ![2304, 288]⟩
abbrev S2048x36x2x128 : Shape := ⟨4, ![2048, 36, 2, 128]⟩
abbrev S2048x36x1x128 : Shape := ⟨4, ![2048, 36, 1, 128]⟩
abbrev S2048x36x128 : Shape := ⟨3, ![2048, 36, 128]⟩
abbrev S2048x4608 : Shape := ⟨2, ![2048, 4608]⟩
abbrev S_ : Shape := ⟨0, ![]⟩
abbrev S2304x288x1 : Shape := ⟨3, ![2304, 288, 1]⟩
abbrev S2304x288x16 : Shape := ⟨3, ![2304, 288, 16]⟩

abbrev nBuf : Space → Nat
  | .hbm => 139
  | .vmem => 0
  | .smem => 0
  | _ => 0

abbrev hbmTy0_0 (i : Nat) : BufTy := match i % 128 with
  | 0 => ⟨S2048x9216, .bf16⟩
  | 1 => ⟨S2048x2304, .f32⟩
  | 2 => ⟨S2304x4608, .i8⟩
  | 3 => ⟨S2304x288, .i8⟩
  | 4 => ⟨S2048x36x2x128, .bf16⟩
  | 5 => ⟨S2048x36x1x128, .bf16⟩
  | 6 => ⟨S2048x36x128, .bf16⟩
  | 7 => ⟨S2048x4608, .bf16⟩
  | 8 => ⟨S2048x36x1x128, .bf16⟩
  | 9 => ⟨S2048x36x128, .bf16⟩
  | 10 => ⟨S2048x4608, .bf16⟩
  | 11 => ⟨S2304x4608, .i32⟩
  | 12 => ⟨S2304x288, .i32⟩
  | 13 => ⟨S2304x288, .f32⟩
  | 14 => ⟨S_, .f32⟩
  | 15 => ⟨S2304x288, .f32⟩
  | 16 => ⟨S2304x288, .f32⟩
  | 17 => ⟨S_, .f32⟩
  | 18 => ⟨S2304x288, .f32⟩
  | 19 => ⟨S2304x288, .f32⟩
  | 20 => ⟨S2304x288, .bf16⟩
  | 21 => ⟨S2304x288x1, .bf16⟩
  | 22 => ⟨S_, .i32⟩
  | 23 => ⟨S2304x4608, .i32⟩
  | 24 => ⟨S2304x4608, .i32⟩
  | 25 => ⟨S_, .i32⟩
  | 26 => ⟨S2304x4608, .i32⟩
  | 27 => ⟨S2304x4608, .i32⟩
  | 28 => ⟨S_, .i32⟩
  | 29 => ⟨S2304x4608, .i32⟩
  | 30 => ⟨S2304x4608, .i1⟩
  | 31 => ⟨S_, .i32⟩
  | 32 => ⟨S2304x4608, .i32⟩
  | 33 => ⟨S2304x4608, .i32⟩
  | 34 => ⟨S_, .i32⟩
  | 35 => ⟨S2304x4608, .i32⟩
  | 36 => ⟨S2304x4608, .i1⟩
  | 37 => ⟨S_, .i32⟩
  | 38 => ⟨S2304x4608, .i32⟩
  | 39 => ⟨S2304x4608, .i32⟩
  | 40 => ⟨S_, .i32⟩
  | 41 => ⟨S2304x4608, .i32⟩
  | 42 => ⟨S2304x4608, .i1⟩
  | 43 => ⟨S_, .i32⟩
  | 44 => ⟨S2304x4608, .i32⟩
  | 45 => ⟨S2304x4608, .i32⟩
  | 46 => ⟨S_, .i32⟩
  | 47 => ⟨S2304x4608, .i32⟩
  | 48 => ⟨S2304x4608, .i1⟩
  | 49 => ⟨S_, .bf16⟩
  | 50 => ⟨S_, .bf16⟩
  | 51 => ⟨S2304x4608, .bf16⟩
  | 52 => ⟨S2304x4608, .bf16⟩
  | 53 => ⟨S2304x4608, .bf16⟩
  | 54 => ⟨S_, .bf16⟩
  | 55 => ⟨S_, .bf16⟩
  | 56 => ⟨S2304x4608, .bf16⟩
  | 57 => ⟨S2304x4608, .bf16⟩
  | 58 => ⟨S2304x4608, .bf16⟩
  | 59 => ⟨S2304x4608, .bf16⟩
  | 60 => ⟨S_, .bf16⟩
  | 61 => ⟨S_, .bf16⟩
  | 62 => ⟨S2304x4608, .bf16⟩
  | 63 => ⟨S2304x4608, .bf16⟩
  | 64 => ⟨S2304x4608, .bf16⟩
  | 65 => ⟨S_, .bf16⟩
  | 66 => ⟨S_, .bf16⟩
  | 67 => ⟨S2304x4608, .bf16⟩
  | 68 => ⟨S2304x4608, .bf16⟩
  | 69 => ⟨S2304x4608, .bf16⟩
  | 70 => ⟨S2304x4608, .bf16⟩
  | 71 => ⟨S2304x4608, .bf16⟩
  | 72 => ⟨S2304x4608, .bf16⟩
  | 73 => ⟨S2304x4608, .bf16⟩
  | 74 => ⟨S2304x288x16, .bf16⟩
  | 75 => ⟨S2304x288x16, .bf16⟩
  | 76 => ⟨S2304x288x16, .bf16⟩
  | 77 => ⟨S2304x4608, .bf16⟩
  | 78 => ⟨S_, .i32⟩
  | 79 => ⟨S2304x4608, .i32⟩
  | 80 => ⟨S2304x4608, .i32⟩
  | 81 => ⟨S_, .i32⟩
  | 82 => ⟨S2304x4608, .i32⟩
  | 83 => ⟨S2304x4608, .i32⟩
  | 84 => ⟨S_, .i32⟩
  | 85 => ⟨S2304x4608, .i32⟩
  | 86 => ⟨S2304x4608, .i1⟩
  | 87 => ⟨S_, .i32⟩
  | 88 => ⟨S2304x4608, .i32⟩
  | 89 => ⟨S2304x4608, .i32⟩
  | 90 => ⟨S_, .i32⟩
  | 91 => ⟨S2304x4608, .i32⟩
  | 92 => ⟨S2304x4608, .i1⟩
  | 93 => ⟨S_, .i32⟩
  | 94 => ⟨S2304x4608, .i32⟩
  | 95 => ⟨S2304x4608, .i32⟩
  | 96 => ⟨S_, .i32⟩
  | 97 => ⟨S2304x4608, .i32⟩
  | 98 => ⟨S2304x4608, .i1⟩
  | 99 => ⟨S_, .i32⟩
  | 100 => ⟨S2304x4608, .i32⟩
  | 101 => ⟨S2304x4608, .i32⟩
  | 102 => ⟨S_, .i32⟩
  | 103 => ⟨S2304x4608, .i32⟩
  | 104 => ⟨S2304x4608, .i1⟩
  | 105 => ⟨S_, .bf16⟩
  | 106 => ⟨S_, .bf16⟩
  | 107 => ⟨S2304x4608, .bf16⟩
  | 108 => ⟨S2304x4608, .bf16⟩
  | 109 => ⟨S2304x4608, .bf16⟩
  | 110 => ⟨S_, .bf16⟩
  | 111 => ⟨S_, .bf16⟩
  | 112 => ⟨S2304x4608, .bf16⟩
  | 113 => ⟨S2304x4608, .bf16⟩
  | 114 => ⟨S2304x4608, .bf16⟩
  | 115 => ⟨S2304x4608, .bf16⟩
  | 116 => ⟨S_, .bf16⟩
  | 117 => ⟨S_, .bf16⟩
  | 118 => ⟨S2304x4608, .bf16⟩
  | 119 => ⟨S2304x4608, .bf16⟩
  | 120 => ⟨S2304x4608, .bf16⟩
  | 121 => ⟨S_, .bf16⟩
  | 122 => ⟨S_, .bf16⟩
  | 123 => ⟨S2304x4608, .bf16⟩
  | 124 => ⟨S2304x4608, .bf16⟩
  | 125 => ⟨S2304x4608, .bf16⟩
  | 126 => ⟨S2304x4608, .bf16⟩
  | 127 => ⟨S2304x4608, .bf16⟩
  | _ => ⟨S2048x9216, .bf16⟩

abbrev hbmTy0_1 (i : Nat) : BufTy := match i % 128 with
  | 0 => ⟨S2304x4608, .bf16⟩
  | 1 => ⟨S2304x4608, .bf16⟩
  | 2 => ⟨S2304x288x16, .bf16⟩
  | 3 => ⟨S2304x288x16, .bf16⟩
  | 4 => ⟨S2304x288x16, .bf16⟩
  | 5 => ⟨S2304x4608, .bf16⟩
  | 6 => ⟨S2048x2304, .f32⟩
  | 7 => ⟨S2048x2304, .f32⟩
  | 8 => ⟨S2048x2304, .f32⟩
  | 9 => ⟨S2048x2304, .f32⟩
  | 10 => ⟨S2048x2304, .bf16⟩
  | _ => ⟨S2048x9216, .bf16⟩

abbrev hbmTy (i : Nat) : BufTy := match i / 128 with
  | 0 => hbmTy0_0 i
  | 1 => hbmTy0_1 i
  | _ => ⟨S2048x9216, .bf16⟩

abbrev bufTy : (tb : Table) → Fin (tcTables nBuf tb) → BufTy
  | .hbm, ⟨i, _⟩ => hbmTy i
  | _, _ => ⟨S2048x9216, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_c : Ref sig .tc := ⟨.hbm, 22, rfl⟩
abbrev main_v16 : Ref sig .tc := ⟨.hbm, 23, rfl⟩
abbrev main_v17 : Ref sig .tc := ⟨.hbm, 24, rfl⟩
abbrev main_c_1 : Ref sig .tc := ⟨.hbm, 25, rfl⟩
abbrev main_v18 : Ref sig .tc := ⟨.hbm, 26, rfl⟩
abbrev main_v19 : Ref sig .tc := ⟨.hbm, 27, rfl⟩
abbrev main_c_2 : Ref sig .tc := ⟨.hbm, 28, rfl⟩
abbrev main_v20 : Ref sig .tc := ⟨.hbm, 29, rfl⟩
abbrev main_v21 : Ref sig .tc := ⟨.hbm, 30, rfl⟩
abbrev main_c_3 : Ref sig .tc := ⟨.hbm, 31, rfl⟩
abbrev main_v22 : Ref sig .tc := ⟨.hbm, 32, rfl⟩
abbrev main_v23 : Ref sig .tc := ⟨.hbm, 33, rfl⟩
abbrev main_c_4 : Ref sig .tc := ⟨.hbm, 34, rfl⟩
abbrev main_v24 : Ref sig .tc := ⟨.hbm, 35, rfl⟩
abbrev main_v25 : Ref sig .tc := ⟨.hbm, 36, rfl⟩
abbrev main_c_5 : Ref sig .tc := ⟨.hbm, 37, rfl⟩
abbrev main_v26 : Ref sig .tc := ⟨.hbm, 38, rfl⟩
abbrev main_v27 : Ref sig .tc := ⟨.hbm, 39, rfl⟩
abbrev main_c_6 : Ref sig .tc := ⟨.hbm, 40, rfl⟩
abbrev main_v28 : Ref sig .tc := ⟨.hbm, 41, rfl⟩
abbrev main_v29 : Ref sig .tc := ⟨.hbm, 42, rfl⟩
abbrev main_c_7 : Ref sig .tc := ⟨.hbm, 43, rfl⟩
abbrev main_v30 : Ref sig .tc := ⟨.hbm, 44, rfl⟩
abbrev main_v31 : Ref sig .tc := ⟨.hbm, 45, rfl⟩
abbrev main_c_8 : Ref sig .tc := ⟨.hbm, 46, rfl⟩
abbrev main_v32 : Ref sig .tc := ⟨.hbm, 47, rfl⟩
abbrev main_v33 : Ref sig .tc := ⟨.hbm, 48, rfl⟩
abbrev main_cst_9 : Ref sig .tc := ⟨.hbm, 49, rfl⟩
abbrev main_cst_10 : Ref sig .tc := ⟨.hbm, 50, rfl⟩
abbrev main_call0_v0 : Ref sig .tc := ⟨.hbm, 51, rfl⟩
abbrev main_call0_v1 : Ref sig .tc := ⟨.hbm, 52, rfl⟩
abbrev main_v34 : Ref sig .tc := ⟨.hbm, 53, rfl⟩
abbrev main_cst_11 : Ref sig .tc := ⟨.hbm, 54, rfl⟩
abbrev main_cst_12 : Ref sig .tc := ⟨.hbm, 55, rfl⟩
abbrev main_call1_v0 : Ref sig .tc := ⟨.hbm, 56, rfl⟩
abbrev main_call1_v1 : Ref sig .tc := ⟨.hbm, 57, rfl⟩
abbrev main_v35 : Ref sig .tc := ⟨.hbm, 58, rfl⟩
abbrev main_v36 : Ref sig .tc := ⟨.hbm, 59, rfl⟩
abbrev main_cst_13 : Ref sig .tc := ⟨.hbm, 60, rfl⟩
abbrev main_cst_14 : Ref sig .tc := ⟨.hbm, 61, rfl⟩
abbrev main_call3_v0 : Ref sig .tc := ⟨.hbm, 62, rfl⟩
abbrev main_call3_v1 : Ref sig .tc := ⟨.hbm, 63, rfl⟩
abbrev main_v37 : Ref sig .tc := ⟨.hbm, 64, rfl⟩
abbrev main_cst_15 : Ref sig .tc := ⟨.hbm, 65, rfl⟩
abbrev main_cst_16 : Ref sig .tc := ⟨.hbm, 66, rfl⟩
abbrev main_call4_v0 : Ref sig .tc := ⟨.hbm, 67, rfl⟩
abbrev main_call4_v1 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_c_17 : Ref sig .tc := ⟨.hbm, 78, rfl⟩
abbrev main_v47 : Ref sig .tc := ⟨.hbm, 79, rfl⟩
abbrev main_v48 : Ref sig .tc := ⟨.hbm, 80, rfl⟩
abbrev main_c_18 : Ref sig .tc := ⟨.hbm, 81, rfl⟩
abbrev main_v49 : Ref sig .tc := ⟨.hbm, 82, rfl⟩
abbrev main_v50 : Ref sig .tc := ⟨.hbm, 83, rfl⟩
abbrev main_c_19 : Ref sig .tc := ⟨.hbm, 84, rfl⟩
abbrev main_v51 : Ref sig .tc := ⟨.hbm, 85, rfl⟩
abbrev main_v52 : Ref sig .tc := ⟨.hbm, 86, rfl⟩
abbrev main_c_20 : Ref sig .tc := ⟨.hbm, 87, rfl⟩
abbrev main_v53 : Ref sig .tc := ⟨.hbm, 88, rfl⟩
abbrev main_v54 : Ref sig .tc := ⟨.hbm, 89, rfl⟩
abbrev main_c_21 : Ref sig .tc := ⟨.hbm, 90, rfl⟩
abbrev main_v55 : Ref sig .tc := ⟨.hbm, 91, rfl⟩
abbrev main_v56 : Ref sig .tc := ⟨.hbm, 92, rfl⟩
abbrev main_c_22 : Ref sig .tc := ⟨.hbm, 93, rfl⟩
abbrev main_v57 : Ref sig .tc := ⟨.hbm, 94, rfl⟩
abbrev main_v58 : Ref sig .tc := ⟨.hbm, 95, rfl⟩
abbrev main_c_23 : Ref sig .tc := ⟨.hbm, 96, rfl⟩
abbrev main_v59 : Ref sig .tc := ⟨.hbm, 97, rfl⟩
abbrev main_v60 : Ref sig .tc := ⟨.hbm, 98, rfl⟩
abbrev main_c_24 : Ref sig .tc := ⟨.hbm, 99, rfl⟩
abbrev main_v61 : Ref sig .tc := ⟨.hbm, 100, rfl⟩
abbrev main_v62 : Ref sig .tc := ⟨.hbm, 101, rfl⟩
abbrev main_c_25 : Ref sig .tc := ⟨.hbm, 102, rfl⟩
abbrev main_v63 : Ref sig .tc := ⟨.hbm, 103, rfl⟩
abbrev main_v64 : Ref sig .tc := ⟨.hbm, 104, rfl⟩
abbrev main_cst_26 : Ref sig .tc := ⟨.hbm, 105, rfl⟩
abbrev main_cst_27 : Ref sig .tc := ⟨.hbm, 106, rfl⟩
abbrev main_call8_v0 : Ref sig .tc := ⟨.hbm, 107, rfl⟩
abbrev main_call8_v1 : Ref sig .tc := ⟨.hbm, 108, rfl⟩
abbrev main_v65 : Ref sig .tc := ⟨.hbm, 109, rfl⟩
abbrev main_cst_28 : Ref sig .tc := ⟨.hbm, 110, rfl⟩
abbrev main_cst_29 : Ref sig .tc := ⟨.hbm, 111, rfl⟩
abbrev main_call9_v0 : Ref sig .tc := ⟨.hbm, 112, rfl⟩
abbrev main_call9_v1 : Ref sig .tc := ⟨.hbm, 113, rfl⟩
abbrev main_v66 : Ref sig .tc := ⟨.hbm, 114, rfl⟩
abbrev main_v67 : Ref sig .tc := ⟨.hbm, 115, rfl⟩
abbrev main_cst_30 : Ref sig .tc := ⟨.hbm, 116, rfl⟩
abbrev main_cst_31 : Ref sig .tc := ⟨.hbm, 117, rfl⟩
abbrev main_call11_v0 : Ref sig .tc := ⟨.hbm, 118, rfl⟩
abbrev main_call11_v1 : Ref sig .tc := ⟨.hbm, 119, rfl⟩
abbrev main_v68 : Ref sig .tc := ⟨.hbm, 120, rfl⟩
abbrev main_cst_32 : Ref sig .tc := ⟨.hbm, 121, rfl⟩
abbrev main_cst_33 : Ref sig .tc := ⟨.hbm, 122, rfl⟩
abbrev main_call12_v0 : Ref sig .tc := ⟨.hbm, 123, rfl⟩
abbrev main_call12_v1 : Ref sig .tc := ⟨.hbm, 124, rfl⟩
abbrev main_v69 : Ref sig .tc := ⟨.hbm, 125, rfl⟩
abbrev main_v70 : Ref sig .tc := ⟨.hbm, 126, rfl⟩
abbrev main_v71 : Ref sig .tc := ⟨.hbm, 127, rfl⟩
abbrev main_v72 : Ref sig .tc := ⟨.hbm, 128, rfl⟩
abbrev main_v73 : Ref sig .tc := ⟨.hbm, 129, rfl⟩
abbrev main_v74 : Ref sig .tc := ⟨.hbm, 130, rfl⟩
abbrev main_v75 : Ref sig .tc := ⟨.hbm, 131, rfl⟩
abbrev main_v76 : Ref sig .tc := ⟨.hbm, 132, rfl⟩
abbrev main_v77 : Ref sig .tc := ⟨.hbm, 133, rfl⟩
abbrev main_v78 : Ref sig .tc := ⟨.hbm, 134, rfl⟩
abbrev main_v79 : Ref sig .tc := ⟨.hbm, 135, rfl⟩
abbrev main_v80 : Ref sig .tc := ⟨.hbm, 136, rfl⟩
abbrev main_v81 : Ref sig .tc := ⟨.hbm, 137, rfl⟩
abbrev main_v82 : Ref sig .tc := ⟨.hbm, 138, rfl⟩

abbrev nD : Nat := 1
abbrev τ : Topo := Topo.v7x

variable {F : FTy → Type} [FloatOps F]
-- ==== KFfn.lean ====
abbrev S2048x2304 : Shape := ⟨2, ![2048, 2304]⟩
abbrev S9216x1152 : Shape := ⟨2, ![9216, 1152]⟩
abbrev S9216x72 : Shape := ⟨2, ![9216, 72]⟩
abbrev S2048x9216 : Shape := ⟨2, ![2048, 9216]⟩
abbrev S2048x288 : Shape := ⟨2, ![2048, 288]⟩
abbrev S256x1152 : Shape := ⟨2, ![256, 1152]⟩
abbrev S256x72 : Shape := ⟨2, ![256, 72]⟩
abbrev S2048x256 : Shape := ⟨2, ![2048, 256]⟩
abbrev S256x2304 : Shape := ⟨2, ![256, 2304]⟩
abbrev S3x2048x128 : Shape := ⟨3, ![3, 2048, 128]⟩
abbrev S64x72 : Shape := ⟨2, ![64, 72]⟩
abbrev S64x56 : Shape := ⟨2, ![64, 56]⟩
abbrev S64x128 : Shape := ⟨2, ![64, 128]⟩
abbrev S64x128x1 : Shape := ⟨3, ![64, 128, 1]⟩
abbrev S16x128 : Shape := ⟨2, ![16, 128]⟩
abbrev S512x2304 : Shape := ⟨2, ![512, 2304]⟩
abbrev S512x256 : Shape := ⟨2, ![512, 256]⟩
abbrev S512x128 : Shape := ⟨2, ![512, 128]⟩
abbrev S512x128x1 : Shape := ⟨3, ![512, 128, 1]⟩
abbrev S1x512x128 : Shape := ⟨3, ![1, 512, 128]⟩
abbrev S1x2048x128 : Shape := ⟨3, ![1, 2048, 128]⟩
abbrev S2048x128 : Shape := ⟨2, ![2048, 128]⟩
abbrev S2048x32 : Shape := ⟨2, ![2048, 32]⟩

abbrev nBuf : Space → Nat
  | .hbm => 8
  | .vmem => 17
  | .smem => 0
  | _ => 0

abbrev bufTy : (tb : Table) → Fin (tcTables nBuf tb) → BufTy
  | .hbm, ⟨0, _⟩ => ⟨S2048x2304, .bf16⟩
  | .hbm, ⟨1, _⟩ => ⟨S9216x1152, .i8⟩
  | .hbm, ⟨2, _⟩ => ⟨S9216x72, .i8⟩
  | .hbm, ⟨3, _⟩ => ⟨S9216x1152, .i8⟩
  | .hbm, ⟨4, _⟩ => ⟨S9216x72, .i8⟩
  | .hbm, ⟨5, _⟩ => ⟨S2048x9216, .fp8e4m3⟩
  | .hbm, ⟨6, _⟩ => ⟨S2048x288, .i8⟩
  | .hbm, ⟨7, _⟩ => ⟨S2048x9216, .bf16⟩
  | .local _ .vmem, ⟨0, _⟩ => ⟨S2048x2304, .bf16⟩
  | .local _ .vmem, ⟨1, _⟩ => ⟨S256x1152, .i8⟩
  | .local _ .vmem, ⟨2, _⟩ => ⟨S256x1152, .i8⟩
  | .local _ .vmem, ⟨3, _⟩ => ⟨S256x72, .i8⟩
  | .local _ .vmem, ⟨4, _⟩ => ⟨S256x72, .i8⟩
  | .local _ .vmem, ⟨5, _⟩ => ⟨S256x1152, .i8⟩
  | .local _ .vmem, ⟨6, _⟩ => ⟨S256x1152, .i8⟩
  | .local _ .vmem, ⟨7, _⟩ => ⟨S256x72, .i8⟩
  | .local _ .vmem, ⟨8, _⟩ => ⟨S256x72, .i8⟩
  | .local _ .vmem, ⟨9, _⟩ => ⟨S2048x256, .fp8e4m3⟩
  | .local _ .vmem, ⟨10, _⟩ => ⟨S2048x256, .fp8e4m3⟩
  | .local _ .vmem, ⟨11, _⟩ => ⟨S2048x288, .i8⟩
  | .local _ .vmem, ⟨12, _⟩ => ⟨S2048x256, .bf16⟩
  | .local _ .vmem, ⟨13, _⟩ => ⟨S2048x256, .bf16⟩
  | .local _ .vmem, ⟨14, _⟩ => ⟨S256x2304, .bf16⟩
  | .local _ .vmem, ⟨15, _⟩ => ⟨S256x2304, .bf16⟩
  | .local _ .vmem, ⟨16, _⟩ => ⟨S3x2048x128, .bf16⟩
  | _, _ => ⟨S2048x2304, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![36], ![false]⟩

@[reducible] def k0_t1_loop : Scf.Loop 32 :=
  let c0_i32 : BitVec 32 := 0#32
  let c4_i32 : BitVec 32 := 4#32
  let v0 : BitVec 32 := Scalar.addi c0_i32 c4_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg12 : BitVec 32 := Scf.iv c0_i32 c1_i32 k0_t1
  let c64_i32_437 : BitVec 32 := 64#32
  let v1399 : BitVec 32 := Scalar.muli arg12 c64_i32_437
  v1399
def k0_off1 (k0_t1 : Fin k0_t1_loop.trips) : Fin 2 → Nat :=
  let c0_i32 : BitVec 32 := 0#32
  let c1_i32 : BitVec 32 := 1#32
  let arg12 : BitVec 32 := Scf.iv c0_i32 c1_i32 k0_t1
  let c64_i32_437 : BitVec 32 := 64#32
  let v1399 : BitVec 32 := Scalar.muli arg12 c64_i32_437
  let v1400 : BitVec 32 := v1399
  let v1401 : Index := Scalar.indexCast v1400
  let c0_438 : Index := 0#32
  ![v1401.toNat, 0]
def k0_off2 (k0_t1 : Fin k0_t1_loop.trips) : Fin 2 → Nat :=
  let c0_i32 : BitVec 32 := 0#32
  let c1_i32 : BitVec 32 := 1#32
  let arg12 : BitVec 32 := Scf.iv c0_i32 c1_i32 k0_t1
  let c64_i32_437 : BitVec 32 := 64#32
  let v1399 : BitVec 32 := Scalar.muli arg12 c64_i32_437
  let v1400 : BitVec 32 := v1399
  let v1427 : Index := Scalar.indexCast v1400
  let c0_444 : Index := 0#32
  ![v1427.toNat, 0]
def k0_off3 (k0_t1 : Fin k0_t1_loop.trips) : Fin 2 → Nat :=
  let c0_i32 : BitVec 32 := 0#32
  let c1_i32 : BitVec 32 := 1#32
  let arg12 : BitVec 32 := Scf.iv c0_i32 c1_i32 k0_t1
  let c64_i32_437 : BitVec 32 := 64#32
  let v1399 : BitVec 32 := Scalar.muli arg12 c64_i32_437
  let v1400 : BitVec 32 := v1399
  let v1449 : Index := Scalar.indexCast v1400
  let c0_448 : Index := 0#32
  ![v1449.toNat, 0]
def k0_off4 (k0_t1 : Fin k0_t1_loop.trips) : Fin 2 → Nat :=
  let c0_i32 : BitVec 32 := 0#32
  let c1_i32 : BitVec 32 := 1#32
  let arg12 : BitVec 32 := Scf.iv c0_i32 c1_i32 k0_t1
  let c64_i32_437 : BitVec 32 := 64#32
  let v1399 : BitVec 32 := Scalar.muli arg12 c64_i32_437
  let v1400 : BitVec 32 := v1399
  let v1456 : Index := Scalar.indexCast v1400
  let c128 : Index := 128#32
  ![v1456.toNat, 128]
def k0_off5 (k0_t1 : Fin k0_t1_loop.trips) : Fin 2 → Nat :=
  let c0_i32 : BitVec 32 := 0#32
  let c1_i32 : BitVec 32 := 1#32
  let arg12 : BitVec 32 := Scf.iv c0_i32 c1_i32 k0_t1
  let c64_i32_437 : BitVec 32 := 64#32
  let v1399 : BitVec 32 := Scalar.muli arg12 c64_i32_437
  let v1400 : BitVec 32 := v1399
  let v1474 : Index := Scalar.indexCast v1400
  let c128_453 : Index := 128#32
  ![v1474.toNat, 128]
def k0_off6 (k0_t1 : Fin k0_t1_loop.trips) : Fin 2 → Nat :=
  let c0_i32 : BitVec 32 := 0#32
  let c1_i32 : BitVec 32 := 1#32
  let arg12 : BitVec 32 := Scf.iv c0_i32 c1_i32 k0_t1
  let c64_i32_437 : BitVec 32 := 64#32
  let v1399 : BitVec 32 := Scalar.muli arg12 c64_i32_437
  let v1400 : BitVec 32 := v1399
  let v1496 : Index := Scalar.indexCast v1400
  let c256 : Index := 256#32
  ![v1496.toNat, 256]
def k0_off7 (k0_t1 : Fin k0_t1_loop.trips) : Fin 2 → Nat :=
  let c0_i32 : BitVec 32 := 0#32
  let c1_i32 : BitVec 32 := 1#32
  let arg12 : BitVec 32 := Scf.iv c0_i32 c1_i32 k0_t1
  let c64_i32_437 : BitVec 32 := 64#32
  let v1399 : BitVec 32 := Scalar.muli arg12 c64_i32_437
  let v1400 : BitVec 32 := v1399
  let v1503 : Index := Scalar.indexCast v1400
  let c384 : Index := 384#32
  ![v1503.toNat, 384]
def k0_off8 (k0_t1 : Fin k0_t1_loop.trips) : Fin 2 → Nat :=
  let c0_i32 : BitVec 32 := 0#32
  let c1_i32 : BitVec 32 := 1#32
  let arg12 : BitVec 32 := Scf.iv c0_i32 c1_i32 k0_t1
  let c64_i32_437 : BitVec 32 := 64#32
  let v1399 : BitVec 32 := Scalar.muli arg12 c64_i32_437
  let v1400 : BitVec 32 := v1399
  let v1521 : Index := Scalar.indexCast v1400
  let c256_465 : Index := 256#32
  ![v1521.toNat, 256]
def k0_off9 (k0_t1 : Fin k0_t1_loop.trips) : Fin 2 → Nat :=
  let c0_i32 : BitVec 32 := 0#32
  let c1_i32 : BitVec 32 := 1#32
  let arg12 : BitVec 32 := Scf.iv c0_i32 c1_i32 k0_t1
  let c64_i32_437 : BitVec 32 := 64#32
  let v1399 : BitVec 32 := Scalar.muli arg12 c64_i32_437
  let v1400 : BitVec 32 := v1399
  let v1543 : Index := Scalar.indexCast v1400
  let c512_473 : Index := 512#32
  ![v1543.toNat, 512]
def k0_off10 (k0_t1 : Fin k0_t1_loop.trips) : Fin 2 → Nat :=
  let c0_i32 : BitVec 32 := 0#32
  let c1_i32 : BitVec 32 := 1#32
  let arg12 : BitVec 32 := Scf.iv c0_i32 c1_i32 k0_t1
  let c64_i32_437 : BitVec 32 := 64#32
  let v1399 : BitVec 32 := Scalar.muli arg12 c64_i32_437
  let v1400 : BitVec 32 := v1399
  let v1550 : Index := Scalar.indexCast v1400
  let c640 : Index := 640#32
  ![v1550.toNat, 640]
def k0_off11 (k0_t1 : Fin k0_t1_loop.trips) : Fin 2 → Nat :=
  let c0_i32 : BitVec 32 := 0#32
  let c1_i32 : BitVec 32 := 1#32
  let arg12 : BitVec 32 := Scf.iv c0_i32 c1_i32 k0_t1
  let c64_i32_437 : BitVec 32 := 64#32
  let v1399 : BitVec 32 := Scalar.muli arg12 c64_i32_437
  let v1400 : BitVec 32 := v1399
  let v1568 : Index := Scalar.indexCast v1400
  let c384_477 : Index := 384#32
  ![v1568.toNat, 384]
def k0_off12 (k0_t1 : Fin k0_t1_loop.trips) : Fin 2 → Nat :=
  let c0_i32 : BitVec 32 := 0#32
  let c1_i32 : BitVec 32 := 1#32
  let arg12 : BitVec 32 := Scf.iv c0_i32 c1_i32 k0_t1
  let c64_i32_437 : BitVec 32 := 64#32
  let v1399 : BitVec 32 := Scalar.muli arg12 c64_i32_437
  let v1400 : BitVec 32 := v1399
  let v1590 : Index := Scalar.indexCast v1400
  let c768 : Index := 768#32
  ![v1590.toNat, 768]
def k0_off13 (k0_t1 : Fin k0_t1_loop.trips) : Fin 2 → Nat :=
  let c0_i32 : BitVec 32 := 0#32
  let c1_i32 : BitVec 32 := 1#32
  let arg12 : BitVec 32 := Scf.iv c0_i32 c1_i32 k0_t1
  let c64_i32_437 : BitVec 32 := 64#32
  let v1399 : BitVec 32 := Scalar.muli arg12 c64_i32_437
  let v1400 : BitVec 32 := v1399
  let v1597 : Index := Scalar.indexCast v1400
  let c896 : Index := 896#32
  ![v1597.toNat, 896]
def k0_off14 (k0_t1 : Fin k0_t1_loop.trips) : Fin 2 → Nat :=
  let c0_i32 : BitVec 32 := 0#32
  let c1_i32 : BitVec 32 := 1#32
  let arg12 : BitVec 32 := Scf.iv c0_i32 c1_i32 k0_t1
  let c64_i32_437 : BitVec 32 := 64#32
  let v1399 : BitVec 32 := Scalar.muli arg12 c64_i32_437
  let v1400 : BitVec 32 := v1399
  let v1615 : Index := Scalar.indexCast v1400
  let c512_489 : Index := 512#32
  ![v1615.toNat, 512]
def k0_off15 (k0_t1 : Fin k0_t1_loop.trips) : Fin 2 → Nat :=
  let c0_i32 : BitVec 32 := 0#32
  let c1_i32 : BitVec 32 := 1#32
  let arg12 : BitVec 32 := Scf.iv c0_i32 c1_i32 k0_t1
  let c64_i32_437 : BitVec 32 := 64#32
  let v1399 : BitVec 32 := Scalar.muli arg12 c64_i32_437
  let v1400 : BitVec 32 := v1399
  let v1637 : Index := Scalar.indexCast v1400
  let c1024_497 : Index := 1024#32
  ![v1637.toNat, 1024]
def k0_off16 (k0_t1 : Fin k0_t1_loop.trips) : Fin 2 → Nat :=
  let c0_i32 : BitVec 32 := 0#32
  let c1_i32 : BitVec 32 := 1#32
  let arg12 : BitVec 32 := Scf.iv c0_i32 c1_i32 k0_t1
  let c64_i32_437 : BitVec 32 := 64#32
  let v1399 : BitVec 32 := Scalar.muli arg12 c64_i32_437
  let v1400 : BitVec 32 := v1399
  let v1644 : Index := Scalar.indexCast v1400
  let c1152 : Index := 1152#32
  ![v1644.toNat, 1152]
def k0_off17 (k0_t1 : Fin k0_t1_loop.trips) : Fin 2 → Nat :=
  let c0_i32 : BitVec 32 := 0#32
  let c1_i32 : BitVec 32 := 1#32
  let arg12 : BitVec 32 := Scf.iv c0_i32 c1_i32 k0_t1
  let c64_i32_437 : BitVec 32 := 64#32
  let v1399 : BitVec 32 := Scalar.muli arg12 c64_i32_437
  let v1400 : BitVec 32 := v1399
  let v1662 : Index := Scalar.indexCast v1400
  let c640_501 : Index := 640#32
  ![v1662.toNat, 640]
def k0_off18 (k0_t1 : Fin k0_t1_loop.trips) : Fin 2 → Nat :=
  let c0_i32 : BitVec 32 := 0#32
  let c1_i32 : BitVec 32 := 1#32
  let arg12 : BitVec 32 := Scf.iv c0_i32 c1_i32 k0_t1
  let c64_i32_437 : BitVec 32 := 64#32
  let v1399 : BitVec 32 := Scalar.muli arg12 c64_i32_437
  let v1400 : BitVec 32 := v1399
  let v1684 : Index := Scalar.indexCast v1400
  let c1280 : Index := 1280#32
  ![v1684.toNat, 1280]
def k0_off19 (k0_t1 : Fin k0_t1_loop.trips) : Fin 2 → Nat :=
  let c0_i32 : BitVec 32 := 0#32
  let c1_i32 : BitVec 32 := 1#32
  let arg12 : BitVec 32 := Scf.iv c0_i32 c1_i32 k0_t1
  let c64_i32_437 : BitVec 32 := 64#32
  let v1399 : BitVec 32 := Scalar.muli arg12 c64_i32_437
  let v1400 : BitVec 32 := v1399
  let v1691 : Index := Scalar.indexCast v1400
  let c1408 : Index := 1408#32
  ![v1691.toNat, 1408]
def k0_off20 (k0_t1 : Fin k0_t1_loop.trips) : Fin 2 → Nat :=
  let c0_i32 : BitVec 32 := 0#32
  let c1_i32 : BitVec 32 := 1#32
  let arg12 : BitVec 32 := Scf.iv c0_i32 c1_i32 k0_t1
  let c64_i32_437 : BitVec 32 := 64#32
  let v1399 : BitVec 32 := Scalar.muli arg12 c64_i32_437
  let v1400 : BitVec 32 := v1399
  let v1709 : Index := Scalar.indexCast v1400
  let c768_512 : Index := 768#32
  ![v1709.toNat, 768]
def k0_off21 (k0_t1 : Fin k0_t1_loop.trips) : Fin 2 → Nat :=
  let c0_i32 : BitVec 32 := 0#32
  let c1_i32 : BitVec 32 := 1#32
  let arg12 : BitVec 32 := Scf.iv c0_i32 c1_i32 k0_t1
  let c64_i32_437 : BitVec 32 := 64#32
  let v1399 : BitVec 32 := Scalar.muli arg12 c64_i32_437
  let v1400 : BitVec 32 := v1399
  let v1731 : Index := Scalar.indexCast v1400
  let c1536_520 : Index := 1536#32
  ![v1731.toNat, 1536]
def k0_off22 (k0_t1 : Fin k0_t1_loop.trips) : Fin 2 → Nat :=
  let c0_i32 : BitVec 32 := 0#32
  let c1_i32 : BitVec 32 := 1#32
  let arg12 : BitVec 32 := Scf.iv c0_i32 c1_i32 k0_t1
  let c64_i32_437 : BitVec 32 := 64#32
  let v1399 : BitVec 32 := Scalar.muli arg12 c64_i32_437
  let v1400 : BitVec 32 := v1399
  let v1738 : Index := Scalar.indexCast v1400
  let c1664 : Index := 1664#32
  ![v1738.toNat, 1664]
def k0_off23 (k0_t1 : Fin k0_t1_loop.trips) : Fin 2 → Nat :=
  let c0_i32 : BitVec 32 := 0#32
  let c1_i32 : BitVec 32 := 1#32
  let arg12 : BitVec 32 := Scf.iv c0_i32 c1_i32 k0_t1
  let c64_i32_437 : BitVec 32 := 64#32
  let v1399 : BitVec 32 := Scalar.muli arg12 c64_i32_437
  let v1400 : BitVec 32 := v1399
  let v1756 : Index := Scalar.indexCast v1400
  let c896_524 : Index := 896#32
  ![v1756.toNat, 896]
def k0_off24 (k0_t1 : Fin k0_t1_loop.trips) : Fin 2 → Nat :=
  let c0_i32 : BitVec 32 := 0#32
  let c1_i32 : BitVec 32 := 1#32
  let arg12 : BitVec 32 := Scf.iv c0_i32 c1_i32 k0_t1
  let c64_i32_437 : BitVec 32 := 64#32
  let v1399 : BitVec 32 := Scalar.muli arg12 c64_i32_437
  let v1400 : BitVec 32 := v1399
  let v1778 : Index := Scalar.indexCast v1400
  let c1792 : Index := 1792#32
  ![v1778.toNat, 1792]
def k0_off25 (k0_t1 : Fin k0_t1_loop.trips) : Fin 2 → Nat :=
  let c0_i32 : BitVec 32 := 0#32
  let c1_i32 : BitVec 32 := 1#32
  let arg12 : BitVec 32 := Scf.iv c0_i32 c1_i32 k0_t1
  let c64_i32_437 : BitVec 32 := 64#32
  let v1399 : BitVec 32 := Scalar.muli arg12 c64_i32_437
  let v1400 : BitVec 32 := v1399
  let v1785 : Index := Scalar.indexCast v1400
  let c1920 : Index := 1920#32
  ![v1785.toNat, 1920]
def k0_off26 (k0_t1 : Fin k0_t1_loop.trips) : Fin 2 → Nat :=
  let c0_i32 : BitVec 32 := 0#32
  let c1_i32 : BitVec 32 := 1#32
  let arg12 : BitVec 32 := Scf.iv c0_i32 c1_i32 k0_t1
  let c64_i32_437 : BitVec 32 := 64#32
  let v1399 : BitVec 32 := Scalar.muli arg12 c64_i32_437
  let v1400 : BitVec 32 := v1399
  let v1803 : Index := Scalar.indexCast v1400
  let c1024_536 : Index := 1024#32
  ![v1803.toNat, 1024]
def k0_off27 (k0_t1 : Fin k0_t1_loop.trips) : Fin 2 → Nat :=
  let c0_i32 : BitVec 32 := 0#32
  let c1_i32 : BitVec 32 := 1#32
  let arg12 : BitVec 32 := Scf.iv c0_i32 c1_i32 k0_t1
  let c64_i32_437 : BitVec 32 := 64#32
  let v1399 : BitVec 32 := Scalar.muli arg12 c64_i32_437
  let v1400 : BitVec 32 := v1399
  let v1825 : Index := Scalar.indexCast v1400
  let c2048 : Index := 2048#32
  ![v1825.toNat, 2048]
def k0_off28 (k0_t1 : Fin k0_t1_loop.trips) : Fin 2 → Nat :=
  let c0_i32 : BitVec 32 := 0#32
  let c1_i32 : BitVec 32 := 1#32
  let arg12 : BitVec 32 := Scf.iv c0_i32 c1_i32 k0_t1
  let c64_i32_437 : BitVec 32 := 64#32
  let v1399 : BitVec 32 := Scalar.muli arg12 c64_i32_437
  let v1400 : BitVec 32 := v1399
  let v1832 : Index := Scalar.indexCast v1400
  let c2176 : Index := 2176#32
  ![v1832.toNat, 2176]
@[reducible] def k0_t2_loop : Scf.Loop 32 :=
  let c0_i32_1 : BitVec 32 := 0#32
  let c4_i32_2 : BitVec 32 := 4#32
  let v1 : BitVec 32 := Scalar.addi c0_i32_1 c4_i32_2
  let c1_i32_3 : BitVec 32 := 1#32
  ⟨c0_i32_1, v1, c1_i32_3⟩
def k0_mult2 (k0_t2 : Fin k0_t2_loop.trips) : BitVec 32 :=
  let c0_i32_1 : BitVec 32 := 0#32
  let c1_i32_3 : BitVec 32 := 1#32
  let arg12 : BitVec 32 := Scf.iv c0_i32_1 c1_i32_3 k0_t2
  let c64_i32_437 : BitVec 32 := 64#32
  let v1399 : BitVec 32 := Scalar.muli arg12 c64_i32_437
  v1399
def k0_off29 (k0_t2 : Fin k0_t2_loop.trips) : Fin 2 → Nat :=
  let c0_i32_1 : BitVec 32 := 0#32
  let c1_i32_3 : BitVec 32 := 1#32
  let arg12 : BitVec 32 := Scf.iv c0_i32_1 c1_i32_3 k0_t2
  let c64_i32_437 : BitVec 32 := 64#32
  let v1399 : BitVec 32 := Scalar.muli arg12 c64_i32_437
  let v1400 : BitVec 32 := v1399
  let v1401 : Index := Scalar.indexCast v1400
  let c0_438 : Index := 0#32
  ![v1401.toNat, 0]
def k0_off30 (k0_t2 : Fin k0_t2_loop.trips) : Fin 2 → Nat :=
  let c0_i32_1 : BitVec 32 := 0#32
  let c1_i32_3 : BitVec 32 := 1#32
  let arg12 : BitVec 32 := Scf.iv c0_i32_1 c1_i32_3 k0_t2
  let c64_i32_437 : BitVec 32 := 64#32
  let v1399 : BitVec 32 := Scalar.muli arg12 c64_i32_437
  let v1400 : BitVec 32 := v1399
  let v1427 : Index := Scalar.indexCast v1400
  let c0_444 : Index := 0#32
  ![v1427.toNat, 0]
def k0_off31 (k0_t2 : Fin k0_t2_loop.trips) : Fin 2 → Nat :=
  let c0_i32_1 : BitVec 32 := 0#32
  let c1_i32_3 : BitVec 32 := 1#32
  let arg12 : BitVec 32 := Scf.iv c0_i32_1 c1_i32_3 k0_t2
  let c64_i32_437 : BitVec 32 := 64#32
  let v1399 : BitVec 32 := Scalar.muli arg12 c64_i32_437
  let v1400 : BitVec 32 := v1399
  let v1449 : Index := Scalar.indexCast v1400
  let c0_448 : Index := 0#32
  ![v1449.toNat, 0]
def k0_off32 (k0_t2 : Fin k0_t2_loop.trips) : Fin 2 → Nat :=
  let c0_i32_1 : BitVec 32 := 0#32
  let c1_i32_3 : BitVec 32 := 1#32
  let arg12 : BitVec 32 := Scf.iv c0_i32_1 c1_i32_3 k0_t2
  let c64_i32_437 : BitVec 32 := 64#32
  let v1399 : BitVec 32 := Scalar.muli arg12 c64_i32_437
  let v1400 : BitVec 32 := v1399
  let v1456 : Index := Scalar.indexCast v1400
  let c128 : Index := 128#32
  ![v1456.toNat, 128]
def k0_off33 (k0_t2 : Fin k0_t2_loop.trips) : Fin 2 → Nat :=
  let c0_i32_1 : BitVec 32 := 0#32
  let c1_i32_3 : BitVec 32 := 1#32
  let arg12 : BitVec 32 := Scf.iv c0_i32_1 c1_i32_3 k0_t2
  let c64_i32_437 : BitVec 32 := 64#32
  let v1399 : BitVec 32 := Scalar.muli arg12 c64_i32_437
  let v1400 : BitVec 32 := v1399
  let v1474 : Index := Scalar.indexCast v1400
  let c128_453 : Index := 128#32
  ![v1474.toNat, 128]
def k0_off34 (k0_t2 : Fin k0_t2_loop.trips) : Fin 2 → Nat :=
  let c0_i32_1 : BitVec 32 := 0#32
  let c1_i32_3 : BitVec 32 := 1#32
  let arg12 : BitVec 32 := Scf.iv c0_i32_1 c1_i32_3 k0_t2
  let c64_i32_437 : BitVec 32 := 64#32
  let v1399 : BitVec 32 := Scalar.muli arg12 c64_i32_437
  let v1400 : BitVec 32 := v1399
  let v1496 : Index := Scalar.indexCast v1400
  let c256 : Index := 256#32
  ![v1496.toNat, 256]
def k0_off35 (k0_t2 : Fin k0_t2_loop.trips) : Fin 2 → Nat :=
  let c0_i32_1 : BitVec 32 := 0#32
  let c1_i32_3 : BitVec 32 := 1#32
  let arg12 : BitVec 32 := Scf.iv c0_i32_1 c1_i32_3 k0_t2
  let c64_i32_437 : BitVec 32 := 64#32
  let v1399 : BitVec 32 := Scalar.muli arg12 c64_i32_437
  let v1400 : BitVec 32 := v1399
  let v1503 : Index := Scalar.indexCast v1400
  let c384 : Index := 384#32
  ![v1503.toNat, 384]
def k0_off36 (k0_t2 : Fin k0_t2_loop.trips) : Fin 2 → Nat :=
  let c0_i32_1 : BitVec 32 := 0#32
  let c1_i32_3 : BitVec 32 := 1#32
  let arg12 : BitVec 32 := Scf.iv c0_i32_1 c1_i32_3 k0_t2
  let c64_i32_437 : BitVec 32 := 64#32
  let v1399 : BitVec 32 := Scalar.muli arg12 c64_i32_437
  let v1400 : BitVec 32 := v1399
  let v1521 : Index := Scalar.indexCast v1400
  let c256_465 : Index := 256#32
  ![v1521.toNat, 256]
def k0_off37 (k0_t2 : Fin k0_t2_loop.trips) : Fin 2 → Nat :=
  let c0_i32_1 : BitVec 32 := 0#32
  let c1_i32_3 : BitVec 32 := 1#32
  let arg12 : BitVec 32 := Scf.iv c0_i32_1 c1_i32_3 k0_t2
  let c64_i32_437 : BitVec 32 := 64#32
  let v1399 : BitVec 32 := Scalar.muli arg12 c64_i32_437
  let v1400 : BitVec 32 := v1399
  let v1543 : Index := Scalar.indexCast v1400
  let c512_473 : Index := 512#32
  ![v1543.toNat, 512]
def k0_off38 (k0_t2 : Fin k0_t2_loop.trips) : Fin 2 → Nat :=
  let c0_i32_1 : BitVec 32 := 0#32
  let c1_i32_3 : BitVec 32 := 1#32
  let arg12 : BitVec 32 := Scf.iv c0_i32_1 c1_i32_3 k0_t2
  let c64_i32_437 : BitVec 32 := 64#32
  let v1399 : BitVec 32 := Scalar.muli arg12 c64_i32_437
  let v1400 : BitVec 32 := v1399
  let v1550 : Index := Scalar.indexCast v1400
  let c640 : Index := 640#32
  ![v1550.toNat, 640]
def k0_off39 (k0_t2 : Fin k0_t2_loop.trips) : Fin 2 → Nat :=
  let c0_i32_1 : BitVec 32 := 0#32
  let c1_i32_3 : BitVec 32 := 1#32
  let arg12 : BitVec 32 := Scf.iv c0_i32_1 c1_i32_3 k0_t2
  let c64_i32_437 : BitVec 32 := 64#32
  let v1399 : BitVec 32 := Scalar.muli arg12 c64_i32_437
  let v1400 : BitVec 32 := v1399
  let v1568 : Index := Scalar.indexCast v1400
  let c384_477 : Index := 384#32
  ![v1568.toNat, 384]
def k0_off40 (k0_t2 : Fin k0_t2_loop.trips) : Fin 2 → Nat :=
  let c0_i32_1 : BitVec 32 := 0#32
  let c1_i32_3 : BitVec 32 := 1#32
  let arg12 : BitVec 32 := Scf.iv c0_i32_1 c1_i32_3 k0_t2
  let c64_i32_437 : BitVec 32 := 64#32
  let v1399 : BitVec 32 := Scalar.muli arg12 c64_i32_437
  let v1400 : BitVec 32 := v1399
  let v1590 : Index := Scalar.indexCast v1400
  let c768 : Index := 768#32
  ![v1590.toNat, 768]
def k0_off41 (k0_t2 : Fin k0_t2_loop.trips) : Fin 2 → Nat :=
  let c0_i32_1 : BitVec 32 := 0#32
  let c1_i32_3 : BitVec 32 := 1#32
  let arg12 : BitVec 32 := Scf.iv c0_i32_1 c1_i32_3 k0_t2
  let c64_i32_437 : BitVec 32 := 64#32
  let v1399 : BitVec 32 := Scalar.muli arg12 c64_i32_437
  let v1400 : BitVec 32 := v1399
  let v1597 : Index := Scalar.indexCast v1400
  let c896 : Index := 896#32
  ![v1597.toNat, 896]
def k0_off42 (k0_t2 : Fin k0_t2_loop.trips) : Fin 2 → Nat :=
  let c0_i32_1 : BitVec 32 := 0#32
  let c1_i32_3 : BitVec 32 := 1#32
  let arg12 : BitVec 32 := Scf.iv c0_i32_1 c1_i32_3 k0_t2
  let c64_i32_437 : BitVec 32 := 64#32
  let v1399 : BitVec 32 := Scalar.muli arg12 c64_i32_437
  let v1400 : BitVec 32 := v1399
  let v1615 : Index := Scalar.indexCast v1400
  let c512_489 : Index := 512#32
  ![v1615.toNat, 512]
def k0_off43 (k0_t2 : Fin k0_t2_loop.trips) : Fin 2 → Nat :=
  let c0_i32_1 : BitVec 32 := 0#32
  let c1_i32_3 : BitVec 32 := 1#32
  let arg12 : BitVec 32 := Scf.iv c0_i32_1 c1_i32_3 k0_t2
  let c64_i32_437 : BitVec 32 := 64#32
  let v1399 : BitVec 32 := Scalar.muli arg12 c64_i32_437
  let v1400 : BitVec 32 := v1399
  let v1637 : Index := Scalar.indexCast v1400
  let c1024_497 : Index := 1024#32
  ![v1637.toNat, 1024]
def k0_off44 (k0_t2 : Fin k0_t2_loop.trips) : Fin 2 → Nat :=
  let c0_i32_1 : BitVec 32 := 0#32
  let c1_i32_3 : BitVec 32 := 1#32
  let arg12 : BitVec 32 := Scf.iv c0_i32_1 c1_i32_3 k0_t2
  let c64_i32_437 : BitVec 32 := 64#32
  let v1399 : BitVec 32 := Scalar.muli arg12 c64_i32_437
  let v1400 : BitVec 32 := v1399
  let v1644 : Index := Scalar.indexCast v1400
  let c1152 : Index := 1152#32
  ![v1644.toNat, 1152]
def k0_off45 (k0_t2 : Fin k0_t2_loop.trips) : Fin 2 → Nat :=
  let c0_i32_1 : BitVec 32 := 0#32
  let c1_i32_3 : BitVec 32 := 1#32
  let arg12 : BitVec 32 := Scf.iv c0_i32_1 c1_i32_3 k0_t2
  let c64_i32_437 : BitVec 32 := 64#32
  let v1399 : BitVec 32 := Scalar.muli arg12 c64_i32_437
  let v1400 : BitVec 32 := v1399
  let v1662 : Index := Scalar.indexCast v1400
  let c640_501 : Index := 640#32
  ![v1662.toNat, 640]
def k0_off46 (k0_t2 : Fin k0_t2_loop.trips) : Fin 2 → Nat :=
  let c0_i32_1 : BitVec 32 := 0#32
  let c1_i32_3 : BitVec 32 := 1#32
  let arg12 : BitVec 32 := Scf.iv c0_i32_1 c1_i32_3 k0_t2
  let c64_i32_437 : BitVec 32 := 64#32
  let v1399 : BitVec 32 := Scalar.muli arg12 c64_i32_437
  let v1400 : BitVec 32 := v1399
  let v1684 : Index := Scalar.indexCast v1400
  let c1280 : Index := 1280#32
  ![v1684.toNat, 1280]
def k0_off47 (k0_t2 : Fin k0_t2_loop.trips) : Fin 2 → Nat :=
  let c0_i32_1 : BitVec 32 := 0#32
  let c1_i32_3 : BitVec 32 := 1#32
  let arg12 : BitVec 32 := Scf.iv c0_i32_1 c1_i32_3 k0_t2
  let c64_i32_437 : BitVec 32 := 64#32
  let v1399 : BitVec 32 := Scalar.muli arg12 c64_i32_437
  let v1400 : BitVec 32 := v1399
  let v1691 : Index := Scalar.indexCast v1400
  let c1408 : Index := 1408#32
  ![v1691.toNat, 1408]
def k0_off48 (k0_t2 : Fin k0_t2_loop.trips) : Fin 2 → Nat :=
  let c0_i32_1 : BitVec 32 := 0#32
  let c1_i32_3 : BitVec 32 := 1#32
  let arg12 : BitVec 32 := Scf.iv c0_i32_1 c1_i32_3 k0_t2
  let c64_i32_437 : BitVec 32 := 64#32
  let v1399 : BitVec 32 := Scalar.muli arg12 c64_i32_437
  let v1400 : BitVec 32 := v1399
  let v1709 : Index := Scalar.indexCast v1400
  let c768_512 : Index := 768#32
  ![v1709.toNat, 768]
def k0_off49 (k0_t2 : Fin k0_t2_loop.trips) : Fin 2 → Nat :=
  let c0_i32_1 : BitVec 32 := 0#32
  let c1_i32_3 : BitVec 32 := 1#32
  let arg12 : BitVec 32 := Scf.iv c0_i32_1 c1_i32_3 k0_t2
  let c64_i32_437 : BitVec 32 := 64#32
  let v1399 : BitVec 32 := Scalar.muli arg12 c64_i32_437
  let v1400 : BitVec 32 := v1399
  let v1731 : Index := Scalar.indexCast v1400
  let c1536_520 : Index := 1536#32
  ![v1731.toNat, 1536]
def k0_off50 (k0_t2 : Fin k0_t2_loop.trips) : Fin 2 → Nat :=
  let c0_i32_1 : BitVec 32 := 0#32
  let c1_i32_3 : BitVec 32 := 1#32
  let arg12 : BitVec 32 := Scf.iv c0_i32_1 c1_i32_3 k0_t2
  let c64_i32_437 : BitVec 32 := 64#32
  let v1399 : BitVec 32 := Scalar.muli arg12 c64_i32_437
  let v1400 : BitVec 32 := v1399
  let v1738 : Index := Scalar.indexCast v1400
  let c1664 : Index := 1664#32
  ![v1738.toNat, 1664]
def k0_off51 (k0_t2 : Fin k0_t2_loop.trips) : Fin 2 → Nat :=
  let c0_i32_1 : BitVec 32 := 0#32
  let c1_i32_3 : BitVec 32 := 1#32
  let arg12 : BitVec 32 := Scf.iv c0_i32_1 c1_i32_3 k0_t2
  let c64_i32_437 : BitVec 32 := 64#32
  let v1399 : BitVec 32 := Scalar.muli arg12 c64_i32_437
  let v1400 : BitVec 32 := v1399
  let v1756 : Index := Scalar.indexCast v1400
  let c896_524 : Index := 896#32
  ![v1756.toNat, 896]
def k0_off52 (k0_t2 : Fin k0_t2_loop.trips) : Fin 2 → Nat :=
  let c0_i32_1 : BitVec 32 := 0#32
  let c1_i32_3 : BitVec 32 := 1#32
  let arg12 : BitVec 32 := Scf.iv c0_i32_1 c1_i32_3 k0_t2
  let c64_i32_437 : BitVec 32 := 64#32
  let v1399 : BitVec 32 := Scalar.muli arg12 c64_i32_437
  let v1400 : BitVec 32 := v1399
  let v1778 : Index := Scalar.indexCast v1400
  let c1792 : Index := 1792#32
  ![v1778.toNat, 1792]
def k0_off53 (k0_t2 : Fin k0_t2_loop.trips) : Fin 2 → Nat :=
  let c0_i32_1 : BitVec 32 := 0#32
  let c1_i32_3 : BitVec 32 := 1#32
  let arg12 : BitVec 32 := Scf.iv c0_i32_1 c1_i32_3 k0_t2
  let c64_i32_437 : BitVec 32 := 64#32
  let v1399 : BitVec 32 := Scalar.muli arg12 c64_i32_437
  let v1400 : BitVec 32 := v1399
  let v1785 : Index := Scalar.indexCast v1400
  let c1920 : Index := 1920#32
  ![v1785.toNat, 1920]
def k0_off54 (k0_t2 : Fin k0_t2_loop.trips) : Fin 2 → Nat :=
  let c0_i32_1 : BitVec 32 := 0#32
  let c1_i32_3 : BitVec 32 := 1#32
  let arg12 : BitVec 32 := Scf.iv c0_i32_1 c1_i32_3 k0_t2
  let c64_i32_437 : BitVec 32 := 64#32
  let v1399 : BitVec 32 := Scalar.muli arg12 c64_i32_437
  let v1400 : BitVec 32 := v1399
  let v1803 : Index := Scalar.indexCast v1400
  let c1024_536 : Index := 1024#32
  ![v1803.toNat, 1024]
def k0_off55 (k0_t2 : Fin k0_t2_loop.trips) : Fin 2 → Nat :=
  let c0_i32_1 : BitVec 32 := 0#32
  let c1_i32_3 : BitVec 32 := 1#32
  let arg12 : BitVec 32 := Scf.iv c0_i32_1 c1_i32_3 k0_t2
  let c64_i32_437 : BitVec 32 := 64#32
  let v1399 : BitVec 32 := Scalar.muli arg12 c64_i32_437
  let v1400 : BitVec 32 := v1399
  let v1825 : Index := Scalar.indexCast v1400
  let c2048 : Index := 2048#32
  ![v1825.toNat, 2048]
def k0_off56 (k0_t2 : Fin k0_t2_loop.trips) : Fin 2 → Nat :=
  let c0_i32_1 : BitVec 32 := 0#32
  let c1_i32_3 : BitVec 32 := 1#32
  let arg12 : BitVec 32 := Scf.iv c0_i32_1 c1_i32_3 k0_t2
  let c64_i32_437 : BitVec 32 := 64#32
  let v1399 : BitVec 32 := Scalar.muli arg12 c64_i32_437
  let v1400 : BitVec 32 := v1399
  let v1832 : Index := Scalar.indexCast v1400
  let c2176 : Index := 2176#32
  ![v1832.toNat, 2176]
def k0_off57 (i : grid0.Coords) : Fin 3 → Nat :=
  let arg0 : BitVec 32 := BitVec.ofNat 32 (i 0).val
  let c4_i32_5 : BitVec 32 := 4#32
  let v2 : BitVec 32 := Scalar.shrui arg0 c4_i32_5
  let v344 : Index := Scalar.indexCast v2
  let c0_102 : Index := 0#32
  let c0_103 : Index := 0#32
  ![v344.toNat, 0, 0]
def k0_off58 (i : grid0.Coords) : Fin 3 → Nat :=
  let arg0 : BitVec 32 := BitVec.ofNat 32 (i 0).val
  let c4_i32_5 : BitVec 32 := 4#32
  let v2 : BitVec 32 := Scalar.shrui arg0 c4_i32_5
  let v692 : Index := Scalar.indexCast v2
  let c512_212 : Index := 512#32
  let c0_213 : Index := 0#32
  ![v692.toNat, 512, 0]
def k0_off59 (i : grid0.Coords) : Fin 3 → Nat :=
  let arg0 : BitVec 32 := BitVec.ofNat 32 (i 0).val
  let c4_i32_5 : BitVec 32 := 4#32
  let v2 : BitVec 32 := Scalar.shrui arg0 c4_i32_5
  let v1040 : Index := Scalar.indexCast v2
  let c1024_322 : Index := 1024#32
  let c0_323 : Index := 0#32
  ![v1040.toNat, 1024, 0]
def k0_off60 (i : grid0.Coords) : Fin 3 → Nat :=
  let arg0 : BitVec 32 := BitVec.ofNat 32 (i 0).val
  let c4_i32_5 : BitVec 32 := 4#32
  let v2 : BitVec 32 := Scalar.shrui arg0 c4_i32_5
  let v1388 : Index := Scalar.indexCast v2
  let c1536_432 : Index := 1536#32
  let c0_433 : Index := 0#32
  ![v1388.toNat, 1536, 0]
def k0_cond1 (i : grid0.Coords) : BitVec 1 :=
  let arg0 : BitVec 32 := BitVec.ofNat 32 (i 0).val
  let c35_i32 : BitVec 32 := 35#32
  let v1396 : BitVec 1 := Scalar.cmpi .eq arg0 c35_i32
  let v1397 : BitVec 32 := Scalar.extui v1396
  let c0_i32_436 : BitVec 32 := 0#32
  let v1398 : BitVec 1 := Scalar.cmpi .ne v1397 c0_i32_436
  v1398

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2048x2304 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x1152 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x72 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1152 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x72 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x256 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S2048x288 .i8 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== RFfnIdeal.lean ====
abbrev S2048x2304 : Shape := ⟨2, ![2048, 2304]⟩
abbrev S9216x1152 : Shape := ⟨2, ![9216, 1152]⟩
abbrev S9216x72 : Shape := ⟨2, ![9216, 72]⟩
abbrev S2048x9x2x128 : Shape := ⟨4, ![2048, 9, 2, 128]⟩
abbrev S2048x9x1x128 : Shape := ⟨4, ![2048, 9, 1, 128]⟩
abbrev S2048x9x128 : Shape := ⟨3, ![2048, 9, 128]⟩
abbrev S2048x1152 : Shape := ⟨2, ![2048, 1152]⟩
abbrev S_ : Shape := ⟨0, ![]⟩
abbrev S9216x72x1 : Shape := ⟨3, ![9216, 72, 1]⟩
abbrev S9216x72x16 : Shape := ⟨3, ![9216, 72, 16]⟩
abbrev S2048x9216 : Shape := ⟨2, ![2048, 9216]⟩
abbrev S2048x288x32 : Shape := ⟨3, ![2048, 288, 32]⟩
abbrev S2048x288 : Shape := ⟨2, ![2048, 288]⟩
abbrev S2048x288x1 : Shape := ⟨3, ![2048, 288, 1]⟩
abbrev S2048x36x128x2 : Shape := ⟨4, ![2048, 36, 128, 2]⟩
abbrev S2048x36x2x128 : Shape := ⟨4, ![2048, 36, 2, 128]⟩

abbrev nBuf : Space → Nat
  | .hbm => 341
  | .vmem => 7
  | .smem => 0
  | _ => 0

abbrev hbmTy0_0 (i : Nat) : BufTy := match i % 128 with
  | 0 => ⟨S2048x2304, .bf16⟩
  | 1 => ⟨S9216x1152, .i8⟩
  | 2 => ⟨S9216x72, .i8⟩
  | 3 => ⟨S9216x1152, .i8⟩
  | 4 => ⟨S9216x72, .i8⟩
  | 5 => ⟨S2048x9x2x128, .bf16⟩
  | 6 => ⟨S2048x9x1x128, .bf16⟩
  | 7 => ⟨S2048x9x128, .bf16⟩
  | 8 => ⟨S2048x1152, .bf16⟩
  | 9 => ⟨S2048x9x1x128, .bf16⟩
  | 10 => ⟨S2048x9x128, .bf16⟩
  | 11 => ⟨S2048x1152, .bf16⟩
  | 12 => ⟨S9216x1152, .i32⟩
  | 13 => ⟨S9216x72, .i32⟩
  | 14 => ⟨S9216x72, .f32⟩
  | 15 => ⟨S_, .f32⟩
  | 16 => ⟨S9216x72, .f32⟩
  | 17 => ⟨S9216x72, .f32⟩
  | 18 => ⟨S_, .f32⟩
  | 19 => ⟨S9216x72, .f32⟩
  | 20 => ⟨S9216x72, .f32⟩
  | 21 => ⟨S9216x72, .bf16⟩
  | 22 => ⟨S9216x72x1, .bf16⟩
  | 23 => ⟨S_, .i32⟩
  | 24 => ⟨S9216x1152, .i32⟩
  | 25 => ⟨S9216x1152, .i32⟩
  | 26 => ⟨S_, .i32⟩
  | 27 => ⟨S9216x1152, .i32⟩
  | 28 => ⟨S9216x1152, .i32⟩
  | 29 => ⟨S_, .i32⟩
  | 30 => ⟨S9216x1152, .i32⟩
  | 31 => ⟨S9216x1152, .i1⟩
  | 32 => ⟨S_, .i32⟩
  | 33 => ⟨S9216x1152, .i32⟩
  | 34 => ⟨S9216x1152, .i32⟩
  | 35 => ⟨S_, .i32⟩
  | 36 => ⟨S9216x1152, .i32⟩
  | 37 => ⟨S9216x1152, .i1⟩
  | 38 => ⟨S_, .i32⟩
  | 39 => ⟨S9216x1152, .i32⟩
  | 40 => ⟨S9216x1152, .i32⟩
  | 41 => ⟨S_, .i32⟩
  | 42 => ⟨S9216x1152, .i32⟩
  | 43 => ⟨S9216x1152, .i1⟩
  | 44 => ⟨S_, .i32⟩
  | 45 => ⟨S9216x1152, .i32⟩
  | 46 => ⟨S9216x1152, .i32⟩
  | 47 => ⟨S_, .i32⟩
  | 48 => ⟨S9216x1152, .i32⟩
  | 49 => ⟨S9216x1152, .i1⟩
  | 50 => ⟨S_, .bf16⟩
  | 51 => ⟨S_, .bf16⟩
  | 52 => ⟨S9216x1152, .bf16⟩
  | 53 => ⟨S9216x1152, .bf16⟩
  | 54 => ⟨S9216x1152, .bf16⟩
  | 55 => ⟨S_, .bf16⟩
  | 56 => ⟨S_, .bf16⟩
  | 57 => ⟨S9216x1152, .bf16⟩
  | 58 => ⟨S9216x1152, .bf16⟩
  | 59 => ⟨S9216x1152, .bf16⟩
  | 60 => ⟨S9216x1152, .bf16⟩
  | 61 => ⟨S_, .bf16⟩
  | 62 => ⟨S_, .bf16⟩
  | 63 => ⟨S9216x1152, .bf16⟩
  | 64 => ⟨S9216x1152, .bf16⟩
  | 65 => ⟨S9216x1152, .bf16⟩
  | 66 => ⟨S_, .bf16⟩
  | 67 => ⟨S_, .bf16⟩
  | 68 => ⟨S9216x1152, .bf16⟩
  | 69 => ⟨S9216x1152, .bf16⟩
  | 70 => ⟨S9216x1152, .bf16⟩
  | 71 => ⟨S9216x1152, .bf16⟩
  | 72 => ⟨S9216x1152, .bf16⟩
  | 73 => ⟨S9216x1152, .bf16⟩
  | 74 => ⟨S9216x1152, .bf16⟩
  | 75 => ⟨S9216x72x16, .bf16⟩
  | 76 => ⟨S9216x72x16, .bf16⟩
  | 77 => ⟨S9216x72x16, .bf16⟩
  | 78 => ⟨S9216x1152, .bf16⟩
  | 79 => ⟨S_, .i32⟩
  | 80 => ⟨S9216x1152, .i32⟩
  | 81 => ⟨S9216x1152, .i32⟩
  | 82 => ⟨S_, .i32⟩
  | 83 => ⟨S9216x1152, .i32⟩
  | 84 => ⟨S9216x1152, .i32⟩
  | 85 => ⟨S_, .i32⟩
  | 86 => ⟨S9216x1152, .i32⟩
  | 87 => ⟨S9216x1152, .i1⟩
  | 88 => ⟨S_, .i32⟩
  | 89 => ⟨S9216x1152, .i32⟩
  | 90 => ⟨S9216x1152, .i32⟩
  | 91 => ⟨S_, .i32⟩
  | 92 => ⟨S9216x1152, .i32⟩
  | 93 => ⟨S9216x1152, .i1⟩
  | 94 => ⟨S_, .i32⟩
  | 95 => ⟨S9216x1152, .i32⟩
  | 96 => ⟨S9216x1152, .i32⟩
  | 97 => ⟨S_, .i32⟩
  | 98 => ⟨S9216x1152, .i32⟩
  | 99 => ⟨S9216x1152, .i1⟩
  | 100 => ⟨S_, .i32⟩
  | 101 => ⟨S9216x1152, .i32⟩
  | 102 => ⟨S9216x1152, .i32⟩
  | 103 => ⟨S_, .i32⟩
  | 104 => ⟨S9216x1152, .i32⟩
  | 105 => ⟨S9216x1152, .i1⟩
  | 106 => ⟨S_, .bf16⟩
  | 107 => ⟨S_, .bf16⟩
  | 108 => ⟨S9216x1152, .bf16⟩
  | 109 => ⟨S9216x1152, .bf16⟩
  | 110 => ⟨S9216x1152, .bf16⟩
  | 111 => ⟨S_, .bf16⟩
  | 112 => ⟨S_, .bf16⟩
  | 113 => ⟨S9216x1152, .bf16⟩
  | 114 => ⟨S9216x1152, .bf16⟩
  | 115 => ⟨S9216x1152, .bf16⟩
  | 116 => ⟨S9216x1152, .bf16⟩
  | 117 => ⟨S_, .bf16⟩
  | 118 => ⟨S_, .bf16⟩
  | 119 => ⟨S9216x1152, .bf16⟩
  | 120 => ⟨S9216x1152, .bf16⟩
  | 121 => ⟨S9216x1152, .bf16⟩
  | 122 => ⟨S_, .bf16⟩
  | 123 => ⟨S_, .bf16⟩
  | 124 => ⟨S9216x1152, .bf16⟩
  | 125 => ⟨S9216x1152, .bf16⟩
  | 126 => ⟨S9216x1152, .bf16⟩
  | 127 => ⟨S9216x1152, .bf16⟩
  | _ => ⟨S2048x2304, .bf16⟩

abbrev hbmTy0_1 (i : Nat) : BufTy := match i % 128 with
  | 0 => ⟨S9216x1152, .bf16⟩
  | 1 => ⟨S9216x1152, .bf16⟩
  | 2 => ⟨S9216x1152, .bf16⟩
  | 3 => ⟨S9216x72x16, .bf16⟩
  | 4 => ⟨S9216x72x16, .bf16⟩
  | 5 => ⟨S9216x72x16, .bf16⟩
  | 6 => ⟨S9216x1152, .bf16⟩
  | 7 => ⟨S2048x9216, .f32⟩
  | 8 => ⟨S2048x9216, .f32⟩
  | 9 => ⟨S2048x9216, .f32⟩
  | 10 => ⟨S9216x1152, .i32⟩
  | 11 => ⟨S9216x72, .i32⟩
  | 12 => ⟨S9216x72, .f32⟩
  | 13 => ⟨S_, .f32⟩
  | 14 => ⟨S9216x72, .f32⟩
  | 15 => ⟨S9216x72, .f32⟩
  | 16 => ⟨S_, .f32⟩
  | 17 => ⟨S9216x72, .f32⟩
  | 18 => ⟨S9216x72, .f32⟩
  | 19 => ⟨S9216x72, .bf16⟩
  | 20 => ⟨S9216x72x1, .bf16⟩
  | 21 => ⟨S_, .i32⟩
  | 22 => ⟨S9216x1152, .i32⟩
  | 23 => ⟨S9216x1152, .i32⟩
  | 24 => ⟨S_, .i32⟩
  | 25 => ⟨S9216x1152, .i32⟩
  | 26 => ⟨S9216x1152, .i32⟩
  | 27 => ⟨S_, .i32⟩
  | 28 => ⟨S9216x1152, .i32⟩
  | 29 => ⟨S9216x1152, .i1⟩
  | 30 => ⟨S_, .i32⟩
  | 31 => ⟨S9216x1152, .i32⟩
  | 32 => ⟨S9216x1152, .i32⟩
  | 33 => ⟨S_, .i32⟩
  | 34 => ⟨S9216x1152, .i32⟩
  | 35 => ⟨S9216x1152, .i1⟩
  | 36 => ⟨S_, .i32⟩
  | 37 => ⟨S9216x1152, .i32⟩
  | 38 => ⟨S9216x1152, .i32⟩
  | 39 => ⟨S_, .i32⟩
  | 40 => ⟨S9216x1152, .i32⟩
  | 41 => ⟨S9216x1152, .i1⟩
  | 42 => ⟨S_, .i32⟩
  | 43 => ⟨S9216x1152, .i32⟩
  | 44 => ⟨S9216x1152, .i32⟩
  | 45 => ⟨S_, .i32⟩
  | 46 => ⟨S9216x1152, .i32⟩
  | 47 => ⟨S9216x1152, .i1⟩
  | 48 => ⟨S_, .bf16⟩
  | 49 => ⟨S_, .bf16⟩
  | 50 => ⟨S9216x1152, .bf16⟩
  | 51 => ⟨S9216x1152, .bf16⟩
  | 52 => ⟨S9216x1152, .bf16⟩
  | 53 => ⟨S_, .bf16⟩
  | 54 => ⟨S_, .bf16⟩
  | 55 => ⟨S9216x1152, .bf16⟩
  | 56 => ⟨S9216x1152, .bf16⟩
  | 57 => ⟨S9216x1152, .bf16⟩
  | 58 => ⟨S9216x1152, .bf16⟩
  | 59 => ⟨S_, .bf16⟩
  | 60 => ⟨S_, .bf16⟩
  | 61 => ⟨S9216x1152, .bf16⟩
  | 62 => ⟨S9216x1152, .bf16⟩
  | 63 => ⟨S9216x1152, .bf16⟩
  | 64 => ⟨S_, .bf16⟩
  | 65 => ⟨S_, .bf16⟩
  | 66 => ⟨S9216x1152, .bf16⟩
  | 67 => ⟨S9216x1152, .bf16⟩
  | 68 => ⟨S9216x1152, .bf16⟩
  | 69 => ⟨S9216x1152, .bf16⟩
  | 70 => ⟨S9216x1152, .bf16⟩
  | 71 => ⟨S9216x1152, .bf16⟩
  | 72 => ⟨S9216x1152, .bf16⟩
  | 73 => ⟨S9216x72x16, .bf16⟩
  | 74 => ⟨S9216x72x16, .bf16⟩
  | 75 => ⟨S9216x72x16, .bf16⟩
  | 76 => ⟨S9216x1152, .bf16⟩
  | 77 => ⟨S_, .i32⟩
  | 78 => ⟨S9216x1152, .i32⟩
  | 79 => ⟨S9216x1152, .i32⟩
  | 80 => ⟨S_, .i32⟩
  | 81 => ⟨S9216x1152, .i32⟩
  | 82 => ⟨S9216x1152, .i32⟩
  | 83 => ⟨S_, .i32⟩
  | 84 => ⟨S9216x1152, .i32⟩
  | 85 => ⟨S9216x1152, .i1⟩
  | 86 => ⟨S_, .i32⟩
  | 87 => ⟨S9216x1152, .i32⟩
  | 88 => ⟨S9216x1152, .i32⟩
  | 89 => ⟨S_, .i32⟩
  | 90 => ⟨S9216x1152, .i32⟩
  | 91 => ⟨S9216x1152, .i1⟩
  | 92 => ⟨S_, .i32⟩
  | 93 => ⟨S9216x1152, .i32⟩
  | 94 => ⟨S9216x1152, .i32⟩
  | 95 => ⟨S_, .i32⟩
  | 96 => ⟨S9216x1152, .i32⟩
  | 97 => ⟨S9216x1152, .i1⟩
  | 98 => ⟨S_, .i32⟩
  | 99 => ⟨S9216x1152, .i32⟩
  | 100 => ⟨S9216x1152, .i32⟩
  | 101 => ⟨S_, .i32⟩
  | 102 => ⟨S9216x1152, .i32⟩
  | 103 => ⟨S9216x1152, .i1⟩
  | 104 => ⟨S_, .bf16⟩
  | 105 => ⟨S_, .bf16⟩
  | 106 => ⟨S9216x1152, .bf16⟩
  | 107 => ⟨S9216x1152, .bf16⟩
  | 108 => ⟨S9216x1152, .bf16⟩
  | 109 => ⟨S_, .bf16⟩
  | 110 => ⟨S_, .bf16⟩
  | 111 => ⟨S9216x1152, .bf16⟩
  | 112 => ⟨S9216x1152, .bf16⟩
  | 113 => ⟨S9216x1152, .bf16⟩
  | 114 => ⟨S9216x1152, .bf16⟩
  | 115 => ⟨S_, .bf16⟩
  | 116 => ⟨S_, .bf16⟩
  | 117 => ⟨S9216x1152, .bf16⟩
  | 118 => ⟨S9216x1152, .bf16⟩
  | 119 => ⟨S9216x1152, .bf16⟩
  | 120 => ⟨S_, .bf16⟩
  | 121 => ⟨S_, .bf16⟩
  | 122 => ⟨S9216x1152, .bf16⟩
  | 123 => ⟨S9216x1152, .bf16⟩
  | 124 => ⟨S9216x1152, .bf16⟩
  | 125 => ⟨S9216x1152, .bf16⟩
  | 126 => ⟨S9216x1152, .bf16⟩
  | 127 => ⟨S9216x1152, .bf16⟩
  | _ => ⟨S2048x2304, .bf16⟩

abbrev hbmTy0_2 (i : Nat) : BufTy := match i % 128 with
  | 0 => ⟨S9216x1152, .bf16⟩
  | 1 => ⟨S9216x72x16, .bf16⟩
  | 2 => ⟨S9216x72x16, .bf16⟩
  | 3 => ⟨S9216x72x16, .bf16⟩
  | 4 => ⟨S9216x1152, .bf16⟩
  | 5 => ⟨S2048x9216, .f32⟩
  | 6 => ⟨S2048x9216, .f32⟩
  | 7 => ⟨S2048x9216, .f32⟩
  | 8 => ⟨S2048x9216, .f32⟩
  | 9 => ⟨S2048x9216, .f32⟩
  | 10 => ⟨S_, .f32⟩
  | 11 => ⟨S2048x9216, .f32⟩
  | 12 => ⟨S2048x9216, .f32⟩
  | 13 => ⟨S_, .f32⟩
  | 14 => ⟨S2048x9216, .f32⟩
  | 15 => ⟨S2048x9216, .f32⟩
  | 16 => ⟨S2048x9216, .f32⟩
  | 17 => ⟨S2048x9216, .f32⟩
  | 18 => ⟨S2048x288x32, .f32⟩
  | 19 => ⟨S2048x288x32, .f32⟩
  | 20 => ⟨S_, .f32⟩
  | 21 => ⟨S2048x288, .f32⟩
  | 22 => ⟨S2048x288, .f32⟩
  | 23 => ⟨S_, .f32⟩
  | 24 => ⟨S2048x288, .f32⟩
  | 25 => ⟨S2048x288, .f32⟩
  | 26 => ⟨S2048x288, .f32⟩
  | 27 => ⟨S2048x288, .f32⟩
  | 28 => ⟨S_, .f32⟩
  | 29 => ⟨S2048x288, .f32⟩
  | 30 => ⟨S2048x288, .f32⟩
  | 31 => ⟨S_, .f32⟩
  | 32 => ⟨S2048x288, .f32⟩
  | 33 => ⟨S2048x288, .i1⟩
  | 34 => ⟨S_, .f32⟩
  | 35 => ⟨S2048x288, .f32⟩
  | 36 => ⟨S_, .f32⟩
  | 37 => ⟨S2048x288, .f32⟩
  | 38 => ⟨S2048x288, .f32⟩
  | 39 => ⟨S2048x288, .f32⟩
  | 40 => ⟨S_, .f32⟩
  | 41 => ⟨S_, .f32⟩
  | 42 => ⟨S_, .f32⟩
  | 43 => ⟨S2048x288, .f32⟩
  | 44 => ⟨S2048x288, .f32⟩
  | 45 => ⟨S_, .f32⟩
  | 46 => ⟨S2048x288, .f32⟩
  | 47 => ⟨S2048x288, .f32⟩
  | 48 => ⟨S2048x288, .f32⟩
  | 49 => ⟨S_, .f32⟩
  | 50 => ⟨S2048x288, .f32⟩
  | 51 => ⟨S2048x288, .f32⟩
  | 52 => ⟨S2048x288x1, .f32⟩
  | 53 => ⟨S2048x288x32, .f32⟩
  | 54 => ⟨S2048x9216, .f32⟩
  | 55 => ⟨S2048x9216, .f32⟩
  | 56 => ⟨S_, .f32⟩
  | 57 => ⟨S_, .f32⟩
  | 58 => ⟨S_, .f32⟩
  | 59 => ⟨S2048x9216, .f32⟩
  | 60 => ⟨S2048x9216, .f32⟩
  | 61 => ⟨S_, .f32⟩
  | 62 => ⟨S2048x9216, .f32⟩
  | 63 => ⟨S2048x9216, .f32⟩
  | 64 => ⟨S_, .f32⟩
  | 65 => ⟨S2048x288, .f32⟩
  | 66 => ⟨S2048x288, .f32⟩
  | 67 => ⟨S2048x288x1, .f32⟩
  | 68 => ⟨S2048x288x32, .f32⟩
  | 69 => ⟨S2048x9216, .f32⟩
  | 70 => ⟨S2048x9216, .bf16⟩
  | 71 => ⟨S2048x288, .i32⟩
  | 72 => ⟨S_, .i32⟩
  | 73 => ⟨S2048x288, .i32⟩
  | 74 => ⟨S2048x288, .i32⟩
  | 75 => ⟨S2048x288, .i8⟩
  | 76 => ⟨S2048x36x128x2, .f32⟩
  | 77 => ⟨S2048x36x2x128, .f32⟩
  | 78 => ⟨S2048x9216, .f32⟩
  | 79 => ⟨S2048x36x128x2, .bf16⟩
  | 80 => ⟨S2048x36x2x128, .bf16⟩
  | 81 => ⟨S2048x9216, .bf16⟩
  | 82 => ⟨S2048x9216, .fp8e4m3⟩
  | 83 => ⟨S2048x288, .i8⟩
  | 84 => ⟨S2048x9216, .bf16⟩
  | _ => ⟨S2048x2304, .bf16⟩

abbrev hbmTy (i : Nat) : BufTy := match i / 128 with
  | 0 => hbmTy0_0 i
  | 1 => hbmTy0_1 i
  | 2 => hbmTy0_2 i
  | _ => ⟨S2048x2304, .bf16⟩

abbrev bufTy : (tb : Table) → Fin (tcTables nBuf tb) → BufTy
  | .hbm, ⟨i, _⟩ => hbmTy i
  | .local _ .vmem, ⟨0, _⟩ => ⟨S2048x9216, .f32⟩
  | .local _ .vmem, ⟨1, _⟩ => ⟨S2048x9216, .f32⟩
  | .local _ .vmem, ⟨2, _⟩ => ⟨S2048x9216, .bf16⟩
  | .local _ .vmem, ⟨3, _⟩ => ⟨S2048x288, .i8⟩
  | .local _ .vmem, ⟨4, _⟩ => ⟨S2048x9216, .fp8e4m3⟩
  | .local _ .vmem, ⟨5, _⟩ => ⟨S2048x288, .i8⟩
  | .local _ .vmem, ⟨6, _⟩ => ⟨S2048x9216, .bf16⟩
  | _, _ => ⟨S2048x2304, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c : Ref sig .tc := ⟨.hbm, 23, rfl⟩
abbrev main_v16 : Ref sig .tc := ⟨.hbm, 24, rfl⟩
abbrev main_v17 : Ref sig .tc := ⟨.hbm, 25, rfl⟩
abbrev main_c_1 : Ref sig .tc := ⟨.hbm, 26, rfl⟩
abbrev main_v18 : Ref sig .tc := ⟨.hbm, 27, rfl⟩
abbrev main_v19 : Ref sig .tc := ⟨.hbm, 28, rfl⟩
abbrev main_c_2 : Ref sig .tc := ⟨.hbm, 29, rfl⟩
abbrev main_v20 : Ref sig .tc := ⟨.hbm, 30, rfl⟩
abbrev main_v21 : Ref sig .tc := ⟨.hbm, 31, rfl⟩
abbrev main_c_3 : Ref sig .tc := ⟨.hbm, 32, rfl⟩
abbrev main_v22 : Ref sig .tc := ⟨.hbm, 33, rfl⟩
abbrev main_v23 : Ref sig .tc := ⟨.hbm, 34, rfl⟩
abbrev main_c_4 : Ref sig .tc := ⟨.hbm, 35, rfl⟩
abbrev main_v24 : Ref sig .tc := ⟨.hbm, 36, rfl⟩
abbrev main_v25 : Ref sig .tc := ⟨.hbm, 37, rfl⟩
abbrev main_c_5 : Ref sig .tc := ⟨.hbm, 38, rfl⟩
abbrev main_v26 : Ref sig .tc := ⟨.hbm, 39, rfl⟩
abbrev main_v27 : Ref sig .tc := ⟨.hbm, 40, rfl⟩
abbrev main_c_6 : Ref sig .tc := ⟨.hbm, 41, rfl⟩
abbrev main_v28 : Ref sig .tc := ⟨.hbm, 42, rfl⟩
abbrev main_v29 : Ref sig .tc := ⟨.hbm, 43, rfl⟩
abbrev main_c_7 : Ref sig .tc := ⟨.hbm, 44, rfl⟩
abbrev main_v30 : Ref sig .tc := ⟨.hbm, 45, rfl⟩
abbrev main_v31 : Ref sig .tc := ⟨.hbm, 46, rfl⟩
abbrev main_c_8 : Ref sig .tc := ⟨.hbm, 47, rfl⟩
abbrev main_v32 : Ref sig .tc := ⟨.hbm, 48, rfl⟩
abbrev main_v33 : Ref sig .tc := ⟨.hbm, 49, rfl⟩
abbrev main_cst_9 : Ref sig .tc := ⟨.hbm, 50, rfl⟩
abbrev main_cst_10 : Ref sig .tc := ⟨.hbm, 51, rfl⟩
abbrev main_call0_v0 : Ref sig .tc := ⟨.hbm, 52, rfl⟩
abbrev main_call0_v1 : Ref sig .tc := ⟨.hbm, 53, rfl⟩
abbrev main_v34 : Ref sig .tc := ⟨.hbm, 54, rfl⟩
abbrev main_cst_11 : Ref sig .tc := ⟨.hbm, 55, rfl⟩
abbrev main_cst_12 : Ref sig .tc := ⟨.hbm, 56, rfl⟩
abbrev main_call1_v0 : Ref sig .tc := ⟨.hbm, 57, rfl⟩
abbrev main_call1_v1 : Ref sig .tc := ⟨.hbm, 58, rfl⟩
abbrev main_v35 : Ref sig .tc := ⟨.hbm, 59, rfl⟩
abbrev main_v36 : Ref sig .tc := ⟨.hbm, 60, rfl⟩
abbrev main_cst_13 : Ref sig .tc := ⟨.hbm, 61, rfl⟩
abbrev main_cst_14 : Ref sig .tc := ⟨.hbm, 62, rfl⟩
abbrev main_call3_v0 : Ref sig .tc := ⟨.hbm, 63, rfl⟩
abbrev main_call3_v1 : Ref sig .tc := ⟨.hbm, 64, rfl⟩
abbrev main_v37 : Ref sig .tc := ⟨.hbm, 65, rfl⟩
abbrev main_cst_15 : Ref sig .tc := ⟨.hbm, 66, rfl⟩
abbrev main_cst_16 : Ref sig .tc := ⟨.hbm, 67, rfl⟩
abbrev main_call4_v0 : Ref sig .tc := ⟨.hbm, 68, rfl⟩
abbrev main_call4_v1 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_c_17 : Ref sig .tc := ⟨.hbm, 79, rfl⟩
abbrev main_v47 : Ref sig .tc := ⟨.hbm, 80, rfl⟩
abbrev main_v48 : Ref sig .tc := ⟨.hbm, 81, rfl⟩
abbrev main_c_18 : Ref sig .tc := ⟨.hbm, 82, rfl⟩
abbrev main_v49 : Ref sig .tc := ⟨.hbm, 83, rfl⟩
abbrev main_v50 : Ref sig .tc := ⟨.hbm, 84, rfl⟩
abbrev main_c_19 : Ref sig .tc := ⟨.hbm, 85, rfl⟩
abbrev main_v51 : Ref sig .tc := ⟨.hbm, 86, rfl⟩
abbrev main_v52 : Ref sig .tc := ⟨.hbm, 87, rfl⟩
abbrev main_c_20 : Ref sig .tc := ⟨.hbm, 88, rfl⟩
abbrev main_v53 : Ref sig .tc := ⟨.hbm, 89, rfl⟩
abbrev main_v54 : Ref sig .tc := ⟨.hbm, 90, rfl⟩
abbrev main_c_21 : Ref sig .tc := ⟨.hbm, 91, rfl⟩
abbrev main_v55 : Ref sig .tc := ⟨.hbm, 92, rfl⟩
abbrev main_v56 : Ref sig .tc := ⟨.hbm, 93, rfl⟩
abbrev main_c_22 : Ref sig .tc := ⟨.hbm, 94, rfl⟩
abbrev main_v57 : Ref sig .tc := ⟨.hbm, 95, rfl⟩
abbrev main_v58 : Ref sig .tc := ⟨.hbm, 96, rfl⟩
abbrev main_c_23 : Ref sig .tc := ⟨.hbm, 97, rfl⟩
abbrev main_v59 : Ref sig .tc := ⟨.hbm, 98, rfl⟩
abbrev main_v60 : Ref sig .tc := ⟨.hbm, 99, rfl⟩
abbrev main_c_24 : Ref sig .tc := ⟨.hbm, 100, rfl⟩
abbrev main_v61 : Ref sig .tc := ⟨.hbm, 101, rfl⟩
abbrev main_v62 : Ref sig .tc := ⟨.hbm, 102, rfl⟩
abbrev main_c_25 : Ref sig .tc := ⟨.hbm, 103, rfl⟩
abbrev main_v63 : Ref sig .tc := ⟨.hbm, 104, rfl⟩
abbrev main_v64 : Ref sig .tc := ⟨.hbm, 105, rfl⟩
abbrev main_cst_26 : Ref sig .tc := ⟨.hbm, 106, rfl⟩
abbrev main_cst_27 : Ref sig .tc := ⟨.hbm, 107, rfl⟩
abbrev main_call8_v0 : Ref sig .tc := ⟨.hbm, 108, rfl⟩
abbrev main_call8_v1 : Ref sig .tc := ⟨.hbm, 109, rfl⟩
abbrev main_v65 : Ref sig .tc := ⟨.hbm, 110, rfl⟩
abbrev main_cst_28 : Ref sig .tc := ⟨.hbm, 111, rfl⟩
abbrev main_cst_29 : Ref sig .tc := ⟨.hbm, 112, rfl⟩
abbrev main_call9_v0 : Ref sig .tc := ⟨.hbm, 113, rfl⟩
abbrev main_call9_v1 : Ref sig .tc := ⟨.hbm, 114, rfl⟩
abbrev main_v66 : Ref sig .tc := ⟨.hbm, 115, rfl⟩
abbrev main_v67 : Ref sig .tc := ⟨.hbm, 116, rfl⟩
abbrev main_cst_30 : Ref sig .tc := ⟨.hbm, 117, rfl⟩
abbrev main_cst_31 : Ref sig .tc := ⟨.hbm, 118, rfl⟩
abbrev main_call11_v0 : Ref sig .tc := ⟨.hbm, 119, rfl⟩
abbrev main_call11_v1 : Ref sig .tc := ⟨.hbm, 120, rfl⟩
abbrev main_v68 : Ref sig .tc := ⟨.hbm, 121, rfl⟩
abbrev main_cst_32 : Ref sig .tc := ⟨.hbm, 122, rfl⟩
abbrev main_cst_33 : Ref sig .tc := ⟨.hbm, 123, rfl⟩
abbrev main_call12_v0 : Ref sig .tc := ⟨.hbm, 124, rfl⟩
abbrev main_call12_v1 : Ref sig .tc := ⟨.hbm, 125, rfl⟩
abbrev main_v69 : Ref sig .tc := ⟨.hbm, 126, rfl⟩
abbrev main_v70 : Ref sig .tc := ⟨.hbm, 127, rfl⟩
abbrev main_v71 : Ref sig .tc := ⟨.hbm, 128, rfl⟩
abbrev main_v72 : Ref sig .tc := ⟨.hbm, 129, rfl⟩
abbrev main_v73 : Ref sig .tc := ⟨.hbm, 130, rfl⟩
abbrev main_v74 : Ref sig .tc := ⟨.hbm, 131, rfl⟩
abbrev main_v75 : Ref sig .tc := ⟨.hbm, 132, rfl⟩
abbrev main_v76 : Ref sig .tc := ⟨.hbm, 133, rfl⟩
abbrev main_v77 : Ref sig .tc := ⟨.hbm, 134, rfl⟩
abbrev main_v78 : Ref sig .tc := ⟨.hbm, 135, rfl⟩
abbrev main_v79 : Ref sig .tc := ⟨.hbm, 136, rfl⟩
abbrev main_v80 : Ref sig .tc := ⟨.hbm, 137, rfl⟩
abbrev main_v81 : Ref sig .tc := ⟨.hbm, 138, rfl⟩
abbrev main_v82 : Ref sig .tc := ⟨.hbm, 139, rfl⟩
abbrev main_v83 : Ref sig .tc := ⟨.hbm, 140, rfl⟩
abbrev main_cst_34 : Ref sig .tc := ⟨.hbm, 141, rfl⟩
abbrev main_v84 : Ref sig .tc := ⟨.hbm, 142, rfl⟩
abbrev main_v85 : Ref sig .tc := ⟨.hbm, 143, rfl⟩
abbrev main_cst_35 : Ref sig .tc := ⟨.hbm, 144, rfl⟩
abbrev main_v86 : Ref sig .tc := ⟨.hbm, 145, rfl⟩
abbrev main_v87 : Ref sig .tc := ⟨.hbm, 146, rfl⟩
abbrev main_v88 : Ref sig .tc := ⟨.hbm, 147, rfl⟩
abbrev main_v89 : Ref sig .tc := ⟨.hbm, 148, rfl⟩
abbrev main_c_36 : Ref sig .tc := ⟨.hbm, 149, rfl⟩
abbrev main_v90 : Ref sig .tc := ⟨.hbm, 150, rfl⟩
abbrev main_v91 : Ref sig .tc := ⟨.hbm, 151, rfl⟩
abbrev main_c_37 : Ref sig .tc := ⟨.hbm, 152, rfl⟩
abbrev main_v92 : Ref sig .tc := ⟨.hbm, 153, rfl⟩
abbrev main_v93 : Ref sig .tc := ⟨.hbm, 154, rfl⟩
abbrev main_c_38 : Ref sig .tc := ⟨.hbm, 155, rfl⟩
abbrev main_v94 : Ref sig .tc := ⟨.hbm, 156, rfl⟩
abbrev main_v95 : Ref sig .tc := ⟨.hbm, 157, rfl⟩
abbrev main_c_39 : Ref sig .tc := ⟨.hbm, 158, rfl⟩
abbrev main_v96 : Ref sig .tc := ⟨.hbm, 159, rfl⟩
abbrev main_v97 : Ref sig .tc := ⟨.hbm, 160, rfl⟩
abbrev main_c_40 : Ref sig .tc := ⟨.hbm, 161, rfl⟩
abbrev main_v98 : Ref sig .tc := ⟨.hbm, 162, rfl⟩
abbrev main_v99 : Ref sig .tc := ⟨.hbm, 163, rfl⟩
abbrev main_c_41 : Ref sig .tc := ⟨.hbm, 164, rfl⟩
abbrev main_v100 : Ref sig .tc := ⟨.hbm, 165, rfl⟩
abbrev main_v101 : Ref sig .tc := ⟨.hbm, 166, rfl⟩
abbrev main_c_42 : Ref sig .tc := ⟨.hbm, 167, rfl⟩
abbrev main_v102 : Ref sig .tc := ⟨.hbm, 168, rfl⟩
abbrev main_v103 : Ref sig .tc := ⟨.hbm, 169, rfl⟩
abbrev main_c_43 : Ref sig .tc := ⟨.hbm, 170, rfl⟩
abbrev main_v104 : Ref sig .tc := ⟨.hbm, 171, rfl⟩
abbrev main_v105 : Ref sig .tc := ⟨.hbm, 172, rfl⟩
abbrev main_c_44 : Ref sig .tc := ⟨.hbm, 173, rfl⟩
abbrev main_v106 : Ref sig .tc := ⟨.hbm, 174, rfl⟩
abbrev main_v107 : Ref sig .tc := ⟨.hbm, 175, rfl⟩
abbrev main_cst_45 : Ref sig .tc := ⟨.hbm, 176, rfl⟩
abbrev main_cst_46 : Ref sig .tc := ⟨.hbm, 177, rfl⟩
abbrev main_call16_v0 : Ref sig .tc := ⟨.hbm, 178, rfl⟩
abbrev main_call16_v1 : Ref sig .tc := ⟨.hbm, 179, rfl⟩
abbrev main_v108 : Ref sig .tc := ⟨.hbm, 180, rfl⟩
abbrev main_cst_47 : Ref sig .tc := ⟨.hbm, 181, rfl⟩
abbrev main_cst_48 : Ref sig .tc := ⟨.hbm, 182, rfl⟩
abbrev main_call17_v0 : Ref sig .tc := ⟨.hbm, 183, rfl⟩
abbrev main_call17_v1 : Ref sig .tc := ⟨.hbm, 184, rfl⟩
abbrev main_v109 : Ref sig .tc := ⟨.hbm, 185, rfl⟩
abbrev main_v110 : Ref sig .tc := ⟨.hbm, 186, rfl⟩
abbrev main_cst_49 : Ref sig .tc := ⟨.hbm, 187, rfl⟩
abbrev main_cst_50 : Ref sig .tc := ⟨.hbm, 188, rfl⟩
abbrev main_call19_v0 : Ref sig .tc := ⟨.hbm, 189, rfl⟩
abbrev main_call19_v1 : Ref sig .tc := ⟨.hbm, 190, rfl⟩
abbrev main_v111 : Ref sig .tc := ⟨.hbm, 191, rfl⟩
abbrev main_cst_51 : Ref sig .tc := ⟨.hbm, 192, rfl⟩
abbrev main_cst_52 : Ref sig .tc := ⟨.hbm, 193, rfl⟩
abbrev main_call20_v0 : Ref sig .tc := ⟨.hbm, 194, rfl⟩
abbrev main_call20_v1 : Ref sig .tc := ⟨.hbm, 195, rfl⟩
abbrev main_v112 : Ref sig .tc := ⟨.hbm, 196, rfl⟩
abbrev main_v113 : Ref sig .tc := ⟨.hbm, 197, rfl⟩
abbrev main_v114 : Ref sig .tc := ⟨.hbm, 198, rfl⟩
abbrev main_v115 : Ref sig .tc := ⟨.hbm, 199, rfl⟩
abbrev main_v116 : Ref sig .tc := ⟨.hbm, 200, rfl⟩
abbrev main_v117 : Ref sig .tc := ⟨.hbm, 201, rfl⟩
abbrev main_v118 : Ref sig .tc := ⟨.hbm, 202, rfl⟩
abbrev main_v119 : Ref sig .tc := ⟨.hbm, 203, rfl⟩
abbrev main_v120 : Ref sig .tc := ⟨.hbm, 204, rfl⟩
abbrev main_c_53 : Ref sig .tc := ⟨.hbm, 205, rfl⟩
abbrev main_v121 : Ref sig .tc := ⟨.hbm, 206, rfl⟩
abbrev main_v122 : Ref sig .tc := ⟨.hbm, 207, rfl⟩
abbrev main_c_54 : Ref sig .tc := ⟨.hbm, 208, rfl⟩
abbrev main_v123 : Ref sig .tc := ⟨.hbm, 209, rfl⟩
abbrev main_v124 : Ref sig .tc := ⟨.hbm, 210, rfl⟩
abbrev main_c_55 : Ref sig .tc := ⟨.hbm, 211, rfl⟩
abbrev main_v125 : Ref sig .tc := ⟨.hbm, 212, rfl⟩
abbrev main_v126 : Ref sig .tc := ⟨.hbm, 213, rfl⟩
abbrev main_c_56 : Ref sig .tc := ⟨.hbm, 214, rfl⟩
abbrev main_v127 : Ref sig .tc := ⟨.hbm, 215, rfl⟩
abbrev main_v128 : Ref sig .tc := ⟨.hbm, 216, rfl⟩
abbrev main_c_57 : Ref sig .tc := ⟨.hbm, 217, rfl⟩
abbrev main_v129 : Ref sig .tc := ⟨.hbm, 218, rfl⟩
abbrev main_v130 : Ref sig .tc := ⟨.hbm, 219, rfl⟩
abbrev main_c_58 : Ref sig .tc := ⟨.hbm, 220, rfl⟩
abbrev main_v131 : Ref sig .tc := ⟨.hbm, 221, rfl⟩
abbrev main_v132 : Ref sig .tc := ⟨.hbm, 222, rfl⟩
abbrev main_c_59 : Ref sig .tc := ⟨.hbm, 223, rfl⟩
abbrev main_v133 : Ref sig .tc := ⟨.hbm, 224, rfl⟩
abbrev main_v134 : Ref sig .tc := ⟨.hbm, 225, rfl⟩
abbrev main_c_60 : Ref sig .tc := ⟨.hbm, 226, rfl⟩
abbrev main_v135 : Ref sig .tc := ⟨.hbm, 227, rfl⟩
abbrev main_v136 : Ref sig .tc := ⟨.hbm, 228, rfl⟩
abbrev main_c_61 : Ref sig .tc := ⟨.hbm, 229, rfl⟩
abbrev main_v137 : Ref sig .tc := ⟨.hbm, 230, rfl⟩
abbrev main_v138 : Ref sig .tc := ⟨.hbm, 231, rfl⟩
abbrev main_cst_62 : Ref sig .tc := ⟨.hbm, 232, rfl⟩
abbrev main_cst_63 : Ref sig .tc := ⟨.hbm, 233, rfl⟩
abbrev main_call24_v0 : Ref sig .tc := ⟨.hbm, 234, rfl⟩
abbrev main_call24_v1 : Ref sig .tc := ⟨.hbm, 235, rfl⟩
abbrev main_v139 : Ref sig .tc := ⟨.hbm, 236, rfl⟩
abbrev main_cst_64 : Ref sig .tc := ⟨.hbm, 237, rfl⟩
abbrev main_cst_65 : Ref sig .tc := ⟨.hbm, 238, rfl⟩
abbrev main_call25_v0 : Ref sig .tc := ⟨.hbm, 239, rfl⟩
abbrev main_call25_v1 : Ref sig .tc := ⟨.hbm, 240, rfl⟩
abbrev main_v140 : Ref sig .tc := ⟨.hbm, 241, rfl⟩
abbrev main_v141 : Ref sig .tc := ⟨.hbm, 242, rfl⟩
abbrev main_cst_66 : Ref sig .tc := ⟨.hbm, 243, rfl⟩
abbrev main_cst_67 : Ref sig .tc := ⟨.hbm, 244, rfl⟩
abbrev main_call27_v0 : Ref sig .tc := ⟨.hbm, 245, rfl⟩
abbrev main_call27_v1 : Ref sig .tc := ⟨.hbm, 246, rfl⟩
abbrev main_v142 : Ref sig .tc := ⟨.hbm, 247, rfl⟩
abbrev main_cst_68 : Ref sig .tc := ⟨.hbm, 248, rfl⟩
abbrev main_cst_69 : Ref sig .tc := ⟨.hbm, 249, rfl⟩
abbrev main_call28_v0 : Ref sig .tc := ⟨.hbm, 250, rfl⟩
abbrev main_call28_v1 : Ref sig .tc := ⟨.hbm, 251, rfl⟩
abbrev main_v143 : Ref sig .tc := ⟨.hbm, 252, rfl⟩
abbrev main_v144 : Ref sig .tc := ⟨.hbm, 253, rfl⟩
abbrev main_v145 : Ref sig .tc := ⟨.hbm, 254, rfl⟩
abbrev main_v146 : Ref sig .tc := ⟨.hbm, 255, rfl⟩
abbrev main_v147 : Ref sig .tc := ⟨.hbm, 256, rfl⟩
abbrev main_v148 : Ref sig .tc := ⟨.hbm, 257, rfl⟩
abbrev main_v149 : Ref sig .tc := ⟨.hbm, 258, rfl⟩
abbrev main_v150 : Ref sig .tc := ⟨.hbm, 259, rfl⟩
abbrev main_v151 : Ref sig .tc := ⟨.hbm, 260, rfl⟩
abbrev main_v152 : Ref sig .tc := ⟨.hbm, 261, rfl⟩
abbrev main_v153 : Ref sig .tc := ⟨.hbm, 262, rfl⟩
abbrev main_v154 : Ref sig .tc := ⟨.hbm, 263, rfl⟩
abbrev main_v155 : Ref sig .tc := ⟨.hbm, 264, rfl⟩
abbrev main_v156 : Ref sig .tc := ⟨.hbm, 265, rfl⟩
abbrev main_cst_70 : Ref sig .tc := ⟨.hbm, 266, rfl⟩
abbrev main_v157 : Ref sig .tc := ⟨.hbm, 267, rfl⟩
abbrev main_v158 : Ref sig .tc := ⟨.hbm, 268, rfl⟩
abbrev main_cst_71 : Ref sig .tc := ⟨.hbm, 269, rfl⟩
abbrev main_v159 : Ref sig .tc := ⟨.hbm, 270, rfl⟩
abbrev main_v160 : Ref sig .tc := ⟨.hbm, 271, rfl⟩
abbrev main_v161 : Ref sig .tc := ⟨.hbm, 272, rfl⟩
abbrev main_v162 : Ref sig .tc := ⟨.hbm, 273, rfl⟩
abbrev main_v163 : Ref sig .tc := ⟨.hbm, 274, rfl⟩
abbrev main_v164 : Ref sig .tc := ⟨.hbm, 275, rfl⟩
abbrev main_cst_72 : Ref sig .tc := ⟨.hbm, 276, rfl⟩
abbrev main_v165 : Ref sig .tc := ⟨.hbm, 277, rfl⟩
abbrev main_v166 : Ref sig .tc := ⟨.hbm, 278, rfl⟩
abbrev main_cst_73 : Ref sig .tc := ⟨.hbm, 279, rfl⟩
abbrev main_v167 : Ref sig .tc := ⟨.hbm, 280, rfl⟩
abbrev main_v168 : Ref sig .tc := ⟨.hbm, 281, rfl⟩
abbrev main_v169 : Ref sig .tc := ⟨.hbm, 282, rfl⟩
abbrev main_v170 : Ref sig .tc := ⟨.hbm, 283, rfl⟩
abbrev main_cst_74 : Ref sig .tc := ⟨.hbm, 284, rfl⟩
abbrev main_v171 : Ref sig .tc := ⟨.hbm, 285, rfl⟩
abbrev main_v172 : Ref sig .tc := ⟨.hbm, 286, rfl⟩
abbrev main_cst_75 : Ref sig .tc := ⟨.hbm, 287, rfl⟩
abbrev main_v173 : Ref sig .tc := ⟨.hbm, 288, rfl⟩
abbrev main_v174 : Ref sig .tc := ⟨.hbm, 289, rfl⟩
abbrev main_cst_76 : Ref sig .tc := ⟨.hbm, 290, rfl⟩
abbrev main_v175 : Ref sig .tc := ⟨.hbm, 291, rfl⟩
abbrev main_cst_77 : Ref sig .tc := ⟨.hbm, 292, rfl⟩
abbrev main_v176 : Ref sig .tc := ⟨.hbm, 293, rfl⟩
abbrev main_v177 : Ref sig .tc := ⟨.hbm, 294, rfl⟩
abbrev main_v178 : Ref sig .tc := ⟨.hbm, 295, rfl⟩
abbrev main_cst_78 : Ref sig .tc := ⟨.hbm, 296, rfl⟩
abbrev main_cst_79 : Ref sig .tc := ⟨.hbm, 297, rfl⟩
abbrev main_call33_v0 : Ref sig .tc := ⟨.hbm, 298, rfl⟩
abbrev main_call33_v1 : Ref sig .tc := ⟨.hbm, 299, rfl⟩
abbrev main_call33_v2 : Ref sig .tc := ⟨.hbm, 300, rfl⟩
abbrev main_call33_v3 : Ref sig .tc := ⟨.hbm, 301, rfl⟩
abbrev main_call33_v4 : Ref sig .tc := ⟨.hbm, 302, rfl⟩
abbrev main_v179 : Ref sig .tc := ⟨.hbm, 303, rfl⟩
abbrev main_v180 : Ref sig .tc := ⟨.hbm, 304, rfl⟩
abbrev main_cst_80 : Ref sig .tc := ⟨.hbm, 305, rfl⟩
abbrev main_v181 : Ref sig .tc := ⟨.hbm, 306, rfl⟩
abbrev main_v182 : Ref sig .tc := ⟨.hbm, 307, rfl⟩
abbrev main_v183 : Ref sig .tc := ⟨.hbm, 308, rfl⟩
abbrev main_v184 : Ref sig .tc := ⟨.hbm, 309, rfl⟩
abbrev main_v185 : Ref sig .tc := ⟨.hbm, 310, rfl⟩
abbrev main_v186 : Ref sig .tc := ⟨.hbm, 311, rfl⟩
abbrev main_cst_81 : Ref sig .tc := ⟨.hbm, 312, rfl⟩
abbrev main_cst_82 : Ref sig .tc := ⟨.hbm, 313, rfl⟩
abbrev main_call34_v0 : Ref sig .tc := ⟨.hbm, 314, rfl⟩
abbrev main_call34_v1 : Ref sig .tc := ⟨.hbm, 315, rfl⟩
abbrev main_call34_v2 : Ref sig .tc := ⟨.hbm, 316, rfl⟩
abbrev main_call34_v3 : Ref sig .tc := ⟨.hbm, 317, rfl⟩
abbrev main_call34_v4 : Ref sig .tc := ⟨.hbm, 318, rfl⟩
abbrev main_v187 : Ref sig .tc := ⟨.hbm, 319, rfl⟩
abbrev main_cst_83 : Ref sig .tc := ⟨.hbm, 320, rfl⟩
abbrev main_v188 : Ref sig .tc := ⟨.hbm, 321, rfl⟩
abbrev main_v189 : Ref sig .tc := ⟨.hbm, 322, rfl⟩
abbrev main_v190 : Ref sig .tc := ⟨.hbm, 323, rfl⟩
abbrev main_v191 : Ref sig .tc := ⟨.hbm, 324, rfl⟩
abbrev main_v192 : Ref sig .tc := ⟨.hbm, 325, rfl⟩
abbrev main_v193 : Ref sig .tc := ⟨.hbm, 326, rfl⟩
abbrev main_v194 : Ref sig .tc := ⟨.hbm, 327, rfl⟩
abbrev main_c_84 : Ref sig .tc := ⟨.hbm, 328, rfl⟩
abbrev main_v195 : Ref sig .tc := ⟨.hbm, 329, rfl⟩
abbrev main_v196 : Ref sig .tc := ⟨.hbm, 330, rfl⟩
abbrev main_v197 : Ref sig .tc := ⟨.hbm, 331, rfl⟩
abbrev main_v198 : Ref sig .tc := ⟨.hbm, 332, rfl⟩
abbrev main_v199 : Ref sig .tc := ⟨.hbm, 333, rfl⟩
abbrev main_v200 : Ref sig .tc := ⟨.hbm, 334, rfl⟩
abbrev main_v201 : Ref sig .tc := ⟨.hbm, 335, rfl⟩
abbrev main_v202 : Ref sig .tc := ⟨.hbm, 336, rfl⟩
abbrev main_v203 : Ref sig .tc := ⟨.hbm, 337, rfl⟩
abbrev main_v204_0 : Ref sig .tc := ⟨.hbm, 338, rfl⟩
abbrev main_v204_1 : Ref sig .tc := ⟨.hbm, 339, rfl⟩
abbrev main_v204_2 : Ref sig .tc := ⟨.hbm, 340, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S2048x9216 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x9216 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x9216 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x288 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x9216 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x288 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2048x9216 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== RFfnExactIdeal.lean ====
abbrev S2048x2304 : Shape := ⟨2, ![2048, 2304]⟩
abbrev S9216x1152 : Shape := ⟨2, ![9216, 1152]⟩
abbrev S9216x72 : Shape := ⟨2, ![9216, 72]⟩
abbrev S2048x9x2x128 : Shape := ⟨4, ![2048, 9, 2, 128]⟩
abbrev S2048x9x1x128 : Shape := ⟨4, ![2048, 9, 1, 128]⟩
abbrev S2048x9x128 : Shape := ⟨3, ![2048, 9, 128]⟩
abbrev S2048x1152 : Shape := ⟨2, ![2048, 1152]⟩
abbrev S_ : Shape := ⟨0, ![]⟩
abbrev S9216x72x1 : Shape := ⟨3, ![9216, 72, 1]⟩
abbrev S9216x72x16 : Shape := ⟨3, ![9216, 72, 16]⟩
abbrev S2048x9216 : Shape := ⟨2, ![2048, 9216]⟩
abbrev S2048x288x32 : Shape := ⟨3, ![2048, 288, 32]⟩
abbrev S2048x288 : Shape := ⟨2, ![2048, 288]⟩
abbrev S2048x288x1 : Shape := ⟨3, ![2048, 288, 1]⟩
abbrev S2048x36x128x2 : Shape := ⟨4, ![2048, 36, 128, 2]⟩
abbrev S2048x36x2x128 : Shape := ⟨4, ![2048, 36, 2, 128]⟩

abbrev nBuf : Space → Nat
  | .hbm => 338
  | .vmem => 0
  | .smem => 0
  | _ => 0

abbrev hbmTy0_0 (i : Nat) : BufTy := match i % 128 with
  | 0 => ⟨S2048x2304, .bf16⟩
  | 1 => ⟨S9216x1152, .i8⟩
  | 2 => ⟨S9216x72, .i8⟩
  | 3 => ⟨S9216x1152, .i8⟩
  | 4 => ⟨S9216x72, .i8⟩
  | 5 => ⟨S2048x9x2x128, .bf16⟩
  | 6 => ⟨S2048x9x1x128, .bf16⟩
  | 7 => ⟨S2048x9x128, .bf16⟩
  | 8 => ⟨S2048x1152, .bf16⟩
  | 9 => ⟨S2048x9x1x128, .bf16⟩
  | 10 => ⟨S2048x9x128, .bf16⟩
  | 11 => ⟨S2048x1152, .bf16⟩
  | 12 => ⟨S9216x1152, .i32⟩
  | 13 => ⟨S9216x72, .i32⟩
  | 14 => ⟨S9216x72, .f32⟩
  | 15 => ⟨S_, .f32⟩
  | 16 => ⟨S9216x72, .f32⟩
  | 17 => ⟨S9216x72, .f32⟩
  | 18 => ⟨S_, .f32⟩
  | 19 => ⟨S9216x72, .f32⟩
  | 20 => ⟨S9216x72, .f32⟩
  | 21 => ⟨S9216x72, .bf16⟩
  | 22 => ⟨S9216x72x1, .bf16⟩
  | 23 => ⟨S_, .i32⟩
  | 24 => ⟨S9216x1152, .i32⟩
  | 25 => ⟨S9216x1152, .i32⟩
  | 26 => ⟨S_, .i32⟩
  | 27 => ⟨S9216x1152, .i32⟩
  | 28 => ⟨S9216x1152, .i32⟩
  | 29 => ⟨S_, .i32⟩
  | 30 => ⟨S9216x1152, .i32⟩
  | 31 => ⟨S9216x1152, .i1⟩
  | 32 => ⟨S_, .i32⟩
  | 33 => ⟨S9216x1152, .i32⟩
  | 34 => ⟨S9216x1152, .i32⟩
  | 35 => ⟨S_, .i32⟩
  | 36 => ⟨S9216x1152, .i32⟩
  | 37 => ⟨S9216x1152, .i1⟩
  | 38 => ⟨S_, .i32⟩
  | 39 => ⟨S9216x1152, .i32⟩
  | 40 => ⟨S9216x1152, .i32⟩
  | 41 => ⟨S_, .i32⟩
  | 42 => ⟨S9216x1152, .i32⟩
  | 43 => ⟨S9216x1152, .i1⟩
  | 44 => ⟨S_, .i32⟩
  | 45 => ⟨S9216x1152, .i32⟩
  | 46 => ⟨S9216x1152, .i32⟩
  | 47 => ⟨S_, .i32⟩
  | 48 => ⟨S9216x1152, .i32⟩
  | 49 => ⟨S9216x1152, .i1⟩
  | 50 => ⟨S_, .bf16⟩
  | 51 => ⟨S_, .bf16⟩
  | 52 => ⟨S9216x1152, .bf16⟩
  | 53 => ⟨S9216x1152, .bf16⟩
  | 54 => ⟨S9216x1152, .bf16⟩
  | 55 => ⟨S_, .bf16⟩
  | 56 => ⟨S_, .bf16⟩
  | 57 => ⟨S9216x1152, .bf16⟩
  | 58 => ⟨S9216x1152, .bf16⟩
  | 59 => ⟨S9216x1152, .bf16⟩
  | 60 => ⟨S9216x1152, .bf16⟩
  | 61 => ⟨S_, .bf16⟩
  | 62 => ⟨S_, .bf16⟩
  | 63 => ⟨S9216x1152, .bf16⟩
  | 64 => ⟨S9216x1152, .bf16⟩
  | 65 => ⟨S9216x1152, .bf16⟩
  | 66 => ⟨S_, .bf16⟩
  | 67 => ⟨S_, .bf16⟩
  | 68 => ⟨S9216x1152, .bf16⟩
  | 69 => ⟨S9216x1152, .bf16⟩
  | 70 => ⟨S9216x1152, .bf16⟩
  | 71 => ⟨S9216x1152, .bf16⟩
  | 72 => ⟨S9216x1152, .bf16⟩
  | 73 => ⟨S9216x1152, .bf16⟩
  | 74 => ⟨S9216x1152, .bf16⟩
  | 75 => ⟨S9216x72x16, .bf16⟩
  | 76 => ⟨S9216x72x16, .bf16⟩
  | 77 => ⟨S9216x72x16, .bf16⟩
  | 78 => ⟨S9216x1152, .bf16⟩
  | 79 => ⟨S_, .i32⟩
  | 80 => ⟨S9216x1152, .i32⟩
  | 81 => ⟨S9216x1152, .i32⟩
  | 82 => ⟨S_, .i32⟩
  | 83 => ⟨S9216x1152, .i32⟩
  | 84 => ⟨S9216x1152, .i32⟩
  | 85 => ⟨S_, .i32⟩
  | 86 => ⟨S9216x1152, .i32⟩
  | 87 => ⟨S9216x1152, .i1⟩
  | 88 => ⟨S_, .i32⟩
  | 89 => ⟨S9216x1152, .i32⟩
  | 90 => ⟨S9216x1152, .i32⟩
  | 91 => ⟨S_, .i32⟩
  | 92 => ⟨S9216x1152, .i32⟩
  | 93 => ⟨S9216x1152, .i1⟩
  | 94 => ⟨S_, .i32⟩
  | 95 => ⟨S9216x1152, .i32⟩
  | 96 => ⟨S9216x1152, .i32⟩
  | 97 => ⟨S_, .i32⟩
  | 98 => ⟨S9216x1152, .i32⟩
  | 99 => ⟨S9216x1152, .i1⟩
  | 100 => ⟨S_, .i32⟩
  | 101 => ⟨S9216x1152, .i32⟩
  | 102 => ⟨S9216x1152, .i32⟩
  | 103 => ⟨S_, .i32⟩
  | 104 => ⟨S9216x1152, .i32⟩
  | 105 => ⟨S9216x1152, .i1⟩
  | 106 => ⟨S_, .bf16⟩
  | 107 => ⟨S_, .bf16⟩
  | 108 => ⟨S9216x1152, .bf16⟩
  | 109 => ⟨S9216x1152, .bf16⟩
  | 110 => ⟨S9216x1152, .bf16⟩
  | 111 => ⟨S_, .bf16⟩
  | 112 => ⟨S_, .bf16⟩
  | 113 => ⟨S9216x1152, .bf16⟩
  | 114 => ⟨S9216x1152, .bf16⟩
  | 115 => ⟨S9216x1152, .bf16⟩
  | 116 => ⟨S9216x1152, .bf16⟩
  | 117 => ⟨S_, .bf16⟩
  | 118 => ⟨S_, .bf16⟩
  | 119 => ⟨S9216x1152, .bf16⟩
  | 120 => ⟨S9216x1152, .bf16⟩
  | 121 => ⟨S9216x1152, .bf16⟩
  | 122 => ⟨S_, .bf16⟩
  | 123 => ⟨S_, .bf16⟩
  | 124 => ⟨S9216x1152, .bf16⟩
  | 125 => ⟨S9216x1152, .bf16⟩
  | 126 => ⟨S9216x1152, .bf16⟩
  | 127 => ⟨S9216x1152, .bf16⟩
  | _ => ⟨S2048x2304, .bf16⟩

abbrev hbmTy0_1 (i : Nat) : BufTy := match i % 128 with
  | 0 => ⟨S9216x1152, .bf16⟩
  | 1 => ⟨S9216x1152, .bf16⟩
  | 2 => ⟨S9216x1152, .bf16⟩
  | 3 => ⟨S9216x72x16, .bf16⟩
  | 4 => ⟨S9216x72x16, .bf16⟩
  | 5 => ⟨S9216x72x16, .bf16⟩
  | 6 => ⟨S9216x1152, .bf16⟩
  | 7 => ⟨S2048x9216, .f32⟩
  | 8 => ⟨S2048x9216, .f32⟩
  | 9 => ⟨S2048x9216, .f32⟩
  | 10 => ⟨S9216x1152, .i32⟩
  | 11 => ⟨S9216x72, .i32⟩
  | 12 => ⟨S9216x72, .f32⟩
  | 13 => ⟨S_, .f32⟩
  | 14 => ⟨S9216x72, .f32⟩
  | 15 => ⟨S9216x72, .f32⟩
  | 16 => ⟨S_, .f32⟩
  | 17 => ⟨S9216x72, .f32⟩
  | 18 => ⟨S9216x72, .f32⟩
  | 19 => ⟨S9216x72, .bf16⟩
  | 20 => ⟨S9216x72x1, .bf16⟩
  | 21 => ⟨S_, .i32⟩
  | 22 => ⟨S9216x1152, .i32⟩
  | 23 => ⟨S9216x1152, .i32⟩
  | 24 => ⟨S_, .i32⟩
  | 25 => ⟨S9216x1152, .i32⟩
  | 26 => ⟨S9216x1152, .i32⟩
  | 27 => ⟨S_, .i32⟩
  | 28 => ⟨S9216x1152, .i32⟩
  | 29 => ⟨S9216x1152, .i1⟩
  | 30 => ⟨S_, .i32⟩
  | 31 => ⟨S9216x1152, .i32⟩
  | 32 => ⟨S9216x1152, .i32⟩
  | 33 => ⟨S_, .i32⟩
  | 34 => ⟨S9216x1152, .i32⟩
  | 35 => ⟨S9216x1152, .i1⟩
  | 36 => ⟨S_, .i32⟩
  | 37 => ⟨S9216x1152, .i32⟩
  | 38 => ⟨S9216x1152, .i32⟩
  | 39 => ⟨S_, .i32⟩
  | 40 => ⟨S9216x1152, .i32⟩
  | 41 => ⟨S9216x1152, .i1⟩
  | 42 => ⟨S_, .i32⟩
  | 43 => ⟨S9216x1152, .i32⟩
  | 44 => ⟨S9216x1152, .i32⟩
  | 45 => ⟨S_, .i32⟩
  | 46 => ⟨S9216x1152, .i32⟩
  | 47 => ⟨S9216x1152, .i1⟩
  | 48 => ⟨S_, .bf16⟩
  | 49 => ⟨S_, .bf16⟩
  | 50 => ⟨S9216x1152, .bf16⟩
  | 51 => ⟨S9216x1152, .bf16⟩
  | 52 => ⟨S9216x1152, .bf16⟩
  | 53 => ⟨S_, .bf16⟩
  | 54 => ⟨S_, .bf16⟩
  | 55 => ⟨S9216x1152, .bf16⟩
  | 56 => ⟨S9216x1152, .bf16⟩
  | 57 => ⟨S9216x1152, .bf16⟩
  | 58 => ⟨S9216x1152, .bf16⟩
  | 59 => ⟨S_, .bf16⟩
  | 60 => ⟨S_, .bf16⟩
  | 61 => ⟨S9216x1152, .bf16⟩
  | 62 => ⟨S9216x1152, .bf16⟩
  | 63 => ⟨S9216x1152, .bf16⟩
  | 64 => ⟨S_, .bf16⟩
  | 65 => ⟨S_, .bf16⟩
  | 66 => ⟨S9216x1152, .bf16⟩
  | 67 => ⟨S9216x1152, .bf16⟩
  | 68 => ⟨S9216x1152, .bf16⟩
  | 69 => ⟨S9216x1152, .bf16⟩
  | 70 => ⟨S9216x1152, .bf16⟩
  | 71 => ⟨S9216x1152, .bf16⟩
  | 72 => ⟨S9216x1152, .bf16⟩
  | 73 => ⟨S9216x72x16, .bf16⟩
  | 74 => ⟨S9216x72x16, .bf16⟩
  | 75 => ⟨S9216x72x16, .bf16⟩
  | 76 => ⟨S9216x1152, .bf16⟩
  | 77 => ⟨S_, .i32⟩
  | 78 => ⟨S9216x1152, .i32⟩
  | 79 => ⟨S9216x1152, .i32⟩
  | 80 => ⟨S_, .i32⟩
  | 81 => ⟨S9216x1152, .i32⟩
  | 82 => ⟨S9216x1152, .i32⟩
  | 83 => ⟨S_, .i32⟩
  | 84 => ⟨S9216x1152, .i32⟩
  | 85 => ⟨S9216x1152, .i1⟩
  | 86 => ⟨S_, .i32⟩
  | 87 => ⟨S9216x1152, .i32⟩
  | 88 => ⟨S9216x1152, .i32⟩
  | 89 => ⟨S_, .i32⟩
  | 90 => ⟨S9216x1152, .i32⟩
  | 91 => ⟨S9216x1152, .i1⟩
  | 92 => ⟨S_, .i32⟩
  | 93 => ⟨S9216x1152, .i32⟩
  | 94 => ⟨S9216x1152, .i32⟩
  | 95 => ⟨S_, .i32⟩
  | 96 => ⟨S9216x1152, .i32⟩
  | 97 => ⟨S9216x1152, .i1⟩
  | 98 => ⟨S_, .i32⟩
  | 99 => ⟨S9216x1152, .i32⟩
  | 100 => ⟨S9216x1152, .i32⟩
  | 101 => ⟨S_, .i32⟩
  | 102 => ⟨S9216x1152, .i32⟩
  | 103 => ⟨S9216x1152, .i1⟩
  | 104 => ⟨S_, .bf16⟩
  | 105 => ⟨S_, .bf16⟩
  | 106 => ⟨S9216x1152, .bf16⟩
  | 107 => ⟨S9216x1152, .bf16⟩
  | 108 => ⟨S9216x1152, .bf16⟩
  | 109 => ⟨S_, .bf16⟩
  | 110 => ⟨S_, .bf16⟩
  | 111 => ⟨S9216x1152, .bf16⟩
  | 112 => ⟨S9216x1152, .bf16⟩
  | 113 => ⟨S9216x1152, .bf16⟩
  | 114 => ⟨S9216x1152, .bf16⟩
  | 115 => ⟨S_, .bf16⟩
  | 116 => ⟨S_, .bf16⟩
  | 117 => ⟨S9216x1152, .bf16⟩
  | 118 => ⟨S9216x1152, .bf16⟩
  | 119 => ⟨S9216x1152, .bf16⟩
  | 120 => ⟨S_, .bf16⟩
  | 121 => ⟨S_, .bf16⟩
  | 122 => ⟨S9216x1152, .bf16⟩
  | 123 => ⟨S9216x1152, .bf16⟩
  | 124 => ⟨S9216x1152, .bf16⟩
  | 125 => ⟨S9216x1152, .bf16⟩
  | 126 => ⟨S9216x1152, .bf16⟩
  | 127 => ⟨S9216x1152, .bf16⟩
  | _ => ⟨S2048x2304, .bf16⟩

abbrev hbmTy0_2 (i : Nat) : BufTy := match i % 128 with
  | 0 => ⟨S9216x1152, .bf16⟩
  | 1 => ⟨S9216x72x16, .bf16⟩
  | 2 => ⟨S9216x72x16, .bf16⟩
  | 3 => ⟨S9216x72x16, .bf16⟩
  | 4 => ⟨S9216x1152, .bf16⟩
  | 5 => ⟨S2048x9216, .f32⟩
  | 6 => ⟨S2048x9216, .f32⟩
  | 7 => ⟨S2048x9216, .f32⟩
  | 8 => ⟨S2048x9216, .f32⟩
  | 9 => ⟨S2048x9216, .f32⟩
  | 10 => ⟨S_, .f32⟩
  | 11 => ⟨S2048x9216, .f32⟩
  | 12 => ⟨S2048x9216, .f32⟩
  | 13 => ⟨S_, .f32⟩
  | 14 => ⟨S2048x9216, .f32⟩
  | 15 => ⟨S2048x9216, .f32⟩
  | 16 => ⟨S2048x9216, .f32⟩
  | 17 => ⟨S2048x9216, .f32⟩
  | 18 => ⟨S2048x288x32, .f32⟩
  | 19 => ⟨S2048x288x32, .f32⟩
  | 20 => ⟨S_, .f32⟩
  | 21 => ⟨S2048x288, .f32⟩
  | 22 => ⟨S2048x288, .f32⟩
  | 23 => ⟨S_, .f32⟩
  | 24 => ⟨S2048x288, .f32⟩
  | 25 => ⟨S2048x288, .f32⟩
  | 26 => ⟨S2048x288, .f32⟩
  | 27 => ⟨S2048x288, .f32⟩
  | 28 => ⟨S_, .f32⟩
  | 29 => ⟨S2048x288, .f32⟩
  | 30 => ⟨S2048x288, .f32⟩
  | 31 => ⟨S_, .f32⟩
  | 32 => ⟨S2048x288, .f32⟩
  | 33 => ⟨S2048x288, .i1⟩
  | 34 => ⟨S_, .f32⟩
  | 35 => ⟨S2048x288, .f32⟩
  | 36 => ⟨S_, .f32⟩
  | 37 => ⟨S2048x288, .f32⟩
  | 38 => ⟨S2048x288, .f32⟩
  | 39 => ⟨S2048x288, .f32⟩
  | 40 => ⟨S_, .f32⟩
  | 41 => ⟨S_, .f32⟩
  | 42 => ⟨S_, .f32⟩
  | 43 => ⟨S2048x288, .f32⟩
  | 44 => ⟨S2048x288, .f32⟩
  | 45 => ⟨S_, .f32⟩
  | 46 => ⟨S2048x288, .f32⟩
  | 47 => ⟨S2048x288, .f32⟩
  | 48 => ⟨S2048x288, .f32⟩
  | 49 => ⟨S_, .f32⟩
  | 50 => ⟨S2048x288, .f32⟩
  | 51 => ⟨S2048x288, .f32⟩
  | 52 => ⟨S2048x288x1, .f32⟩
  | 53 => ⟨S2048x288x32, .f32⟩
  | 54 => ⟨S2048x9216, .f32⟩
  | 55 => ⟨S2048x9216, .f32⟩
  | 56 => ⟨S_, .f32⟩
  | 57 => ⟨S_, .f32⟩
  | 58 => ⟨S_, .f32⟩
  | 59 => ⟨S2048x9216, .f32⟩
  | 60 => ⟨S2048x9216, .f32⟩
  | 61 => ⟨S_, .f32⟩
  | 62 => ⟨S2048x9216, .f32⟩
  | 63 => ⟨S2048x9216, .f32⟩
  | 64 => ⟨S_, .f32⟩
  | 65 => ⟨S2048x288, .f32⟩
  | 66 => ⟨S2048x288, .f32⟩
  | 67 => ⟨S2048x288x1, .f32⟩
  | 68 => ⟨S2048x288x32, .f32⟩
  | 69 => ⟨S2048x9216, .f32⟩
  | 70 => ⟨S2048x9216, .bf16⟩
  | 71 => ⟨S2048x288, .i32⟩
  | 72 => ⟨S_, .i32⟩
  | 73 => ⟨S2048x288, .i32⟩
  | 74 => ⟨S2048x288, .i32⟩
  | 75 => ⟨S2048x288, .i8⟩
  | 76 => ⟨S2048x36x128x2, .f32⟩
  | 77 => ⟨S2048x36x2x128, .f32⟩
  | 78 => ⟨S2048x9216, .f32⟩
  | 79 => ⟨S2048x36x128x2, .bf16⟩
  | 80 => ⟨S2048x36x2x128, .bf16⟩
  | 81 => ⟨S2048x9216, .bf16⟩
  | _ => ⟨S2048x2304, .bf16⟩

abbrev hbmTy (i : Nat) : BufTy := match i / 128 with
  | 0 => hbmTy0_0 i
  | 1 => hbmTy0_1 i
  | 2 => hbmTy0_2 i
  | _ => ⟨S2048x2304, .bf16⟩

abbrev bufTy : (tb : Table) → Fin (tcTables nBuf tb) → BufTy
  | .hbm, ⟨i, _⟩ => hbmTy i
  | _, _ => ⟨S2048x2304, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c : Ref sig .tc := ⟨.hbm, 23, rfl⟩
abbrev main_v16 : Ref sig .tc := ⟨.hbm, 24, rfl⟩
abbrev main_v17 : Ref sig .tc := ⟨.hbm, 25, rfl⟩
abbrev main_c_1 : Ref sig .tc := ⟨.hbm, 26, rfl⟩
abbrev main_v18 : Ref sig .tc := ⟨.hbm, 27, rfl⟩
abbrev main_v19 : Ref sig .tc := ⟨.hbm, 28, rfl⟩
abbrev main_c_2 : Ref sig .tc := ⟨.hbm, 29, rfl⟩
abbrev main_v20 : Ref sig .tc := ⟨.hbm, 30, rfl⟩
abbrev main_v21 : Ref sig .tc := ⟨.hbm, 31, rfl⟩
abbrev main_c_3 : Ref sig .tc := ⟨.hbm, 32, rfl⟩
abbrev main_v22 : Ref sig .tc := ⟨.hbm, 33, rfl⟩
abbrev main_v23 : Ref sig .tc := ⟨.hbm, 34, rfl⟩
abbrev main_c_4 : Ref sig .tc := ⟨.hbm, 35, rfl⟩
abbrev main_v24 : Ref sig .tc := ⟨.hbm, 36, rfl⟩
abbrev main_v25 : Ref sig .tc := ⟨.hbm, 37, rfl⟩
abbrev main_c_5 : Ref sig .tc := ⟨.hbm, 38, rfl⟩
abbrev main_v26 : Ref sig .tc := ⟨.hbm, 39, rfl⟩
abbrev main_v27 : Ref sig .tc := ⟨.hbm, 40, rfl⟩
abbrev main_c_6 : Ref sig .tc := ⟨.hbm, 41, rfl⟩
abbrev main_v28 : Ref sig .tc := ⟨.hbm, 42, rfl⟩
abbrev main_v29 : Ref sig .tc := ⟨.hbm, 43, rfl⟩
abbrev main_c_7 : Ref sig .tc := ⟨.hbm, 44, rfl⟩
abbrev main_v30 : Ref sig .tc := ⟨.hbm, 45, rfl⟩
abbrev main_v31 : Ref sig .tc := ⟨.hbm, 46, rfl⟩
abbrev main_c_8 : Ref sig .tc := ⟨.hbm, 47, rfl⟩
abbrev main_v32 : Ref sig .tc := ⟨.hbm, 48, rfl⟩
abbrev main_v33 : Ref sig .tc := ⟨.hbm, 49, rfl⟩
abbrev main_cst_9 : Ref sig .tc := ⟨.hbm, 50, rfl⟩
abbrev main_cst_10 : Ref sig .tc := ⟨.hbm, 51, rfl⟩
abbrev main_call0_v0 : Ref sig .tc := ⟨.hbm, 52, rfl⟩
abbrev main_call0_v1 : Ref sig .tc := ⟨.hbm, 53, rfl⟩
abbrev main_v34 : Ref sig .tc := ⟨.hbm, 54, rfl⟩
abbrev main_cst_11 : Ref sig .tc := ⟨.hbm, 55, rfl⟩
abbrev main_cst_12 : Ref sig .tc := ⟨.hbm, 56, rfl⟩
abbrev main_call1_v0 : Ref sig .tc := ⟨.hbm, 57, rfl⟩
abbrev main_call1_v1 : Ref sig .tc := ⟨.hbm, 58, rfl⟩
abbrev main_v35 : Ref sig .tc := ⟨.hbm, 59, rfl⟩
abbrev main_v36 : Ref sig .tc := ⟨.hbm, 60, rfl⟩
abbrev main_cst_13 : Ref sig .tc := ⟨.hbm, 61, rfl⟩
abbrev main_cst_14 : Ref sig .tc := ⟨.hbm, 62, rfl⟩
abbrev main_call3_v0 : Ref sig .tc := ⟨.hbm, 63, rfl⟩
abbrev main_call3_v1 : Ref sig .tc := ⟨.hbm, 64, rfl⟩
abbrev main_v37 : Ref sig .tc := ⟨.hbm, 65, rfl⟩
abbrev main_cst_15 : Ref sig .tc := ⟨.hbm, 66, rfl⟩
abbrev main_cst_16 : Ref sig .tc := ⟨.hbm, 67, rfl⟩
abbrev main_call4_v0 : Ref sig .tc := ⟨.hbm, 68, rfl⟩
abbrev main_call4_v1 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_c_17 : Ref sig .tc := ⟨.hbm, 79, rfl⟩
abbrev main_v47 : Ref sig .tc := ⟨.hbm, 80, rfl⟩
abbrev main_v48 : Ref sig .tc := ⟨.hbm, 81, rfl⟩
abbrev main_c_18 : Ref sig .tc := ⟨.hbm, 82, rfl⟩
abbrev main_v49 : Ref sig .tc := ⟨.hbm, 83, rfl⟩
abbrev main_v50 : Ref sig .tc := ⟨.hbm, 84, rfl⟩
abbrev main_c_19 : Ref sig .tc := ⟨.hbm, 85, rfl⟩
abbrev main_v51 : Ref sig .tc := ⟨.hbm, 86, rfl⟩
abbrev main_v52 : Ref sig .tc := ⟨.hbm, 87, rfl⟩
abbrev main_c_20 : Ref sig .tc := ⟨.hbm, 88, rfl⟩
abbrev main_v53 : Ref sig .tc := ⟨.hbm, 89, rfl⟩
abbrev main_v54 : Ref sig .tc := ⟨.hbm, 90, rfl⟩
abbrev main_c_21 : Ref sig .tc := ⟨.hbm, 91, rfl⟩
abbrev main_v55 : Ref sig .tc := ⟨.hbm, 92, rfl⟩
abbrev main_v56 : Ref sig .tc := ⟨.hbm, 93, rfl⟩
abbrev main_c_22 : Ref sig .tc := ⟨.hbm, 94, rfl⟩
abbrev main_v57 : Ref sig .tc := ⟨.hbm, 95, rfl⟩
abbrev main_v58 : Ref sig .tc := ⟨.hbm, 96, rfl⟩
abbrev main_c_23 : Ref sig .tc := ⟨.hbm, 97, rfl⟩
abbrev main_v59 : Ref sig .tc := ⟨.hbm, 98, rfl⟩
abbrev main_v60 : Ref sig .tc := ⟨.hbm, 99, rfl⟩
abbrev main_c_24 : Ref sig .tc := ⟨.hbm, 100, rfl⟩
abbrev main_v61 : Ref sig .tc := ⟨.hbm, 101, rfl⟩
abbrev main_v62 : Ref sig .tc := ⟨.hbm, 102, rfl⟩
abbrev main_c_25 : Ref sig .tc := ⟨.hbm, 103, rfl⟩
abbrev main_v63 : Ref sig .tc := ⟨.hbm, 104, rfl⟩
abbrev main_v64 : Ref sig .tc := ⟨.hbm, 105, rfl⟩
abbrev main_cst_26 : Ref sig .tc := ⟨.hbm, 106, rfl⟩
abbrev main_cst_27 : Ref sig .tc := ⟨.hbm, 107, rfl⟩
abbrev main_call8_v0 : Ref sig .tc := ⟨.hbm, 108, rfl⟩
abbrev main_call8_v1 : Ref sig .tc := ⟨.hbm, 109, rfl⟩
abbrev main_v65 : Ref sig .tc := ⟨.hbm, 110, rfl⟩
abbrev main_cst_28 : Ref sig .tc := ⟨.hbm, 111, rfl⟩
abbrev main_cst_29 : Ref sig .tc := ⟨.hbm, 112, rfl⟩
abbrev main_call9_v0 : Ref sig .tc := ⟨.hbm, 113, rfl⟩
abbrev main_call9_v1 : Ref sig .tc := ⟨.hbm, 114, rfl⟩
abbrev main_v66 : Ref sig .tc := ⟨.hbm, 115, rfl⟩
abbrev main_v67 : Ref sig .tc := ⟨.hbm, 116, rfl⟩
abbrev main_cst_30 : Ref sig .tc := ⟨.hbm, 117, rfl⟩
abbrev main_cst_31 : Ref sig .tc := ⟨.hbm, 118, rfl⟩
abbrev main_call11_v0 : Ref sig .tc := ⟨.hbm, 119, rfl⟩
abbrev main_call11_v1 : Ref sig .tc := ⟨.hbm, 120, rfl⟩
abbrev main_v68 : Ref sig .tc := ⟨.hbm, 121, rfl⟩
abbrev main_cst_32 : Ref sig .tc := ⟨.hbm, 122, rfl⟩
abbrev main_cst_33 : Ref sig .tc := ⟨.hbm, 123, rfl⟩
abbrev main_call12_v0 : Ref sig .tc := ⟨.hbm, 124, rfl⟩
abbrev main_call12_v1 : Ref sig .tc := ⟨.hbm, 125, rfl⟩
abbrev main_v69 : Ref sig .tc := ⟨.hbm, 126, rfl⟩
abbrev main_v70 : Ref sig .tc := ⟨.hbm, 127, rfl⟩
abbrev main_v71 : Ref sig .tc := ⟨.hbm, 128, rfl⟩
abbrev main_v72 : Ref sig .tc := ⟨.hbm, 129, rfl⟩
abbrev main_v73 : Ref sig .tc := ⟨.hbm, 130, rfl⟩
abbrev main_v74 : Ref sig .tc := ⟨.hbm, 131, rfl⟩
abbrev main_v75 : Ref sig .tc := ⟨.hbm, 132, rfl⟩
abbrev main_v76 : Ref sig .tc := ⟨.hbm, 133, rfl⟩
abbrev main_v77 : Ref sig .tc := ⟨.hbm, 134, rfl⟩
abbrev main_v78 : Ref sig .tc := ⟨.hbm, 135, rfl⟩
abbrev main_v79 : Ref sig .tc := ⟨.hbm, 136, rfl⟩
abbrev main_v80 : Ref sig .tc := ⟨.hbm, 137, rfl⟩
abbrev main_v81 : Ref sig .tc := ⟨.hbm, 138, rfl⟩
abbrev main_v82 : Ref sig .tc := ⟨.hbm, 139, rfl⟩
abbrev main_v83 : Ref sig .tc := ⟨.hbm, 140, rfl⟩
abbrev main_cst_34 : Ref sig .tc := ⟨.hbm, 141, rfl⟩
abbrev main_v84 : Ref sig .tc := ⟨.hbm, 142, rfl⟩
abbrev main_v85 : Ref sig .tc := ⟨.hbm, 143, rfl⟩
abbrev main_cst_35 : Ref sig .tc := ⟨.hbm, 144, rfl⟩
abbrev main_v86 : Ref sig .tc := ⟨.hbm, 145, rfl⟩
abbrev main_v87 : Ref sig .tc := ⟨.hbm, 146, rfl⟩
abbrev main_v88 : Ref sig .tc := ⟨.hbm, 147, rfl⟩
abbrev main_v89 : Ref sig .tc := ⟨.hbm, 148, rfl⟩
abbrev main_c_36 : Ref sig .tc := ⟨.hbm, 149, rfl⟩
abbrev main_v90 : Ref sig .tc := ⟨.hbm, 150, rfl⟩
abbrev main_v91 : Ref sig .tc := ⟨.hbm, 151, rfl⟩
abbrev main_c_37 : Ref sig .tc := ⟨.hbm, 152, rfl⟩
abbrev main_v92 : Ref sig .tc := ⟨.hbm, 153, rfl⟩
abbrev main_v93 : Ref sig .tc := ⟨.hbm, 154, rfl⟩
abbrev main_c_38 : Ref sig .tc := ⟨.hbm, 155, rfl⟩
abbrev main_v94 : Ref sig .tc := ⟨.hbm, 156, rfl⟩
abbrev main_v95 : Ref sig .tc := ⟨.hbm, 157, rfl⟩
abbrev main_c_39 : Ref sig .tc := ⟨.hbm, 158, rfl⟩
abbrev main_v96 : Ref sig .tc := ⟨.hbm, 159, rfl⟩
abbrev main_v97 : Ref sig .tc := ⟨.hbm, 160, rfl⟩
abbrev main_c_40 : Ref sig .tc := ⟨.hbm, 161, rfl⟩
abbrev main_v98 : Ref sig .tc := ⟨.hbm, 162, rfl⟩
abbrev main_v99 : Ref sig .tc := ⟨.hbm, 163, rfl⟩
abbrev main_c_41 : Ref sig .tc := ⟨.hbm, 164, rfl⟩
abbrev main_v100 : Ref sig .tc := ⟨.hbm, 165, rfl⟩
abbrev main_v101 : Ref sig .tc := ⟨.hbm, 166, rfl⟩
abbrev main_c_42 : Ref sig .tc := ⟨.hbm, 167, rfl⟩
abbrev main_v102 : Ref sig .tc := ⟨.hbm, 168, rfl⟩
abbrev main_v103 : Ref sig .tc := ⟨.hbm, 169, rfl⟩
abbrev main_c_43 : Ref sig .tc := ⟨.hbm, 170, rfl⟩
abbrev main_v104 : Ref sig .tc := ⟨.hbm, 171, rfl⟩
abbrev main_v105 : Ref sig .tc := ⟨.hbm, 172, rfl⟩
abbrev main_c_44 : Ref sig .tc := ⟨.hbm, 173, rfl⟩
abbrev main_v106 : Ref sig .tc := ⟨.hbm, 174, rfl⟩
abbrev main_v107 : Ref sig .tc := ⟨.hbm, 175, rfl⟩
abbrev main_cst_45 : Ref sig .tc := ⟨.hbm, 176, rfl⟩
abbrev main_cst_46 : Ref sig .tc := ⟨.hbm, 177, rfl⟩
abbrev main_call16_v0 : Ref sig .tc := ⟨.hbm, 178, rfl⟩
abbrev main_call16_v1 : Ref sig .tc := ⟨.hbm, 179, rfl⟩
abbrev main_v108 : Ref sig .tc := ⟨.hbm, 180, rfl⟩
abbrev main_cst_47 : Ref sig .tc := ⟨.hbm, 181, rfl⟩
abbrev main_cst_48 : Ref sig .tc := ⟨.hbm, 182, rfl⟩
abbrev main_call17_v0 : Ref sig .tc := ⟨.hbm, 183, rfl⟩
abbrev main_call17_v1 : Ref sig .tc := ⟨.hbm, 184, rfl⟩
abbrev main_v109 : Ref sig .tc := ⟨.hbm, 185, rfl⟩
abbrev main_v110 : Ref sig .tc := ⟨.hbm, 186, rfl⟩
abbrev main_cst_49 : Ref sig .tc := ⟨.hbm, 187, rfl⟩
abbrev main_cst_50 : Ref sig .tc := ⟨.hbm, 188, rfl⟩
abbrev main_call19_v0 : Ref sig .tc := ⟨.hbm, 189, rfl⟩
abbrev main_call19_v1 : Ref sig .tc := ⟨.hbm, 190, rfl⟩
abbrev main_v111 : Ref sig .tc := ⟨.hbm, 191, rfl⟩
abbrev main_cst_51 : Ref sig .tc := ⟨.hbm, 192, rfl⟩
abbrev main_cst_52 : Ref sig .tc := ⟨.hbm, 193, rfl⟩
abbrev main_call20_v0 : Ref sig .tc := ⟨.hbm, 194, rfl⟩
abbrev main_call20_v1 : Ref sig .tc := ⟨.hbm, 195, rfl⟩
abbrev main_v112 : Ref sig .tc := ⟨.hbm, 196, rfl⟩
abbrev main_v113 : Ref sig .tc := ⟨.hbm, 197, rfl⟩
abbrev main_v114 : Ref sig .tc := ⟨.hbm, 198, rfl⟩
abbrev main_v115 : Ref sig .tc := ⟨.hbm, 199, rfl⟩
abbrev main_v116 : Ref sig .tc := ⟨.hbm, 200, rfl⟩
abbrev main_v117 : Ref sig .tc := ⟨.hbm, 201, rfl⟩
abbrev main_v118 : Ref sig .tc := ⟨.hbm, 202, rfl⟩
abbrev main_v119 : Ref sig .tc := ⟨.hbm, 203, rfl⟩
abbrev main_v120 : Ref sig .tc := ⟨.hbm, 204, rfl⟩
abbrev main_c_53 : Ref sig .tc := ⟨.hbm, 205, rfl⟩
abbrev main_v121 : Ref sig .tc := ⟨.hbm, 206, rfl⟩
abbrev main_v122 : Ref sig .tc := ⟨.hbm, 207, rfl⟩
abbrev main_c_54 : Ref sig .tc := ⟨.hbm, 208, rfl⟩
abbrev main_v123 : Ref sig .tc := ⟨.hbm, 209, rfl⟩
abbrev main_v124 : Ref sig .tc := ⟨.hbm, 210, rfl⟩
abbrev main_c_55 : Ref sig .tc := ⟨.hbm, 211, rfl⟩
abbrev main_v125 : Ref sig .tc := ⟨.hbm, 212, rfl⟩
abbrev main_v126 : Ref sig .tc := ⟨.hbm, 213, rfl⟩
abbrev main_c_56 : Ref sig .tc := ⟨.hbm, 214, rfl⟩
abbrev main_v127 : Ref sig .tc := ⟨.hbm, 215, rfl⟩
abbrev main_v128 : Ref sig .tc := ⟨.hbm, 216, rfl⟩
abbrev main_c_57 : Ref sig .tc := ⟨.hbm, 217, rfl⟩
abbrev main_v129 : Ref sig .tc := ⟨.hbm, 218, rfl⟩
abbrev main_v130 : Ref sig .tc := ⟨.hbm, 219, rfl⟩
abbrev main_c_58 : Ref sig .tc := ⟨.hbm, 220, rfl⟩
abbrev main_v131 : Ref sig .tc := ⟨.hbm, 221, rfl⟩
abbrev main_v132 : Ref sig .tc := ⟨.hbm, 222, rfl⟩
abbrev main_c_59 : Ref sig .tc := ⟨.hbm, 223, rfl⟩
abbrev main_v133 : Ref sig .tc := ⟨.hbm, 224, rfl⟩
abbrev main_v134 : Ref sig .tc := ⟨.hbm, 225, rfl⟩
abbrev main_c_60 : Ref sig .tc := ⟨.hbm, 226, rfl⟩
abbrev main_v135 : Ref sig .tc := ⟨.hbm, 227, rfl⟩
abbrev main_v136 : Ref sig .tc := ⟨.hbm, 228, rfl⟩
abbrev main_c_61 : Ref sig .tc := ⟨.hbm, 229, rfl⟩
abbrev main_v137 : Ref sig .tc := ⟨.hbm, 230, rfl⟩
abbrev main_v138 : Ref sig .tc := ⟨.hbm, 231, rfl⟩
abbrev main_cst_62 : Ref sig .tc := ⟨.hbm, 232, rfl⟩
abbrev main_cst_63 : Ref sig .tc := ⟨.hbm, 233, rfl⟩
abbrev main_call24_v0 : Ref sig .tc := ⟨.hbm, 234, rfl⟩
abbrev main_call24_v1 : Ref sig .tc := ⟨.hbm, 235, rfl⟩
abbrev main_v139 : Ref sig .tc := ⟨.hbm, 236, rfl⟩
abbrev main_cst_64 : Ref sig .tc := ⟨.hbm, 237, rfl⟩
abbrev main_cst_65 : Ref sig .tc := ⟨.hbm, 238, rfl⟩
abbrev main_call25_v0 : Ref sig .tc := ⟨.hbm, 239, rfl⟩
abbrev main_call25_v1 : Ref sig .tc := ⟨.hbm, 240, rfl⟩
abbrev main_v140 : Ref sig .tc := ⟨.hbm, 241, rfl⟩
abbrev main_v141 : Ref sig .tc := ⟨.hbm, 242, rfl⟩
abbrev main_cst_66 : Ref sig .tc := ⟨.hbm, 243, rfl⟩
abbrev main_cst_67 : Ref sig .tc := ⟨.hbm, 244, rfl⟩
abbrev main_call27_v0 : Ref sig .tc := ⟨.hbm, 245, rfl⟩
abbrev main_call27_v1 : Ref sig .tc := ⟨.hbm, 246, rfl⟩
abbrev main_v142 : Ref sig .tc := ⟨.hbm, 247, rfl⟩
abbrev main_cst_68 : Ref sig .tc := ⟨.hbm, 248, rfl⟩
abbrev main_cst_69 : Ref sig .tc := ⟨.hbm, 249, rfl⟩
abbrev main_call28_v0 : Ref sig .tc := ⟨.hbm, 250, rfl⟩
abbrev main_call28_v1 : Ref sig .tc := ⟨.hbm, 251, rfl⟩
abbrev main_v143 : Ref sig .tc := ⟨.hbm, 252, rfl⟩
abbrev main_v144 : Ref sig .tc := ⟨.hbm, 253, rfl⟩
abbrev main_v145 : Ref sig .tc := ⟨.hbm, 254, rfl⟩
abbrev main_v146 : Ref sig .tc := ⟨.hbm, 255, rfl⟩
abbrev main_v147 : Ref sig .tc := ⟨.hbm, 256, rfl⟩
abbrev main_v148 : Ref sig .tc := ⟨.hbm, 257, rfl⟩
abbrev main_v149 : Ref sig .tc := ⟨.hbm, 258, rfl⟩
abbrev main_v150 : Ref sig .tc := ⟨.hbm, 259, rfl⟩
abbrev main_v151 : Ref sig .tc := ⟨.hbm, 260, rfl⟩
abbrev main_v152 : Ref sig .tc := ⟨.hbm, 261, rfl⟩
abbrev main_v153 : Ref sig .tc := ⟨.hbm, 262, rfl⟩
abbrev main_v154 : Ref sig .tc := ⟨.hbm, 263, rfl⟩
abbrev main_v155 : Ref sig .tc := ⟨.hbm, 264, rfl⟩
abbrev main_v156 : Ref sig .tc := ⟨.hbm, 265, rfl⟩
abbrev main_cst_70 : Ref sig .tc := ⟨.hbm, 266, rfl⟩
abbrev main_v157 : Ref sig .tc := ⟨.hbm, 267, rfl⟩
abbrev main_v158 : Ref sig .tc := ⟨.hbm, 268, rfl⟩
abbrev main_cst_71 : Ref sig .tc := ⟨.hbm, 269, rfl⟩
abbrev main_v159 : Ref sig .tc := ⟨.hbm, 270, rfl⟩
abbrev main_v160 : Ref sig .tc := ⟨.hbm, 271, rfl⟩
abbrev main_v161 : Ref sig .tc := ⟨.hbm, 272, rfl⟩
abbrev main_v162 : Ref sig .tc := ⟨.hbm, 273, rfl⟩
abbrev main_v163 : Ref sig .tc := ⟨.hbm, 274, rfl⟩
abbrev main_v164 : Ref sig .tc := ⟨.hbm, 275, rfl⟩
abbrev main_cst_72 : Ref sig .tc := ⟨.hbm, 276, rfl⟩
abbrev main_v165 : Ref sig .tc := ⟨.hbm, 277, rfl⟩
abbrev main_v166 : Ref sig .tc := ⟨.hbm, 278, rfl⟩
abbrev main_cst_73 : Ref sig .tc := ⟨.hbm, 279, rfl⟩
abbrev main_v167 : Ref sig .tc := ⟨.hbm, 280, rfl⟩
abbrev main_v168 : Ref sig .tc := ⟨.hbm, 281, rfl⟩
abbrev main_v169 : Ref sig .tc := ⟨.hbm, 282, rfl⟩
abbrev main_v170 : Ref sig .tc := ⟨.hbm, 283, rfl⟩
abbrev main_cst_74 : Ref sig .tc := ⟨.hbm, 284, rfl⟩
abbrev main_v171 : Ref sig .tc := ⟨.hbm, 285, rfl⟩
abbrev main_v172 : Ref sig .tc := ⟨.hbm, 286, rfl⟩
abbrev main_cst_75 : Ref sig .tc := ⟨.hbm, 287, rfl⟩
abbrev main_v173 : Ref sig .tc := ⟨.hbm, 288, rfl⟩
abbrev main_v174 : Ref sig .tc := ⟨.hbm, 289, rfl⟩
abbrev main_cst_76 : Ref sig .tc := ⟨.hbm, 290, rfl⟩
abbrev main_v175 : Ref sig .tc := ⟨.hbm, 291, rfl⟩
abbrev main_cst_77 : Ref sig .tc := ⟨.hbm, 292, rfl⟩
abbrev main_v176 : Ref sig .tc := ⟨.hbm, 293, rfl⟩
abbrev main_v177 : Ref sig .tc := ⟨.hbm, 294, rfl⟩
abbrev main_v178 : Ref sig .tc := ⟨.hbm, 295, rfl⟩
abbrev main_cst_78 : Ref sig .tc := ⟨.hbm, 296, rfl⟩
abbrev main_cst_79 : Ref sig .tc := ⟨.hbm, 297, rfl⟩
abbrev main_call33_v0 : Ref sig .tc := ⟨.hbm, 298, rfl⟩
abbrev main_call33_v1 : Ref sig .tc := ⟨.hbm, 299, rfl⟩
abbrev main_call33_v2 : Ref sig .tc := ⟨.hbm, 300, rfl⟩
abbrev main_call33_v3 : Ref sig .tc := ⟨.hbm, 301, rfl⟩
abbrev main_call33_v4 : Ref sig .tc := ⟨.hbm, 302, rfl⟩
abbrev main_v179 : Ref sig .tc := ⟨.hbm, 303, rfl⟩
abbrev main_v180 : Ref sig .tc := ⟨.hbm, 304, rfl⟩
abbrev main_cst_80 : Ref sig .tc := ⟨.hbm, 305, rfl⟩
abbrev main_v181 : Ref sig .tc := ⟨.hbm, 306, rfl⟩
abbrev main_v182 : Ref sig .tc := ⟨.hbm, 307, rfl⟩
abbrev main_v183 : Ref sig .tc := ⟨.hbm, 308, rfl⟩
abbrev main_v184 : Ref sig .tc := ⟨.hbm, 309, rfl⟩
abbrev main_v185 : Ref sig .tc := ⟨.hbm, 310, rfl⟩
abbrev main_v186 : Ref sig .tc := ⟨.hbm, 311, rfl⟩
abbrev main_cst_81 : Ref sig .tc := ⟨.hbm, 312, rfl⟩
abbrev main_cst_82 : Ref sig .tc := ⟨.hbm, 313, rfl⟩
abbrev main_call34_v0 : Ref sig .tc := ⟨.hbm, 314, rfl⟩
abbrev main_call34_v1 : Ref sig .tc := ⟨.hbm, 315, rfl⟩
abbrev main_call34_v2 : Ref sig .tc := ⟨.hbm, 316, rfl⟩
abbrev main_call34_v3 : Ref sig .tc := ⟨.hbm, 317, rfl⟩
abbrev main_call34_v4 : Ref sig .tc := ⟨.hbm, 318, rfl⟩
abbrev main_v187 : Ref sig .tc := ⟨.hbm, 319, rfl⟩
abbrev main_cst_83 : Ref sig .tc := ⟨.hbm, 320, rfl⟩
abbrev main_v188 : Ref sig .tc := ⟨.hbm, 321, rfl⟩
abbrev main_v189 : Ref sig .tc := ⟨.hbm, 322, rfl⟩
abbrev main_v190 : Ref sig .tc := ⟨.hbm, 323, rfl⟩
abbrev main_v191 : Ref sig .tc := ⟨.hbm, 324, rfl⟩
abbrev main_v192 : Ref sig .tc := ⟨.hbm, 325, rfl⟩
abbrev main_v193 : Ref sig .tc := ⟨.hbm, 326, rfl⟩
abbrev main_v194 : Ref sig .tc := ⟨.hbm, 327, rfl⟩
abbrev main_c_84 : Ref sig .tc := ⟨.hbm, 328, rfl⟩
abbrev main_v195 : Ref sig .tc := ⟨.hbm, 329, rfl⟩
abbrev main_v196 : Ref sig .tc := ⟨.hbm, 330, rfl⟩
abbrev main_v197 : Ref sig .tc := ⟨.hbm, 331, rfl⟩
abbrev main_v198 : Ref sig .tc := ⟨.hbm, 332, rfl⟩
abbrev main_v199 : Ref sig .tc := ⟨.hbm, 333, rfl⟩
abbrev main_v200 : Ref sig .tc := ⟨.hbm, 334, rfl⟩
abbrev main_v201 : Ref sig .tc := ⟨.hbm, 335, rfl⟩
abbrev main_v202 : Ref sig .tc := ⟨.hbm, 336, rfl⟩
abbrev main_v203 : Ref sig .tc := ⟨.hbm, 337, rfl⟩

abbrev nD : Nat := 1
abbrev τ : Topo := Topo.v7x

variable {F : FTy → Type} [FloatOps F]
-- ==== KOproj.lean ====
abbrev S2048x2560 : Shape := ⟨2, ![2048, 2560]⟩
abbrev S2048x2304 : Shape := ⟨2, ![2048, 2304]⟩
abbrev S1x2304 : Shape := ⟨2, ![1, 2304]⟩
abbrev S2304x1280 : Shape := ⟨2, ![2304, 1280]⟩
abbrev S2304x80 : Shape := ⟨2, ![2304, 80]⟩
abbrev S2048x72 : Shape := ⟨2, ![2048, 72]⟩
abbrev S512x2560 : Shape := ⟨2, ![512, 2560]⟩
abbrev S512x2304 : Shape := ⟨2, ![512, 2304]⟩
abbrev S512x72 : Shape := ⟨2, ![512, 72]⟩
abbrev S2304x2560 : Shape := ⟨2, ![2304, 2560]⟩
abbrev S64x80 : Shape := ⟨2, ![64, 80]⟩
abbrev S64x48 : Shape := ⟨2, ![64, 48]⟩
abbrev S64x128 : Shape := ⟨2, ![64, 128]⟩
abbrev S64x128x1 : Shape := ⟨3, ![64, 128, 1]⟩
abbrev S16x128 : Shape := ⟨2, ![16, 128]⟩
abbrev S512x256 : Shape := ⟨2, ![512, 256]⟩
abbrev S256x2560 : Shape := ⟨2, ![256, 2560]⟩
abbrev S64x2304 : Shape := ⟨2, ![64, 2304]⟩
abbrev S64 : Shape := ⟨1, ![64]⟩
abbrev S64x1 : Shape := ⟨2, ![64, 1]⟩
abbrev S64x256 : Shape := ⟨2, ![64, 256]⟩
abbrev S32x128 : Shape := ⟨2, ![32, 128]⟩
abbrev S64x72 : Shape := ⟨2, ![64, 72]⟩

abbrev nBuf : Space → Nat
  | .hbm => 9
  | .vmem => 16
  | .smem => 0
  | _ => 0

abbrev bufTy : (tb : Table) → Fin (tcTables nBuf tb) → BufTy
  | .hbm, ⟨0, _⟩ => ⟨S2048x2560, .bf16⟩
  | .hbm, ⟨1, _⟩ => ⟨S2048x2304, .bf16⟩
  | .hbm, ⟨2, _⟩ => ⟨S1x2304, .f32⟩
  | .hbm, ⟨3, _⟩ => ⟨S2304x1280, .i8⟩
  | .hbm, ⟨4, _⟩ => ⟨S2304x80, .i8⟩
  | .hbm, ⟨5, _⟩ => ⟨S2048x2304, .f32⟩
  | .hbm, ⟨6, _⟩ => ⟨S2048x2304, .fp8e4m3⟩
  | .hbm, ⟨7, _⟩ => ⟨S2048x72, .i8⟩
  | .hbm, ⟨8, _⟩ => ⟨S2048x2304, .bf16⟩
  | .local _ .vmem, ⟨0, _⟩ => ⟨S512x2560, .bf16⟩
  | .local _ .vmem, ⟨1, _⟩ => ⟨S512x2560, .bf16⟩
  | .local _ .vmem, ⟨2, _⟩ => ⟨S512x2304, .bf16⟩
  | .local _ .vmem, ⟨3, _⟩ => ⟨S512x2304, .bf16⟩
  | .local _ .vmem, ⟨4, _⟩ => ⟨S1x2304, .f32⟩
  | .local _ .vmem, ⟨5, _⟩ => ⟨S2304x1280, .i8⟩
  | .local _ .vmem, ⟨6, _⟩ => ⟨S2304x80, .i8⟩
  | .local _ .vmem, ⟨7, _⟩ => ⟨S512x2304, .f32⟩
  | .local _ .vmem, ⟨8, _⟩ => ⟨S512x2304, .f32⟩
  | .local _ .vmem, ⟨9, _⟩ => ⟨S512x2304, .fp8e4m3⟩
  | .local _ .vmem, ⟨10, _⟩ => ⟨S512x2304, .fp8e4m3⟩
  | .local _ .vmem, ⟨11, _⟩ => ⟨S512x72, .i8⟩
  | .local _ .vmem, ⟨12, _⟩ => ⟨S512x72, .i8⟩
  | .local _ .vmem, ⟨13, _⟩ => ⟨S512x2304, .bf16⟩
  | .local _ .vmem, ⟨14, _⟩ => ⟨S512x2304, .bf16⟩
  | .local _ .vmem, ⟨15, _⟩ => ⟨S2304x2560, .bf16⟩
  | _, _ => ⟨S2048x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [BitOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_74 : BitVec 32 := 0#32
  let c36_i32 : BitVec 32 := 36#32
  let v67 : BitVec 32 := Scalar.addi c0_i32_74 c36_i32
  let c1_i32_75 : BitVec 32 := 1#32
  ⟨c0_i32_74, v67, c1_i32_75⟩
def k0_mult1 (k0_t1 : Fin k0_t1_loop.trips) : BitVec 32 :=
  let c0_i32_74 : BitVec 32 := 0#32
  let c1_i32_75 : BitVec 32 := 1#32
  let arg11 : BitVec 32 := Scf.iv c0_i32_74 c1_i32_75 k0_t1
  let c64_i32 : BitVec 32 := 64#32
  let v68 : BitVec 32 := Scalar.muli arg11 c64_i32
  v68
def k0_off1 (k0_t1 : Fin k0_t1_loop.trips) : Fin 2 → Nat :=
  let c0_i32_74 : BitVec 32 := 0#32
  let c1_i32_75 : BitVec 32 := 1#32
  let arg11 : BitVec 32 := Scf.iv c0_i32_74 c1_i32_75 k0_t1
  let c64_i32 : BitVec 32 := 64#32
  let v68 : BitVec 32 := Scalar.muli arg11 c64_i32
  let v69 : BitVec 32 := v68
  let v70 : Index := Scalar.indexCast v69
  let c0_77 : Index := 0#32
  ![v70.toNat, 0]
def k0_off2 (k0_t1 : Fin k0_t1_loop.trips) : Fin 2 → Nat :=
  let c0_i32_74 : BitVec 32 := 0#32
  let c1_i32_75 : BitVec 32 := 1#32
  let arg11 : BitVec 32 := Scf.iv c0_i32_74 c1_i32_75 k0_t1
  let c64_i32 : BitVec 32 := 64#32
  let v68 : BitVec 32 := Scalar.muli arg11 c64_i32
  let v69 : BitVec 32 := v68
  let v96 : Index := Scalar.indexCast v69
  let c0_81 : Index := 0#32
  ![v96.toNat, 0]
def k0_off3 (k0_t1 : Fin k0_t1_loop.trips) : Fin 2 → Nat :=
  let c0_i32_74 : BitVec 32 := 0#32
  let c1_i32_75 : BitVec 32 := 1#32
  let arg11 : BitVec 32 := Scf.iv c0_i32_74 c1_i32_75 k0_t1
  let c64_i32 : BitVec 32 := 64#32
  let v68 : BitVec 32 := Scalar.muli arg11 c64_i32
  let v69 : BitVec 32 := v68
  let v118 : Index := Scalar.indexCast v69
  let c0_84 : Index := 0#32
  ![v118.toNat, 0]
def k0_off4 (k0_t1 : Fin k0_t1_loop.trips) : Fin 2 → Nat :=
  let c0_i32_74 : BitVec 32 := 0#32
  let c1_i32_75 : BitVec 32 := 1#32
  let arg11 : BitVec 32 := Scf.iv c0_i32_74 c1_i32_75 k0_t1
  let c64_i32 : BitVec 32 := 64#32
  let v68 : BitVec 32 := Scalar.muli arg11 c64_i32
  let v69 : BitVec 32 := v68
  let v125 : Index := Scalar.indexCast v69
  let c128 : Index := 128#32
  ![v125.toNat, 128]
def k0_off5 (k0_t1 : Fin k0_t1_loop.trips) : Fin 2 → Nat :=
  let c0_i32_74 : BitVec 32 := 0#32
  let c1_i32_75 : BitVec 32 := 1#32
  let arg11 : BitVec 32 := Scf.iv c0_i32_74 c1_i32_75 k0_t1
  let c64_i32 : BitVec 32 := 64#32
  let v68 : BitVec 32 := Scalar.muli arg11 c64_i32
  let v69 : BitVec 32 := v68
  let v143 : Index := Scalar.indexCast v69
  let c128_89 : Index := 128#32
  ![v143.toNat, 128]
def k0_off6 (k0_t1 : Fin k0_t1_loop.trips) : Fin 2 → Nat :=
  let c0_i32_74 : BitVec 32 := 0#32
  let c1_i32_75 : BitVec 32 := 1#32
  let arg11 : BitVec 32 := Scf.iv c0_i32_74 c1_i32_75 k0_t1
  let c64_i32 : BitVec 32 := 64#32
  let v68 : BitVec 32 := Scalar.muli arg11 c64_i32
  let v69 : BitVec 32 := v68
  let v165 : Index := Scalar.indexCast v69
  let c256_97 : Index := 256#32
  ![v165.toNat, 256]
def k0_off7 (k0_t1 : Fin k0_t1_loop.trips) : Fin 2 → Nat :=
  let c0_i32_74 : BitVec 32 := 0#32
  let c1_i32_75 : BitVec 32 := 1#32
  let arg11 : BitVec 32 := Scf.iv c0_i32_74 c1_i32_75 k0_t1
  let c64_i32 : BitVec 32 := 64#32
  let v68 : BitVec 32 := Scalar.muli arg11 c64_i32
  let v69 : BitVec 32 := v68
  let v172 : Index := Scalar.indexCast v69
  let c384 : Index := 384#32
  ![v172.toNat, 384]
def k0_off8 (k0_t1 : Fin k0_t1_loop.trips) : Fin 2 → Nat :=
  let c0_i32_74 : BitVec 32 := 0#32
  let c1_i32_75 : BitVec 32 := 1#32
  let arg11 : BitVec 32 := Scf.iv c0_i32_74 c1_i32_75 k0_t1
  let c64_i32 : BitVec 32 := 64#32
  let v68 : BitVec 32 := Scalar.muli arg11 c64_i32
  let v69 : BitVec 32 := v68
  let v190 : Index := Scalar.indexCast v69
  let c256_101 : Index := 256#32
  ![v190.toNat, 256]
def k0_off9 (k0_t1 : Fin k0_t1_loop.trips) : Fin 2 → Nat :=
  let c0_i32_74 : BitVec 32 := 0#32
  let c1_i32_75 : BitVec 32 := 1#32
  let arg11 : BitVec 32 := Scf.iv c0_i32_74 c1_i32_75 k0_t1
  let c64_i32 : BitVec 32 := 64#32
  let v68 : BitVec 32 := Scalar.muli arg11 c64_i32
  let v69 : BitVec 32 := v68
  let v212 : Index := Scalar.indexCast v69
  let c512_109 : Index := 512#32
  ![v212.toNat, 512]
def k0_off10 (k0_t1 : Fin k0_t1_loop.trips) : Fin 2 → Nat :=
  let c0_i32_74 : BitVec 32 := 0#32
  let c1_i32_75 : BitVec 32 := 1#32
  let arg11 : BitVec 32 := Scf.iv c0_i32_74 c1_i32_75 k0_t1
  let c64_i32 : BitVec 32 := 64#32
  let v68 : BitVec 32 := Scalar.muli arg11 c64_i32
  let v69 : BitVec 32 := v68
  let v219 : Index := Scalar.indexCast v69
  let c640 : Index := 640#32
  ![v219.toNat, 640]
def k0_off11 (k0_t1 : Fin k0_t1_loop.trips) : Fin 2 → Nat :=
  let c0_i32_74 : BitVec 32 := 0#32
  let c1_i32_75 : BitVec 32 := 1#32
  let arg11 : BitVec 32 := Scf.iv c0_i32_74 c1_i32_75 k0_t1
  let c64_i32 : BitVec 32 := 64#32
  let v68 : BitVec 32 := Scalar.muli arg11 c64_i32
  let v69 : BitVec 32 := v68
  let v237 : Index := Scalar.indexCast v69
  let c384_113 : Index := 384#32
  ![v237.toNat, 384]
def k0_off12 (k0_t1 : Fin k0_t1_loop.trips) : Fin 2 → Nat :=
  let c0_i32_74 : BitVec 32 := 0#32
  let c1_i32_75 : BitVec 32 := 1#32
  let arg11 : BitVec 32 := Scf.iv c0_i32_74 c1_i32_75 k0_t1
  let c64_i32 : BitVec 32 := 64#32
  let v68 : BitVec 32 := Scalar.muli arg11 c64_i32
  let v69 : BitVec 32 := v68
  let v259 : Index := Scalar.indexCast v69
  let c768_121 : Index := 768#32
  ![v259.toNat, 768]
def k0_off13 (k0_t1 : Fin k0_t1_loop.trips) : Fin 2 → Nat :=
  let c0_i32_74 : BitVec 32 := 0#32
  let c1_i32_75 : BitVec 32 := 1#32
  let arg11 : BitVec 32 := Scf.iv c0_i32_74 c1_i32_75 k0_t1
  let c64_i32 : BitVec 32 := 64#32
  let v68 : BitVec 32 := Scalar.muli arg11 c64_i32
  let v69 : BitVec 32 := v68
  let v266 : Index := Scalar.indexCast v69
  let c896 : Index := 896#32
  ![v266.toNat, 896]
def k0_off14 (k0_t1 : Fin k0_t1_loop.trips) : Fin 2 → Nat :=
  let c0_i32_74 : BitVec 32 := 0#32
  let c1_i32_75 : BitVec 32 := 1#32
  let arg11 : BitVec 32 := Scf.iv c0_i32_74 c1_i32_75 k0_t1
  let c64_i32 : BitVec 32 := 64#32
  let v68 : BitVec 32 := Scalar.muli arg11 c64_i32
  let v69 : BitVec 32 := v68
  let v284 : Index := Scalar.indexCast v69
  let c512_125 : Index := 512#32
  ![v284.toNat, 512]
def k0_off15 (k0_t1 : Fin k0_t1_loop.trips) : Fin 2 → Nat :=
  let c0_i32_74 : BitVec 32 := 0#32
  let c1_i32_75 : BitVec 32 := 1#32
  let arg11 : BitVec 32 := Scf.iv c0_i32_74 c1_i32_75 k0_t1
  let c64_i32 : BitVec 32 := 64#32
  let v68 : BitVec 32 := Scalar.muli arg11 c64_i32
  let v69 : BitVec 32 := v68
  let v306 : Index := Scalar.indexCast v69
  let c1024_133 : Index := 1024#32
  ![v306.toNat, 1024]
def k0_off16 (k0_t1 : Fin k0_t1_loop.trips) : Fin 2 → Nat :=
  let c0_i32_74 : BitVec 32 := 0#32
  let c1_i32_75 : BitVec 32 := 1#32
  let arg11 : BitVec 32 := Scf.iv c0_i32_74 c1_i32_75 k0_t1
  let c64_i32 : BitVec 32 := 64#32
  let v68 : BitVec 32 := Scalar.muli arg11 c64_i32
  let v69 : BitVec 32 := v68
  let v313 : Index := Scalar.indexCast v69
  let c1152 : Index := 1152#32
  ![v313.toNat, 1152]
def k0_off17 (k0_t1 : Fin k0_t1_loop.trips) : Fin 2 → Nat :=
  let c0_i32_74 : BitVec 32 := 0#32
  let c1_i32_75 : BitVec 32 := 1#32
  let arg11 : BitVec 32 := Scf.iv c0_i32_74 c1_i32_75 k0_t1
  let c64_i32 : BitVec 32 := 64#32
  let v68 : BitVec 32 := Scalar.muli arg11 c64_i32
  let v69 : BitVec 32 := v68
  let v331 : Index := Scalar.indexCast v69
  let c640_137 : Index := 640#32
  ![v331.toNat, 640]
def k0_off18 (k0_t1 : Fin k0_t1_loop.trips) : Fin 2 → Nat :=
  let c0_i32_74 : BitVec 32 := 0#32
  let c1_i32_75 : BitVec 32 := 1#32
  let arg11 : BitVec 32 := Scf.iv c0_i32_74 c1_i32_75 k0_t1
  let c64_i32 : BitVec 32 := 64#32
  let v68 : BitVec 32 := Scalar.muli arg11 c64_i32
  let v69 : BitVec 32 := v68
  let v353 : Index := Scalar.indexCast v69
  let c1280_145 : Index := 1280#32
  ![v353.toNat, 1280]
def k0_off19 (k0_t1 : Fin k0_t1_loop.trips) : Fin 2 → Nat :=
  let c0_i32_74 : BitVec 32 := 0#32
  let c1_i32_75 : BitVec 32 := 1#32
  let arg11 : BitVec 32 := Scf.iv c0_i32_74 c1_i32_75 k0_t1
  let c64_i32 : BitVec 32 := 64#32
  let v68 : BitVec 32 := Scalar.muli arg11 c64_i32
  let v69 : BitVec 32 := v68
  let v360 : Index := Scalar.indexCast v69
  let c1408 : Index := 1408#32
  ![v360.toNat, 1408]
def k0_off20 (k0_t1 : Fin k0_t1_loop.trips) : Fin 2 → Nat :=
  let c0_i32_74 : BitVec 32 := 0#32
  let c1_i32_75 : BitVec 32 := 1#32
  let arg11 : BitVec 32 := Scf.iv c0_i32_74 c1_i32_75 k0_t1
  let c64_i32 : BitVec 32 := 64#32
  let v68 : BitVec 32 := Scalar.muli arg11 c64_i32
  let v69 : BitVec 32 := v68
  let v378 : Index := Scalar.indexCast v69
  let c768_149 : Index := 768#32
  ![v378.toNat, 768]
def k0_off21 (k0_t1 : Fin k0_t1_loop.trips) : Fin 2 → Nat :=
  let c0_i32_74 : BitVec 32 := 0#32
  let c1_i32_75 : BitVec 32 := 1#32
  let arg11 : BitVec 32 := Scf.iv c0_i32_74 c1_i32_75 k0_t1
  let c64_i32 : BitVec 32 := 64#32
  let v68 : BitVec 32 := Scalar.muli arg11 c64_i32
  let v69 : BitVec 32 := v68
  let v400 : Index := Scalar.indexCast v69
  let c1536_157 : Index := 1536#32
  ![v400.toNat, 1536]
def k0_off22 (k0_t1 : Fin k0_t1_loop.trips) : Fin 2 → Nat :=
  let c0_i32_74 : BitVec 32 := 0#32
  let c1_i32_75 : BitVec 32 := 1#32
  let arg11 : BitVec 32 := Scf.iv c0_i32_74 c1_i32_75 k0_t1
  let c64_i32 : BitVec 32 := 64#32
  let v68 : BitVec 32 := Scalar.muli arg11 c64_i32
  let v69 : BitVec 32 := v68
  let v407 : Index := Scalar.indexCast v69
  let c1664 : Index := 1664#32
  ![v407.toNat, 1664]
def k0_off23 (k0_t1 : Fin k0_t1_loop.trips) : Fin 2 → Nat :=
  let c0_i32_74 : BitVec 32 := 0#32
  let c1_i32_75 : BitVec 32 := 1#32
  let arg11 : BitVec 32 := Scf.iv c0_i32_74 c1_i32_75 k0_t1
  let c64_i32 : BitVec 32 := 64#32
  let v68 : BitVec 32 := Scalar.muli arg11 c64_i32
  let v69 : BitVec 32 := v68
  let v425 : Index := Scalar.indexCast v69
  let c896_161 : Index := 896#32
  ![v425.toNat, 896]
def k0_off24 (k0_t1 : Fin k0_t1_loop.trips) : Fin 2 → Nat :=
  let c0_i32_74 : BitVec 32 := 0#32
  let c1_i32_75 : BitVec 32 := 1#32
  let arg11 : BitVec 32 := Scf.iv c0_i32_74 c1_i32_75 k0_t1
  let c64_i32 : BitVec 32 := 64#32
  let v68 : BitVec 32 := Scalar.muli arg11 c64_i32
  let v69 : BitVec 32 := v68
  let v447 : Index := Scalar.indexCast v69
  let c1792_169 : Index := 1792#32
  ![v447.toNat, 1792]
def k0_off25 (k0_t1 : Fin k0_t1_loop.trips) : Fin 2 → Nat :=
  let c0_i32_74 : BitVec 32 := 0#32
  let c1_i32_75 : BitVec 32 := 1#32
  let arg11 : BitVec 32 := Scf.iv c0_i32_74 c1_i32_75 k0_t1
  let c64_i32 : BitVec 32 := 64#32
  let v68 : BitVec 32 := Scalar.muli arg11 c64_i32
  let v69 : BitVec 32 := v68
  let v454 : Index := Scalar.indexCast v69
  let c1920 : Index := 1920#32
  ![v454.toNat, 1920]
def k0_off26 (k0_t1 : Fin k0_t1_loop.trips) : Fin 2 → Nat :=
  let c0_i32_74 : BitVec 32 := 0#32
  let c1_i32_75 : BitVec 32 := 1#32
  let arg11 : BitVec 32 := Scf.iv c0_i32_74 c1_i32_75 k0_t1
  let c64_i32 : BitVec 32 := 64#32
  let v68 : BitVec 32 := Scalar.muli arg11 c64_i32
  let v69 : BitVec 32 := v68
  let v472 : Index := Scalar.indexCast v69
  let c1024_174 : Index := 1024#32
  ![v472.toNat, 1024]
def k0_off27 (k0_t1 : Fin k0_t1_loop.trips) : Fin 2 → Nat :=
  let c0_i32_74 : BitVec 32 := 0#32
  let c1_i32_75 : BitVec 32 := 1#32
  let arg11 : BitVec 32 := Scf.iv c0_i32_74 c1_i32_75 k0_t1
  let c64_i32 : BitVec 32 := 64#32
  let v68 : BitVec 32 := Scalar.muli arg11 c64_i32
  let v69 : BitVec 32 := v68
  let v494 : Index := Scalar.indexCast v69
  let c2048_182 : Index := 2048#32
  ![v494.toNat, 2048]
def k0_off28 (k0_t1 : Fin k0_t1_loop.trips) : Fin 2 → Nat :=
  let c0_i32_74 : BitVec 32 := 0#32
  let c1_i32_75 : BitVec 32 := 1#32
  let arg11 : BitVec 32 := Scf.iv c0_i32_74 c1_i32_75 k0_t1
  let c64_i32 : BitVec 32 := 64#32
  let v68 : BitVec 32 := Scalar.muli arg11 c64_i32
  let v69 : BitVec 32 := v68
  let v501 : Index := Scalar.indexCast v69
  let c2176 : Index := 2176#32
  ![v501.toNat, 2176]
def k0_off29 (k0_t1 : Fin k0_t1_loop.trips) : Fin 2 → Nat :=
  let c0_i32_74 : BitVec 32 := 0#32
  let c1_i32_75 : BitVec 32 := 1#32
  let arg11 : BitVec 32 := Scf.iv c0_i32_74 c1_i32_75 k0_t1
  let c64_i32 : BitVec 32 := 64#32
  let v68 : BitVec 32 := Scalar.muli arg11 c64_i32
  let v69 : BitVec 32 := v68
  let v519 : Index := Scalar.indexCast v69
  let c1152_186 : Index := 1152#32
  ![v519.toNat, 1152]
def k0_off30 (k0_t1 : Fin k0_t1_loop.trips) : Fin 2 → Nat :=
  let c0_i32_74 : BitVec 32 := 0#32
  let c1_i32_75 : BitVec 32 := 1#32
  let arg11 : BitVec 32 := Scf.iv c0_i32_74 c1_i32_75 k0_t1
  let c64_i32 : BitVec 32 := 64#32
  let v68 : BitVec 32 := Scalar.muli arg11 c64_i32
  let v69 : BitVec 32 := v68
  let v541 : Index := Scalar.indexCast v69
  let c2304 : Index := 2304#32
  ![v541.toNat, 2304]
def k0_off31 (k0_t1 : Fin k0_t1_loop.trips) : Fin 2 → Nat :=
  let c0_i32_74 : BitVec 32 := 0#32
  let c1_i32_75 : BitVec 32 := 1#32
  let arg11 : BitVec 32 := Scf.iv c0_i32_74 c1_i32_75 k0_t1
  let c64_i32 : BitVec 32 := 64#32
  let v68 : BitVec 32 := Scalar.muli arg11 c64_i32
  let v69 : BitVec 32 := v68
  let v548 : Index := Scalar.indexCast v69
  let c2432 : Index := 2432#32
  ![v548.toNat, 2432]
@[reducible] def k0_t2_loop : Scf.Loop 32 :=
  let c0_i32_72 : BitVec 32 := 0#32
  let c8_i32 : BitVec 32 := 8#32
  let v66 : BitVec 32 := Scalar.addi c0_i32_72 c8_i32
  let c1_i32 : BitVec 32 := 1#32
  ⟨c0_i32_72, v66, c1_i32⟩
def k0_mult2 (k0_t2 : Fin k0_t2_loop.trips) : BitVec 32 :=
  let c0_i32_72 : BitVec 32 := 0#32
  let c1_i32 : BitVec 32 := 1#32
  let arg11 : BitVec 32 := Scf.iv c0_i32_72 c1_i32 k0_t2
  let c64_i32 : BitVec 32 := 64#32
  let v67 : BitVec 32 := Scalar.muli arg11 c64_i32
  v67
def k0_off32 (k0_t2 : Fin k0_t2_loop.trips) : Fin 2 → Nat :=
  let c0_i32_72 : BitVec 32 := 0#32
  let c1_i32 : BitVec 32 := 1#32
  let arg11 : BitVec 32 := Scf.iv c0_i32_72 c1_i32 k0_t2
  let c64_i32 : BitVec 32 := 64#32
  let v67 : BitVec 32 := Scalar.muli arg11 c64_i32
  let v68 : BitVec 32 := v67
  let v69 : Index := Scalar.indexCast v68
  let c0_74 : Index := 0#32
  ![v69.toNat, 0]
def k0_off33 (k0_t2 : Fin k0_t2_loop.trips) : Fin 2 → Nat :=
  let c0_i32_72 : BitVec 32 := 0#32
  let c1_i32 : BitVec 32 := 1#32
  let arg11 : BitVec 32 := Scf.iv c0_i32_72 c1_i32 k0_t2
  let c64_i32 : BitVec 32 := 64#32
  let v67 : BitVec 32 := Scalar.muli arg11 c64_i32
  let v68 : BitVec 32 := v67
  let v410 : Index := Scalar.indexCast v68
  let c0_164 : Index := 0#32
  ![v410.toNat, 0]
def k0_off34 (k0_t2 : Fin k0_t2_loop.trips) : Fin 2 → Nat :=
  let c0_i32_72 : BitVec 32 := 0#32
  let c1_i32 : BitVec 32 := 1#32
  let arg11 : BitVec 32 := Scf.iv c0_i32_72 c1_i32 k0_t2
  let c64_i32 : BitVec 32 := 64#32
  let v67 : BitVec 32 := Scalar.muli arg11 c64_i32
  let v68 : BitVec 32 := v67
  let v740 : Index := Scalar.indexCast v68
  let c256_258 : Index := 256#32
  ![v740.toNat, 256]
def k0_off35 (k0_t2 : Fin k0_t2_loop.trips) : Fin 2 → Nat :=
  let c0_i32_72 : BitVec 32 := 0#32
  let c1_i32 : BitVec 32 := 1#32
  let arg11 : BitVec 32 := Scf.iv c0_i32_72 c1_i32 k0_t2
  let c64_i32 : BitVec 32 := 64#32
  let v67 : BitVec 32 := Scalar.muli arg11 c64_i32
  let v68 : BitVec 32 := v67
  let v1076 : Index := Scalar.indexCast v68
  let c512_354 : Index := 512#32
  ![v1076.toNat, 512]
def k0_off36 (k0_t2 : Fin k0_t2_loop.trips) : Fin 2 → Nat :=
  let c0_i32_72 : BitVec 32 := 0#32
  let c1_i32 : BitVec 32 := 1#32
  let arg11 : BitVec 32 := Scf.iv c0_i32_72 c1_i32 k0_t2
  let c64_i32 : BitVec 32 := 64#32
  let v67 : BitVec 32 := Scalar.muli arg11 c64_i32
  let v68 : BitVec 32 := v67
  let v1412 : Index := Scalar.indexCast v68
  let c768_450 : Index := 768#32
  ![v1412.toNat, 768]
def k0_off37 (k0_t2 : Fin k0_t2_loop.trips) : Fin 2 → Nat :=
  let c0_i32_72 : BitVec 32 := 0#32
  let c1_i32 : BitVec 32 := 1#32
  let arg11 : BitVec 32 := Scf.iv c0_i32_72 c1_i32 k0_t2
  let c64_i32 : BitVec 32 := 64#32
  let v67 : BitVec 32 := Scalar.muli arg11 c64_i32
  let v68 : BitVec 32 := v67
  let v1748 : Index := Scalar.indexCast v68
  let c1024_546 : Index := 1024#32
  ![v1748.toNat, 1024]
def k0_off38 (k0_t2 : Fin k0_t2_loop.trips) : Fin 2 → Nat :=
  let c0_i32_72 : BitVec 32 := 0#32
  let c1_i32 : BitVec 32 := 1#32
  let arg11 : BitVec 32 := Scf.iv c0_i32_72 c1_i32 k0_t2
  let c64_i32 : BitVec 32 := 64#32
  let v67 : BitVec 32 := Scalar.muli arg11 c64_i32
  let v68 : BitVec 32 := v67
  let v2084 : Index := Scalar.indexCast v68
  let c1280_642 : Index := 1280#32
  ![v2084.toNat, 1280]
def k0_off39 (k0_t2 : Fin k0_t2_loop.trips) : Fin 2 → Nat :=
  let c0_i32_72 : BitVec 32 := 0#32
  let c1_i32 : BitVec 32 := 1#32
  let arg11 : BitVec 32 := Scf.iv c0_i32_72 c1_i32 k0_t2
  let c64_i32 : BitVec 32 := 64#32
  let v67 : BitVec 32 := Scalar.muli arg11 c64_i32
  let v68 : BitVec 32 := v67
  let v2420 : Index := Scalar.indexCast v68
  let c1536_737 : Index := 1536#32
  ![v2420.toNat, 1536]
def k0_off40 (k0_t2 : Fin k0_t2_loop.trips) : Fin 2 → Nat :=
  let c0_i32_72 : BitVec 32 := 0#32
  let c1_i32 : BitVec 32 := 1#32
  let arg11 : BitVec 32 := Scf.iv c0_i32_72 c1_i32 k0_t2
  let c64_i32 : BitVec 32 := 64#32
  let v67 : BitVec 32 := Scalar.muli arg11 c64_i32
  let v68 : BitVec 32 := v67
  let v2756 : Index := Scalar.indexCast v68
  let c1792_832 : Index := 1792#32
  ![v2756.toNat, 1792]
def k0_off41 (k0_t2 : Fin k0_t2_loop.trips) : Fin 2 → Nat :=
  let c0_i32_72 : BitVec 32 := 0#32
  let c1_i32 : BitVec 32 := 1#32
  let arg11 : BitVec 32 := Scf.iv c0_i32_72 c1_i32 k0_t2
  let c64_i32 : BitVec 32 := 64#32
  let v67 : BitVec 32 := Scalar.muli arg11 c64_i32
  let v68 : BitVec 32 := v67
  let v3092 : Index := Scalar.indexCast v68
  let c2048_927 : Index := 2048#32
  ![v3092.toNat, 2048]
def k0_off42 (k0_t2 : Fin k0_t2_loop.trips) : Fin 2 → Nat :=
  let c0_i32_72 : BitVec 32 := 0#32
  let c1_i32 : BitVec 32 := 1#32
  let arg11 : BitVec 32 := Scf.iv c0_i32_72 c1_i32 k0_t2
  let c64_i32 : BitVec 32 := 64#32
  let v67 : BitVec 32 := Scalar.muli arg11 c64_i32
  let v68 : BitVec 32 := v67
  let v3191 : Index := Scalar.indexCast v68
  let c0_959 : Index := 0#32
  ![v3191.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2304 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2304 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2304x1280 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2304x80 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2304 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2304 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x72 .i8 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2304 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== KOprojIdeal.lean ====
variable {F : FTy → Type} [FloatOps F]
-- ==== ROprojIdeal.lean ====
abbrev S2048x2560 : Shape := ⟨2, ![2048, 2560]⟩
abbrev S2048x2304 : Shape := ⟨2, ![2048, 2304]⟩
abbrev S1x2304 : Shape := ⟨2, ![1, 2304]⟩
abbrev S2304x1280 : Shape := ⟨2, ![2304, 1280]⟩
abbrev S2304x80 : Shape := ⟨2, ![2304, 80]⟩
abbrev S2048x10x2x128 : Shape := ⟨4, ![2048, 10, 2, 128]⟩
abbrev S2048x10x1x128 : Shape := ⟨4, ![2048, 10, 1, 128]⟩
abbrev S2048x10x128 : Shape := ⟨3, ![2048, 10, 128]⟩
abbrev S2048x1280 : Shape := ⟨2, ![2048, 1280]⟩
abbrev S_ : Shape := ⟨0, ![]⟩
abbrev S2304x80x1 : Shape := ⟨3, ![2304, 80, 1]⟩
abbrev S2304x80x16 : Shape := ⟨3, ![2304, 80, 16]⟩

abbrev nBuf : Space → Nat
  | .hbm => 140
  | .vmem => 0
  | .smem => 0
  | _ => 0

abbrev hbmTy0_0 (i : Nat) : BufTy := match i % 128 with
  | 0 => ⟨S2048x2560, .bf16⟩
  | 1 => ⟨S2048x2304, .bf16⟩
  | 2 => ⟨S1x2304, .f32⟩
  | 3 => ⟨S2304x1280, .i8⟩
  | 4 => ⟨S2304x80, .i8⟩
  | 5 => ⟨S2048x10x2x128, .bf16⟩
  | 6 => ⟨S2048x10x1x128, .bf16⟩
  | 7 => ⟨S2048x10x128, .bf16⟩
  | 8 => ⟨S2048x1280, .bf16⟩
  | 9 => ⟨S2048x10x1x128, .bf16⟩
  | 10 => ⟨S2048x10x128, .bf16⟩
  | 11 => ⟨S2048x1280, .bf16⟩
  | 12 => ⟨S2048x2304, .f32⟩
  | 13 => ⟨S2304x1280, .i32⟩
  | 14 => ⟨S2304x80, .i32⟩
  | 15 => ⟨S2304x80, .f32⟩
  | 16 => ⟨S_, .f32⟩
  | 17 => ⟨S2304x80, .f32⟩
  | 18 => ⟨S2304x80, .f32⟩
  | 19 => ⟨S_, .f32⟩
  | 20 => ⟨S2304x80, .f32⟩
  | 21 => ⟨S2304x80, .f32⟩
  | 22 => ⟨S2304x80, .bf16⟩
  | 23 => ⟨S2304x80x1, .bf16⟩
  | 24 => ⟨S_, .i32⟩
  | 25 => ⟨S2304x1280, .i32⟩
  | 26 => ⟨S2304x1280, .i32⟩
  | 27 => ⟨S_, .i32⟩
  | 28 => ⟨S2304x1280, .i32⟩
  | 29 => ⟨S2304x1280, .i32⟩
  | 30 => ⟨S_, .i32⟩
  | 31 => ⟨S2304x1280, .i32⟩
  | 32 => ⟨S2304x1280, .i1⟩
  | 33 => ⟨S_, .i32⟩
  | 34 => ⟨S2304x1280, .i32⟩
  | 35 => ⟨S2304x1280, .i32⟩
  | 36 => ⟨S_, .i32⟩
  | 37 => ⟨S2304x1280, .i32⟩
  | 38 => ⟨S2304x1280, .i1⟩
  | 39 => ⟨S_, .i32⟩
  | 40 => ⟨S2304x1280, .i32⟩
  | 41 => ⟨S2304x1280, .i32⟩
  | 42 => ⟨S_, .i32⟩
  | 43 => ⟨S2304x1280, .i32⟩
  | 44 => ⟨S2304x1280, .i1⟩
  | 45 => ⟨S_, .i32⟩
  | 46 => ⟨S2304x1280, .i32⟩
  | 47 => ⟨S2304x1280, .i32⟩
  | 48 => ⟨S_, .i32⟩
  | 49 => ⟨S2304x1280, .i32⟩
  | 50 => ⟨S2304x1280, .i1⟩
  | 51 => ⟨S_, .bf16⟩
  | 52 => ⟨S_, .bf16⟩
  | 53 => ⟨S2304x1280, .bf16⟩
  | 54 => ⟨S2304x1280, .bf16⟩
  | 55 => ⟨S2304x1280, .bf16⟩
  | 56 => ⟨S_, .bf16⟩
  | 57 => ⟨S_, .bf16⟩
  | 58 => ⟨S2304x1280, .bf16⟩
  | 59 => ⟨S2304x1280, .bf16⟩
  | 60 => ⟨S2304x1280, .bf16⟩
  | 61 => ⟨S2304x1280, .bf16⟩
  | 62 => ⟨S_, .bf16⟩
  | 63 => ⟨S_, .bf16⟩
  | 64 => ⟨S2304x1280, .bf16⟩
  | 65 => ⟨S2304x1280, .bf16⟩
  | 66 => ⟨S2304x1280, .bf16⟩
  | 67 => ⟨S_, .bf16⟩
  | 68 => ⟨S_, .bf16⟩
  | 69 => ⟨S2304x1280, .bf16⟩
  | 70 => ⟨S2304x1280, .bf16⟩
  | 71 => ⟨S2304x1280, .bf16⟩
  | 72 => ⟨S2304x1280, .bf16⟩
  | 73 => ⟨S2304x1280, .bf16⟩
  | 74 => ⟨S2304x1280, .bf16⟩
  | 75 => ⟨S2304x1280, .bf16⟩
  | 76 => ⟨S2304x80x16, .bf16⟩
  | 77 => ⟨S2304x80x16, .bf16⟩
  | 78 => ⟨S2304x80x16, .bf16⟩
  | 79 => ⟨S2304x1280, .bf16⟩
  | 80 => ⟨S_, .i32⟩
  | 81 => ⟨S2304x1280, .i32⟩
  | 82 => ⟨S2304x1280, .i32⟩
  | 83 => ⟨S_, .i32⟩
  | 84 => ⟨S2304x1280, .i32⟩
  | 85 => ⟨S2304x1280, .i32⟩
  | 86 => ⟨S_, .i32⟩
  | 87 => ⟨S2304x1280, .i32⟩
  | 88 => ⟨S2304x1280, .i1⟩
  | 89 => ⟨S_, .i32⟩
  | 90 => ⟨S2304x1280, .i32⟩
  | 91 => ⟨S2304x1280, .i32⟩
  | 92 => ⟨S_, .i32⟩
  | 93 => ⟨S2304x1280, .i32⟩
  | 94 => ⟨S2304x1280, .i1⟩
  | 95 => ⟨S_, .i32⟩
  | 96 => ⟨S2304x1280, .i32⟩
  | 97 => ⟨S2304x1280, .i32⟩
  | 98 => ⟨S_, .i32⟩
  | 99 => ⟨S2304x1280, .i32⟩
  | 100 => ⟨S2304x1280, .i1⟩
  | 101 => ⟨S_, .i32⟩
  | 102 => ⟨S2304x1280, .i32⟩
  | 103 => ⟨S2304x1280, .i32⟩
  | 104 => ⟨S_, .i32⟩
  | 105 => ⟨S2304x1280, .i32⟩
  | 106 => ⟨S2304x1280, .i1⟩
  | 107 => ⟨S_, .bf16⟩
  | 108 => ⟨S_, .bf16⟩
  | 109 => ⟨S2304x1280, .bf16⟩
  | 110 => ⟨S2304x1280, .bf16⟩
  | 111 => ⟨S2304x1280, .bf16⟩
  | 112 => ⟨S_, .bf16⟩
  | 113 => ⟨S_, .bf16⟩
  | 114 => ⟨S2304x1280, .bf16⟩
  | 115 => ⟨S2304x1280, .bf16⟩
  | 116 => ⟨S2304x1280, .bf16⟩
  | 117 => ⟨S2304x1280, .bf16⟩
  | 118 => ⟨S_, .bf16⟩
  | 119 => ⟨S_, .bf16⟩
  | 120 => ⟨S2304x1280, .bf16⟩
  | 121 => ⟨S2304x1280, .bf16⟩
  | 122 => ⟨S2304x1280, .bf16⟩
  | 123 => ⟨S_, .bf16⟩
  | 124 => ⟨S_, .bf16⟩
  | 125 => ⟨S2304x1280, .bf16⟩
  | 126 => ⟨S2304x1280, .bf16⟩
  | 127 => ⟨S2304x1280, .bf16⟩
  | _ => ⟨S2048x2560, .bf16⟩

abbrev hbmTy0_1 (i : Nat) : BufTy := match i % 128 with
  | 0 => ⟨S2304x1280, .bf16⟩
  | 1 => ⟨S2304x1280, .bf16⟩
  | 2 => ⟨S2304x1280, .bf16⟩
  | 3 => ⟨S2304x1280, .bf16⟩
  | 4 => ⟨S2304x80x16, .bf16⟩
  | 5 => ⟨S2304x80x16, .bf16⟩
  | 6 => ⟨S2304x80x16, .bf16⟩
  | 7 => ⟨S2304x1280, .bf16⟩
  | 8 => ⟨S2048x2304, .f32⟩
  | 9 => ⟨S2048x2304, .f32⟩
  | 10 => ⟨S2048x2304, .f32⟩
  | 11 => ⟨S2048x2304, .f32⟩
  | _ => ⟨S2048x2560, .bf16⟩

abbrev hbmTy (i : Nat) : BufTy := match i / 128 with
  | 0 => hbmTy0_0 i
  | 1 => hbmTy0_1 i
  | _ => ⟨S2048x2560, .bf16⟩

abbrev bufTy : (tb : Table) → Fin (tcTables nBuf tb) → BufTy
  | .hbm, ⟨i, _⟩ => hbmTy i
  | _, _ => ⟨S2048x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_c : Ref sig .tc := ⟨.hbm, 24, rfl⟩
abbrev main_v17 : Ref sig .tc := ⟨.hbm, 25, rfl⟩
abbrev main_v18 : Ref sig .tc := ⟨.hbm, 26, rfl⟩
abbrev main_c_1 : Ref sig .tc := ⟨.hbm, 27, rfl⟩
abbrev main_v19 : Ref sig .tc := ⟨.hbm, 28, rfl⟩
abbrev main_v20 : Ref sig .tc := ⟨.hbm, 29, rfl⟩
abbrev main_c_2 : Ref sig .tc := ⟨.hbm, 30, rfl⟩
abbrev main_v21 : Ref sig .tc := ⟨.hbm, 31, rfl⟩
abbrev main_v22 : Ref sig .tc := ⟨.hbm, 32, rfl⟩
abbrev main_c_3 : Ref sig .tc := ⟨.hbm, 33, rfl⟩
abbrev main_v23 : Ref sig .tc := ⟨.hbm, 34, rfl⟩
abbrev main_v24 : Ref sig .tc := ⟨.hbm, 35, rfl⟩
abbrev main_c_4 : Ref sig .tc := ⟨.hbm, 36, rfl⟩
abbrev main_v25 : Ref sig .tc := ⟨.hbm, 37, rfl⟩
abbrev main_v26 : Ref sig .tc := ⟨.hbm, 38, rfl⟩
abbrev main_c_5 : Ref sig .tc := ⟨.hbm, 39, rfl⟩
abbrev main_v27 : Ref sig .tc := ⟨.hbm, 40, rfl⟩
abbrev main_v28 : Ref sig .tc := ⟨.hbm, 41, rfl⟩
abbrev main_c_6 : Ref sig .tc := ⟨.hbm, 42, rfl⟩
abbrev main_v29 : Ref sig .tc := ⟨.hbm, 43, rfl⟩
abbrev main_v30 : Ref sig .tc := ⟨.hbm, 44, rfl⟩
abbrev main_c_7 : Ref sig .tc := ⟨.hbm, 45, rfl⟩
abbrev main_v31 : Ref sig .tc := ⟨.hbm, 46, rfl⟩
abbrev main_v32 : Ref sig .tc := ⟨.hbm, 47, rfl⟩
abbrev main_c_8 : Ref sig .tc := ⟨.hbm, 48, rfl⟩
abbrev main_v33 : Ref sig .tc := ⟨.hbm, 49, rfl⟩
abbrev main_v34 : Ref sig .tc := ⟨.hbm, 50, rfl⟩
abbrev main_cst_9 : Ref sig .tc := ⟨.hbm, 51, rfl⟩
abbrev main_cst_10 : Ref sig .tc := ⟨.hbm, 52, rfl⟩
abbrev main_call0_v0 : Ref sig .tc := ⟨.hbm, 53, rfl⟩
abbrev main_call0_v1 : Ref sig .tc := ⟨.hbm, 54, rfl⟩
abbrev main_v35 : Ref sig .tc := ⟨.hbm, 55, rfl⟩
abbrev main_cst_11 : Ref sig .tc := ⟨.hbm, 56, rfl⟩
abbrev main_cst_12 : Ref sig .tc := ⟨.hbm, 57, rfl⟩
abbrev main_call1_v0 : Ref sig .tc := ⟨.hbm, 58, rfl⟩
abbrev main_call1_v1 : Ref sig .tc := ⟨.hbm, 59, rfl⟩
abbrev main_v36 : Ref sig .tc := ⟨.hbm, 60, rfl⟩
abbrev main_v37 : Ref sig .tc := ⟨.hbm, 61, rfl⟩
abbrev main_cst_13 : Ref sig .tc := ⟨.hbm, 62, rfl⟩
abbrev main_cst_14 : Ref sig .tc := ⟨.hbm, 63, rfl⟩
abbrev main_call3_v0 : Ref sig .tc := ⟨.hbm, 64, rfl⟩
abbrev main_call3_v1 : Ref sig .tc := ⟨.hbm, 65, rfl⟩
abbrev main_v38 : Ref sig .tc := ⟨.hbm, 66, rfl⟩
abbrev main_cst_15 : Ref sig .tc := ⟨.hbm, 67, rfl⟩
abbrev main_cst_16 : Ref sig .tc := ⟨.hbm, 68, rfl⟩
abbrev main_call4_v0 : Ref sig .tc := ⟨.hbm, 69, rfl⟩
abbrev main_call4_v1 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_c_17 : Ref sig .tc := ⟨.hbm, 80, rfl⟩
abbrev main_v48 : Ref sig .tc := ⟨.hbm, 81, rfl⟩
abbrev main_v49 : Ref sig .tc := ⟨.hbm, 82, rfl⟩
abbrev main_c_18 : Ref sig .tc := ⟨.hbm, 83, rfl⟩
abbrev main_v50 : Ref sig .tc := ⟨.hbm, 84, rfl⟩
abbrev main_v51 : Ref sig .tc := ⟨.hbm, 85, rfl⟩
abbrev main_c_19 : Ref sig .tc := ⟨.hbm, 86, rfl⟩
abbrev main_v52 : Ref sig .tc := ⟨.hbm, 87, rfl⟩
abbrev main_v53 : Ref sig .tc := ⟨.hbm, 88, rfl⟩
abbrev main_c_20 : Ref sig .tc := ⟨.hbm, 89, rfl⟩
abbrev main_v54 : Ref sig .tc := ⟨.hbm, 90, rfl⟩
abbrev main_v55 : Ref sig .tc := ⟨.hbm, 91, rfl⟩
abbrev main_c_21 : Ref sig .tc := ⟨.hbm, 92, rfl⟩
abbrev main_v56 : Ref sig .tc := ⟨.hbm, 93, rfl⟩
abbrev main_v57 : Ref sig .tc := ⟨.hbm, 94, rfl⟩
abbrev main_c_22 : Ref sig .tc := ⟨.hbm, 95, rfl⟩
abbrev main_v58 : Ref sig .tc := ⟨.hbm, 96, rfl⟩
abbrev main_v59 : Ref sig .tc := ⟨.hbm, 97, rfl⟩
abbrev main_c_23 : Ref sig .tc := ⟨.hbm, 98, rfl⟩
abbrev main_v60 : Ref sig .tc := ⟨.hbm, 99, rfl⟩
abbrev main_v61 : Ref sig .tc := ⟨.hbm, 100, rfl⟩
abbrev main_c_24 : Ref sig .tc := ⟨.hbm, 101, rfl⟩
abbrev main_v62 : Ref sig .tc := ⟨.hbm, 102, rfl⟩
abbrev main_v63 : Ref sig .tc := ⟨.hbm, 103, rfl⟩
abbrev main_c_25 : Ref sig .tc := ⟨.hbm, 104, rfl⟩
abbrev main_v64 : Ref sig .tc := ⟨.hbm, 105, rfl⟩
abbrev main_v65 : Ref sig .tc := ⟨.hbm, 106, rfl⟩
abbrev main_cst_26 : Ref sig .tc := ⟨.hbm, 107, rfl⟩
abbrev main_cst_27 : Ref sig .tc := ⟨.hbm, 108, rfl⟩
abbrev main_call8_v0 : Ref sig .tc := ⟨.hbm, 109, rfl⟩
abbrev main_call8_v1 : Ref sig .tc := ⟨.hbm, 110, rfl⟩
abbrev main_v66 : Ref sig .tc := ⟨.hbm, 111, rfl⟩
abbrev main_cst_28 : Ref sig .tc := ⟨.hbm, 112, rfl⟩
abbrev main_cst_29 : Ref sig .tc := ⟨.hbm, 113, rfl⟩
abbrev main_call9_v0 : Ref sig .tc := ⟨.hbm, 114, rfl⟩
abbrev main_call9_v1 : Ref sig .tc := ⟨.hbm, 115, rfl⟩
abbrev main_v67 : Ref sig .tc := ⟨.hbm, 116, rfl⟩
abbrev main_v68 : Ref sig .tc := ⟨.hbm, 117, rfl⟩
abbrev main_cst_30 : Ref sig .tc := ⟨.hbm, 118, rfl⟩
abbrev main_cst_31 : Ref sig .tc := ⟨.hbm, 119, rfl⟩
abbrev main_call11_v0 : Ref sig .tc := ⟨.hbm, 120, rfl⟩
abbrev main_call11_v1 : Ref sig .tc := ⟨.hbm, 121, rfl⟩
abbrev main_v69 : Ref sig .tc := ⟨.hbm, 122, rfl⟩
abbrev main_cst_32 : Ref sig .tc := ⟨.hbm, 123, rfl⟩
abbrev main_cst_33 : Ref sig .tc := ⟨.hbm, 124, rfl⟩
abbrev main_call12_v0 : Ref sig .tc := ⟨.hbm, 125, rfl⟩
abbrev main_call12_v1 : Ref sig .tc := ⟨.hbm, 126, rfl⟩
abbrev main_v70 : Ref sig .tc := ⟨.hbm, 127, rfl⟩
abbrev main_v71 : Ref sig .tc := ⟨.hbm, 128, rfl⟩
abbrev main_v72 : Ref sig .tc := ⟨.hbm, 129, rfl⟩
abbrev main_v73 : Ref sig .tc := ⟨.hbm, 130, rfl⟩
abbrev main_v74 : Ref sig .tc := ⟨.hbm, 131, rfl⟩
abbrev main_v75 : Ref sig .tc := ⟨.hbm, 132, rfl⟩
abbrev main_v76 : Ref sig .tc := ⟨.hbm, 133, rfl⟩
abbrev main_v77 : Ref sig .tc := ⟨.hbm, 134, rfl⟩
abbrev main_v78 : Ref sig .tc := ⟨.hbm, 135, rfl⟩
abbrev main_v79 : Ref sig .tc := ⟨.hbm, 136, rfl⟩
abbrev main_v80 : Ref sig .tc := ⟨.hbm, 137, rfl⟩
abbrev main_v81 : Ref sig .tc := ⟨.hbm, 138, rfl⟩
abbrev main_v82 : Ref sig .tc := ⟨.hbm, 139, rfl⟩

abbrev nD : Nat := 1
abbrev τ : Topo := Topo.v7x

variable {F : FTy → Type} [FloatOps F]
-- ==== Proof.Dec.lean ====
/-
  How an mxfp4 weight reads: the bytes a weight block packs (two four-bit codes a byte, one scale byte per sixteen
  bytes), the arithmetic on 32-bit words that turns a block's bytes into floats, and its value at an element.
-/
module

public import Idealize.ShloMosaic.PureOps.Ideal
public import Idealize.ShloMosaic.PureOps.Ideal.Laws
public import Idealize.ShloMosaic.Lib.BitcastFour
public import Idealize.ShloMosaic.Lib.BitcastPair
public import Idealize.ShloMosaic.Lib.ValueIdx
public import Idealize.ShloMosaic.Lib.Pointwise
public import Idealize.ShloMosaic.Lib.Pipeline.Value

@[expose] public section

set_option maxRecDepth 16384

noncomputable section

namespace Cert.Dec

open Idealize.ShloMosaic

/-! ## One byte -/

/-- The float8 byte of a code's low nibble: magnitude bits up by two, the sign to the top bit. -/
def loByte (c : BitVec 8) : BitVec 8 := ((c &&& 7#8) <<< 2) ||| ((c &&& 8#8) <<< 4)

/-- The float8 byte of a code's high nibble. -/
def hiByte (c : BitVec 8) : BitVec 8 := ((c >>> 2) &&& 28#8) ||| (c &&& 128#8)

theorem hiByte_eq (c : BitVec 8) : hiByte c = loByte (c >>> 4) := by revert c; decide +kernel

theorem loByte_and (c : BitVec 8) : loByte c = loByte (c &&& 15#8) := by revert c; decide +kernel

/-- The number a four-bit code stands for: sign, two exponent bits, one mantissa bit. -/
def fp4 (c : BitVec 8) : ℝ :=
  (if c.getLsbD 3 then -1 else 1) *
    (if c.getLsbD 2 then (if c.getLsbD 1 then (if c.getLsbD 0 then 6 else 4) else (if c.getLsbD 0 then 3 else 2))
      else (if c.getLsbD 1 then (if c.getLsbD 0 then 3 / 2 else 1) else (if c.getLsbD 0 then 1 / 2 else 0)))

theorem fp4_and (c : BitVec 8) : fp4 (c &&& 15#8) = fp4 c := by
  have h : ∀ q : Nat, q < 4 → (15#8).getLsbD q = true := by decide
  simp only [fp4, BitVec.getLsbD_and, h 0 (by omega), h 1 (by omega), h 2 (by omega), h 3 (by omega), Bool.and_true]

/-- A four-bit number is one of sixteen. -/
theorem nib_cases (P : BitVec 8 → Prop) (h0 : P 0#8) (h1 : P 1#8) (h2 : P 2#8) (h3 : P 3#8) (h4 : P 4#8) (h5 : P 5#8)
    (h6 : P 6#8) (h7 : P 7#8) (h8 : P 8#8) (h9 : P 9#8) (h10 : P 10#8) (h11 : P 11#8) (h12 : P 12#8) (h13 : P 13#8)
    (h14 : P 14#8) (h15 : P 15#8) (c : BitVec 8) : P (c &&& 15#8) := by
  have h : ∀ c : BitVec 8, c &&& 15#8 ∈ [0#8, 1#8, 2#8, 3#8, 4#8, 5#8, 6#8, 7#8, 8#8, 9#8, 10#8, 11#8, 12#8, 13#8, 14#8, 15#8] := by
    decide +kernel
  have := h c
  simp only [List.mem_cons, List.not_mem_nil, or_false] at this
  rcases this with h | h | h | h | h | h | h | h | h | h | h | h | h | h | h | h <;> rw [h] <;> assumption

/-- The float8 byte's value is the code's number times 2^-6. -/
theorem e4m3fn_loByte (c : BitVec 8) : Ideal.e4m3fn (loByte c) = ((fp4 c * (2 : ℝ) ^ (-6 : ℤ) : ℝ) : EReal) := by
  rw [loByte_and, ← fp4_and]
  refine nib_cases (fun c => Ideal.e4m3fn (loByte c) = ((fp4 c * (2 : ℝ) ^ (-6 : ℤ) : ℝ) : EReal)) ?_ ?_ ?_ ?_ ?_ ?_ ?_ ?_ ?_ ?_ ?_ ?_ ?_ ?_ ?_ ?_ c <;>
  · simp [Ideal.e4m3fn, loByte, fp4]
    try norm_num [← EReal.coe_mul]

/-- The scale's word, read as a float: the exponent field holds the byte plus six. -/
theorem ieee_scale (s : BitVec 8) (hs : s.toNat ≤ 248) :
    Ideal.ofBits .f32 ((s.setWidth 32 + 6#32) <<< 23) = (((2 : ℝ) ^ ((s.toNat : ℤ) - 121) : ℝ) : EReal) := by
  have h1 : ∀ s : BitVec 8, s.toNat ≤ 248 → ((s.setWidth 32 + 6#32) <<< 23).extractLsb' 31 1 = 0#1 ∧
      (((s.setWidth 32 + 6#32) <<< 23).extractLsb' 23 8).toNat = s.toNat + 6 ∧
      (((s.setWidth 32 + 6#32) <<< 23).extractLsb' 0 23).toNat = 0 := by decide +kernel
  obtain ⟨ha, hb, hc⟩ := h1 s hs
  simp only [Ideal.ofBits, Ideal.ieee]
  simp only [show (8 : ℕ) + 23 = 31 from rfl, ha, hb, hc]
  rw [if_neg (by norm_num; omega), if_neg (by omega)]
  refine EReal.coe_eq_coe_iff.mpr ?_
  simp only [show ((0#1 : BitVec 1) == 1#1) = false from rfl, Bool.false_eq_true, if_false, one_mul, Nat.add_zero]
  rw [show ((s.toNat : ℤ) - 121) = 23 + (((s.toNat + 6 : ℕ) : ℤ) - (2 ^ (8 - 1) - 1) - (23 : ℕ)) by push_cast; ring,
    zpow_add₀ (by norm_num)]
  norm_num

/-- A weight's value: the code's number times two to the scale byte less 127. -/
def wv (c s : BitVec 8) : EReal := ((fp4 c * (2 : ℝ) ^ ((s.toNat : ℤ) - 127) : ℝ) : EReal)

/-- The two scalings the decode makes — codes by 2^-6, scales by 2^6 — cancel. -/
theorem wv_of_lo (c s : BitVec 8) (hs : s.toNat ≤ 248) :
    Ideal.ofBits .fp8e4m3 (loByte c) * Ideal.ofBits .f32 ((s.setWidth 32 + 6#32) <<< 23) = wv c s := by
  rw [ieee_scale s hs]
  show Ideal.e4m3fn (loByte c) * _ = _
  rw [e4m3fn_loByte, ← EReal.coe_mul, wv]
  congr 1
  rw [show ((s.toNat : ℤ) - 127) = (-6) + ((s.toNat : ℤ) - 121) by ring, zpow_add₀ (by norm_num)]
  ring

theorem wv_of_hi (c s : BitVec 8) (hs : s.toNat ≤ 248) :
    Ideal.ofBits .fp8e4m3 (hiByte c) * Ideal.ofBits .f32 ((s.setWidth 32 + 6#32) <<< 23) = wv (c >>> 4) s := by
  rw [hiByte_eq, wv_of_lo _ _ hs]

/-- The reference's scale: a power of two at the byte less 127. -/
theorem pow_scale (s : BitVec 8) :
    Ideal.pow ((2 : ℝ) : EReal) ((((s.setWidth 32).toInt : ℝ) : EReal) - ((127 : ℝ) : EReal))
      = (((2 : ℝ) ^ ((s.toNat : ℤ) - 127) : ℝ) : EReal) := by
  have h : (s.setWidth 32).toInt = (s.toNat : ℤ) := by revert s; decide +kernel
  rw [h, ← EReal.coe_sub]
  show ((Real.rpow 2 _ : ℝ) : EReal) = _
  congr 1
  have := Real.rpow_intCast 2 ((s.toNat : ℤ) - 127)
  rw [← this]
  push_cast
  rfl

/-! ## Four bytes at a time -/

/-- Rows of bytes read out of rows of words: byte row `p` is byte `p % 4` of word row `p / 4`. -/
theorem bitcast_32_8_ix2 {R r n : Nat} (y : (⟨2, ![r, n]⟩ : Shape).Idx → BitVec 32)
    (h : (⟨2, ![r, n]⟩ : Shape).Bitcasts 32 ⟨2, ![R, n]⟩ 8) (p : Fin R) (l : Fin n) (a : Fin r) (ha : a.val = p.val / 4) :
    bitcast ⟨2, ![R, n]⟩ 8 y h (ValueIdx.ix2 p l) = (y (ValueIdx.ix2 a l)).extractLsb' (8 * (p.val % 4)) 8 := by
  apply BitVec.eq_of_getLsbD_eq
  intro q hq
  have hr : Shape.row (⟨2, ![R, n]⟩ : Shape) (ValueIdx.ix2 p l) = p.val := rfl
  rw [bitcast_getLsbD y h _ q hq (by decide), BitVec.getLsbD_extractLsb']
  simp only [hr, hq, decide_true, Bool.true_and]
  have e1 : (p.val * 8 + q) % 32 = 8 * (p.val % 4) + q := by omega
  rw [e1]
  congr 2
  funext c
  match c with
  | ⟨0, _⟩ => exact Fin.ext ((h.srcIdx_row _ _ _ ⟨0, Nat.zero_lt_two⟩ rfl).trans (by rw [ha]; omega))
  | ⟨1, _⟩ => exact Fin.ext (h.srcIdx_other _ _ _ ⟨1, Nat.one_lt_two⟩ (by show ¬ 1 + 2 = 2; omega))

/-- Rows of words packed from rows of bytes: byte `b` of word row `a` is byte row `4a + b`. -/
theorem bitcast_8_32_ix2 {R r n : Nat} (x : (⟨2, ![R, n]⟩ : Shape).Idx → BitVec 8)
    (h : (⟨2, ![R, n]⟩ : Shape).Bitcasts 8 ⟨2, ![r, n]⟩ 32) (a : Fin r) (l : Fin n) (p : Fin R) (ha : a.val = p.val / 4) :
    (bitcast ⟨2, ![r, n]⟩ 32 x h (ValueIdx.ix2 a l)).extractLsb' (8 * (p.val % 4)) 8 = x (ValueIdx.ix2 p l) := by
  apply BitVec.eq_of_getLsbD_eq
  intro q hq
  rw [BitVec.getLsbD_extractLsb', bitcast_8_32_getLsbD_ix2 x h a l _ (by omega) p (by omega)]
  have e : (8 * (p.val % 4) + q) % 8 = q := by omega
  simp only [hq, decide_true, Bool.true_and, e]

theorem lo_word (w : BitVec 32) (b : Nat) (hb : b < 4) :
    (((w &&& 117901063#32) <<< 2) ||| ((w &&& 134744072#32) <<< 4)).extractLsb' (8 * b) 8 = loByte (w.extractLsb' (8 * b) 8) := by
  unfold loByte
  apply BitVec.eq_of_getLsbD_eq
  intro q hq
  interval_cases b <;> interval_cases q <;> simp

theorem hi_word (w : BitVec 32) (b : Nat) (hb : b < 4) :
    (((w >>> 2) &&& 471604252#32) ||| (w &&& 2155905152#32)).extractLsb' (8 * b) 8 = hiByte (w.extractLsb' (8 * b) 8) := by
  unfold hiByte
  apply BitVec.eq_of_getLsbD_eq
  intro q hq
  interval_cases b <;> interval_cases q <;> simp

/-! ## A block of 64 rows by 128 bytes -/

abbrev SC : Shape := ⟨2, ![64, 128]⟩
abbrev SW : Shape := ⟨2, ![16, 128]⟩
abbrev S3 : Shape := ⟨3, ![64, 128, 1]⟩

/-- The words whose bytes are the float8 bytes of a block's low nibbles. -/
def loW (codes : IVec SC 8) (h : SC.Bitcasts 8 SW 32) : IVec SW 32 :=
  ori (shli (andi (bitcast SW 32 codes h) (broadcast SW 117901063#32)) (broadcast SW 2#32))
    (shli (andi (bitcast SW 32 codes h) (broadcast SW 134744072#32)) (broadcast SW 4#32))

/-- The words whose bytes are the float8 bytes of a block's high nibbles. -/
def hiW (codes : IVec SC 8) (h : SC.Bitcasts 8 SW 32) : IVec SW 32 :=
  ori (andi (shrui (bitcast SW 32 codes h) (broadcast SW 2#32)) (broadcast SW 471604252#32))
    (andi (bitcast SW 32 codes h) (broadcast SW 2155905152#32))

/-- Words read as float8 bytes, times the scales. -/
def scaled (w : IVec SW 32) (sc : FVec Ideal SC .bf16) (h : SW.Bitcasts 32 SC 8) (hl : FTy.bits .fp8e4m3 < FTy.bits .bf16)
    (hs : SC.ShapeCasts SC) : FVec Ideal SC .bf16 :=
  shapeCast SC (mulf (extf .bf16 (bitcastToFloat .fp8e4m3 (bitcast SC 8 w h)) hl) sc) hs

/-- The lane a scale is taken from: sixteen lanes share one, starting at lane `b`. -/
def laneIx (io : IVec SC 32) (b : BitVec 32) : IVec SC 32 := addi (shrsi io (broadcast SC 4#32)) (broadcast SC b)

/-- The scales spread over the block: lane `l` takes the scale at lane `b + l / 16`. -/
def gath (sv : FVec Ideal SC .bf16) (io : IVec SC 32) (b : BitVec 32) (hb : FTy.bits .bf16 < FTy.bits .f32)
    (h1 : SC.ShapeCasts S3) (h2 : S3.ShapeCasts SC) : FVec Ideal SC .bf16 :=
  truncf .bf16 (dynamicGather 1 (extf .f32 sv hb)
    (shapeCast SC (shapeCast S3 (select (cmpi .slt (laneIx io b) (broadcast SC 0#32)) (addi (laneIx io b) (broadcast SC 128#32))
      (laneIx io b)) h1) h2)) hb

theorem scaled_lo_apply (codes : IVec SC 8) (sc : FVec Ideal SC .bf16) (h h' hl hs) (p : Fin 64) (l : Fin 128) :
    scaled (loW codes h) sc h' hl hs (ValueIdx.ix2 p l)
      = Ideal.ofBits .fp8e4m3 (loByte (codes (ValueIdx.ix2 p l))) * sc (ValueIdx.ix2 p l) := by
  unfold scaled
  rw [shapeCast_self]
  show Ideal.ofBits .fp8e4m3 (bitcast SC 8 (loW codes h) h' (ValueIdx.ix2 p l)) * _ = _
  rw [bitcast_32_8_ix2 _ h' p l ⟨p.val / 4, by omega⟩ rfl]
  show Ideal.ofBits .fp8e4m3 (BitVec.extractLsb' (8 * (p.val % 4)) 8 _) * _ = _
  rw [show loW codes h (ValueIdx.ix2 ⟨p.val / 4, by omega⟩ l)
    = (((bitcast SW 32 codes h (ValueIdx.ix2 ⟨p.val / 4, by omega⟩ l) &&& 117901063#32) <<< 2) |||
       ((bitcast SW 32 codes h (ValueIdx.ix2 ⟨p.val / 4, by omega⟩ l) &&& 134744072#32) <<< 4)) from rfl,
    lo_word _ _ (by omega), bitcast_8_32_ix2 codes h _ l p rfl]

theorem scaled_hi_apply (codes : IVec SC 8) (sc : FVec Ideal SC .bf16) (h h' hl hs) (p : Fin 64) (l : Fin 128) :
    scaled (hiW codes h) sc h' hl hs (ValueIdx.ix2 p l)
      = Ideal.ofBits .fp8e4m3 (hiByte (codes (ValueIdx.ix2 p l))) * sc (ValueIdx.ix2 p l) := by
  unfold scaled
  rw [shapeCast_self]
  show Ideal.ofBits .fp8e4m3 (bitcast SC 8 (hiW codes h) h' (ValueIdx.ix2 p l)) * _ = _
  rw [bitcast_32_8_ix2 _ h' p l ⟨p.val / 4, by omega⟩ rfl]
  show Ideal.ofBits .fp8e4m3 (BitVec.extractLsb' (8 * (p.val % 4)) 8 _) * _ = _
  rw [show hiW codes h (ValueIdx.ix2 ⟨p.val / 4, by omega⟩ l)
    = (((bitcast SW 32 codes h (ValueIdx.ix2 ⟨p.val / 4, by omega⟩ l) >>> 2) &&& 471604252#32) |||
       (bitcast SW 32 codes h (ValueIdx.ix2 ⟨p.val / 4, by omega⟩ l) &&& 2155905152#32)) from rfl,
    hi_word _ _ (by omega), bitcast_8_32_ix2 codes h _ l p rfl]

/-- The lane index at lane `l`, in closed form. -/
theorem lane_word : ∀ l : Fin 128, ∀ b : Fin 121,
    (Scalar.select (IntOp.cmpi .slt (IntOp.addi (IntOp.shrsi .vector (BitVec.ofNat 32 l.val) 4#32) (BitVec.ofNat 32 b.val)) 0#32)
      (IntOp.addi (IntOp.addi (IntOp.shrsi .vector (BitVec.ofNat 32 l.val) 4#32) (BitVec.ofNat 32 b.val)) 128#32)
      (IntOp.addi (IntOp.shrsi .vector (BitVec.ofNat 32 l.val) 4#32) (BitVec.ofNat 32 b.val))).toNat % 128 = b.val + l.val / 16 := by
  decide +kernel

theorem gath_apply (sv : FVec Ideal SC .bf16) (io : IVec SC 32) (b : Nat) (hb h1 h2) (hio : ∀ j : SC.Idx, io j = BitVec.ofNat 32 (j 1).val)
    (hb' : b < 121) (p : Fin 64) (l q : Fin 128) (hq : q.val = b + l.val / 16) :
    gath sv io (BitVec.ofNat 32 b) hb h1 h2 (ValueIdx.ix2 p l) = sv (ValueIdx.ix2 p q) := by
  unfold gath
  rw [shapeCast_shapeCast]
  show dynamicGather 1 _ _ (ValueIdx.ix2 p l) = _
  rw [dynamicGather_apply]
  show sv _ = sv _
  congr 1
  funext a
  match a with
  | ⟨0, _⟩ => rfl
  | ⟨1, _⟩ =>
    refine Fin.ext ?_
    have := lane_word l ⟨b, hb'⟩
    have hi := hio (ValueIdx.ix2 p l)
    rw [hq, ← this]
    show (Scalar.select (IntOp.cmpi .slt (IntOp.addi (IntOp.shrsi .vector (io (ValueIdx.ix2 p l)) 4#32) (BitVec.ofNat 32 b)) 0#32)
      (IntOp.addi (IntOp.addi (IntOp.shrsi .vector (io (ValueIdx.ix2 p l)) 4#32) (BitVec.ofNat 32 b)) 128#32)
      (IntOp.addi (IntOp.shrsi .vector (io (ValueIdx.ix2 p l)) 4#32) (BitVec.ofNat 32 b))).toNat % 128 = _
    rw [hi]

/-- The scale words of a row, padded with zeros to whole registers, read at a lane that holds a scale. -/
theorem padded_apply {n N m : Nat} (s : IVec ⟨2, ![64, n]⟩ 8) (h8 : 8 < 32) (hb : FTy.bits .bf16 < FTy.bits .f32) (z : Ideal .bf16)
    (hc : Shape.Concatenates [⟨2, ![64, n]⟩, ⟨2, ![64, m]⟩] ⟨2, ![64, N]⟩ 1) (p : Fin 64) (q : Fin N) (q' : Fin n) (hq : q'.val = q.val) :
    concatenate ⟨2, ![64, N]⟩ 1 [⟨⟨2, ![64, n]⟩, truncf (F := Ideal) .bf16 (bitcastToFloat .f32 (shli (addi (extui 32 s h8)
        (broadcast ⟨2, ![64, n]⟩ 6#32)) (broadcast ⟨2, ![64, n]⟩ 23#32))) hb⟩, ⟨⟨2, ![64, m]⟩, broadcast ⟨2, ![64, m]⟩ z⟩] hc (ValueIdx.ix2 p q)
      = Ideal.ofBits .f32 (((s (ValueIdx.ix2 p q')).setWidth 32 + 6#32) <<< 23) := by
  rw [concatenate_pair_apply_left 1 _ _ hc (ValueIdx.ix2 p q) rfl (ValueIdx.ix2 p q')]
  · rfl
  · intro b
    match b with
    | ⟨0, _⟩ => rfl
    | ⟨1, _⟩ => exact hq

/-! ## A block of decoded weights -/

section Block

variable {R C nC nS nW : ℕ}

/-- The weights of a block of rows, laid out as the product reads them: of every 256 columns the first 128 hold the low
    nibbles of 128 code bytes and the next 128 their high nibbles. -/
def Wb (hC : nC = 128 * C) (hS : nS = 8 * C) (hW : nW = 256 * C) (codes : IVec ⟨2, ![R, nC]⟩ 8) (scales : IVec ⟨2, ![R, nS]⟩ 8) :
    FVec Ideal ⟨2, ![R, nW]⟩ .bf16 := fun y =>
  have hy : (y 1).val < nW := (y 1).isLt
  wv (if (y 1).val % 256 < 128 then codes (ValueIdx.ix2 (y 0) ⟨128 * ((y 1).val / 256) + (y 1).val % 128, by omega⟩)
      else codes (ValueIdx.ix2 (y 0) ⟨128 * ((y 1).val / 256) + (y 1).val % 128, by omega⟩) >>> 4)
    (scales (ValueIdx.ix2 (y 0) ⟨8 * ((y 1).val / 256) + (y 1).val % 128 / 16, by omega⟩))

variable (hC : nC = 128 * C) (hS : nS = 8 * C) (hW : nW = 256 * C) (codes : IVec ⟨2, ![R, nC]⟩ 8) (scales : IVec ⟨2, ![R, nS]⟩ 8)

/-- The scale lanes one trip pads and slices: what the slice at lane `o` of the padded scale rows reads. -/
theorem slice_padded {n N m : ℕ} (s : IVec ⟨2, ![64, n]⟩ 8) (h8 : 8 < 32) (hb : FTy.bits .bf16 < FTy.bits .f32) (z : Ideal .bf16)
    (hc : Shape.Concatenates [⟨2, ![64, n]⟩, ⟨2, ![64, m]⟩] ⟨2, ![64, N]⟩ 1) (o : ℕ) (sl : (⟨2, ![64, N]⟩ : Shape).Slices ![0, o] SC)
    (p : Fin 64) (q : Fin 128) (q' : Fin n) (hq : q'.val = o + q.val) :
    extractStridedSlice SC ![0, o] (concatenate ⟨2, ![64, N]⟩ 1 [⟨⟨2, ![64, n]⟩, truncf (F := Ideal) .bf16 (bitcastToFloat .f32 (shli (addi (extui 32 s h8)
        (broadcast ⟨2, ![64, n]⟩ 6#32)) (broadcast ⟨2, ![64, n]⟩ 23#32))) hb⟩, ⟨⟨2, ![64, m]⟩, broadcast ⟨2, ![64, m]⟩ z⟩] hc) sl (ValueIdx.ix2 p q)
      = Ideal.ofBits .f32 (((s (ValueIdx.ix2 p q')).setWidth 32 + 6#32) <<< 23) := by
  have hN : o + 128 ≤ N := sl.2 1
  have hlt := q.isLt
  rw [extractStridedSlice_apply ![0, o] _ sl (ValueIdx.ix2 p q) (ValueIdx.ix2 p ⟨o + q.val, by omega⟩)]
  · exact padded_apply s h8 hb z hc p _ q' hq
  · intro a
    match a with
    | ⟨0, _⟩ => exact (Nat.zero_add _).symm
    | ⟨1, _⟩ => rfl

/-- One stored piece of low nibbles: chunk `c` of the rows from `r0`. -/
theorem piece_lo (hsc : ∀ i, (scales i).toNat ≤ 248) (r0 c cC cW o b : ℕ) (hcC : cC = 128 * c) (hcW : cW = 256 * c) (hob : o + b = 8 * c) (hb' : b < 121)
    {n N m : ℕ} (hn : n = nS) (cd : IVec SC 8) (s : IVec ⟨2, ![64, n]⟩ 8) (io : IVec SC 32) (hio : ∀ j : SC.Idx, io j = BitVec.ofNat 32 (j 1).val)
    (hcd : ∀ (p : Fin 64) (l : Fin 128) (i : (⟨2, ![R, nC]⟩ : Shape).Idx), (i 0).val = r0 + p.val → (i 1).val = cC + l.val → cd (ValueIdx.ix2 p l) = codes i)
    (hs : ∀ (p : Fin 64) (l : Fin n) (i : (⟨2, ![R, nS]⟩ : Shape).Idx), (i 0).val = r0 + p.val → (i 1).val = l.val → s (ValueIdx.ix2 p l) = scales i)
    (h8 : 8 < 32) (hb : FTy.bits .bf16 < FTy.bits .f32) (z : Ideal .bf16)
    (hc : Shape.Concatenates [⟨2, ![64, n]⟩, ⟨2, ![64, m]⟩] ⟨2, ![64, N]⟩ 1) (sl : (⟨2, ![64, N]⟩ : Shape).Slices ![0, o] SC)
    (h h' hl hsc' h1 h2) (x : SC.Idx) (y : (⟨2, ![R, nW]⟩ : Shape).Idx) (hy0 : (y 0).val = r0 + (x 0).val) (hy1 : (y 1).val = cW + (x 1).val) :
    scaled (loW cd h) (gath (extractStridedSlice SC ![0, o] (concatenate ⟨2, ![64, N]⟩ 1 [⟨⟨2, ![64, n]⟩, truncf (F := Ideal) .bf16 (bitcastToFloat .f32 (shli (addi (extui 32 s h8)
        (broadcast ⟨2, ![64, n]⟩ 6#32)) (broadcast ⟨2, ![64, n]⟩ 23#32))) hb⟩, ⟨⟨2, ![64, m]⟩, broadcast ⟨2, ![64, m]⟩ z⟩] hc) sl) io (BitVec.ofNat 32 b) hb h1 h2) h' hl hsc' x
      = Wb hC hS hW codes scales y := by
  obtain ⟨p, l, rfl⟩ : ∃ (p : Fin 64) (l : Fin 128), x = ValueIdx.ix2 p l := ⟨x 0, x 1, ValueIdx.eq_ix2 x⟩
  replace hy0 : (y 0).val = r0 + p.val := hy0
  replace hy1 : (y 1).val = cW + l.val := hy1
  have hy1' : (y 1).val < nW := (y 1).isLt
  have hcC' : c < C := by omega
  subst hn
  rw [scaled_lo_apply, gath_apply _ io b hb h1 h2 hio hb' p l ⟨b + l.val / 16, by omega⟩ rfl,
    slice_padded s h8 hb z hc o sl p _ ⟨8 * c + l.val / 16, by omega⟩ (by show 8 * c + l.val / 16 = o + (b + l.val / 16); omega)]
  have e1 : (y 1).val / 256 = c := by omega
  have e2 : (y 1).val % 128 = l.val := by omega
  have e3 : (y 1).val % 256 < 128 := by omega
  rw [hcd p l (ValueIdx.ix2 (y 0) ⟨128 * ((y 1).val / 256) + (y 1).val % 128, by omega⟩) hy0 (by show 128 * ((y 1).val / 256) + (y 1).val % 128 = _; omega),
    hs p _ (ValueIdx.ix2 (y 0) ⟨8 * ((y 1).val / 256) + (y 1).val % 128 / 16, by omega⟩) hy0
      (by show 8 * ((y 1).val / 256) + (y 1).val % 128 / 16 = 8 * c + l.val / 16; omega)]
  rw [wv_of_lo _ _ (hsc _), Wb, if_pos e3]

/-- One stored piece of high nibbles. -/
theorem piece_hi (hsc : ∀ i, (scales i).toNat ≤ 248) (r0 c cC cW o b : ℕ) (hcC : cC = 128 * c) (hcW : cW = 256 * c + 128) (hob : o + b = 8 * c) (hb' : b < 121)
    {n N m : ℕ} (hn : n = nS) (cd : IVec SC 8) (s : IVec ⟨2, ![64, n]⟩ 8) (io : IVec SC 32) (hio : ∀ j : SC.Idx, io j = BitVec.ofNat 32 (j 1).val)
    (hcd : ∀ (p : Fin 64) (l : Fin 128) (i : (⟨2, ![R, nC]⟩ : Shape).Idx), (i 0).val = r0 + p.val → (i 1).val = cC + l.val → cd (ValueIdx.ix2 p l) = codes i)
    (hs : ∀ (p : Fin 64) (l : Fin n) (i : (⟨2, ![R, nS]⟩ : Shape).Idx), (i 0).val = r0 + p.val → (i 1).val = l.val → s (ValueIdx.ix2 p l) = scales i)
    (h8 : 8 < 32) (hb : FTy.bits .bf16 < FTy.bits .f32) (z : Ideal .bf16)
    (hc : Shape.Concatenates [⟨2, ![64, n]⟩, ⟨2, ![64, m]⟩] ⟨2, ![64, N]⟩ 1) (sl : (⟨2, ![64, N]⟩ : Shape).Slices ![0, o] SC)
    (h h' hl hsc' h1 h2) (x : SC.Idx) (y : (⟨2, ![R, nW]⟩ : Shape).Idx) (hy0 : (y 0).val = r0 + (x 0).val) (hy1 : (y 1).val = cW + (x 1).val) :
    scaled (hiW cd h) (gath (extractStridedSlice SC ![0, o] (concatenate ⟨2, ![64, N]⟩ 1 [⟨⟨2, ![64, n]⟩, truncf (F := Ideal) .bf16 (bitcastToFloat .f32 (shli (addi (extui 32 s h8)
        (broadcast ⟨2, ![64, n]⟩ 6#32)) (broadcast ⟨2, ![64, n]⟩ 23#32))) hb⟩, ⟨⟨2, ![64, m]⟩, broadcast ⟨2, ![64, m]⟩ z⟩] hc) sl) io (BitVec.ofNat 32 b) hb h1 h2) h' hl hsc' x
      = Wb hC hS hW codes scales y := by
  obtain ⟨p, l, rfl⟩ : ∃ (p : Fin 64) (l : Fin 128), x = ValueIdx.ix2 p l := ⟨x 0, x 1, ValueIdx.eq_ix2 x⟩
  replace hy0 : (y 0).val = r0 + p.val := hy0
  replace hy1 : (y 1).val = cW + l.val := hy1
  have hy1' : (y 1).val < nW := (y 1).isLt
  have hcC' : c < C := by omega
  subst hn
  rw [scaled_hi_apply, gath_apply _ io b hb h1 h2 hio hb' p l ⟨b + l.val / 16, by omega⟩ rfl,
    slice_padded s h8 hb z hc o sl p _ ⟨8 * c + l.val / 16, by omega⟩ (by show 8 * c + l.val / 16 = o + (b + l.val / 16); omega)]
  have e1 : (y 1).val / 256 = c := by omega
  have e2 : (y 1).val % 128 = l.val := by omega
  have e3 : ¬ (y 1).val % 256 < 128 := by omega
  rw [hcd p l (ValueIdx.ix2 (y 0) ⟨128 * ((y 1).val / 256) + (y 1).val % 128, by omega⟩) hy0 (by show 128 * ((y 1).val / 256) + (y 1).val % 128 = _; omega),
    hs p _ (ValueIdx.ix2 (y 0) ⟨8 * ((y 1).val / 256) + (y 1).val % 128 / 16, by omega⟩) hy0
      (by show 8 * ((y 1).val / 256) + (y 1).val % 128 / 16 = 8 * c + l.val / 16; omega)]
  rw [wv_of_hi _ _ (hsc _), Wb, if_neg e3]

end Block

end Cert.Dec

end
-- ==== Proof.DownDecode.lean ====
/-
  The decoded weights of one grid point of the down projection: what its loop leaves in the scratch block.
-/
module

public import proofs.«01_k».proof.Proof.Dec
public import proofs.«01_k».proof.Proof.Gen.KDownIdeal.Frame

@[expose] public section

set_option maxRecDepth 16384

noncomputable section

namespace Cert.Down

open Cert.KDownIdeal Cert.KDownIdeal.Gen Idealize.ShloMosaic Idealize.ShloMosaic.TcCoe Idealize.ShloMosaic.Tactic Idealize.SL.Sem
open Cert.Dec Cert.KDownIdeal.Facts

/-- A piece whose payload agrees, at every index, with one function of the whole block. -/
abbrev Agrees {S : Shape} {e : EltTy} (G : S.Idx → Elt Ideal e) (p : View.Piece (Elt Ideal) S e) : Prop := ∀ x, p.2 x = G (p.1.emb x)

/-- The scratch block the decode leaves: weights of the block's codes and scales. -/
abbrev WD (codes : IVec S256x4608 8) (scales : IVec S256x288 8) : FVec Ideal S256x9216 .bf16 :=
  Wb (R := 256) (C := 36) (nC := 4608) (nS := 288) (nW := 9216) rfl rfl rfl codes scales

section
variable (𝒱 : Variants) (c : Dev nD) (bd : Option 𝒱.V) (i : grid0.Coords) (arg1 : Memref sig .tc .vmem S2048x9216 .bf16) (harg1 : arg1.IsWhole) (arg2 : Memref sig .tc .vmem S2048x256 .f32) (harg2 : arg2.IsWhole) (arg3 : Memref sig .tc .vmem S256x4608 .i8) (harg3 : arg3.IsWhole) (arg4 : Memref sig .tc .vmem S256x288 .i8) (harg4 : arg4.IsWhole) (arg5 : Memref sig .tc .vmem S2048x256 .bf16) (harg5 : arg5.IsWhole) (arg6 : Memref sig .tc .vmem S256x9216 .bf16) (harg6 : arg6.IsWhole) (X_arg3 : BufTy.Contents (Elt Ideal) arg3.view.ty) (X_arg4 : BufTy.Contents (Elt Ideal) arg4.view.ty)

/-- A rectangle's index from its coordinates. -/
theorem unit_ld {S : Shape} {e : EltTy} (v : View sig .tc .vmem S e) (X : BufTy.Contents (Elt Ideal) v.ty) (off size : Fin S.rank → ℕ) (inb) (y : S.Idx)
    (x : (Rect.unit off size inb).shape.Idx) (h : ∀ a, (y a).val = off a + (x a).val) :
    View.readAt (Elt Ideal) v (Rect.unit (s := S) off size inb).toLoadRect X x = v.read (Elt Ideal) X y := by
  show v.read (Elt Ideal) X _ = _
  congr 1
  funext a
  refine Fin.ext ?_
  show off a + 1 * (x a).val = _
  rw [h a]; omega

theorem closed {n : ℕ} {off f : Fin n → ℕ} [o : ClosedOff off] (h : o.form = f) : off = f := o.eq.trans h

theorem lane_iota (h : SC.Iotas .tc 32 [1]) (j : SC.Idx) : iota .tc SC 32 [1] h j = BitVec.ofNat 32 (j 1).val := iota_single_apply _ _ _ 1 h j

theorem cons_lo (hsc : ∀ i, (arg4.view.read (Elt Ideal) X_arg4 i).toNat ≤ 248) (cc : ℕ) (k : ℕ) (offC offW offS : Fin 2 → ℕ)
    (inbC inbW inbS) (pay : FVec Ideal S64x128 .bf16) (hC : offC = ![64 * k, 128 * cc]) (hW : offW = ![64 * k, 256 * cc]) (hS : offS = ![64 * k, 0])
    (sl : S64x384.Slices ![0, 8 * cc / 128 * 128] SC)
    (C : Vec Ideal S64x128 .i8) (R : FVec Ideal S64x384 .bf16) (v : IVec S64x128 32)
    (hCr : C = View.readAt (Elt Ideal) arg3.view (Rect.unit (s := S256x4608) offC ![64, 128] inbC).toLoadRect X_arg3)
    (hRr : R = concatenate S64x384 1 [⟨S64x288, truncf (F := Ideal) .bf16 (bitcastToFloat .f32 (shli (addi (extui 32
        (View.readAt (Elt Ideal) arg4.view (Rect.unit (s := S256x288) offS ![64, 288] inbS).toLoadRect X_arg4 : IVec S64x288 8) natLt_8_32)
        (broadcast S64x288 6#32)) (broadcast S64x288 23#32))) bitsLt_bf16_f32⟩, ⟨S64x96, broadcast S64x96 (Scalar.ofBits .bf16 0x0000#16)⟩] concatenates_S64x288_S64x96_S64x384_d1)
    (hv : v = iota .tc S64x128 32 [1] iota_S64x128_d1_w32)
    (hpay : pay = scaled (loW C bitcasts_S64x128_w8_S16x128_w32)
      (gath (extractStridedSlice S64x128 ![0, 8 * cc / 128 * 128] R sl) v (BitVec.ofNat 32 (8 * cc % 128)) bitsLt_bf16_f32 shapeCasts_S64x128_S64x128x1
        shapeCasts_S64x128x1_S64x128) bitcasts_S16x128_w32_S64x128_w8 bitsLt_fp8e4m3_bf16 shapeCasts_S64x128_S64x128)
    (L : List (View.Piece (Elt Ideal) S256x9216 .bf16))
    (hL : ∀ p ∈ L, Agrees (WD (arg3.view.read (Elt Ideal) X_arg3) (arg4.view.read (Elt Ideal) X_arg4)) p) :
    ∀ p ∈ (⟨Rect.unit (s := S256x9216) offW ![64, 128] inbW, pay⟩ : View.Piece (Elt Ideal) S256x9216 .bf16) :: L,
      Agrees (WD (arg3.view.read (Elt Ideal) X_arg3) (arg4.view.read (Elt Ideal) X_arg4)) p := by
  refine List.forall_mem_cons.2 ⟨fun x => ?_, hL⟩
  subst hC hW hS hpay hCr hRr hv
  refine piece_lo (R := 256) (C := 36) _ _ _ _ _ hsc (64 * k) cc (128 * cc) (256 * cc) (8 * cc / 128 * 128) (8 * cc % 128) rfl rfl (by omega) (by omega)
    rfl _ _ _ (lane_iota _) ?_ ?_ _ _ _ _ sl _ _ _ _ _ _ x _ ?_ ?_
  · intro p l i h0 h1
    refine unit_ld _ _ _ _ _ i (ValueIdx.ix2 p l) fun a => ?_
    match a with
    | ⟨0, _⟩ => exact h0
    | ⟨1, _⟩ => exact h1
  · intro p l i h0 h1
    refine unit_ld _ _ _ _ _ i (ValueIdx.ix2 p l) fun a => ?_
    match a with
    | ⟨0, _⟩ => exact h0
    | ⟨1, _⟩ => exact h1.trans (Nat.zero_add _).symm
  · show 64 * k + 1 * (x 0).val = _; omega
  · show 256 * cc + 1 * (x 1).val = _; omega

theorem cons_hi (hsc : ∀ i, (arg4.view.read (Elt Ideal) X_arg4 i).toNat ≤ 248) (cc : ℕ) (k : ℕ) (offC offW offS : Fin 2 → ℕ)
    (inbC inbW inbS) (pay : FVec Ideal S64x128 .bf16) (hC : offC = ![64 * k, 128 * cc]) (hW : offW = ![64 * k, 256 * cc + 128]) (hS : offS = ![64 * k, 0])
    (sl : S64x384.Slices ![0, 8 * cc / 128 * 128] SC)
    (C : Vec Ideal S64x128 .i8) (R : FVec Ideal S64x384 .bf16) (v : IVec S64x128 32)
    (hCr : C = View.readAt (Elt Ideal) arg3.view (Rect.unit (s := S256x4608) offC ![64, 128] inbC).toLoadRect X_arg3)
    (hRr : R = concatenate S64x384 1 [⟨S64x288, truncf (F := Ideal) .bf16 (bitcastToFloat .f32 (shli (addi (extui 32
        (View.readAt (Elt Ideal) arg4.view (Rect.unit (s := S256x288) offS ![64, 288] inbS).toLoadRect X_arg4 : IVec S64x288 8) natLt_8_32)
        (broadcast S64x288 6#32)) (broadcast S64x288 23#32))) bitsLt_bf16_f32⟩, ⟨S64x96, broadcast S64x96 (Scalar.ofBits .bf16 0x0000#16)⟩] concatenates_S64x288_S64x96_S64x384_d1)
    (hv : v = iota .tc S64x128 32 [1] iota_S64x128_d1_w32)
    (hpay : pay = scaled (hiW C bitcasts_S64x128_w8_S16x128_w32)
      (gath (extractStridedSlice S64x128 ![0, 8 * cc / 128 * 128] R sl) v (BitVec.ofNat 32 (8 * cc % 128)) bitsLt_bf16_f32 shapeCasts_S64x128_S64x128x1
        shapeCasts_S64x128x1_S64x128) bitcasts_S16x128_w32_S64x128_w8 bitsLt_fp8e4m3_bf16 shapeCasts_S64x128_S64x128)
    (L : List (View.Piece (Elt Ideal) S256x9216 .bf16))
    (hL : ∀ p ∈ L, Agrees (WD (arg3.view.read (Elt Ideal) X_arg3) (arg4.view.read (Elt Ideal) X_arg4)) p) :
    ∀ p ∈ (⟨Rect.unit (s := S256x9216) offW ![64, 128] inbW, pay⟩ : View.Piece (Elt Ideal) S256x9216 .bf16) :: L,
      Agrees (WD (arg3.view.read (Elt Ideal) X_arg3) (arg4.view.read (Elt Ideal) X_arg4)) p := by
  refine List.forall_mem_cons.2 ⟨fun x => ?_, hL⟩
  subst hC hW hS hpay hCr hRr hv
  refine piece_hi (R := 256) (C := 36) _ _ _ _ _ hsc (64 * k) cc (128 * cc) (256 * cc + 128) (8 * cc / 128 * 128) (8 * cc % 128) rfl rfl (by omega) (by omega)
    rfl _ _ _ (lane_iota _) ?_ ?_ _ _ _ _ sl _ _ _ _ _ _ x _ ?_ ?_
  · intro p l i h0 h1
    refine unit_ld _ _ _ _ _ i (ValueIdx.ix2 p l) fun a => ?_
    match a with
    | ⟨0, _⟩ => exact h0
    | ⟨1, _⟩ => exact h1
  · intro p l i h0 h1
    refine unit_ld _ _ _ _ _ i (ValueIdx.ix2 p l) fun a => ?_
    match a with
    | ⟨0, _⟩ => exact h0
    | ⟨1, _⟩ => exact h1.trans (Nat.zero_add _).symm
  · show 64 * k + 1 * (x 0).val = _; omega
  · show 256 * cc + 128 + 1 * (x 1).val = _; omega

/-- The two pieces of one chunk of 128 code columns. -/
theorem cons_pair (hsc : ∀ i, (arg4.view.read (Elt Ideal) X_arg4 i).toNat ≤ 248) (cc : ℕ) (k : ℕ) (offC offL offH offS : Fin 2 → ℕ)
    (inbC inbL inbH inbS) (payL payH : FVec Ideal S64x128 .bf16) (hC : offC = ![64 * k, 128 * cc]) (hW : offL = ![64 * k, 256 * cc]) (hW' : offH = ![64 * k, 256 * cc + 128]) (hS : offS = ![64 * k, 0])
    (sl : S64x384.Slices ![0, 8 * cc / 128 * 128] SC)
    (C : Vec Ideal S64x128 .i8) (R : FVec Ideal S64x384 .bf16) (v : IVec S64x128 32)
    (hCr : C = View.readAt (Elt Ideal) arg3.view (Rect.unit (s := S256x4608) offC ![64, 128] inbC).toLoadRect X_arg3)
    (hRr : R = concatenate S64x384 1 [⟨S64x288, truncf (F := Ideal) .bf16 (bitcastToFloat .f32 (shli (addi (extui 32
        (View.readAt (Elt Ideal) arg4.view (Rect.unit (s := S256x288) offS ![64, 288] inbS).toLoadRect X_arg4 : IVec S64x288 8) natLt_8_32)
        (broadcast S64x288 6#32)) (broadcast S64x288 23#32))) bitsLt_bf16_f32⟩, ⟨S64x96, broadcast S64x96 (Scalar.ofBits .bf16 0x0000#16)⟩] concatenates_S64x288_S64x96_S64x384_d1)
    (hv : v = iota .tc S64x128 32 [1] iota_S64x128_d1_w32)
    (hlo : payL = scaled (loW C bitcasts_S64x128_w8_S16x128_w32)
      (gath (extractStridedSlice S64x128 ![0, 8 * cc / 128 * 128] R sl) v (BitVec.ofNat 32 (8 * cc % 128)) bitsLt_bf16_f32 shapeCasts_S64x128_S64x128x1
        shapeCasts_S64x128x1_S64x128) bitcasts_S16x128_w32_S64x128_w8 bitsLt_fp8e4m3_bf16 shapeCasts_S64x128_S64x128)
    (hhi : payH = scaled (hiW C bitcasts_S64x128_w8_S16x128_w32)
      (gath (extractStridedSlice S64x128 ![0, 8 * cc / 128 * 128] R sl) v (BitVec.ofNat 32 (8 * cc % 128)) bitsLt_bf16_f32 shapeCasts_S64x128_S64x128x1
        shapeCasts_S64x128x1_S64x128) bitcasts_S16x128_w32_S64x128_w8 bitsLt_fp8e4m3_bf16 shapeCasts_S64x128_S64x128)
    (L : List (View.Piece (Elt Ideal) S256x9216 .bf16))
    (hL : ∀ p ∈ L, Agrees (WD (arg3.view.read (Elt Ideal) X_arg3) (arg4.view.read (Elt Ideal) X_arg4)) p) :
    ∀ p ∈ (⟨Rect.unit (s := S256x9216) offH ![64, 128] inbH, payH⟩ : View.Piece (Elt Ideal) S256x9216 .bf16)
        :: ⟨Rect.unit (s := S256x9216) offL ![64, 128] inbL, payL⟩ :: L,
      Agrees (WD (arg3.view.read (Elt Ideal) X_arg3) (arg4.view.read (Elt Ideal) X_arg4)) p :=
  cons_hi arg3 arg4 X_arg3 X_arg4 hsc cc k offC offH offS inbC inbH inbS payH hC hW' hS sl C R v hCr hRr hv hhi _
    (cons_lo arg3 arg4 X_arg3 X_arg4 hsc cc k offC offL offS inbC inbL inbS payL hC hW hS sl C R v hCr hRr hv hlo L hL)

set_option maxHeartbeats 4000000 in
theorem trip_agrees (hsc : ∀ i, (arg4.view.read (Elt Ideal) X_arg4 i).toNat ≤ 248) (k : Fin k0_t1_loop.trips) :
    ∀ p ∈ (trip_k0_t1 (F := Ideal) 𝒱 c bd i arg1 harg1 arg2 harg2 arg3 harg3 arg4 harg4 arg5 harg5 arg6 harg6 X_arg3 X_arg4 k).1,
      Agrees (WD (arg3.view.read (Elt Ideal) X_arg3) (arg4.view.read (Elt Ideal) X_arg4)) p := by
  unfold trip_k0_t1
  dsimp only
  have hR : trip_k0_t1.sl.r arg4 X_arg4 k = concatenate S64x384 1 [⟨S64x288, truncf (F := Ideal) .bf16 (bitcastToFloat .f32 (shli (addi (extui 32
        (View.readAt (Elt Ideal) arg4.view (Rect.unit (s := S256x288) (k0_off1 k) ![64, 288] (k0_off1_inb k)).toLoadRect X_arg4 : IVec S64x288 8) natLt_8_32)
        (broadcast S64x288 6#32)) (broadcast S64x288 23#32))) bitsLt_bf16_f32⟩, ⟨S64x96, broadcast S64x96 (Scalar.ofBits .bf16 0x0000#16)⟩] concatenates_S64x288_S64x96_S64x384_d1 := by
    delta trip_k0_t1.sl.r
    rfl
  refine cons_pair arg3 arg4 X_arg3 X_arg4 hsc 35 k.val (k0_off107 k) (k0_off108 k) (k0_off109 k) (k0_off1 k) (k0_off107_inb k) _ _ (k0_off1_inb k)
    _ _ (closed rfl) (closed rfl) (closed rfl) (closed rfl) (by decide) _ _ _ rfl hR rfl rfl rfl _ ?_
  refine cons_pair arg3 arg4 X_arg3 X_arg4 hsc 34 k.val (k0_off104 k) (k0_off105 k) (k0_off106 k) (k0_off1 k) (k0_off104_inb k) _ _ (k0_off1_inb k)
    _ _ (closed rfl) (closed rfl) (closed rfl) (closed rfl) (by decide) _ _ _ rfl hR rfl rfl rfl _ ?_
  refine cons_pair arg3 arg4 X_arg3 X_arg4 hsc 33 k.val (k0_off101 k) (k0_off102 k) (k0_off103 k) (k0_off1 k) (k0_off101_inb k) _ _ (k0_off1_inb k)
    _ _ (closed rfl) (closed rfl) (closed rfl) (closed rfl) (by decide) _ _ _ rfl hR rfl rfl rfl _ ?_
  refine cons_pair arg3 arg4 X_arg3 X_arg4 hsc 32 k.val (k0_off98 k) (k0_off99 k) (k0_off100 k) (k0_off1 k) (k0_off98_inb k) _ _ (k0_off1_inb k)
    _ _ (closed rfl) (closed rfl) (closed rfl) (closed rfl) (by decide) _ _ _ rfl hR rfl rfl rfl _ ?_
  refine cons_pair arg3 arg4 X_arg3 X_arg4 hsc 31 k.val (k0_off95 k) (k0_off96 k) (k0_off97 k) (k0_off1 k) (k0_off95_inb k) _ _ (k0_off1_inb k)
    _ _ (closed rfl) (closed rfl) (closed rfl) (closed rfl) (by decide) _ _ _ rfl hR rfl rfl rfl _ ?_
  refine cons_pair arg3 arg4 X_arg3 X_arg4 hsc 30 k.val (k0_off92 k) (k0_off93 k) (k0_off94 k) (k0_off1 k) (k0_off92_inb k) _ _ (k0_off1_inb k)
    _ _ (closed rfl) (closed rfl) (closed rfl) (closed rfl) (by decide) _ _ _ rfl hR rfl rfl rfl _ ?_
  refine cons_pair arg3 arg4 X_arg3 X_arg4 hsc 29 k.val (k0_off89 k) (k0_off90 k) (k0_off91 k) (k0_off1 k) (k0_off89_inb k) _ _ (k0_off1_inb k)
    _ _ (closed rfl) (closed rfl) (closed rfl) (closed rfl) (by decide) _ _ _ rfl hR rfl rfl rfl _ ?_
  refine cons_pair arg3 arg4 X_arg3 X_arg4 hsc 28 k.val (k0_off86 k) (k0_off87 k) (k0_off88 k) (k0_off1 k) (k0_off86_inb k) _ _ (k0_off1_inb k)
    _ _ (closed rfl) (closed rfl) (closed rfl) (closed rfl) (by decide) _ _ _ rfl hR rfl rfl rfl _ ?_
  refine cons_pair arg3 arg4 X_arg3 X_arg4 hsc 27 k.val (k0_off83 k) (k0_off84 k) (k0_off85 k) (k0_off1 k) (k0_off83_inb k) _ _ (k0_off1_inb k)
    _ _ (closed rfl) (closed rfl) (closed rfl) (closed rfl) (by decide) _ _ _ rfl hR rfl rfl rfl _ ?_
  refine cons_pair arg3 arg4 X_arg3 X_arg4 hsc 26 k.val (k0_off80 k) (k0_off81 k) (k0_off82 k) (k0_off1 k) (k0_off80_inb k) _ _ (k0_off1_inb k)
    _ _ (closed rfl) (closed rfl) (closed rfl) (closed rfl) (by decide) _ _ _ rfl hR rfl rfl rfl _ ?_
  refine cons_pair arg3 arg4 X_arg3 X_arg4 hsc 25 k.val (k0_off77 k) (k0_off78 k) (k0_off79 k) (k0_off1 k) (k0_off77_inb k) _ _ (k0_off1_inb k)
    _ _ (closed rfl) (closed rfl) (closed rfl) (closed rfl) (by decide) _ _ _ rfl hR rfl rfl rfl _ ?_
  refine cons_pair arg3 arg4 X_arg3 X_arg4 hsc 24 k.val (k0_off74 k) (k0_off75 k) (k0_off76 k) (k0_off1 k) (k0_off74_inb k) _ _ (k0_off1_inb k)
    _ _ (closed rfl) (closed rfl) (closed rfl) (closed rfl) (by decide) _ _ _ rfl hR rfl rfl rfl _ ?_
  refine cons_pair arg3 arg4 X_arg3 X_arg4 hsc 23 k.val (k0_off71 k) (k0_off72 k) (k0_off73 k) (k0_off1 k) (k0_off71_inb k) _ _ (k0_off1_inb k)
    _ _ (closed rfl) (closed rfl) (closed rfl) (closed rfl) (by decide) _ _ _ rfl hR rfl rfl rfl _ ?_
  refine cons_pair arg3 arg4 X_arg3 X_arg4 hsc 22 k.val (k0_off68 k) (k0_off69 k) (k0_off70 k) (k0_off1 k) (k0_off68_inb k) _ _ (k0_off1_inb k)
    _ _ (closed rfl) (closed rfl) (closed rfl) (closed rfl) (by decide) _ _ _ rfl hR rfl rfl rfl _ ?_
  refine cons_pair arg3 arg4 X_arg3 X_arg4 hsc 21 k.val (k0_off65 k) (k0_off66 k) (k0_off67 k) (k0_off1 k) (k0_off65_inb k) _ _ (k0_off1_inb k)
    _ _ (closed rfl) (closed rfl) (closed rfl) (closed rfl) (by decide) _ _ _ rfl hR rfl rfl rfl _ ?_
  refine cons_pair arg3 arg4 X_arg3 X_arg4 hsc 20 k.val (k0_off62 k) (k0_off63 k) (k0_off64 k) (k0_off1 k) (k0_off62_inb k) _ _ (k0_off1_inb k)
    _ _ (closed rfl) (closed rfl) (closed rfl) (closed rfl) (by decide) _ _ _ rfl hR rfl rfl rfl _ ?_
  refine cons_pair arg3 arg4 X_arg3 X_arg4 hsc 19 k.val (k0_off59 k) (k0_off60 k) (k0_off61 k) (k0_off1 k) (k0_off59_inb k) _ _ (k0_off1_inb k)
    _ _ (closed rfl) (closed rfl) (closed rfl) (closed rfl) (by decide) _ _ _ rfl hR rfl rfl rfl _ ?_
  refine cons_pair arg3 arg4 X_arg3 X_arg4 hsc 18 k.val (k0_off56 k) (k0_off57 k) (k0_off58 k) (k0_off1 k) (k0_off56_inb k) _ _ (k0_off1_inb k)
    _ _ (closed rfl) (closed rfl) (closed rfl) (closed rfl) (by decide) _ _ _ rfl hR rfl rfl rfl _ ?_
  refine cons_pair arg3 arg4 X_arg3 X_arg4 hsc 17 k.val (k0_off53 k) (k0_off54 k) (k0_off55 k) (k0_off1 k) (k0_off53_inb k) _ _ (k0_off1_inb k)
    _ _ (closed rfl) (closed rfl) (closed rfl) (closed rfl) (by decide) _ _ _ rfl hR rfl rfl rfl _ ?_
  refine cons_pair arg3 arg4 X_arg3 X_arg4 hsc 16 k.val (k0_off50 k) (k0_off51 k) (k0_off52 k) (k0_off1 k) (k0_off50_inb k) _ _ (k0_off1_inb k)
    _ _ (closed rfl) (closed rfl) (closed rfl) (closed rfl) (by decide) _ _ _ rfl hR rfl rfl rfl _ ?_
  refine cons_pair arg3 arg4 X_arg3 X_arg4 hsc 15 k.val (k0_off47 k) (k0_off48 k) (k0_off49 k) (k0_off1 k) (k0_off47_inb k) _ _ (k0_off1_inb k)
    _ _ (closed rfl) (closed rfl) (closed rfl) (closed rfl) (by decide) _ _ _ rfl hR rfl rfl rfl _ ?_
  refine cons_pair arg3 arg4 X_arg3 X_arg4 hsc 14 k.val (k0_off44 k) (k0_off45 k) (k0_off46 k) (k0_off1 k) (k0_off44_inb k) _ _ (k0_off1_inb k)
    _ _ (closed rfl) (closed rfl) (closed rfl) (closed rfl) (by decide) _ _ _ rfl hR rfl rfl rfl _ ?_
  refine cons_pair arg3 arg4 X_arg3 X_arg4 hsc 13 k.val (k0_off41 k) (k0_off42 k) (k0_off43 k) (k0_off1 k) (k0_off41_inb k) _ _ (k0_off1_inb k)
    _ _ (closed rfl) (closed rfl) (closed rfl) (closed rfl) (by decide) _ _ _ rfl hR rfl rfl rfl _ ?_
  refine cons_pair arg3 arg4 X_arg3 X_arg4 hsc 12 k.val (k0_off38 k) (k0_off39 k) (k0_off40 k) (k0_off1 k) (k0_off38_inb k) _ _ (k0_off1_inb k)
    _ _ (closed rfl) (closed rfl) (closed rfl) (closed rfl) (by decide) _ _ _ rfl hR rfl rfl rfl _ ?_
  refine cons_pair arg3 arg4 X_arg3 X_arg4 hsc 11 k.val (k0_off35 k) (k0_off36 k) (k0_off37 k) (k0_off1 k) (k0_off35_inb k) _ _ (k0_off1_inb k)
    _ _ (closed rfl) (closed rfl) (closed rfl) (closed rfl) (by decide) _ _ _ rfl hR rfl rfl rfl _ ?_
  refine cons_pair arg3 arg4 X_arg3 X_arg4 hsc 10 k.val (k0_off32 k) (k0_off33 k) (k0_off34 k) (k0_off1 k) (k0_off32_inb k) _ _ (k0_off1_inb k)
    _ _ (closed rfl) (closed rfl) (closed rfl) (closed rfl) (by decide) _ _ _ rfl hR rfl rfl rfl _ ?_
  refine cons_pair arg3 arg4 X_arg3 X_arg4 hsc 9 k.val (k0_off29 k) (k0_off30 k) (k0_off31 k) (k0_off1 k) (k0_off29_inb k) _ _ (k0_off1_inb k)
    _ _ (closed rfl) (closed rfl) (closed rfl) (closed rfl) (by decide) _ _ _ rfl hR rfl rfl rfl _ ?_
  refine cons_pair arg3 arg4 X_arg3 X_arg4 hsc 8 k.val (k0_off26 k) (k0_off27 k) (k0_off28 k) (k0_off1 k) (k0_off26_inb k) _ _ (k0_off1_inb k)
    _ _ (closed rfl) (closed rfl) (closed rfl) (closed rfl) (by decide) _ _ _ rfl hR rfl rfl rfl _ ?_
  refine cons_pair arg3 arg4 X_arg3 X_arg4 hsc 7 k.val (k0_off23 k) (k0_off24 k) (k0_off25 k) (k0_off1 k) (k0_off23_inb k) _ _ (k0_off1_inb k)
    _ _ (closed rfl) (closed rfl) (closed rfl) (closed rfl) (by decide) _ _ _ rfl hR rfl rfl rfl _ ?_
  refine cons_pair arg3 arg4 X_arg3 X_arg4 hsc 6 k.val (k0_off20 k) (k0_off21 k) (k0_off22 k) (k0_off1 k) (k0_off20_inb k) _ _ (k0_off1_inb k)
    _ _ (closed rfl) (closed rfl) (closed rfl) (closed rfl) (by decide) _ _ _ rfl hR rfl rfl rfl _ ?_
  refine cons_pair arg3 arg4 X_arg3 X_arg4 hsc 5 k.val (k0_off17 k) (k0_off18 k) (k0_off19 k) (k0_off1 k) (k0_off17_inb k) _ _ (k0_off1_inb k)
    _ _ (closed rfl) (closed rfl) (closed rfl) (closed rfl) (by decide) _ _ _ rfl hR rfl rfl rfl _ ?_
  refine cons_pair arg3 arg4 X_arg3 X_arg4 hsc 4 k.val (k0_off14 k) (k0_off15 k) (k0_off16 k) (k0_off1 k) (k0_off14_inb k) _ _ (k0_off1_inb k)
    _ _ (closed rfl) (closed rfl) (closed rfl) (closed rfl) (by decide) _ _ _ rfl hR rfl rfl rfl _ ?_
  refine cons_pair arg3 arg4 X_arg3 X_arg4 hsc 3 k.val (k0_off11 k) (k0_off12 k) (k0_off13 k) (k0_off1 k) (k0_off11_inb k) _ _ (k0_off1_inb k)
    _ _ (closed rfl) (closed rfl) (closed rfl) (closed rfl) (by decide) _ _ _ rfl hR rfl rfl rfl _ ?_
  refine cons_pair arg3 arg4 X_arg3 X_arg4 hsc 2 k.val (k0_off8 k) (k0_off9 k) (k0_off10 k) (k0_off1 k) (k0_off8_inb k) _ _ (k0_off1_inb k)
    _ _ (closed rfl) (closed rfl) (closed rfl) (closed rfl) (by decide) _ _ _ rfl hR rfl rfl rfl _ ?_
  refine cons_pair arg3 arg4 X_arg3 X_arg4 hsc 1 k.val (k0_off5 k) (k0_off6 k) (k0_off7 k) (k0_off1 k) (k0_off5_inb k) _ _ (k0_off1_inb k)
    _ _ (closed rfl) (closed rfl) (closed rfl) (closed rfl) (by decide) _ _ _ rfl hR rfl rfl rfl _ ?_
  refine cons_pair arg3 arg4 X_arg3 X_arg4 hsc 0 k.val (k0_off2 k) (k0_off3 k) (k0_off4 k) (k0_off1 k) (k0_off2_inb k) _ _ (k0_off1_inb k)
    _ _ (closed rfl) (closed rfl) (closed rfl) (closed rfl) (by decide) _ _ _ rfl hR rfl rfl rfl _ ?_
  exact fun p hp => absurd hp List.not_mem_nil

/-- Every piece the loop has stored before trip `n` agrees with the decoded weights. -/
theorem pb_agrees (hsc : ∀ i, (arg4.view.read (Elt Ideal) X_arg4 i).toNat ≤ 248) : ∀ n : ℕ, n ≤ k0_t1_loop.trips →
    ∀ p ∈ pb_k0_t1 (F := Ideal) 𝒱 c bd i arg1 harg1 arg2 harg2 arg3 harg3 arg4 harg4 arg5 harg5 arg6 harg6 X_arg3 X_arg4 n,
      Agrees (WD (arg3.view.read (Elt Ideal) X_arg3) (arg4.view.read (Elt Ideal) X_arg4)) p
  | 0, _ => fun p hp => absurd hp List.not_mem_nil
  | n + 1, hn => by
    rw [pb_k0_t1_succ 𝒱 c bd i arg1 harg1 arg2 harg2 arg3 harg3 arg4 harg4 arg5 harg5 arg6 harg6 X_arg3 X_arg4 ⟨n, hn⟩]
    intro p hp
    rcases List.mem_append.1 hp with h | h
    · exact trip_agrees 𝒱 c bd i arg1 harg1 arg2 harg2 arg3 harg3 arg4 harg4 arg5 harg5 arg6 harg6 X_arg3 X_arg4 hsc ⟨n, hn⟩ p h
    · exact pb_agrees hsc n (Nat.le_of_succ_le hn) p h

/-- The scratch block read back after the loop is the decoded weights. -/
theorem scratch_read (hsc : ∀ i, (arg4.view.read (Elt Ideal) X_arg4 i).toNat ≤ 248) (B : LoadRect S256x9216) :
    arg6.view.readCov (pb_k0_t1 (F := Ideal) 𝒱 c bd i arg1 harg1 arg2 harg2 arg3 harg3 arg4 harg4 arg5 harg5 arg6 harg6 X_arg3 X_arg4 (Scf.trips k0_t1_loop.lb k0_t1_loop.ub k0_t1_loop.st)) B
      = fun j => WD (arg3.view.read (Elt Ideal) X_arg3) (arg4.view.read (Elt Ideal) X_arg4) (B.idx j) := by
  rw [View.readCov_eq_canon']
  funext j
  exact View.canon_apply_of_pieces _ _ (pb_agrees 𝒱 c bd i arg1 harg1 arg2 harg2 arg3 harg3 arg4 harg4 arg5 harg5 arg6 harg6 X_arg3 X_arg4 hsc _ le_rfl) _
    (View.cover_of_tiledL (pb_k0_t1 (F := Ideal) 𝒱 c bd i arg1 harg1 arg2 harg2 arg3 harg3 arg4 harg4 arg5 harg5 arg6 harg6 X_arg3 X_arg4 (Scf.trips k0_t1_loop.lb k0_t1_loop.ub k0_t1_loop.st)) S64x128.size (by sl_kernel_rfl) _)

end
end Cert.Down
-- ==== Proof.DownValue.lean ====
/-
  The down projection's result: each block the kernel writes is the residual plus the products with the decoded weights.
-/
module

public import proofs.«01_k».proof.Proof.DownDecode
public import proofs.«01_k».proof.Proof.Gen.KDownIdeal.Value

@[expose] public section

set_option maxRecDepth 16384

noncomputable section

namespace Cert.Down

open Cert.KDownIdeal Cert.KDownIdeal.Gen Idealize.ShloMosaic Idealize.ShloMosaic.TcCoe Idealize.ShloMosaic.Tactic Idealize.SL.Sem
open Cert.Dec Cert.KDownIdeal.Facts

section
variable (c : Dev nD) (i : grid0.Coords) (arg1 : Memref sig .tc .vmem S2048x9216 .bf16) (harg1 : arg1.IsWhole) (arg2 : Memref sig .tc .vmem S2048x256 .f32) (harg2 : arg2.IsWhole) (arg3 : Memref sig .tc .vmem S256x4608 .i8) (harg3 : arg3.IsWhole) (arg4 : Memref sig .tc .vmem S256x288 .i8) (harg4 : arg4.IsWhole) (arg5 : Memref sig .tc .vmem S2048x256 .bf16) (harg5 : arg5.IsWhole) (arg6 : Memref sig .tc .vmem S256x9216 .bf16) (harg6 : arg6.IsWhole)
    (x0 : Vec Ideal S2048x9216 .bf16) (x1 : Vec Ideal S2048x256 .f32) (x2 : Vec Ideal S256x4608 .i8) (x3 : Vec Ideal S256x288 .i8)

/-- One element of a block's result. -/
def blockAt (x0 : FVec Ideal S2048x9216 .bf16) (x1 : FVec Ideal S2048x256 .f32) (x2 : IVec S256x4608 8) (x3 : IVec S256x288 8) (r : Fin 2048) (n : Fin 256) : EReal :=
  x1 (ValueIdx.ix2 r n) + ∑ k : Fin 9216, x0 (ValueIdx.ix2 r k) * WD x2 x3 (ValueIdx.ix2 n k)

/-- One element of a 512-row product with the whole weight block. -/
theorem prod_apply (a : FVec Ideal S512x9216 .bf16) (w : FVec Ideal S256x9216 .bf16) (j : S512x256.Idx) :
    FloatOps.matmul dot_S512x9216_S256x9216_S512x256_1_1_0_0_n_n none a w (constant S512x256 .f32 0x00000000#32) j
      = ∑ k : Fin 9216, a (ValueIdx.ix2 (j 0) k) * w (ValueIdx.ix2 (j 1) k) := by
  rw [Ideal.matmul_constant_zero_apply, ← Equiv.sum_comp (ValueIdx.contrEquiv1 dot_S512x9216_S256x9216_S512x256_1_1_0_0_n_n 9216 rfl rfl).symm]
  refine Finset.sum_congr rfl fun k _ => ?_
  have hk := ValueIdx.contrEquiv1_symm_val dot_S512x9216_S256x9216_S512x256_1_1_0_0_n_n 9216 rfl rfl k
  have el : dot_S512x9216_S256x9216_S512x256_1_1_0_0_n_n.lhsIdx j ((ValueIdx.contrEquiv1 dot_S512x9216_S256x9216_S512x256_1_1_0_0_n_n 9216 rfl rfl).symm k) = ValueIdx.ix2 (j 0) k := funext fun a => Fin.ext (by
    match a with
    | ⟨0, _⟩ =>
      show (dot_S512x9216_S256x9216_S512x256_1_1_0_0_n_n.lhsIdx j _ 0).val = (j 0).val
      unfold DotDims.lhsIdx
      rw [dif_neg (show ¬(0 : Fin S512x9216.rank) ∈ dot_S512x9216_S256x9216_S512x256_1_1_0_0_n_n.lhsBatch by decide), dif_pos (show (0 : Fin S512x9216.rank) ∈ dot_S512x9216_S256x9216_S512x256_1_1_0_0_n_n.lhsNonContracting by decide)]
      rfl
    | ⟨1, _⟩ => exact (dot_S512x9216_S256x9216_S512x256_1_1_0_0_n_n.lhsIdx_val_of_single rfl j _).trans hk)
  have er : dot_S512x9216_S256x9216_S512x256_1_1_0_0_n_n.rhsIdx j ((ValueIdx.contrEquiv1 dot_S512x9216_S256x9216_S512x256_1_1_0_0_n_n 9216 rfl rfl).symm k) = ValueIdx.ix2 (j 1) k := funext fun a => Fin.ext (by
    match a with
    | ⟨0, _⟩ =>
      show (dot_S512x9216_S256x9216_S512x256_1_1_0_0_n_n.rhsIdx j _ 0).val = (j 1).val
      unfold DotDims.rhsIdx
      rw [dif_neg (show ¬(0 : Fin S256x9216.rank) ∈ dot_S512x9216_S256x9216_S512x256_1_1_0_0_n_n.rhsBatch by decide), dif_pos (show (0 : Fin S256x9216.rank) ∈ dot_S512x9216_S256x9216_S512x256_1_1_0_0_n_n.rhsNonContracting by decide)]
      rfl
    | ⟨1, _⟩ => exact (dot_S512x9216_S256x9216_S512x256_1_1_0_0_n_n.rhsIdx_val_of_single rfl j _).trans hk)
  rw [el, er]
  rfl

/-- A stored piece of 512 rows from row `o`: the payload is the block's value there. -/
theorem rows_agree (hsc : ∀ i, (x3 i).toNat ≤ 248) (o : ℕ) (inbR inbA inbO inbW) (hb : S2048x256.Idx → EReal)
    (hbe : hb = fun y => blockAt x0 x1 x2 x3 (y 0) (y 1))
    (x : (Rect.unit (s := S2048x256) ![o, 0] ![512, 256] inbO).shape.Idx) :
    k0_pay1 (F := Ideal) (View.readAt (Elt Ideal) arg2.view (Rect.unit (s := S2048x256) ![o, 0] ![512, 256] inbR).toLoadRect (harg2.unread x1))
      (View.readAt (Elt Ideal) arg1.view (Rect.unit (s := S2048x9216) ![o, 0] ![512, 9216] inbA).toLoadRect (harg1.unread x0))
      (arg6.view.readCov (pb_k0_t1 (F := Ideal) Variants.none c none i arg1 harg1 arg2 harg2 arg3 harg3 arg4 harg4 arg5 harg5 arg6 harg6
          (harg3.unread x2) (harg4.unread x3) (Scf.trips k0_t1_loop.lb k0_t1_loop.ub k0_t1_loop.st))
        (Rect.unit (s := S256x9216) ![0, 0] ![256, 9216] inbW).toLoadRect) x = hb ((Rect.unit (s := S2048x256) ![o, 0] ![512, 256] inbO).emb x) := by
  rw [hbe, scratch_read _ _ _ _ _ _ _ _ _ _ _ _ _ _ _ _ _ _ (by rw [harg4.read_unread]; exact hsc), harg3.read_unread, harg4.read_unread]
  show (View.readAt (Elt Ideal) arg2.view (Rect.unit (s := S2048x256) ![o, 0] ![512, 256] inbR).toLoadRect (harg2.unread x1) x : EReal)
      + (FloatOps.matmul (F := Ideal) dot_S512x9216_S256x9216_S512x256_1_1_0_0_n_n none
        (View.readAt (Elt Ideal) arg1.view (Rect.unit (s := S2048x9216) ![o, 0] ![512, 9216] inbA).toLoadRect (harg1.unread x0) : FVec Ideal S512x9216 .bf16)
        ((fun j => WD x2 x3 ((Rect.unit (s := S256x9216) ![0, 0] ![256, 9216] inbW).toLoadRect.idx j)) : FVec Ideal S256x9216 .bf16)
        (constant S512x256 .f32 0x00000000#32) : FVec Ideal S512x256 .f32) x = blockAt x0 x1 x2 x3 _ _
  rw [prod_apply]
  unfold blockAt
  refine congrArg₂ (· + ·) ?_ (Finset.sum_congr rfl fun k _ => congrArg₂ (· * ·) ?_ ?_)
  · refine (unit_ld _ _ _ _ _ (ValueIdx.ix2 ((Rect.unit (s := S2048x256) ![o, 0] ![512, 256] inbO).emb x 0) ((Rect.unit (s := S2048x256) ![o, 0] ![512, 256] inbO).emb x 1)) x fun a => ?_).trans (congrFun (harg2.read_unread _) _)
    match a with
    | ⟨0, _⟩ => show o + 1 * (x 0).val = o + (x 0).val; omega
    | ⟨1, _⟩ => show 0 + 1 * (x 1).val = 0 + (x 1).val; omega
  · refine (unit_ld _ _ _ _ _ (ValueIdx.ix2 ((Rect.unit (s := S2048x256) ![o, 0] ![512, 256] inbO).emb x 0) k) _ fun a => ?_).trans (congrFun (harg1.read_unread _) _)
    match a with
    | ⟨0, _⟩ => show o + 1 * (x 0).val = o + (x 0).val; omega
    | ⟨1, _⟩ => show k.val = 0 + k.val; omega
  · refine congrArg (WD x2 x3) (funext fun a => Fin.ext ?_)
    match a with
    | ⟨0, _⟩ => show 0 + 1 * (x 1).val = 0 + 1 * (x 1).val; rfl
    | ⟨1, _⟩ => show 0 + 1 * k.val = k.val; omega

/-- The block the body leaves at a grid point. -/
theorem out_apply (hsc : ∀ i, (x3 i).toNat ≤ 248) (y : S2048x256.Idx) :
    out0_A_4 (F := Ideal) c i arg1 harg1 arg2 harg2 arg3 harg3 arg4 harg4 arg5 harg5 arg6 harg6 x0 x1 x2 x3 y = blockAt x0 x1 x2 x3 (y 0) (y 1) := by
  unfold out0_A_4
  rw [View.read_writes_eq_canon _ _ _ (cover0_A_4 (F := Ideal) c i arg1 harg1 arg2 harg2 arg3 harg3 arg4 harg4 arg5 harg5 arg6 harg6 x0 x1 x2 x3)]
  refine View.canon_apply_of_pieces (fun y => blockAt x0 x1 x2 x3 (y 0) (y 1)) _ ?_ y (cover0_A_4 (F := Ideal) c i arg1 harg1 arg2 harg2 arg3 harg3 arg4 harg4 arg5 harg5 arg6 harg6 x0 x1 x2 x3 y)
  unfold kernelRun0_A
  dsimp only
  exact List.forall_mem_cons.2 ⟨fun x => rows_agree c i arg1 harg1 arg2 harg2 arg3 harg3 arg4 harg4 arg5 harg5 arg6 harg6 x0 x1 x2 x3 hsc 1536 _ _ inb_S2048x256_S512x256_1536_0 _ _ rfl x,
    List.forall_mem_cons.2 ⟨fun x => rows_agree c i arg1 harg1 arg2 harg2 arg3 harg3 arg4 harg4 arg5 harg5 arg6 harg6 x0 x1 x2 x3 hsc 1024 _ _ inb_S2048x256_S512x256_1024_0 _ _ rfl x,
    List.forall_mem_cons.2 ⟨fun x => rows_agree c i arg1 harg1 arg2 harg2 arg3 harg3 arg4 harg4 arg5 harg5 arg6 harg6 x0 x1 x2 x3 hsc 512 _ _ inb_S2048x256_S512x256_512_0 _ _ rfl x,
    List.forall_mem_cons.2 ⟨fun x => rows_agree c i arg1 harg1 arg2 harg2 arg3 harg3 arg4 harg4 arg5 harg5 arg6 harg6 x0 x1 x2 x3 hsc 0 _ _ inb_S2048x256_S512x256_0_0 _ _ rfl x,
    fun p hp => absurd hp List.not_mem_nil⟩⟩⟩⟩
end
end Cert.Down
-- ==== Proof.DownArray.lean ====
/-
  The down projection's result array after the run: every element is the residual plus the row of activations against
  the row of decoded weights.
-/
module

public import proofs.«01_k».proof.Proof.DownValue

@[expose] public section

set_option maxRecDepth 16384

noncomputable section

namespace Cert.Down

open Cert.KDownIdeal Cert.KDownIdeal.Gen Idealize.ShloMosaic Idealize.ShloMosaic.TcCoe Idealize.ShloMosaic.Tactic Idealize.SL.Sem
open Cert.Dec Cert.KDownIdeal.Facts

variable (m : (ℓ : Loc nD τ sig) → Buf (Elt Ideal) ℓ) (ρ : Dev nD → PrngReg) (c : Dev nD)

/-- The whole result: residual plus activations against the decoded weights. -/
def downOut (a : FVec Ideal S2048x9216 .bf16) (r : FVec Ideal S2048x2304 .f32) (codes : IVec S2304x4608 8) (scales : IVec S2304x288 8) :
    FVec Ideal S2048x2304 .bf16 := fun j =>
  ((r j : EReal) + ∑ k : Fin 9216, (a (ValueIdx.ix2 (j 0) k) : EReal)
    * Wb (R := 2304) (C := 36) (nC := 4608) (nS := 288) (nW := 9216) rfl rfl rfl codes scales (ValueIdx.ix2 (j 1) k) : EReal)

abbrev arrA : FVec Ideal S2048x9216 .bf16 := m ((c : Thread nD τ).loc main_arg0)
abbrev arrR : FVec Ideal S2048x2304 .f32 := m ((c : Thread nD τ).loc main_arg1)
abbrev arrC : IVec S2304x4608 8 := m ((c : Thread nD τ).loc main_arg2)
abbrev arrS : IVec S2304x288 8 := m ((c : Thread nD τ).loc main_arg3)

/-! ## Where each window's block sits -/

theorem at0 : ∀ t : Fin cfg0.N, win0_0.index t 0 = 0 ∧ win0_0.index t 1 = 0 := (by decide +kernel : ∀ t : Fin grid0.N, win0_0.index t 0 = 0 ∧ win0_0.index t 1 = 0)
theorem at1 : ∀ t : Fin cfg0.N, win0_1.index t 0 = 0 ∧ win0_1.index t 1 = t.val := (by decide +kernel : ∀ t : Fin grid0.N, win0_1.index t 0 = 0 ∧ win0_1.index t 1 = t.val)
theorem at2 : ∀ t : Fin cfg0.N, win0_2.index t 0 = t.val ∧ win0_2.index t 1 = 0 := (by decide +kernel : ∀ t : Fin grid0.N, win0_2.index t 0 = t.val ∧ win0_2.index t 1 = 0)
theorem at3 : ∀ t : Fin cfg0.N, win0_3.index t 0 = t.val ∧ win0_3.index t 1 = 0 := (by decide +kernel : ∀ t : Fin grid0.N, win0_3.index t 0 = t.val ∧ win0_3.index t 1 = 0)
theorem at4 : ∀ t : Fin cfg0.N, win0_4.index t 0 = 0 ∧ win0_4.index t 1 = t.val := (by decide +kernel : ∀ t : Fin grid0.N, win0_4.index t 0 = 0 ∧ win0_4.index t 1 = t.val)

theorem size4 : ∀ t : Fin cfg0.N, win0_4.xsize (grid0.coords t) 0 = 2048 ∧ win0_4.xsize (grid0.coords t) 1 = 256 :=
  (by decide +kernel : ∀ t : Fin grid0.N, win0_4.xsize (grid0.coords t) 0 = 2048 ∧ win0_4.xsize (grid0.coords t) 1 = 256)

theorem iblk0 (t : Fin cfg0.N) (p : Fin 2048) (q : Fin 9216) : (iblk m c 0 t : FVec Ideal S2048x9216 .bf16) (ValueIdx.ix2 p q) = arrA m c (ValueIdx.ix2 p q) := by
  unfold iblk
  refine (congrFun (V_main_arg0 m c) _).trans (congrArg (arrA m c) (funext fun a => Fin.ext ?_))
  match a with
  | ⟨0, _⟩ => show win0_0.index t 0 * 2048 + 1 * p.val = p.val; rw [(at0 t).1]; omega
  | ⟨1, _⟩ => show win0_0.index t 1 * 9216 + 1 * q.val = q.val; rw [(at0 t).2]; omega

theorem iblk1 (t : Fin cfg0.N) (p : Fin 2048) (q : Fin 256) (q' : Fin 2304) (hq : q'.val = 256 * t.val + q.val) :
    (iblk m c 1 t : FVec Ideal S2048x256 .f32) (ValueIdx.ix2 p q) = arrR m c (ValueIdx.ix2 p q') := by
  unfold iblk
  refine (congrFun (V_main_arg1 m c) _).trans (congrArg (arrR m c) (funext fun a => Fin.ext ?_))
  match a with
  | ⟨0, _⟩ => show win0_1.index t 0 * 2048 + 1 * p.val = p.val; rw [(at1 t).1]; omega
  | ⟨1, _⟩ => show win0_1.index t 1 * 256 + 1 * q.val = q'.val; rw [(at1 t).2]; omega

theorem iblk2 (t : Fin cfg0.N) (p : Fin 256) (q : Fin 4608) (p' : Fin 2304) (hp : p'.val = 256 * t.val + p.val) :
    (iblk m c 2 t : IVec S256x4608 8) (ValueIdx.ix2 p q) = arrC m c (ValueIdx.ix2 p' q) := by
  unfold iblk
  refine (congrFun (V_main_arg2 m c) _).trans (congrArg (arrC m c) (funext fun a => Fin.ext ?_))
  match a with
  | ⟨0, _⟩ => show win0_2.index t 0 * 256 + 1 * p.val = p'.val; rw [(at2 t).1]; omega
  | ⟨1, _⟩ => show win0_2.index t 1 * 4608 + 1 * q.val = q.val; rw [(at2 t).2]; omega

theorem iblk3 (t : Fin cfg0.N) (p : Fin 256) (q : Fin 288) (p' : Fin 2304) (hp : p'.val = 256 * t.val + p.val) :
    (iblk m c 3 t : IVec S256x288 8) (ValueIdx.ix2 p q) = arrS m c (ValueIdx.ix2 p' q) := by
  unfold iblk
  refine (congrFun (V_main_arg3 m c) _).trans (congrArg (arrS m c) (funext fun a => Fin.ext ?_))
  match a with
  | ⟨0, _⟩ => show win0_3.index t 0 * 256 + 1 * p.val = p'.val; rw [(at3 t).1]; omega
  | ⟨1, _⟩ => show win0_3.index t 1 * 288 + 1 * q.val = q.val; rw [(at3 t).2]; omega

/-! ## A block's value is the whole result's there -/

theorem lt9 (t : Fin cfg0.N) : t.val < 9 := lt_of_lt_of_eq t.isLt (N_0 : cfg0.N = 9)

theorem WD_eq (t : Fin cfg0.N) (n : Fin 256) (n' : Fin 2304) (hn : n'.val = 256 * t.val + n.val) (k : Fin 9216) :
    WD (iblk m c 2 t) (iblk m c 3 t) (ValueIdx.ix2 n k)
      = Wb (R := 2304) (C := 36) (nC := 4608) (nS := 288) (nW := 9216) rfl rfl rfl (arrC m c) (arrS m c) (ValueIdx.ix2 n' k) := by
  have e : ∀ q, (iblk m c 2 t : IVec S256x4608 8) (ValueIdx.ix2 n q) = arrC m c (ValueIdx.ix2 n' q) := fun q => iblk2 m c t n q n' hn
  have e' : ∀ q, (iblk m c 3 t : IVec S256x288 8) (ValueIdx.ix2 n q) = arrS m c (ValueIdx.ix2 n' q) := fun q => iblk3 m c t n q n' hn
  unfold WD Wb
  exact congrArg₂ wv (if_congr Iff.rfl (e _) (congrArg (fun x : BitVec 8 => x >>> 4) (e _))) (e' _)

theorem blockAt_eq (t : Fin cfg0.N) (r : Fin 2048) (n : Fin 256) (n' : Fin 2304) (hn : n'.val = 256 * t.val + n.val) :
    blockAt (iblk m c 0 t) (iblk m c 1 t) (iblk m c 2 t) (iblk m c 3 t) r n
      = downOut (arrA m c) (arrR m c) (arrC m c) (arrS m c) (ValueIdx.ix2 r n') := by
  unfold blockAt downOut
  exact congrArg₂ (· + ·) (iblk1 m c t r n n' hn)
    (Finset.sum_congr rfl fun k _ => congrArg₂ (· * ·) (iblk0 m c t r k) (WD_eq m c t n n' hn k))

/-- What a grid point writes back is its block of the whole result. -/
theorem flushed_eq (hsc : ∀ i, (arrS m c i).toNat ≤ 248) (t : Fin cfg0.N) :
    (dats m 0 c).flushed 4 t = ((cfg0.win 4).blk t).view.read (Elt Ideal) (downOut (arrA m c) (arrR m c) (arrC m c) (arrS m c)) := by
  rw [Cert.KDownIdeal.Value.flushed4_A]
  funext y
  have ht := lt9 t
  have h1 : (y 1).val < 256 := (y 1).isLt
  refine (out_apply c _ _ _ _ _ _ _ _ _ _ _ _ _ _ _ _ _ ?_ _).trans ?_
  · intro i
    obtain ⟨p, q, rfl⟩ : ∃ (p : Fin 256) (q : Fin 288), i = ValueIdx.ix2 p q := ⟨i 0, i 1, ValueIdx.eq_ix2 i⟩
    have hp : 256 * t.val + p.val < 2304 := by have := p.isLt; omega
    exact (congrArg BitVec.toNat (iblk3 m c t p q ⟨256 * t.val + p.val, hp⟩ rfl)).trans_le (hsc _)
  · refine (blockAt_eq m c t (y 0) (y 1) ⟨256 * t.val + (y 1).val, by omega⟩ rfl).trans ?_
    refine congrArg (downOut (arrA m c) (arrR m c) (arrC m c) (arrS m c)) (funext fun a => Fin.ext ?_)
    match a with
    | ⟨0, _⟩ => show (y 0).val = win0_4.index t 0 * 2048 + 1 * (y 0).val; rw [(at4 t).1]; omega
    | ⟨1, _⟩ => show 256 * t.val + (y 1).val = win0_4.index t 1 * 256 + 1 * (y 1).val; rw [(at4 t).2]; omega

/-- An element is in point `t`'s block when its column is. -/
theorem mem_blk (t : Fin cfg0.N) (i : S2048x2304.Idx) (h : t.val * 256 ≤ (i 1).val ∧ (i 1).val < t.val * 256 + 256) :
    i ∈ ((cfg0.win 4).blk t).view.set := by
  show i ∈ ((View.whole main_v0).slice (win0_4.rect t)).set
  rw [View.set_slice_whole, Rect.mem_set_unit]
  intro a
  match a with
  | ⟨0, _⟩ => show win0_4.index t 0 * win0_4.size 0 ≤ (i 0).val ∧ (i 0).val < win0_4.index t 0 * win0_4.size 0 + win0_4.xsize (grid0.coords t) 0
              rw [(at4 t).1, (size4 t).1]; have : (i 0).val < 2048 := (i 0).isLt; omega
  | ⟨1, _⟩ => show win0_4.index t 1 * 256 ≤ (i 1).val ∧ (i 1).val < win0_4.index t 1 * 256 + win0_4.xsize (grid0.coords t) 1
              rw [(at4 t).2, (size4 t).2]; exact h

theorem cover (i : S2048x2304.Idx) : ∃ t : Fin cfg0.N, (cfg0.win 4).flush t = true ∧ i ∈ ((cfg0.win 4).blk t).view.set := by
  have h1 : (i 1).val < 2304 := (i 1).isLt
  have hN : cfg0.N = 9 := N_0
  refine ⟨⟨(i 1).val / 256, by omega⟩, flush0_4 _, mem_blk _ i ?_⟩
  dsimp only
  omega

/-- The result array after the run. -/
theorem final (hsc : ∀ i, (arrS m c i).toNat ≤ 248) :
    (dats m 0 c).arrAt 4 cfg0.N = downOut (arrA m c) (arrR m c) (arrC m c) (arrS m c) :=
  (dats m 0 c).arrAt_eq_of_cover 4 _ (fun t _ => flushed_eq m c hsc t) cover

end Cert.Down
-- ==== Proof.RefCode.lean ====
/-
  The reference's reading of a four-bit code and of a scale byte, one element at a time.
-/
module

public import proofs.«01_k».proof.Proof.Dec

@[expose] public section

set_option maxRecDepth 16384

noncomputable section

namespace Cert.Dec

open Idealize.ShloMosaic

/-- Bit test of a word, as the reference makes it. -/
abbrev bitOf (n k : BitVec 32) : BitVec 1 := IntOp.cmpi .ne (IntOp.andi n k) 0#32

/-- The magnitude the reference picks by a code's three low bits. -/
abbrev nibMag (n : BitVec 32) : EReal :=
  Scalar.select (bitOf n 4#32)
    (Scalar.select (bitOf n 2#32) (Scalar.select (bitOf n 1#32) (Ideal.ofBits .bf16 0x40C0#16) (Ideal.ofBits .bf16 0x4080#16))
      (Scalar.select (bitOf n 1#32) (Ideal.ofBits .bf16 0x4040#16) (Ideal.ofBits .bf16 0x4000#16)))
    (Scalar.select (bitOf n 2#32) (Scalar.select (bitOf n 1#32) (Ideal.ofBits .bf16 0x3FC0#16) (Ideal.ofBits .bf16 0x3F80#16))
      (Scalar.select (bitOf n 1#32) (Ideal.ofBits .bf16 0x3F00#16) (Ideal.ofBits .bf16 0x0000#16)))

/-- The number the reference reads a code as. -/
abbrev nibVal (n : BitVec 32) : EReal := Scalar.select (bitOf n 8#32) (-(nibMag n)) (nibMag n)

theorem c6 : Ideal.ofBits .bf16 0x40C0#16 = ((6 : ℝ) : EReal) := by simp [Ideal.ofBits, Ideal.ieee]; try norm_num [← EReal.coe_mul]
theorem c4 : Ideal.ofBits .bf16 0x4080#16 = ((4 : ℝ) : EReal) := by simp [Ideal.ofBits, Ideal.ieee]; try norm_num [← EReal.coe_mul]
theorem c3 : Ideal.ofBits .bf16 0x4040#16 = ((3 : ℝ) : EReal) := by simp [Ideal.ofBits, Ideal.ieee]; try norm_num [← EReal.coe_mul]
theorem c2 : Ideal.ofBits .bf16 0x4000#16 = ((2 : ℝ) : EReal) := by simp [Ideal.ofBits, Ideal.ieee]; try norm_num [← EReal.coe_mul]
theorem c32 : Ideal.ofBits .bf16 0x3FC0#16 = ((3 / 2 : ℝ) : EReal) := by simp [Ideal.ofBits, Ideal.ieee]; try norm_num [← EReal.coe_mul]
theorem c1 : Ideal.ofBits .bf16 0x3F80#16 = ((1 : ℝ) : EReal) := by simp [Ideal.ofBits, Ideal.ieee]; try norm_num [← EReal.coe_mul]
theorem c12 : Ideal.ofBits .bf16 0x3F00#16 = ((1 / 2 : ℝ) : EReal) := by simp [Ideal.ofBits, Ideal.ieee]; try norm_num [← EReal.coe_mul]
theorem c0 : Ideal.ofBits .bf16 0x0000#16 = ((0 : ℝ) : EReal) := by simp [Ideal.ofBits, Ideal.ieee]
theorem f2 : Ideal.ofBits .f32 0x40000000#32 = ((2 : ℝ) : EReal) := by simp [Ideal.ofBits, Ideal.ieee]; try norm_num [← EReal.coe_mul]
theorem f127 : Ideal.ofBits .f32 0x42FE0000#32 = ((127 : ℝ) : EReal) := by simp [Ideal.ofBits, Ideal.ieee]; try norm_num [← EReal.coe_mul]

theorem sel (b : BitVec 1) (x y : EReal) : Scalar.select b x y = if b = 1#1 then x else y := by
  rcases (show b = 0#1 ∨ b = 1#1 by revert b; decide) with rfl | rfl <;> rfl

theorem nibVal_eq (c : BitVec 8) : nibVal (IntOp.andi (c.setWidth 32) 15#32) = ((fp4 c : ℝ) : EReal) := by
  have h : ∀ c : BitVec 8, IntOp.andi (c.setWidth 32) 15#32 = (c &&& 15#8).setWidth 32 := by decide +kernel
  rw [h, ← fp4_and]
  refine nib_cases (fun c => nibVal (c.setWidth 32) = ((fp4 c : ℝ) : EReal)) ?_ ?_ ?_ ?_ ?_ ?_ ?_ ?_ ?_ ?_ ?_ ?_ ?_ ?_ ?_ ?_ c <;>
  · simp [sel, c6, c4, c3, c2, c32, c1, c12, c0, fp4, IntOp.cmpi, IntOp.andi]
    try norm_num [← EReal.coe_mul]

/-- The high nibble, shifted down. -/
theorem hi_nib (c : BitVec 8) : IntOp.shrsi .host (c.setWidth 32) 4#32 = IntOp.andi ((c >>> 4).setWidth 32) 15#32 := by
  revert c; decide +kernel

/-! ## Sums over columns of both halves -/

section
variable {C nC nW : ℕ} (hC : nC = 128 * C) (hW : nW = 256 * C)

/-- The column of the first half's lane `k`. -/
def evenCol (k : Fin nC) : Fin nW := ⟨256 * (k.val / 128) + k.val % 128, by have := k.isLt; omega⟩

/-- The column of the second half's lane `k`. -/
def oddCol (k : Fin nC) : Fin nW := ⟨256 * (k.val / 128) + 128 + k.val % 128, by have := k.isLt; omega⟩

/-- Columns, split into the first and the second 128 of every 256. -/
def colEquiv : Fin nC ⊕ Fin nC ≃ Fin nW where
  toFun := Sum.elim (evenCol hC hW) (oddCol hC hW)
  invFun K := if h : K.val % 256 < 128 then .inl ⟨128 * (K.val / 256) + K.val % 256, by have := K.isLt; omega⟩
    else .inr ⟨128 * (K.val / 256) + K.val % 256 - 128, by have := K.isLt; omega⟩
  left_inv x := by
    rcases x with k | k
    · have h : (256 * (k.val / 128) + k.val % 128) % 256 < 128 := by omega
      refine (dif_pos h).trans (congrArg Sum.inl (Fin.ext ?_))
      show 128 * ((256 * (k.val / 128) + k.val % 128) / 256) + (256 * (k.val / 128) + k.val % 128) % 256 = k.val; omega
    · have h : ¬ (256 * (k.val / 128) + 128 + k.val % 128) % 256 < 128 := by omega
      refine (dif_neg h).trans (congrArg Sum.inr (Fin.ext ?_))
      show 128 * ((256 * (k.val / 128) + 128 + k.val % 128) / 256) + (256 * (k.val / 128) + 128 + k.val % 128) % 256 - 128 = k.val; omega
  right_inv K := by
    by_cases h : K.val % 256 < 128
    · simp only [dif_pos h, Sum.elim_inl, evenCol]; exact Fin.ext (by dsimp only; omega)
    · simp only [dif_neg h, Sum.elim_inr, oddCol]; exact Fin.ext (by dsimp only; omega)

theorem sum_halves (f : Fin nW → EReal) : ∑ K : Fin nW, f K = ∑ k : Fin nC, f (evenCol hC hW k) + ∑ k : Fin nC, f (oddCol hC hW k) := by
  rw [← (colEquiv hC hW).sum_comp f, Fintype.sum_sum_type]
  rfl

end

end Cert.Dec
-- ==== Proof.DownRef.lean ====
/-
  The reference's value: its two half products over decoded codes are one sum over all activations.
-/
module

public import proofs.«01_k».proof.Proof.DownArray
public import proofs.«01_k».proof.Proof.RefCode
public import proofs.«01_k».proof.Proof.Gen.RDownIdeal.Read

@[expose] public section

set_option maxRecDepth 16384

noncomputable section

namespace Cert.Down.Ref

open Cert.RDownIdeal Cert.RDownIdeal.Gen Cert.RDownIdeal.Read Idealize.ShloMosaic Idealize.ShloMosaic.TcCoe Idealize.SL.Sem Idealize.ShloMosaic.StableHlo
open Cert.Dec

theorem lo_code (x2 : IVec S2304x4608 8) (i : S2304x4608.Idx) : val_main_v42 (F := Ideal) x2 i = ((fp4 (x2 i) : ℝ) : EReal) := by
  rw [← nibVal_eq]
  simp only [val_main_c_apply, val_main_v16_apply, val_main_v17_apply, val_main_c_1_apply, val_main_v18_apply, val_main_v19_apply, val_main_c_2_apply, val_main_v20_apply, val_main_v21_apply, val_main_c_3_apply, val_main_v22_apply, val_main_v23_apply, val_main_c_4_apply, val_main_v24_apply, val_main_v25_apply, val_main_c_5_apply, val_main_v26_apply, val_main_v27_apply, val_main_c_6_apply, val_main_v28_apply, val_main_v29_apply, val_main_c_7_apply, val_main_v30_apply, val_main_v31_apply, val_main_c_8_apply, val_main_v32_apply, val_main_v33_apply, val_main_cst_9_apply, val_main_cst_10_apply, val_main_call0_v0_apply, val_main_call0_v1_apply, val_main_v34_apply, val_main_cst_11_apply, val_main_cst_12_apply, val_main_call1_v0_apply, val_main_call1_v1_apply, val_main_v35_apply, val_main_v36_apply, val_main_cst_13_apply, val_main_cst_14_apply, val_main_call3_v0_apply, val_main_call3_v1_apply, val_main_v37_apply, val_main_cst_15_apply, val_main_cst_16_apply, val_main_call4_v0_apply, val_main_call4_v1_apply, val_main_v38_apply, val_main_v39_apply, val_main_v40_apply, val_main_v41_apply, val_main_v42_apply, val_main_v7_apply]
  rfl

theorem hi_code (x2 : IVec S2304x4608 8) (i : S2304x4608.Idx) : val_main_v73 (F := Ideal) x2 i = ((fp4 (x2 i >>> 4) : ℝ) : EReal) := by
  rw [← nibVal_eq]
  simp only [val_main_c_17_apply, val_main_v47_apply, val_main_v48_apply, val_main_c_18_apply, val_main_v49_apply, val_main_v50_apply, val_main_c_19_apply, val_main_v51_apply, val_main_v52_apply, val_main_c_20_apply, val_main_v53_apply, val_main_v54_apply, val_main_c_21_apply, val_main_v55_apply, val_main_v56_apply, val_main_c_22_apply, val_main_v57_apply, val_main_v58_apply, val_main_c_23_apply, val_main_v59_apply, val_main_v60_apply, val_main_c_24_apply, val_main_v61_apply, val_main_v62_apply, val_main_c_25_apply, val_main_v63_apply, val_main_v64_apply, val_main_cst_26_apply, val_main_cst_27_apply, val_main_call8_v0_apply, val_main_call8_v1_apply, val_main_v65_apply, val_main_cst_28_apply, val_main_cst_29_apply, val_main_call9_v0_apply, val_main_call9_v1_apply, val_main_v66_apply, val_main_v67_apply, val_main_cst_30_apply, val_main_cst_31_apply, val_main_call11_v0_apply, val_main_call11_v1_apply, val_main_v68_apply, val_main_cst_32_apply, val_main_cst_33_apply, val_main_call12_v0_apply, val_main_call12_v1_apply, val_main_v69_apply, val_main_v70_apply, val_main_v71_apply, val_main_v72_apply, val_main_v73_apply, val_main_v7_apply, hi_nib]
  rfl

theorem scale_at (x3 : IVec S2304x288 8) (i : S2304x288.Idx) : val_main_v14 (F := Ideal) x3 i = (((2 : ℝ) ^ (((x3 i).toNat : ℤ) - 127) : ℝ) : EReal) := by
  rw [← pow_scale, ← f2, ← f127]
  simp only [val_main_v8_apply, val_main_v9_apply, val_main_cst_apply, val_main_v10_apply, val_main_v11_apply, val_main_cst_0_apply, val_main_v12_apply, val_main_v13_apply, val_main_v14_apply]
  rfl

theorem code_ix (n : Fin 2304) (k : Fin 4608) : idx_main_v43 (idx_main_v46 (ValueIdx.ix2 n k)) = ValueIdx.ix2 n k := by
  have hk := k.isLt
  have hn := n.isLt
  refine funext fun a => Fin.ext ?_
  match a with
  | ⟨0, _⟩ => dsimp [idx_main_v43, idx_main_v46, ValueIdx.ix2]; omega
  | ⟨1, _⟩ => dsimp [idx_main_v43, idx_main_v46, ValueIdx.ix2]; omega

theorem scale_ix (n : Fin 2304) (k : Fin 4608) :
    idx_main_v15 (idx_main_v44 (idx_main_v46 (ValueIdx.ix2 n k))) = ValueIdx.ix2 n ⟨k.val / 16, by have := k.isLt; omega⟩ := by
  have hk := k.isLt
  have hn := n.isLt
  refine funext fun a => Fin.ext ?_
  match a with
  | ⟨0, _⟩ => dsimp [idx_main_v15, idx_main_v44, idx_main_v46, ValueIdx.ix2]; omega
  | ⟨1, _⟩ => dsimp [idx_main_v15, idx_main_v44, idx_main_v46, ValueIdx.ix2]; omega

/-- The low nibbles' weights. -/
theorem lo_weight (x2 : IVec S2304x4608 8) (x3 : IVec S2304x288 8) (n : Fin 2304) (k : Fin 4608) :
    val_main_v46 (F := Ideal) x2 x3 (ValueIdx.ix2 n k) = wv (x2 (ValueIdx.ix2 n k)) (x3 (ValueIdx.ix2 n ⟨k.val / 16, by have := k.isLt; omega⟩)) := by
  rw [val_main_v46_apply, val_main_v45_apply, val_main_v44_apply, val_main_v43_apply, val_main_v15_apply, lo_code, scale_at, code_ix, scale_ix]
  exact (EReal.coe_mul _ _).symm

/-- The high nibbles' weights. -/
theorem hi_weight (x2 : IVec S2304x4608 8) (x3 : IVec S2304x288 8) (n : Fin 2304) (k : Fin 4608) :
    val_main_v77 (F := Ideal) x2 x3 (ValueIdx.ix2 n k) = wv (x2 (ValueIdx.ix2 n k) >>> 4) (x3 (ValueIdx.ix2 n ⟨k.val / 16, by have := k.isLt; omega⟩)) := by
  rw [val_main_v77_apply, val_main_v76_apply, val_main_v75_apply, val_main_v74_apply, val_main_v15_apply, hi_code, scale_at]
  refine (congrArg₂ (fun a b => FloatOps.mulf (F := Ideal) (φ := .bf16) ((fp4 (x2 a >>> 4) : ℝ) : EReal) (((2 : ℝ) ^ (((x3 b).toNat : ℤ) - 127) : ℝ) : EReal)) (code_ix n k) (scale_ix n k)).trans ?_
  exact (EReal.coe_mul _ _).symm

/-- The activations that meet the low nibbles. -/
theorem even_act (x0 : FVec Ideal S2048x9216 .bf16) (t : Fin 2048) (k : Fin 4608) :
    val_main_v3 (F := Ideal) x0 (ValueIdx.ix2 t k) = x0 (ValueIdx.ix2 t (evenCol (C := 36) rfl rfl k)) := by
  have hk := k.isLt
  have ht := t.isLt
  rw [val_main_v3_apply, val_main_v2_apply, val_main_v1_apply, val_main_v0_apply]
  refine congrArg x0 (funext fun a => Fin.ext ?_)
  match a with
  | ⟨0, _⟩ => dsimp [idx_main_v3, idx_main_v2, idx_main_v1, idx_main_v0, ValueIdx.ix2]; omega
  | ⟨1, _⟩ => dsimp [idx_main_v3, idx_main_v2, idx_main_v1, idx_main_v0, ValueIdx.ix2, evenCol]; omega

/-- The activations that meet the high nibbles. -/
theorem odd_act (x0 : FVec Ideal S2048x9216 .bf16) (t : Fin 2048) (k : Fin 4608) :
    val_main_v6 (F := Ideal) x0 (ValueIdx.ix2 t k) = x0 (ValueIdx.ix2 t (oddCol (C := 36) rfl rfl k)) := by
  have hk := k.isLt
  have ht := t.isLt
  rw [val_main_v6_apply, val_main_v5_apply, val_main_v4_apply, val_main_v0_apply]
  refine congrArg x0 (funext fun a => Fin.ext ?_)
  match a with
  | ⟨0, _⟩ => dsimp [idx_main_v6, idx_main_v5, idx_main_v4, idx_main_v0, ValueIdx.ix2]; omega
  | ⟨1, _⟩ => dsimp [idx_main_v6, idx_main_v5, idx_main_v4, idx_main_v0, ValueIdx.ix2, oddCol]; omega

/-- The decoded weight block at the first half's columns, and at the second's. -/
theorem Wb_even (x2 : IVec S2304x4608 8) (x3 : IVec S2304x288 8) (n : Fin 2304) (k : Fin 4608) :
    Wb (R := 2304) (C := 36) (nC := 4608) (nS := 288) (nW := 9216) rfl rfl rfl x2 x3 (ValueIdx.ix2 n (evenCol (C := 36) rfl rfl k))
      = wv (x2 (ValueIdx.ix2 n k)) (x3 (ValueIdx.ix2 n ⟨k.val / 16, by have := k.isLt; omega⟩)) := by
  have hk := k.isLt
  unfold Wb
  refine congrArg₂ wv ((if_pos ?_).trans (congrArg x2 (funext fun a => Fin.ext ?_))) (congrArg x3 (funext fun a => Fin.ext ?_))
  · show (256 * (k.val / 128) + k.val % 128) % 256 < 128; omega
  · match a with
    | ⟨0, _⟩ => rfl
    | ⟨1, _⟩ => show 128 * ((256 * (k.val / 128) + k.val % 128) / 256) + (256 * (k.val / 128) + k.val % 128) % 128 = k.val; omega
  · match a with
    | ⟨0, _⟩ => rfl
    | ⟨1, _⟩ => show 8 * ((256 * (k.val / 128) + k.val % 128) / 256) + (256 * (k.val / 128) + k.val % 128) % 128 / 16 = k.val / 16; omega

theorem Wb_odd (x2 : IVec S2304x4608 8) (x3 : IVec S2304x288 8) (n : Fin 2304) (k : Fin 4608) :
    Wb (R := 2304) (C := 36) (nC := 4608) (nS := 288) (nW := 9216) rfl rfl rfl x2 x3 (ValueIdx.ix2 n (oddCol (C := 36) rfl rfl k))
      = wv (x2 (ValueIdx.ix2 n k) >>> 4) (x3 (ValueIdx.ix2 n ⟨k.val / 16, by have := k.isLt; omega⟩)) := by
  have hk := k.isLt
  unfold Wb
  refine congrArg₂ wv ((if_neg ?_).trans (congrArg (fun b => x2 b >>> 4) (funext fun a => Fin.ext ?_))) (congrArg x3 (funext fun a => Fin.ext ?_))
  · show ¬ (256 * (k.val / 128) + 128 + k.val % 128) % 256 < 128; omega
  · match a with
    | ⟨0, _⟩ => rfl
    | ⟨1, _⟩ => show 128 * ((256 * (k.val / 128) + 128 + k.val % 128) / 256) + (256 * (k.val / 128) + 128 + k.val % 128) % 128 = k.val; omega
  · match a with
    | ⟨0, _⟩ => rfl
    | ⟨1, _⟩ => show 8 * ((256 * (k.val / 128) + 128 + k.val % 128) / 256) + (256 * (k.val / 128) + 128 + k.val % 128) % 128 / 16 = k.val / 16; omega

/-- The reference computes the same array as the kernel. -/
theorem ref_eq (x0 : FVec Ideal S2048x9216 .bf16) (x1 : FVec Ideal S2048x2304 .f32) (x2 : IVec S2304x4608 8) (x3 : IVec S2304x288 8) :
    val_main_v82 (F := Ideal) x0 x1 x2 x3 = downOut x0 x1 x2 x3 := by
  funext j
  obtain ⟨t, n, rfl⟩ : ∃ (t : Fin 2048) (n : Fin 2304), j = ValueIdx.ix2 t n := ⟨j 0, j 1, ValueIdx.eq_ix2 j⟩
  rw [val_main_v82_apply, val_main_v81_apply, val_main_v80_apply, val_main_v79_apply, val_main_v78_apply]
  unfold downOut
  rw [sum_halves (C := 36) (nC := 4608) (nW := 9216) rfl rfl]
  refine congrArg (fun z : EReal => (x1 (ValueIdx.ix2 t n) : EReal) + z) (congrArg₂ (fun y z : EReal => y + z) (Finset.sum_congr rfl fun k _ => ?_) (Finset.sum_congr rfl fun k _ => ?_))
  · exact congrArg₂ (fun y z : EReal => y * z)
      ((congrArg (val_main_v3 (F := Ideal) x0) (ValueIdx.eq_ix2 _)).trans (even_act x0 t k))
      ((congrArg (val_main_v46 (F := Ideal) x2 x3) (ValueIdx.eq_ix2 _)).trans ((lo_weight x2 x3 n k).trans (Wb_even x2 x3 n k).symm))
  · exact congrArg₂ (fun y z : EReal => y * z)
      ((congrArg (val_main_v6 (F := Ideal) x0) (ValueIdx.eq_ix2 _)).trans (odd_act x0 t k))
      ((congrArg (val_main_v77 (F := Ideal) x2 x3) (ValueIdx.eq_ix2 _)).trans ((hi_weight x2 x3 n k).trans (Wb_odd x2 x3 n k).symm))

end Cert.Down.Ref
-- ==== Proof.FfnRun.lean ====
module

public import proofs.«01_k».proof.Proof.Gen.KFfnIdeal.Frame
public import proofs.«01_k».proof.Proof.Gen.KFfnIdeal.Loops
public import Idealize.ShloMosaic.Lib.Claim

@[expose] public section

set_option maxRecDepth 16384

noncomputable section

namespace Cert.KFfnIdeal.Run

open Cert.KFfnIdeal Cert.KFfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The condition of the body's branch on the last step. -/
abbrev lastStep (i : grid0.Coords) : Prop := k0_cond1 i = 1#1

theorem off57_eq : ∀ i : grid0.Coords, k0_off57 i = ![(i 0).val / 16, 0, 0] := by decide +kernel
instance closedOff_off57 (i : grid0.Coords) : ClosedOff (k0_off57 i) := ⟨![(i 0).val / 16, 0, 0], off57_eq i⟩
theorem off58_eq : ∀ i : grid0.Coords, k0_off58 i = ![(i 0).val / 16, 512, 0] := by decide +kernel
instance closedOff_off58 (i : grid0.Coords) : ClosedOff (k0_off58 i) := ⟨![(i 0).val / 16, 512, 0], off58_eq i⟩
theorem off59_eq : ∀ i : grid0.Coords, k0_off59 i = ![(i 0).val / 16, 1024, 0] := by decide +kernel
instance closedOff_off59 (i : grid0.Coords) : ClosedOff (k0_off59 i) := ⟨![(i 0).val / 16, 1024, 0], off59_eq i⟩
theorem off60_eq : ∀ i : grid0.Coords, k0_off60 i = ![(i 0).val / 16, 1536, 0] := by decide +kernel
instance closedOff_off60 (i : grid0.Coords) : ClosedOff (k0_off60 i) := ⟨![(i 0).val / 16, 1536, 0], off60_eq i⟩

set_option backward.proofsInPublic true in
set_option maxHeartbeats 4000000 in
/-- What one step of the feed-forward kernel stores in its block of codes and its block of decoded activations, as
    pieces found by running the body, with the proof of that run. The memory of the scales collected so far and the
    block of scales are held at some contents before and after: the run says nothing of them. -/
noncomputable def stepRun (c : Dev nD) (i : grid0.Coords) (arg1 : Memref sig .tc .vmem S2048x2304 .bf16) (harg1 : arg1.IsWhole) (arg2 : Memref sig .tc .vmem S256x1152 .i8) (harg2 : arg2.IsWhole) (arg3 : Memref sig .tc .vmem S256x72 .i8) (harg3 : arg3.IsWhole) (arg4 : Memref sig .tc .vmem S256x1152 .i8) (harg4 : arg4.IsWhole) (arg5 : Memref sig .tc .vmem S256x72 .i8) (harg5 : arg5.IsWhole) (arg6 : Memref sig .tc .vmem S2048x256 .fp8e4m3) (harg6 : arg6.IsWhole) (arg7 : Memref sig .tc .vmem S2048x288 .i8) (harg7 : arg7.IsWhole) (arg8 : Memref sig .tc .vmem S2048x256 .bf16) (harg8 : arg8.IsWhole) (arg9 : Memref sig .tc .vmem S256x2304 .bf16) (harg9 : arg9.IsWhole) (arg10 : Memref sig .tc .vmem S256x2304 .bf16) (harg10 : arg10.IsWhole) (arg11 : Memref sig .tc .vmem S3x2048x128 .bf16) (harg11 : arg11.IsWhole)
    (x0 : Vec F S2048x2304 .bf16) (x1 : Vec F S256x1152 .i8) (x2 : Vec F S256x72 .i8) (x3 : Vec F S256x1152 .i8) (x4 : Vec F S256x72 .i8) :
    Σ' (L5 : List (View.Piece (Elt F) S2048x256 .fp8e4m3)), { L7 : List (View.Piece (Elt F) S2048x256 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ d, owns (c : Thread nD τ) arg7 fullShare d) ∗ (∃ f, arg8.view.loc (c : Thread nD τ) ↦[arg8.view.set]{fullShare} arg8.view.writes (Elt F) f L7) ∗ (∃ d, owns (c : Thread nD τ) arg9 fullShare d) ∗ (∃ d, owns (c : Thread nD τ) arg10 fullShare d) ∗ (∃ d, owns (c : Thread nD τ) arg11 fullShare d)) -∗ K ⟨⟩))
          ⊢ wp frame (wpE (defs₀ (F := F)) Variants.none c none) E (cc0_ffn i arg1 harg1 arg2 harg2 arg3 harg3 arg4 harg4 arg5 harg5 arg6 harg6 arg7 harg7 arg8 harg8 arg9 harg9 arg10 harg10 arg11 harg11) K } := by
  refine ⟨?_, ?_, fun E K => ?run⟩
  case run =>
    simp only [cc0_ffn_eq_skeleton]; unfold cc0_ffn_skel
    simp only [k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part19_eq_skeleton, k0_part20_eq_skeleton, k0_part21_eq_skeleton, k0_part22_eq_skeleton, k0_part23_eq_skeleton, k0_part24_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4
    have hrd0 : ∀ (𝒱 : Variants) (c : Dev nD) (bd : Option 𝒱.V) (i : grid0.Coords) (arg1 : Memref sig .tc .vmem S2048x2304 .bf16) (harg1 : arg1.IsWhole) (arg2 : Memref sig .tc .vmem S256x1152 .i8) (harg2 : arg2.IsWhole) (arg3 : Memref sig .tc .vmem S256x72 .i8) (harg3 : arg3.IsWhole) (arg4 : Memref sig .tc .vmem S256x1152 .i8) (harg4 : arg4.IsWhole) (arg5 : Memref sig .tc .vmem S256x72 .i8) (harg5 : arg5.IsWhole) (arg6 : Memref sig .tc .vmem S2048x256 .fp8e4m3) (harg6 : arg6.IsWhole) (arg7 : Memref sig .tc .vmem S2048x288 .i8) (harg7 : arg7.IsWhole) (arg8 : Memref sig .tc .vmem S2048x256 .bf16) (harg8 : arg8.IsWhole) (arg9 : Memref sig .tc .vmem S256x2304 .bf16) (harg9 : arg9.IsWhole) (arg10 : Memref sig .tc .vmem S256x2304 .bf16) (harg10 : arg10.IsWhole) (arg11 : Memref sig .tc .vmem S3x2048x128 .bf16) (harg11 : arg11.IsWhole) (X_arg2 : BufTy.Contents (Elt F) arg2.view.ty) (X_arg3 : BufTy.Contents (Elt F) arg3.view.ty) (hrdF : BufTy.Contents (Elt F) arg9.view.ty) (hrdB : LoadRect S256x2304), arg9.view.readAt (Elt F) hrdB (arg9.view.writes (Elt F) hrdF (pb_k0_t1 (F := F) 𝒱 c bd i arg1 harg1 arg2 harg2 arg3 harg3 arg4 harg4 arg5 harg5 arg6 harg6 arg7 harg7 arg8 harg8 arg9 harg9 arg10 harg10 arg11 harg11 X_arg2 X_arg3 (Scf.trips k0_t1_loop.lb k0_t1_loop.ub k0_t1_loop.st))) = arg9.view.readCov (pb_k0_t1 (F := F) 𝒱 c bd i arg1 harg1 arg2 harg2 arg3 harg3 arg4 harg4 arg5 harg5 arg6 harg6 arg7 harg7 arg8 harg8 arg9 harg9 arg10 harg10 arg11 harg11 X_arg2 X_arg3 (Scf.trips k0_t1_loop.lb k0_t1_loop.ub k0_t1_loop.st)) hrdB := fun 𝒱 c bd i arg1 harg1 arg2 harg2 arg3 harg3 arg4 harg4 arg5 harg5 arg6 harg6 arg7 harg7 arg8 harg8 arg9 harg9 arg10 harg10 arg11 harg11 X_arg2 X_arg3 hrdF hrdB => View.readAt_writes_of_cover _ hrdF _ hrdB (fun hrdJ => View.cover_of_tiledL (pb_k0_t1 (F := F) 𝒱 c bd i arg1 harg1 arg2 harg2 arg3 harg3 arg4 harg4 arg5 harg5 arg6 harg6 arg7 harg7 arg8 harg8 arg9 harg9 arg10 harg10 arg11 harg11 X_arg2 X_arg3 (Scf.trips k0_t1_loop.lb k0_t1_loop.ub k0_t1_loop.st)) S64x128.size (by sl_kernel_rfl) (hrdB.idx hrdJ))
    have hrd1 : ∀ (𝒱 : Variants) (c : Dev nD) (bd : Option 𝒱.V) (i : grid0.Coords) (arg1 : Memref sig .tc .vmem S2048x2304 .bf16) (harg1 : arg1.IsWhole) (arg2 : Memref sig .tc .vmem S256x1152 .i8) (harg2 : arg2.IsWhole) (arg3 : Memref sig .tc .vmem S256x72 .i8) (harg3 : arg3.IsWhole) (arg4 : Memref sig .tc .vmem S256x1152 .i8) (harg4 : arg4.IsWhole) (arg5 : Memref sig .tc .vmem S256x72 .i8) (harg5 : arg5.IsWhole) (arg6 : Memref sig .tc .vmem S2048x256 .fp8e4m3) (harg6 : arg6.IsWhole) (arg7 : Memref sig .tc .vmem S2048x288 .i8) (harg7 : arg7.IsWhole) (arg8 : Memref sig .tc .vmem S2048x256 .bf16) (harg8 : arg8.IsWhole) (arg9 : Memref sig .tc .vmem S256x2304 .bf16) (harg9 : arg9.IsWhole) (arg10 : Memref sig .tc .vmem S256x2304 .bf16) (harg10 : arg10.IsWhole) (arg11 : Memref sig .tc .vmem S3x2048x128 .bf16) (harg11 : arg11.IsWhole) (X_arg4 : BufTy.Contents (Elt F) arg4.view.ty) (X_arg5 : BufTy.Contents (Elt F) arg5.view.ty) (hrdF : BufTy.Contents (Elt F) arg10.view.ty) (hrdB : LoadRect S256x2304), arg10.view.readAt (Elt F) hrdB (arg10.view.writes (Elt F) hrdF (pb_k0_t2 (F := F) 𝒱 c bd i arg1 harg1 arg2 harg2 arg3 harg3 arg4 harg4 arg5 harg5 arg6 harg6 arg7 harg7 arg8 harg8 arg9 harg9 arg10 harg10 arg11 harg11 X_arg4 X_arg5 (Scf.trips k0_t2_loop.lb k0_t2_loop.ub k0_t2_loop.st))) = arg10.view.readCov (pb_k0_t2 (F := F) 𝒱 c bd i arg1 harg1 arg2 harg2 arg3 harg3 arg4 harg4 arg5 harg5 arg6 harg6 arg7 harg7 arg8 harg8 arg9 harg9 arg10 harg10 arg11 harg11 X_arg4 X_arg5 (Scf.trips k0_t2_loop.lb k0_t2_loop.ub k0_t2_loop.st)) hrdB := fun 𝒱 c bd i arg1 harg1 arg2 harg2 arg3 harg3 arg4 harg4 arg5 harg5 arg6 harg6 arg7 harg7 arg8 harg8 arg9 harg9 arg10 harg10 arg11 harg11 X_arg4 X_arg5 hrdF hrdB => View.readAt_writes_of_cover _ hrdF _ hrdB (fun hrdJ => View.cover_of_tiledL (pb_k0_t2 (F := F) 𝒱 c bd i arg1 harg1 arg2 harg2 arg3 harg3 arg4 harg4 arg5 harg5 arg6 harg6 arg7 harg7 arg8 harg8 arg9 harg9 arg10 harg10 arg11 harg11 X_arg4 X_arg5 (Scf.trips k0_t2_loop.lb k0_t2_loop.ub k0_t2_loop.st)) S64x128.size (by sl_kernel_rfl) (hrdB.idx hrdJ))
    by_cases hc0 : lastStep i
    · sl_exec (disch := first | sl_exact hc0)
      sl_step
      iapply Hk
      isplitl [H0]
      · iexists _; isplitr; · ipureintro; exact harg1.read_unread _
        iexact H0
      isplitl [H1]
      · iexists _; isplitr; · ipureintro; exact harg2.read_unread _
        iexact H1
      isplitl [H2]
      · iexists _; isplitr; · ipureintro; exact harg3.read_unread _
        iexact H2
      isplitl [H3]
      · iexists _; isplitr; · ipureintro; exact harg4.read_unread _
        iexact H3
      isplitl [H4]
      · iexists _; isplitr; · ipureintro; exact harg5.read_unread _
        iexact H4
      isplitl [H5]; · iexists _; iexact H5
      isplitl [H6]
      · iexists _, _; isplitr; swap; · iexact H6
        ipureintro; rfl
      isplitl [H7]; · iexists _; iexact H7
      isplitl [HS0]
      · iexists _, _; isplitr; swap; · iexact HS0
        ipureintro; rfl
      isplitl [HS1]
      · iexists _, _; isplitr; swap; · iexact HS1
        ipureintro; rfl
      iexists _, _; isplitr; swap; · iexact HS2
      ipureintro; rfl
    · sl_exec (disch := first | sl_exact hc0)
      sl_step
      iapply Hk
      isplitl [H0]
      · iexists _; isplitr; · ipureintro; exact harg1.read_unread _
        iexact H0
      isplitl [H1]
      · iexists _; isplitr; · ipureintro; exact harg2.read_unread _
        iexact H1
      isplitl [H2]
      · iexists _; isplitr; · ipureintro; exact harg3.read_unread _
        iexact H2
      isplitl [H3]
      · iexists _; isplitr; · ipureintro; exact harg4.read_unread _
        iexact H3
      isplitl [H4]
      · iexists _; isplitr; · ipureintro; exact harg5.read_unread _
        iexact H4
      isplitl [H5]; · iexists _; iexact H5
      isplitl [H6]
      · iexists _, _; isplitr; swap; · iexact H6
        ipureintro; rfl
      isplitl [H7]; · iexists _; iexact H7
      isplitl [HS0]
      · iexists _, _; isplitr; swap; · iexact HS0
        ipureintro; rfl
      isplitl [HS1]
      · iexists _, _; isplitr; swap; · iexact HS1
        ipureintro; rfl
      iexists _, _; isplitr; swap; · iexact HS2
      ipureintro; rfl

end Cert.KFfnIdeal.Run

end
-- ==== Proof.FfnFrame.lean ====
module

public import proofs.«01_k».proof.Proof.FfnRun
public import Idealize.ShloMosaic.Lib.Claim

@[expose] public section

set_option maxRecDepth 16384

noncomputable section

namespace Cert.KFfnIdeal.Run

open Cert.KFfnIdeal Cert.KFfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf RDat)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The output windows of which the run says nothing. -/
def fgt : Fin cfg0.W → Bool
  | ⟨0, _⟩ => false | ⟨1, _⟩ => false | ⟨2, _⟩ => false | ⟨3, _⟩ => false | ⟨4, _⟩ => false
  | ⟨5, _⟩ => false | ⟨6, _⟩ => true | ⟨7, _⟩ => false
  | ⟨_ + 8, h⟩ => absurd h (Nat.not_lt.2 (Nat.le_add_left _ _))

/-! Each window's staging memory at a step, and that it is whole; the three scratch memories. -/
abbrev ms0_0 (t : Fin cfg0.N) : Memref sig .tc .vmem S2048x2304 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x1152 .i8 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x72 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x1152 .i8 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x72 .i8 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2048x256 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S2048x288 .i8 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S2048x256 .bf16 := win0_7.stage (cfg0.slots t 7)
abbrev hs0_7 (t : Fin cfg0.N) : (ms0_7 t).IsWhole := hstage0_7 ((cfg0.slots t 7).cast nbuf0_7)
abbrev scM0_0 : Memref sig .tc .vmem S256x2304 .bf16 := Memref.whole cc0_scratch0
abbrev scM0_1 : Memref sig .tc .vmem S256x2304 .bf16 := Memref.whole cc0_scratch1
abbrev scM0_2 : Memref sig .tc .vmem S3x2048x128 .bf16 := Memref.whole cc0_scratch2

/-- The invariant kept from step to step: the three scratch memories at some contents, and the generator's register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

/-- The pieces stored into the block of codes cover it. -/
theorem cover0_5 (c : Dev nD) (i : grid0.Coords) (arg1 : Memref sig .tc .vmem S2048x2304 .bf16) (harg1 : arg1.IsWhole) (arg2 : Memref sig .tc .vmem S256x1152 .i8) (harg2 : arg2.IsWhole) (arg3 : Memref sig .tc .vmem S256x72 .i8) (harg3 : arg3.IsWhole) (arg4 : Memref sig .tc .vmem S256x1152 .i8) (harg4 : arg4.IsWhole) (arg5 : Memref sig .tc .vmem S256x72 .i8) (harg5 : arg5.IsWhole) (arg6 : Memref sig .tc .vmem S2048x256 .fp8e4m3) (harg6 : arg6.IsWhole) (arg7 : Memref sig .tc .vmem S2048x288 .i8) (harg7 : arg7.IsWhole) (arg8 : Memref sig .tc .vmem S2048x256 .bf16) (harg8 : arg8.IsWhole) (arg9 : Memref sig .tc .vmem S256x2304 .bf16) (harg9 : arg9.IsWhole) (arg10 : Memref sig .tc .vmem S256x2304 .bf16) (harg10 : arg10.IsWhole) (arg11 : Memref sig .tc .vmem S3x2048x128 .bf16) (harg11 : arg11.IsWhole)
    (x0 : Vec F S2048x2304 .bf16) (x1 : Vec F S256x1152 .i8) (x2 : Vec F S256x72 .i8) (x3 : Vec F S256x1152 .i8) (x4 : Vec F S256x72 .i8) (y : S2048x256.Idx) :
    ∃ pc ∈ (stepRun c i arg1 harg1 arg2 harg2 arg3 harg3 arg4 harg4 arg5 harg5 arg6 harg6 arg7 harg7 arg8 harg8 arg9 harg9 arg10 harg10 arg11 harg11 x0 x1 x2 x3 x4).1, y ∈ pc.1.set :=
  View.cover_of_tiledL (stepRun c i arg1 harg1 arg2 harg2 arg3 harg3 arg4 harg4 arg5 harg5 arg6 harg6 arg7 harg7 arg8 harg8 arg9 harg9 arg10 harg10 arg11 harg11 x0 x1 x2 x3 x4).1 S512x256.size (by sl_kernel_rfl) y

/-- A view to read the block of codes through. -/
abbrev VO0_5 : View sig .tc .vmem S2048x256 .fp8e4m3 := (Memref.whole cc0_stg5_0 : Memref sig .tc .vmem S2048x256 .fp8e4m3).view

/-- What a step leaves in the block of codes. -/
def out0_5 (c : Dev nD) (t : Fin cfg0.N) : Vec F S2048x256 .fp8e4m3 :=
  VO0_5.read (Elt F) (VO0_5.writes (Elt F) VO0_5.junk (stepRun c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (iblk m c 0 t) (iblk m c 1 t) (iblk m c 2 t) (iblk m c 3 t) (iblk m c 4 t)).1)

/-- The pieces stored into the block of decoded activations cover it. -/
theorem cover0_7 (c : Dev nD) (i : grid0.Coords) (arg1 : Memref sig .tc .vmem S2048x2304 .bf16) (harg1 : arg1.IsWhole) (arg2 : Memref sig .tc .vmem S256x1152 .i8) (harg2 : arg2.IsWhole) (arg3 : Memref sig .tc .vmem S256x72 .i8) (harg3 : arg3.IsWhole) (arg4 : Memref sig .tc .vmem S256x1152 .i8) (harg4 : arg4.IsWhole) (arg5 : Memref sig .tc .vmem S256x72 .i8) (harg5 : arg5.IsWhole) (arg6 : Memref sig .tc .vmem S2048x256 .fp8e4m3) (harg6 : arg6.IsWhole) (arg7 : Memref sig .tc .vmem S2048x288 .i8) (harg7 : arg7.IsWhole) (arg8 : Memref sig .tc .vmem S2048x256 .bf16) (harg8 : arg8.IsWhole) (arg9 : Memref sig .tc .vmem S256x2304 .bf16) (harg9 : arg9.IsWhole) (arg10 : Memref sig .tc .vmem S256x2304 .bf16) (harg10 : arg10.IsWhole) (arg11 : Memref sig .tc .vmem S3x2048x128 .bf16) (harg11 : arg11.IsWhole)
    (x0 : Vec F S2048x2304 .bf16) (x1 : Vec F S256x1152 .i8) (x2 : Vec F S256x72 .i8) (x3 : Vec F S256x1152 .i8) (x4 : Vec F S256x72 .i8) (y : S2048x256.Idx) :
    ∃ pc ∈ (stepRun c i arg1 harg1 arg2 harg2 arg3 harg3 arg4 harg4 arg5 harg5 arg6 harg6 arg7 harg7 arg8 harg8 arg9 harg9 arg10 harg10 arg11 harg11 x0 x1 x2 x3 x4).2.1, y ∈ pc.1.set :=
  View.cover_of_tiledL (stepRun c i arg1 harg1 arg2 harg2 arg3 harg3 arg4 harg4 arg5 harg5 arg6 harg6 arg7 harg7 arg8 harg8 arg9 harg9 arg10 harg10 arg11 harg11 x0 x1 x2 x3 x4).2.1 S512x256.size (by sl_kernel_rfl) y

/-- A view to read the block of decoded activations through. -/
abbrev VO0_7 : View sig .tc .vmem S2048x256 .bf16 := (Memref.whole cc0_stg7_0 : Memref sig .tc .vmem S2048x256 .bf16).view

/-- What a step leaves in the block of decoded activations. -/
def out0_7 (c : Dev nD) (t : Fin cfg0.N) : Vec F S2048x256 .bf16 :=
  VO0_7.read (Elt F) (VO0_7.writes (Elt F) VO0_7.junk (stepRun c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (iblk m c 0 t) (iblk m c 1 t) (iblk m c 2 t) (iblk m c 3 t) (iblk m c 4 t)).2.1)

/-- What each window holds after each step: an input its block, as found; an output what the step leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out0_5 m c t
    | ⟨6, _⟩ => Dat.unnamed (cfg := cfg0) 6 t
    | ⟨7, _⟩ => out0_7 m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = out0_5 m c t := by dsimp only [dats]
theorem after0_7 (c : Dev nD) (t : Fin cfg0.N) : (dats m 0 c).after 7 t = out0_7 m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- The body's precondition at step `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ X, owns (c : Thread nD τ) (ms0_6 t) fullShare X)
    ∗ (∃ d, owns (c : Thread nD τ) (ms0_7 t) fullShare ((dats m 0 c).before 7 t d)))

/-- The body's postcondition at step `t`. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ (∃ X, owns (c : Thread nD τ) (ms0_6 t) fullShare X)
    ∗ owns (c : Thread nD τ) (ms0_7 t) fullShare ((dats m 0 c).after 7 t))

set_option maxHeartbeats 1600000 in
/-- The body runs from its precondition to its postcondition. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  rw [after0_0, after0_1, after0_2, after0_3, after0_4, after0_5, after0_7]
  unfold out0_5 out0_7
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((stepRun c (grid0.coords t) _ _ _ _ _ _ _ _ _ _ _ _ _ _ _ _ _ _ _ _ _ _ (iblk m c 0 t) (iblk m c 1 t) (iblk m c 2 t) (iblk m c 3 t) (iblk m c 4 t)).2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [HS0]; · iexact HS0
  isplitl [HS1]; · iexact HS1
  isplitl [HS2]; · iexact HS2
  iintro ⟨H0, H1, H2, H3, H4, ⟨%e5, H5⟩, H6, ⟨%e7, H7⟩, HS0, HS1, HS2⟩
  isplitl [HS0 HS1 HS2 Hg]
  · isplitl [HS0 HS1 HS2]
    · isplitl [HS0]
      · iexact HS0
      isplitl [HS1]
      · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact View.read_writes_of_cover _ _ _ _ _ (cover0_5 c _ _ _ _ _ _ _ _ _ _ _ _ _ _ _ _ _ _ _ _ _ _ _ _ _ _ _ _)
  isplitl [H6]; · iexact H6
  unfold owns; iexists _; isplitr
  swap; · iexact H7
  ipureintro; exact View.read_writes_of_cover _ _ _ _ _ (cover0_7 c _ _ _ _ _ _ _ _ _ _ _ _ _ _ _ _ _ _ _ _ _ _ _ _ _ _ _ _)

theorem defs₀_row (t : Fin cfg0.N) :
    defs₀ (F := F) .tc cfg0.body (cfg0.bodyArgs t (cfg0.slots t)) = bodyAt0 t := by
  unfold defs₀; rw [Defs.onTc_tc]

/-- The body's obligation, the windows of `fgt` at some contents. -/
theorem body_obligation (c : Dev nD) : BodyObligation (dats (F := F) m 0 c) (defs₀ (F := F)) Variants.none () Set.univ fgt := fun t => by
  rw [bigSep_W0, bigSep_W0, defs₀_row]
  exact triple_restated (sound_body m c t) rfl .rfl fun _ => .rfl

/-- What holds of every final state. -/
abbrev Post (r : PUnit × MemSt nD τ sig (Elt F)) : Prop :=
  RDat.FramePost (cfgs (0 : Fin 1)) (fun c => (dats m 0 c).toRForget fgt) (V m) r

set_option backward.isDefEq.respectTransparency.types false in
/-- Every run of the program ends, in a state with `Post`, with all counters at zero. -/
theorem run_main_quiescent : θ_run defs (onTc (τ := τ) (main (F := F))) (s₀ m ρ) (fun r => Post m r ∧ r.2.sem = fun _ => 0) :=
  Pipeline.θ_run_frame_forget (Q' := _) cfgs (dats m) (0 : Fin 1) launch0 defs₀ Variants.none fgt m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- A final state has the arguments as they were. -/
theorem args_kept (r : PUnit × MemSt nD τ sig (Elt F)) (h : Post m r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨(RDat.FramePost.arr_in h c 0 rfl).trans ((A_eq m c 0).trans (V_main_arg0 m c)),
    (RDat.FramePost.arr_in h c 1 rfl).trans ((A_eq m c 1).trans (V_main_arg1 m c)),
    (RDat.FramePost.arr_in h c 2 rfl).trans ((A_eq m c 2).trans (V_main_arg2 m c)),
    (RDat.FramePost.arr_in h c 3 rfl).trans ((A_eq m c 3).trans (V_main_arg3 m c)),
    (RDat.FramePost.arr_in h c 4 rfl).trans ((A_eq m c 4).trans (V_main_arg4 m c))⟩

/-- The frame claim: every run ends without fault, with the arguments as they were and all counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨args_kept m r h.1, h.2⟩) (run_main_quiescent m ρ)

/-- A final state has output 5 at what the steps leave in its blocks. -/
theorem final_5 (r : PUnit × MemSt nD τ sig (Elt F)) (h : Post m r) (c : Dev nD) :
    r.2.mem ((cfg0.spec 5).arr.view.loc (c.tc : Thread nD τ)) = (dats m 0 c).arrAt 5 cfg0.N :=
  (Dat.toRForget_arrAt_iff (dat := dats m 0 c) (fgt := fgt) (w := 5) rfl _ _).mp ((h c).1 5)

/-- A final state has output 7 at what the steps leave in its blocks. -/
theorem final_7 (r : PUnit × MemSt nD τ sig (Elt F)) (h : Post m r) (c : Dev nD) :
    r.2.mem ((cfg0.spec 7).arr.view.loc (c.tc : Thread nD τ)) = (dats m 0 c).arrAt 7 cfg0.N :=
  (Dat.toRForget_arrAt_iff (dat := dats m 0 c) (fgt := fgt) (w := 7) rfl _ _).mp ((h c).1 7)

end Cert.KFfnIdeal.Run

end
-- ==== Proof.FfnRunBits.lean ====
module

public import proofs.«01_k».proof.Proof.Gen.KFfn.Frame
public import proofs.«01_k».proof.Proof.Gen.KFfn.Loops
public import Idealize.ShloMosaic.Lib.Claim

@[expose] public section

set_option maxRecDepth 16384

noncomputable section

namespace Cert.KFfn.Run

open Cert.KFfn Cert.KFfn.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The condition of the body's branch on the last step. -/
abbrev lastStep (i : grid0.Coords) : Prop := k0_cond1 i = 1#1

theorem off57_eq : ∀ i : grid0.Coords, k0_off57 i = ![(i 0).val / 16, 0, 0] := by decide +kernel
instance closedOff_off57 (i : grid0.Coords) : ClosedOff (k0_off57 i) := ⟨![(i 0).val / 16, 0, 0], off57_eq i⟩
theorem off58_eq : ∀ i : grid0.Coords, k0_off58 i = ![(i 0).val / 16, 512, 0] := by decide +kernel
instance closedOff_off58 (i : grid0.Coords) : ClosedOff (k0_off58 i) := ⟨![(i 0).val / 16, 512, 0], off58_eq i⟩
theorem off59_eq : ∀ i : grid0.Coords, k0_off59 i = ![(i 0).val / 16, 1024, 0] := by decide +kernel
instance closedOff_off59 (i : grid0.Coords) : ClosedOff (k0_off59 i) := ⟨![(i 0).val / 16, 1024, 0], off59_eq i⟩
theorem off60_eq : ∀ i : grid0.Coords, k0_off60 i = ![(i 0).val / 16, 1536, 0] := by decide +kernel
instance closedOff_off60 (i : grid0.Coords) : ClosedOff (k0_off60 i) := ⟨![(i 0).val / 16, 1536, 0], off60_eq i⟩

set_option backward.proofsInPublic true in
set_option maxHeartbeats 4000000 in
/-- One step of the feed-forward kernel runs without fault, from its inputs at any contents and its outputs and
    scratch memories at some contents, and gives all of them back, the inputs as they were. -/
theorem stepRun (c : Dev nD) (i : grid0.Coords) (arg1 : Memref sig .tc .vmem S2048x2304 .bf16) (harg1 : arg1.IsWhole) (arg2 : Memref sig .tc .vmem S256x1152 .i8) (harg2 : arg2.IsWhole) (arg3 : Memref sig .tc .vmem S256x72 .i8) (harg3 : arg3.IsWhole) (arg4 : Memref sig .tc .vmem S256x1152 .i8) (harg4 : arg4.IsWhole) (arg5 : Memref sig .tc .vmem S256x72 .i8) (harg5 : arg5.IsWhole) (arg6 : Memref sig .tc .vmem S2048x256 .fp8e4m3) (harg6 : arg6.IsWhole) (arg7 : Memref sig .tc .vmem S2048x288 .i8) (harg7 : arg7.IsWhole) (arg8 : Memref sig .tc .vmem S2048x256 .bf16) (harg8 : arg8.IsWhole) (arg9 : Memref sig .tc .vmem S256x2304 .bf16) (harg9 : arg9.IsWhole) (arg10 : Memref sig .tc .vmem S256x2304 .bf16) (harg10 : arg10.IsWhole) (arg11 : Memref sig .tc .vmem S3x2048x128 .bf16) (harg11 : arg11.IsWhole)
    (x0 : Vec F S2048x2304 .bf16) (x1 : Vec F S256x1152 .i8) (x2 : Vec F S256x72 .i8) (x3 : Vec F S256x1152 .i8) (x4 : Vec F S256x72 .i8) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
          ⊢ wp frame (wpE (defs₀ (F := F)) Variants.none c none) E (cc0_ffn i arg1 harg1 arg2 harg2 arg3 harg3 arg4 harg4 arg5 harg5 arg6 harg6 arg7 harg7 arg8 harg8 arg9 harg9 arg10 harg10 arg11 harg11) K := by
  refine fun E K => ?run
  case run =>
    simp only [cc0_ffn_eq_skeleton]; unfold cc0_ffn_skel
    simp only [k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part19_eq_skeleton, k0_part20_eq_skeleton, k0_part21_eq_skeleton, k0_part22_eq_skeleton, k0_part23_eq_skeleton, k0_part24_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4
    have hrd0 : ∀ (𝒱 : Variants) (c : Dev nD) (bd : Option 𝒱.V) (i : grid0.Coords) (arg1 : Memref sig .tc .vmem S2048x2304 .bf16) (harg1 : arg1.IsWhole) (arg2 : Memref sig .tc .vmem S256x1152 .i8) (harg2 : arg2.IsWhole) (arg3 : Memref sig .tc .vmem S256x72 .i8) (harg3 : arg3.IsWhole) (arg4 : Memref sig .tc .vmem S256x1152 .i8) (harg4 : arg4.IsWhole) (arg5 : Memref sig .tc .vmem S256x72 .i8) (harg5 : arg5.IsWhole) (arg6 : Memref sig .tc .vmem S2048x256 .fp8e4m3) (harg6 : arg6.IsWhole) (arg7 : Memref sig .tc .vmem S2048x288 .i8) (harg7 : arg7.IsWhole) (arg8 : Memref sig .tc .vmem S2048x256 .bf16) (harg8 : arg8.IsWhole) (arg9 : Memref sig .tc .vmem S256x2304 .bf16) (harg9 : arg9.IsWhole) (arg10 : Memref sig .tc .vmem S256x2304 .bf16) (harg10 : arg10.IsWhole) (arg11 : Memref sig .tc .vmem S3x2048x128 .bf16) (harg11 : arg11.IsWhole) (X_arg2 : BufTy.Contents (Elt F) arg2.view.ty) (X_arg3 : BufTy.Contents (Elt F) arg3.view.ty) (hrdF : BufTy.Contents (Elt F) arg9.view.ty) (hrdB : LoadRect S256x2304), arg9.view.readAt (Elt F) hrdB (arg9.view.writes (Elt F) hrdF (pb_k0_t1 (F := F) 𝒱 c bd i arg1 harg1 arg2 harg2 arg3 harg3 arg4 harg4 arg5 harg5 arg6 harg6 arg7 harg7 arg8 harg8 arg9 harg9 arg10 harg10 arg11 harg11 X_arg2 X_arg3 (Scf.trips k0_t1_loop.lb k0_t1_loop.ub k0_t1_loop.st))) = arg9.view.readCov (pb_k0_t1 (F := F) 𝒱 c bd i arg1 harg1 arg2 harg2 arg3 harg3 arg4 harg4 arg5 harg5 arg6 harg6 arg7 harg7 arg8 harg8 arg9 harg9 arg10 harg10 arg11 harg11 X_arg2 X_arg3 (Scf.trips k0_t1_loop.lb k0_t1_loop.ub k0_t1_loop.st)) hrdB := fun 𝒱 c bd i arg1 harg1 arg2 harg2 arg3 harg3 arg4 harg4 arg5 harg5 arg6 harg6 arg7 harg7 arg8 harg8 arg9 harg9 arg10 harg10 arg11 harg11 X_arg2 X_arg3 hrdF hrdB => View.readAt_writes_of_cover _ hrdF _ hrdB (fun hrdJ => View.cover_of_tiledL (pb_k0_t1 (F := F) 𝒱 c bd i arg1 harg1 arg2 harg2 arg3 harg3 arg4 harg4 arg5 harg5 arg6 harg6 arg7 harg7 arg8 harg8 arg9 harg9 arg10 harg10 arg11 harg11 X_arg2 X_arg3 (Scf.trips k0_t1_loop.lb k0_t1_loop.ub k0_t1_loop.st)) S64x128.size (by sl_kernel_rfl) (hrdB.idx hrdJ))
    have hrd1 : ∀ (𝒱 : Variants) (c : Dev nD) (bd : Option 𝒱.V) (i : grid0.Coords) (arg1 : Memref sig .tc .vmem S2048x2304 .bf16) (harg1 : arg1.IsWhole) (arg2 : Memref sig .tc .vmem S256x1152 .i8) (harg2 : arg2.IsWhole) (arg3 : Memref sig .tc .vmem S256x72 .i8) (harg3 : arg3.IsWhole) (arg4 : Memref sig .tc .vmem S256x1152 .i8) (harg4 : arg4.IsWhole) (arg5 : Memref sig .tc .vmem S256x72 .i8) (harg5 : arg5.IsWhole) (arg6 : Memref sig .tc .vmem S2048x256 .fp8e4m3) (harg6 : arg6.IsWhole) (arg7 : Memref sig .tc .vmem S2048x288 .i8) (harg7 : arg7.IsWhole) (arg8 : Memref sig .tc .vmem S2048x256 .bf16) (harg8 : arg8.IsWhole) (arg9 : Memref sig .tc .vmem S256x2304 .bf16) (harg9 : arg9.IsWhole) (arg10 : Memref sig .tc .vmem S256x2304 .bf16) (harg10 : arg10.IsWhole) (arg11 : Memref sig .tc .vmem S3x2048x128 .bf16) (harg11 : arg11.IsWhole) (X_arg4 : BufTy.Contents (Elt F) arg4.view.ty) (X_arg5 : BufTy.Contents (Elt F) arg5.view.ty) (hrdF : BufTy.Contents (Elt F) arg10.view.ty) (hrdB : LoadRect S256x2304), arg10.view.readAt (Elt F) hrdB (arg10.view.writes (Elt F) hrdF (pb_k0_t2 (F := F) 𝒱 c bd i arg1 harg1 arg2 harg2 arg3 harg3 arg4 harg4 arg5 harg5 arg6 harg6 arg7 harg7 arg8 harg8 arg9 harg9 arg10 harg10 arg11 harg11 X_arg4 X_arg5 (Scf.trips k0_t2_loop.lb k0_t2_loop.ub k0_t2_loop.st))) = arg10.view.readCov (pb_k0_t2 (F := F) 𝒱 c bd i arg1 harg1 arg2 harg2 arg3 harg3 arg4 harg4 arg5 harg5 arg6 harg6 arg7 harg7 arg8 harg8 arg9 harg9 arg10 harg10 arg11 harg11 X_arg4 X_arg5 (Scf.trips k0_t2_loop.lb k0_t2_loop.ub k0_t2_loop.st)) hrdB := fun 𝒱 c bd i arg1 harg1 arg2 harg2 arg3 harg3 arg4 harg4 arg5 harg5 arg6 harg6 arg7 harg7 arg8 harg8 arg9 harg9 arg10 harg10 arg11 harg11 X_arg4 X_arg5 hrdF hrdB => View.readAt_writes_of_cover _ hrdF _ hrdB (fun hrdJ => View.cover_of_tiledL (pb_k0_t2 (F := F) 𝒱 c bd i arg1 harg1 arg2 harg2 arg3 harg3 arg4 harg4 arg5 harg5 arg6 harg6 arg7 harg7 arg8 harg8 arg9 harg9 arg10 harg10 arg11 harg11 X_arg4 X_arg5 (Scf.trips k0_t2_loop.lb k0_t2_loop.ub k0_t2_loop.st)) S64x128.size (by sl_kernel_rfl) (hrdB.idx hrdJ))
    by_cases hc0 : lastStep i
    · sl_exec (disch := first | sl_exact hc0)
      sl_step
      iapply Hk
      isplitl [H0]
      · iexists _; isplitr; · ipureintro; exact harg1.read_unread _
        iexact H0
      isplitl [H1]
      · iexists _; isplitr; · ipureintro; exact harg2.read_unread _
        iexact H1
      isplitl [H2]
      · iexists _; isplitr; · ipureintro; exact harg3.read_unread _
        iexact H2
      isplitl [H3]
      · iexists _; isplitr; · ipureintro; exact harg4.read_unread _
        iexact H3
      isplitl [H4]
      · iexists _; isplitr; · ipureintro; exact harg5.read_unread _
        iexact H4
      isplitl [H5]
      · iexists _, _; isplitr; swap; · iexact H5
        ipureintro; rfl
      isplitl [H6]
      · iexists _, _; isplitr; swap; · iexact H6
        ipureintro; rfl
      isplitl [H7]
      · iexists _, _; isplitr; swap; · iexact H7
        ipureintro; rfl
      isplitl [HS0]
      · iexists _, _; isplitr; swap; · iexact HS0
        ipureintro; rfl
      isplitl [HS1]
      · iexists _, _; isplitr; swap; · iexact HS1
        ipureintro; rfl
      iexists _, _; isplitr; swap; · iexact HS2
      ipureintro; rfl
    · sl_exec (disch := first | sl_exact hc0)
      sl_step
      iapply Hk
      isplitl [H0]
      · iexists _; isplitr; · ipureintro; exact harg1.read_unread _
        iexact H0
      isplitl [H1]
      · iexists _; isplitr; · ipureintro; exact harg2.read_unread _
        iexact H1
      isplitl [H2]
      · iexists _; isplitr; · ipureintro; exact harg3.read_unread _
        iexact H2
      isplitl [H3]
      · iexists _; isplitr; · ipureintro; exact harg4.read_unread _
        iexact H3
      isplitl [H4]
      · iexists _; isplitr; · ipureintro; exact harg5.read_unread _
        iexact H4
      isplitl [H5]
      · iexists _, _; isplitr; swap; · iexact H5
        ipureintro; rfl
      isplitl [H6]
      · iexists _, _; isplitr; swap; · iexact H6
        ipureintro; rfl
      isplitl [H7]
      · iexists _, _; isplitr; swap; · iexact H7
        ipureintro; rfl
      isplitl [HS0]
      · iexists _, _; isplitr; swap; · iexact HS0
        ipureintro; rfl
      isplitl [HS1]
      · iexists _, _; isplitr; swap; · iexact HS1
        ipureintro; rfl
      iexists _, _; isplitr; swap; · iexact HS2
      ipureintro; rfl

end Cert.KFfn.Run

end
-- ==== Proof.FfnFrameBits.lean ====
module

public import proofs.«01_k».proof.Proof.FfnRunBits
public import Idealize.ShloMosaic.Lib.Claim

@[expose] public section

set_option maxRecDepth 16384

noncomputable section

namespace Cert.KFfn.Run

open Cert.KFfn Cert.KFfn.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf RDat)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The output windows of which the run says nothing. -/
def fgt : Fin cfg0.W → Bool
  | ⟨0, _⟩ => false | ⟨1, _⟩ => false | ⟨2, _⟩ => false | ⟨3, _⟩ => false | ⟨4, _⟩ => false
  | ⟨5, _⟩ => true | ⟨6, _⟩ => true | ⟨7, _⟩ => true
  | ⟨_ + 8, h⟩ => absurd h (Nat.not_lt.2 (Nat.le_add_left _ _))

/-! Each window's staging memory at a step, and that it is whole; the three scratch memories. -/
abbrev ms0_0 (t : Fin cfg0.N) : Memref sig .tc .vmem S2048x2304 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x1152 .i8 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x72 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x1152 .i8 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x72 .i8 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2048x256 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S2048x288 .i8 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S2048x256 .bf16 := win0_7.stage (cfg0.slots t 7)
abbrev hs0_7 (t : Fin cfg0.N) : (ms0_7 t).IsWhole := hstage0_7 ((cfg0.slots t 7).cast nbuf0_7)
abbrev scM0_0 : Memref sig .tc .vmem S256x2304 .bf16 := Memref.whole cc0_scratch0
abbrev scM0_1 : Memref sig .tc .vmem S256x2304 .bf16 := Memref.whole cc0_scratch1
abbrev scM0_2 : Memref sig .tc .vmem S3x2048x128 .bf16 := Memref.whole cc0_scratch2

/-- The invariant kept from step to step: the three scratch memories at some contents, and the generator's register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

/-- What each window holds after each step: an input its block, as found; an output what the step leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => Dat.unnamed (cfg := cfg0) 5 t
    | ⟨6, _⟩ => Dat.unnamed (cfg := cfg0) 6 t
    | ⟨7, _⟩ => Dat.unnamed (cfg := cfg0) 7 t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- The body's precondition at step `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ X, owns (c : Thread nD τ) (ms0_5 t) fullShare X)
    ∗ (∃ X, owns (c : Thread nD τ) (ms0_6 t) fullShare X)
    ∗ (∃ X, owns (c : Thread nD τ) (ms0_7 t) fullShare X))

/-- The body's postcondition at step `t`. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ (∃ X, owns (c : Thread nD τ) (ms0_5 t) fullShare X)
    ∗ (∃ X, owns (c : Thread nD τ) (ms0_6 t) fullShare X)
    ∗ (∃ X, owns (c : Thread nD τ) (ms0_7 t) fullShare X))

set_option maxHeartbeats 1600000 in
/-- The body runs from its precondition to its postcondition. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  rw [after0_0, after0_1, after0_2, after0_3, after0_4]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (stepRun c (grid0.coords t) _ _ _ _ _ _ _ _ _ _ _ _ _ _ _ _ _ _ _ _ _ _ (iblk m c 0 t) (iblk m c 1 t) (iblk m c 2 t) (iblk m c 3 t) (iblk m c 4 t) Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [HS0]; · iexact HS0
  isplitl [HS1]; · iexact HS1
  isplitl [HS2]; · iexact HS2
  iintro ⟨H0, H1, H2, H3, H4, H5, H6, H7, HS0, HS1, HS2⟩
  isplitl [HS0 HS1 HS2 Hg]
  · isplitl [HS0 HS1 HS2]
    · isplitl [HS0]
      · iexact HS0
      isplitl [HS1]
      · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem defs₀_row (t : Fin cfg0.N) :
    defs₀ (F := F) .tc cfg0.body (cfg0.bodyArgs t (cfg0.slots t)) = bodyAt0 t := by
  unfold defs₀; rw [Defs.onTc_tc]

/-- The body's obligation, the windows of `fgt` at some contents. -/
theorem body_obligation (c : Dev nD) : BodyObligation (dats (F := F) m 0 c) (defs₀ (F := F)) Variants.none () Set.univ fgt := fun t => by
  rw [bigSep_W0, bigSep_W0, defs₀_row]
  exact triple_restated (sound_body m c t) rfl .rfl fun _ => .rfl

/-- What holds of every final state. -/
abbrev Post (r : PUnit × MemSt nD τ sig (Elt F)) : Prop :=
  RDat.FramePost (cfgs (0 : Fin 1)) (fun c => (dats m 0 c).toRForget fgt) (V m) r

set_option backward.isDefEq.respectTransparency.types false in
/-- Every run of the program ends, in a state with `Post`, with all counters at zero. -/
theorem run_main_quiescent : θ_run defs (onTc (τ := τ) (main (F := F))) (s₀ m ρ) (fun r => Post m r ∧ r.2.sem = fun _ => 0) :=
  Pipeline.θ_run_frame_forget (Q' := _) cfgs (dats m) (0 : Fin 1) launch0 defs₀ Variants.none fgt m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- A final state has the arguments as they were. -/
theorem args_kept (r : PUnit × MemSt nD τ sig (Elt F)) (h : Post m r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨(RDat.FramePost.arr_in h c 0 rfl).trans ((A_eq m c 0).trans (V_main_arg0 m c)),
    (RDat.FramePost.arr_in h c 1 rfl).trans ((A_eq m c 1).trans (V_main_arg1 m c)),
    (RDat.FramePost.arr_in h c 2 rfl).trans ((A_eq m c 2).trans (V_main_arg2 m c)),
    (RDat.FramePost.arr_in h c 3 rfl).trans ((A_eq m c 3).trans (V_main_arg3 m c)),
    (RDat.FramePost.arr_in h c 4 rfl).trans ((A_eq m c 4).trans (V_main_arg4 m c))⟩

/-- The frame claim: every run ends without fault, with the arguments as they were and all counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨args_kept m r h.1, h.2⟩) (run_main_quiescent m ρ)

end Cert.KFfn.Run

end
-- ==== Proof.FfnDecode.lean ====
/-
  The decoded weights of one grid point of the feed-forward kernel: what its two loops leave in the scratch blocks of the gate's and the up projection's weights.
-/
module

public import proofs.«01_k».proof.Proof.Dec
public import proofs.«01_k».proof.Proof.Gen.KFfnIdeal.Loops
public import proofs.«01_k».proof.Proof.Gen.KFfnIdeal.Frame

@[expose] public section

set_option maxRecDepth 16384

noncomputable section

namespace Cert.Ffn

open Cert.KFfnIdeal Cert.KFfnIdeal.Gen Idealize.ShloMosaic Idealize.ShloMosaic.TcCoe Idealize.ShloMosaic.Tactic Idealize.SL.Sem
open Cert.Dec Cert.KFfnIdeal.Facts

/-- A piece whose payload agrees, at every index, with one function of the whole block. -/
abbrev Agrees {S : Shape} {e : EltTy} (G : S.Idx → Elt Ideal e) (p : View.Piece (Elt Ideal) S e) : Prop := ∀ x, p.2 x = G (p.1.emb x)

/-- The scratch block the decode leaves: weights of the block's codes and scales. -/
abbrev WD (codes : IVec S256x1152 8) (scales : IVec S256x72 8) : FVec Ideal S256x2304 .bf16 :=
  Wb (R := 256) (C := 9) (nC := 1152) (nS := 72) (nW := 2304) rfl rfl rfl codes scales

section
variable (arg3 : Memref sig .tc .vmem S256x1152 .i8) (arg4 : Memref sig .tc .vmem S256x72 .i8) (X_arg3 : BufTy.Contents (Elt Ideal) arg3.view.ty) (X_arg4 : BufTy.Contents (Elt Ideal) arg4.view.ty)

/-- A rectangle's index from its coordinates. -/
theorem unit_ld {S : Shape} {e : EltTy} (v : View sig .tc .vmem S e) (X : BufTy.Contents (Elt Ideal) v.ty) (off size : Fin S.rank → ℕ) (inb) (y : S.Idx)
    (x : (Rect.unit off size inb).shape.Idx) (h : ∀ a, (y a).val = off a + (x a).val) :
    View.readAt (Elt Ideal) v (Rect.unit (s := S) off size inb).toLoadRect X x = v.read (Elt Ideal) X y := by
  show v.read (Elt Ideal) X _ = _
  congr 1
  funext a
  refine Fin.ext ?_
  show off a + 1 * (x a).val = _
  rw [h a]; omega

theorem closed {n : ℕ} {off f : Fin n → ℕ} [o : ClosedOff off] (h : o.form = f) : off = f := o.eq.trans h

/-- A slice from the origin, of the whole shape, is the block itself. -/
theorem slice_self {α : Type} (R : S64x128.Idx → α) (o : ℕ) (ho : o = 0) (sl : S64x128.Slices ![0, o] SC) : extractStridedSlice SC ![0, o] R sl = R := by
  subst ho
  funext j
  refine extractStridedSlice_apply ![0, 0] _ sl j j fun a => ?_
  match a with
  | ⟨0, _⟩ => exact (Nat.zero_add _).symm
  | ⟨1, _⟩ => exact (Nat.zero_add _).symm

theorem lane_iota (h : SC.Iotas .tc 32 [1]) (j : SC.Idx) : iota .tc SC 32 [1] h j = BitVec.ofNat 32 (j 1).val := iota_single_apply _ _ _ 1 h j

theorem cons_lo (hsc : ∀ i, (arg4.view.read (Elt Ideal) X_arg4 i).toNat ≤ 248) (cc : ℕ) (k : ℕ) (offC offW offS : Fin 2 → ℕ)
    (inbC inbW inbS) (pay : FVec Ideal S64x128 .bf16) (hC : offC = ![64 * k, 128 * cc]) (hW : offW = ![64 * k, 256 * cc]) (hS : offS = ![64 * k, 0])
    (sl : S64x128.Slices ![0, 8 * cc / 128 * 128] SC) (hcc : cc < 9)
    (C : Vec Ideal S64x128 .i8) (R : FVec Ideal S64x128 .bf16) (v : IVec S64x128 32)
    (hCr : C = View.readAt (Elt Ideal) arg3.view (Rect.unit (s := S256x1152) offC ![64, 128] inbC).toLoadRect X_arg3)
    (hRr : R = concatenate S64x128 1 [⟨S64x72, truncf (F := Ideal) .bf16 (bitcastToFloat .f32 (shli (addi (extui 32
        (View.readAt (Elt Ideal) arg4.view (Rect.unit (s := S256x72) offS ![64, 72] inbS).toLoadRect X_arg4 : IVec S64x72 8) natLt_8_32)
        (broadcast S64x72 6#32)) (broadcast S64x72 23#32))) bitsLt_bf16_f32⟩, ⟨S64x56, broadcast S64x56 (Scalar.ofBits .bf16 0x0000#16)⟩] concatenates_S64x72_S64x56_S64x128_d1)
    (hv : v = iota .tc S64x128 32 [1] iota_S64x128_d1_w32)
    (hpay : pay = scaled (loW C bitcasts_S64x128_w8_S16x128_w32)
      (gath R v (BitVec.ofNat 32 (8 * cc % 128)) bitsLt_bf16_f32 shapeCasts_S64x128_S64x128x1
        shapeCasts_S64x128x1_S64x128) bitcasts_S16x128_w32_S64x128_w8 bitsLt_fp8e4m3_bf16 shapeCasts_S64x128_S64x128)
    (L : List (View.Piece (Elt Ideal) S256x2304 .bf16))
    (hL : ∀ p ∈ L, Agrees (WD (arg3.view.read (Elt Ideal) X_arg3) (arg4.view.read (Elt Ideal) X_arg4)) p) :
    ∀ p ∈ (⟨Rect.unit (s := S256x2304) offW ![64, 128] inbW, pay⟩ : View.Piece (Elt Ideal) S256x2304 .bf16) :: L,
      Agrees (WD (arg3.view.read (Elt Ideal) X_arg3) (arg4.view.read (Elt Ideal) X_arg4)) p := by
  refine List.forall_mem_cons.2 ⟨fun x => ?_, hL⟩
  have e0 : 8 * cc / 128 * 128 = 0 := by omega
  rw [← slice_self R _ e0 sl] at hpay
  subst hC hW hS hpay hCr hRr hv
  refine piece_lo (R := 256) (C := 9) _ _ _ _ _ hsc (64 * k) cc (128 * cc) (256 * cc) (8 * cc / 128 * 128) (8 * cc % 128) rfl rfl (by omega) (by omega)
    rfl _ _ _ (lane_iota _) ?_ ?_ _ _ _ _ sl _ _ _ _ _ _ x _ ?_ ?_
  · intro p l i h0 h1
    refine unit_ld _ _ _ _ _ i (ValueIdx.ix2 p l) fun a => ?_
    match a with
    | ⟨0, _⟩ => exact h0
    | ⟨1, _⟩ => exact h1
  · intro p l i h0 h1
    refine unit_ld _ _ _ _ _ i (ValueIdx.ix2 p l) fun a => ?_
    match a with
    | ⟨0, _⟩ => exact h0
    | ⟨1, _⟩ => exact h1.trans (Nat.zero_add _).symm
  · show 64 * k + 1 * (x 0).val = _; omega
  · show 256 * cc + 1 * (x 1).val = _; omega

theorem cons_hi (hsc : ∀ i, (arg4.view.read (Elt Ideal) X_arg4 i).toNat ≤ 248) (cc : ℕ) (k : ℕ) (offC offW offS : Fin 2 → ℕ)
    (inbC inbW inbS) (pay : FVec Ideal S64x128 .bf16) (hC : offC = ![64 * k, 128 * cc]) (hW : offW = ![64 * k, 256 * cc + 128]) (hS : offS = ![64 * k, 0])
    (sl : S64x128.Slices ![0, 8 * cc / 128 * 128] SC) (hcc : cc < 9)
    (C : Vec Ideal S64x128 .i8) (R : FVec Ideal S64x128 .bf16) (v : IVec S64x128 32)
    (hCr : C = View.readAt (Elt Ideal) arg3.view (Rect.unit (s := S256x1152) offC ![64, 128] inbC).toLoadRect X_arg3)
    (hRr : R = concatenate S64x128 1 [⟨S64x72, truncf (F := Ideal) .bf16 (bitcastToFloat .f32 (shli (addi (extui 32
        (View.readAt (Elt Ideal) arg4.view (Rect.unit (s := S256x72) offS ![64, 72] inbS).toLoadRect X_arg4 : IVec S64x72 8) natLt_8_32)
        (broadcast S64x72 6#32)) (broadcast S64x72 23#32))) bitsLt_bf16_f32⟩, ⟨S64x56, broadcast S64x56 (Scalar.ofBits .bf16 0x0000#16)⟩] concatenates_S64x72_S64x56_S64x128_d1)
    (hv : v = iota .tc S64x128 32 [1] iota_S64x128_d1_w32)
    (hpay : pay = scaled (hiW C bitcasts_S64x128_w8_S16x128_w32)
      (gath R v (BitVec.ofNat 32 (8 * cc % 128)) bitsLt_bf16_f32 shapeCasts_S64x128_S64x128x1
        shapeCasts_S64x128x1_S64x128) bitcasts_S16x128_w32_S64x128_w8 bitsLt_fp8e4m3_bf16 shapeCasts_S64x128_S64x128)
    (L : List (View.Piece (Elt Ideal) S256x2304 .bf16))
    (hL : ∀ p ∈ L, Agrees (WD (arg3.view.read (Elt Ideal) X_arg3) (arg4.view.read (Elt Ideal) X_arg4)) p) :
    ∀ p ∈ (⟨Rect.unit (s := S256x2304) offW ![64, 128] inbW, pay⟩ : View.Piece (Elt Ideal) S256x2304 .bf16) :: L,
      Agrees (WD (arg3.view.read (Elt Ideal) X_arg3) (arg4.view.read (Elt Ideal) X_arg4)) p := by
  refine List.forall_mem_cons.2 ⟨fun x => ?_, hL⟩
  have e0 : 8 * cc / 128 * 128 = 0 := by omega
  rw [← slice_self R _ e0 sl] at hpay
  subst hC hW hS hpay hCr hRr hv
  refine piece_hi (R := 256) (C := 9) _ _ _ _ _ hsc (64 * k) cc (128 * cc) (256 * cc + 128) (8 * cc / 128 * 128) (8 * cc % 128) rfl rfl (by omega) (by omega)
    rfl _ _ _ (lane_iota _) ?_ ?_ _ _ _ _ sl _ _ _ _ _ _ x _ ?_ ?_
  · intro p l i h0 h1
    refine unit_ld _ _ _ _ _ i (ValueIdx.ix2 p l) fun a => ?_
    match a with
    | ⟨0, _⟩ => exact h0
    | ⟨1, _⟩ => exact h1
  · intro p l i h0 h1
    refine unit_ld _ _ _ _ _ i (ValueIdx.ix2 p l) fun a => ?_
    match a with
    | ⟨0, _⟩ => exact h0
    | ⟨1, _⟩ => exact h1.trans (Nat.zero_add _).symm
  · show 64 * k + 1 * (x 0).val = _; omega
  · show 256 * cc + 128 + 1 * (x 1).val = _; omega

/-- The two pieces of one chunk of 128 code columns. -/
theorem cons_pair (hsc : ∀ i, (arg4.view.read (Elt Ideal) X_arg4 i).toNat ≤ 248) (cc : ℕ) (k : ℕ) (offC offL offH offS : Fin 2 → ℕ)
    (inbC inbL inbH inbS) (payL payH : FVec Ideal S64x128 .bf16) (hC : offC = ![64 * k, 128 * cc]) (hW : offL = ![64 * k, 256 * cc]) (hW' : offH = ![64 * k, 256 * cc + 128]) (hS : offS = ![64 * k, 0])
    (sl : S64x128.Slices ![0, 8 * cc / 128 * 128] SC) (hcc : cc < 9)
    (C : Vec Ideal S64x128 .i8) (R : FVec Ideal S64x128 .bf16) (v : IVec S64x128 32)
    (hCr : C = View.readAt (Elt Ideal) arg3.view (Rect.unit (s := S256x1152) offC ![64, 128] inbC).toLoadRect X_arg3)
    (hRr : R = concatenate S64x128 1 [⟨S64x72, truncf (F := Ideal) .bf16 (bitcastToFloat .f32 (shli (addi (extui 32
        (View.readAt (Elt Ideal) arg4.view (Rect.unit (s := S256x72) offS ![64, 72] inbS).toLoadRect X_arg4 : IVec S64x72 8) natLt_8_32)
        (broadcast S64x72 6#32)) (broadcast S64x72 23#32))) bitsLt_bf16_f32⟩, ⟨S64x56, broadcast S64x56 (Scalar.ofBits .bf16 0x0000#16)⟩] concatenates_S64x72_S64x56_S64x128_d1)
    (hv : v = iota .tc S64x128 32 [1] iota_S64x128_d1_w32)
    (hlo : payL = scaled (loW C bitcasts_S64x128_w8_S16x128_w32)
      (gath R v (BitVec.ofNat 32 (8 * cc % 128)) bitsLt_bf16_f32 shapeCasts_S64x128_S64x128x1
        shapeCasts_S64x128x1_S64x128) bitcasts_S16x128_w32_S64x128_w8 bitsLt_fp8e4m3_bf16 shapeCasts_S64x128_S64x128)
    (hhi : payH = scaled (hiW C bitcasts_S64x128_w8_S16x128_w32)
      (gath R v (BitVec.ofNat 32 (8 * cc % 128)) bitsLt_bf16_f32 shapeCasts_S64x128_S64x128x1
        shapeCasts_S64x128x1_S64x128) bitcasts_S16x128_w32_S64x128_w8 bitsLt_fp8e4m3_bf16 shapeCasts_S64x128_S64x128)
    (L : List (View.Piece (Elt Ideal) S256x2304 .bf16))
    (hL : ∀ p ∈ L, Agrees (WD (arg3.view.read (Elt Ideal) X_arg3) (arg4.view.read (Elt Ideal) X_arg4)) p) :
    ∀ p ∈ (⟨Rect.unit (s := S256x2304) offH ![64, 128] inbH, payH⟩ : View.Piece (Elt Ideal) S256x2304 .bf16)
        :: ⟨Rect.unit (s := S256x2304) offL ![64, 128] inbL, payL⟩ :: L,
      Agrees (WD (arg3.view.read (Elt Ideal) X_arg3) (arg4.view.read (Elt Ideal) X_arg4)) p :=
  cons_hi arg3 arg4 X_arg3 X_arg4 hsc cc k offC offH offS inbC inbH inbS payH hC hW' hS sl hcc C R v hCr hRr hv hhi _
    (cons_lo arg3 arg4 X_arg3 X_arg4 hsc cc k offC offL offS inbC inbL inbS payL hC hW hS sl hcc C R v hCr hRr hv hlo L hL)

end
section
variable (𝒱 : Variants) (c : Dev nD) (bd : Option 𝒱.V) (i : grid0.Coords) (arg1 : Memref sig .tc .vmem S2048x2304 .bf16) (harg1 : arg1.IsWhole) (arg2 : Memref sig .tc .vmem S256x1152 .i8) (harg2 : arg2.IsWhole) (arg3 : Memref sig .tc .vmem S256x72 .i8) (harg3 : arg3.IsWhole) (arg4 : Memref sig .tc .vmem S256x1152 .i8) (harg4 : arg4.IsWhole) (arg5 : Memref sig .tc .vmem S256x72 .i8) (harg5 : arg5.IsWhole) (arg6 : Memref sig .tc .vmem S2048x256 .fp8e4m3) (harg6 : arg6.IsWhole) (arg7 : Memref sig .tc .vmem S2048x288 .i8) (harg7 : arg7.IsWhole) (arg8 : Memref sig .tc .vmem S2048x256 .bf16) (harg8 : arg8.IsWhole) (arg9 : Memref sig .tc .vmem S256x2304 .bf16) (harg9 : arg9.IsWhole) (arg10 : Memref sig .tc .vmem S256x2304 .bf16) (harg10 : arg10.IsWhole) (arg11 : Memref sig .tc .vmem S3x2048x128 .bf16) (harg11 : arg11.IsWhole) (X_arg2 : BufTy.Contents (Elt Ideal) arg2.view.ty) (X_arg3 : BufTy.Contents (Elt Ideal) arg3.view.ty)

set_option maxHeartbeats 4000000 in
theorem trip_agrees1 (hsc : ∀ i, (arg3.view.read (Elt Ideal) X_arg3 i).toNat ≤ 248) (k : Fin k0_t1_loop.trips) :
    ∀ p ∈ (trip_k0_t1 (F := Ideal) 𝒱 c bd i arg1 harg1 arg2 harg2 arg3 harg3 arg4 harg4 arg5 harg5 arg6 harg6 arg7 harg7 arg8 harg8 arg9 harg9 arg10 harg10 arg11 harg11 X_arg2 X_arg3 k).1,
      Agrees (WD (arg2.view.read (Elt Ideal) X_arg2) (arg3.view.read (Elt Ideal) X_arg3)) p := by
  unfold trip_k0_t1
  dsimp only
  have hR : trip_k0_t1.sl.r arg3 X_arg3 k = concatenate S64x128 1 [⟨S64x72, truncf (F := Ideal) .bf16 (bitcastToFloat .f32 (shli (addi (extui 32
        (View.readAt (Elt Ideal) arg3.view (Rect.unit (s := S256x72) (k0_off1 k) ![64, 72] (k0_off1_inb k)).toLoadRect X_arg3 : IVec S64x72 8) natLt_8_32)
        (broadcast S64x72 6#32)) (broadcast S64x72 23#32))) bitsLt_bf16_f32⟩, ⟨S64x56, broadcast S64x56 (Scalar.ofBits .bf16 0x0000#16)⟩] concatenates_S64x72_S64x56_S64x128_d1 := by
    delta trip_k0_t1.sl.r
    rfl
  refine cons_pair arg2 arg3 X_arg2 X_arg3 hsc 8 k.val (k0_off26 k) (k0_off27 k) (k0_off28 k) (k0_off1 k) (k0_off26_inb k) _ _ (k0_off1_inb k)
    _ _ (closed rfl) (closed rfl) (closed rfl) (closed rfl) (by decide) (by decide) _ _ _ rfl hR rfl rfl rfl _ ?_
  refine cons_pair arg2 arg3 X_arg2 X_arg3 hsc 7 k.val (k0_off23 k) (k0_off24 k) (k0_off25 k) (k0_off1 k) (k0_off23_inb k) _ _ (k0_off1_inb k)
    _ _ (closed rfl) (closed rfl) (closed rfl) (closed rfl) (by decide) (by decide) _ _ _ rfl hR rfl rfl rfl _ ?_
  refine cons_pair arg2 arg3 X_arg2 X_arg3 hsc 6 k.val (k0_off20 k) (k0_off21 k) (k0_off22 k) (k0_off1 k) (k0_off20_inb k) _ _ (k0_off1_inb k)
    _ _ (closed rfl) (closed rfl) (closed rfl) (closed rfl) (by decide) (by decide) _ _ _ rfl hR rfl rfl rfl _ ?_
  refine cons_pair arg2 arg3 X_arg2 X_arg3 hsc 5 k.val (k0_off17 k) (k0_off18 k) (k0_off19 k) (k0_off1 k) (k0_off17_inb k) _ _ (k0_off1_inb k)
    _ _ (closed rfl) (closed rfl) (closed rfl) (closed rfl) (by decide) (by decide) _ _ _ rfl hR rfl rfl rfl _ ?_
  refine cons_pair arg2 arg3 X_arg2 X_arg3 hsc 4 k.val (k0_off14 k) (k0_off15 k) (k0_off16 k) (k0_off1 k) (k0_off14_inb k) _ _ (k0_off1_inb k)
    _ _ (closed rfl) (closed rfl) (closed rfl) (closed rfl) (by decide) (by decide) _ _ _ rfl hR rfl rfl rfl _ ?_
  refine cons_pair arg2 arg3 X_arg2 X_arg3 hsc 3 k.val (k0_off11 k) (k0_off12 k) (k0_off13 k) (k0_off1 k) (k0_off11_inb k) _ _ (k0_off1_inb k)
    _ _ (closed rfl) (closed rfl) (closed rfl) (closed rfl) (by decide) (by decide) _ _ _ rfl hR rfl rfl rfl _ ?_
  refine cons_pair arg2 arg3 X_arg2 X_arg3 hsc 2 k.val (k0_off8 k) (k0_off9 k) (k0_off10 k) (k0_off1 k) (k0_off8_inb k) _ _ (k0_off1_inb k)
    _ _ (closed rfl) (closed rfl) (closed rfl) (closed rfl) (by decide) (by decide) _ _ _ rfl hR rfl rfl rfl _ ?_
  refine cons_pair arg2 arg3 X_arg2 X_arg3 hsc 1 k.val (k0_off5 k) (k0_off6 k) (k0_off7 k) (k0_off1 k) (k0_off5_inb k) _ _ (k0_off1_inb k)
    _ _ (closed rfl) (closed rfl) (closed rfl) (closed rfl) (by decide) (by decide) _ _ _ rfl hR rfl rfl rfl _ ?_
  refine cons_pair arg2 arg3 X_arg2 X_arg3 hsc 0 k.val (k0_off2 k) (k0_off3 k) (k0_off4 k) (k0_off1 k) (k0_off2_inb k) _ _ (k0_off1_inb k)
    _ _ (closed rfl) (closed rfl) (closed rfl) (closed rfl) (by decide) (by decide) _ _ _ rfl hR rfl rfl rfl _ ?_
  exact fun p hp => absurd hp List.not_mem_nil

/-- Every piece the loop has stored before trip `n` agrees with the decoded weights. -/
theorem pb_agrees1 (hsc : ∀ i, (arg3.view.read (Elt Ideal) X_arg3 i).toNat ≤ 248) : ∀ n : ℕ, n ≤ k0_t1_loop.trips →
    ∀ p ∈ pb_k0_t1 (F := Ideal) 𝒱 c bd i arg1 harg1 arg2 harg2 arg3 harg3 arg4 harg4 arg5 harg5 arg6 harg6 arg7 harg7 arg8 harg8 arg9 harg9 arg10 harg10 arg11 harg11 X_arg2 X_arg3 n,
      Agrees (WD (arg2.view.read (Elt Ideal) X_arg2) (arg3.view.read (Elt Ideal) X_arg3)) p
  | 0, _ => fun p hp => absurd hp List.not_mem_nil
  | n + 1, hn => by
    rw [pb_k0_t1_succ 𝒱 c bd i arg1 harg1 arg2 harg2 arg3 harg3 arg4 harg4 arg5 harg5 arg6 harg6 arg7 harg7 arg8 harg8 arg9 harg9 arg10 harg10 arg11 harg11 X_arg2 X_arg3 ⟨n, hn⟩]
    intro p hp
    rcases List.mem_append.1 hp with h | h
    · exact trip_agrees1 𝒱 c bd i arg1 harg1 arg2 harg2 arg3 harg3 arg4 harg4 arg5 harg5 arg6 harg6 arg7 harg7 arg8 harg8 arg9 harg9 arg10 harg10 arg11 harg11 X_arg2 X_arg3 hsc ⟨n, hn⟩ p h
    · exact pb_agrees1 hsc n (Nat.le_of_succ_le hn) p h

/-- The scratch block read back after the loop is the decoded weights. -/
theorem scratch_read1 (hsc : ∀ i, (arg3.view.read (Elt Ideal) X_arg3 i).toNat ≤ 248) (B : LoadRect S256x2304) :
    arg9.view.readCov (pb_k0_t1 (F := Ideal) 𝒱 c bd i arg1 harg1 arg2 harg2 arg3 harg3 arg4 harg4 arg5 harg5 arg6 harg6 arg7 harg7 arg8 harg8 arg9 harg9 arg10 harg10 arg11 harg11 X_arg2 X_arg3 (Scf.trips k0_t1_loop.lb k0_t1_loop.ub k0_t1_loop.st)) B
      = fun j => WD (arg2.view.read (Elt Ideal) X_arg2) (arg3.view.read (Elt Ideal) X_arg3) (B.idx j) := by
  rw [View.readCov_eq_canon']
  funext j
  exact View.canon_apply_of_pieces _ _ (pb_agrees1 𝒱 c bd i arg1 harg1 arg2 harg2 arg3 harg3 arg4 harg4 arg5 harg5 arg6 harg6 arg7 harg7 arg8 harg8 arg9 harg9 arg10 harg10 arg11 harg11 X_arg2 X_arg3 hsc _ le_rfl) _
    (View.cover_of_tiledL (pb_k0_t1 (F := Ideal) 𝒱 c bd i arg1 harg1 arg2 harg2 arg3 harg3 arg4 harg4 arg5 harg5 arg6 harg6 arg7 harg7 arg8 harg8 arg9 harg9 arg10 harg10 arg11 harg11 X_arg2 X_arg3 (Scf.trips k0_t1_loop.lb k0_t1_loop.ub k0_t1_loop.st)) S64x128.size (by sl_kernel_rfl) _)

end

section
variable (𝒱 : Variants) (c : Dev nD) (bd : Option 𝒱.V) (i : grid0.Coords) (arg1 : Memref sig .tc .vmem S2048x2304 .bf16) (harg1 : arg1.IsWhole) (arg2 : Memref sig .tc .vmem S256x1152 .i8) (harg2 : arg2.IsWhole) (arg3 : Memref sig .tc .vmem S256x72 .i8) (harg3 : arg3.IsWhole) (arg4 : Memref sig .tc .vmem S256x1152 .i8) (harg4 : arg4.IsWhole) (arg5 : Memref sig .tc .vmem S256x72 .i8) (harg5 : arg5.IsWhole) (arg6 : Memref sig .tc .vmem S2048x256 .fp8e4m3) (harg6 : arg6.IsWhole) (arg7 : Memref sig .tc .vmem S2048x288 .i8) (harg7 : arg7.IsWhole) (arg8 : Memref sig .tc .vmem S2048x256 .bf16) (harg8 : arg8.IsWhole) (arg9 : Memref sig .tc .vmem S256x2304 .bf16) (harg9 : arg9.IsWhole) (arg10 : Memref sig .tc .vmem S256x2304 .bf16) (harg10 : arg10.IsWhole) (arg11 : Memref sig .tc .vmem S3x2048x128 .bf16) (harg11 : arg11.IsWhole) (X_arg4 : BufTy.Contents (Elt Ideal) arg4.view.ty) (X_arg5 : BufTy.Contents (Elt Ideal) arg5.view.ty)

set_option maxHeartbeats 4000000 in
theorem trip_agrees2 (hsc : ∀ i, (arg5.view.read (Elt Ideal) X_arg5 i).toNat ≤ 248) (k : Fin k0_t2_loop.trips) :
    ∀ p ∈ (trip_k0_t2 (F := Ideal) 𝒱 c bd i arg1 harg1 arg2 harg2 arg3 harg3 arg4 harg4 arg5 harg5 arg6 harg6 arg7 harg7 arg8 harg8 arg9 harg9 arg10 harg10 arg11 harg11 X_arg4 X_arg5 k).1,
      Agrees (WD (arg4.view.read (Elt Ideal) X_arg4) (arg5.view.read (Elt Ideal) X_arg5)) p := by
  unfold trip_k0_t2
  dsimp only
  have hR : trip_k0_t2.sl.r arg5 X_arg5 k = concatenate S64x128 1 [⟨S64x72, truncf (F := Ideal) .bf16 (bitcastToFloat .f32 (shli (addi (extui 32
        (View.readAt (Elt Ideal) arg5.view (Rect.unit (s := S256x72) (k0_off29 k) ![64, 72] (k0_off29_inb k)).toLoadRect X_arg5 : IVec S64x72 8) natLt_8_32)
        (broadcast S64x72 6#32)) (broadcast S64x72 23#32))) bitsLt_bf16_f32⟩, ⟨S64x56, broadcast S64x56 (Scalar.ofBits .bf16 0x0000#16)⟩] concatenates_S64x72_S64x56_S64x128_d1 := by
    delta trip_k0_t2.sl.r
    rfl
  refine cons_pair arg4 arg5 X_arg4 X_arg5 hsc 8 k.val (k0_off54 k) (k0_off55 k) (k0_off56 k) (k0_off29 k) (k0_off54_inb k) _ _ (k0_off29_inb k)
    _ _ (closed rfl) (closed rfl) (closed rfl) (closed rfl) (by decide) (by decide) _ _ _ rfl hR rfl rfl rfl _ ?_
  refine cons_pair arg4 arg5 X_arg4 X_arg5 hsc 7 k.val (k0_off51 k) (k0_off52 k) (k0_off53 k) (k0_off29 k) (k0_off51_inb k) _ _ (k0_off29_inb k)
    _ _ (closed rfl) (closed rfl) (closed rfl) (closed rfl) (by decide) (by decide) _ _ _ rfl hR rfl rfl rfl _ ?_
  refine cons_pair arg4 arg5 X_arg4 X_arg5 hsc 6 k.val (k0_off48 k) (k0_off49 k) (k0_off50 k) (k0_off29 k) (k0_off48_inb k) _ _ (k0_off29_inb k)
    _ _ (closed rfl) (closed rfl) (closed rfl) (closed rfl) (by decide) (by decide) _ _ _ rfl hR rfl rfl rfl _ ?_
  refine cons_pair arg4 arg5 X_arg4 X_arg5 hsc 5 k.val (k0_off45 k) (k0_off46 k) (k0_off47 k) (k0_off29 k) (k0_off45_inb k) _ _ (k0_off29_inb k)
    _ _ (closed rfl) (closed rfl) (closed rfl) (closed rfl) (by decide) (by decide) _ _ _ rfl hR rfl rfl rfl _ ?_
  refine cons_pair arg4 arg5 X_arg4 X_arg5 hsc 4 k.val (k0_off42 k) (k0_off43 k) (k0_off44 k) (k0_off29 k) (k0_off42_inb k) _ _ (k0_off29_inb k)
    _ _ (closed rfl) (closed rfl) (closed rfl) (closed rfl) (by decide) (by decide) _ _ _ rfl hR rfl rfl rfl _ ?_
  refine cons_pair arg4 arg5 X_arg4 X_arg5 hsc 3 k.val (k0_off39 k) (k0_off40 k) (k0_off41 k) (k0_off29 k) (k0_off39_inb k) _ _ (k0_off29_inb k)
    _ _ (closed rfl) (closed rfl) (closed rfl) (closed rfl) (by decide) (by decide) _ _ _ rfl hR rfl rfl rfl _ ?_
  refine cons_pair arg4 arg5 X_arg4 X_arg5 hsc 2 k.val (k0_off36 k) (k0_off37 k) (k0_off38 k) (k0_off29 k) (k0_off36_inb k) _ _ (k0_off29_inb k)
    _ _ (closed rfl) (closed rfl) (closed rfl) (closed rfl) (by decide) (by decide) _ _ _ rfl hR rfl rfl rfl _ ?_
  refine cons_pair arg4 arg5 X_arg4 X_arg5 hsc 1 k.val (k0_off33 k) (k0_off34 k) (k0_off35 k) (k0_off29 k) (k0_off33_inb k) _ _ (k0_off29_inb k)
    _ _ (closed rfl) (closed rfl) (closed rfl) (closed rfl) (by decide) (by decide) _ _ _ rfl hR rfl rfl rfl _ ?_
  refine cons_pair arg4 arg5 X_arg4 X_arg5 hsc 0 k.val (k0_off30 k) (k0_off31 k) (k0_off32 k) (k0_off29 k) (k0_off30_inb k) _ _ (k0_off29_inb k)
    _ _ (closed rfl) (closed rfl) (closed rfl) (closed rfl) (by decide) (by decide) _ _ _ rfl hR rfl rfl rfl _ ?_
  exact fun p hp => absurd hp List.not_mem_nil

/-- Every piece the loop has stored before trip `n` agrees with the decoded weights. -/
theorem pb_agrees2 (hsc : ∀ i, (arg5.view.read (Elt Ideal) X_arg5 i).toNat ≤ 248) : ∀ n : ℕ, n ≤ k0_t2_loop.trips →
    ∀ p ∈ pb_k0_t2 (F := Ideal) 𝒱 c bd i arg1 harg1 arg2 harg2 arg3 harg3 arg4 harg4 arg5 harg5 arg6 harg6 arg7 harg7 arg8 harg8 arg9 harg9 arg10 harg10 arg11 harg11 X_arg4 X_arg5 n,
      Agrees (WD (arg4.view.read (Elt Ideal) X_arg4) (arg5.view.read (Elt Ideal) X_arg5)) p
  | 0, _ => fun p hp => absurd hp List.not_mem_nil
  | n + 1, hn => by
    rw [pb_k0_t2_succ 𝒱 c bd i arg1 harg1 arg2 harg2 arg3 harg3 arg4 harg4 arg5 harg5 arg6 harg6 arg7 harg7 arg8 harg8 arg9 harg9 arg10 harg10 arg11 harg11 X_arg4 X_arg5 ⟨n, hn⟩]
    intro p hp
    rcases List.mem_append.1 hp with h | h
    · exact trip_agrees2 𝒱 c bd i arg1 harg1 arg2 harg2 arg3 harg3 arg4 harg4 arg5 harg5 arg6 harg6 arg7 harg7 arg8 harg8 arg9 harg9 arg10 harg10 arg11 harg11 X_arg4 X_arg5 hsc ⟨n, hn⟩ p h
    · exact pb_agrees2 hsc n (Nat.le_of_succ_le hn) p h

/-- The scratch block read back after the loop is the decoded weights. -/
theorem scratch_read2 (hsc : ∀ i, (arg5.view.read (Elt Ideal) X_arg5 i).toNat ≤ 248) (B : LoadRect S256x2304) :
    arg10.view.readCov (pb_k0_t2 (F := Ideal) 𝒱 c bd i arg1 harg1 arg2 harg2 arg3 harg3 arg4 harg4 arg5 harg5 arg6 harg6 arg7 harg7 arg8 harg8 arg9 harg9 arg10 harg10 arg11 harg11 X_arg4 X_arg5 (Scf.trips k0_t2_loop.lb k0_t2_loop.ub k0_t2_loop.st)) B
      = fun j => WD (arg4.view.read (Elt Ideal) X_arg4) (arg5.view.read (Elt Ideal) X_arg5) (B.idx j) := by
  rw [View.readCov_eq_canon']
  funext j
  exact View.canon_apply_of_pieces _ _ (pb_agrees2 𝒱 c bd i arg1 harg1 arg2 harg2 arg3 harg3 arg4 harg4 arg5 harg5 arg6 harg6 arg7 harg7 arg8 harg8 arg9 harg9 arg10 harg10 arg11 harg11 X_arg4 X_arg5 hsc _ le_rfl) _
    (View.cover_of_tiledL (pb_k0_t2 (F := Ideal) 𝒱 c bd i arg1 harg1 arg2 harg2 arg3 harg3 arg4 harg4 arg5 harg5 arg6 harg6 arg7 harg7 arg8 harg8 arg9 harg9 arg10 harg10 arg11 harg11 X_arg4 X_arg5 (Scf.trips k0_t2_loop.lb k0_t2_loop.ub k0_t2_loop.st)) S64x128.size (by sl_kernel_rfl) _)

end

end Cert.Ffn
-- ==== Proof.FfnScalar.lean ====
/-
  The power of two at a magnitude: what a run of comparisons finds, and what a floored logarithm gives.
-/
module

public import Idealize.ShloMosaic.PureOps.Ideal
public import Idealize.ShloMosaic.PureOps.Ideal.Laws
public import Idealize.ShloMosaic.Lib.Pointwise

@[expose] public section

set_option maxRecDepth 16384

noncomputable section

namespace Cert.Ffn

open Idealize.ShloMosaic

/-- A power of two. -/
def tw (m : ℤ) : EReal := (((2 : ℝ) ^ m : ℝ) : EReal)

theorem tw_mul (m n : ℤ) : tw m * tw n = tw (m + n) := by
  unfold tw; rw [← EReal.coe_mul, ← zpow_add₀ (by norm_num)]

theorem tw_le {m n : ℤ} : tw m ≤ tw n ↔ m ≤ n := by
  unfold tw; rw [EReal.coe_le_coe_iff]; exact zpow_le_zpow_iff_right₀ (by norm_num)

theorem tw_pos (m : ℤ) : 0 < tw m := by
  unfold tw; exact EReal.coe_pos.2 (zpow_pos (by norm_num) _)

/-- The float32 word of a power of two. -/
theorem ofBits_tw (s : BitVec 8) (h0 : 1 ≤ s.toNat) (hs : s.toNat ≤ 254) :
    Ideal.ofBits .f32 ((s.setWidth 32) <<< 23) = tw ((s.toNat : ℤ) - 127) := by
  have h1 : ∀ s : BitVec 8, s.toNat ≤ 254 → ((s.setWidth 32) <<< 23).extractLsb' 31 1 = 0#1 ∧
      (((s.setWidth 32) <<< 23).extractLsb' 23 8).toNat = s.toNat ∧
      (((s.setWidth 32) <<< 23).extractLsb' 0 23).toNat = 0 := by decide +kernel
  obtain ⟨ha, hb, hc⟩ := h1 s hs
  simp only [Ideal.ofBits, Ideal.ieee]
  simp only [show (8 : ℕ) + 23 = 31 from rfl, ha, hb, hc]
  rw [if_neg (by norm_num; omega), if_neg (by omega)]
  unfold tw
  refine EReal.coe_eq_coe_iff.mpr ?_
  simp only [show ((0#1 : BitVec 1) == 1#1) = false from rfl, Bool.false_eq_true, if_false, one_mul, Nat.add_zero]
  rw [show ((s.toNat : ℤ) - 127) = 23 + (((s.toNat : ℕ) : ℤ) - (2 ^ (8 - 1) - 1) - (23 : ℕ)) by push_cast; ring,
    zpow_add₀ (by norm_num)]
  norm_num

theorem w4 : Ideal.ofBits .f32 0x40800000#32 = tw 2 := ofBits_tw 129#8 (by decide) (by decide)
theorem wmin : Ideal.ofBits .f32 0x00800000#32 = tw (-126) := ofBits_tw 1#8 (by decide) (by decide)
theorem w64 : Ideal.ofBits .f32 0x5F800000#32 = tw 64 := ofBits_tw 191#8 (by decide) (by decide)
theorem w32 : Ideal.ofBits .f32 0x4F800000#32 = tw 32 := ofBits_tw 159#8 (by decide) (by decide)
theorem w16 : Ideal.ofBits .f32 0x47800000#32 = tw 16 := ofBits_tw 143#8 (by decide) (by decide)
theorem w8 : Ideal.ofBits .f32 0x43800000#32 = tw 8 := ofBits_tw 135#8 (by decide) (by decide)
theorem w6 : Ideal.ofBits .f32 0x42800000#32 = tw 6 := ofBits_tw 133#8 (by decide) (by decide)
theorem w4' : Ideal.ofBits .f32 0x41800000#32 = tw 4 := ofBits_tw 131#8 (by decide) (by decide)
theorem w1 : Ideal.ofBits .f32 0x40000000#32 = tw 1 := ofBits_tw 128#8 (by decide) (by decide)
theorem w0 : Ideal.ofBits .f32 0x00000000#32 = 0 := by simp [Ideal.ofBits, Ideal.ieee]
theorem wfloor : Ideal.ofBits .bf16 0x0400#16 = tw (-119) := by
  have ha : (0x0400#16 : BitVec 16).extractLsb' 15 1 = 0#1 := by decide
  have hb : ((0x0400#16 : BitVec 16).extractLsb' 7 8).toNat = 8 := by decide
  have hc : ((0x0400#16 : BitVec 16).extractLsb' 0 7).toNat = 0 := by decide
  simp only [Ideal.ofBits, Ideal.ieee]
  simp only [show (8 : ℕ) + 7 = 15 from rfl, ha, hb, hc]
  rw [if_neg (by norm_num), if_neg (by norm_num)]
  unfold tw
  refine EReal.coe_eq_coe_iff.mpr ?_
  simp only [show ((0#1 : BitVec 1) == 1#1) = false from rfl, Bool.false_eq_true, if_false, one_mul, Nat.add_zero]
  rw [show (-119 : ℤ) = 7 + (((8 : ℕ) : ℤ) - (2 ^ (8 - 1) - 1) - (7 : ℕ)) by norm_num, zpow_add₀ (by norm_num)]
  norm_num

/-- One comparison of the run: scale by `k` where the magnitude allows it. -/
def step (a : EReal) (k : BitVec 32) (p : EReal) : EReal :=
  Scalar.select (Ideal.cmp .oge a (p * Ideal.ofBits .f32 k)) (p * Ideal.ofBits .f32 k) p

/-- The run of comparisons. -/
def chain (a : EReal) : EReal :=
  step a 0x40000000#32 (step a 0x40800000#32 (step a 0x41800000#32 (step a 0x42800000#32 (step a 0x43800000#32 (step a 0x47800000#32
    (step a 0x4F800000#32 (step a 0x5F800000#32 (Scalar.select (Ideal.cmp .oge a (Ideal.ofBits .f32 0x40800000#32)) (Ideal.ofBits .f32 0x40800000#32)
      (Ideal.ofBits .f32 0x00800000#32)))))))))

/-- The power of two at a magnitude, zero below the least normal one. -/
def expBits (a : EReal) : EReal :=
  Scalar.select (Ideal.cmp .oge a (Ideal.ofBits .f32 0x00800000#32)) (chain a) (Ideal.ofBits .f32 0x00000000#32)

theorem select_oge (a b x y : EReal) : Scalar.select (Ideal.cmp .oge a b) x y = if b ≤ a then x else y := by
  unfold Scalar.select Ideal.cmp
  by_cases h : b ≤ a <;> simp [h]

/-- What is known after some comparisons, with scalings of `R` in the exponent still to try. -/
def Inv (a : EReal) (R : ℤ) (p : EReal) : Prop :=
  ∃ m : ℤ, p = tw m ∧ tw m ≤ a ∧ -126 ≤ m ∧ m + R ≤ 135 ∧ (a < tw (m + R + 1) ∨ m + R = 135)

theorem step_inv (a : EReal) (w : BitVec 32) (k R R' : ℤ) (p : EReal) (hw : Ideal.ofBits .f32 w = tw k) (hR : R = R' + k) (hk : k ≤ R' + 1) (hk0 : 0 ≤ k)
    (h : Inv a R p) : Inv a R' (step a w p) := by
  obtain ⟨m, rfl, h1, h2, h3, h4⟩ := h
  unfold step
  rw [select_oge, hw, tw_mul]
  by_cases hc : tw (m + k) ≤ a
  · rw [if_pos hc]
    refine ⟨m + k, rfl, hc, by omega, by omega, ?_⟩
    rcases h4 with h4 | h4
    · left; rwa [show m + k + R' + 1 = m + R + 1 by omega]
    · right; omega
  · rw [if_neg hc]
    refine ⟨m, rfl, h1, h2, by omega, Or.inl (lt_of_lt_of_le (not_le.1 hc) (tw_le.2 (by omega)))⟩

theorem chain_inv (a : EReal) (ha : tw (-126) ≤ a) : Inv a 0 (chain a) := by
  unfold chain
  refine step_inv a _ 1 1 0 _ w1 (by omega) (by omega) (by omega) ?_
  refine step_inv a _ 2 3 1 _ w4 (by omega) (by omega) (by omega) ?_
  refine step_inv a _ 4 7 3 _ w4' (by omega) (by omega) (by omega) ?_
  refine step_inv a _ 6 13 7 _ w6 (by omega) (by omega) (by omega) ?_
  refine step_inv a _ 8 21 13 _ w8 (by omega) (by omega) (by omega) ?_
  refine step_inv a _ 16 37 21 _ w16 (by omega) (by omega) (by omega) ?_
  refine step_inv a _ 32 69 37 _ w32 (by omega) (by omega) (by omega) ?_
  refine step_inv a _ 64 133 69 _ w64 (by omega) (by omega) (by omega) ?_
  rw [select_oge, w4, wmin]
  by_cases hc : tw 2 ≤ a
  · rw [if_pos hc]; exact ⟨2, rfl, hc, by omega, by omega, Or.inr (by omega)⟩
  · rw [if_neg hc]; exact ⟨-126, rfl, ha, by omega, by omega, Or.inl (lt_of_lt_of_le (not_le.1 hc) (tw_le.2 (by omega)))⟩

/-- The exponent of the power of two at or below a magnitude, held within the range of the format's scales. -/
def IsQ (a : EReal) (m : ℤ) : Prop := -119 ≤ m ∧ m ≤ 135 ∧ (m = -119 ∨ tw m ≤ a) ∧ (m = 135 ∨ a < tw (m + 1))

theorem floor_spec (a : EReal) : ∃ m : ℤ, max (expBits a) (Ideal.ofBits .bf16 0x0400#16) = tw m ∧ IsQ a m := by
  unfold expBits
  rw [select_oge, wmin, wfloor, w0]
  by_cases hc : tw (-126) ≤ a
  · rw [if_pos hc]
    obtain ⟨m, h0, h1, h2, h3, h4⟩ := chain_inv a hc
    rw [h0]
    rcases le_total m (-119) with h | h
    · refine ⟨-119, max_eq_right (tw_le.2 h), by omega, by omega, Or.inl rfl, ?_⟩
      rcases h4 with h4 | h4
      · right; exact lt_of_lt_of_le h4 (tw_le.2 (by omega))
      · omega
    · refine ⟨m, max_eq_left (tw_le.2 h), h, by omega, Or.inr h1, ?_⟩
      rcases h4 with h4 | h4
      · right; rwa [add_zero] at h4
      · left; omega
  · rw [if_neg hc]
    refine ⟨-119, max_eq_right (tw_pos _).le, by omega, by omega, Or.inl rfl, Or.inr (lt_of_lt_of_le (not_le.1 hc) (tw_le.2 (by omega)))⟩

theorem IsQ.mono {a b : EReal} {m n : ℤ} (ha : IsQ a m) (hb : IsQ b n) (h : a ≤ b) : m ≤ n := by
  obtain ⟨a1, a2, a3, a4⟩ := ha
  obtain ⟨b1, b2, b3, b4⟩ := hb
  by_contra hn
  rcases a3 with a3 | a3
  · omega
  · rcases b4 with b4 | b4
    · omega
    · have := tw_le.1 (le_trans (le_trans a3 h) (le_refl _) |>.trans b4.le)
      have h2 : tw m < tw (n + 1) := lt_of_le_of_lt (a3.trans h) b4
      have h3 : ¬ tw (n + 1) ≤ tw m := not_le.2 h2
      exact h3 (tw_le.2 (by omega))

/-- The greatest of the powers of two at some magnitudes is the one at their greatest. -/
theorem group_spec {ι : Type} (f : ι → EReal) (S : ι → Prop) (A w : EReal) (hA : ∀ i, S i → f i ≤ A) (hA' : ∃ i, S i ∧ f i = A)
    (hw : ∀ i, S i → expBits (f i) ≤ w) (hw' : ∃ i, S i ∧ expBits (f i) = w) :
    ∃ m : ℤ, max w (Ideal.ofBits .bf16 0x0400#16) = tw m ∧ IsQ A m := by
  obtain ⟨i, hi, rfl⟩ := hA'
  obtain ⟨j, hj, rfl⟩ := hw'
  obtain ⟨m, hm, qm⟩ := floor_spec (f i)
  obtain ⟨n, hn, qn⟩ := floor_spec (f j)
  refine ⟨m, ?_, qm⟩
  refine le_antisymm ?_ ?_
  · rw [hn]; exact tw_le.2 (qn.mono qm (hA j hj))
  · rw [← hm]; exact max_le_max (hw i hi) le_rfl

/-! ## The exponent by a logarithm -/

/-- An integer as an extended real. -/
def zi (z : ℤ) : EReal := ((z : ℝ) : EReal)

theorem zi_mono : Monotone zi := fun a b h => EReal.coe_le_coe_iff.2 (Int.cast_le.2 h)

/-- The exponent, from the floor of the logarithm to base two. -/
def rx (A : EReal) : EReal :=
  min (zi 127) (max (zi (-127)) (Scalar.select (Ideal.cmp .oeq A 0) 0
    (Ideal.liftRound Int.floor (Ideal.div (Ideal.log A) (Ideal.log ((2 : ℝ) : EReal))) + zi 1 - zi 9)))

theorem select_oeq (a b x y : EReal) : Scalar.select (Ideal.cmp .oeq a b) x y = if a = b then x else y := by
  unfold Scalar.select Ideal.cmp
  by_cases h : a = b <;> simp [h]

theorem log_two : Ideal.log ((2 : ℝ) : EReal) = ((Real.log 2 : ℝ) : EReal) := by
  show (if (2 : ℝ) ≤ 0 then ⊥ else ((Real.log 2 : ℝ) : EReal)) = _
  rw [if_neg (by norm_num)]

theorem clip_zi (z : ℤ) : min (zi 127) (max (zi (-127)) (zi z)) = zi (min 127 (max (-127) z)) := by
  rw [← zi_mono.map_max, ← zi_mono.map_min]

theorem log2_ne : ((Real.log 2 : ℝ) : EReal) ≠ 0 := by
  rw [← EReal.coe_zero]
  exact fun h => (Real.log_pos (by norm_num : (1:ℝ) < 2)).ne' (EReal.coe_eq_coe_iff.1 h)

theorem rx_spec (A : EReal) (m : ℤ) (h0 : 0 < A) (hq : IsQ A m) : rx A = zi (m - 8) := by
  obtain ⟨q1, q2, q3, q4⟩ := hq
  unfold rx
  rw [select_oeq, if_neg h0.ne', log_two, Ideal.div, if_neg log2_ne]
  induction A with
  | bot => exact absurd h0 (by simp)
  | top =>
    have hm : m = 135 := by
      rcases q4 with h | h
      · exact h
      · exact absurd h (by simp)
    subst hm
    show min (zi 127) (max (zi (-127)) (Ideal.liftRound Int.floor ((⊤ : EReal) * _) + zi 1 - zi 9)) = _
    rw [← EReal.coe_inv, EReal.top_mul_coe_of_pos (inv_pos.2 (Real.log_pos (by norm_num)))]
    show min (zi 127) (max (zi (-127)) ((⊤ : EReal) + ((1 : ℤ) : ℝ) - (((9 : ℤ) : ℝ) : EReal))) = _
    rw [EReal.top_add_coe, EReal.top_sub_coe, max_top_right, min_top_right]
    rfl
  | coe r =>
    have hr : 0 < r := EReal.coe_pos.1 h0
    have hl : Ideal.log ((r : ℝ) : EReal) = ((Real.log r : ℝ) : EReal) := by
      show (if r ≤ 0 then ⊥ else ((Real.log r : ℝ) : EReal)) = _
      rw [if_neg (not_le.2 hr)]
    have key : ∀ z : ℤ, tw z ≤ ((r : ℝ) : EReal) ↔ z ≤ ⌊Real.log r * (Real.log 2)⁻¹⌋ := fun z => by
      have h2 : 0 < Real.log 2 := Real.log_pos (by norm_num)
      rw [Int.le_floor, ← div_eq_mul_inv, le_div_iff₀ h2, ← Real.log_zpow, Real.log_le_log_iff (zpow_pos (by norm_num) _) hr]
      exact EReal.coe_le_coe_iff
    rw [hl, ← EReal.coe_inv, ← EReal.coe_mul]
    show min (zi 127) (max (zi (-127)) ((((⌊Real.log r * (Real.log 2)⁻¹⌋ : ℤ) : ℝ) : EReal) + zi 1 - zi 9)) = _
    rw [show ((((⌊Real.log r * (Real.log 2)⁻¹⌋ : ℤ) : ℝ) : EReal) + zi 1 - zi 9) = zi (⌊Real.log r * (Real.log 2)⁻¹⌋ - 8) by
      unfold zi
      rw [← EReal.coe_add, ← EReal.coe_sub]
      congr 1
      push_cast
      ring]
    rw [clip_zi]
    congr 1
    have h3 : m = -119 ∨ m ≤ ⌊Real.log r * (Real.log 2)⁻¹⌋ := q3.imp_right (key m).1
    have h4 : m = 135 ∨ ⌊Real.log r * (Real.log 2)⁻¹⌋ < m + 1 := q4.imp_right fun h => by
      by_contra hn
      exact absurd ((key (m + 1)).2 (not_lt.1 hn)) (not_le.2 h)
    omega

theorem pow_zi (z : ℤ) : Ideal.pow ((2 : ℝ) : EReal) (zi z) = tw z := by
  show ((Real.rpow 2 _ : ℝ) : EReal) = _
  unfold tw
  congr 1
  exact Real.rpow_intCast 2 z

theorem neg_zi (z : ℤ) : -(zi z) = zi (-z) := by
  unfold zi
  rw [← EReal.coe_neg]; congr 1; push_cast; rfl

theorem div_tw (m n : ℤ) : Ideal.div (tw m) (tw n) = tw (m - n) := by
  rw [Ideal.div, if_neg (tw_pos n).ne']
  unfold tw
  rw [← EReal.coe_inv, ← EReal.coe_mul, ← zpow_neg, ← zpow_add₀ (by norm_num)]
  rfl

/-- Dividing the scale out the kernel's way is multiplying by the reference's power of two. -/
theorem scaled_eq (g A w : EReal) (hg : max g (-g) ≤ A) (m : ℤ) (hw : w = tw m) (hq : IsQ A m) :
    g * Ideal.div (Ideal.ofBits .f32 0x43800000#32) w = g * Ideal.pow ((2 : ℝ) : EReal) (-(rx A)) := by
  rcases eq_or_ne g 0 with h | h
  · subst h; rw [zero_mul, zero_mul]
  · have h0 : 0 < A := by
      refine lt_of_lt_of_le ?_ hg
      rcases lt_or_gt_of_ne h with h | h
      · exact lt_max_of_lt_right (EReal.neg_pos.2 h)
      · exact lt_max_of_lt_left h
    rw [hw, w8, div_tw, rx_spec A m h0 hq, neg_zi, pow_zi]
    congr 2
    ring

end Cert.Ffn

end
-- ==== Proof.FfnQuant.lean ====
/-
The kernel's quantization of a slice of 512 rows of one step, on the lanes of its registers, and the closed form of the
codes it leaves: each element times the power of two the reference takes for its block of 32 columns, cut to the range of
the code.
-/
module

public import proofs.«01_k».proof.KFfnIdeal
public import proofs.«01_k».proof.Proof.Gen.KFfnIdeal.Skeleton
public import proofs.«01_k».proof.Proof.FfnScalar
public import Idealize.ShloMosaic.PureOps.Ideal
public import Idealize.ShloMosaic.PureOps.Ideal.Laws
public import Idealize.ShloMosaic.Lib.BitcastFour
public import Idealize.ShloMosaic.Lib.BitcastPair
public import Idealize.ShloMosaic.Lib.ValueIdx
public import Idealize.ShloMosaic.Lib.Pointwise
public import Idealize.ShloMosaic.Lib.Pipeline.Value

@[expose] public section

set_option maxRecDepth 16384

noncomputable section

namespace Cert.Ffn

open Cert.KFfnIdeal Cert.KFfnIdeal.Gen Idealize.ShloMosaic Idealize.ShloMosaic.TcCoe

/-! ## The vector operations, named -/

abbrev RV := FVec Ideal S512x128 .f32
abbrev HV := FVec Ideal S512x128 .bf16
abbrev IV := IVec S512x128 32

def normIx (ix : IV) : IV :=
  select (cmpi .slt ix (broadcast S512x128 0#32)) (addi ix (broadcast S512x128 128#32)) ix

def gatV (x : HV) (ix : IV) : HV :=
  truncf .bf16 (dynamicGather 1 (extf .f32 x bitsLt_bf16_f32)
    (shapeCast S512x128 (shapeCast S512x128x1 (normIx ix) shapeCasts_S512x128_S512x128x1) shapeCasts_S512x128x1_S512x128)) bitsLt_bf16_f32

def bflyV (x : HV) (io : IV) (k : BitVec 32) : HV :=
  maximumf x (gatV x (xori io (broadcast S512x128 k)))

def stepV (a : RV) (k : BitVec 32) (p : RV) : RV :=
  select (cmpf .oge a (mulf p (broadcast S512x128 (Scalar.ofBits .f32 k)))) (mulf p (broadcast S512x128 (Scalar.ofBits .f32 k))) p

def startV (a : RV) : RV :=
  select (cmpf .oge a (broadcast S512x128 (Scalar.ofBits .f32 0x40800000#32))) (broadcast S512x128 (Scalar.ofBits .f32 0x40800000#32))
    (broadcast S512x128 (Scalar.ofBits .f32 0x00800000#32))

def chainV (a : RV) : RV :=
  stepV a 0x40000000#32 (stepV a 0x40800000#32 (stepV a 0x41800000#32 (stepV a 0x42800000#32 (stepV a 0x43800000#32 (stepV a 0x47800000#32
    (stepV a 0x4F800000#32 (stepV a 0x5F800000#32 (startV a))))))))

def ebV (x : RV) : HV :=
  truncf .bf16 (select (cmpf .oge (absf x) (broadcast S512x128 (Scalar.ofBits .f32 0x00800000#32))) (chainV (absf x))
    (broadcast S512x128 (Scalar.ofBits .f32 0x00000000#32))) bitsLt_bf16_f32

def joinV (io : IV) (y0 y1 : HV) : HV :=
  select (cmpi .ne (andi io (broadcast S512x128 16#32)) (broadcast S512x128 0#32)) y1 y0

def wV (io : IV) (e0 e1 : HV) : HV :=
  bflyV (bflyV (bflyV (bflyV (joinV io (bflyV e0 io 16#32) (bflyV e1 io 16#32)) io 8#32) io 4#32) io 2#32) io 1#32

def wcV (io : IV) (e0 e1 : HV) : HV :=
  maximumf (wV io e0 e1) (broadcast S512x128 (Scalar.ofBits .bf16 0x0400#16))

def encV (g : RV) (w : HV) : FVec Ideal S512x128 .fp8e4m3 :=
  truncf .fp8e4m3 (minimumf (broadcast S512x128 (Scalar.ofBits .f32 0x43E00000#32))
    (maximumf (broadcast S512x128 (Scalar.ofBits .f32 0xC3E00000#32))
      (mulf g (divf (broadcast S512x128 (Scalar.ofBits .f32 0x43800000#32)) (extf .f32 w bitsLt_bf16_f32))))) bitsLt_fp8e4m3_f32

def half0 (g : FVec Ideal S512x256 .f32) : RV := extractStridedSlice S512x128 ![0, 0] g slices_S512x256_o0_0_S512x128
def half1 (g : FVec Ideal S512x256 .f32) : RV := extractStridedSlice S512x128 ![0, 128] g slices_S512x256_o0_128_S512x128

def wcG (io : IV) (g : FVec Ideal S512x256 .f32) : HV := wcV io (ebV (half0 g)) (ebV (half1 g))

def lowV (io : IV) (w : HV) : HV := gatV w (andi io (broadcast S512x128 4294967279#32))
def highV (io : IV) (w : HV) : HV := gatV w (ori io (broadcast S512x128 16#32))

/-- The codes of a slice. -/
def codesV (io : IV) (g : FVec Ideal S512x256 .f32) : FVec Ideal S512x256 .fp8e4m3 :=
  concatenate S512x256 1 [⟨S512x128, encV (half0 g) (lowV io (wcG io g))⟩, ⟨S512x128, encV (half1 g) (highV io (wcG io g))⟩]
    concatenates_S512x128_S512x128_S512x256_d1

/-! ## Read at a lane -/

def nrm (w : BitVec 32) : Fin 128 :=
  ⟨(Scalar.select (IntOp.cmpi .slt w 0#32) (IntOp.addi w 128#32) w).toNat % 128, Nat.mod_lt _ (by decide)⟩

theorem gatV_apply (x : HV) (ix : IV) (p : Fin 512) (l : Fin 128) :
    gatV x ix (ValueIdx.ix2 p l) = x (ValueIdx.ix2 p (nrm (ix (ValueIdx.ix2 p l)))) := by
  unfold gatV
  rw [shapeCast_shapeCast]
  show dynamicGather 1 _ _ (ValueIdx.ix2 p l) = _
  rw [dynamicGather_apply]
  show x _ = x _
  congr 1
  funext a
  match a with
  | ⟨0, _⟩ => rfl
  | ⟨1, _⟩ => rfl

theorem stepV_apply (a : RV) (k : BitVec 32) (p : RV) (i : S512x128.Idx) : stepV a k p i = step (a i) k (p i) := rfl

theorem startV_apply (a : RV) (i : S512x128.Idx) :
    startV a i = Scalar.select (Ideal.cmp .oge (a i) (Ideal.ofBits .f32 0x40800000#32)) (Ideal.ofBits .f32 0x40800000#32) (Ideal.ofBits .f32 0x00800000#32) := rfl

theorem chainV_apply (a : RV) (i : S512x128.Idx) : chainV a i = chain (a i) := by
  unfold chainV chain
  simp only [stepV_apply, startV_apply]

theorem ebV_apply (x : RV) (i : S512x128.Idx) : ebV x i = expBits (max (x i) (-(x i))) := by
  unfold expBits
  rw [← show (absf x) i = max (x i) (-(x i)) from rfl, ← chainV_apply]
  rfl

/-- A lane counter's word at a lane. -/
def Lanes (io : IV) : Prop := ∀ j : S512x128.Idx, io j = BitVec.ofNat 32 (j 1).val

theorem xr16 : ∀ l : Fin 128, (nrm (IntOp.xori (BitVec.ofNat 32 l.val) 16#32)).val = l.val ^^^ 16 := by decide +kernel
theorem xr8 : ∀ l : Fin 128, (nrm (IntOp.xori (BitVec.ofNat 32 l.val) 8#32)).val = l.val ^^^ 8 := by decide +kernel
theorem xr4 : ∀ l : Fin 128, (nrm (IntOp.xori (BitVec.ofNat 32 l.val) 4#32)).val = l.val ^^^ 4 := by decide +kernel
theorem xr2 : ∀ l : Fin 128, (nrm (IntOp.xori (BitVec.ofNat 32 l.val) 2#32)).val = l.val ^^^ 2 := by decide +kernel
theorem xr1 : ∀ l : Fin 128, (nrm (IntOp.xori (BitVec.ofNat 32 l.val) 1#32)).val = l.val ^^^ 1 := by decide +kernel
theorem low_lane : ∀ l : Fin 128, (nrm (IntOp.andi (BitVec.ofNat 32 l.val) 4294967279#32)).val / 32 = l.val / 32 ∧
    (nrm (IntOp.andi (BitVec.ofNat 32 l.val) 4294967279#32)).val &&& 16 = 0 := by decide +kernel
theorem high_lane : ∀ l : Fin 128, (nrm (IntOp.ori (BitVec.ofNat 32 l.val) 16#32)).val / 32 = l.val / 32 ∧
    (nrm (IntOp.ori (BitVec.ofNat 32 l.val) 16#32)).val &&& 16 ≠ 0 := by decide +kernel
theorem bit16 : ∀ l : Fin 128, IntOp.cmpi .ne (IntOp.andi (BitVec.ofNat 32 l.val) 16#32) 0#32 = if l.val &&& 16 = 0 then 0#1 else 1#1 := by
  decide +kernel

/-- The lanes a lane's value has been combined with, when the bits outside `m` have been exchanged. -/
def Near (m : ℕ) (l j : Fin 128) : Prop := (j.val ^^^ l.val) &&& m = 0

instance (m : ℕ) (l j : Fin 128) : Decidable (Near m l j) := inferInstanceAs (Decidable (_ = _))

theorem near16 : ∀ l j : Fin 128, Near 111 l j ↔ (j = l ∨ j = nrm (IntOp.xori (BitVec.ofNat 32 l.val) 16#32)) := by decide +kernel
theorem near8 : ∀ l j : Fin 128, Near 103 l j ↔ (Near 111 l j ∨ Near 111 (nrm (IntOp.xori (BitVec.ofNat 32 l.val) 8#32)) j) := by decide +kernel
theorem near4 : ∀ l j : Fin 128, Near 99 l j ↔ (Near 103 l j ∨ Near 103 (nrm (IntOp.xori (BitVec.ofNat 32 l.val) 4#32)) j) := by decide +kernel
theorem near2 : ∀ l j : Fin 128, Near 97 l j ↔ (Near 99 l j ∨ Near 99 (nrm (IntOp.xori (BitVec.ofNat 32 l.val) 2#32)) j) := by decide +kernel
theorem near1 : ∀ l j : Fin 128, Near 96 l j ↔ (Near 97 l j ∨ Near 97 (nrm (IntOp.xori (BitVec.ofNat 32 l.val) 1#32)) j) := by decide +kernel
theorem near0 : ∀ l j : Fin 128, Near 96 l j ↔ j.val / 32 = l.val / 32 := by decide +kernel
theorem same8 : ∀ l : Fin 128, (nrm (IntOp.xori (BitVec.ofNat 32 l.val) 8#32)).val &&& 16 = l.val &&& 16 := by decide +kernel
theorem same4 : ∀ l : Fin 128, (nrm (IntOp.xori (BitVec.ofNat 32 l.val) 4#32)).val &&& 16 = l.val &&& 16 := by decide +kernel
theorem same2 : ∀ l : Fin 128, (nrm (IntOp.xori (BitVec.ofNat 32 l.val) 2#32)).val &&& 16 = l.val &&& 16 := by decide +kernel
theorem same1 : ∀ l : Fin 128, (nrm (IntOp.xori (BitVec.ofNat 32 l.val) 1#32)).val &&& 16 = l.val &&& 16 := by decide +kernel

/-- `v` is the greatest of the values of `f` on `S`. -/
def Top {ι : Type} (S : ι → Prop) (f : ι → EReal) (v : EReal) : Prop := (∀ j, S j → f j ≤ v) ∧ ∃ j, S j ∧ f j = v

theorem Top.join {ι : Type} {S T U : ι → Prop} {f : ι → EReal} {u v : EReal} (hU : ∀ j, U j ↔ (S j ∨ T j)) (hu : Top S f u) (hv : Top T f v) :
    Top U f (max u v) := by
  obtain ⟨u1, a, ha, fa⟩ := hu
  obtain ⟨v1, b, hb, fb⟩ := hv
  refine ⟨fun j hj => ?_, ?_⟩
  · rcases (hU j).1 hj with h | h
    · exact le_max_of_le_left (u1 j h)
    · exact le_max_of_le_right (v1 j h)
  · rcases le_total u v with h | h
    · exact ⟨b, (hU b).2 (Or.inr hb), by rw [fb, max_eq_right h]⟩
    · exact ⟨a, (hU a).2 (Or.inl ha), by rw [fa, max_eq_left h]⟩

theorem bflyV_apply (x : HV) (io : IV) (hio : Lanes io) (k : BitVec 32) (p : Fin 512) (l : Fin 128) :
    bflyV x io k (ValueIdx.ix2 p l) = max (x (ValueIdx.ix2 p l)) (x (ValueIdx.ix2 p (nrm (IntOp.xori (BitVec.ofNat 32 l.val) k)))) := by
  show max (x (ValueIdx.ix2 p l)) (gatV x _ (ValueIdx.ix2 p l)) = _
  rw [gatV_apply]
  show max _ (x (ValueIdx.ix2 p (nrm (IntOp.xori (io (ValueIdx.ix2 p l)) k)))) = _
  rw [hio]

/-- The row a lane takes its values from: the first half's where bit 16 of the lane is clear. -/
def pick (l : Fin 128) (f0 f1 : Fin 128 → EReal) : Fin 128 → EReal := if l.val &&& 16 = 0 then f0 else f1

theorem pick_congr {l l' : Fin 128} (h : l'.val &&& 16 = l.val &&& 16) (f0 f1 : Fin 128 → EReal) : pick l' f0 f1 = pick l f0 f1 := by
  unfold pick; rw [h]

theorem single {f : Fin 128 → EReal} (l : Fin 128) : Top (fun j => j = l) f (f l) := ⟨fun j hj => by rw [hj], l, rfl, rfl⟩

theorem wV_top (io : IV) (hio : Lanes io) (e0 e1 : HV) (p : Fin 512) (l : Fin 128) :
    Top (fun j : Fin 128 => j.val / 32 = l.val / 32) (pick l (fun j => e0 (ValueIdx.ix2 p j)) (fun j => e1 (ValueIdx.ix2 p j))) (wV io e0 e1 (ValueIdx.ix2 p l)) := by
  have h16 : ∀ (e : HV) (l : Fin 128), Top (Near 111 l) (fun j => e (ValueIdx.ix2 p j)) (bflyV e io 16#32 (ValueIdx.ix2 p l)) := fun e l => by
    rw [bflyV_apply _ _ hio]
    exact Top.join (near16 l) (single (f := fun j => e (ValueIdx.ix2 p j)) l) (single (f := fun j => e (ValueIdx.ix2 p j)) _)
  have hj : ∀ l : Fin 128, Top (Near 111 l) (pick l (fun j => e0 (ValueIdx.ix2 p j)) (fun j => e1 (ValueIdx.ix2 p j)))
      (joinV io (bflyV e0 io 16#32) (bflyV e1 io 16#32) (ValueIdx.ix2 p l)) := fun l => by
    show Top _ _ (Scalar.select (IntOp.cmpi .ne (IntOp.andi (io (ValueIdx.ix2 p l)) 16#32) 0#32) (bflyV e1 io 16#32 (ValueIdx.ix2 p l)) (bflyV e0 io 16#32 (ValueIdx.ix2 p l)))
    rw [hio, show IntOp.cmpi .ne (IntOp.andi (BitVec.ofNat 32 ((ValueIdx.ix2 p l : S512x128.Idx) 1).val) 16#32) 0#32 = _ from bit16 l]
    unfold pick
    by_cases h : l.val &&& 16 = 0
    · rw [if_pos h, if_pos h]; exact h16 e0 l
    · rw [if_neg h, if_neg h]; exact h16 e1 l
  have hb : ∀ (z : HV) (k : BitVec 32) (m m' : ℕ)
      (hn : ∀ l j : Fin 128, Near m' l j ↔ (Near m l j ∨ Near m (nrm (IntOp.xori (BitVec.ofNat 32 l.val) k)) j))
      (hs : ∀ l : Fin 128, (nrm (IntOp.xori (BitVec.ofNat 32 l.val) k)).val &&& 16 = l.val &&& 16)
      (hz : ∀ l : Fin 128, Top (Near m l) (pick l (fun j => e0 (ValueIdx.ix2 p j)) (fun j => e1 (ValueIdx.ix2 p j))) (z (ValueIdx.ix2 p l))) (l : Fin 128),
      Top (Near m' l) (pick l (fun j => e0 (ValueIdx.ix2 p j)) (fun j => e1 (ValueIdx.ix2 p j))) (bflyV z io k (ValueIdx.ix2 p l)) := fun z k m m' hn hs hz l => by
    rw [bflyV_apply _ _ hio]
    refine Top.join (hn l) (hz l) ?_
    rw [← pick_congr (hs l)]
    exact hz _
  have := hb _ 1#32 97 96 near1 same1 (hb _ 2#32 99 97 near2 same2 (hb _ 4#32 103 99 near4 same4 (hb _ 8#32 111 103 near8 same8 hj))) l
  have e : Near 96 l = fun j : Fin 128 => j.val / 32 = l.val / 32 := funext fun j => propext (near0 l j)
  rw [← e]
  exact this

/-- The words of the blocks' scales of a slice: powers of two at the greatest magnitudes of the blocks. -/
theorem wcG_spec (io : IV) (hio : Lanes io) (g : FVec Ideal S512x256 .f32) (p : Fin 512) (l : Fin 128) (A : EReal)
    (hA : Top (fun j : Fin 128 => j.val / 32 = l.val / 32) (pick l (fun j => max (half0 g (ValueIdx.ix2 p j)) (-(half0 g (ValueIdx.ix2 p j))))
      (fun j => max (half1 g (ValueIdx.ix2 p j)) (-(half1 g (ValueIdx.ix2 p j))))) A) :
    ∃ m : ℤ, wcG io g (ValueIdx.ix2 p l) = tw m ∧ IsQ A m := by
  have h := wV_top io hio (ebV (half0 g)) (ebV (half1 g)) p l
  simp only [ebV_apply] at h
  have e : pick l (fun j => expBits (max (half0 g (ValueIdx.ix2 p j)) (-(half0 g (ValueIdx.ix2 p j)))))
      (fun j => expBits (max (half1 g (ValueIdx.ix2 p j)) (-(half1 g (ValueIdx.ix2 p j)))))
      = fun j => expBits (pick l (fun j => max (half0 g (ValueIdx.ix2 p j)) (-(half0 g (ValueIdx.ix2 p j))))
      (fun j => max (half1 g (ValueIdx.ix2 p j)) (-(half1 g (ValueIdx.ix2 p j)))) j) := by
    unfold pick
    by_cases hb : l.val &&& 16 = 0
    · simp only [if_pos hb]
    · simp only [if_neg hb]
  rw [e] at h
  exact group_spec _ _ A _ hA.1 hA.2 h.1 h.2

/-- A code from its element, the greatest magnitude of its block and the power of two at it. -/
def code (g A : EReal) : EReal :=
  min (Ideal.ofBits .f32 0x43E00000#32) (max (Ideal.ofBits .f32 0xC3E00000#32) (g * Ideal.pow ((2 : ℝ) : EReal) (-(rx A))))

theorem encV_apply (g : RV) (w : HV) (i : S512x128.Idx) (A : EReal) (hg : max (g i) (-(g i)) ≤ A) (hw : ∃ m : ℤ, w i = tw m ∧ IsQ A m) :
    (encV g w i : EReal) = code (g i) A := by
  obtain ⟨m, hm, hq⟩ := hw
  show min (Ideal.ofBits .f32 0x43E00000#32) (max (Ideal.ofBits .f32 0xC3E00000#32) (g i * Ideal.div (Ideal.ofBits .f32 0x43800000#32) (w i))) = _
  rw [scaled_eq (g i) A (w i) hg m hm hq]
  rfl

theorem half0_apply (g : FVec Ideal S512x256 .f32) (p : Fin 512) (l : Fin 128) :
    half0 g (ValueIdx.ix2 p l) = g (ValueIdx.ix2 p ⟨l.val, by omega⟩) := by
  unfold half0
  refine extractStridedSlice_apply _ _ _ _ _ fun a => ?_
  match a with
  | ⟨0, _⟩ => show p.val = 0 + p.val; omega
  | ⟨1, _⟩ => show l.val = 0 + l.val; omega

theorem half1_apply (g : FVec Ideal S512x256 .f32) (p : Fin 512) (l : Fin 128) :
    half1 g (ValueIdx.ix2 p l) = g (ValueIdx.ix2 p ⟨128 + l.val, by omega⟩) := by
  unfold half1
  refine extractStridedSlice_apply _ _ _ _ _ fun a => ?_
  match a with
  | ⟨0, _⟩ => show p.val = 0 + p.val; omega
  | ⟨1, _⟩ => show 128 + l.val = 128 + l.val; omega

/-- The codes of a slice, element by element. -/
theorem codesV_apply (io : IV) (hio : Lanes io) (g : FVec Ideal S512x256 .f32) (p : Fin 512) (k : Fin 256) (A : EReal)
    (hA : Top (fun j : Fin 256 => j.val / 32 = k.val / 32) (fun j => max (g (ValueIdx.ix2 p j)) (-(g (ValueIdx.ix2 p j)))) A) :
    (codesV io g (ValueIdx.ix2 p k) : EReal) = code (g (ValueIdx.ix2 p k)) A := by
  unfold codesV
  by_cases hk : k.val < 128
  · rw [concatenate_pair_apply_left (s₁ := S512x128) (s₂ := S512x128) 1 _ _ _ (ValueIdx.ix2 p k) rfl (ValueIdx.ix2 p (⟨k.val, hk⟩ : Fin 128)) (fun b => by match b with | ⟨0, _⟩ => rfl | ⟨1, _⟩ => rfl)]
    have hg : half0 g (ValueIdx.ix2 p (⟨k.val, hk⟩ : Fin 128)) = g (ValueIdx.ix2 p k) := half0_apply g p ⟨k.val, hk⟩
    refine (encV_apply _ _ _ A ?_ ?_).trans (by rw [hg])
    · rw [hg]; exact hA.1 k rfl
    · unfold lowV
      rw [gatV_apply]
      show ∃ m : ℤ, wcG io g (ValueIdx.ix2 p (nrm (IntOp.andi (io (ValueIdx.ix2 p (⟨k.val, hk⟩ : Fin 128))) 4294967279#32))) = tw m ∧ IsQ A m
      rw [hio]
      obtain ⟨l1, l2⟩ := low_lane ⟨k.val, hk⟩
      refine wcG_spec io hio g p _ A ?_
      unfold pick
      refine (if_pos l2).symm ▸ ⟨fun j hj => ?_, ?_⟩
      · show max (half0 g (ValueIdx.ix2 p j)) (-(half0 g (ValueIdx.ix2 p j))) ≤ A
        rw [half0_apply]; exact hA.1 ⟨j.val, by omega⟩ (hj.trans l1)
      · obtain ⟨j, hj, ej⟩ := hA.2
        refine ⟨⟨j.val, by have : j.val / 32 = k.val / 32 := hj; omega⟩, (show j.val / 32 = k.val / 32 from hj).trans l1.symm, ?_⟩
        show max (half0 g (ValueIdx.ix2 p ⟨j.val, _⟩)) (-(half0 g (ValueIdx.ix2 p ⟨j.val, _⟩))) = A
        rw [half0_apply]; exact ej
  · have hk' : k.val < 256 := k.isLt
    rw [concatenate_pair_apply_right (s₁ := S512x128) (s₂ := S512x128) 1 _ _ _ (ValueIdx.ix2 p k) rfl rfl (ValueIdx.ix2 p (⟨k.val - 128, by omega⟩ : Fin 128))
      (by intro b hb; match b with | ⟨0, _⟩ => rfl | ⟨1, _⟩ => exact absurd rfl hb) (by show k.val - 128 + 128 = k.val; omega)]
    have ek : (⟨128 + (k.val - 128), by omega⟩ : Fin 256) = k := Fin.ext (by show 128 + (k.val - 128) = k.val; omega)
    have hg := half1_apply g p ⟨k.val - 128, by omega⟩
    rw [ek] at hg
    refine (encV_apply _ _ _ A ?_ ?_).trans (by rw [hg])
    · rw [hg]; exact hA.1 k rfl
    · unfold highV
      rw [gatV_apply]
      show ∃ m : ℤ, wcG io g (ValueIdx.ix2 p (nrm (IntOp.ori (io (ValueIdx.ix2 p (⟨k.val - 128, by omega⟩ : Fin 128))) 16#32))) = tw m ∧ IsQ A m
      rw [hio]
      obtain ⟨l1, l2⟩ := high_lane ⟨k.val - 128, by omega⟩
      have l1' := l1
      refine wcG_spec io hio g p _ A ?_
      unfold pick
      refine (if_neg l2).symm ▸ ⟨fun j hj => ?_, ?_⟩
      · show max (half1 g (ValueIdx.ix2 p j)) (-(half1 g (ValueIdx.ix2 p j))) ≤ A
        rw [half1_apply]; exact hA.1 ⟨128 + j.val, by omega⟩ (by have := hj.trans l1; show (128 + j.val) / 32 = k.val / 32; simp only at this; omega)
      · obtain ⟨j, hj, ej⟩ := hA.2
        have hj' : j.val / 32 = k.val / 32 := hj
        have hl : (j.val - 128) / 32 = (k.val - 128) / 32 := by omega
        refine ⟨⟨j.val - 128, by omega⟩, hl.trans l1.symm, ?_⟩
        show max (half1 g (ValueIdx.ix2 p ⟨j.val - 128, _⟩)) (-(half1 g (ValueIdx.ix2 p ⟨j.val - 128, _⟩))) = A
        rw [half1_apply, show (⟨128 + (j.val - 128), by omega⟩ : Fin 256) = j from Fin.ext (by show 128 + (j.val - 128) = j.val; omega)]
        exact ej

/-! ## The kernel's payloads are these -/

theorem pay_eb0 (a : Vec Ideal S512x2304 .bf16) (b : Vec Ideal S256x2304 .bf16) (c : Vec Ideal S512x2304 .bf16) (d : Vec Ideal S256x2304 .bf16) :
    k0_pay148 (F := Ideal) (k0_pay145 a b c d) (k0_pay146 a b c d) k0_pay147 = ebV (k0_pay143 a b c d) := rfl

end Cert.Ffn

end
-- ==== Proof.FfnValue.lean ====
/-
  One step of the feed-forward kernel: the block of codes it writes holds, for each element, the gate with its logistic
  times the linear part, scaled by its block of 32 columns and cut to the range of the code.
-/
module

public import proofs.«01_k».proof.Proof.FfnDecode
public import proofs.«01_k».proof.Proof.FfnQuant
public import proofs.«01_k».proof.Proof.FfnFrame

@[expose] public section

set_option maxRecDepth 16384

noncomputable section

namespace Cert.Ffn

open Cert.KFfnIdeal Cert.KFfnIdeal.Gen Cert.KFfnIdeal.Run Idealize.ShloMosaic Idealize.ShloMosaic.TcCoe Idealize.ShloMosaic.Tactic Idealize.SL.Sem
open Cert.Dec Cert.KFfnIdeal.Facts

/-- The greatest magnitude in a block of 32 columns of a row. -/
def amax {n : ℕ} (f : Fin n → EReal) (k : Fin n) : EReal := ⨆ j : {j : Fin n // j.val / 32 = k.val / 32}, max (f j.1) (-(f j.1))

theorem amax_top {n : ℕ} (f : Fin n → EReal) (k : Fin n) : Top (fun j : Fin n => j.val / 32 = k.val / 32) (fun j => max (f j) (-(f j))) (amax f k) := by
  refine ⟨fun j hj => le_iSup (fun j : {j : Fin n // j.val / 32 = k.val / 32} => max (f j.1) (-(f j.1))) ⟨j, hj⟩, ?_⟩
  haveI : Nonempty {j : Fin n // j.val / 32 = k.val / 32} := ⟨⟨k, rfl⟩⟩
  obtain ⟨j, hj⟩ := exists_eq_ciSup_of_finite (f := fun j : {j : Fin n // j.val / 32 = k.val / 32} => max (f j.1) (-(f j.1)))
  exact ⟨j.1, j.2, hj⟩

theorem Top.unique {ι : Type} {S : ι → Prop} {f : ι → EReal} {u v : EReal} (hu : Top S f u) (hv : Top S f v) : u = v := by
  obtain ⟨u1, a, ha, fa⟩ := hu
  obtain ⟨v1, b, hb, fb⟩ := hv
  exact le_antisymm (fa ▸ v1 a ha) (fb ▸ u1 b hb)

/-- The gate with its logistic, times the linear part. -/
def glu (gate up : EReal) : EReal := gate * Ideal.logistic gate * up

/-- One element of a block before it is scaled. -/
def gAt (x0 : FVec Ideal S2048x2304 .bf16) (x1 : IVec S256x1152 8) (x2 : IVec S256x72 8) (x3 : IVec S256x1152 8) (x4 : IVec S256x72 8) (r : Fin 2048) (n : Fin 256) : EReal :=
  glu (∑ k : Fin 2304, x0 (ValueIdx.ix2 r k) * WD x1 x2 (ValueIdx.ix2 n k)) (∑ k : Fin 2304, x0 (ValueIdx.ix2 r k) * WD x3 x4 (ValueIdx.ix2 n k))

/-- One code of a block. -/
def codeAt (x0 : FVec Ideal S2048x2304 .bf16) (x1 : IVec S256x1152 8) (x2 : IVec S256x72 8) (x3 : IVec S256x1152 8) (x4 : IVec S256x72 8) (r : Fin 2048) (n : Fin 256) : EReal :=
  code (gAt x0 x1 x2 x3 x4 r n) (amax (gAt x0 x1 x2 x3 x4 r) n)

/-- One element of a 512-row product with the whole weight block. -/
theorem prod_apply (a : FVec Ideal S512x2304 .bf16) (w : FVec Ideal S256x2304 .bf16) (j : S512x256.Idx) :
    FloatOps.matmul dot_S512x2304_S256x2304_S512x256_1_1_0_0_n_n none a w (constant S512x256 .f32 0x00000000#32) j
      = ∑ k : Fin 2304, a (ValueIdx.ix2 (j 0) k) * w (ValueIdx.ix2 (j 1) k) := by
  rw [Ideal.matmul_constant_zero_apply, ← Equiv.sum_comp (ValueIdx.contrEquiv1 dot_S512x2304_S256x2304_S512x256_1_1_0_0_n_n 2304 rfl rfl).symm]
  refine Finset.sum_congr rfl fun k _ => ?_
  have hk := ValueIdx.contrEquiv1_symm_val dot_S512x2304_S256x2304_S512x256_1_1_0_0_n_n 2304 rfl rfl k
  have el : dot_S512x2304_S256x2304_S512x256_1_1_0_0_n_n.lhsIdx j ((ValueIdx.contrEquiv1 dot_S512x2304_S256x2304_S512x256_1_1_0_0_n_n 2304 rfl rfl).symm k) = ValueIdx.ix2 (j 0) k := funext fun a => Fin.ext (by
    match a with
    | ⟨0, _⟩ =>
      show (dot_S512x2304_S256x2304_S512x256_1_1_0_0_n_n.lhsIdx j _ 0).val = (j 0).val
      unfold DotDims.lhsIdx
      rw [dif_neg (show ¬(0 : Fin S512x2304.rank) ∈ dot_S512x2304_S256x2304_S512x256_1_1_0_0_n_n.lhsBatch by decide), dif_pos (show (0 : Fin S512x2304.rank) ∈ dot_S512x2304_S256x2304_S512x256_1_1_0_0_n_n.lhsNonContracting by decide)]
      rfl
    | ⟨1, _⟩ => exact (dot_S512x2304_S256x2304_S512x256_1_1_0_0_n_n.lhsIdx_val_of_single rfl j _).trans hk)
  have er : dot_S512x2304_S256x2304_S512x256_1_1_0_0_n_n.rhsIdx j ((ValueIdx.contrEquiv1 dot_S512x2304_S256x2304_S512x256_1_1_0_0_n_n 2304 rfl rfl).symm k) = ValueIdx.ix2 (j 1) k := funext fun a => Fin.ext (by
    match a with
    | ⟨0, _⟩ =>
      show (dot_S512x2304_S256x2304_S512x256_1_1_0_0_n_n.rhsIdx j _ 0).val = (j 1).val
      unfold DotDims.rhsIdx
      rw [dif_neg (show ¬(0 : Fin S256x2304.rank) ∈ dot_S512x2304_S256x2304_S512x256_1_1_0_0_n_n.rhsBatch by decide), dif_pos (show (0 : Fin S256x2304.rank) ∈ dot_S512x2304_S256x2304_S512x256_1_1_0_0_n_n.rhsNonContracting by decide)]
      rfl
    | ⟨1, _⟩ => exact (dot_S512x2304_S256x2304_S512x256_1_1_0_0_n_n.rhsIdx_val_of_single rfl j _).trans hk)
  rw [el, er]
  rfl

theorem lanes_iota : Lanes (iota .tc S512x128 32 [1] iota_S512x128_d1_w32) := fun j => iota_single_apply _ _ _ 1 _ j

section
variable (c : Dev nD) (i : grid0.Coords) (arg1 : Memref sig .tc .vmem S2048x2304 .bf16) (harg1 : arg1.IsWhole) (arg2 : Memref sig .tc .vmem S256x1152 .i8) (harg2 : arg2.IsWhole) (arg3 : Memref sig .tc .vmem S256x72 .i8) (harg3 : arg3.IsWhole) (arg4 : Memref sig .tc .vmem S256x1152 .i8) (harg4 : arg4.IsWhole) (arg5 : Memref sig .tc .vmem S256x72 .i8) (harg5 : arg5.IsWhole) (arg6 : Memref sig .tc .vmem S2048x256 .fp8e4m3) (harg6 : arg6.IsWhole) (arg7 : Memref sig .tc .vmem S2048x288 .i8) (harg7 : arg7.IsWhole) (arg8 : Memref sig .tc .vmem S2048x256 .bf16) (harg8 : arg8.IsWhole) (arg9 : Memref sig .tc .vmem S256x2304 .bf16) (harg9 : arg9.IsWhole) (arg10 : Memref sig .tc .vmem S256x2304 .bf16) (harg10 : arg10.IsWhole) (arg11 : Memref sig .tc .vmem S3x2048x128 .bf16) (harg11 : arg11.IsWhole)
    (x0 : Vec Ideal S2048x2304 .bf16) (x1 : Vec Ideal S256x1152 .i8) (x2 : Vec Ideal S256x72 .i8) (x3 : Vec Ideal S256x1152 .i8) (x4 : Vec Ideal S256x72 .i8)

/-- The unscaled elements of a slice of 512 rows from row `o`. -/
def sliceV (o : ℕ) (inbA inbA' : ∀ a, (![o, 0] : Fin 2 → ℕ) a + (![512, 2304] : Fin 2 → ℕ) a ≤ S2048x2304.size a)
    (inbW inbW' : ∀ a, (![0, 0] : Fin 2 → ℕ) a + (![256, 2304] : Fin 2 → ℕ) a ≤ S256x2304.size a) : FVec Ideal S512x256 .f32 :=
  k0_pay142 (F := Ideal) (View.readAt (Elt Ideal) arg1.view (Rect.unit (s := S2048x2304) ![o, 0] ![512, 2304] inbA).toLoadRect (harg1.unread x0))
    (arg9.view.readCov (pb_k0_t1 (F := Ideal) Variants.none c none i arg1 harg1 arg2 harg2 arg3 harg3 arg4 harg4 arg5 harg5 arg6 harg6 arg7 harg7 arg8 harg8 arg9 harg9 arg10 harg10 arg11 harg11
        (harg2.unread x1) (harg3.unread x2) (Scf.trips k0_t1_loop.lb k0_t1_loop.ub k0_t1_loop.st))
      (Rect.unit (s := S256x2304) ![0, 0] ![256, 2304] inbW).toLoadRect)
    (View.readAt (Elt Ideal) arg1.view (Rect.unit (s := S2048x2304) ![o, 0] ![512, 2304] inbA').toLoadRect (harg1.unread x0))
    (arg10.view.readCov (pb_k0_t2 (F := Ideal) Variants.none c none i arg1 harg1 arg2 harg2 arg3 harg3 arg4 harg4 arg5 harg5 arg6 harg6 arg7 harg7 arg8 harg8 arg9 harg9 arg10 harg10 arg11 harg11
        (harg4.unread x3) (harg5.unread x4) (Scf.trips k0_t2_loop.lb k0_t2_loop.ub k0_t2_loop.st))
      (Rect.unit (s := S256x2304) ![0, 0] ![256, 2304] inbW').toLoadRect)

theorem sliceV_apply (hsc : ∀ i, (x2 i).toNat ≤ 248) (hsc' : ∀ i, (x4 i).toNat ≤ 248) (o : ℕ) (inbA inbA' inbW inbW') (p : Fin 512) (n : Fin 256) (r : Fin 2048) (hr : r.val = o + p.val) :
    (sliceV c i arg1 harg1 arg2 harg2 arg3 harg3 arg4 harg4 arg5 harg5 arg6 harg6 arg7 harg7 arg8 harg8 arg9 harg9 arg10 harg10 arg11 harg11 x0 x1 x2 x3 x4 o inbA inbA' inbW inbW' (ValueIdx.ix2 p n) : EReal) = gAt x0 x1 x2 x3 x4 r n := by
  unfold sliceV
  rw [scratch_read1 _ _ _ _ _ _ _ _ _ _ _ _ _ _ _ _ _ _ _ _ _ _ _ _ _ _ _ _ (by rw [harg3.read_unread]; exact hsc),
    scratch_read2 _ _ _ _ _ _ _ _ _ _ _ _ _ _ _ _ _ _ _ _ _ _ _ _ _ _ _ _ (by rw [harg5.read_unread]; exact hsc'),
    harg2.read_unread, harg3.read_unread, harg4.read_unread, harg5.read_unread]
  show glu ((FloatOps.matmul (F := Ideal) dot_S512x2304_S256x2304_S512x256_1_1_0_0_n_n none
        (View.readAt (Elt Ideal) arg1.view (Rect.unit (s := S2048x2304) ![o, 0] ![512, 2304] inbA).toLoadRect (harg1.unread x0) : FVec Ideal S512x2304 .bf16)
        ((fun j => WD x1 x2 ((Rect.unit (s := S256x2304) ![0, 0] ![256, 2304] inbW).toLoadRect.idx j)) : FVec Ideal S256x2304 .bf16)
        (constant S512x256 .f32 0x00000000#32) : FVec Ideal S512x256 .f32) (ValueIdx.ix2 p n))
    ((FloatOps.matmul (F := Ideal) dot_S512x2304_S256x2304_S512x256_1_1_0_0_n_n none
        (View.readAt (Elt Ideal) arg1.view (Rect.unit (s := S2048x2304) ![o, 0] ![512, 2304] inbA').toLoadRect (harg1.unread x0) : FVec Ideal S512x2304 .bf16)
        ((fun j => WD x3 x4 ((Rect.unit (s := S256x2304) ![0, 0] ![256, 2304] inbW').toLoadRect.idx j)) : FVec Ideal S256x2304 .bf16)
        (constant S512x256 .f32 0x00000000#32) : FVec Ideal S512x256 .f32) (ValueIdx.ix2 p n)) = _
  rw [prod_apply, prod_apply]
  unfold gAt
  refine congrArg₂ glu (Finset.sum_congr rfl fun k _ => congrArg₂ (· * ·) ?_ ?_) (Finset.sum_congr rfl fun k _ => congrArg₂ (· * ·) ?_ ?_)
  · refine (unit_ld _ _ _ _ _ (ValueIdx.ix2 r k) _ fun a => ?_).trans (congrFun (harg1.read_unread _) _)
    match a with
    | ⟨0, _⟩ => exact hr
    | ⟨1, _⟩ => show k.val = 0 + k.val; omega
  · refine congrArg (WD x1 x2) (funext fun a => Fin.ext ?_)
    match a with
    | ⟨0, _⟩ => show 0 + 1 * n.val = n.val; omega
    | ⟨1, _⟩ => show 0 + 1 * k.val = k.val; omega
  · refine (unit_ld _ _ _ _ _ (ValueIdx.ix2 r k) _ fun a => ?_).trans (congrFun (harg1.read_unread _) _)
    match a with
    | ⟨0, _⟩ => exact hr
    | ⟨1, _⟩ => show k.val = 0 + k.val; omega
  · refine congrArg (WD x3 x4) (funext fun a => Fin.ext ?_)
    match a with
    | ⟨0, _⟩ => show 0 + 1 * n.val = n.val; omega
    | ⟨1, _⟩ => show 0 + 1 * k.val = k.val; omega

/-- A stored piece of 512 rows from row `o`: the codes there are the block's. -/
theorem codes_agree (hsc : ∀ i, (x2 i).toNat ≤ 248) (hsc' : ∀ i, (x4 i).toNat ≤ 248) (io : IV) (hio : Lanes io) (o : ℕ) (inbO inbA inbA' inbW inbW') (hb : S2048x256.Idx → EReal)
    (hbe : hb = fun y => codeAt x0 x1 x2 x3 x4 (y 0) (y 1))
    (x : (Rect.unit (s := S2048x256) ![o, 0] ![512, 256] inbO).shape.Idx) :
    (codesV io (sliceV c i arg1 harg1 arg2 harg2 arg3 harg3 arg4 harg4 arg5 harg5 arg6 harg6 arg7 harg7 arg8 harg8 arg9 harg9 arg10 harg10 arg11 harg11 x0 x1 x2 x3 x4 o inbA inbA' inbW inbW') x : EReal) = hb ((Rect.unit (s := S2048x256) ![o, 0] ![512, 256] inbO).emb x) := by
  obtain ⟨p, n, rfl⟩ : ∃ (p : Fin 512) (n : Fin 256), x = ValueIdx.ix2 p n := ⟨x 0, x 1, ValueIdx.eq_ix2 x⟩
  rw [hbe]
  have hr : ((Rect.unit (s := S2048x256) ![o, 0] ![512, 256] inbO).emb (ValueIdx.ix2 p n) 0).val = o + p.val := by
    show o + 1 * p.val = o + p.val; omega
  have hn : (Rect.unit (s := S2048x256) ![o, 0] ![512, 256] inbO).emb (ValueIdx.ix2 p n) 1 = n := Fin.ext (by show 0 + 1 * n.val = n.val; omega)
  have hg := fun j => sliceV_apply c i arg1 harg1 arg2 harg2 arg3 harg3 arg4 harg4 arg5 harg5 arg6 harg6 arg7 harg7 arg8 harg8 arg9 harg9 arg10 harg10 arg11 harg11 x0 x1 x2 x3 x4 hsc hsc' o inbA inbA' inbW inbW' p j ((Rect.unit (s := S2048x256) ![o, 0] ![512, 256] inbO).emb (ValueIdx.ix2 p n) 0) hr
  show _ = codeAt x0 x1 x2 x3 x4 ((Rect.unit (s := S2048x256) ![o, 0] ![512, 256] inbO).emb (ValueIdx.ix2 p n) 0) ((Rect.unit (s := S2048x256) ![o, 0] ![512, 256] inbO).emb (ValueIdx.ix2 p n) 1)
  rw [hn]
  refine (codesV_apply io hio _ p n (amax (gAt x0 x1 x2 x3 x4 ((Rect.unit (s := S2048x256) ![o, 0] ![512, 256] inbO).emb (ValueIdx.ix2 p n) 0)) n) ?_).trans ?_
  · simp only [hg]
    exact amax_top _ n
  · rw [hg]
    rfl

set_option maxHeartbeats 4000000 in
/-- The block of codes a step leaves. -/
theorem codes_block (hsc : ∀ i, (x2 i).toNat ≤ 248) (hsc' : ∀ i, (x4 i).toNat ≤ 248) (y : S2048x256.Idx) :
    VO0_5.read (Elt Ideal) (VO0_5.writes (Elt Ideal) VO0_5.junk (stepRun (F := Ideal) c i arg1 harg1 arg2 harg2 arg3 harg3 arg4 harg4 arg5 harg5 arg6 harg6 arg7 harg7 arg8 harg8 arg9 harg9 arg10 harg10 arg11 harg11 x0 x1 x2 x3 x4).1) y = codeAt x0 x1 x2 x3 x4 (y 0) (y 1) := by
  rw [View.read_writes_eq_canon _ _ _ (cover0_5 (F := Ideal) c i arg1 harg1 arg2 harg2 arg3 harg3 arg4 harg4 arg5 harg5 arg6 harg6 arg7 harg7 arg8 harg8 arg9 harg9 arg10 harg10 arg11 harg11 x0 x1 x2 x3 x4)]
  refine View.canon_apply_of_pieces (fun y => codeAt x0 x1 x2 x3 x4 (y 0) (y 1)) _ ?_ y (cover0_5 (F := Ideal) c i arg1 harg1 arg2 harg2 arg3 harg3 arg4 harg4 arg5 harg5 arg6 harg6 arg7 harg7 arg8 harg8 arg9 harg9 arg10 harg10 arg11 harg11 x0 x1 x2 x3 x4 y)
  unfold stepRun
  dsimp only
  exact List.forall_mem_cons.2 ⟨fun x => codes_agree c i arg1 harg1 arg2 harg2 arg3 harg3 arg4 harg4 arg5 harg5 arg6 harg6 arg7 harg7 arg8 harg8 arg9 harg9 arg10 harg10 arg11 harg11 x0 x1 x2 x3 x4 hsc hsc' (iota .tc S512x128 32 [1] iota_S512x128_d1_w32) lanes_iota 1536 inb_S2048x256_S512x256_1536_0 _ _ _ _ _ rfl x,
    List.forall_mem_cons.2 ⟨fun x => codes_agree c i arg1 harg1 arg2 harg2 arg3 harg3 arg4 harg4 arg5 harg5 arg6 harg6 arg7 harg7 arg8 harg8 arg9 harg9 arg10 harg10 arg11 harg11 x0 x1 x2 x3 x4 hsc hsc' (iota .tc S512x128 32 [1] iota_S512x128_d1_w32) lanes_iota 1024 inb_S2048x256_S512x256_1024_0 _ _ _ _ _ rfl x,
    List.forall_mem_cons.2 ⟨fun x => codes_agree c i arg1 harg1 arg2 harg2 arg3 harg3 arg4 harg4 arg5 harg5 arg6 harg6 arg7 harg7 arg8 harg8 arg9 harg9 arg10 harg10 arg11 harg11 x0 x1 x2 x3 x4 hsc hsc' (iota .tc S512x128 32 [1] iota_S512x128_d1_w32) lanes_iota 512 inb_S2048x256_S512x256_512_0 _ _ _ _ _ rfl x,
    List.forall_mem_cons.2 ⟨fun x => codes_agree c i arg1 harg1 arg2 harg2 arg3 harg3 arg4 harg4 arg5 harg5 arg6 harg6 arg7 harg7 arg8 harg8 arg9 harg9 arg10 harg10 arg11 harg11 x0 x1 x2 x3 x4 hsc hsc' (iota .tc S512x128 32 [1] iota_S512x128_d1_w32) lanes_iota 0 inb_S2048x256_S512x256_0_0 _ _ _ _ _ rfl x,
    fun p hp => absurd hp List.not_mem_nil⟩⟩⟩⟩

end

end Cert.Ffn

end
-- ==== Proof.FfnRef.lean ====
/-
  The feed-forward reference's products: its half products over decoded codes are one sum over all activations, for the
  gate and for the linear part.
-/
module

public import proofs.«01_k».proof.Proof.RefCode
public import proofs.«01_k».proof.Proof.Gen.RFfnExactIdeal.Read

@[expose] public section

set_option maxRecDepth 16384

noncomputable section

namespace Cert.Ffn.Ref

open Cert.RFfnExactIdeal Cert.RFfnExactIdeal.Gen Cert.RFfnExactIdeal.Read Idealize.ShloMosaic Idealize.ShloMosaic.TcCoe Idealize.SL.Sem Idealize.ShloMosaic.StableHlo
open Cert.Dec

/-- One product of the activations with a decoded weight matrix. -/
def dotAll (a : FVec Ideal ⟨2, ![2048, 2304]⟩ .bf16) (codes : IVec ⟨2, ![9216, 1152]⟩ 8) (scales : IVec ⟨2, ![9216, 72]⟩ 8) (r : Fin 2048) (n : Fin 9216) : EReal :=
  ∑ k : Fin 2304, (a (ValueIdx.ix2 r k) : EReal) * Wb (R := 9216) (C := 9) (nC := 1152) (nS := 72) (nW := 2304) rfl rfl rfl codes scales (ValueIdx.ix2 n k)

theorem lo_code (x2 : IVec S9216x1152 8) (i : S9216x1152.Idx) : val_main_v42 (F := Ideal) x2 i = ((fp4 (x2 i) : ℝ) : EReal) := by
  rw [← nibVal_eq]
  simp only [val_main_v7_apply, val_main_c_apply, val_main_v16_apply, val_main_v17_apply, val_main_c_1_apply, val_main_v18_apply, val_main_v19_apply, val_main_c_2_apply, val_main_v20_apply, val_main_v21_apply, val_main_c_3_apply, val_main_v22_apply, val_main_v23_apply, val_main_c_4_apply, val_main_v24_apply, val_main_v25_apply, val_main_c_5_apply, val_main_v26_apply, val_main_v27_apply, val_main_c_6_apply, val_main_v28_apply, val_main_v29_apply, val_main_c_7_apply, val_main_v30_apply, val_main_v31_apply, val_main_c_8_apply, val_main_v32_apply, val_main_v33_apply, val_main_cst_9_apply, val_main_cst_10_apply, val_main_call0_v0_apply, val_main_call0_v1_apply, val_main_v34_apply, val_main_cst_11_apply, val_main_cst_12_apply, val_main_call1_v0_apply, val_main_call1_v1_apply, val_main_v35_apply, val_main_v36_apply, val_main_cst_13_apply, val_main_cst_14_apply, val_main_call3_v0_apply, val_main_call3_v1_apply, val_main_v37_apply, val_main_cst_15_apply, val_main_cst_16_apply, val_main_call4_v0_apply, val_main_call4_v1_apply, val_main_v38_apply, val_main_v39_apply, val_main_v40_apply, val_main_v41_apply, val_main_v42_apply]
  rfl

theorem hi_code (x2 : IVec S9216x1152 8) (i : S9216x1152.Idx) : val_main_v73 (F := Ideal) x2 i = ((fp4 (x2 i >>> 4) : ℝ) : EReal) := by
  rw [← nibVal_eq]
  simp only [val_main_v7_apply, val_main_c_17_apply, val_main_v47_apply, val_main_v48_apply, val_main_c_18_apply, val_main_v49_apply, val_main_v50_apply, val_main_c_19_apply, val_main_v51_apply, val_main_v52_apply, val_main_c_20_apply, val_main_v53_apply, val_main_v54_apply, val_main_c_21_apply, val_main_v55_apply, val_main_v56_apply, val_main_c_22_apply, val_main_v57_apply, val_main_v58_apply, val_main_c_23_apply, val_main_v59_apply, val_main_v60_apply, val_main_c_24_apply, val_main_v61_apply, val_main_v62_apply, val_main_c_25_apply, val_main_v63_apply, val_main_v64_apply, val_main_cst_26_apply, val_main_cst_27_apply, val_main_call8_v0_apply, val_main_call8_v1_apply, val_main_v65_apply, val_main_cst_28_apply, val_main_cst_29_apply, val_main_call9_v0_apply, val_main_call9_v1_apply, val_main_v66_apply, val_main_v67_apply, val_main_cst_30_apply, val_main_cst_31_apply, val_main_call11_v0_apply, val_main_call11_v1_apply, val_main_v68_apply, val_main_cst_32_apply, val_main_cst_33_apply, val_main_call12_v0_apply, val_main_call12_v1_apply, val_main_v69_apply, val_main_v70_apply, val_main_v71_apply, val_main_v72_apply, val_main_v73_apply, hi_nib]
  rfl

theorem scale_at (x3 : IVec S9216x72 8) (i : S9216x72.Idx) : val_main_v14 (F := Ideal) x3 i = (((2 : ℝ) ^ (((x3 i).toNat : ℤ) - 127) : ℝ) : EReal) := by
  rw [← pow_scale, ← f2, ← f127]
  simp only [val_main_v8_apply, val_main_v9_apply, val_main_cst_apply, val_main_v10_apply, val_main_v11_apply, val_main_cst_0_apply, val_main_v12_apply, val_main_v13_apply, val_main_v14_apply]
  rfl

theorem code_ix (n : Fin 9216) (k : Fin 1152) : idx_main_v43 (idx_main_v46 (ValueIdx.ix2 n k)) = ValueIdx.ix2 n k := by
  have hk := k.isLt
  have hn := n.isLt
  refine funext fun a => Fin.ext ?_
  match a with
  | ⟨0, _⟩ => dsimp [idx_main_v43, idx_main_v46, ValueIdx.ix2]; omega
  | ⟨1, _⟩ => dsimp [idx_main_v43, idx_main_v46, ValueIdx.ix2]; omega

theorem scale_ix (n : Fin 9216) (k : Fin 1152) :
    idx_main_v15 (idx_main_v44 (idx_main_v46 (ValueIdx.ix2 n k))) = ValueIdx.ix2 n ⟨k.val / 16, by have := k.isLt; omega⟩ := by
  have hk := k.isLt
  have hn := n.isLt
  refine funext fun a => Fin.ext ?_
  match a with
  | ⟨0, _⟩ => dsimp [idx_main_v15, idx_main_v44, idx_main_v46, ValueIdx.ix2]; omega
  | ⟨1, _⟩ => dsimp [idx_main_v15, idx_main_v44, idx_main_v46, ValueIdx.ix2]; omega

/-- The low nibbles' weights. -/
theorem lo_weight (x2 : IVec S9216x1152 8) (x3 : IVec S9216x72 8) (n : Fin 9216) (k : Fin 1152) :
    val_main_v46 (F := Ideal) x2 x3 (ValueIdx.ix2 n k) = wv (x2 (ValueIdx.ix2 n k)) (x3 (ValueIdx.ix2 n ⟨k.val / 16, by have := k.isLt; omega⟩)) := by
  rw [val_main_v46_apply, val_main_v45_apply, val_main_v44_apply, val_main_v43_apply, val_main_v15_apply, lo_code, scale_at, code_ix, scale_ix]
  exact (EReal.coe_mul _ _).symm

/-- The high nibbles' weights. -/
theorem hi_weight (x2 : IVec S9216x1152 8) (x3 : IVec S9216x72 8) (n : Fin 9216) (k : Fin 1152) :
    val_main_v77 (F := Ideal) x2 x3 (ValueIdx.ix2 n k) = wv (x2 (ValueIdx.ix2 n k) >>> 4) (x3 (ValueIdx.ix2 n ⟨k.val / 16, by have := k.isLt; omega⟩)) := by
  rw [val_main_v77_apply, val_main_v76_apply, val_main_v75_apply, val_main_v74_apply, val_main_v15_apply, hi_code, scale_at]
  refine (congrArg₂ (fun a b => FloatOps.mulf (F := Ideal) (φ := .bf16) ((fp4 (x2 a >>> 4) : ℝ) : EReal) (((2 : ℝ) ^ (((x3 b).toNat : ℤ) - 127) : ℝ) : EReal)) (code_ix n k) (scale_ix n k)).trans ?_
  exact (EReal.coe_mul _ _).symm

theorem lo_code' (x2 : IVec S9216x1152 8) (i : S9216x1152.Idx) : val_main_v116 (F := Ideal) x2 i = ((fp4 (x2 i) : ℝ) : EReal) := by
  rw [← nibVal_eq]
  simp only [val_main_v81_apply, val_main_c_36_apply, val_main_v90_apply, val_main_v91_apply, val_main_c_37_apply, val_main_v92_apply, val_main_v93_apply, val_main_c_38_apply, val_main_v94_apply, val_main_v95_apply, val_main_c_39_apply, val_main_v96_apply, val_main_v97_apply, val_main_c_40_apply, val_main_v98_apply, val_main_v99_apply, val_main_c_41_apply, val_main_v100_apply, val_main_v101_apply, val_main_c_42_apply, val_main_v102_apply, val_main_v103_apply, val_main_c_43_apply, val_main_v104_apply, val_main_v105_apply, val_main_c_44_apply, val_main_v106_apply, val_main_v107_apply, val_main_cst_45_apply, val_main_cst_46_apply, val_main_call16_v0_apply, val_main_call16_v1_apply, val_main_v108_apply, val_main_cst_47_apply, val_main_cst_48_apply, val_main_call17_v0_apply, val_main_call17_v1_apply, val_main_v109_apply, val_main_v110_apply, val_main_cst_49_apply, val_main_cst_50_apply, val_main_call19_v0_apply, val_main_call19_v1_apply, val_main_v111_apply, val_main_cst_51_apply, val_main_cst_52_apply, val_main_call20_v0_apply, val_main_call20_v1_apply, val_main_v112_apply, val_main_v113_apply, val_main_v114_apply, val_main_v115_apply, val_main_v116_apply]
  rfl

theorem hi_code' (x2 : IVec S9216x1152 8) (i : S9216x1152.Idx) : val_main_v147 (F := Ideal) x2 i = ((fp4 (x2 i >>> 4) : ℝ) : EReal) := by
  rw [← nibVal_eq]
  simp only [val_main_v81_apply, val_main_c_53_apply, val_main_v121_apply, val_main_v122_apply, val_main_c_54_apply, val_main_v123_apply, val_main_v124_apply, val_main_c_55_apply, val_main_v125_apply, val_main_v126_apply, val_main_c_56_apply, val_main_v127_apply, val_main_v128_apply, val_main_c_57_apply, val_main_v129_apply, val_main_v130_apply, val_main_c_58_apply, val_main_v131_apply, val_main_v132_apply, val_main_c_59_apply, val_main_v133_apply, val_main_v134_apply, val_main_c_60_apply, val_main_v135_apply, val_main_v136_apply, val_main_c_61_apply, val_main_v137_apply, val_main_v138_apply, val_main_cst_62_apply, val_main_cst_63_apply, val_main_call24_v0_apply, val_main_call24_v1_apply, val_main_v139_apply, val_main_cst_64_apply, val_main_cst_65_apply, val_main_call25_v0_apply, val_main_call25_v1_apply, val_main_v140_apply, val_main_v141_apply, val_main_cst_66_apply, val_main_cst_67_apply, val_main_call27_v0_apply, val_main_call27_v1_apply, val_main_v142_apply, val_main_cst_68_apply, val_main_cst_69_apply, val_main_call28_v0_apply, val_main_call28_v1_apply, val_main_v143_apply, val_main_v144_apply, val_main_v145_apply, val_main_v146_apply, val_main_v147_apply, hi_nib]
  rfl

theorem scale_at' (x3 : IVec S9216x72 8) (i : S9216x72.Idx) : val_main_v88 (F := Ideal) x3 i = (((2 : ℝ) ^ (((x3 i).toNat : ℤ) - 127) : ℝ) : EReal) := by
  rw [← pow_scale, ← f2, ← f127]
  simp only [val_main_v82_apply, val_main_v83_apply, val_main_cst_34_apply, val_main_v84_apply, val_main_v85_apply, val_main_cst_35_apply, val_main_v86_apply, val_main_v87_apply, val_main_v88_apply]
  rfl

theorem code_ix' (n : Fin 9216) (k : Fin 1152) : idx_main_v117 (idx_main_v120 (ValueIdx.ix2 n k)) = ValueIdx.ix2 n k := by
  have hk := k.isLt
  have hn := n.isLt
  refine funext fun a => Fin.ext ?_
  match a with
  | ⟨0, _⟩ => dsimp [idx_main_v117, idx_main_v120, ValueIdx.ix2]; omega
  | ⟨1, _⟩ => dsimp [idx_main_v117, idx_main_v120, ValueIdx.ix2]; omega

theorem scale_ix' (n : Fin 9216) (k : Fin 1152) :
    idx_main_v89 (idx_main_v118 (idx_main_v120 (ValueIdx.ix2 n k))) = ValueIdx.ix2 n ⟨k.val / 16, by have := k.isLt; omega⟩ := by
  have hk := k.isLt
  have hn := n.isLt
  refine funext fun a => Fin.ext ?_
  match a with
  | ⟨0, _⟩ => dsimp [idx_main_v89, idx_main_v118, idx_main_v120, ValueIdx.ix2]; omega
  | ⟨1, _⟩ => dsimp [idx_main_v89, idx_main_v118, idx_main_v120, ValueIdx.ix2]; omega

/-- The low nibbles' weights. -/
theorem lo_weight' (x2 : IVec S9216x1152 8) (x3 : IVec S9216x72 8) (n : Fin 9216) (k : Fin 1152) :
    val_main_v120 (F := Ideal) x2 x3 (ValueIdx.ix2 n k) = wv (x2 (ValueIdx.ix2 n k)) (x3 (ValueIdx.ix2 n ⟨k.val / 16, by have := k.isLt; omega⟩)) := by
  rw [val_main_v120_apply, val_main_v119_apply, val_main_v118_apply, val_main_v117_apply, val_main_v89_apply, lo_code', scale_at', code_ix', scale_ix']
  exact (EReal.coe_mul _ _).symm

/-- The high nibbles' weights. -/
theorem hi_weight' (x2 : IVec S9216x1152 8) (x3 : IVec S9216x72 8) (n : Fin 9216) (k : Fin 1152) :
    val_main_v151 (F := Ideal) x2 x3 (ValueIdx.ix2 n k) = wv (x2 (ValueIdx.ix2 n k) >>> 4) (x3 (ValueIdx.ix2 n ⟨k.val / 16, by have := k.isLt; omega⟩)) := by
  rw [val_main_v151_apply, val_main_v150_apply, val_main_v149_apply, val_main_v148_apply, val_main_v89_apply, hi_code', scale_at']
  refine (congrArg₂ (fun a b => FloatOps.mulf (F := Ideal) (φ := .bf16) ((fp4 (x2 a >>> 4) : ℝ) : EReal) (((2 : ℝ) ^ (((x3 b).toNat : ℤ) - 127) : ℝ) : EReal)) (code_ix' n k) (scale_ix' n k)).trans ?_
  exact (EReal.coe_mul _ _).symm

/-- The activations that meet the low nibbles. -/
theorem even_act (x0 : FVec Ideal S2048x2304 .bf16) (t : Fin 2048) (k : Fin 1152) :
    val_main_v3 (F := Ideal) x0 (ValueIdx.ix2 t k) = x0 (ValueIdx.ix2 t (evenCol (C := 9) rfl rfl k)) := by
  have hk := k.isLt
  have ht := t.isLt
  rw [val_main_v3_apply, val_main_v2_apply, val_main_v1_apply, val_main_v0_apply]
  refine congrArg x0 (funext fun a => Fin.ext ?_)
  match a with
  | ⟨0, _⟩ => dsimp [idx_main_v3, idx_main_v2, idx_main_v1, idx_main_v0, ValueIdx.ix2]; omega
  | ⟨1, _⟩ => dsimp [idx_main_v3, idx_main_v2, idx_main_v1, idx_main_v0, ValueIdx.ix2, evenCol]; omega

/-- The activations that meet the high nibbles. -/
theorem odd_act (x0 : FVec Ideal S2048x2304 .bf16) (t : Fin 2048) (k : Fin 1152) :
    val_main_v6 (F := Ideal) x0 (ValueIdx.ix2 t k) = x0 (ValueIdx.ix2 t (oddCol (C := 9) rfl rfl k)) := by
  have hk := k.isLt
  have ht := t.isLt
  rw [val_main_v6_apply, val_main_v5_apply, val_main_v4_apply, val_main_v0_apply]
  refine congrArg x0 (funext fun a => Fin.ext ?_)
  match a with
  | ⟨0, _⟩ => dsimp [idx_main_v6, idx_main_v5, idx_main_v4, idx_main_v0, ValueIdx.ix2]; omega
  | ⟨1, _⟩ => dsimp [idx_main_v6, idx_main_v5, idx_main_v4, idx_main_v0, ValueIdx.ix2, oddCol]; omega

/-- The decoded weight block at the first half's columns, and at the second's. -/
theorem Wb_even (x2 : IVec S9216x1152 8) (x3 : IVec S9216x72 8) (n : Fin 9216) (k : Fin 1152) :
    Wb (R := 9216) (C := 9) (nC := 1152) (nS := 72) (nW := 2304) rfl rfl rfl x2 x3 (ValueIdx.ix2 n (evenCol (C := 9) rfl rfl k))
      = wv (x2 (ValueIdx.ix2 n k)) (x3 (ValueIdx.ix2 n ⟨k.val / 16, by have := k.isLt; omega⟩)) := by
  have hk := k.isLt
  unfold Wb
  refine congrArg₂ wv ((if_pos ?_).trans (congrArg x2 (funext fun a => Fin.ext ?_))) (congrArg x3 (funext fun a => Fin.ext ?_))
  · show (256 * (k.val / 128) + k.val % 128) % 256 < 128; omega
  · match a with
    | ⟨0, _⟩ => rfl
    | ⟨1, _⟩ => show 128 * ((256 * (k.val / 128) + k.val % 128) / 256) + (256 * (k.val / 128) + k.val % 128) % 128 = k.val; omega
  · match a with
    | ⟨0, _⟩ => rfl
    | ⟨1, _⟩ => show 8 * ((256 * (k.val / 128) + k.val % 128) / 256) + (256 * (k.val / 128) + k.val % 128) % 128 / 16 = k.val / 16; omega

theorem Wb_odd (x2 : IVec S9216x1152 8) (x3 : IVec S9216x72 8) (n : Fin 9216) (k : Fin 1152) :
    Wb (R := 9216) (C := 9) (nC := 1152) (nS := 72) (nW := 2304) rfl rfl rfl x2 x3 (ValueIdx.ix2 n (oddCol (C := 9) rfl rfl k))
      = wv (x2 (ValueIdx.ix2 n k) >>> 4) (x3 (ValueIdx.ix2 n ⟨k.val / 16, by have := k.isLt; omega⟩)) := by
  have hk := k.isLt
  unfold Wb
  refine congrArg₂ wv ((if_neg ?_).trans (congrArg (fun b => x2 b >>> 4) (funext fun a => Fin.ext ?_))) (congrArg x3 (funext fun a => Fin.ext ?_))
  · show ¬ (256 * (k.val / 128) + 128 + k.val % 128) % 256 < 128; omega
  · match a with
    | ⟨0, _⟩ => rfl
    | ⟨1, _⟩ => show 128 * ((256 * (k.val / 128) + 128 + k.val % 128) / 256) + (256 * (k.val / 128) + 128 + k.val % 128) % 128 = k.val; omega
  · match a with
    | ⟨0, _⟩ => rfl
    | ⟨1, _⟩ => show 8 * ((256 * (k.val / 128) + 128 + k.val % 128) / 256) + (256 * (k.val / 128) + 128 + k.val % 128) % 128 / 16 = k.val / 16; omega

/-- The gate: one sum over all of the activations. -/
theorem gate_eq (x0 : FVec Ideal S2048x2304 .bf16) (x1 : IVec S9216x1152 8) (x2 : IVec S9216x72 8) (t : Fin 2048) (n : Fin 9216) :
    val_main_v80 (F := Ideal) x0 x1 x2 (ValueIdx.ix2 t n) = dotAll x0 x1 x2 t n := by
  rw [val_main_v80_apply, val_main_v79_apply, val_main_v78_apply]
  unfold dotAll
  rw [sum_halves (C := 9) (nC := 1152) (nW := 2304) rfl rfl]
  refine congrArg₂ (fun y z : EReal => y + z) (Finset.sum_congr rfl fun k _ => ?_) (Finset.sum_congr rfl fun k _ => ?_)
  · exact congrArg₂ (fun y z : EReal => y * z)
      ((congrArg (val_main_v3 (F := Ideal) x0) (ValueIdx.eq_ix2 _)).trans (even_act x0 t k))
      ((congrArg (val_main_v46 (F := Ideal) x1 x2) (ValueIdx.eq_ix2 _)).trans ((lo_weight x1 x2 n k).trans (Wb_even x1 x2 n k).symm))
  · exact congrArg₂ (fun y z : EReal => y * z)
      ((congrArg (val_main_v6 (F := Ideal) x0) (ValueIdx.eq_ix2 _)).trans (odd_act x0 t k))
      ((congrArg (val_main_v77 (F := Ideal) x1 x2) (ValueIdx.eq_ix2 _)).trans ((hi_weight x1 x2 n k).trans (Wb_odd x1 x2 n k).symm))

/-- The linear part: one sum over all of the activations. -/
theorem up_eq (x0 : FVec Ideal S2048x2304 .bf16) (x1 : IVec S9216x1152 8) (x2 : IVec S9216x72 8) (t : Fin 2048) (n : Fin 9216) :
    val_main_v154 (F := Ideal) x0 x1 x2 (ValueIdx.ix2 t n) = dotAll x0 x1 x2 t n := by
  rw [val_main_v154_apply, val_main_v153_apply, val_main_v152_apply]
  unfold dotAll
  rw [sum_halves (C := 9) (nC := 1152) (nW := 2304) rfl rfl]
  refine congrArg₂ (fun y z : EReal => y + z) (Finset.sum_congr rfl fun k _ => ?_) (Finset.sum_congr rfl fun k _ => ?_)
  · exact congrArg₂ (fun y z : EReal => y * z)
      ((congrArg (val_main_v3 (F := Ideal) x0) (ValueIdx.eq_ix2 _)).trans (even_act x0 t k))
      ((congrArg (val_main_v120 (F := Ideal) x1 x2) (ValueIdx.eq_ix2 _)).trans ((lo_weight' x1 x2 n k).trans (Wb_even x1 x2 n k).symm))
  · exact congrArg₂ (fun y z : EReal => y * z)
      ((congrArg (val_main_v6 (F := Ideal) x0) (ValueIdx.eq_ix2 _)).trans (odd_act x0 t k))
      ((congrArg (val_main_v151 (F := Ideal) x1 x2) (ValueIdx.eq_ix2 _)).trans ((hi_weight' x1 x2 n k).trans (Wb_odd x1 x2 n k).symm))

end Cert.Ffn.Ref
-- ==== Proof.FfnArray.lean ====
/-
  The feed-forward kernel's array of codes after the run.
-/
module

public import proofs.«01_k».proof.Proof.FfnValue
public import proofs.«01_k».proof.Proof.FfnRef

@[expose] public section

set_option maxRecDepth 16384

noncomputable section

namespace Cert.Ffn

open Cert.KFfnIdeal Cert.KFfnIdeal.Gen Cert.KFfnIdeal.Run Idealize.ShloMosaic Idealize.ShloMosaic.TcCoe Idealize.ShloMosaic.Tactic Idealize.SL.Sem
open Cert.Dec Cert.KFfnIdeal.Facts Cert.Ffn.Ref

/-- One element before it is scaled. -/
def gAll (a : FVec Ideal S2048x2304 .bf16) (g : IVec S9216x1152 8) (gs : IVec S9216x72 8) (u : IVec S9216x1152 8) (us : IVec S9216x72 8) (r : Fin 2048) (n : Fin 9216) : EReal :=
  glu (dotAll a g gs r n) (dotAll a u us r n)

/-- The whole array of codes. -/
def codesOut (a : FVec Ideal S2048x2304 .bf16) (g : IVec S9216x1152 8) (gs : IVec S9216x72 8) (u : IVec S9216x1152 8) (us : IVec S9216x72 8) : FVec Ideal S2048x9216 .fp8e4m3 :=
  fun j => code (gAll a g gs u us (j 0) (j 1)) (amax (gAll a g gs u us (j 0)) (j 1))

variable (m : (ℓ : Loc nD τ sig) → Buf (Elt Ideal) ℓ) (ρ : Dev nD → PrngReg) (c : Dev nD)

abbrev arrA : FVec Ideal S2048x2304 .bf16 := m ((c : Thread nD τ).loc main_arg0)
abbrev arrG : IVec S9216x1152 8 := m ((c : Thread nD τ).loc main_arg1)
abbrev arrGs : IVec S9216x72 8 := m ((c : Thread nD τ).loc main_arg2)
abbrev arrU : IVec S9216x1152 8 := m ((c : Thread nD τ).loc main_arg3)
abbrev arrUs : IVec S9216x72 8 := m ((c : Thread nD τ).loc main_arg4)

/-! ## Where each window's block sits -/

theorem at0 : ∀ t : Fin cfg0.N, win0_0.index t 0 = 0 ∧ win0_0.index t 1 = 0 := (by decide +kernel : ∀ t : Fin grid0.N, win0_0.index t 0 = 0 ∧ win0_0.index t 1 = 0)
theorem at1 : ∀ t : Fin cfg0.N, win0_1.index t 0 = t.val ∧ win0_1.index t 1 = 0 := (by decide +kernel : ∀ t : Fin grid0.N, win0_1.index t 0 = t.val ∧ win0_1.index t 1 = 0)
theorem at2 : ∀ t : Fin cfg0.N, win0_2.index t 0 = t.val ∧ win0_2.index t 1 = 0 := (by decide +kernel : ∀ t : Fin grid0.N, win0_2.index t 0 = t.val ∧ win0_2.index t 1 = 0)
theorem at3 : ∀ t : Fin cfg0.N, win0_3.index t 0 = t.val ∧ win0_3.index t 1 = 0 := (by decide +kernel : ∀ t : Fin grid0.N, win0_3.index t 0 = t.val ∧ win0_3.index t 1 = 0)
theorem at4 : ∀ t : Fin cfg0.N, win0_4.index t 0 = t.val ∧ win0_4.index t 1 = 0 := (by decide +kernel : ∀ t : Fin grid0.N, win0_4.index t 0 = t.val ∧ win0_4.index t 1 = 0)
theorem at5 : ∀ t : Fin cfg0.N, win0_5.index t 0 = 0 ∧ win0_5.index t 1 = t.val := (by decide +kernel : ∀ t : Fin grid0.N, win0_5.index t 0 = 0 ∧ win0_5.index t 1 = t.val)

theorem size5 : ∀ t : Fin cfg0.N, win0_5.xsize (grid0.coords t) 0 = 2048 ∧ win0_5.xsize (grid0.coords t) 1 = 256 :=
  (by decide +kernel : ∀ t : Fin grid0.N, win0_5.xsize (grid0.coords t) 0 = 2048 ∧ win0_5.xsize (grid0.coords t) 1 = 256)

theorem iblk0 (t : Fin cfg0.N) (p : Fin 2048) (q : Fin 2304) : (iblk m c 0 t : FVec Ideal S2048x2304 .bf16) (ValueIdx.ix2 p q) = arrA m c (ValueIdx.ix2 p q) := by
  unfold iblk
  refine (congrFun (V_main_arg0 m c) _).trans (congrArg (arrA m c) (funext fun a => Fin.ext ?_))
  match a with
  | ⟨0, _⟩ => show win0_0.index t 0 * 2048 + 1 * p.val = p.val; rw [(at0 t).1]; omega
  | ⟨1, _⟩ => show win0_0.index t 1 * 2304 + 1 * q.val = q.val; rw [(at0 t).2]; omega

theorem iblk1 (t : Fin cfg0.N) (p : Fin 256) (q : Fin 1152) (p' : Fin 9216) (hp : p'.val = 256 * t.val + p.val) :
    (iblk m c 1 t : IVec S256x1152 8) (ValueIdx.ix2 p q) = arrG m c (ValueIdx.ix2 p' q) := by
  unfold iblk
  refine (congrFun (V_main_arg1 m c) _).trans (congrArg (arrG m c) (funext fun a => Fin.ext ?_))
  match a with
  | ⟨0, _⟩ => show win0_1.index t 0 * 256 + 1 * p.val = p'.val; rw [(at1 t).1]; omega
  | ⟨1, _⟩ => show win0_1.index t 1 * 1152 + 1 * q.val = q.val; rw [(at1 t).2]; omega

theorem iblk2 (t : Fin cfg0.N) (p : Fin 256) (q : Fin 72) (p' : Fin 9216) (hp : p'.val = 256 * t.val + p.val) :
    (iblk m c 2 t : IVec S256x72 8) (ValueIdx.ix2 p q) = arrGs m c (ValueIdx.ix2 p' q) := by
  unfold iblk
  refine (congrFun (V_main_arg2 m c) _).trans (congrArg (arrGs m c) (funext fun a => Fin.ext ?_))
  match a with
  | ⟨0, _⟩ => show win0_2.index t 0 * 256 + 1 * p.val = p'.val; rw [(at2 t).1]; omega
  | ⟨1, _⟩ => show win0_2.index t 1 * 72 + 1 * q.val = q.val; rw [(at2 t).2]; omega

theorem iblk3 (t : Fin cfg0.N) (p : Fin 256) (q : Fin 1152) (p' : Fin 9216) (hp : p'.val = 256 * t.val + p.val) :
    (iblk m c 3 t : IVec S256x1152 8) (ValueIdx.ix2 p q) = arrU m c (ValueIdx.ix2 p' q) := by
  unfold iblk
  refine (congrFun (V_main_arg3 m c) _).trans (congrArg (arrU m c) (funext fun a => Fin.ext ?_))
  match a with
  | ⟨0, _⟩ => show win0_3.index t 0 * 256 + 1 * p.val = p'.val; rw [(at3 t).1]; omega
  | ⟨1, _⟩ => show win0_3.index t 1 * 1152 + 1 * q.val = q.val; rw [(at3 t).2]; omega

theorem iblk4 (t : Fin cfg0.N) (p : Fin 256) (q : Fin 72) (p' : Fin 9216) (hp : p'.val = 256 * t.val + p.val) :
    (iblk m c 4 t : IVec S256x72 8) (ValueIdx.ix2 p q) = arrUs m c (ValueIdx.ix2 p' q) := by
  unfold iblk
  refine (congrFun (V_main_arg4 m c) _).trans (congrArg (arrUs m c) (funext fun a => Fin.ext ?_))
  match a with
  | ⟨0, _⟩ => show win0_4.index t 0 * 256 + 1 * p.val = p'.val; rw [(at4 t).1]; omega
  | ⟨1, _⟩ => show win0_4.index t 1 * 72 + 1 * q.val = q.val; rw [(at4 t).2]; omega

/-! ## A block's value is the whole array's there -/

theorem lt36 (t : Fin cfg0.N) : t.val < 36 := lt_of_lt_of_eq t.isLt (N_0 : cfg0.N = 36)

theorem WD_gate (t : Fin cfg0.N) (n : Fin 256) (n' : Fin 9216) (hn : n'.val = 256 * t.val + n.val) (k : Fin 2304) :
    WD (iblk m c 1 t) (iblk m c 2 t) (ValueIdx.ix2 n k)
      = Wb (R := 9216) (C := 9) (nC := 1152) (nS := 72) (nW := 2304) rfl rfl rfl (arrG m c) (arrGs m c) (ValueIdx.ix2 n' k) := by
  have e : ∀ q, (iblk m c 1 t : IVec S256x1152 8) (ValueIdx.ix2 n q) = arrG m c (ValueIdx.ix2 n' q) := fun q => iblk1 m c t n q n' hn
  have e' : ∀ q, (iblk m c 2 t : IVec S256x72 8) (ValueIdx.ix2 n q) = arrGs m c (ValueIdx.ix2 n' q) := fun q => iblk2 m c t n q n' hn
  unfold WD Wb
  exact congrArg₂ wv (if_congr Iff.rfl (e _) (congrArg (fun x : BitVec 8 => x >>> 4) (e _))) (e' _)

theorem WD_up (t : Fin cfg0.N) (n : Fin 256) (n' : Fin 9216) (hn : n'.val = 256 * t.val + n.val) (k : Fin 2304) :
    WD (iblk m c 3 t) (iblk m c 4 t) (ValueIdx.ix2 n k)
      = Wb (R := 9216) (C := 9) (nC := 1152) (nS := 72) (nW := 2304) rfl rfl rfl (arrU m c) (arrUs m c) (ValueIdx.ix2 n' k) := by
  have e : ∀ q, (iblk m c 3 t : IVec S256x1152 8) (ValueIdx.ix2 n q) = arrU m c (ValueIdx.ix2 n' q) := fun q => iblk3 m c t n q n' hn
  have e' : ∀ q, (iblk m c 4 t : IVec S256x72 8) (ValueIdx.ix2 n q) = arrUs m c (ValueIdx.ix2 n' q) := fun q => iblk4 m c t n q n' hn
  unfold WD Wb
  exact congrArg₂ wv (if_congr Iff.rfl (e _) (congrArg (fun x : BitVec 8 => x >>> 4) (e _))) (e' _)

theorem gAt_eq (t : Fin cfg0.N) (r : Fin 2048) (n : Fin 256) (n' : Fin 9216) (hn : n'.val = 256 * t.val + n.val) :
    gAt (iblk m c 0 t) (iblk m c 1 t) (iblk m c 2 t) (iblk m c 3 t) (iblk m c 4 t) r n = gAll (arrA m c) (arrG m c) (arrGs m c) (arrU m c) (arrUs m c) r n' := by
  unfold gAt gAll dotAll
  exact congrArg₂ glu (Finset.sum_congr rfl fun k _ => congrArg₂ (· * ·) (iblk0 m c t r k) (WD_gate m c t n n' hn k))
    (Finset.sum_congr rfl fun k _ => congrArg₂ (· * ·) (iblk0 m c t r k) (WD_up m c t n n' hn k))

/-- The greatest magnitude of a block of columns, within a step's columns or within all of them. -/
theorem amax_shift (t : ℕ) (ht : t < 36) (f : Fin 256 → EReal) (g : Fin 9216 → EReal) (h : ∀ (n : Fin 256) (n' : Fin 9216), n'.val = 256 * t + n.val → f n = g n')
    (n : Fin 256) (n' : Fin 9216) (hn : n'.val = 256 * t + n.val) : amax f n = amax g n' := by
  obtain ⟨u1, a, ha, fa⟩ := amax_top f n
  refine Top.unique (S := fun j : Fin 9216 => j.val / 32 = n'.val / 32) (f := fun j => max (g j) (-(g j))) ⟨fun j hj => ?_, ?_⟩ (amax_top g n')
  · have hj' : j.val / 32 = n'.val / 32 := hj
    have hlt := n.isLt
    have e := h ⟨j.val - 256 * t, by omega⟩ j (by show j.val = 256 * t + (j.val - 256 * t); omega)
    show max (g j) (-(g j)) ≤ _
    rw [← e]
    exact u1 ⟨j.val - 256 * t, by omega⟩ (by show (j.val - 256 * t) / 32 = n.val / 32; omega)
  · have ha' : a.val / 32 = n.val / 32 := ha
    have hlt := a.isLt
    refine ⟨⟨256 * t + a.val, by omega⟩, by show (256 * t + a.val) / 32 = n'.val / 32; omega, ?_⟩
    show max (g _) (-(g _)) = _
    rw [← h a ⟨256 * t + a.val, by omega⟩ rfl]
    exact fa

theorem codeAt_eq (t : Fin cfg0.N) (r : Fin 2048) (n : Fin 256) (n' : Fin 9216) (hn : n'.val = 256 * t.val + n.val) :
    codeAt (iblk m c 0 t) (iblk m c 1 t) (iblk m c 2 t) (iblk m c 3 t) (iblk m c 4 t) r n = codesOut (arrA m c) (arrG m c) (arrGs m c) (arrU m c) (arrUs m c) (ValueIdx.ix2 r n') := by
  show code _ _ = code (gAll (arrA m c) (arrG m c) (arrGs m c) (arrU m c) (arrUs m c) r n') (amax (gAll (arrA m c) (arrG m c) (arrGs m c) (arrU m c) (arrUs m c) r) n')
  rw [gAt_eq m c t r n n' hn, amax_shift t.val (lt36 t) _ (gAll (arrA m c) (arrG m c) (arrGs m c) (arrU m c) (arrUs m c) r) (fun k k' hk => gAt_eq m c t r k k' hk) n n' hn]

/-- What a step writes back is its block of the whole array. -/
theorem flushed_eq (hsc : ∀ i, (arrGs m c i).toNat ≤ 248) (hsc' : ∀ i, (arrUs m c i).toNat ≤ 248) (t : Fin cfg0.N) :
    (dats m 0 c).flushed 5 t = ((cfg0.win 5).blk t).view.read (Elt Ideal) (codesOut (arrA m c) (arrG m c) (arrGs m c) (arrU m c) (arrUs m c)) := by
  show (cfg0.win 5).cut (grid0.coords t) ((dats m 0 c).after 5 t) = _
  rw [after0_5]
  funext y
  have ht := lt36 t
  have h1 : (y 1).val < 256 := (y 1).isLt
  refine (codes_block c _ _ _ _ _ _ _ _ _ _ _ _ _ _ _ _ _ _ _ _ _ _ _ _ _ _ _ _ ?_ ?_ _).trans ?_
  · intro i
    obtain ⟨p, q, rfl⟩ : ∃ (p : Fin 256) (q : Fin 72), i = ValueIdx.ix2 p q := ⟨i 0, i 1, ValueIdx.eq_ix2 i⟩
    have hp : 256 * t.val + p.val < 9216 := by have := p.isLt; omega
    exact (congrArg BitVec.toNat (iblk2 m c t p q ⟨256 * t.val + p.val, hp⟩ rfl)).trans_le (hsc _)
  · intro i
    obtain ⟨p, q, rfl⟩ : ∃ (p : Fin 256) (q : Fin 72), i = ValueIdx.ix2 p q := ⟨i 0, i 1, ValueIdx.eq_ix2 i⟩
    have hp : 256 * t.val + p.val < 9216 := by have := p.isLt; omega
    exact (congrArg BitVec.toNat (iblk4 m c t p q ⟨256 * t.val + p.val, hp⟩ rfl)).trans_le (hsc' _)
  · refine (codeAt_eq m c t (y 0) (y 1) ⟨256 * t.val + (y 1).val, by omega⟩ rfl).trans ?_
    refine congrArg (codesOut (arrA m c) (arrG m c) (arrGs m c) (arrU m c) (arrUs m c)) (funext fun a => Fin.ext ?_)
    match a with
    | ⟨0, _⟩ => show (y 0).val = win0_5.index t 0 * 2048 + 1 * (y 0).val; rw [(at5 t).1]; omega
    | ⟨1, _⟩ => show 256 * t.val + (y 1).val = win0_5.index t 1 * 256 + 1 * (y 1).val; rw [(at5 t).2]; omega

/-- An element is in step `t`'s block when its column is. -/
theorem mem_blk (t : Fin cfg0.N) (i : S2048x9216.Idx) (h : t.val * 256 ≤ (i 1).val ∧ (i 1).val < t.val * 256 + 256) :
    i ∈ ((cfg0.win 5).blk t).view.set := by
  show i ∈ ((View.whole main_v0_0).slice (win0_5.rect t)).set
  rw [View.set_slice_whole, Rect.mem_set_unit]
  intro a
  match a with
  | ⟨0, _⟩ => show win0_5.index t 0 * win0_5.size 0 ≤ (i 0).val ∧ (i 0).val < win0_5.index t 0 * win0_5.size 0 + win0_5.xsize (grid0.coords t) 0
              rw [(at5 t).1, (size5 t).1]; have : (i 0).val < 2048 := (i 0).isLt; omega
  | ⟨1, _⟩ => show win0_5.index t 1 * 256 ≤ (i 1).val ∧ (i 1).val < win0_5.index t 1 * 256 + win0_5.xsize (grid0.coords t) 1
              rw [(at5 t).2, (size5 t).2]; exact h

theorem cover (i : S2048x9216.Idx) : ∃ t : Fin cfg0.N, (cfg0.win 5).flush t = true ∧ i ∈ ((cfg0.win 5).blk t).view.set := by
  have h1 : (i 1).val < 9216 := (i 1).isLt
  have hN : cfg0.N = 36 := N_0
  refine ⟨⟨(i 1).val / 256, by omega⟩, flush0_5 _, mem_blk _ i ?_⟩
  dsimp only
  omega

/-- The array of codes after the run. -/
theorem final (hsc : ∀ i, (arrGs m c i).toNat ≤ 248) (hsc' : ∀ i, (arrUs m c i).toNat ≤ 248) :
    (dats m 0 c).arrAt 5 cfg0.N = codesOut (arrA m c) (arrG m c) (arrGs m c) (arrU m c) (arrUs m c) :=
  (dats m 0 c).arrAt_eq_of_cover 5 _ (fun t _ => flushed_eq m c hsc hsc' t) cover

end Cert.Ffn
-- ==== Proof.FfnEq.lean ====
/-
  The feed-forward reference's array of codes, before its last cast.
-/
module

public import proofs.«01_k».proof.Proof.FfnArray

@[expose] public section

set_option maxRecDepth 16384

noncomputable section

namespace Cert.Ffn.Ref

open Cert.RFfnExactIdeal Cert.RFfnExactIdeal.Gen Cert.RFfnExactIdeal.Read Idealize.ShloMosaic Idealize.ShloMosaic.TcCoe Idealize.SL.Sem Idealize.ShloMosaic.StableHlo
open Cert.Dec Cert.Ffn

theorem f1 : Ideal.ofBits .f32 0x3F800000#32 = 1 := by simp [Ideal.ofBits, Ideal.ieee]; norm_num [← EReal.coe_mul]
theorem z1 : (1 : EReal) = zi 1 := by unfold zi; norm_num
theorem z9 : Ideal.ofBits .f32 0x41100000#32 = zi 9 := by unfold zi; simp [Ideal.ofBits, Ideal.ieee]; try norm_num [← EReal.coe_mul]
theorem z127 : Ideal.ofBits .f32 0x42FE0000#32 = zi 127 := by unfold zi; simp [Ideal.ofBits, Ideal.ieee]; try norm_num [← EReal.coe_mul]
theorem zm127 : Ideal.ofBits .f32 0xC2FE0000#32 = zi (-127) := by unfold zi; simp [Ideal.ofBits, Ideal.ieee]; try norm_num [← EReal.coe_mul, ← EReal.coe_neg]
theorem fbot : Ideal.ofBits .f32 0xFF800000#32 = ⊥ := by simp [Ideal.ofBits, Ideal.ieee]

variable (x0 : FVec Ideal S2048x2304 .bf16) (x1 : IVec S9216x1152 8) (x2 : IVec S9216x72 8) (x3 : IVec S9216x1152 8) (x4 : IVec S9216x72 8)

/-- One element before it is scaled. -/
theorem glu_eq (r : Fin 2048) (n : Fin 9216) : val_main_v162 (F := Ideal) x0 x1 x2 x3 x4 (ValueIdx.ix2 r n) = gAll x0 x1 x2 x3 x4 r n := by
  simp only [val_main_v162_apply, val_main_v161_apply, val_main_v160_apply, val_main_v159_apply, val_main_cst_71_apply, val_main_v158_apply,
    val_main_v157_apply, val_main_cst_70_apply, val_main_v156_apply, val_main_v155_apply, gate_eq, up_eq]
  show _ * Ideal.div (Ideal.ofBits .f32 0x3F800000#32) (Ideal.ofBits .f32 0x3F800000#32 + Ideal.exp (-(dotAll x0 x1 x2 r n))) * _ = _
  rw [f1]
  rfl

theorem red : S2048x288x32.Reduces [2] S2048x288 := by decide

theorem abs_eq (r : Fin 2048) (n : Fin 9216) (g : Fin 288) (hg : g.val = n.val / 32) (x : Fin 32) (j : Fin 9216) (hj : j.val = n.val / 32 * 32 + x.val) :
    val_main_v164 (F := Ideal) x0 x1 x2 x3 x4 (red.lift (ValueIdx.ix2 r g) x) = max (gAll x0 x1 x2 x3 x4 r j) (-(gAll x0 x1 x2 x3 x4 r j)) := by
  have e : idx_main_v163 (red.lift (ValueIdx.ix2 r g) x) = ValueIdx.ix2 r j := by
    have hr := r.isLt
    have hx := x.isLt
    have hn := n.isLt
    refine funext fun a => Fin.ext ?_
    match a with
    | ⟨0, _⟩ => show ((r.val * 288 + g.val) * 32 + x.val) / 9216 = r.val; omega
    | ⟨1, _⟩ => show ((r.val * 288 + g.val) * 32 + x.val) % 9216 = j.val; omega
  rw [val_main_v164_apply, val_main_v163_apply, e, glu_eq]
  rfl

/-- The reduction is the greatest magnitude of a block. -/
theorem max_eq (r : Fin 2048) (n : Fin 9216) (g : Fin 288) (hg : g.val = n.val / 32) :
    val_main_v165 (F := Ideal) x0 x1 x2 x3 x4 (ValueIdx.ix2 r g) = amax (gAll x0 x1 x2 x3 x4 r) n := by
  refine Top.unique ?_ (amax_top (gAll x0 x1 x2 x3 x4 r) n)
  have hn := n.isLt
  have e : val_main_v165 (F := Ideal) x0 x1 x2 x3 x4 (ValueIdx.ix2 r g)
      = (Finset.univ : Finset (Fin 32)).fold max ⊥ (val_main_v164 (F := Ideal) x0 x1 x2 x3 x4 ∘ red.lift (ValueIdx.ix2 r g)) := by
    unfold val_main_v165
    refine (Host.reduce_eq_fold_single _ _ _ _ red _ _).trans ?_
    rw [← fbot]
    rfl
  have up : ∀ j : Fin 9216, j.val / 32 = n.val / 32 →
      max (gAll x0 x1 x2 x3 x4 r j) (-(gAll x0 x1 x2 x3 x4 r j)) ≤ val_main_v165 (F := Ideal) x0 x1 x2 x3 x4 (ValueIdx.ix2 r g) := fun j hj => by
    rw [e]
    refine Finset.le_fold_max _ |>.2 (Or.inr ⟨⟨j.val % 32, Nat.mod_lt _ (by decide)⟩, Finset.mem_univ _, ?_⟩)
    exact (abs_eq x0 x1 x2 x3 x4 r n g hg ⟨j.val % 32, Nat.mod_lt _ (by decide)⟩ j (by show j.val = n.val / 32 * 32 + j.val % 32; omega)).ge
  refine ⟨up, ?_⟩
  rcases (Finset.le_fold_max _).1 e.le with h | ⟨x, -, h⟩
  · exact ⟨n, rfl, le_antisymm (up n rfl) (h.trans bot_le)⟩
  · have hx : x.val < 32 := x.isLt
    refine ⟨⟨n.val / 32 * 32 + x.val, by omega⟩, by show (n.val / 32 * 32 + x.val) / 32 = _; omega, le_antisymm (up _ (by show (n.val / 32 * 32 + x.val) / 32 = _; omega)) (h.trans ?_)⟩
    exact (abs_eq x0 x1 x2 x3 x4 r n g hg x _ rfl).le

theorem c33hi (i : S2048x288.Idx) : val_main_call33_v4 (F := Ideal) i = Ideal.ofBits .f32 0x42FE0000#32 := by
  rw [val_main_call33_v4_apply, val_main_call33_v3_apply, val_main_cst_79_apply]; rfl

theorem c33lo (i : S2048x288.Idx) : val_main_call33_v1 (F := Ideal) i = Ideal.ofBits .f32 0xC2FE0000#32 := by
  rw [val_main_call33_v1_apply, val_main_call33_v0_apply, val_main_cst_78_apply]; rfl

theorem c34hi (i : S2048x9216.Idx) : val_main_call34_v4 (F := Ideal) i = Ideal.ofBits .f32 0x43E00000#32 := by
  rw [val_main_call34_v4_apply, val_main_call34_v3_apply, val_main_cst_82_apply]; rfl

theorem c34lo (i : S2048x9216.Idx) : val_main_call34_v1 (F := Ideal) i = Ideal.ofBits .f32 0xC3E00000#32 := by
  rw [val_main_call34_v1_apply, val_main_call34_v0_apply, val_main_cst_81_apply]; rfl

theorem quot_eq (i : S2048x288.Idx) : val_main_v169 (F := Ideal) x0 x1 x2 x3 x4 i = Ideal.div (Ideal.log (val_main_v165 (F := Ideal) x0 x1 x2 x3 x4 i)) (Ideal.log (Ideal.ofBits .f32 0x40000000#32)) := by
  rw [val_main_v169_apply, val_main_v168_apply, val_main_v167_apply, val_main_cst_73_apply, val_main_v166_apply]
  generalize val_main_v165 (F := Ideal) x0 x1 x2 x3 x4 i = A
  rfl

theorem sub_eq (i : S2048x288.Idx) : val_main_v177 (F := Ideal) x0 x1 x2 x3 x4 i = Ideal.liftRound Int.floor (val_main_v169 (F := Ideal) x0 x1 x2 x3 x4 i) + Ideal.ofBits .f32 0x3F800000#32 - Ideal.ofBits .f32 0x41100000#32 := by
  rw [val_main_v177_apply, val_main_v176_apply, val_main_cst_77_apply, val_main_v172_apply, val_main_v171_apply, val_main_cst_74_apply, val_main_v170_apply]
  generalize val_main_v169 (F := Ideal) x0 x1 x2 x3 x4 i = A
  rfl

theorem sel_eq (i : S2048x288.Idx) : val_main_v178 (F := Ideal) x0 x1 x2 x3 x4 i = Scalar.select (Ideal.cmp .oeq (val_main_v165 (F := Ideal) x0 x1 x2 x3 x4 i) (Ideal.ofBits .f32 0x00000000#32)) (Ideal.ofBits .f32 0x00000000#32) (val_main_v177 (F := Ideal) x0 x1 x2 x3 x4 i) := by
  rw [val_main_v178_apply, val_main_v174_apply, val_main_v173_apply, val_main_cst_75_apply, val_main_v175_apply, val_main_cst_76_apply]
  generalize val_main_v165 (F := Ideal) x0 x1 x2 x3 x4 i = A
  generalize val_main_v177 (F := Ideal) x0 x1 x2 x3 x4 i = B
  rfl

theorem clip_eq (i : S2048x288.Idx) : val_main_v179 (F := Ideal) x0 x1 x2 x3 x4 i = min (val_main_call33_v4 (F := Ideal) i) (max (val_main_call33_v1 (F := Ideal) i) (val_main_v178 (F := Ideal) x0 x1 x2 x3 x4 i)) := by
  rw [val_main_v179_apply, val_main_call33_v2_apply]
  generalize val_main_v178 (F := Ideal) x0 x1 x2 x3 x4 i = A
  rfl

theorem clip_eq' (i : S2048x9216.Idx) : val_main_v187 (F := Ideal) x0 x1 x2 x3 x4 i = min (val_main_call34_v4 (F := Ideal) i) (max (val_main_call34_v1 (F := Ideal) i) (val_main_v186 (F := Ideal) x0 x1 x2 x3 x4 i)) := by
  rw [val_main_v187_apply, val_main_call34_v2_apply]
  generalize val_main_v186 (F := Ideal) x0 x1 x2 x3 x4 i = A
  rfl

theorem pow_eq (i : S2048x288.Idx) : val_main_v182 (F := Ideal) x0 x1 x2 x3 x4 i = Ideal.pow (Ideal.ofBits .f32 0x40000000#32) (-(val_main_v179 (F := Ideal) x0 x1 x2 x3 x4 i)) := by
  rw [val_main_v182_apply, val_main_v181_apply, val_main_cst_80_apply, val_main_v180_apply]
  generalize val_main_v179 (F := Ideal) x0 x1 x2 x3 x4 i = A
  rfl

theorem mul_eq (i : S2048x9216.Idx) : val_main_v186 (F := Ideal) x0 x1 x2 x3 x4 i = val_main_v162 (F := Ideal) x0 x1 x2 x3 x4 i * val_main_v182 (F := Ideal) x0 x1 x2 x3 x4 (idx_main_v183 (idx_main_v184 (idx_main_v185 i))) := by
  rw [val_main_v186_apply, val_main_v185_apply, val_main_v184_apply, val_main_v183_apply]
  generalize val_main_v162 (F := Ideal) x0 x1 x2 x3 x4 i = A
  generalize val_main_v182 (F := Ideal) x0 x1 x2 x3 x4 (idx_main_v183 (idx_main_v184 (idx_main_v185 i))) = B
  rfl

/-- The exponent of a block. -/
theorem rx_eq (i : S2048x288.Idx) : val_main_v179 (F := Ideal) x0 x1 x2 x3 x4 i = rx (val_main_v165 (F := Ideal) x0 x1 x2 x3 x4 i) := by
  rw [clip_eq, c33hi, c33lo, sel_eq, sub_eq, quot_eq, z127, zm127, w0, f2, f1, z9, z1]
  rfl

theorem group_at (r : Fin 2048) (n : Fin 9216) (g : Fin 288) (hg : g.val = n.val / 32) :
    idx_main_v183 (idx_main_v184 (idx_main_v185 (ValueIdx.ix2 r n))) = ValueIdx.ix2 r g := by
  have hr := r.isLt
  have hn := n.isLt
  refine funext fun a => Fin.ext ?_
  match a with
  | ⟨0, _⟩ => show (r.val * 9216 + n.val) / 9216 = r.val; omega
  | ⟨1, _⟩ => show (r.val * 9216 + n.val) / 32 % 288 = g.val; omega

/-- The codes before the last cast. -/
theorem codes_eq (r : Fin 2048) (n : Fin 9216) :
    val_main_v187 (F := Ideal) x0 x1 x2 x3 x4 (ValueIdx.ix2 r n) = code (gAll x0 x1 x2 x3 x4 r n) (amax (gAll x0 x1 x2 x3 x4 r) n) := by
  have hn := n.isLt
  have hd : n.val / 32 < 288 := by omega
  rw [clip_eq', c34hi, c34lo, mul_eq, glu_eq, group_at r n ⟨n.val / 32, hd⟩ rfl, pow_eq, rx_eq, max_eq x0 x1 x2 x3 x4 r n ⟨n.val / 32, hd⟩ rfl, f2]
  rfl

theorem codesOut_eq : val_main_v187 (F := Ideal) x0 x1 x2 x3 x4 = codesOut x0 x1 x2 x3 x4 := by
  funext y
  exact (congrArg (val_main_v187 (F := Ideal) x0 x1 x2 x3 x4) (ValueIdx.eq_ix2 y)).trans (codes_eq x0 x1 x2 x3 x4 (y 0) (y 1))

end Cert.Ffn.Ref

end
-- ==== Proof.FfnRefRun.lean ====
/-
What the reference's host operations leave in the four buffers its casting call reads: the values the same operations
have in the reference that stops before the casts, whose terms `Gen.RFfnExactIdeal.Read` already names.
The operations are taken a dozen at a time; between two pieces only the buffers still to be read are kept track of.
-/
module

public import proofs.«01_k».proof.Proof.Gen.RFfnIdeal.Launch
public import proofs.«01_k».proof.Proof.Gen.RFfnIdeal.Frame
public import proofs.«01_k».proof.Proof.Gen.RFfnExactIdeal.Read

@[expose] public section

set_option Elab.async false

noncomputable section

namespace Cert.RFfnIdeal.Host

open Cert.RFfnIdeal Cert.RFfnIdeal.Gen Idealize.ShloMosaic Idealize.ShloMosaic.TcCoe Idealize.SL.Sem Idealize.ShloMosaic.StableHlo
open Cert.RFfnExactIdeal.Read

variable {F : FTy → Type} [FloatOps F]

/-- The buffers still to be read before piece 0, at their values. -/
def Live0 (W : Valuation τ sig (Elt F)) (x0 : (⟨S2048x2304, .bf16⟩ : BufTy).Contents (Elt F)) (x1 : (⟨S9216x1152, .i8⟩ : BufTy).Contents (Elt F)) (x2 : (⟨S9216x72, .i8⟩ : BufTy).Contents (Elt F)) (x3 : (⟨S9216x1152, .i8⟩ : BufTy).Contents (Elt F)) (x4 : (⟨S9216x72, .i8⟩ : BufTy).Contents (Elt F)) : Prop :=
  W (Proc.devRef .tc main_arg0) = x0 ∧
  W (Proc.devRef .tc main_arg1) = x1 ∧
  W (Proc.devRef .tc main_arg2) = x2 ∧
  W (Proc.devRef .tc main_arg3) = x3 ∧
  W (Proc.devRef .tc main_arg4) = x4

def part0 : List (HloOp τ sig (Elt F)) :=
  hostOps0.take 12

/-- The buffers still to be read before piece 1, at their values. -/
def Live1 (W : Valuation τ sig (Elt F)) (x0 : (⟨S2048x2304, .bf16⟩ : BufTy).Contents (Elt F)) (x1 : (⟨S9216x1152, .i8⟩ : BufTy).Contents (Elt F)) (x2 : (⟨S9216x72, .i8⟩ : BufTy).Contents (Elt F)) (x3 : (⟨S9216x1152, .i8⟩ : BufTy).Contents (Elt F)) (x4 : (⟨S9216x72, .i8⟩ : BufTy).Contents (Elt F)) : Prop :=
  W (Proc.devRef .tc main_arg3) = x3 ∧
  W (Proc.devRef .tc main_arg4) = x4 ∧
  W (Proc.devRef .tc main_v10) = val_main_v10 (F := F) ∧
  W (Proc.devRef .tc main_v3) = val_main_v3 (F := F) x0 ∧
  W (Proc.devRef .tc main_v6) = val_main_v6 (F := F) x0 ∧
  W (Proc.devRef .tc main_v7) = val_main_v7 (F := F) x1 ∧
  W (Proc.devRef .tc main_v9) = val_main_v9 (F := F) x2

def part1 : List (HloOp τ sig (Elt F)) :=
  (hostOps0.drop 12).take 12

/-- The buffers still to be read before piece 2, at their values. -/
def Live2 (W : Valuation τ sig (Elt F)) (x0 : (⟨S2048x2304, .bf16⟩ : BufTy).Contents (Elt F)) (x1 : (⟨S9216x1152, .i8⟩ : BufTy).Contents (Elt F)) (x2 : (⟨S9216x72, .i8⟩ : BufTy).Contents (Elt F)) (x3 : (⟨S9216x1152, .i8⟩ : BufTy).Contents (Elt F)) (x4 : (⟨S9216x72, .i8⟩ : BufTy).Contents (Elt F)) : Prop :=
  W (Proc.devRef .tc main_arg3) = x3 ∧
  W (Proc.devRef .tc main_arg4) = x4 ∧
  W (Proc.devRef .tc main_v15) = val_main_v15 (F := F) x2 ∧
  W (Proc.devRef .tc main_v17) = val_main_v17 (F := F) x1 ∧
  W (Proc.devRef .tc main_v19) = val_main_v19 (F := F) x1 ∧
  W (Proc.devRef .tc main_v3) = val_main_v3 (F := F) x0 ∧
  W (Proc.devRef .tc main_v6) = val_main_v6 (F := F) x0 ∧
  W (Proc.devRef .tc main_v7) = val_main_v7 (F := F) x1

def part2 : List (HloOp τ sig (Elt F)) :=
  (hostOps0.drop 24).take 12

/-- The buffers still to be read before piece 3, at their values. -/
def Live3 (W : Valuation τ sig (Elt F)) (x0 : (⟨S2048x2304, .bf16⟩ : BufTy).Contents (Elt F)) (x1 : (⟨S9216x1152, .i8⟩ : BufTy).Contents (Elt F)) (x2 : (⟨S9216x72, .i8⟩ : BufTy).Contents (Elt F)) (x3 : (⟨S9216x1152, .i8⟩ : BufTy).Contents (Elt F)) (x4 : (⟨S9216x72, .i8⟩ : BufTy).Contents (Elt F)) : Prop :=
  W (Proc.devRef .tc main_arg3) = x3 ∧
  W (Proc.devRef .tc main_arg4) = x4 ∧
  W (Proc.devRef .tc main_v15) = val_main_v15 (F := F) x2 ∧
  W (Proc.devRef .tc main_v17) = val_main_v17 (F := F) x1 ∧
  W (Proc.devRef .tc main_v21) = val_main_v21 (F := F) x1 ∧
  W (Proc.devRef .tc main_v25) = val_main_v25 (F := F) x1 ∧
  W (Proc.devRef .tc main_v27) = val_main_v27 (F := F) x1 ∧
  W (Proc.devRef .tc main_v3) = val_main_v3 (F := F) x0 ∧
  W (Proc.devRef .tc main_v6) = val_main_v6 (F := F) x0 ∧
  W (Proc.devRef .tc main_v7) = val_main_v7 (F := F) x1

def part3 : List (HloOp τ sig (Elt F)) :=
  (hostOps0.drop 36).take 12

/-- The buffers still to be read before piece 4, at their values. -/
def Live4 (W : Valuation τ sig (Elt F)) (x0 : (⟨S2048x2304, .bf16⟩ : BufTy).Contents (Elt F)) (x1 : (⟨S9216x1152, .i8⟩ : BufTy).Contents (Elt F)) (x2 : (⟨S9216x72, .i8⟩ : BufTy).Contents (Elt F)) (x3 : (⟨S9216x1152, .i8⟩ : BufTy).Contents (Elt F)) (x4 : (⟨S9216x72, .i8⟩ : BufTy).Contents (Elt F)) : Prop :=
  W (Proc.devRef .tc main_arg3) = x3 ∧
  W (Proc.devRef .tc main_arg4) = x4 ∧
  W (Proc.devRef .tc main_cst_10) = val_main_cst_10 (F := F) ∧
  W (Proc.devRef .tc main_cst_9) = val_main_cst_9 (F := F) ∧
  W (Proc.devRef .tc main_v15) = val_main_v15 (F := F) x2 ∧
  W (Proc.devRef .tc main_v21) = val_main_v21 (F := F) x1 ∧
  W (Proc.devRef .tc main_v25) = val_main_v25 (F := F) x1 ∧
  W (Proc.devRef .tc main_v29) = val_main_v29 (F := F) x1 ∧
  W (Proc.devRef .tc main_v3) = val_main_v3 (F := F) x0 ∧
  W (Proc.devRef .tc main_v33) = val_main_v33 (F := F) x1 ∧
  W (Proc.devRef .tc main_v6) = val_main_v6 (F := F) x0 ∧
  W (Proc.devRef .tc main_v7) = val_main_v7 (F := F) x1

def part4 : List (HloOp τ sig (Elt F)) :=
  hostOps0_1 ++ hostOps0_2 ++ hostOps0_3 ++ hostOps0_4 ++ hostOps0_5

/-- The buffers still to be read before piece 5, at their values. -/
def Live5 (W : Valuation τ sig (Elt F)) (x0 : (⟨S2048x2304, .bf16⟩ : BufTy).Contents (Elt F)) (x1 : (⟨S9216x1152, .i8⟩ : BufTy).Contents (Elt F)) (x2 : (⟨S9216x72, .i8⟩ : BufTy).Contents (Elt F)) (x3 : (⟨S9216x1152, .i8⟩ : BufTy).Contents (Elt F)) (x4 : (⟨S9216x72, .i8⟩ : BufTy).Contents (Elt F)) : Prop :=
  W (Proc.devRef .tc main_arg3) = x3 ∧
  W (Proc.devRef .tc main_arg4) = x4 ∧
  W (Proc.devRef .tc main_cst_13) = val_main_cst_13 (F := F) ∧
  W (Proc.devRef .tc main_cst_14) = val_main_cst_14 (F := F) ∧
  W (Proc.devRef .tc main_v15) = val_main_v15 (F := F) x2 ∧
  W (Proc.devRef .tc main_v21) = val_main_v21 (F := F) x1 ∧
  W (Proc.devRef .tc main_v25) = val_main_v25 (F := F) x1 ∧
  W (Proc.devRef .tc main_v29) = val_main_v29 (F := F) x1 ∧
  W (Proc.devRef .tc main_v3) = val_main_v3 (F := F) x0 ∧
  W (Proc.devRef .tc main_v33) = val_main_v33 (F := F) x1 ∧
  W (Proc.devRef .tc main_v36) = val_main_v36 (F := F) x1 ∧
  W (Proc.devRef .tc main_v6) = val_main_v6 (F := F) x0 ∧
  W (Proc.devRef .tc main_v7) = val_main_v7 (F := F) x1

def part5 : List (HloOp τ sig (Elt F)) :=
  hostOps0_6 ++ hostOps0_7 ++ hostOps0_8 ++ hostOps0_9 ++ hostOps0_10 ++ hostOps0_11 ++ hostOps0_12

/-- The buffers still to be read before piece 6, at their values. -/
def Live6 (W : Valuation τ sig (Elt F)) (x0 : (⟨S2048x2304, .bf16⟩ : BufTy).Contents (Elt F)) (x1 : (⟨S9216x1152, .i8⟩ : BufTy).Contents (Elt F)) (x2 : (⟨S9216x72, .i8⟩ : BufTy).Contents (Elt F)) (x3 : (⟨S9216x1152, .i8⟩ : BufTy).Contents (Elt F)) (x4 : (⟨S9216x72, .i8⟩ : BufTy).Contents (Elt F)) : Prop :=
  W (Proc.devRef .tc main_arg3) = x3 ∧
  W (Proc.devRef .tc main_arg4) = x4 ∧
  W (Proc.devRef .tc main_v15) = val_main_v15 (F := F) x2 ∧
  W (Proc.devRef .tc main_v3) = val_main_v3 (F := F) x0 ∧
  W (Proc.devRef .tc main_v42) = val_main_v42 (F := F) x1 ∧
  W (Proc.devRef .tc main_v6) = val_main_v6 (F := F) x0 ∧
  W (Proc.devRef .tc main_v7) = val_main_v7 (F := F) x1

def part6 : List (HloOp τ sig (Elt F)) :=
  hostOps0_13.take 12

/-- The buffers still to be read before piece 7, at their values. -/
def Live7 (W : Valuation τ sig (Elt F)) (x0 : (⟨S2048x2304, .bf16⟩ : BufTy).Contents (Elt F)) (x1 : (⟨S9216x1152, .i8⟩ : BufTy).Contents (Elt F)) (x2 : (⟨S9216x72, .i8⟩ : BufTy).Contents (Elt F)) (x3 : (⟨S9216x1152, .i8⟩ : BufTy).Contents (Elt F)) (x4 : (⟨S9216x72, .i8⟩ : BufTy).Contents (Elt F)) : Prop :=
  W (Proc.devRef .tc main_arg3) = x3 ∧
  W (Proc.devRef .tc main_arg4) = x4 ∧
  W (Proc.devRef .tc main_v15) = val_main_v15 (F := F) x2 ∧
  W (Proc.devRef .tc main_v3) = val_main_v3 (F := F) x0 ∧
  W (Proc.devRef .tc main_v46) = val_main_v46 (F := F) x1 x2 ∧
  W (Proc.devRef .tc main_v48) = val_main_v48 (F := F) x1 ∧
  W (Proc.devRef .tc main_v50) = val_main_v50 (F := F) x1 ∧
  W (Proc.devRef .tc main_v51) = val_main_v51 (F := F) ∧
  W (Proc.devRef .tc main_v6) = val_main_v6 (F := F) x0

def part7 : List (HloOp τ sig (Elt F)) :=
  (hostOps0_13.drop 12).take 12

/-- The buffers still to be read before piece 8, at their values. -/
def Live8 (W : Valuation τ sig (Elt F)) (x0 : (⟨S2048x2304, .bf16⟩ : BufTy).Contents (Elt F)) (x1 : (⟨S9216x1152, .i8⟩ : BufTy).Contents (Elt F)) (x2 : (⟨S9216x72, .i8⟩ : BufTy).Contents (Elt F)) (x3 : (⟨S9216x1152, .i8⟩ : BufTy).Contents (Elt F)) (x4 : (⟨S9216x72, .i8⟩ : BufTy).Contents (Elt F)) : Prop :=
  W (Proc.devRef .tc main_arg3) = x3 ∧
  W (Proc.devRef .tc main_arg4) = x4 ∧
  W (Proc.devRef .tc main_v15) = val_main_v15 (F := F) x2 ∧
  W (Proc.devRef .tc main_v3) = val_main_v3 (F := F) x0 ∧
  W (Proc.devRef .tc main_v46) = val_main_v46 (F := F) x1 x2 ∧
  W (Proc.devRef .tc main_v48) = val_main_v48 (F := F) x1 ∧
  W (Proc.devRef .tc main_v52) = val_main_v52 (F := F) x1 ∧
  W (Proc.devRef .tc main_v56) = val_main_v56 (F := F) x1 ∧
  W (Proc.devRef .tc main_v58) = val_main_v58 (F := F) x1 ∧
  W (Proc.devRef .tc main_v59) = val_main_v59 (F := F) ∧
  W (Proc.devRef .tc main_v6) = val_main_v6 (F := F) x0

def part8 : List (HloOp τ sig (Elt F)) :=
  (hostOps0_13.drop 24).take 12

/-- The buffers still to be read before piece 9, at their values. -/
def Live9 (W : Valuation τ sig (Elt F)) (x0 : (⟨S2048x2304, .bf16⟩ : BufTy).Contents (Elt F)) (x1 : (⟨S9216x1152, .i8⟩ : BufTy).Contents (Elt F)) (x2 : (⟨S9216x72, .i8⟩ : BufTy).Contents (Elt F)) (x3 : (⟨S9216x1152, .i8⟩ : BufTy).Contents (Elt F)) (x4 : (⟨S9216x72, .i8⟩ : BufTy).Contents (Elt F)) : Prop :=
  W (Proc.devRef .tc main_arg3) = x3 ∧
  W (Proc.devRef .tc main_arg4) = x4 ∧
  W (Proc.devRef .tc main_cst_26) = val_main_cst_26 (F := F) ∧
  W (Proc.devRef .tc main_cst_27) = val_main_cst_27 (F := F) ∧
  W (Proc.devRef .tc main_v15) = val_main_v15 (F := F) x2 ∧
  W (Proc.devRef .tc main_v3) = val_main_v3 (F := F) x0 ∧
  W (Proc.devRef .tc main_v46) = val_main_v46 (F := F) x1 x2 ∧
  W (Proc.devRef .tc main_v52) = val_main_v52 (F := F) x1 ∧
  W (Proc.devRef .tc main_v56) = val_main_v56 (F := F) x1 ∧
  W (Proc.devRef .tc main_v6) = val_main_v6 (F := F) x0 ∧
  W (Proc.devRef .tc main_v60) = val_main_v60 (F := F) x1 ∧
  W (Proc.devRef .tc main_v64) = val_main_v64 (F := F) x1

def part9 : List (HloOp τ sig (Elt F)) :=
  hostOps0_14 ++ hostOps0_15 ++ hostOps0_16 ++ hostOps0_17 ++ hostOps0_18

/-- The buffers still to be read before piece 10, at their values. -/
def Live10 (W : Valuation τ sig (Elt F)) (x0 : (⟨S2048x2304, .bf16⟩ : BufTy).Contents (Elt F)) (x1 : (⟨S9216x1152, .i8⟩ : BufTy).Contents (Elt F)) (x2 : (⟨S9216x72, .i8⟩ : BufTy).Contents (Elt F)) (x3 : (⟨S9216x1152, .i8⟩ : BufTy).Contents (Elt F)) (x4 : (⟨S9216x72, .i8⟩ : BufTy).Contents (Elt F)) : Prop :=
  W (Proc.devRef .tc main_arg3) = x3 ∧
  W (Proc.devRef .tc main_arg4) = x4 ∧
  W (Proc.devRef .tc main_cst_30) = val_main_cst_30 (F := F) ∧
  W (Proc.devRef .tc main_cst_31) = val_main_cst_31 (F := F) ∧
  W (Proc.devRef .tc main_v15) = val_main_v15 (F := F) x2 ∧
  W (Proc.devRef .tc main_v3) = val_main_v3 (F := F) x0 ∧
  W (Proc.devRef .tc main_v46) = val_main_v46 (F := F) x1 x2 ∧
  W (Proc.devRef .tc main_v52) = val_main_v52 (F := F) x1 ∧
  W (Proc.devRef .tc main_v56) = val_main_v56 (F := F) x1 ∧
  W (Proc.devRef .tc main_v6) = val_main_v6 (F := F) x0 ∧
  W (Proc.devRef .tc main_v60) = val_main_v60 (F := F) x1 ∧
  W (Proc.devRef .tc main_v64) = val_main_v64 (F := F) x1 ∧
  W (Proc.devRef .tc main_v67) = val_main_v67 (F := F) x1

def part10 : List (HloOp τ sig (Elt F)) :=
  hostOps0_19 ++ hostOps0_20 ++ hostOps0_21 ++ hostOps0_22 ++ hostOps0_23 ++ hostOps0_24 ++ hostOps0_25

/-- The buffers still to be read before piece 11, at their values. -/
def Live11 (W : Valuation τ sig (Elt F)) (x0 : (⟨S2048x2304, .bf16⟩ : BufTy).Contents (Elt F)) (x1 : (⟨S9216x1152, .i8⟩ : BufTy).Contents (Elt F)) (x2 : (⟨S9216x72, .i8⟩ : BufTy).Contents (Elt F)) (x3 : (⟨S9216x1152, .i8⟩ : BufTy).Contents (Elt F)) (x4 : (⟨S9216x72, .i8⟩ : BufTy).Contents (Elt F)) : Prop :=
  W (Proc.devRef .tc main_arg3) = x3 ∧
  W (Proc.devRef .tc main_arg4) = x4 ∧
  W (Proc.devRef .tc main_v15) = val_main_v15 (F := F) x2 ∧
  W (Proc.devRef .tc main_v3) = val_main_v3 (F := F) x0 ∧
  W (Proc.devRef .tc main_v46) = val_main_v46 (F := F) x1 x2 ∧
  W (Proc.devRef .tc main_v6) = val_main_v6 (F := F) x0 ∧
  W (Proc.devRef .tc main_v73) = val_main_v73 (F := F) x1

def part11 : List (HloOp τ sig (Elt F)) :=
  hostOps0_26.take 12

/-- The buffers still to be read before piece 12, at their values. -/
def Live12 (W : Valuation τ sig (Elt F)) (x0 : (⟨S2048x2304, .bf16⟩ : BufTy).Contents (Elt F)) (x1 : (⟨S9216x1152, .i8⟩ : BufTy).Contents (Elt F)) (x2 : (⟨S9216x72, .i8⟩ : BufTy).Contents (Elt F)) (x3 : (⟨S9216x1152, .i8⟩ : BufTy).Contents (Elt F)) (x4 : (⟨S9216x72, .i8⟩ : BufTy).Contents (Elt F)) : Prop :=
  W (Proc.devRef .tc main_v3) = val_main_v3 (F := F) x0 ∧
  W (Proc.devRef .tc main_v6) = val_main_v6 (F := F) x0 ∧
  W (Proc.devRef .tc main_v80) = val_main_v80 (F := F) x0 x1 x2 ∧
  W (Proc.devRef .tc main_v81) = val_main_v81 (F := F) x3 ∧
  W (Proc.devRef .tc main_v83) = val_main_v83 (F := F) x4 ∧
  W (Proc.devRef .tc main_v84) = val_main_v84 (F := F)

def part12 : List (HloOp τ sig (Elt F)) :=
  (hostOps0_26.drop 12).take 12

/-- The buffers still to be read before piece 13, at their values. -/
def Live13 (W : Valuation τ sig (Elt F)) (x0 : (⟨S2048x2304, .bf16⟩ : BufTy).Contents (Elt F)) (x1 : (⟨S9216x1152, .i8⟩ : BufTy).Contents (Elt F)) (x2 : (⟨S9216x72, .i8⟩ : BufTy).Contents (Elt F)) (x3 : (⟨S9216x1152, .i8⟩ : BufTy).Contents (Elt F)) (x4 : (⟨S9216x72, .i8⟩ : BufTy).Contents (Elt F)) : Prop :=
  W (Proc.devRef .tc main_v3) = val_main_v3 (F := F) x0 ∧
  W (Proc.devRef .tc main_v6) = val_main_v6 (F := F) x0 ∧
  W (Proc.devRef .tc main_v80) = val_main_v80 (F := F) x0 x1 x2 ∧
  W (Proc.devRef .tc main_v81) = val_main_v81 (F := F) x3 ∧
  W (Proc.devRef .tc main_v89) = val_main_v89 (F := F) x4 ∧
  W (Proc.devRef .tc main_v91) = val_main_v91 (F := F) x3 ∧
  W (Proc.devRef .tc main_v93) = val_main_v93 (F := F) x3

def part13 : List (HloOp τ sig (Elt F)) :=
  (hostOps0_26.drop 24).take 12

/-- The buffers still to be read before piece 14, at their values. -/
def Live14 (W : Valuation τ sig (Elt F)) (x0 : (⟨S2048x2304, .bf16⟩ : BufTy).Contents (Elt F)) (x1 : (⟨S9216x1152, .i8⟩ : BufTy).Contents (Elt F)) (x2 : (⟨S9216x72, .i8⟩ : BufTy).Contents (Elt F)) (x3 : (⟨S9216x1152, .i8⟩ : BufTy).Contents (Elt F)) (x4 : (⟨S9216x72, .i8⟩ : BufTy).Contents (Elt F)) : Prop :=
  W (Proc.devRef .tc main_v101) = val_main_v101 (F := F) x3 ∧
  W (Proc.devRef .tc main_v3) = val_main_v3 (F := F) x0 ∧
  W (Proc.devRef .tc main_v6) = val_main_v6 (F := F) x0 ∧
  W (Proc.devRef .tc main_v80) = val_main_v80 (F := F) x0 x1 x2 ∧
  W (Proc.devRef .tc main_v81) = val_main_v81 (F := F) x3 ∧
  W (Proc.devRef .tc main_v89) = val_main_v89 (F := F) x4 ∧
  W (Proc.devRef .tc main_v91) = val_main_v91 (F := F) x3 ∧
  W (Proc.devRef .tc main_v95) = val_main_v95 (F := F) x3 ∧
  W (Proc.devRef .tc main_v99) = val_main_v99 (F := F) x3

def part14 : List (HloOp τ sig (Elt F)) :=
  (hostOps0_26.drop 36).take 12

/-- The buffers still to be read before piece 15, at their values. -/
def Live15 (W : Valuation τ sig (Elt F)) (x0 : (⟨S2048x2304, .bf16⟩ : BufTy).Contents (Elt F)) (x1 : (⟨S9216x1152, .i8⟩ : BufTy).Contents (Elt F)) (x2 : (⟨S9216x72, .i8⟩ : BufTy).Contents (Elt F)) (x3 : (⟨S9216x1152, .i8⟩ : BufTy).Contents (Elt F)) (x4 : (⟨S9216x72, .i8⟩ : BufTy).Contents (Elt F)) : Prop :=
  W (Proc.devRef .tc main_cst_45) = val_main_cst_45 (F := F) ∧
  W (Proc.devRef .tc main_cst_46) = val_main_cst_46 (F := F) ∧
  W (Proc.devRef .tc main_v103) = val_main_v103 (F := F) x3 ∧
  W (Proc.devRef .tc main_v107) = val_main_v107 (F := F) x3 ∧
  W (Proc.devRef .tc main_v3) = val_main_v3 (F := F) x0 ∧
  W (Proc.devRef .tc main_v6) = val_main_v6 (F := F) x0 ∧
  W (Proc.devRef .tc main_v80) = val_main_v80 (F := F) x0 x1 x2 ∧
  W (Proc.devRef .tc main_v81) = val_main_v81 (F := F) x3 ∧
  W (Proc.devRef .tc main_v89) = val_main_v89 (F := F) x4 ∧
  W (Proc.devRef .tc main_v95) = val_main_v95 (F := F) x3 ∧
  W (Proc.devRef .tc main_v99) = val_main_v99 (F := F) x3

def part15 : List (HloOp τ sig (Elt F)) :=
  hostOps0_27 ++ hostOps0_28 ++ hostOps0_29 ++ hostOps0_30 ++ hostOps0_31

/-- The buffers still to be read before piece 16, at their values. -/
def Live16 (W : Valuation τ sig (Elt F)) (x0 : (⟨S2048x2304, .bf16⟩ : BufTy).Contents (Elt F)) (x1 : (⟨S9216x1152, .i8⟩ : BufTy).Contents (Elt F)) (x2 : (⟨S9216x72, .i8⟩ : BufTy).Contents (Elt F)) (x3 : (⟨S9216x1152, .i8⟩ : BufTy).Contents (Elt F)) (x4 : (⟨S9216x72, .i8⟩ : BufTy).Contents (Elt F)) : Prop :=
  W (Proc.devRef .tc main_cst_49) = val_main_cst_49 (F := F) ∧
  W (Proc.devRef .tc main_cst_50) = val_main_cst_50 (F := F) ∧
  W (Proc.devRef .tc main_v103) = val_main_v103 (F := F) x3 ∧
  W (Proc.devRef .tc main_v107) = val_main_v107 (F := F) x3 ∧
  W (Proc.devRef .tc main_v110) = val_main_v110 (F := F) x3 ∧
  W (Proc.devRef .tc main_v3) = val_main_v3 (F := F) x0 ∧
  W (Proc.devRef .tc main_v6) = val_main_v6 (F := F) x0 ∧
  W (Proc.devRef .tc main_v80) = val_main_v80 (F := F) x0 x1 x2 ∧
  W (Proc.devRef .tc main_v81) = val_main_v81 (F := F) x3 ∧
  W (Proc.devRef .tc main_v89) = val_main_v89 (F := F) x4 ∧
  W (Proc.devRef .tc main_v95) = val_main_v95 (F := F) x3 ∧
  W (Proc.devRef .tc main_v99) = val_main_v99 (F := F) x3

def part16 : List (HloOp τ sig (Elt F)) :=
  hostOps0_32 ++ hostOps0_33 ++ hostOps0_34 ++ hostOps0_35 ++ hostOps0_36 ++ hostOps0_37 ++ hostOps0_38

/-- The buffers still to be read before piece 17, at their values. -/
def Live17 (W : Valuation τ sig (Elt F)) (x0 : (⟨S2048x2304, .bf16⟩ : BufTy).Contents (Elt F)) (x1 : (⟨S9216x1152, .i8⟩ : BufTy).Contents (Elt F)) (x2 : (⟨S9216x72, .i8⟩ : BufTy).Contents (Elt F)) (x3 : (⟨S9216x1152, .i8⟩ : BufTy).Contents (Elt F)) (x4 : (⟨S9216x72, .i8⟩ : BufTy).Contents (Elt F)) : Prop :=
  W (Proc.devRef .tc main_v116) = val_main_v116 (F := F) x3 ∧
  W (Proc.devRef .tc main_v3) = val_main_v3 (F := F) x0 ∧
  W (Proc.devRef .tc main_v6) = val_main_v6 (F := F) x0 ∧
  W (Proc.devRef .tc main_v80) = val_main_v80 (F := F) x0 x1 x2 ∧
  W (Proc.devRef .tc main_v81) = val_main_v81 (F := F) x3 ∧
  W (Proc.devRef .tc main_v89) = val_main_v89 (F := F) x4

def part17 : List (HloOp τ sig (Elt F)) :=
  hostOps0_39.take 12

/-- The buffers still to be read before piece 18, at their values. -/
def Live18 (W : Valuation τ sig (Elt F)) (x0 : (⟨S2048x2304, .bf16⟩ : BufTy).Contents (Elt F)) (x1 : (⟨S9216x1152, .i8⟩ : BufTy).Contents (Elt F)) (x2 : (⟨S9216x72, .i8⟩ : BufTy).Contents (Elt F)) (x3 : (⟨S9216x1152, .i8⟩ : BufTy).Contents (Elt F)) (x4 : (⟨S9216x72, .i8⟩ : BufTy).Contents (Elt F)) : Prop :=
  W (Proc.devRef .tc main_v120) = val_main_v120 (F := F) x3 x4 ∧
  W (Proc.devRef .tc main_v122) = val_main_v122 (F := F) x3 ∧
  W (Proc.devRef .tc main_v124) = val_main_v124 (F := F) x3 ∧
  W (Proc.devRef .tc main_v125) = val_main_v125 (F := F) ∧
  W (Proc.devRef .tc main_v3) = val_main_v3 (F := F) x0 ∧
  W (Proc.devRef .tc main_v6) = val_main_v6 (F := F) x0 ∧
  W (Proc.devRef .tc main_v80) = val_main_v80 (F := F) x0 x1 x2 ∧
  W (Proc.devRef .tc main_v89) = val_main_v89 (F := F) x4

def part18 : List (HloOp τ sig (Elt F)) :=
  (hostOps0_39.drop 12).take 12

/-- The buffers still to be read before piece 19, at their values. -/
def Live19 (W : Valuation τ sig (Elt F)) (x0 : (⟨S2048x2304, .bf16⟩ : BufTy).Contents (Elt F)) (x1 : (⟨S9216x1152, .i8⟩ : BufTy).Contents (Elt F)) (x2 : (⟨S9216x72, .i8⟩ : BufTy).Contents (Elt F)) (x3 : (⟨S9216x1152, .i8⟩ : BufTy).Contents (Elt F)) (x4 : (⟨S9216x72, .i8⟩ : BufTy).Contents (Elt F)) : Prop :=
  W (Proc.devRef .tc main_v120) = val_main_v120 (F := F) x3 x4 ∧
  W (Proc.devRef .tc main_v122) = val_main_v122 (F := F) x3 ∧
  W (Proc.devRef .tc main_v126) = val_main_v126 (F := F) x3 ∧
  W (Proc.devRef .tc main_v130) = val_main_v130 (F := F) x3 ∧
  W (Proc.devRef .tc main_v132) = val_main_v132 (F := F) x3 ∧
  W (Proc.devRef .tc main_v133) = val_main_v133 (F := F) ∧
  W (Proc.devRef .tc main_v3) = val_main_v3 (F := F) x0 ∧
  W (Proc.devRef .tc main_v6) = val_main_v6 (F := F) x0 ∧
  W (Proc.devRef .tc main_v80) = val_main_v80 (F := F) x0 x1 x2 ∧
  W (Proc.devRef .tc main_v89) = val_main_v89 (F := F) x4

def part19 : List (HloOp τ sig (Elt F)) :=
  (hostOps0_39.drop 24).take 12

/-- The buffers still to be read before piece 20, at their values. -/
def Live20 (W : Valuation τ sig (Elt F)) (x0 : (⟨S2048x2304, .bf16⟩ : BufTy).Contents (Elt F)) (x1 : (⟨S9216x1152, .i8⟩ : BufTy).Contents (Elt F)) (x2 : (⟨S9216x72, .i8⟩ : BufTy).Contents (Elt F)) (x3 : (⟨S9216x1152, .i8⟩ : BufTy).Contents (Elt F)) (x4 : (⟨S9216x72, .i8⟩ : BufTy).Contents (Elt F)) : Prop :=
  W (Proc.devRef .tc main_cst_62) = val_main_cst_62 (F := F) ∧
  W (Proc.devRef .tc main_cst_63) = val_main_cst_63 (F := F) ∧
  W (Proc.devRef .tc main_v120) = val_main_v120 (F := F) x3 x4 ∧
  W (Proc.devRef .tc main_v126) = val_main_v126 (F := F) x3 ∧
  W (Proc.devRef .tc main_v130) = val_main_v130 (F := F) x3 ∧
  W (Proc.devRef .tc main_v134) = val_main_v134 (F := F) x3 ∧
  W (Proc.devRef .tc main_v138) = val_main_v138 (F := F) x3 ∧
  W (Proc.devRef .tc main_v3) = val_main_v3 (F := F) x0 ∧
  W (Proc.devRef .tc main_v6) = val_main_v6 (F := F) x0 ∧
  W (Proc.devRef .tc main_v80) = val_main_v80 (F := F) x0 x1 x2 ∧
  W (Proc.devRef .tc main_v89) = val_main_v89 (F := F) x4

def part20 : List (HloOp τ sig (Elt F)) :=
  hostOps0_40 ++ hostOps0_41 ++ hostOps0_42 ++ hostOps0_43 ++ hostOps0_44

/-- The buffers still to be read before piece 21, at their values. -/
def Live21 (W : Valuation τ sig (Elt F)) (x0 : (⟨S2048x2304, .bf16⟩ : BufTy).Contents (Elt F)) (x1 : (⟨S9216x1152, .i8⟩ : BufTy).Contents (Elt F)) (x2 : (⟨S9216x72, .i8⟩ : BufTy).Contents (Elt F)) (x3 : (⟨S9216x1152, .i8⟩ : BufTy).Contents (Elt F)) (x4 : (⟨S9216x72, .i8⟩ : BufTy).Contents (Elt F)) : Prop :=
  W (Proc.devRef .tc main_cst_66) = val_main_cst_66 (F := F) ∧
  W (Proc.devRef .tc main_cst_67) = val_main_cst_67 (F := F) ∧
  W (Proc.devRef .tc main_v120) = val_main_v120 (F := F) x3 x4 ∧
  W (Proc.devRef .tc main_v126) = val_main_v126 (F := F) x3 ∧
  W (Proc.devRef .tc main_v130) = val_main_v130 (F := F) x3 ∧
  W (Proc.devRef .tc main_v134) = val_main_v134 (F := F) x3 ∧
  W (Proc.devRef .tc main_v138) = val_main_v138 (F := F) x3 ∧
  W (Proc.devRef .tc main_v141) = val_main_v141 (F := F) x3 ∧
  W (Proc.devRef .tc main_v3) = val_main_v3 (F := F) x0 ∧
  W (Proc.devRef .tc main_v6) = val_main_v6 (F := F) x0 ∧
  W (Proc.devRef .tc main_v80) = val_main_v80 (F := F) x0 x1 x2 ∧
  W (Proc.devRef .tc main_v89) = val_main_v89 (F := F) x4

def part21 : List (HloOp τ sig (Elt F)) :=
  hostOps0_45 ++ hostOps0_46 ++ hostOps0_47 ++ hostOps0_48 ++ hostOps0_49 ++ hostOps0_50 ++ hostOps0_51

/-- The buffers still to be read before piece 22, at their values. -/
def Live22 (W : Valuation τ sig (Elt F)) (x0 : (⟨S2048x2304, .bf16⟩ : BufTy).Contents (Elt F)) (x1 : (⟨S9216x1152, .i8⟩ : BufTy).Contents (Elt F)) (x2 : (⟨S9216x72, .i8⟩ : BufTy).Contents (Elt F)) (x3 : (⟨S9216x1152, .i8⟩ : BufTy).Contents (Elt F)) (x4 : (⟨S9216x72, .i8⟩ : BufTy).Contents (Elt F)) : Prop :=
  W (Proc.devRef .tc main_v120) = val_main_v120 (F := F) x3 x4 ∧
  W (Proc.devRef .tc main_v147) = val_main_v147 (F := F) x3 ∧
  W (Proc.devRef .tc main_v3) = val_main_v3 (F := F) x0 ∧
  W (Proc.devRef .tc main_v6) = val_main_v6 (F := F) x0 ∧
  W (Proc.devRef .tc main_v80) = val_main_v80 (F := F) x0 x1 x2 ∧
  W (Proc.devRef .tc main_v89) = val_main_v89 (F := F) x4

def part22 : List (HloOp τ sig (Elt F)) :=
  hostOps0_52.take 12

/-- The buffers still to be read before piece 23, at their values. -/
def Live23 (W : Valuation τ sig (Elt F)) (x0 : (⟨S2048x2304, .bf16⟩ : BufTy).Contents (Elt F)) (x1 : (⟨S9216x1152, .i8⟩ : BufTy).Contents (Elt F)) (x2 : (⟨S9216x72, .i8⟩ : BufTy).Contents (Elt F)) (x3 : (⟨S9216x1152, .i8⟩ : BufTy).Contents (Elt F)) (x4 : (⟨S9216x72, .i8⟩ : BufTy).Contents (Elt F)) : Prop :=
  W (Proc.devRef .tc main_v154) = val_main_v154 (F := F) x0 x3 x4 ∧
  W (Proc.devRef .tc main_v158) = val_main_v158 (F := F) x0 x1 x2 ∧
  W (Proc.devRef .tc main_v80) = val_main_v80 (F := F) x0 x1 x2

def part23 : List (HloOp τ sig (Elt F)) :=
  (hostOps0_52.drop 12).take 12

/-- The buffers still to be read before piece 24, at their values. -/
def Live24 (W : Valuation τ sig (Elt F)) (x0 : (⟨S2048x2304, .bf16⟩ : BufTy).Contents (Elt F)) (x1 : (⟨S9216x1152, .i8⟩ : BufTy).Contents (Elt F)) (x2 : (⟨S9216x72, .i8⟩ : BufTy).Contents (Elt F)) (x3 : (⟨S9216x1152, .i8⟩ : BufTy).Contents (Elt F)) (x4 : (⟨S9216x72, .i8⟩ : BufTy).Contents (Elt F)) : Prop :=
  W (Proc.devRef .tc main_v162) = val_main_v162 (F := F) x0 x1 x2 x3 x4 ∧
  W (Proc.devRef .tc main_v165) = val_main_v165 (F := F) x0 x1 x2 x3 x4 ∧
  W (Proc.devRef .tc main_v166) = val_main_v166 (F := F) x0 x1 x2 x3 x4 ∧
  W (Proc.devRef .tc main_v167) = val_main_v167 (F := F)

def part24 : List (HloOp τ sig (Elt F)) :=
  (hostOps0_52.drop 24).take 12

/-- The buffers still to be read before piece 25, at their values. -/
def Live25 (W : Valuation τ sig (Elt F)) (x0 : (⟨S2048x2304, .bf16⟩ : BufTy).Contents (Elt F)) (x1 : (⟨S9216x1152, .i8⟩ : BufTy).Contents (Elt F)) (x2 : (⟨S9216x72, .i8⟩ : BufTy).Contents (Elt F)) (x3 : (⟨S9216x1152, .i8⟩ : BufTy).Contents (Elt F)) (x4 : (⟨S9216x72, .i8⟩ : BufTy).Contents (Elt F)) : Prop :=
  W (Proc.devRef .tc main_cst_77) = val_main_cst_77 (F := F) ∧
  W (Proc.devRef .tc main_v162) = val_main_v162 (F := F) x0 x1 x2 x3 x4 ∧
  W (Proc.devRef .tc main_v172) = val_main_v172 (F := F) x0 x1 x2 x3 x4 ∧
  W (Proc.devRef .tc main_v174) = val_main_v174 (F := F) x0 x1 x2 x3 x4 ∧
  W (Proc.devRef .tc main_v175) = val_main_v175 (F := F)

def part25 : List (HloOp τ sig (Elt F)) :=
  (hostOps0_52.drop 36).take 12

/-- The buffers still to be read before piece 26, at their values. -/
def Live26 (W : Valuation τ sig (Elt F)) (x0 : (⟨S2048x2304, .bf16⟩ : BufTy).Contents (Elt F)) (x1 : (⟨S9216x1152, .i8⟩ : BufTy).Contents (Elt F)) (x2 : (⟨S9216x72, .i8⟩ : BufTy).Contents (Elt F)) (x3 : (⟨S9216x1152, .i8⟩ : BufTy).Contents (Elt F)) (x4 : (⟨S9216x72, .i8⟩ : BufTy).Contents (Elt F)) : Prop :=
  W (Proc.devRef .tc main_v162) = val_main_v162 (F := F) x0 x1 x2 x3 x4 ∧
  W (Proc.devRef .tc main_v174) = val_main_v174 (F := F) x0 x1 x2 x3 x4 ∧
  W (Proc.devRef .tc main_v175) = val_main_v175 (F := F) ∧
  W (Proc.devRef .tc main_v177) = val_main_v177 (F := F) x0 x1 x2 x3 x4

def part26 : List (HloOp τ sig (Elt F)) :=
  hostOps0_53 ++ hostOps0_54 ++ hostOps0_55

/-- The buffers still to be read before piece 27, at their values. -/
def Live27 (W : Valuation τ sig (Elt F)) (x0 : (⟨S2048x2304, .bf16⟩ : BufTy).Contents (Elt F)) (x1 : (⟨S9216x1152, .i8⟩ : BufTy).Contents (Elt F)) (x2 : (⟨S9216x72, .i8⟩ : BufTy).Contents (Elt F)) (x3 : (⟨S9216x1152, .i8⟩ : BufTy).Contents (Elt F)) (x4 : (⟨S9216x72, .i8⟩ : BufTy).Contents (Elt F)) : Prop :=
  W (Proc.devRef .tc main_v162) = val_main_v162 (F := F) x0 x1 x2 x3 x4 ∧
  W (Proc.devRef .tc main_v179) = val_main_v179 (F := F) x0 x1 x2 x3 x4

def part27 : List (HloOp τ sig (Elt F)) :=
  hostOps0_56

/-- The buffers still to be read before piece 28, at their values. -/
def Live28 (W : Valuation τ sig (Elt F)) (x0 : (⟨S2048x2304, .bf16⟩ : BufTy).Contents (Elt F)) (x1 : (⟨S9216x1152, .i8⟩ : BufTy).Contents (Elt F)) (x2 : (⟨S9216x72, .i8⟩ : BufTy).Contents (Elt F)) (x3 : (⟨S9216x1152, .i8⟩ : BufTy).Contents (Elt F)) (x4 : (⟨S9216x72, .i8⟩ : BufTy).Contents (Elt F)) : Prop :=
  W (Proc.devRef .tc main_cst_81) = val_main_cst_81 (F := F) ∧
  W (Proc.devRef .tc main_cst_82) = val_main_cst_82 (F := F) ∧
  W (Proc.devRef .tc main_v179) = val_main_v179 (F := F) x0 x1 x2 x3 x4 ∧
  W (Proc.devRef .tc main_v186) = val_main_v186 (F := F) x0 x1 x2 x3 x4

def part28 : List (HloOp τ sig (Elt F)) :=
  hostOps0_57

/-- The buffers still to be read before piece 29, at their values. -/
def Live29 (W : Valuation τ sig (Elt F)) (x0 : (⟨S2048x2304, .bf16⟩ : BufTy).Contents (Elt F)) (x1 : (⟨S9216x1152, .i8⟩ : BufTy).Contents (Elt F)) (x2 : (⟨S9216x72, .i8⟩ : BufTy).Contents (Elt F)) (x3 : (⟨S9216x1152, .i8⟩ : BufTy).Contents (Elt F)) (x4 : (⟨S9216x72, .i8⟩ : BufTy).Contents (Elt F)) : Prop :=
  W (Proc.devRef .tc main_v179) = val_main_v179 (F := F) x0 x1 x2 x3 x4 ∧
  W (Proc.devRef .tc main_v187) = val_main_v187 (F := F) x0 x1 x2 x3 x4

def part29 : List (HloOp τ sig (Elt F)) :=
  hostOps0_58.take 12

/-- The buffers still to be read before piece 30, at their values. -/
def Live30 (W : Valuation τ sig (Elt F)) (x0 : (⟨S2048x2304, .bf16⟩ : BufTy).Contents (Elt F)) (x1 : (⟨S9216x1152, .i8⟩ : BufTy).Contents (Elt F)) (x2 : (⟨S9216x72, .i8⟩ : BufTy).Contents (Elt F)) (x3 : (⟨S9216x1152, .i8⟩ : BufTy).Contents (Elt F)) (x4 : (⟨S9216x72, .i8⟩ : BufTy).Contents (Elt F)) : Prop :=
  W (Proc.devRef .tc main_v187) = val_main_v187 (F := F) x0 x1 x2 x3 x4 ∧
  W (Proc.devRef .tc main_v193) = val_main_v193 (F := F) x0 x1 x2 x3 x4 ∧
  W (Proc.devRef .tc main_v197) = val_main_v197 (F := F) x0 x1 x2 x3 x4

def part30 : List (HloOp τ sig (Elt F)) :=
  (hostOps0_58.drop 12).take 12

/-- The buffers still to be read before piece 31, at their values. -/
def Live31 (W : Valuation τ sig (Elt F)) (x0 : (⟨S2048x2304, .bf16⟩ : BufTy).Contents (Elt F)) (x1 : (⟨S9216x1152, .i8⟩ : BufTy).Contents (Elt F)) (x2 : (⟨S9216x72, .i8⟩ : BufTy).Contents (Elt F)) (x3 : (⟨S9216x1152, .i8⟩ : BufTy).Contents (Elt F)) (x4 : (⟨S9216x72, .i8⟩ : BufTy).Contents (Elt F)) : Prop :=
  W (Proc.devRef .tc main_v187) = val_main_v187 (F := F) x0 x1 x2 x3 x4 ∧
  W (Proc.devRef .tc main_v197) = val_main_v197 (F := F) x0 x1 x2 x3 x4 ∧
  W (Proc.devRef .tc main_v200) = val_main_v200 (F := F) x0 x1 x2 x3 x4 ∧
  W (Proc.devRef .tc main_v203) = val_main_v203 (F := F) x0 x1 x2 x3 x4

set_option maxRecDepth 8192 in
set_option maxHeartbeats 2000000 in
theorem step0 (W : Valuation τ sig (Elt F)) (x0 : (⟨S2048x2304, .bf16⟩ : BufTy).Contents (Elt F)) (x1 : (⟨S9216x1152, .i8⟩ : BufTy).Contents (Elt F)) (x2 : (⟨S9216x72, .i8⟩ : BufTy).Contents (Elt F)) (x3 : (⟨S9216x1152, .i8⟩ : BufTy).Contents (Elt F)) (x4 : (⟨S9216x72, .i8⟩ : BufTy).Contents (Elt F)) (h : Live0 W x0 x1 x2 x3 x4) :
    Live1 (after part0 W) x0 x1 x2 x3 x4 := by
  obtain ⟨h0, h1, h2, h3, h4⟩ := h
  refine ⟨?_, ?_, ?_, ?_, ?_, ?_, ?_⟩
  · simp only [part0, hostOps0, List.take_succ_cons, List.take_zero, List.take_nil, List.drop_succ_cons, List.drop_zero]
    after_results_simp
    exact h3
  · simp only [part0, hostOps0, List.take_succ_cons, List.take_zero, List.take_nil, List.drop_succ_cons, List.drop_zero]
    after_results_simp
    exact h4
  · simp only [part0, hostOps0, List.take_succ_cons, List.take_zero, List.take_nil, List.drop_succ_cons, List.drop_zero]
    after_results_simp
    try simp only [h0, h1, h2, h3, h4]
    rfl
  · simp only [part0, hostOps0, List.take_succ_cons, List.take_zero, List.take_nil, List.drop_succ_cons, List.drop_zero]
    after_results_simp
    try simp only [h0, h1, h2, h3, h4]
    rfl
  · simp only [part0, hostOps0, List.take_succ_cons, List.take_zero, List.take_nil, List.drop_succ_cons, List.drop_zero]
    after_results_simp
    try simp only [h0, h1, h2, h3, h4]
    rfl
  · simp only [part0, hostOps0, List.take_succ_cons, List.take_zero, List.take_nil, List.drop_succ_cons, List.drop_zero]
    after_results_simp
    try simp only [h0, h1, h2, h3, h4]
    rfl
  · simp only [part0, hostOps0, List.take_succ_cons, List.take_zero, List.take_nil, List.drop_succ_cons, List.drop_zero]
    after_results_simp
    try simp only [h0, h1, h2, h3, h4]
    rfl

set_option maxRecDepth 8192 in
set_option maxHeartbeats 2000000 in
theorem step1 (W : Valuation τ sig (Elt F)) (x0 : (⟨S2048x2304, .bf16⟩ : BufTy).Contents (Elt F)) (x1 : (⟨S9216x1152, .i8⟩ : BufTy).Contents (Elt F)) (x2 : (⟨S9216x72, .i8⟩ : BufTy).Contents (Elt F)) (x3 : (⟨S9216x1152, .i8⟩ : BufTy).Contents (Elt F)) (x4 : (⟨S9216x72, .i8⟩ : BufTy).Contents (Elt F)) (h : Live1 W x0 x1 x2 x3 x4) :
    Live2 (after part1 W) x0 x1 x2 x3 x4 := by
  obtain ⟨h0, h1, h2, h3, h4, h5, h6⟩ := h
  refine ⟨?_, ?_, ?_, ?_, ?_, ?_, ?_, ?_⟩
  · simp only [part1, hostOps0, List.take_succ_cons, List.take_zero, List.take_nil, List.drop_succ_cons, List.drop_zero]
    after_results_simp
    exact h0
  · simp only [part1, hostOps0, List.take_succ_cons, List.take_zero, List.take_nil, List.drop_succ_cons, List.drop_zero]
    after_results_simp
    exact h1
  · simp only [part1, hostOps0, List.take_succ_cons, List.take_zero, List.take_nil, List.drop_succ_cons, List.drop_zero]
    after_results_simp
    try simp only [h0, h1, h2, h3, h4, h5, h6]
    rfl
  · simp only [part1, hostOps0, List.take_succ_cons, List.take_zero, List.take_nil, List.drop_succ_cons, List.drop_zero]
    after_results_simp
    try simp only [h0, h1, h2, h3, h4, h5, h6]
    rfl
  · simp only [part1, hostOps0, List.take_succ_cons, List.take_zero, List.take_nil, List.drop_succ_cons, List.drop_zero]
    after_results_simp
    try simp only [h0, h1, h2, h3, h4, h5, h6]
    rfl
  · simp only [part1, hostOps0, List.take_succ_cons, List.take_zero, List.take_nil, List.drop_succ_cons, List.drop_zero]
    after_results_simp
    exact h3
  · simp only [part1, hostOps0, List.take_succ_cons, List.take_zero, List.take_nil, List.drop_succ_cons, List.drop_zero]
    after_results_simp
    exact h4
  · simp only [part1, hostOps0, List.take_succ_cons, List.take_zero, List.take_nil, List.drop_succ_cons, List.drop_zero]
    after_results_simp
    exact h5

set_option maxRecDepth 8192 in
set_option maxHeartbeats 2000000 in
theorem step2 (W : Valuation τ sig (Elt F)) (x0 : (⟨S2048x2304, .bf16⟩ : BufTy).Contents (Elt F)) (x1 : (⟨S9216x1152, .i8⟩ : BufTy).Contents (Elt F)) (x2 : (⟨S9216x72, .i8⟩ : BufTy).Contents (Elt F)) (x3 : (⟨S9216x1152, .i8⟩ : BufTy).Contents (Elt F)) (x4 : (⟨S9216x72, .i8⟩ : BufTy).Contents (Elt F)) (h : Live2 W x0 x1 x2 x3 x4) :
    Live3 (after part2 W) x0 x1 x2 x3 x4 := by
  obtain ⟨h0, h1, h2, h3, h4, h5, h6, h7⟩ := h
  refine ⟨?_, ?_, ?_, ?_, ?_, ?_, ?_, ?_, ?_, ?_⟩
  · simp only [part2, hostOps0, List.take_succ_cons, List.take_zero, List.take_nil, List.drop_succ_cons, List.drop_zero]
    after_results_simp
    exact h0
  · simp only [part2, hostOps0, List.take_succ_cons, List.take_zero, List.take_nil, List.drop_succ_cons, List.drop_zero]
    after_results_simp
    exact h1
  · simp only [part2, hostOps0, List.take_succ_cons, List.take_zero, List.take_nil, List.drop_succ_cons, List.drop_zero]
    after_results_simp
    exact h2
  · simp only [part2, hostOps0, List.take_succ_cons, List.take_zero, List.take_nil, List.drop_succ_cons, List.drop_zero]
    after_results_simp
    exact h3
  · simp only [part2, hostOps0, List.take_succ_cons, List.take_zero, List.take_nil, List.drop_succ_cons, List.drop_zero]
    after_results_simp
    try simp only [h0, h1, h2, h3, h4, h5, h6, h7]
    rfl
  · simp only [part2, hostOps0, List.take_succ_cons, List.take_zero, List.take_nil, List.drop_succ_cons, List.drop_zero]
    after_results_simp
    try simp only [h0, h1, h2, h3, h4, h5, h6, h7]
    rfl
  · simp only [part2, hostOps0, List.take_succ_cons, List.take_zero, List.take_nil, List.drop_succ_cons, List.drop_zero]
    after_results_simp
    try simp only [h0, h1, h2, h3, h4, h5, h6, h7]
    rfl
  · simp only [part2, hostOps0, List.take_succ_cons, List.take_zero, List.take_nil, List.drop_succ_cons, List.drop_zero]
    after_results_simp
    exact h5
  · simp only [part2, hostOps0, List.take_succ_cons, List.take_zero, List.take_nil, List.drop_succ_cons, List.drop_zero]
    after_results_simp
    exact h6
  · simp only [part2, hostOps0, List.take_succ_cons, List.take_zero, List.take_nil, List.drop_succ_cons, List.drop_zero]
    after_results_simp
    exact h7

set_option maxRecDepth 8192 in
set_option maxHeartbeats 2000000 in
theorem step3 (W : Valuation τ sig (Elt F)) (x0 : (⟨S2048x2304, .bf16⟩ : BufTy).Contents (Elt F)) (x1 : (⟨S9216x1152, .i8⟩ : BufTy).Contents (Elt F)) (x2 : (⟨S9216x72, .i8⟩ : BufTy).Contents (Elt F)) (x3 : (⟨S9216x1152, .i8⟩ : BufTy).Contents (Elt F)) (x4 : (⟨S9216x72, .i8⟩ : BufTy).Contents (Elt F)) (h : Live3 W x0 x1 x2 x3 x4) :
    Live4 (after part3 W) x0 x1 x2 x3 x4 := by
  obtain ⟨h0, h1, h2, h3, h4, h5, h6, h7, h8, h9⟩ := h
  refine ⟨?_, ?_, ?_, ?_, ?_, ?_, ?_, ?_, ?_, ?_, ?_, ?_⟩
  · simp only [part3, hostOps0, List.take_succ_cons, List.take_zero, List.take_nil, List.drop_succ_cons, List.drop_zero]
    after_results_simp
    exact h0
  · simp only [part3, hostOps0, List.take_succ_cons, List.take_zero, List.take_nil, List.drop_succ_cons, List.drop_zero]
    after_results_simp
    exact h1
  · simp only [part3, hostOps0, List.take_succ_cons, List.take_zero, List.take_nil, List.drop_succ_cons, List.drop_zero]
    after_results_simp
    try simp only [h0, h1, h2, h3, h4, h5, h6, h7, h8, h9]
    rfl
  · simp only [part3, hostOps0, List.take_succ_cons, List.take_zero, List.take_nil, List.drop_succ_cons, List.drop_zero]
    after_results_simp
    try simp only [h0, h1, h2, h3, h4, h5, h6, h7, h8, h9]
    rfl
  · simp only [part3, hostOps0, List.take_succ_cons, List.take_zero, List.take_nil, List.drop_succ_cons, List.drop_zero]
    after_results_simp
    exact h2
  · simp only [part3, hostOps0, List.take_succ_cons, List.take_zero, List.take_nil, List.drop_succ_cons, List.drop_zero]
    after_results_simp
    exact h4
  · simp only [part3, hostOps0, List.take_succ_cons, List.take_zero, List.take_nil, List.drop_succ_cons, List.drop_zero]
    after_results_simp
    exact h5
  · simp only [part3, hostOps0, List.take_succ_cons, List.take_zero, List.take_nil, List.drop_succ_cons, List.drop_zero]
    after_results_simp
    try simp only [h0, h1, h2, h3, h4, h5, h6, h7, h8, h9]
    rfl
  · simp only [part3, hostOps0, List.take_succ_cons, List.take_zero, List.take_nil, List.drop_succ_cons, List.drop_zero]
    after_results_simp
    exact h7
  · simp only [part3, hostOps0, List.take_succ_cons, List.take_zero, List.take_nil, List.drop_succ_cons, List.drop_zero]
    after_results_simp
    try simp only [h0, h1, h2, h3, h4, h5, h6, h7, h8, h9]
    rfl
  · simp only [part3, hostOps0, List.take_succ_cons, List.take_zero, List.take_nil, List.drop_succ_cons, List.drop_zero]
    after_results_simp
    exact h8
  · simp only [part3, hostOps0, List.take_succ_cons, List.take_zero, List.take_nil, List.drop_succ_cons, List.drop_zero]
    after_results_simp
    exact h9

set_option maxRecDepth 8192 in
set_option maxHeartbeats 2000000 in
theorem step4 (W : Valuation τ sig (Elt F)) (x0 : (⟨S2048x2304, .bf16⟩ : BufTy).Contents (Elt F)) (x1 : (⟨S9216x1152, .i8⟩ : BufTy).Contents (Elt F)) (x2 : (⟨S9216x72, .i8⟩ : BufTy).Contents (Elt F)) (x3 : (⟨S9216x1152, .i8⟩ : BufTy).Contents (Elt F)) (x4 : (⟨S9216x72, .i8⟩ : BufTy).Contents (Elt F)) (h : Live4 W x0 x1 x2 x3 x4) :
    Live5 (after part4 W) x0 x1 x2 x3 x4 := by
  obtain ⟨h0, h1, h2, h3, h4, h5, h6, h7, h8, h9, h10, h11⟩ := h
  refine ⟨?_, ?_, ?_, ?_, ?_, ?_, ?_, ?_, ?_, ?_, ?_, ?_, ?_⟩
  · simp only [part4, hostOps0_1, hostOps0_2, hostOps0_3, hostOps0_4, hostOps0_5, List.cons_append, List.nil_append]
    after_results_simp
    exact h0
  · simp only [part4, hostOps0_1, hostOps0_2, hostOps0_3, hostOps0_4, hostOps0_5, List.cons_append, List.nil_append]
    after_results_simp
    exact h1
  · simp only [part4, hostOps0_1, hostOps0_2, hostOps0_3, hostOps0_4, hostOps0_5, List.cons_append, List.nil_append]
    after_results_simp
    try simp only [h0, h1, h2, h3, h4, h5, h6, h7, h8, h9, h10, h11]
    rfl
  · simp only [part4, hostOps0_1, hostOps0_2, hostOps0_3, hostOps0_4, hostOps0_5, List.cons_append, List.nil_append]
    after_results_simp
    try simp only [h0, h1, h2, h3, h4, h5, h6, h7, h8, h9, h10, h11]
    rfl
  · simp only [part4, hostOps0_1, hostOps0_2, hostOps0_3, hostOps0_4, hostOps0_5, List.cons_append, List.nil_append]
    after_results_simp
    exact h4
  · simp only [part4, hostOps0_1, hostOps0_2, hostOps0_3, hostOps0_4, hostOps0_5, List.cons_append, List.nil_append]
    after_results_simp
    exact h5
  · simp only [part4, hostOps0_1, hostOps0_2, hostOps0_3, hostOps0_4, hostOps0_5, List.cons_append, List.nil_append]
    after_results_simp
    exact h6
  · simp only [part4, hostOps0_1, hostOps0_2, hostOps0_3, hostOps0_4, hostOps0_5, List.cons_append, List.nil_append]
    after_results_simp
    exact h7
  · simp only [part4, hostOps0_1, hostOps0_2, hostOps0_3, hostOps0_4, hostOps0_5, List.cons_append, List.nil_append]
    after_results_simp
    exact h8
  · simp only [part4, hostOps0_1, hostOps0_2, hostOps0_3, hostOps0_4, hostOps0_5, List.cons_append, List.nil_append]
    after_results_simp
    exact h9
  · simp only [part4, hostOps0_1, hostOps0_2, hostOps0_3, hostOps0_4, hostOps0_5, List.cons_append, List.nil_append]
    after_results_simp
    try simp only [h0, h1, h2, h3, h4, h5, h6, h7, h8, h9, h10, h11]
    rfl
  · simp only [part4, hostOps0_1, hostOps0_2, hostOps0_3, hostOps0_4, hostOps0_5, List.cons_append, List.nil_append]
    after_results_simp
    exact h10
  · simp only [part4, hostOps0_1, hostOps0_2, hostOps0_3, hostOps0_4, hostOps0_5, List.cons_append, List.nil_append]
    after_results_simp
    exact h11

set_option maxRecDepth 8192 in
set_option maxHeartbeats 2000000 in
theorem step5 (W : Valuation τ sig (Elt F)) (x0 : (⟨S2048x2304, .bf16⟩ : BufTy).Contents (Elt F)) (x1 : (⟨S9216x1152, .i8⟩ : BufTy).Contents (Elt F)) (x2 : (⟨S9216x72, .i8⟩ : BufTy).Contents (Elt F)) (x3 : (⟨S9216x1152, .i8⟩ : BufTy).Contents (Elt F)) (x4 : (⟨S9216x72, .i8⟩ : BufTy).Contents (Elt F)) (h : Live5 W x0 x1 x2 x3 x4) :
    Live6 (after part5 W) x0 x1 x2 x3 x4 := by
  obtain ⟨h0, h1, h2, h3, h4, h5, h6, h7, h8, h9, h10, h11, h12⟩ := h
  refine ⟨?_, ?_, ?_, ?_, ?_, ?_, ?_⟩
  · simp only [part5, hostOps0_10, hostOps0_11, hostOps0_12, hostOps0_6, hostOps0_7, hostOps0_8, hostOps0_9, List.cons_append, List.nil_append]
    after_results_simp
    exact h0
  · simp only [part5, hostOps0_10, hostOps0_11, hostOps0_12, hostOps0_6, hostOps0_7, hostOps0_8, hostOps0_9, List.cons_append, List.nil_append]
    after_results_simp
    exact h1
  · simp only [part5, hostOps0_10, hostOps0_11, hostOps0_12, hostOps0_6, hostOps0_7, hostOps0_8, hostOps0_9, List.cons_append, List.nil_append]
    after_results_simp
    exact h4
  · simp only [part5, hostOps0_10, hostOps0_11, hostOps0_12, hostOps0_6, hostOps0_7, hostOps0_8, hostOps0_9, List.cons_append, List.nil_append]
    after_results_simp
    exact h8
  · simp only [part5, hostOps0_10, hostOps0_11, hostOps0_12, hostOps0_6, hostOps0_7, hostOps0_8, hostOps0_9, List.cons_append, List.nil_append]
    after_results_simp
    try simp only [h0, h1, h2, h3, h4, h5, h6, h7, h8, h9, h10, h11, h12]
    rfl
  · simp only [part5, hostOps0_10, hostOps0_11, hostOps0_12, hostOps0_6, hostOps0_7, hostOps0_8, hostOps0_9, List.cons_append, List.nil_append]
    after_results_simp
    exact h11
  · simp only [part5, hostOps0_10, hostOps0_11, hostOps0_12, hostOps0_6, hostOps0_7, hostOps0_8, hostOps0_9, List.cons_append, List.nil_append]
    after_results_simp
    exact h12

set_option maxRecDepth 8192 in
set_option maxHeartbeats 2000000 in
theorem step6 (W : Valuation τ sig (Elt F)) (x0 : (⟨S2048x2304, .bf16⟩ : BufTy).Contents (Elt F)) (x1 : (⟨S9216x1152, .i8⟩ : BufTy).Contents (Elt F)) (x2 : (⟨S9216x72, .i8⟩ : BufTy).Contents (Elt F)) (x3 : (⟨S9216x1152, .i8⟩ : BufTy).Contents (Elt F)) (x4 : (⟨S9216x72, .i8⟩ : BufTy).Contents (Elt F)) (h : Live6 W x0 x1 x2 x3 x4) :
    Live7 (after part6 W) x0 x1 x2 x3 x4 := by
  obtain ⟨h0, h1, h2, h3, h4, h5, h6⟩ := h
  refine ⟨?_, ?_, ?_, ?_, ?_, ?_, ?_, ?_, ?_⟩
  · simp only [part6, hostOps0_13, List.take_succ_cons, List.take_zero, List.take_nil, List.drop_succ_cons, List.drop_zero]
    after_results_simp
    exact h0
  · simp only [part6, hostOps0_13, List.take_succ_cons, List.take_zero, List.take_nil, List.drop_succ_cons, List.drop_zero]
    after_results_simp
    exact h1
  · simp only [part6, hostOps0_13, List.take_succ_cons, List.take_zero, List.take_nil, List.drop_succ_cons, List.drop_zero]
    after_results_simp
    exact h2
  · simp only [part6, hostOps0_13, List.take_succ_cons, List.take_zero, List.take_nil, List.drop_succ_cons, List.drop_zero]
    after_results_simp
    exact h3
  · simp only [part6, hostOps0_13, List.take_succ_cons, List.take_zero, List.take_nil, List.drop_succ_cons, List.drop_zero]
    after_results_simp
    try simp only [h0, h1, h2, h3, h4, h5, h6]
    rfl
  · simp only [part6, hostOps0_13, List.take_succ_cons, List.take_zero, List.take_nil, List.drop_succ_cons, List.drop_zero]
    after_results_simp
    try simp only [h0, h1, h2, h3, h4, h5, h6]
    rfl
  · simp only [part6, hostOps0_13, List.take_succ_cons, List.take_zero, List.take_nil, List.drop_succ_cons, List.drop_zero]
    after_results_simp
    try simp only [h0, h1, h2, h3, h4, h5, h6]
    rfl
  · simp only [part6, hostOps0_13, List.take_succ_cons, List.take_zero, List.take_nil, List.drop_succ_cons, List.drop_zero]
    after_results_simp
    try simp only [h0, h1, h2, h3, h4, h5, h6]
    rfl
  · simp only [part6, hostOps0_13, List.take_succ_cons, List.take_zero, List.take_nil, List.drop_succ_cons, List.drop_zero]
    after_results_simp
    exact h5

set_option maxRecDepth 8192 in
set_option maxHeartbeats 2000000 in
theorem step7 (W : Valuation τ sig (Elt F)) (x0 : (⟨S2048x2304, .bf16⟩ : BufTy).Contents (Elt F)) (x1 : (⟨S9216x1152, .i8⟩ : BufTy).Contents (Elt F)) (x2 : (⟨S9216x72, .i8⟩ : BufTy).Contents (Elt F)) (x3 : (⟨S9216x1152, .i8⟩ : BufTy).Contents (Elt F)) (x4 : (⟨S9216x72, .i8⟩ : BufTy).Contents (Elt F)) (h : Live7 W x0 x1 x2 x3 x4) :
    Live8 (after part7 W) x0 x1 x2 x3 x4 := by
  obtain ⟨h0, h1, h2, h3, h4, h5, h6, h7, h8⟩ := h
  refine ⟨?_, ?_, ?_, ?_, ?_, ?_, ?_, ?_, ?_, ?_, ?_⟩
  · simp only [part7, hostOps0_13, List.take_succ_cons, List.take_zero, List.take_nil, List.drop_succ_cons, List.drop_zero]
    after_results_simp
    exact h0
  · simp only [part7, hostOps0_13, List.take_succ_cons, List.take_zero, List.take_nil, List.drop_succ_cons, List.drop_zero]
    after_results_simp
    exact h1
  · simp only [part7, hostOps0_13, List.take_succ_cons, List.take_zero, List.take_nil, List.drop_succ_cons, List.drop_zero]
    after_results_simp
    exact h2
  · simp only [part7, hostOps0_13, List.take_succ_cons, List.take_zero, List.take_nil, List.drop_succ_cons, List.drop_zero]
    after_results_simp
    exact h3
  · simp only [part7, hostOps0_13, List.take_succ_cons, List.take_zero, List.take_nil, List.drop_succ_cons, List.drop_zero]
    after_results_simp
    exact h4
  · simp only [part7, hostOps0_13, List.take_succ_cons, List.take_zero, List.take_nil, List.drop_succ_cons, List.drop_zero]
    after_results_simp
    exact h5
  · simp only [part7, hostOps0_13, List.take_succ_cons, List.take_zero, List.take_nil, List.drop_succ_cons, List.drop_zero]
    after_results_simp
    try simp only [h0, h1, h2, h3, h4, h5, h6, h7, h8]
    rfl
  · simp only [part7, hostOps0_13, List.take_succ_cons, List.take_zero, List.take_nil, List.drop_succ_cons, List.drop_zero]
    after_results_simp
    try simp only [h0, h1, h2, h3, h4, h5, h6, h7, h8]
    rfl
  · simp only [part7, hostOps0_13, List.take_succ_cons, List.take_zero, List.take_nil, List.drop_succ_cons, List.drop_zero]
    after_results_simp
    try simp only [h0, h1, h2, h3, h4, h5, h6, h7, h8]
    rfl
  · simp only [part7, hostOps0_13, List.take_succ_cons, List.take_zero, List.take_nil, List.drop_succ_cons, List.drop_zero]
    after_results_simp
    try simp only [h0, h1, h2, h3, h4, h5, h6, h7, h8]
    rfl
  · simp only [part7, hostOps0_13, List.take_succ_cons, List.take_zero, List.take_nil, List.drop_succ_cons, List.drop_zero]
    after_results_simp
    exact h8

set_option maxRecDepth 8192 in
set_option maxHeartbeats 2000000 in
theorem step8 (W : Valuation τ sig (Elt F)) (x0 : (⟨S2048x2304, .bf16⟩ : BufTy).Contents (Elt F)) (x1 : (⟨S9216x1152, .i8⟩ : BufTy).Contents (Elt F)) (x2 : (⟨S9216x72, .i8⟩ : BufTy).Contents (Elt F)) (x3 : (⟨S9216x1152, .i8⟩ : BufTy).Contents (Elt F)) (x4 : (⟨S9216x72, .i8⟩ : BufTy).Contents (Elt F)) (h : Live8 W x0 x1 x2 x3 x4) :
    Live9 (after part8 W) x0 x1 x2 x3 x4 := by
  obtain ⟨h0, h1, h2, h3, h4, h5, h6, h7, h8, h9, h10⟩ := h
  refine ⟨?_, ?_, ?_, ?_, ?_, ?_, ?_, ?_, ?_, ?_, ?_, ?_⟩
  · simp only [part8, hostOps0_13, List.take_succ_cons, List.take_zero, List.take_nil, List.drop_succ_cons, List.drop_zero]
    after_results_simp
    exact h0
  · simp only [part8, hostOps0_13, List.take_succ_cons, List.take_zero, List.take_nil, List.drop_succ_cons, List.drop_zero]
    after_results_simp
    exact h1
  · simp only [part8, hostOps0_13, List.take_succ_cons, List.take_zero, List.take_nil, List.drop_succ_cons, List.drop_zero]
    after_results_simp
    try simp only [h0, h1, h2, h3, h4, h5, h6, h7, h8, h9, h10]
    rfl
  · simp only [part8, hostOps0_13, List.take_succ_cons, List.take_zero, List.take_nil, List.drop_succ_cons, List.drop_zero]
    after_results_simp
    try simp only [h0, h1, h2, h3, h4, h5, h6, h7, h8, h9, h10]
    rfl
  · simp only [part8, hostOps0_13, List.take_succ_cons, List.take_zero, List.take_nil, List.drop_succ_cons, List.drop_zero]
    after_results_simp
    exact h2
  · simp only [part8, hostOps0_13, List.take_succ_cons, List.take_zero, List.take_nil, List.drop_succ_cons, List.drop_zero]
    after_results_simp
    exact h3
  · simp only [part8, hostOps0_13, List.take_succ_cons, List.take_zero, List.take_nil, List.drop_succ_cons, List.drop_zero]
    after_results_simp
    exact h4
  · simp only [part8, hostOps0_13, List.take_succ_cons, List.take_zero, List.take_nil, List.drop_succ_cons, List.drop_zero]
    after_results_simp
    exact h6
  · simp only [part8, hostOps0_13, List.take_succ_cons, List.take_zero, List.take_nil, List.drop_succ_cons, List.drop_zero]
    after_results_simp
    exact h7
  · simp only [part8, hostOps0_13, List.take_succ_cons, List.take_zero, List.take_nil, List.drop_succ_cons, List.drop_zero]
    after_results_simp
    exact h10
  · simp only [part8, hostOps0_13, List.take_succ_cons, List.take_zero, List.take_nil, List.drop_succ_cons, List.drop_zero]
    after_results_simp
    try simp only [h0, h1, h2, h3, h4, h5, h6, h7, h8, h9, h10]
    rfl
  · simp only [part8, hostOps0_13, List.take_succ_cons, List.take_zero, List.take_nil, List.drop_succ_cons, List.drop_zero]
    after_results_simp
    try simp only [h0, h1, h2, h3, h4, h5, h6, h7, h8, h9, h10]
    rfl

set_option maxRecDepth 8192 in
set_option maxHeartbeats 2000000 in
theorem step9 (W : Valuation τ sig (Elt F)) (x0 : (⟨S2048x2304, .bf16⟩ : BufTy).Contents (Elt F)) (x1 : (⟨S9216x1152, .i8⟩ : BufTy).Contents (Elt F)) (x2 : (⟨S9216x72, .i8⟩ : BufTy).Contents (Elt F)) (x3 : (⟨S9216x1152, .i8⟩ : BufTy).Contents (Elt F)) (x4 : (⟨S9216x72, .i8⟩ : BufTy).Contents (Elt F)) (h : Live9 W x0 x1 x2 x3 x4) :
    Live10 (after part9 W) x0 x1 x2 x3 x4 := by
  obtain ⟨h0, h1, h2, h3, h4, h5, h6, h7, h8, h9, h10, h11⟩ := h
  refine ⟨?_, ?_, ?_, ?_, ?_, ?_, ?_, ?_, ?_, ?_, ?_, ?_, ?_⟩
  · simp only [part9, hostOps0_14, hostOps0_15, hostOps0_16, hostOps0_17, hostOps0_18, List.cons_append, List.nil_append]
    after_results_simp
    exact h0
  · simp only [part9, hostOps0_14, hostOps0_15, hostOps0_16, hostOps0_17, hostOps0_18, List.cons_append, List.nil_append]
    after_results_simp
    exact h1
  · simp only [part9, hostOps0_14, hostOps0_15, hostOps0_16, hostOps0_17, hostOps0_18, List.cons_append, List.nil_append]
    after_results_simp
    try simp only [h0, h1, h2, h3, h4, h5, h6, h7, h8, h9, h10, h11]
    rfl
  · simp only [part9, hostOps0_14, hostOps0_15, hostOps0_16, hostOps0_17, hostOps0_18, List.cons_append, List.nil_append]
    after_results_simp
    try simp only [h0, h1, h2, h3, h4, h5, h6, h7, h8, h9, h10, h11]
    rfl
  · simp only [part9, hostOps0_14, hostOps0_15, hostOps0_16, hostOps0_17, hostOps0_18, List.cons_append, List.nil_append]
    after_results_simp
    exact h4
  · simp only [part9, hostOps0_14, hostOps0_15, hostOps0_16, hostOps0_17, hostOps0_18, List.cons_append, List.nil_append]
    after_results_simp
    exact h5
  · simp only [part9, hostOps0_14, hostOps0_15, hostOps0_16, hostOps0_17, hostOps0_18, List.cons_append, List.nil_append]
    after_results_simp
    exact h6
  · simp only [part9, hostOps0_14, hostOps0_15, hostOps0_16, hostOps0_17, hostOps0_18, List.cons_append, List.nil_append]
    after_results_simp
    exact h7
  · simp only [part9, hostOps0_14, hostOps0_15, hostOps0_16, hostOps0_17, hostOps0_18, List.cons_append, List.nil_append]
    after_results_simp
    exact h8
  · simp only [part9, hostOps0_14, hostOps0_15, hostOps0_16, hostOps0_17, hostOps0_18, List.cons_append, List.nil_append]
    after_results_simp
    exact h9
  · simp only [part9, hostOps0_14, hostOps0_15, hostOps0_16, hostOps0_17, hostOps0_18, List.cons_append, List.nil_append]
    after_results_simp
    exact h10
  · simp only [part9, hostOps0_14, hostOps0_15, hostOps0_16, hostOps0_17, hostOps0_18, List.cons_append, List.nil_append]
    after_results_simp
    exact h11
  · simp only [part9, hostOps0_14, hostOps0_15, hostOps0_16, hostOps0_17, hostOps0_18, List.cons_append, List.nil_append]
    after_results_simp
    try simp only [h0, h1, h2, h3, h4, h5, h6, h7, h8, h9, h10, h11]
    rfl

set_option maxRecDepth 8192 in
set_option maxHeartbeats 2000000 in
theorem step10 (W : Valuation τ sig (Elt F)) (x0 : (⟨S2048x2304, .bf16⟩ : BufTy).Contents (Elt F)) (x1 : (⟨S9216x1152, .i8⟩ : BufTy).Contents (Elt F)) (x2 : (⟨S9216x72, .i8⟩ : BufTy).Contents (Elt F)) (x3 : (⟨S9216x1152, .i8⟩ : BufTy).Contents (Elt F)) (x4 : (⟨S9216x72, .i8⟩ : BufTy).Contents (Elt F)) (h : Live10 W x0 x1 x2 x3 x4) :
    Live11 (after part10 W) x0 x1 x2 x3 x4 := by
  obtain ⟨h0, h1, h2, h3, h4, h5, h6, h7, h8, h9, h10, h11, h12⟩ := h
  refine ⟨?_, ?_, ?_, ?_, ?_, ?_, ?_⟩
  · simp only [part10, hostOps0_19, hostOps0_20, hostOps0_21, hostOps0_22, hostOps0_23, hostOps0_24, hostOps0_25, List.cons_append, List.nil_append]
    after_results_simp
    exact h0
  · simp only [part10, hostOps0_19, hostOps0_20, hostOps0_21, hostOps0_22, hostOps0_23, hostOps0_24, hostOps0_25, List.cons_append, List.nil_append]
    after_results_simp
    exact h1
  · simp only [part10, hostOps0_19, hostOps0_20, hostOps0_21, hostOps0_22, hostOps0_23, hostOps0_24, hostOps0_25, List.cons_append, List.nil_append]
    after_results_simp
    exact h4
  · simp only [part10, hostOps0_19, hostOps0_20, hostOps0_21, hostOps0_22, hostOps0_23, hostOps0_24, hostOps0_25, List.cons_append, List.nil_append]
    after_results_simp
    exact h5
  · simp only [part10, hostOps0_19, hostOps0_20, hostOps0_21, hostOps0_22, hostOps0_23, hostOps0_24, hostOps0_25, List.cons_append, List.nil_append]
    after_results_simp
    exact h6
  · simp only [part10, hostOps0_19, hostOps0_20, hostOps0_21, hostOps0_22, hostOps0_23, hostOps0_24, hostOps0_25, List.cons_append, List.nil_append]
    after_results_simp
    exact h9
  · simp only [part10, hostOps0_19, hostOps0_20, hostOps0_21, hostOps0_22, hostOps0_23, hostOps0_24, hostOps0_25, List.cons_append, List.nil_append]
    after_results_simp
    try simp only [h0, h1, h2, h3, h4, h5, h6, h7, h8, h9, h10, h11, h12]
    rfl

set_option maxRecDepth 8192 in
set_option maxHeartbeats 2000000 in
theorem step11 (W : Valuation τ sig (Elt F)) (x0 : (⟨S2048x2304, .bf16⟩ : BufTy).Contents (Elt F)) (x1 : (⟨S9216x1152, .i8⟩ : BufTy).Contents (Elt F)) (x2 : (⟨S9216x72, .i8⟩ : BufTy).Contents (Elt F)) (x3 : (⟨S9216x1152, .i8⟩ : BufTy).Contents (Elt F)) (x4 : (⟨S9216x72, .i8⟩ : BufTy).Contents (Elt F)) (h : Live11 W x0 x1 x2 x3 x4) :
    Live12 (after part11 W) x0 x1 x2 x3 x4 := by
  obtain ⟨h0, h1, h2, h3, h4, h5, h6⟩ := h
  refine ⟨?_, ?_, ?_, ?_, ?_, ?_⟩
  · simp only [part11, hostOps0_26, List.take_succ_cons, List.take_zero, List.take_nil, List.drop_succ_cons, List.drop_zero]
    after_results_simp
    exact h3
  · simp only [part11, hostOps0_26, List.take_succ_cons, List.take_zero, List.take_nil, List.drop_succ_cons, List.drop_zero]
    after_results_simp
    exact h5
  · simp only [part11, hostOps0_26, List.take_succ_cons, List.take_zero, List.take_nil, List.drop_succ_cons, List.drop_zero]
    after_results_simp
    try simp only [h0, h1, h2, h3, h4, h5, h6]
    rfl
  · simp only [part11, hostOps0_26, List.take_succ_cons, List.take_zero, List.take_nil, List.drop_succ_cons, List.drop_zero]
    after_results_simp
    try simp only [h0, h1, h2, h3, h4, h5, h6]
    rfl
  · simp only [part11, hostOps0_26, List.take_succ_cons, List.take_zero, List.take_nil, List.drop_succ_cons, List.drop_zero]
    after_results_simp
    try simp only [h0, h1, h2, h3, h4, h5, h6]
    rfl
  · simp only [part11, hostOps0_26, List.take_succ_cons, List.take_zero, List.take_nil, List.drop_succ_cons, List.drop_zero]
    after_results_simp
    try simp only [h0, h1, h2, h3, h4, h5, h6]
    rfl

set_option maxRecDepth 8192 in
set_option maxHeartbeats 2000000 in
theorem step12 (W : Valuation τ sig (Elt F)) (x0 : (⟨S2048x2304, .bf16⟩ : BufTy).Contents (Elt F)) (x1 : (⟨S9216x1152, .i8⟩ : BufTy).Contents (Elt F)) (x2 : (⟨S9216x72, .i8⟩ : BufTy).Contents (Elt F)) (x3 : (⟨S9216x1152, .i8⟩ : BufTy).Contents (Elt F)) (x4 : (⟨S9216x72, .i8⟩ : BufTy).Contents (Elt F)) (h : Live12 W x0 x1 x2 x3 x4) :
    Live13 (after part12 W) x0 x1 x2 x3 x4 := by
  obtain ⟨h0, h1, h2, h3, h4, h5⟩ := h
  refine ⟨?_, ?_, ?_, ?_, ?_, ?_, ?_⟩
  · simp only [part12, hostOps0_26, List.take_succ_cons, List.take_zero, List.take_nil, List.drop_succ_cons, List.drop_zero]
    after_results_simp
    exact h0
  · simp only [part12, hostOps0_26, List.take_succ_cons, List.take_zero, List.take_nil, List.drop_succ_cons, List.drop_zero]
    after_results_simp
    exact h1
  · simp only [part12, hostOps0_26, List.take_succ_cons, List.take_zero, List.take_nil, List.drop_succ_cons, List.drop_zero]
    after_results_simp
    exact h2
  · simp only [part12, hostOps0_26, List.take_succ_cons, List.take_zero, List.take_nil, List.drop_succ_cons, List.drop_zero]
    after_results_simp
    exact h3
  · simp only [part12, hostOps0_26, List.take_succ_cons, List.take_zero, List.take_nil, List.drop_succ_cons, List.drop_zero]
    after_results_simp
    try simp only [h0, h1, h2, h3, h4, h5]
    rfl
  · simp only [part12, hostOps0_26, List.take_succ_cons, List.take_zero, List.take_nil, List.drop_succ_cons, List.drop_zero]
    after_results_simp
    try simp only [h0, h1, h2, h3, h4, h5]
    rfl
  · simp only [part12, hostOps0_26, List.take_succ_cons, List.take_zero, List.take_nil, List.drop_succ_cons, List.drop_zero]
    after_results_simp
    try simp only [h0, h1, h2, h3, h4, h5]
    rfl

set_option maxRecDepth 8192 in
set_option maxHeartbeats 2000000 in
theorem step13 (W : Valuation τ sig (Elt F)) (x0 : (⟨S2048x2304, .bf16⟩ : BufTy).Contents (Elt F)) (x1 : (⟨S9216x1152, .i8⟩ : BufTy).Contents (Elt F)) (x2 : (⟨S9216x72, .i8⟩ : BufTy).Contents (Elt F)) (x3 : (⟨S9216x1152, .i8⟩ : BufTy).Contents (Elt F)) (x4 : (⟨S9216x72, .i8⟩ : BufTy).Contents (Elt F)) (h : Live13 W x0 x1 x2 x3 x4) :
    Live14 (after part13 W) x0 x1 x2 x3 x4 := by
  obtain ⟨h0, h1, h2, h3, h4, h5, h6⟩ := h
  refine ⟨?_, ?_, ?_, ?_, ?_, ?_, ?_, ?_, ?_⟩
  · simp only [part13, hostOps0_26, List.take_succ_cons, List.take_zero, List.take_nil, List.drop_succ_cons, List.drop_zero]
    after_results_simp
    try simp only [h0, h1, h2, h3, h4, h5, h6]
    rfl
  · simp only [part13, hostOps0_26, List.take_succ_cons, List.take_zero, List.take_nil, List.drop_succ_cons, List.drop_zero]
    after_results_simp
    exact h0
  · simp only [part13, hostOps0_26, List.take_succ_cons, List.take_zero, List.take_nil, List.drop_succ_cons, List.drop_zero]
    after_results_simp
    exact h1
  · simp only [part13, hostOps0_26, List.take_succ_cons, List.take_zero, List.take_nil, List.drop_succ_cons, List.drop_zero]
    after_results_simp
    exact h2
  · simp only [part13, hostOps0_26, List.take_succ_cons, List.take_zero, List.take_nil, List.drop_succ_cons, List.drop_zero]
    after_results_simp
    exact h3
  · simp only [part13, hostOps0_26, List.take_succ_cons, List.take_zero, List.take_nil, List.drop_succ_cons, List.drop_zero]
    after_results_simp
    exact h4
  · simp only [part13, hostOps0_26, List.take_succ_cons, List.take_zero, List.take_nil, List.drop_succ_cons, List.drop_zero]
    after_results_simp
    exact h5
  · simp only [part13, hostOps0_26, List.take_succ_cons, List.take_zero, List.take_nil, List.drop_succ_cons, List.drop_zero]
    after_results_simp
    try simp only [h0, h1, h2, h3, h4, h5, h6]
    rfl
  · simp only [part13, hostOps0_26, List.take_succ_cons, List.take_zero, List.take_nil, List.drop_succ_cons, List.drop_zero]
    after_results_simp
    try simp only [h0, h1, h2, h3, h4, h5, h6]
    rfl

set_option maxRecDepth 8192 in
set_option maxHeartbeats 2000000 in
theorem step14 (W : Valuation τ sig (Elt F)) (x0 : (⟨S2048x2304, .bf16⟩ : BufTy).Contents (Elt F)) (x1 : (⟨S9216x1152, .i8⟩ : BufTy).Contents (Elt F)) (x2 : (⟨S9216x72, .i8⟩ : BufTy).Contents (Elt F)) (x3 : (⟨S9216x1152, .i8⟩ : BufTy).Contents (Elt F)) (x4 : (⟨S9216x72, .i8⟩ : BufTy).Contents (Elt F)) (h : Live14 W x0 x1 x2 x3 x4) :
    Live15 (after part14 W) x0 x1 x2 x3 x4 := by
  obtain ⟨h0, h1, h2, h3, h4, h5, h6, h7, h8⟩ := h
  refine ⟨?_, ?_, ?_, ?_, ?_, ?_, ?_, ?_, ?_, ?_, ?_⟩
  · simp only [part14, hostOps0_26, List.take_succ_cons, List.take_zero, List.take_nil, List.drop_succ_cons, List.drop_zero]
    after_results_simp
    try simp only [h0, h1, h2, h3, h4, h5, h6, h7, h8]
    rfl
  · simp only [part14, hostOps0_26, List.take_succ_cons, List.take_zero, List.take_nil, List.drop_succ_cons, List.drop_zero]
    after_results_simp
    try simp only [h0, h1, h2, h3, h4, h5, h6, h7, h8]
    rfl
  · simp only [part14, hostOps0_26, List.take_succ_cons, List.take_zero, List.take_nil, List.drop_succ_cons, List.drop_zero]
    after_results_simp
    try simp only [h0, h1, h2, h3, h4, h5, h6, h7, h8]
    rfl
  · simp only [part14, hostOps0_26, List.take_succ_cons, List.take_zero, List.take_nil, List.drop_succ_cons, List.drop_zero]
    after_results_simp
    try simp only [h0, h1, h2, h3, h4, h5, h6, h7, h8]
    rfl
  · simp only [part14, hostOps0_26, List.take_succ_cons, List.take_zero, List.take_nil, List.drop_succ_cons, List.drop_zero]
    after_results_simp
    exact h1
  · simp only [part14, hostOps0_26, List.take_succ_cons, List.take_zero, List.take_nil, List.drop_succ_cons, List.drop_zero]
    after_results_simp
    exact h2
  · simp only [part14, hostOps0_26, List.take_succ_cons, List.take_zero, List.take_nil, List.drop_succ_cons, List.drop_zero]
    after_results_simp
    exact h3
  · simp only [part14, hostOps0_26, List.take_succ_cons, List.take_zero, List.take_nil, List.drop_succ_cons, List.drop_zero]
    after_results_simp
    exact h4
  · simp only [part14, hostOps0_26, List.take_succ_cons, List.take_zero, List.take_nil, List.drop_succ_cons, List.drop_zero]
    after_results_simp
    exact h5
  · simp only [part14, hostOps0_26, List.take_succ_cons, List.take_zero, List.take_nil, List.drop_succ_cons, List.drop_zero]
    after_results_simp
    exact h7
  · simp only [part14, hostOps0_26, List.take_succ_cons, List.take_zero, List.take_nil, List.drop_succ_cons, List.drop_zero]
    after_results_simp
    exact h8

set_option maxRecDepth 8192 in
set_option maxHeartbeats 2000000 in
theorem step15 (W : Valuation τ sig (Elt F)) (x0 : (⟨S2048x2304, .bf16⟩ : BufTy).Contents (Elt F)) (x1 : (⟨S9216x1152, .i8⟩ : BufTy).Contents (Elt F)) (x2 : (⟨S9216x72, .i8⟩ : BufTy).Contents (Elt F)) (x3 : (⟨S9216x1152, .i8⟩ : BufTy).Contents (Elt F)) (x4 : (⟨S9216x72, .i8⟩ : BufTy).Contents (Elt F)) (h : Live15 W x0 x1 x2 x3 x4) :
    Live16 (after part15 W) x0 x1 x2 x3 x4 := by
  obtain ⟨h0, h1, h2, h3, h4, h5, h6, h7, h8, h9, h10⟩ := h
  refine ⟨?_, ?_, ?_, ?_, ?_, ?_, ?_, ?_, ?_, ?_, ?_, ?_⟩
  · simp only [part15, hostOps0_27, hostOps0_28, hostOps0_29, hostOps0_30, hostOps0_31, List.cons_append, List.nil_append]
    after_results_simp
    try simp only [h0, h1, h2, h3, h4, h5, h6, h7, h8, h9, h10]
    rfl
  · simp only [part15, hostOps0_27, hostOps0_28, hostOps0_29, hostOps0_30, hostOps0_31, List.cons_append, List.nil_append]
    after_results_simp
    try simp only [h0, h1, h2, h3, h4, h5, h6, h7, h8, h9, h10]
    rfl
  · simp only [part15, hostOps0_27, hostOps0_28, hostOps0_29, hostOps0_30, hostOps0_31, List.cons_append, List.nil_append]
    after_results_simp
    exact h2
  · simp only [part15, hostOps0_27, hostOps0_28, hostOps0_29, hostOps0_30, hostOps0_31, List.cons_append, List.nil_append]
    after_results_simp
    exact h3
  · simp only [part15, hostOps0_27, hostOps0_28, hostOps0_29, hostOps0_30, hostOps0_31, List.cons_append, List.nil_append]
    after_results_simp
    try simp only [h0, h1, h2, h3, h4, h5, h6, h7, h8, h9, h10]
    rfl
  · simp only [part15, hostOps0_27, hostOps0_28, hostOps0_29, hostOps0_30, hostOps0_31, List.cons_append, List.nil_append]
    after_results_simp
    exact h4
  · simp only [part15, hostOps0_27, hostOps0_28, hostOps0_29, hostOps0_30, hostOps0_31, List.cons_append, List.nil_append]
    after_results_simp
    exact h5
  · simp only [part15, hostOps0_27, hostOps0_28, hostOps0_29, hostOps0_30, hostOps0_31, List.cons_append, List.nil_append]
    after_results_simp
    exact h6
  · simp only [part15, hostOps0_27, hostOps0_28, hostOps0_29, hostOps0_30, hostOps0_31, List.cons_append, List.nil_append]
    after_results_simp
    exact h7
  · simp only [part15, hostOps0_27, hostOps0_28, hostOps0_29, hostOps0_30, hostOps0_31, List.cons_append, List.nil_append]
    after_results_simp
    exact h8
  · simp only [part15, hostOps0_27, hostOps0_28, hostOps0_29, hostOps0_30, hostOps0_31, List.cons_append, List.nil_append]
    after_results_simp
    exact h9
  · simp only [part15, hostOps0_27, hostOps0_28, hostOps0_29, hostOps0_30, hostOps0_31, List.cons_append, List.nil_append]
    after_results_simp
    exact h10

set_option maxRecDepth 8192 in
set_option maxHeartbeats 2000000 in
theorem step16 (W : Valuation τ sig (Elt F)) (x0 : (⟨S2048x2304, .bf16⟩ : BufTy).Contents (Elt F)) (x1 : (⟨S9216x1152, .i8⟩ : BufTy).Contents (Elt F)) (x2 : (⟨S9216x72, .i8⟩ : BufTy).Contents (Elt F)) (x3 : (⟨S9216x1152, .i8⟩ : BufTy).Contents (Elt F)) (x4 : (⟨S9216x72, .i8⟩ : BufTy).Contents (Elt F)) (h : Live16 W x0 x1 x2 x3 x4) :
    Live17 (after part16 W) x0 x1 x2 x3 x4 := by
  obtain ⟨h0, h1, h2, h3, h4, h5, h6, h7, h8, h9, h10, h11⟩ := h
  refine ⟨?_, ?_, ?_, ?_, ?_, ?_⟩
  · simp only [part16, hostOps0_32, hostOps0_33, hostOps0_34, hostOps0_35, hostOps0_36, hostOps0_37, hostOps0_38, List.cons_append, List.nil_append]
    after_results_simp
    try simp only [h0, h1, h2, h3, h4, h5, h6, h7, h8, h9, h10, h11]
    rfl
  · simp only [part16, hostOps0_32, hostOps0_33, hostOps0_34, hostOps0_35, hostOps0_36, hostOps0_37, hostOps0_38, List.cons_append, List.nil_append]
    after_results_simp
    exact h5
  · simp only [part16, hostOps0_32, hostOps0_33, hostOps0_34, hostOps0_35, hostOps0_36, hostOps0_37, hostOps0_38, List.cons_append, List.nil_append]
    after_results_simp
    exact h6
  · simp only [part16, hostOps0_32, hostOps0_33, hostOps0_34, hostOps0_35, hostOps0_36, hostOps0_37, hostOps0_38, List.cons_append, List.nil_append]
    after_results_simp
    exact h7
  · simp only [part16, hostOps0_32, hostOps0_33, hostOps0_34, hostOps0_35, hostOps0_36, hostOps0_37, hostOps0_38, List.cons_append, List.nil_append]
    after_results_simp
    exact h8
  · simp only [part16, hostOps0_32, hostOps0_33, hostOps0_34, hostOps0_35, hostOps0_36, hostOps0_37, hostOps0_38, List.cons_append, List.nil_append]
    after_results_simp
    exact h9

set_option maxRecDepth 8192 in
set_option maxHeartbeats 2000000 in
theorem step17 (W : Valuation τ sig (Elt F)) (x0 : (⟨S2048x2304, .bf16⟩ : BufTy).Contents (Elt F)) (x1 : (⟨S9216x1152, .i8⟩ : BufTy).Contents (Elt F)) (x2 : (⟨S9216x72, .i8⟩ : BufTy).Contents (Elt F)) (x3 : (⟨S9216x1152, .i8⟩ : BufTy).Contents (Elt F)) (x4 : (⟨S9216x72, .i8⟩ : BufTy).Contents (Elt F)) (h : Live17 W x0 x1 x2 x3 x4) :
    Live18 (after part17 W) x0 x1 x2 x3 x4 := by
  obtain ⟨h0, h1, h2, h3, h4, h5⟩ := h
  refine ⟨?_, ?_, ?_, ?_, ?_, ?_, ?_, ?_⟩
  · simp only [part17, hostOps0_39, List.take_succ_cons, List.take_zero, List.take_nil, List.drop_succ_cons, List.drop_zero]
    after_results_simp
    try simp only [h0, h1, h2, h3, h4, h5]
    rfl
  · simp only [part17, hostOps0_39, List.take_succ_cons, List.take_zero, List.take_nil, List.drop_succ_cons, List.drop_zero]
    after_results_simp
    try simp only [h0, h1, h2, h3, h4, h5]
    rfl
  · simp only [part17, hostOps0_39, List.take_succ_cons, List.take_zero, List.take_nil, List.drop_succ_cons, List.drop_zero]
    after_results_simp
    try simp only [h0, h1, h2, h3, h4, h5]
    rfl
  · simp only [part17, hostOps0_39, List.take_succ_cons, List.take_zero, List.take_nil, List.drop_succ_cons, List.drop_zero]
    after_results_simp
    try simp only [h0, h1, h2, h3, h4, h5]
    rfl
  · simp only [part17, hostOps0_39, List.take_succ_cons, List.take_zero, List.take_nil, List.drop_succ_cons, List.drop_zero]
    after_results_simp
    exact h1
  · simp only [part17, hostOps0_39, List.take_succ_cons, List.take_zero, List.take_nil, List.drop_succ_cons, List.drop_zero]
    after_results_simp
    exact h2
  · simp only [part17, hostOps0_39, List.take_succ_cons, List.take_zero, List.take_nil, List.drop_succ_cons, List.drop_zero]
    after_results_simp
    exact h3
  · simp only [part17, hostOps0_39, List.take_succ_cons, List.take_zero, List.take_nil, List.drop_succ_cons, List.drop_zero]
    after_results_simp
    exact h5

set_option maxRecDepth 8192 in
set_option maxHeartbeats 2000000 in
theorem step18 (W : Valuation τ sig (Elt F)) (x0 : (⟨S2048x2304, .bf16⟩ : BufTy).Contents (Elt F)) (x1 : (⟨S9216x1152, .i8⟩ : BufTy).Contents (Elt F)) (x2 : (⟨S9216x72, .i8⟩ : BufTy).Contents (Elt F)) (x3 : (⟨S9216x1152, .i8⟩ : BufTy).Contents (Elt F)) (x4 : (⟨S9216x72, .i8⟩ : BufTy).Contents (Elt F)) (h : Live18 W x0 x1 x2 x3 x4) :
    Live19 (after part18 W) x0 x1 x2 x3 x4 := by
  obtain ⟨h0, h1, h2, h3, h4, h5, h6, h7⟩ := h
  refine ⟨?_, ?_, ?_, ?_, ?_, ?_, ?_, ?_, ?_, ?_⟩
  · simp only [part18, hostOps0_39, List.take_succ_cons, List.take_zero, List.take_nil, List.drop_succ_cons, List.drop_zero]
    after_results_simp
    exact h0
  · simp only [part18, hostOps0_39, List.take_succ_cons, List.take_zero, List.take_nil, List.drop_succ_cons, List.drop_zero]
    after_results_simp
    exact h1
  · simp only [part18, hostOps0_39, List.take_succ_cons, List.take_zero, List.take_nil, List.drop_succ_cons, List.drop_zero]
    after_results_simp
    try simp only [h0, h1, h2, h3, h4, h5, h6, h7]
    rfl
  · simp only [part18, hostOps0_39, List.take_succ_cons, List.take_zero, List.take_nil, List.drop_succ_cons, List.drop_zero]
    after_results_simp
    try simp only [h0, h1, h2, h3, h4, h5, h6, h7]
    rfl
  · simp only [part18, hostOps0_39, List.take_succ_cons, List.take_zero, List.take_nil, List.drop_succ_cons, List.drop_zero]
    after_results_simp
    try simp only [h0, h1, h2, h3, h4, h5, h6, h7]
    rfl
  · simp only [part18, hostOps0_39, List.take_succ_cons, List.take_zero, List.take_nil, List.drop_succ_cons, List.drop_zero]
    after_results_simp
    try simp only [h0, h1, h2, h3, h4, h5, h6, h7]
    rfl
  · simp only [part18, hostOps0_39, List.take_succ_cons, List.take_zero, List.take_nil, List.drop_succ_cons, List.drop_zero]
    after_results_simp
    exact h4
  · simp only [part18, hostOps0_39, List.take_succ_cons, List.take_zero, List.take_nil, List.drop_succ_cons, List.drop_zero]
    after_results_simp
    exact h5
  · simp only [part18, hostOps0_39, List.take_succ_cons, List.take_zero, List.take_nil, List.drop_succ_cons, List.drop_zero]
    after_results_simp
    exact h6
  · simp only [part18, hostOps0_39, List.take_succ_cons, List.take_zero, List.take_nil, List.drop_succ_cons, List.drop_zero]
    after_results_simp
    exact h7

set_option maxRecDepth 8192 in
set_option maxHeartbeats 2000000 in
theorem step19 (W : Valuation τ sig (Elt F)) (x0 : (⟨S2048x2304, .bf16⟩ : BufTy).Contents (Elt F)) (x1 : (⟨S9216x1152, .i8⟩ : BufTy).Contents (Elt F)) (x2 : (⟨S9216x72, .i8⟩ : BufTy).Contents (Elt F)) (x3 : (⟨S9216x1152, .i8⟩ : BufTy).Contents (Elt F)) (x4 : (⟨S9216x72, .i8⟩ : BufTy).Contents (Elt F)) (h : Live19 W x0 x1 x2 x3 x4) :
    Live20 (after part19 W) x0 x1 x2 x3 x4 := by
  obtain ⟨h0, h1, h2, h3, h4, h5, h6, h7, h8, h9⟩ := h
  refine ⟨?_, ?_, ?_, ?_, ?_, ?_, ?_, ?_, ?_, ?_, ?_⟩
  · simp only [part19, hostOps0_39, List.take_succ_cons, List.take_zero, List.take_nil, List.drop_succ_cons, List.drop_zero]
    after_results_simp
    try simp only [h0, h1, h2, h3, h4, h5, h6, h7, h8, h9]
    rfl
  · simp only [part19, hostOps0_39, List.take_succ_cons, List.take_zero, List.take_nil, List.drop_succ_cons, List.drop_zero]
    after_results_simp
    try simp only [h0, h1, h2, h3, h4, h5, h6, h7, h8, h9]
    rfl
  · simp only [part19, hostOps0_39, List.take_succ_cons, List.take_zero, List.take_nil, List.drop_succ_cons, List.drop_zero]
    after_results_simp
    exact h0
  · simp only [part19, hostOps0_39, List.take_succ_cons, List.take_zero, List.take_nil, List.drop_succ_cons, List.drop_zero]
    after_results_simp
    exact h2
  · simp only [part19, hostOps0_39, List.take_succ_cons, List.take_zero, List.take_nil, List.drop_succ_cons, List.drop_zero]
    after_results_simp
    exact h3
  · simp only [part19, hostOps0_39, List.take_succ_cons, List.take_zero, List.take_nil, List.drop_succ_cons, List.drop_zero]
    after_results_simp
    try simp only [h0, h1, h2, h3, h4, h5, h6, h7, h8, h9]
    rfl
  · simp only [part19, hostOps0_39, List.take_succ_cons, List.take_zero, List.take_nil, List.drop_succ_cons, List.drop_zero]
    after_results_simp
    try simp only [h0, h1, h2, h3, h4, h5, h6, h7, h8, h9]
    rfl
  · simp only [part19, hostOps0_39, List.take_succ_cons, List.take_zero, List.take_nil, List.drop_succ_cons, List.drop_zero]
    after_results_simp
    exact h6
  · simp only [part19, hostOps0_39, List.take_succ_cons, List.take_zero, List.take_nil, List.drop_succ_cons, List.drop_zero]
    after_results_simp
    exact h7
  · simp only [part19, hostOps0_39, List.take_succ_cons, List.take_zero, List.take_nil, List.drop_succ_cons, List.drop_zero]
    after_results_simp
    exact h8
  · simp only [part19, hostOps0_39, List.take_succ_cons, List.take_zero, List.take_nil, List.drop_succ_cons, List.drop_zero]
    after_results_simp
    exact h9

set_option maxRecDepth 8192 in
set_option maxHeartbeats 2000000 in
theorem step20 (W : Valuation τ sig (Elt F)) (x0 : (⟨S2048x2304, .bf16⟩ : BufTy).Contents (Elt F)) (x1 : (⟨S9216x1152, .i8⟩ : BufTy).Contents (Elt F)) (x2 : (⟨S9216x72, .i8⟩ : BufTy).Contents (Elt F)) (x3 : (⟨S9216x1152, .i8⟩ : BufTy).Contents (Elt F)) (x4 : (⟨S9216x72, .i8⟩ : BufTy).Contents (Elt F)) (h : Live20 W x0 x1 x2 x3 x4) :
    Live21 (after part20 W) x0 x1 x2 x3 x4 := by
  obtain ⟨h0, h1, h2, h3, h4, h5, h6, h7, h8, h9, h10⟩ := h
  refine ⟨?_, ?_, ?_, ?_, ?_, ?_, ?_, ?_, ?_, ?_, ?_, ?_⟩
  · simp only [part20, hostOps0_40, hostOps0_41, hostOps0_42, hostOps0_43, hostOps0_44, List.cons_append, List.nil_append]
    after_results_simp
    try simp only [h0, h1, h2, h3, h4, h5, h6, h7, h8, h9, h10]
    rfl
  · simp only [part20, hostOps0_40, hostOps0_41, hostOps0_42, hostOps0_43, hostOps0_44, List.cons_append, List.nil_append]
    after_results_simp
    try simp only [h0, h1, h2, h3, h4, h5, h6, h7, h8, h9, h10]
    rfl
  · simp only [part20, hostOps0_40, hostOps0_41, hostOps0_42, hostOps0_43, hostOps0_44, List.cons_append, List.nil_append]
    after_results_simp
    exact h2
  · simp only [part20, hostOps0_40, hostOps0_41, hostOps0_42, hostOps0_43, hostOps0_44, List.cons_append, List.nil_append]
    after_results_simp
    exact h3
  · simp only [part20, hostOps0_40, hostOps0_41, hostOps0_42, hostOps0_43, hostOps0_44, List.cons_append, List.nil_append]
    after_results_simp
    exact h4
  · simp only [part20, hostOps0_40, hostOps0_41, hostOps0_42, hostOps0_43, hostOps0_44, List.cons_append, List.nil_append]
    after_results_simp
    exact h5
  · simp only [part20, hostOps0_40, hostOps0_41, hostOps0_42, hostOps0_43, hostOps0_44, List.cons_append, List.nil_append]
    after_results_simp
    exact h6
  · simp only [part20, hostOps0_40, hostOps0_41, hostOps0_42, hostOps0_43, hostOps0_44, List.cons_append, List.nil_append]
    after_results_simp
    try simp only [h0, h1, h2, h3, h4, h5, h6, h7, h8, h9, h10]
    rfl
  · simp only [part20, hostOps0_40, hostOps0_41, hostOps0_42, hostOps0_43, hostOps0_44, List.cons_append, List.nil_append]
    after_results_simp
    exact h7
  · simp only [part20, hostOps0_40, hostOps0_41, hostOps0_42, hostOps0_43, hostOps0_44, List.cons_append, List.nil_append]
    after_results_simp
    exact h8
  · simp only [part20, hostOps0_40, hostOps0_41, hostOps0_42, hostOps0_43, hostOps0_44, List.cons_append, List.nil_append]
    after_results_simp
    exact h9
  · simp only [part20, hostOps0_40, hostOps0_41, hostOps0_42, hostOps0_43, hostOps0_44, List.cons_append, List.nil_append]
    after_results_simp
    exact h10

set_option maxRecDepth 8192 in
set_option maxHeartbeats 2000000 in
theorem step21 (W : Valuation τ sig (Elt F)) (x0 : (⟨S2048x2304, .bf16⟩ : BufTy).Contents (Elt F)) (x1 : (⟨S9216x1152, .i8⟩ : BufTy).Contents (Elt F)) (x2 : (⟨S9216x72, .i8⟩ : BufTy).Contents (Elt F)) (x3 : (⟨S9216x1152, .i8⟩ : BufTy).Contents (Elt F)) (x4 : (⟨S9216x72, .i8⟩ : BufTy).Contents (Elt F)) (h : Live21 W x0 x1 x2 x3 x4) :
    Live22 (after part21 W) x0 x1 x2 x3 x4 := by
  obtain ⟨h0, h1, h2, h3, h4, h5, h6, h7, h8, h9, h10, h11⟩ := h
  refine ⟨?_, ?_, ?_, ?_, ?_, ?_⟩
  · simp only [part21, hostOps0_45, hostOps0_46, hostOps0_47, hostOps0_48, hostOps0_49, hostOps0_50, hostOps0_51, List.cons_append, List.nil_append]
    after_results_simp
    exact h2
  · simp only [part21, hostOps0_45, hostOps0_46, hostOps0_47, hostOps0_48, hostOps0_49, hostOps0_50, hostOps0_51, List.cons_append, List.nil_append]
    after_results_simp
    try simp only [h0, h1, h2, h3, h4, h5, h6, h7, h8, h9, h10, h11]
    rfl
  · simp only [part21, hostOps0_45, hostOps0_46, hostOps0_47, hostOps0_48, hostOps0_49, hostOps0_50, hostOps0_51, List.cons_append, List.nil_append]
    after_results_simp
    exact h8
  · simp only [part21, hostOps0_45, hostOps0_46, hostOps0_47, hostOps0_48, hostOps0_49, hostOps0_50, hostOps0_51, List.cons_append, List.nil_append]
    after_results_simp
    exact h9
  · simp only [part21, hostOps0_45, hostOps0_46, hostOps0_47, hostOps0_48, hostOps0_49, hostOps0_50, hostOps0_51, List.cons_append, List.nil_append]
    after_results_simp
    exact h10
  · simp only [part21, hostOps0_45, hostOps0_46, hostOps0_47, hostOps0_48, hostOps0_49, hostOps0_50, hostOps0_51, List.cons_append, List.nil_append]
    after_results_simp
    exact h11

set_option maxRecDepth 8192 in
set_option maxHeartbeats 2000000 in
theorem step22 (W : Valuation τ sig (Elt F)) (x0 : (⟨S2048x2304, .bf16⟩ : BufTy).Contents (Elt F)) (x1 : (⟨S9216x1152, .i8⟩ : BufTy).Contents (Elt F)) (x2 : (⟨S9216x72, .i8⟩ : BufTy).Contents (Elt F)) (x3 : (⟨S9216x1152, .i8⟩ : BufTy).Contents (Elt F)) (x4 : (⟨S9216x72, .i8⟩ : BufTy).Contents (Elt F)) (h : Live22 W x0 x1 x2 x3 x4) :
    Live23 (after part22 W) x0 x1 x2 x3 x4 := by
  obtain ⟨h0, h1, h2, h3, h4, h5⟩ := h
  refine ⟨?_, ?_, ?_⟩
  · simp only [part22, hostOps0_52, List.take_succ_cons, List.take_zero, List.take_nil, List.drop_succ_cons, List.drop_zero]
    after_results_simp
    try simp only [h0, h1, h2, h3, h4, h5]
    rfl
  · simp only [part22, hostOps0_52, List.take_succ_cons, List.take_zero, List.take_nil, List.drop_succ_cons, List.drop_zero]
    after_results_simp
    try simp only [h0, h1, h2, h3, h4, h5]
    rfl
  · simp only [part22, hostOps0_52, List.take_succ_cons, List.take_zero, List.take_nil, List.drop_succ_cons, List.drop_zero]
    after_results_simp
    exact h4

set_option maxRecDepth 8192 in
set_option maxHeartbeats 2000000 in
theorem step23 (W : Valuation τ sig (Elt F)) (x0 : (⟨S2048x2304, .bf16⟩ : BufTy).Contents (Elt F)) (x1 : (⟨S9216x1152, .i8⟩ : BufTy).Contents (Elt F)) (x2 : (⟨S9216x72, .i8⟩ : BufTy).Contents (Elt F)) (x3 : (⟨S9216x1152, .i8⟩ : BufTy).Contents (Elt F)) (x4 : (⟨S9216x72, .i8⟩ : BufTy).Contents (Elt F)) (h : Live23 W x0 x1 x2 x3 x4) :
    Live24 (after part23 W) x0 x1 x2 x3 x4 := by
  obtain ⟨h0, h1, h2⟩ := h
  refine ⟨?_, ?_, ?_, ?_⟩
  · simp only [part23, hostOps0_52, List.take_succ_cons, List.take_zero, List.take_nil, List.drop_succ_cons, List.drop_zero]
    after_results_simp
    try simp only [h0, h1, h2]
    rfl
  · simp only [part23, hostOps0_52, List.take_succ_cons, List.take_zero, List.take_nil, List.drop_succ_cons, List.drop_zero]
    after_results_simp
    try simp only [h0, h1, h2]
    rfl
  · simp only [part23, hostOps0_52, List.take_succ_cons, List.take_zero, List.take_nil, List.drop_succ_cons, List.drop_zero]
    after_results_simp
    try simp only [h0, h1, h2]
    rfl
  · simp only [part23, hostOps0_52, List.take_succ_cons, List.take_zero, List.take_nil, List.drop_succ_cons, List.drop_zero]
    after_results_simp
    try simp only [h0, h1, h2]
    rfl

set_option maxRecDepth 8192 in
set_option maxHeartbeats 2000000 in
theorem step24 (W : Valuation τ sig (Elt F)) (x0 : (⟨S2048x2304, .bf16⟩ : BufTy).Contents (Elt F)) (x1 : (⟨S9216x1152, .i8⟩ : BufTy).Contents (Elt F)) (x2 : (⟨S9216x72, .i8⟩ : BufTy).Contents (Elt F)) (x3 : (⟨S9216x1152, .i8⟩ : BufTy).Contents (Elt F)) (x4 : (⟨S9216x72, .i8⟩ : BufTy).Contents (Elt F)) (h : Live24 W x0 x1 x2 x3 x4) :
    Live25 (after part24 W) x0 x1 x2 x3 x4 := by
  obtain ⟨h0, h1, h2, h3⟩ := h
  refine ⟨?_, ?_, ?_, ?_, ?_⟩
  · simp only [part24, hostOps0_52, List.take_succ_cons, List.take_zero, List.take_nil, List.drop_succ_cons, List.drop_zero]
    after_results_simp
    try simp only [h0, h1, h2, h3]
    rfl
  · simp only [part24, hostOps0_52, List.take_succ_cons, List.take_zero, List.take_nil, List.drop_succ_cons, List.drop_zero]
    after_results_simp
    exact h0
  · simp only [part24, hostOps0_52, List.take_succ_cons, List.take_zero, List.take_nil, List.drop_succ_cons, List.drop_zero]
    after_results_simp
    try simp only [h0, h1, h2, h3]
    rfl
  · simp only [part24, hostOps0_52, List.take_succ_cons, List.take_zero, List.take_nil, List.drop_succ_cons, List.drop_zero]
    after_results_simp
    try simp only [h0, h1, h2, h3]
    rfl
  · simp only [part24, hostOps0_52, List.take_succ_cons, List.take_zero, List.take_nil, List.drop_succ_cons, List.drop_zero]
    after_results_simp
    try simp only [h0, h1, h2, h3]
    rfl

set_option maxRecDepth 8192 in
set_option maxHeartbeats 2000000 in
theorem step25 (W : Valuation τ sig (Elt F)) (x0 : (⟨S2048x2304, .bf16⟩ : BufTy).Contents (Elt F)) (x1 : (⟨S9216x1152, .i8⟩ : BufTy).Contents (Elt F)) (x2 : (⟨S9216x72, .i8⟩ : BufTy).Contents (Elt F)) (x3 : (⟨S9216x1152, .i8⟩ : BufTy).Contents (Elt F)) (x4 : (⟨S9216x72, .i8⟩ : BufTy).Contents (Elt F)) (h : Live25 W x0 x1 x2 x3 x4) :
    Live26 (after part25 W) x0 x1 x2 x3 x4 := by
  obtain ⟨h0, h1, h2, h3, h4⟩ := h
  refine ⟨?_, ?_, ?_, ?_⟩
  · simp only [part25, hostOps0_52, List.take_succ_cons, List.take_zero, List.take_nil, List.drop_succ_cons, List.drop_zero]
    after_results_simp
    exact h1
  · simp only [part25, hostOps0_52, List.take_succ_cons, List.take_zero, List.take_nil, List.drop_succ_cons, List.drop_zero]
    after_results_simp
    exact h3
  · simp only [part25, hostOps0_52, List.take_succ_cons, List.take_zero, List.take_nil, List.drop_succ_cons, List.drop_zero]
    after_results_simp
    exact h4
  · simp only [part25, hostOps0_52, List.take_succ_cons, List.take_zero, List.take_nil, List.drop_succ_cons, List.drop_zero]
    after_results_simp
    try simp only [h0, h1, h2, h3, h4]
    rfl

set_option maxRecDepth 8192 in
set_option maxHeartbeats 2000000 in
theorem step26 (W : Valuation τ sig (Elt F)) (x0 : (⟨S2048x2304, .bf16⟩ : BufTy).Contents (Elt F)) (x1 : (⟨S9216x1152, .i8⟩ : BufTy).Contents (Elt F)) (x2 : (⟨S9216x72, .i8⟩ : BufTy).Contents (Elt F)) (x3 : (⟨S9216x1152, .i8⟩ : BufTy).Contents (Elt F)) (x4 : (⟨S9216x72, .i8⟩ : BufTy).Contents (Elt F)) (h : Live26 W x0 x1 x2 x3 x4) :
    Live27 (after part26 W) x0 x1 x2 x3 x4 := by
  obtain ⟨h0, h1, h2, h3⟩ := h
  refine ⟨?_, ?_⟩
  · simp only [part26, hostOps0_53, hostOps0_54, hostOps0_55, List.cons_append, List.nil_append]
    after_results_simp
    exact h0
  · simp only [part26, hostOps0_53, hostOps0_54, hostOps0_55, List.cons_append, List.nil_append]
    after_results_simp
    try simp only [h0, h1, h2, h3]
    rfl

set_option maxRecDepth 8192 in
set_option maxHeartbeats 2000000 in
theorem step27 (W : Valuation τ sig (Elt F)) (x0 : (⟨S2048x2304, .bf16⟩ : BufTy).Contents (Elt F)) (x1 : (⟨S9216x1152, .i8⟩ : BufTy).Contents (Elt F)) (x2 : (⟨S9216x72, .i8⟩ : BufTy).Contents (Elt F)) (x3 : (⟨S9216x1152, .i8⟩ : BufTy).Contents (Elt F)) (x4 : (⟨S9216x72, .i8⟩ : BufTy).Contents (Elt F)) (h : Live27 W x0 x1 x2 x3 x4) :
    Live28 (after part27 W) x0 x1 x2 x3 x4 := by
  obtain ⟨h0, h1⟩ := h
  refine ⟨?_, ?_, ?_, ?_⟩
  · simp only [part27, hostOps0_56]
    after_results_simp
    try simp only [h0, h1]
    rfl
  · simp only [part27, hostOps0_56]
    after_results_simp
    try simp only [h0, h1]
    rfl
  · simp only [part27, hostOps0_56]
    after_results_simp
    exact h1
  · simp only [part27, hostOps0_56]
    after_results_simp
    try simp only [h0, h1]
    rfl

set_option maxRecDepth 8192 in
set_option maxHeartbeats 2000000 in
theorem step28 (W : Valuation τ sig (Elt F)) (x0 : (⟨S2048x2304, .bf16⟩ : BufTy).Contents (Elt F)) (x1 : (⟨S9216x1152, .i8⟩ : BufTy).Contents (Elt F)) (x2 : (⟨S9216x72, .i8⟩ : BufTy).Contents (Elt F)) (x3 : (⟨S9216x1152, .i8⟩ : BufTy).Contents (Elt F)) (x4 : (⟨S9216x72, .i8⟩ : BufTy).Contents (Elt F)) (h : Live28 W x0 x1 x2 x3 x4) :
    Live29 (after part28 W) x0 x1 x2 x3 x4 := by
  obtain ⟨h0, h1, h2, h3⟩ := h
  refine ⟨?_, ?_⟩
  · simp only [part28, hostOps0_57]
    after_results_simp
    exact h2
  · simp only [part28, hostOps0_57]
    after_results_simp
    try simp only [h0, h1, h2, h3]
    rfl

set_option maxRecDepth 8192 in
set_option maxHeartbeats 2000000 in
theorem step29 (W : Valuation τ sig (Elt F)) (x0 : (⟨S2048x2304, .bf16⟩ : BufTy).Contents (Elt F)) (x1 : (⟨S9216x1152, .i8⟩ : BufTy).Contents (Elt F)) (x2 : (⟨S9216x72, .i8⟩ : BufTy).Contents (Elt F)) (x3 : (⟨S9216x1152, .i8⟩ : BufTy).Contents (Elt F)) (x4 : (⟨S9216x72, .i8⟩ : BufTy).Contents (Elt F)) (h : Live29 W x0 x1 x2 x3 x4) :
    Live30 (after part29 W) x0 x1 x2 x3 x4 := by
  obtain ⟨h0, h1⟩ := h
  refine ⟨?_, ?_, ?_⟩
  · simp only [part29, hostOps0_58, List.take_succ_cons, List.take_zero, List.take_nil, List.drop_succ_cons, List.drop_zero]
    after_results_simp
    exact h1
  · simp only [part29, hostOps0_58, List.take_succ_cons, List.take_zero, List.take_nil, List.drop_succ_cons, List.drop_zero]
    after_results_simp
    try simp only [h0, h1]
    rfl
  · simp only [part29, hostOps0_58, List.take_succ_cons, List.take_zero, List.take_nil, List.drop_succ_cons, List.drop_zero]
    after_results_simp
    try simp only [h0, h1]
    rfl

set_option maxRecDepth 8192 in
set_option maxHeartbeats 2000000 in
theorem step30 (W : Valuation τ sig (Elt F)) (x0 : (⟨S2048x2304, .bf16⟩ : BufTy).Contents (Elt F)) (x1 : (⟨S9216x1152, .i8⟩ : BufTy).Contents (Elt F)) (x2 : (⟨S9216x72, .i8⟩ : BufTy).Contents (Elt F)) (x3 : (⟨S9216x1152, .i8⟩ : BufTy).Contents (Elt F)) (x4 : (⟨S9216x72, .i8⟩ : BufTy).Contents (Elt F)) (h : Live30 W x0 x1 x2 x3 x4) :
    Live31 (after part30 W) x0 x1 x2 x3 x4 := by
  obtain ⟨h0, h1, h2⟩ := h
  refine ⟨?_, ?_, ?_, ?_⟩
  · simp only [part30, hostOps0_58, List.take_succ_cons, List.take_zero, List.take_nil, List.drop_succ_cons, List.drop_zero]
    after_results_simp
    exact h0
  · simp only [part30, hostOps0_58, List.take_succ_cons, List.take_zero, List.take_nil, List.drop_succ_cons, List.drop_zero]
    after_results_simp
    exact h2
  · simp only [part30, hostOps0_58, List.take_succ_cons, List.take_zero, List.take_nil, List.drop_succ_cons, List.drop_zero]
    after_results_simp
    try simp only [h0, h1, h2]
    rfl
  · simp only [part30, hostOps0_58, List.take_succ_cons, List.take_zero, List.take_nil, List.drop_succ_cons, List.drop_zero]
    after_results_simp
    try simp only [h0, h1, h2]
    rfl

set_option maxRecDepth 8192 in
set_option maxHeartbeats 2000000 in
theorem pieces : (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58] : List (HloOp τ sig (Elt F))) =
    part0 ++ (part1 ++ (part2 ++ (part3 ++ (part4 ++ (part5 ++ (part6 ++ (part7 ++ (part8 ++ (part9 ++ (part10 ++ (part11 ++ (part12 ++ (part13 ++ (part14 ++ (part15 ++ (part16 ++ (part17 ++ (part18 ++ (part19 ++ (part20 ++ (part21 ++ (part22 ++ (part23 ++ (part24 ++ (part25 ++ (part26 ++ (part27 ++ (part28 ++ (part29 ++ (part30)))))))))))))))))))))))))))))) := rfl

/-- After all of the host operations the four operands of the casting call hold the values named in `Read`. -/
theorem after_host (W : Valuation τ sig (Elt F)) (x0 : (⟨S2048x2304, .bf16⟩ : BufTy).Contents (Elt F)) (x1 : (⟨S9216x1152, .i8⟩ : BufTy).Contents (Elt F)) (x2 : (⟨S9216x72, .i8⟩ : BufTy).Contents (Elt F)) (x3 : (⟨S9216x1152, .i8⟩ : BufTy).Contents (Elt F)) (x4 : (⟨S9216x72, .i8⟩ : BufTy).Contents (Elt F)) (h : Live0 W x0 x1 x2 x3 x4) :
    Live31 (after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58]) W) x0 x1 x2 x3 x4 := by
  rw [pieces]
  simp only [after_append]
  exact step30 _ _ _ _ _ _ (step29 _ _ _ _ _ _ (step28 _ _ _ _ _ _ (step27 _ _ _ _ _ _ (step26 _ _ _ _ _ _ (step25 _ _ _ _ _ _ (step24 _ _ _ _ _ _ (step23 _ _ _ _ _ _ (step22 _ _ _ _ _ _ (step21 _ _ _ _ _ _ (step20 _ _ _ _ _ _ (step19 _ _ _ _ _ _ (step18 _ _ _ _ _ _ (step17 _ _ _ _ _ _ (step16 _ _ _ _ _ _ (step15 _ _ _ _ _ _ (step14 _ _ _ _ _ _ (step13 _ _ _ _ _ _ (step12 _ _ _ _ _ _ (step11 _ _ _ _ _ _ (step10 _ _ _ _ _ _ (step9 _ _ _ _ _ _ (step8 _ _ _ _ _ _ (step7 _ _ _ _ _ _ (step6 _ _ _ _ _ _ (step5 _ _ _ _ _ _ (step4 _ _ _ _ _ _ (step3 _ _ _ _ _ _ (step2 _ _ _ _ _ _ (step1 _ _ _ _ _ _ (step0 _ _ _ _ _ _ h))))))))))))))))))))))))))))))

end Cert.RFfnIdeal.Host
-- ==== Proof.FfnRefFinal.lean ====
/-
  The feed-forward reference's array of codes after the run.
-/
module

public import proofs.«01_k».proof.Proof.FfnEq
public import proofs.«01_k».proof.Proof.FfnRefRun
public import proofs.«01_k».proof.Proof.Gen.RFfnIdeal.Value

@[expose] public section

set_option maxRecDepth 16384

noncomputable section

namespace Cert.RFfnIdeal.Host

open Cert.RFfnIdeal Cert.RFfnIdeal.Gen Cert.RFfnIdeal.Value Idealize.ShloMosaic Idealize.ShloMosaic.TcCoe Idealize.SL.Sem Idealize.ShloMosaic.StableHlo

variable (m : (ℓ : Loc nD τ sig) → Buf (Elt Ideal) ℓ) (c : Dev nD)

abbrev arg0 : FVec Ideal S2048x2304 .bf16 := m ((c : Thread nD τ).loc main_arg0)
abbrev arg1 : IVec S9216x1152 8 := m ((c : Thread nD τ).loc main_arg1)
abbrev arg2 : IVec S9216x72 8 := m ((c : Thread nD τ).loc main_arg2)
abbrev arg3 : IVec S9216x1152 8 := m ((c : Thread nD τ).loc main_arg3)
abbrev arg4 : IVec S9216x72 8 := m ((c : Thread nD τ).loc main_arg4)

/-- What the casting call reads, after the host operations. -/
theorem host : Live31 (F := Ideal) (StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58]) (fun b => m (c, b))) (arg0 m c) (arg1 m c) (arg2 m c) (arg3 m c) (arg4 m c) :=
  after_host (F := Ideal) (fun b => m (c, b)) _ _ _ _ _ ⟨rfl, rfl, rfl, rfl, rfl⟩

theorem V_v187 : V m c main_v187 = Cert.RFfnExactIdeal.Read.val_main_v187 (F := Ideal) (arg0 m c) (arg1 m c) (arg2 m c) (arg3 m c) (arg4 m c) := (host m c).1

theorem at0 : ∀ t : Fin cfg0.N, win0_0.index t 0 = 0 ∧ win0_0.index t 1 = 0 := (by decide +kernel : ∀ t : Fin grid0.N, win0_0.index t 0 = 0 ∧ win0_0.index t 1 = 0)
theorem at4 : ∀ t : Fin cfg0.N, win0_4.index t 0 = 0 ∧ win0_4.index t 1 = 0 := (by decide +kernel : ∀ t : Fin grid0.N, win0_4.index t 0 = 0 ∧ win0_4.index t 1 = 0)
theorem size4 : ∀ t : Fin cfg0.N, win0_4.xsize (grid0.coords t) 0 = 2048 ∧ win0_4.xsize (grid0.coords t) 1 = 9216 :=
  (by decide +kernel : ∀ t : Fin grid0.N, win0_4.xsize (grid0.coords t) 0 = 2048 ∧ win0_4.xsize (grid0.coords t) 1 = 9216)
theorem flush4 : ∀ t : Fin cfg0.N, (cfg0.win 4).flush t = true := (by decide +kernel : ∀ t : Fin grid0.N, win0_4.flush t = true)

/-- Every element is in the one block. -/
theorem cover (i : S2048x9216.Idx) : ∃ t : Fin cfg0.N, (cfg0.win 4).flush t = true ∧ i ∈ ((cfg0.win 4).blk t).view.set := by
  refine ⟨t0_0, flush4 _, ?_⟩
  show i ∈ ((View.whole main_v204_0).slice (win0_4.rect t0_0)).set
  rw [View.set_slice_whole, Rect.mem_set_unit]
  intro a
  match a with
  | ⟨0, _⟩ => show win0_4.index t0_0 0 * win0_4.size 0 ≤ (i 0).val ∧ (i 0).val < win0_4.index t0_0 0 * win0_4.size 0 + win0_4.xsize (grid0.coords t0_0) 0
              rw [(at4 t0_0).1, (size4 t0_0).1]; have : (i 0).val < 2048 := (i 0).isLt; omega
  | ⟨1, _⟩ => show win0_4.index t0_0 1 * win0_4.size 1 ≤ (i 1).val ∧ (i 1).val < win0_4.index t0_0 1 * win0_4.size 1 + win0_4.xsize (grid0.coords t0_0) 1
              rw [(at4 t0_0).2, (size4 t0_0).2]; have : (i 1).val < 9216 := (i 1).isLt; omega

theorem iblk0 (t : Fin cfg0.N) (p : Fin 2048) (q : Fin 9216) : (iblk m c 0 t : FVec Ideal S2048x9216 .f32) (ValueIdx.ix2 p q) = V m c main_v187 (ValueIdx.ix2 p q) := by
  unfold iblk
  refine congrArg (V m c main_v187) (funext fun a => Fin.ext ?_)
  match a with
  | ⟨0, _⟩ => show win0_0.index t 0 * 2048 + 1 * p.val = p.val; rw [(at0 t).1]; omega
  | ⟨1, _⟩ => show win0_0.index t 1 * 9216 + 1 * q.val = q.val; rw [(at0 t).2]; omega

theorem flushed_eq (t : Fin cfg0.N) :
    (dats m 0 c).flushed 4 t = ((cfg0.win 4).blk t).view.read (Elt Ideal) (fun i => (V m c main_v187 i : EReal)) := by
  rw [flushed4]
  funext y
  show out0_4 (iblk m c 0 t) (iblk m c 1 t) (iblk m c 2 t) (iblk m c 3 t) _ = _
  unfold out0_4
  rw [canon4_eq]
  have hy0 : (y 0).val < 2048 := (y 0).isLt
  have hy1 : (y 1).val < 9216 := (y 1).isLt
  refine (iblk0 m c t ⟨(y 0).val, hy0⟩ ⟨(y 1).val, hy1⟩ |> fun h => Eq.trans (congrArg (iblk m c 0 t : FVec Ideal S2048x9216 .f32) (funext fun a => Fin.ext ?_)) h).trans ?_
  · match a with
    | ⟨0, _⟩ => show 0 + 1 * (y 0).val = (y 0).val; omega
    | ⟨1, _⟩ => show 0 + 1 * (y 1).val = (y 1).val; omega
  · refine congrArg (V m c main_v187) (funext fun a => Fin.ext ?_)
    match a with
    | ⟨0, _⟩ => show (y 0).val = win0_4.index t 0 * 2048 + 1 * (y 0).val; rw [(at4 t).1]; omega
    | ⟨1, _⟩ => show (y 1).val = win0_4.index t 1 * 9216 + 1 * (y 1).val; rw [(at4 t).2]; omega

/-- The reference's array of codes. -/
theorem final : (dats m 0 c).arrAt 4 cfg0.N = Cert.Ffn.codesOut (arg0 m c) (arg1 m c) (arg2 m c) (arg3 m c) (arg4 m c) := by
  refine ((dats m 0 c).arrAt_eq_of_cover 4 _ (fun t _ => flushed_eq m c t) cover).trans ?_
  exact (V_v187 m c).trans (Cert.Ffn.Ref.codesOut_eq _ _ _ _ _)

end Cert.RFfnIdeal.Host

end
-- ==== Proof.OpDecode.lean ====
/-
  The decoded weights of the output projection: what the loop of its first grid point leaves in the scratch block.
-/
module

public import proofs.«01_k».proof.Proof.Dec
public import proofs.«01_k».proof.Proof.Gen.KOprojIdeal.Loops
public import Idealize.ShloMosaic.Lib.Ring

@[expose] public section

set_option maxRecDepth 16384

noncomputable section

namespace Cert.Op

open Cert.KOprojIdeal Cert.KOprojIdeal.Gen Idealize.ShloMosaic Idealize.ShloMosaic.TcCoe Idealize.ShloMosaic.Tactic Idealize.SL.Sem
open Cert.Dec Cert.KOprojIdeal.Facts

/-- A piece whose payload agrees, at every index, with one function of the whole block. -/
abbrev Agrees {S : Shape} {e : EltTy} (G : S.Idx → Elt Ideal e) (p : View.Piece (Elt Ideal) S e) : Prop := ∀ x, p.2 x = G (p.1.emb x)

/-- The scratch block the decode leaves: weights of the block's codes and scales. -/
abbrev WD (codes : IVec S2304x1280 8) (scales : IVec S2304x80 8) : FVec Ideal S2304x2560 .bf16 :=
  Wb (R := 2304) (C := 10) (nC := 1280) (nS := 80) (nW := 2560) rfl rfl rfl codes scales

section
variable (arg3 : Memref sig .tc .vmem S2304x1280 .i8) (arg4 : Memref sig .tc .vmem S2304x80 .i8) (X_arg3 : BufTy.Contents (Elt Ideal) arg3.view.ty) (X_arg4 : BufTy.Contents (Elt Ideal) arg4.view.ty)

/-- A rectangle's index from its coordinates. -/
theorem unit_ld {S : Shape} {e : EltTy} (v : View sig .tc .vmem S e) (X : BufTy.Contents (Elt Ideal) v.ty) (off size : Fin S.rank → ℕ) (inb) (y : S.Idx)
    (x : (Rect.unit off size inb).shape.Idx) (h : ∀ a, (y a).val = off a + (x a).val) :
    View.readAt (Elt Ideal) v (Rect.unit (s := S) off size inb).toLoadRect X x = v.read (Elt Ideal) X y := by
  show v.read (Elt Ideal) X _ = _
  congr 1
  funext a
  refine Fin.ext ?_
  show off a + 1 * (x a).val = _
  rw [h a]; omega

theorem closed {n : ℕ} {off f : Fin n → ℕ} [o : ClosedOff off] (h : o.form = f) : off = f := o.eq.trans h

/-- A slice from the origin, of the whole shape, is the block itself. -/
theorem slice_self {α : Type} (R : S64x128.Idx → α) (o : ℕ) (ho : o = 0) (sl : S64x128.Slices ![0, o] SC) : extractStridedSlice SC ![0, o] R sl = R := by
  subst ho
  funext j
  refine extractStridedSlice_apply ![0, 0] _ sl j j fun a => ?_
  match a with
  | ⟨0, _⟩ => exact (Nat.zero_add _).symm
  | ⟨1, _⟩ => exact (Nat.zero_add _).symm

theorem lane_iota (h : SC.Iotas .tc 32 [1]) (j : SC.Idx) : iota .tc SC 32 [1] h j = BitVec.ofNat 32 (j 1).val := iota_single_apply _ _ _ 1 h j

theorem cons_lo (hsc : ∀ i, (arg4.view.read (Elt Ideal) X_arg4 i).toNat ≤ 248) (cc : ℕ) (k : ℕ) (offC offW offS : Fin 2 → ℕ)
    (inbC inbW inbS) (pay : FVec Ideal S64x128 .bf16) (hC : offC = ![64 * k, 128 * cc]) (hW : offW = ![64 * k, 256 * cc]) (hS : offS = ![64 * k, 0])
    (sl : S64x128.Slices ![0, 8 * cc / 128 * 128] SC) (hcc : cc < 10)
    (C : Vec Ideal S64x128 .i8) (R : FVec Ideal S64x128 .bf16) (v : IVec S64x128 32)
    (hCr : C = View.readAt (Elt Ideal) arg3.view (Rect.unit (s := S2304x1280) offC ![64, 128] inbC).toLoadRect X_arg3)
    (hRr : R = concatenate S64x128 1 [⟨S64x80, truncf (F := Ideal) .bf16 (bitcastToFloat .f32 (shli (addi (extui 32
        (View.readAt (Elt Ideal) arg4.view (Rect.unit (s := S2304x80) offS ![64, 80] inbS).toLoadRect X_arg4 : IVec S64x80 8) natLt_8_32)
        (broadcast S64x80 6#32)) (broadcast S64x80 23#32))) bitsLt_bf16_f32⟩, ⟨S64x48, broadcast S64x48 (Scalar.ofBits .bf16 0x0000#16)⟩] concatenates_S64x80_S64x48_S64x128_d1)
    (hv : v = iota .tc S64x128 32 [1] iota_S64x128_d1_w32)
    (hpay : pay = scaled (loW C bitcasts_S64x128_w8_S16x128_w32)
      (gath R v (BitVec.ofNat 32 (8 * cc % 128)) bitsLt_bf16_f32 shapeCasts_S64x128_S64x128x1
        shapeCasts_S64x128x1_S64x128) bitcasts_S16x128_w32_S64x128_w8 bitsLt_fp8e4m3_bf16 shapeCasts_S64x128_S64x128)
    (L : List (View.Piece (Elt Ideal) S2304x2560 .bf16))
    (hL : ∀ p ∈ L, Agrees (WD (arg3.view.read (Elt Ideal) X_arg3) (arg4.view.read (Elt Ideal) X_arg4)) p) :
    ∀ p ∈ (⟨Rect.unit (s := S2304x2560) offW ![64, 128] inbW, pay⟩ : View.Piece (Elt Ideal) S2304x2560 .bf16) :: L,
      Agrees (WD (arg3.view.read (Elt Ideal) X_arg3) (arg4.view.read (Elt Ideal) X_arg4)) p := by
  refine List.forall_mem_cons.2 ⟨fun x => ?_, hL⟩
  have e0 : 8 * cc / 128 * 128 = 0 := by omega
  rw [← slice_self R _ e0 sl] at hpay
  subst hC hW hS hpay hCr hRr hv
  refine piece_lo (R := 2304) (C := 10) _ _ _ _ _ hsc (64 * k) cc (128 * cc) (256 * cc) (8 * cc / 128 * 128) (8 * cc % 128) rfl rfl (by omega) (by omega)
    rfl _ _ _ (lane_iota _) ?_ ?_ _ _ _ _ sl _ _ _ _ _ _ x _ ?_ ?_
  · intro p l i h0 h1
    refine unit_ld _ _ _ _ _ i (ValueIdx.ix2 p l) fun a => ?_
    match a with
    | ⟨0, _⟩ => exact h0
    | ⟨1, _⟩ => exact h1
  · intro p l i h0 h1
    refine unit_ld _ _ _ _ _ i (ValueIdx.ix2 p l) fun a => ?_
    match a with
    | ⟨0, _⟩ => exact h0
    | ⟨1, _⟩ => exact h1.trans (Nat.zero_add _).symm
  · show 64 * k + 1 * (x 0).val = _; omega
  · show 256 * cc + 1 * (x 1).val = _; omega

theorem cons_hi (hsc : ∀ i, (arg4.view.read (Elt Ideal) X_arg4 i).toNat ≤ 248) (cc : ℕ) (k : ℕ) (offC offW offS : Fin 2 → ℕ)
    (inbC inbW inbS) (pay : FVec Ideal S64x128 .bf16) (hC : offC = ![64 * k, 128 * cc]) (hW : offW = ![64 * k, 256 * cc + 128]) (hS : offS = ![64 * k, 0])
    (sl : S64x128.Slices ![0, 8 * cc / 128 * 128] SC) (hcc : cc < 10)
    (C : Vec Ideal S64x128 .i8) (R : FVec Ideal S64x128 .bf16) (v : IVec S64x128 32)
    (hCr : C = View.readAt (Elt Ideal) arg3.view (Rect.unit (s := S2304x1280) offC ![64, 128] inbC).toLoadRect X_arg3)
    (hRr : R = concatenate S64x128 1 [⟨S64x80, truncf (F := Ideal) .bf16 (bitcastToFloat .f32 (shli (addi (extui 32
        (View.readAt (Elt Ideal) arg4.view (Rect.unit (s := S2304x80) offS ![64, 80] inbS).toLoadRect X_arg4 : IVec S64x80 8) natLt_8_32)
        (broadcast S64x80 6#32)) (broadcast S64x80 23#32))) bitsLt_bf16_f32⟩, ⟨S64x48, broadcast S64x48 (Scalar.ofBits .bf16 0x0000#16)⟩] concatenates_S64x80_S64x48_S64x128_d1)
    (hv : v = iota .tc S64x128 32 [1] iota_S64x128_d1_w32)
    (hpay : pay = scaled (hiW C bitcasts_S64x128_w8_S16x128_w32)
      (gath R v (BitVec.ofNat 32 (8 * cc % 128)) bitsLt_bf16_f32 shapeCasts_S64x128_S64x128x1
        shapeCasts_S64x128x1_S64x128) bitcasts_S16x128_w32_S64x128_w8 bitsLt_fp8e4m3_bf16 shapeCasts_S64x128_S64x128)
    (L : List (View.Piece (Elt Ideal) S2304x2560 .bf16))
    (hL : ∀ p ∈ L, Agrees (WD (arg3.view.read (Elt Ideal) X_arg3) (arg4.view.read (Elt Ideal) X_arg4)) p) :
    ∀ p ∈ (⟨Rect.unit (s := S2304x2560) offW ![64, 128] inbW, pay⟩ : View.Piece (Elt Ideal) S2304x2560 .bf16) :: L,
      Agrees (WD (arg3.view.read (Elt Ideal) X_arg3) (arg4.view.read (Elt Ideal) X_arg4)) p := by
  refine List.forall_mem_cons.2 ⟨fun x => ?_, hL⟩
  have e0 : 8 * cc / 128 * 128 = 0 := by omega
  rw [← slice_self R _ e0 sl] at hpay
  subst hC hW hS hpay hCr hRr hv
  refine piece_hi (R := 2304) (C := 10) _ _ _ _ _ hsc (64 * k) cc (128 * cc) (256 * cc + 128) (8 * cc / 128 * 128) (8 * cc % 128) rfl rfl (by omega) (by omega)
    rfl _ _ _ (lane_iota _) ?_ ?_ _ _ _ _ sl _ _ _ _ _ _ x _ ?_ ?_
  · intro p l i h0 h1
    refine unit_ld _ _ _ _ _ i (ValueIdx.ix2 p l) fun a => ?_
    match a with
    | ⟨0, _⟩ => exact h0
    | ⟨1, _⟩ => exact h1
  · intro p l i h0 h1
    refine unit_ld _ _ _ _ _ i (ValueIdx.ix2 p l) fun a => ?_
    match a with
    | ⟨0, _⟩ => exact h0
    | ⟨1, _⟩ => exact h1.trans (Nat.zero_add _).symm
  · show 64 * k + 1 * (x 0).val = _; omega
  · show 256 * cc + 128 + 1 * (x 1).val = _; omega

/-- The two pieces of one chunk of 128 code columns. -/
theorem cons_pair (hsc : ∀ i, (arg4.view.read (Elt Ideal) X_arg4 i).toNat ≤ 248) (cc : ℕ) (k : ℕ) (offC offL offH offS : Fin 2 → ℕ)
    (inbC inbL inbH inbS) (payL payH : FVec Ideal S64x128 .bf16) (hC : offC = ![64 * k, 128 * cc]) (hW : offL = ![64 * k, 256 * cc]) (hW' : offH = ![64 * k, 256 * cc + 128]) (hS : offS = ![64 * k, 0])
    (sl : S64x128.Slices ![0, 8 * cc / 128 * 128] SC) (hcc : cc < 10)
    (C : Vec Ideal S64x128 .i8) (R : FVec Ideal S64x128 .bf16) (v : IVec S64x128 32)
    (hCr : C = View.readAt (Elt Ideal) arg3.view (Rect.unit (s := S2304x1280) offC ![64, 128] inbC).toLoadRect X_arg3)
    (hRr : R = concatenate S64x128 1 [⟨S64x80, truncf (F := Ideal) .bf16 (bitcastToFloat .f32 (shli (addi (extui 32
        (View.readAt (Elt Ideal) arg4.view (Rect.unit (s := S2304x80) offS ![64, 80] inbS).toLoadRect X_arg4 : IVec S64x80 8) natLt_8_32)
        (broadcast S64x80 6#32)) (broadcast S64x80 23#32))) bitsLt_bf16_f32⟩, ⟨S64x48, broadcast S64x48 (Scalar.ofBits .bf16 0x0000#16)⟩] concatenates_S64x80_S64x48_S64x128_d1)
    (hv : v = iota .tc S64x128 32 [1] iota_S64x128_d1_w32)
    (hlo : payL = scaled (loW C bitcasts_S64x128_w8_S16x128_w32)
      (gath R v (BitVec.ofNat 32 (8 * cc % 128)) bitsLt_bf16_f32 shapeCasts_S64x128_S64x128x1
        shapeCasts_S64x128x1_S64x128) bitcasts_S16x128_w32_S64x128_w8 bitsLt_fp8e4m3_bf16 shapeCasts_S64x128_S64x128)
    (hhi : payH = scaled (hiW C bitcasts_S64x128_w8_S16x128_w32)
      (gath R v (BitVec.ofNat 32 (8 * cc % 128)) bitsLt_bf16_f32 shapeCasts_S64x128_S64x128x1
        shapeCasts_S64x128x1_S64x128) bitcasts_S16x128_w32_S64x128_w8 bitsLt_fp8e4m3_bf16 shapeCasts_S64x128_S64x128)
    (L : List (View.Piece (Elt Ideal) S2304x2560 .bf16))
    (hL : ∀ p ∈ L, Agrees (WD (arg3.view.read (Elt Ideal) X_arg3) (arg4.view.read (Elt Ideal) X_arg4)) p) :
    ∀ p ∈ (⟨Rect.unit (s := S2304x2560) offH ![64, 128] inbH, payH⟩ : View.Piece (Elt Ideal) S2304x2560 .bf16)
        :: ⟨Rect.unit (s := S2304x2560) offL ![64, 128] inbL, payL⟩ :: L,
      Agrees (WD (arg3.view.read (Elt Ideal) X_arg3) (arg4.view.read (Elt Ideal) X_arg4)) p :=
  cons_hi arg3 arg4 X_arg3 X_arg4 hsc cc k offC offH offS inbC inbH inbS payH hC hW' hS sl hcc C R v hCr hRr hv hhi _
    (cons_lo arg3 arg4 X_arg3 X_arg4 hsc cc k offC offL offS inbC inbL inbS payL hC hW hS sl hcc C R v hCr hRr hv hlo L hL)

end
section
variable (𝒱 : Variants) (c : Dev nD) (bd : Option 𝒱.V) (i : grid0.Coords) (arg1 : Memref sig .tc .vmem S512x2560 .bf16) (harg1 : arg1.IsWhole) (arg2 : Memref sig .tc .vmem S512x2304 .bf16) (harg2 : arg2.IsWhole) (arg3 : Memref sig .tc .vmem S1x2304 .f32) (harg3 : arg3.IsWhole) (arg4 : Memref sig .tc .vmem S2304x1280 .i8) (harg4 : arg4.IsWhole) (arg5 : Memref sig .tc .vmem S2304x80 .i8) (harg5 : arg5.IsWhole) (arg6 : Memref sig .tc .vmem S512x2304 .f32) (harg6 : arg6.IsWhole) (arg7 : Memref sig .tc .vmem S512x2304 .fp8e4m3) (harg7 : arg7.IsWhole) (arg8 : Memref sig .tc .vmem S512x72 .i8) (harg8 : arg8.IsWhole) (arg9 : Memref sig .tc .vmem S512x2304 .bf16) (harg9 : arg9.IsWhole) (arg10 : Memref sig .tc .vmem S2304x2560 .bf16) (harg10 : arg10.IsWhole) (k0_h1 : k0_cond1 i = 1#1) (X_arg4 : BufTy.Contents (Elt Ideal) arg4.view.ty) (X_arg5 : BufTy.Contents (Elt Ideal) arg5.view.ty)

set_option maxHeartbeats 4000000 in
theorem trip_agrees (hsc : ∀ i, (arg5.view.read (Elt Ideal) X_arg5 i).toNat ≤ 248) (k : Fin k0_t1_loop.trips) :
    ∀ p ∈ (trip_k0_t1 (F := Ideal) 𝒱 c bd i arg1 harg1 arg2 harg2 arg3 harg3 arg4 harg4 arg5 harg5 arg6 harg6 arg7 harg7 arg8 harg8 arg9 harg9 arg10 harg10 k0_h1 X_arg4 X_arg5 k).1,
      Agrees (WD (arg4.view.read (Elt Ideal) X_arg4) (arg5.view.read (Elt Ideal) X_arg5)) p := by
  unfold trip_k0_t1
  dsimp only
  have hR : trip_k0_t1.sl.r i arg5 k0_h1 X_arg5 k = concatenate S64x128 1 [⟨S64x80, truncf (F := Ideal) .bf16 (bitcastToFloat .f32 (shli (addi (extui 32
        (View.readAt (Elt Ideal) arg5.view (Rect.unit (s := S2304x80) (k0_off1 k) ![64, 80] (k0_off1_inb i k k0_h1)).toLoadRect X_arg5 : IVec S64x80 8) natLt_8_32)
        (broadcast S64x80 6#32)) (broadcast S64x80 23#32))) bitsLt_bf16_f32⟩, ⟨S64x48, broadcast S64x48 (Scalar.ofBits .bf16 0x0000#16)⟩] concatenates_S64x80_S64x48_S64x128_d1 := by
    delta trip_k0_t1.sl.r
    rfl
  refine cons_pair arg4 arg5 X_arg4 X_arg5 hsc 9 k.val (k0_off29 k) (k0_off30 k) (k0_off31 k) (k0_off1 k) (k0_off29_inb i k k0_h1) _ _ (k0_off1_inb i k k0_h1)
    _ _ (closed rfl) (closed rfl) (closed rfl) (closed rfl) (by decide) (by decide) _ _ _ rfl hR rfl rfl rfl _ ?_
  refine cons_pair arg4 arg5 X_arg4 X_arg5 hsc 8 k.val (k0_off26 k) (k0_off27 k) (k0_off28 k) (k0_off1 k) (k0_off26_inb i k k0_h1) _ _ (k0_off1_inb i k k0_h1)
    _ _ (closed rfl) (closed rfl) (closed rfl) (closed rfl) (by decide) (by decide) _ _ _ rfl hR rfl rfl rfl _ ?_
  refine cons_pair arg4 arg5 X_arg4 X_arg5 hsc 7 k.val (k0_off23 k) (k0_off24 k) (k0_off25 k) (k0_off1 k) (k0_off23_inb i k k0_h1) _ _ (k0_off1_inb i k k0_h1)
    _ _ (closed rfl) (closed rfl) (closed rfl) (closed rfl) (by decide) (by decide) _ _ _ rfl hR rfl rfl rfl _ ?_
  refine cons_pair arg4 arg5 X_arg4 X_arg5 hsc 6 k.val (k0_off20 k) (k0_off21 k) (k0_off22 k) (k0_off1 k) (k0_off20_inb i k k0_h1) _ _ (k0_off1_inb i k k0_h1)
    _ _ (closed rfl) (closed rfl) (closed rfl) (closed rfl) (by decide) (by decide) _ _ _ rfl hR rfl rfl rfl _ ?_
  refine cons_pair arg4 arg5 X_arg4 X_arg5 hsc 5 k.val (k0_off17 k) (k0_off18 k) (k0_off19 k) (k0_off1 k) (k0_off17_inb i k k0_h1) _ _ (k0_off1_inb i k k0_h1)
    _ _ (closed rfl) (closed rfl) (closed rfl) (closed rfl) (by decide) (by decide) _ _ _ rfl hR rfl rfl rfl _ ?_
  refine cons_pair arg4 arg5 X_arg4 X_arg5 hsc 4 k.val (k0_off14 k) (k0_off15 k) (k0_off16 k) (k0_off1 k) (k0_off14_inb i k k0_h1) _ _ (k0_off1_inb i k k0_h1)
    _ _ (closed rfl) (closed rfl) (closed rfl) (closed rfl) (by decide) (by decide) _ _ _ rfl hR rfl rfl rfl _ ?_
  refine cons_pair arg4 arg5 X_arg4 X_arg5 hsc 3 k.val (k0_off11 k) (k0_off12 k) (k0_off13 k) (k0_off1 k) (k0_off11_inb i k k0_h1) _ _ (k0_off1_inb i k k0_h1)
    _ _ (closed rfl) (closed rfl) (closed rfl) (closed rfl) (by decide) (by decide) _ _ _ rfl hR rfl rfl rfl _ ?_
  refine cons_pair arg4 arg5 X_arg4 X_arg5 hsc 2 k.val (k0_off8 k) (k0_off9 k) (k0_off10 k) (k0_off1 k) (k0_off8_inb i k k0_h1) _ _ (k0_off1_inb i k k0_h1)
    _ _ (closed rfl) (closed rfl) (closed rfl) (closed rfl) (by decide) (by decide) _ _ _ rfl hR rfl rfl rfl _ ?_
  refine cons_pair arg4 arg5 X_arg4 X_arg5 hsc 1 k.val (k0_off5 k) (k0_off6 k) (k0_off7 k) (k0_off1 k) (k0_off5_inb i k k0_h1) _ _ (k0_off1_inb i k k0_h1)
    _ _ (closed rfl) (closed rfl) (closed rfl) (closed rfl) (by decide) (by decide) _ _ _ rfl hR rfl rfl rfl _ ?_
  refine cons_pair arg4 arg5 X_arg4 X_arg5 hsc 0 k.val (k0_off2 k) (k0_off3 k) (k0_off4 k) (k0_off1 k) (k0_off2_inb i k k0_h1) _ _ (k0_off1_inb i k k0_h1)
    _ _ (closed rfl) (closed rfl) (closed rfl) (closed rfl) (by decide) (by decide) _ _ _ rfl hR rfl rfl rfl _ ?_
  exact fun p hp => absurd hp List.not_mem_nil

/-- Every piece the loop has stored before trip `n` agrees with the decoded weights. -/
theorem pb_agrees (hsc : ∀ i, (arg5.view.read (Elt Ideal) X_arg5 i).toNat ≤ 248) : ∀ n : ℕ, n ≤ k0_t1_loop.trips →
    ∀ p ∈ pb_k0_t1 (F := Ideal) 𝒱 c bd i arg1 harg1 arg2 harg2 arg3 harg3 arg4 harg4 arg5 harg5 arg6 harg6 arg7 harg7 arg8 harg8 arg9 harg9 arg10 harg10 k0_h1 X_arg4 X_arg5 n,
      Agrees (WD (arg4.view.read (Elt Ideal) X_arg4) (arg5.view.read (Elt Ideal) X_arg5)) p
  | 0, _ => fun p hp => absurd hp List.not_mem_nil
  | n + 1, hn => by
    rw [pb_k0_t1_succ 𝒱 c bd i arg1 harg1 arg2 harg2 arg3 harg3 arg4 harg4 arg5 harg5 arg6 harg6 arg7 harg7 arg8 harg8 arg9 harg9 arg10 harg10 k0_h1 X_arg4 X_arg5 ⟨n, hn⟩]
    intro p hp
    rcases List.mem_append.1 hp with h | h
    · exact trip_agrees 𝒱 c bd i arg1 harg1 arg2 harg2 arg3 harg3 arg4 harg4 arg5 harg5 arg6 harg6 arg7 harg7 arg8 harg8 arg9 harg9 arg10 harg10 k0_h1 X_arg4 X_arg5 hsc ⟨n, hn⟩ p h
    · exact pb_agrees hsc n (Nat.le_of_succ_le hn) p h

/-- The scratch block read back after the loop is the decoded weights. -/
theorem scratch_read (hsc : ∀ i, (arg5.view.read (Elt Ideal) X_arg5 i).toNat ≤ 248) (B : LoadRect S2304x2560) :
    arg10.view.readCov (pb_k0_t1 (F := Ideal) 𝒱 c bd i arg1 harg1 arg2 harg2 arg3 harg3 arg4 harg4 arg5 harg5 arg6 harg6 arg7 harg7 arg8 harg8 arg9 harg9 arg10 harg10 k0_h1 X_arg4 X_arg5 (Scf.trips k0_t1_loop.lb k0_t1_loop.ub k0_t1_loop.st)) B
      = fun j => WD (arg4.view.read (Elt Ideal) X_arg4) (arg5.view.read (Elt Ideal) X_arg5) (B.idx j) := by
  rw [View.readCov_eq_canon']
  funext j
  exact View.canon_apply_of_pieces _ _ (pb_agrees 𝒱 c bd i arg1 harg1 arg2 harg2 arg3 harg3 arg4 harg4 arg5 harg5 arg6 harg6 arg7 harg7 arg8 harg8 arg9 harg9 arg10 harg10 k0_h1 X_arg4 X_arg5 hsc _ le_rfl) _
    (View.cover_of_tiledL (pb_k0_t1 (F := Ideal) 𝒱 c bd i arg1 harg1 arg2 harg2 arg3 harg3 arg4 harg4 arg5 harg5 arg6 harg6 arg7 harg7 arg8 harg8 arg9 harg9 arg10 harg10 k0_h1 X_arg4 X_arg5 (Scf.trips k0_t1_loop.lb k0_t1_loop.ub k0_t1_loop.st)) S64x128.size (by sl_kernel_rfl) _)

end

end Cert.Op
-- ==== Proof.OpValue.lean ====
/-
  The output projection's first result: each block the kernel writes is the residual plus the products with the decoded
  weights, and the decoded weights stay in the scratch block from the first grid point on.
-/
module

public import proofs.«01_k».proof.Proof.OpDecode
public import proofs.«01_k».proof.Proof.Gen.KOprojIdeal.Value

@[expose] public section

set_option maxRecDepth 16384

noncomputable section

namespace Cert.Op

open Cert.KOprojIdeal Cert.KOprojIdeal.Gen Idealize.ShloMosaic Idealize.ShloMosaic.TcCoe Idealize.ShloMosaic.Tactic Idealize.SL.Sem
open Cert.Dec Cert.KOprojIdeal.Facts

/-- One element of a block's result, over the weights `w`. -/
def blockAt (x0 : FVec Ideal S512x2560 .bf16) (x1 : FVec Ideal S512x2304 .bf16) (w : FVec Ideal S2304x2560 .bf16) (r : Fin 512) (n : Fin 2304) : EReal :=
  x1 (ValueIdx.ix2 r n) + ∑ k : Fin 2560, x0 (ValueIdx.ix2 r k) * w (ValueIdx.ix2 n k)

/-- One element of a 512-row product with the whole weight block. -/
theorem prod_apply (a : FVec Ideal S512x2560 .bf16) (w : FVec Ideal S256x2560 .bf16) (j : S512x256.Idx) :
    FloatOps.matmul dot_S512x2560_S256x2560_S512x256_1_1_0_0_n_n none a w (constant S512x256 .f32 0x00000000#32) j
      = ∑ k : Fin 2560, a (ValueIdx.ix2 (j 0) k) * w (ValueIdx.ix2 (j 1) k) := by
  rw [Ideal.matmul_constant_zero_apply, ← Equiv.sum_comp (ValueIdx.contrEquiv1 dot_S512x2560_S256x2560_S512x256_1_1_0_0_n_n 2560 rfl rfl).symm]
  refine Finset.sum_congr rfl fun k _ => ?_
  have hk := ValueIdx.contrEquiv1_symm_val dot_S512x2560_S256x2560_S512x256_1_1_0_0_n_n 2560 rfl rfl k
  have el : dot_S512x2560_S256x2560_S512x256_1_1_0_0_n_n.lhsIdx j ((ValueIdx.contrEquiv1 dot_S512x2560_S256x2560_S512x256_1_1_0_0_n_n 2560 rfl rfl).symm k) = ValueIdx.ix2 (j 0) k := funext fun a => Fin.ext (by
    match a with
    | ⟨0, _⟩ =>
      show (dot_S512x2560_S256x2560_S512x256_1_1_0_0_n_n.lhsIdx j _ 0).val = (j 0).val
      unfold DotDims.lhsIdx
      rw [dif_neg (show ¬(0 : Fin S512x2560.rank) ∈ dot_S512x2560_S256x2560_S512x256_1_1_0_0_n_n.lhsBatch by decide), dif_pos (show (0 : Fin S512x2560.rank) ∈ dot_S512x2560_S256x2560_S512x256_1_1_0_0_n_n.lhsNonContracting by decide)]
      rfl
    | ⟨1, _⟩ => exact (dot_S512x2560_S256x2560_S512x256_1_1_0_0_n_n.lhsIdx_val_of_single rfl j _).trans hk)
  have er : dot_S512x2560_S256x2560_S512x256_1_1_0_0_n_n.rhsIdx j ((ValueIdx.contrEquiv1 dot_S512x2560_S256x2560_S512x256_1_1_0_0_n_n 2560 rfl rfl).symm k) = ValueIdx.ix2 (j 1) k := funext fun a => Fin.ext (by
    match a with
    | ⟨0, _⟩ =>
      show (dot_S512x2560_S256x2560_S512x256_1_1_0_0_n_n.rhsIdx j _ 0).val = (j 1).val
      unfold DotDims.rhsIdx
      rw [dif_neg (show ¬(0 : Fin S256x2560.rank) ∈ dot_S512x2560_S256x2560_S512x256_1_1_0_0_n_n.rhsBatch by decide), dif_pos (show (0 : Fin S256x2560.rank) ∈ dot_S512x2560_S256x2560_S512x256_1_1_0_0_n_n.rhsNonContracting by decide)]
      rfl
    | ⟨1, _⟩ => exact (dot_S512x2560_S256x2560_S512x256_1_1_0_0_n_n.rhsIdx_val_of_single rfl j _).trans hk)
  rw [el, er]
  rfl

section
variable (arg1 : Memref sig .tc .vmem S512x2560 .bf16) (harg1 : arg1.IsWhole) (arg2 : Memref sig .tc .vmem S512x2304 .bf16) (harg2 : arg2.IsWhole)
    (x0 : Vec Ideal S512x2560 .bf16) (x1 : Vec Ideal S512x2304 .bf16)

/-- A stored piece of 256 columns from column `o`: the payload is the block's value there. -/
theorem cols_agree (W : FVec Ideal S2304x2560 .bf16) (o : ℕ) (inbR inbA inbW inbO) (w : Vec Ideal S256x2560 .bf16)
    (hw : w = fun j => W ((Rect.unit (s := S2304x2560) ![o, 0] ![256, 2560] inbW).toLoadRect.idx j))
    (x : (Rect.unit (s := S512x2304) ![0, o] ![512, 256] inbO).shape.Idx) :
    k0_pay2 (F := Ideal) (View.readAt (Elt Ideal) arg2.view (Rect.unit (s := S512x2304) ![0, o] ![512, 256] inbR).toLoadRect (harg2.unread x1))
      (View.readAt (Elt Ideal) arg1.view (Rect.unit (s := S512x2560) ![0, 0] ![512, 2560] inbA).toLoadRect (harg1.unread x0)) w x
      = blockAt x0 x1 W ((Rect.unit (s := S512x2304) ![0, o] ![512, 256] inbO).emb x 0) ((Rect.unit (s := S512x2304) ![0, o] ![512, 256] inbO).emb x 1) := by
  subst hw
  show (View.readAt (Elt Ideal) arg2.view (Rect.unit (s := S512x2304) ![0, o] ![512, 256] inbR).toLoadRect (harg2.unread x1) x : EReal)
      + (FloatOps.matmul (F := Ideal) dot_S512x2560_S256x2560_S512x256_1_1_0_0_n_n none
        (View.readAt (Elt Ideal) arg1.view (Rect.unit (s := S512x2560) ![0, 0] ![512, 2560] inbA).toLoadRect (harg1.unread x0) : FVec Ideal S512x2560 .bf16)
        ((fun j => W ((Rect.unit (s := S2304x2560) ![o, 0] ![256, 2560] inbW).toLoadRect.idx j)) : FVec Ideal S256x2560 .bf16)
        (constant S512x256 .f32 0x00000000#32) : FVec Ideal S512x256 .f32) x = blockAt x0 x1 W _ _
  rw [prod_apply]
  unfold blockAt
  refine congrArg₂ (· + ·) ?_ (Finset.sum_congr rfl fun k _ => congrArg₂ (· * ·) ?_ ?_)
  · refine (unit_ld _ _ _ _ _ (ValueIdx.ix2 ((Rect.unit (s := S512x2304) ![0, o] ![512, 256] inbO).emb x 0) ((Rect.unit (s := S512x2304) ![0, o] ![512, 256] inbO).emb x 1)) x fun a => ?_).trans (congrFun (harg2.read_unread _) _)
    match a with
    | ⟨0, _⟩ => show 0 + 1 * (x 0).val = 0 + (x 0).val; omega
    | ⟨1, _⟩ => show o + 1 * (x 1).val = o + (x 1).val; omega
  · refine (unit_ld _ _ _ _ _ (ValueIdx.ix2 ((Rect.unit (s := S512x2304) ![0, o] ![512, 256] inbO).emb x 0) k) _ fun a => ?_).trans (congrFun (harg1.read_unread _) _)
    match a with
    | ⟨0, _⟩ => show 0 + 1 * (x 0).val = 0 + (x 0).val; omega
    | ⟨1, _⟩ => show k.val = 0 + k.val; omega
  · refine congrArg W (funext fun a => Fin.ext ?_)
    match a with
    | ⟨0, _⟩ => show o + 1 * (x 1).val = o + 1 * (x 1).val; rfl
    | ⟨1, _⟩ => show 0 + 1 * k.val = k.val; omega
end

section
variable (c : Dev nD) (i : grid0.Coords) (arg1 : Memref sig .tc .vmem S512x2560 .bf16) (harg1 : arg1.IsWhole) (arg2 : Memref sig .tc .vmem S512x2304 .bf16) (harg2 : arg2.IsWhole) (arg3 : Memref sig .tc .vmem S1x2304 .f32) (harg3 : arg3.IsWhole) (arg4 : Memref sig .tc .vmem S2304x1280 .i8) (harg4 : arg4.IsWhole) (arg5 : Memref sig .tc .vmem S2304x80 .i8) (harg5 : arg5.IsWhole) (arg6 : Memref sig .tc .vmem S512x2304 .f32) (harg6 : arg6.IsWhole) (arg7 : Memref sig .tc .vmem S512x2304 .fp8e4m3) (harg7 : arg7.IsWhole) (arg8 : Memref sig .tc .vmem S512x72 .i8) (harg8 : arg8.IsWhole) (arg9 : Memref sig .tc .vmem S512x2304 .bf16) (harg9 : arg9.IsWhole) (arg10 : Memref sig .tc .vmem S2304x2560 .bf16) (harg10 : arg10.IsWhole)
    (x0 : Vec Ideal S512x2560 .bf16) (x1 : Vec Ideal S512x2304 .bf16) (x2 : Vec Ideal S1x2304 .f32) (x3 : Vec Ideal S2304x1280 .i8) (x4 : Vec Ideal S2304x80 .i8)

/-- What the first grid point reads of the scratch block: the decoded weights. -/
theorem read_A (hc0 : cond0_0 i) (hsc : ∀ i, (x4 i).toNat ≤ 248) (o : ℕ) (inbW) :
    arg10.view.readCov (pb_k0_t1 (F := Ideal) Variants.none c none i arg1 harg1 arg2 harg2 arg3 harg3 arg4 harg4 arg5 harg5 arg6 harg6 arg7 harg7 arg8 harg8 arg9 harg9 arg10 harg10 hc0
          (harg4.unread x3) (harg5.unread x4) (Scf.trips k0_t1_loop.lb k0_t1_loop.ub k0_t1_loop.st))
        (Rect.unit (s := S2304x2560) ![o, 0] ![256, 2560] inbW).toLoadRect
      = fun j => WD x3 x4 ((Rect.unit (s := S2304x2560) ![o, 0] ![256, 2560] inbW).toLoadRect.idx j) := by
  rw [scratch_read (hsc := by rw [harg5.read_unread]; exact hsc), harg4.read_unread, harg5.read_unread]

/-- What a later grid point reads of it: what it held. -/
theorem read_B (xs : Vec Ideal S2304x2560 .bf16) (o : ℕ) (inbW) :
    View.readAt (Elt Ideal) arg10.view (Rect.unit (s := S2304x2560) ![o, 0] ![256, 2560] inbW).toLoadRect (harg10.unread xs)
      = fun j => xs ((Rect.unit (s := S2304x2560) ![o, 0] ![256, 2560] inbW).toLoadRect.idx j) := by
  funext j
  exact congrFun (harg10.read_unread xs) _

/-- The block the body leaves at the first grid point. -/
theorem out_A (hc0 : cond0_0 i) (hsc : ∀ i, (x4 i).toNat ≤ 248) (y : S512x2304.Idx) :
    out0_A_5 (F := Ideal) c i arg1 harg1 arg2 harg2 arg3 harg3 arg4 harg4 arg5 harg5 arg6 harg6 arg7 harg7 arg8 harg8 arg9 harg9 arg10 harg10 hc0 x0 x1 x2 x3 x4 y = blockAt x0 x1 (WD x3 x4) (y 0) (y 1) := by
  unfold out0_A_5
  rw [View.read_writes_eq_canon _ _ _ (cover0_A_5 (F := Ideal) c i arg1 harg1 arg2 harg2 arg3 harg3 arg4 harg4 arg5 harg5 arg6 harg6 arg7 harg7 arg8 harg8 arg9 harg9 arg10 harg10 hc0 x0 x1 x2 x3 x4)]
  refine View.canon_apply_of_pieces (fun y => blockAt x0 x1 (WD x3 x4) (y 0) (y 1)) _ ?_ y (cover0_A_5 (F := Ideal) c i arg1 harg1 arg2 harg2 arg3 harg3 arg4 harg4 arg5 harg5 arg6 harg6 arg7 harg7 arg8 harg8 arg9 harg9 arg10 harg10 hc0 x0 x1 x2 x3 x4 y)
  unfold kernelRun0_A
  dsimp only
  exact List.forall_mem_cons.2 ⟨fun x => cols_agree arg1 harg1 arg2 harg2 x0 x1 (WD x3 x4) 2048 _ _ _ inb_S512x2304_S512x256_0_2048 _ (read_A c i arg1 harg1 arg2 harg2 arg3 harg3 arg4 harg4 arg5 harg5 arg6 harg6 arg7 harg7 arg8 harg8 arg9 harg9 arg10 harg10 x3 x4 hc0 hsc _ _) x,
    List.forall_mem_cons.2 ⟨fun x => cols_agree arg1 harg1 arg2 harg2 x0 x1 (WD x3 x4) 1792 _ _ _ inb_S512x2304_S512x256_0_1792 _ (read_A c i arg1 harg1 arg2 harg2 arg3 harg3 arg4 harg4 arg5 harg5 arg6 harg6 arg7 harg7 arg8 harg8 arg9 harg9 arg10 harg10 x3 x4 hc0 hsc _ _) x,
    List.forall_mem_cons.2 ⟨fun x => cols_agree arg1 harg1 arg2 harg2 x0 x1 (WD x3 x4) 1536 _ _ _ inb_S512x2304_S512x256_0_1536 _ (read_A c i arg1 harg1 arg2 harg2 arg3 harg3 arg4 harg4 arg5 harg5 arg6 harg6 arg7 harg7 arg8 harg8 arg9 harg9 arg10 harg10 x3 x4 hc0 hsc _ _) x,
    List.forall_mem_cons.2 ⟨fun x => cols_agree arg1 harg1 arg2 harg2 x0 x1 (WD x3 x4) 1280 _ _ _ inb_S512x2304_S512x256_0_1280 _ (read_A c i arg1 harg1 arg2 harg2 arg3 harg3 arg4 harg4 arg5 harg5 arg6 harg6 arg7 harg7 arg8 harg8 arg9 harg9 arg10 harg10 x3 x4 hc0 hsc _ _) x,
    List.forall_mem_cons.2 ⟨fun x => cols_agree arg1 harg1 arg2 harg2 x0 x1 (WD x3 x4) 1024 _ _ _ inb_S512x2304_S512x256_0_1024 _ (read_A c i arg1 harg1 arg2 harg2 arg3 harg3 arg4 harg4 arg5 harg5 arg6 harg6 arg7 harg7 arg8 harg8 arg9 harg9 arg10 harg10 x3 x4 hc0 hsc _ _) x,
    List.forall_mem_cons.2 ⟨fun x => cols_agree arg1 harg1 arg2 harg2 x0 x1 (WD x3 x4) 768 _ _ _ inb_S512x2304_S512x256_0_768 _ (read_A c i arg1 harg1 arg2 harg2 arg3 harg3 arg4 harg4 arg5 harg5 arg6 harg6 arg7 harg7 arg8 harg8 arg9 harg9 arg10 harg10 x3 x4 hc0 hsc _ _) x,
    List.forall_mem_cons.2 ⟨fun x => cols_agree arg1 harg1 arg2 harg2 x0 x1 (WD x3 x4) 512 _ _ _ inb_S512x2304_S512x256_0_512 _ (read_A c i arg1 harg1 arg2 harg2 arg3 harg3 arg4 harg4 arg5 harg5 arg6 harg6 arg7 harg7 arg8 harg8 arg9 harg9 arg10 harg10 x3 x4 hc0 hsc _ _) x,
    List.forall_mem_cons.2 ⟨fun x => cols_agree arg1 harg1 arg2 harg2 x0 x1 (WD x3 x4) 256 _ _ _ inb_S512x2304_S512x256_0_256 _ (read_A c i arg1 harg1 arg2 harg2 arg3 harg3 arg4 harg4 arg5 harg5 arg6 harg6 arg7 harg7 arg8 harg8 arg9 harg9 arg10 harg10 x3 x4 hc0 hsc _ _) x,
    List.forall_mem_cons.2 ⟨fun x => cols_agree arg1 harg1 arg2 harg2 x0 x1 (WD x3 x4) 0 _ _ _ inb_S512x2304_S512x256_0_0 _ (read_A c i arg1 harg1 arg2 harg2 arg3 harg3 arg4 harg4 arg5 harg5 arg6 harg6 arg7 harg7 arg8 harg8 arg9 harg9 arg10 harg10 x3 x4 hc0 hsc _ _) x,
    fun p hp => absurd hp List.not_mem_nil⟩⟩⟩⟩⟩⟩⟩⟩⟩

/-- The block the body leaves at a later grid point. -/
theorem out_B (hc0 : ¬cond0_0 i) (xs : Vec Ideal S2304x2560 .bf16) (y : S512x2304.Idx) :
    out0_B_5 (F := Ideal) c i arg1 harg1 arg2 harg2 arg3 harg3 arg4 harg4 arg5 harg5 arg6 harg6 arg7 harg7 arg8 harg8 arg9 harg9 arg10 harg10 hc0 x0 x1 x2 x3 x4 xs y = blockAt x0 x1 xs (y 0) (y 1) := by
  unfold out0_B_5
  rw [View.read_writes_eq_canon _ _ _ (cover0_B_5 (F := Ideal) c i arg1 harg1 arg2 harg2 arg3 harg3 arg4 harg4 arg5 harg5 arg6 harg6 arg7 harg7 arg8 harg8 arg9 harg9 arg10 harg10 hc0 x0 x1 x2 x3 x4 xs)]
  refine View.canon_apply_of_pieces (fun y => blockAt x0 x1 xs (y 0) (y 1)) _ ?_ y (cover0_B_5 (F := Ideal) c i arg1 harg1 arg2 harg2 arg3 harg3 arg4 harg4 arg5 harg5 arg6 harg6 arg7 harg7 arg8 harg8 arg9 harg9 arg10 harg10 hc0 x0 x1 x2 x3 x4 xs y)
  unfold kernelRun0_B
  dsimp only
  exact List.forall_mem_cons.2 ⟨fun x => cols_agree arg1 harg1 arg2 harg2 x0 x1 xs 2048 _ _ _ inb_S512x2304_S512x256_0_2048 _ (read_B arg10 harg10 xs _ _) x,
    List.forall_mem_cons.2 ⟨fun x => cols_agree arg1 harg1 arg2 harg2 x0 x1 xs 1792 _ _ _ inb_S512x2304_S512x256_0_1792 _ (read_B arg10 harg10 xs _ _) x,
    List.forall_mem_cons.2 ⟨fun x => cols_agree arg1 harg1 arg2 harg2 x0 x1 xs 1536 _ _ _ inb_S512x2304_S512x256_0_1536 _ (read_B arg10 harg10 xs _ _) x,
    List.forall_mem_cons.2 ⟨fun x => cols_agree arg1 harg1 arg2 harg2 x0 x1 xs 1280 _ _ _ inb_S512x2304_S512x256_0_1280 _ (read_B arg10 harg10 xs _ _) x,
    List.forall_mem_cons.2 ⟨fun x => cols_agree arg1 harg1 arg2 harg2 x0 x1 xs 1024 _ _ _ inb_S512x2304_S512x256_0_1024 _ (read_B arg10 harg10 xs _ _) x,
    List.forall_mem_cons.2 ⟨fun x => cols_agree arg1 harg1 arg2 harg2 x0 x1 xs 768 _ _ _ inb_S512x2304_S512x256_0_768 _ (read_B arg10 harg10 xs _ _) x,
    List.forall_mem_cons.2 ⟨fun x => cols_agree arg1 harg1 arg2 harg2 x0 x1 xs 512 _ _ _ inb_S512x2304_S512x256_0_512 _ (read_B arg10 harg10 xs _ _) x,
    List.forall_mem_cons.2 ⟨fun x => cols_agree arg1 harg1 arg2 harg2 x0 x1 xs 256 _ _ _ inb_S512x2304_S512x256_0_256 _ (read_B arg10 harg10 xs _ _) x,
    List.forall_mem_cons.2 ⟨fun x => cols_agree arg1 harg1 arg2 harg2 x0 x1 xs 0 _ _ _ inb_S512x2304_S512x256_0_0 _ (read_B arg10 harg10 xs _ _) x,
    fun p hp => absurd hp List.not_mem_nil⟩⟩⟩⟩⟩⟩⟩⟩⟩

/-- What the first grid point leaves in the scratch block. -/
theorem scratch_A (hc0 : cond0_0 i) (hsc : ∀ i, (x4 i).toNat ≤ 248) :
    sout0_A_0 (F := Ideal) c i arg1 harg1 arg2 harg2 arg3 harg3 arg4 harg4 arg5 harg5 arg6 harg6 arg7 harg7 arg8 harg8 arg9 harg9 arg10 harg10 hc0 x0 x1 x2 x3 x4 = WD x3 x4 := by
  unfold sout0_A_0
  rw [View.read_writes_eq_canon _ _ _ (scover0_A_0 (F := Ideal) c i arg1 harg1 arg2 harg2 arg3 harg3 arg4 harg4 arg5 harg5 arg6 harg6 arg7 harg7 arg8 harg8 arg9 harg9 arg10 harg10 hc0 x0 x1 x2 x3 x4)]
  funext y
  refine View.canon_apply_of_pieces (WD x3 x4) _ ?_ y (scover0_A_0 (F := Ideal) c i arg1 harg1 arg2 harg2 arg3 harg3 arg4 harg4 arg5 harg5 arg6 harg6 arg7 harg7 arg8 harg8 arg9 harg9 arg10 harg10 hc0 x0 x1 x2 x3 x4 y)
  have h := pb_agrees Variants.none c none i arg1 harg1 arg2 harg2 arg3 harg3 arg4 harg4 arg5 harg5 arg6 harg6 arg7 harg7 arg8 harg8 arg9 harg9 arg10 harg10 hc0 (harg4.unread x3) (harg5.unread x4) (by rw [harg5.read_unread]; exact hsc) _ le_rfl
  rw [harg4.read_unread, harg5.read_unread] at h
  unfold kernelRun0_A
  exact h
end

end Cert.Op
-- ==== Proof.OpArray.lean ====
/-
  The output projection's first result array after the run: every element is the residual plus the row of activations
  against the row of decoded weights.
-/
module

public import proofs.«01_k».proof.Proof.OpValue

@[expose] public section

set_option maxRecDepth 16384

noncomputable section

namespace Cert.Op

open Cert.KOprojIdeal Cert.KOprojIdeal.Gen Idealize.ShloMosaic Idealize.ShloMosaic.TcCoe Idealize.ShloMosaic.Tactic Idealize.SL.Sem
open Cert.Dec Cert.KOprojIdeal.Facts

variable (m : (ℓ : Loc nD τ sig) → Buf (Elt Ideal) ℓ) (ρ : Dev nD → PrngReg) (c : Dev nD)

/-- The whole result: residual plus activations against the decoded weights. -/
def opOut (a : FVec Ideal S2048x2560 .bf16) (r : FVec Ideal S2048x2304 .bf16) (codes : IVec S2304x1280 8) (scales : IVec S2304x80 8) :
    FVec Ideal S2048x2304 .f32 := fun j =>
  ((r j : EReal) + ∑ k : Fin 2560, (a (ValueIdx.ix2 (j 0) k) : EReal)
    * Wb (R := 2304) (C := 10) (nC := 1280) (nS := 80) (nW := 2560) rfl rfl rfl codes scales (ValueIdx.ix2 (j 1) k) : EReal)

abbrev arrA : FVec Ideal S2048x2560 .bf16 := m ((c : Thread nD τ).loc main_arg0)
abbrev arrR : FVec Ideal S2048x2304 .bf16 := m ((c : Thread nD τ).loc main_arg1)
abbrev arrC : IVec S2304x1280 8 := m ((c : Thread nD τ).loc main_arg3)
abbrev arrS : IVec S2304x80 8 := m ((c : Thread nD τ).loc main_arg4)

/-! ## Where each window's block sits -/

theorem at0 : ∀ t : Fin cfg0.N, win0_0.index t 0 = t.val ∧ win0_0.index t 1 = 0 := (by decide +kernel : ∀ t : Fin grid0.N, win0_0.index t 0 = t.val ∧ win0_0.index t 1 = 0)
theorem at1 : ∀ t : Fin cfg0.N, win0_1.index t 0 = t.val ∧ win0_1.index t 1 = 0 := (by decide +kernel : ∀ t : Fin grid0.N, win0_1.index t 0 = t.val ∧ win0_1.index t 1 = 0)
theorem at3 : ∀ t : Fin cfg0.N, win0_3.index t 0 = 0 ∧ win0_3.index t 1 = 0 := (by decide +kernel : ∀ t : Fin grid0.N, win0_3.index t 0 = 0 ∧ win0_3.index t 1 = 0)
theorem at4 : ∀ t : Fin cfg0.N, win0_4.index t 0 = 0 ∧ win0_4.index t 1 = 0 := (by decide +kernel : ∀ t : Fin grid0.N, win0_4.index t 0 = 0 ∧ win0_4.index t 1 = 0)
theorem at5 : ∀ t : Fin cfg0.N, win0_5.index t 0 = t.val ∧ win0_5.index t 1 = 0 := (by decide +kernel : ∀ t : Fin grid0.N, win0_5.index t 0 = t.val ∧ win0_5.index t 1 = 0)

theorem size5 : ∀ t : Fin cfg0.N, win0_5.xsize (grid0.coords t) 0 = 512 ∧ win0_5.xsize (grid0.coords t) 1 = 2304 :=
  (by decide +kernel : ∀ t : Fin grid0.N, win0_5.xsize (grid0.coords t) 0 = 512 ∧ win0_5.xsize (grid0.coords t) 1 = 2304)

theorem iblk0 (t : Fin cfg0.N) (p : Fin 512) (q : Fin 2560) (p' : Fin 2048) (hp : p'.val = 512 * t.val + p.val) :
    (iblk m c 0 t : FVec Ideal S512x2560 .bf16) (ValueIdx.ix2 p q) = arrA m c (ValueIdx.ix2 p' q) := by
  unfold iblk
  refine (congrFun (V_main_arg0 m c) _).trans (congrArg (arrA m c) (funext fun a => Fin.ext ?_))
  match a with
  | ⟨0, _⟩ => show win0_0.index t 0 * 512 + 1 * p.val = p'.val; rw [(at0 t).1]; omega
  | ⟨1, _⟩ => show win0_0.index t 1 * 2560 + 1 * q.val = q.val; rw [(at0 t).2]; omega

theorem iblk1 (t : Fin cfg0.N) (p : Fin 512) (q : Fin 2304) (p' : Fin 2048) (hp : p'.val = 512 * t.val + p.val) :
    (iblk m c 1 t : FVec Ideal S512x2304 .bf16) (ValueIdx.ix2 p q) = arrR m c (ValueIdx.ix2 p' q) := by
  unfold iblk
  refine (congrFun (V_main_arg1 m c) _).trans (congrArg (arrR m c) (funext fun a => Fin.ext ?_))
  match a with
  | ⟨0, _⟩ => show win0_1.index t 0 * 512 + 1 * p.val = p'.val; rw [(at1 t).1]; omega
  | ⟨1, _⟩ => show win0_1.index t 1 * 2304 + 1 * q.val = q.val; rw [(at1 t).2]; omega

theorem iblk3 (t : Fin cfg0.N) : (iblk m c 3 t : IVec S2304x1280 8) = arrC m c := by
  funext i
  unfold iblk
  refine (congrFun (V_main_arg3 m c) _).trans (congrArg (arrC m c) (funext fun a => Fin.ext ?_))
  match a with
  | ⟨0, _⟩ => show win0_3.index t 0 * 2304 + 1 * (i 0).val = (i 0).val; rw [(at3 t).1]; omega
  | ⟨1, _⟩ => show win0_3.index t 1 * 1280 + 1 * (i 1).val = (i 1).val; rw [(at3 t).2]; omega

theorem iblk4 (t : Fin cfg0.N) : (iblk m c 4 t : IVec S2304x80 8) = arrS m c := by
  funext i
  unfold iblk
  refine (congrFun (V_main_arg4 m c) _).trans (congrArg (arrS m c) (funext fun a => Fin.ext ?_))
  match a with
  | ⟨0, _⟩ => show win0_4.index t 0 * 2304 + 1 * (i 0).val = (i 0).val; rw [(at4 t).1]; omega
  | ⟨1, _⟩ => show win0_4.index t 1 * 80 + 1 * (i 1).val = (i 1).val; rw [(at4 t).2]; omega

/-! ## The scratch block holds the decoded weights after every grid point -/

theorem lt4 (t : Fin cfg0.N) : t.val < 4 := lt_of_lt_of_eq t.isLt (N_0 : cfg0.N = 4)

theorem carried (hsc : ∀ i, (arrS m c i).toNat ≤ 248) : ∀ (n : ℕ) (hn : n < cfg0.N), (outsAt0 m c n hn).2.2.2.2 = WD (arrC m c) (arrS m c)
  | 0, hn => by
    rw [outsAt0_A m c ⟨0, hn⟩ (Nat.zero_mod _)]
    dsimp only
    refine (scratch_A c _ _ _ _ _ _ _ _ _ _ _ _ _ _ _ _ _ _ _ _ _ _ _ _ _ _ _ ?_).trans ?_
    · rw [iblk4]; exact hsc
    · rw [iblk3, iblk4]
  | n + 1, hn => by
    have h4 := lt_of_lt_of_eq hn (N_0 : cfg0.N = 4)
    rw [outsAt0_B m c ⟨n + 1, hn⟩ (by show ¬(n + 1) % 4 = 0; omega)]
    dsimp only
    unfold sout0_B_0
    exact carried hsc n (Nat.lt_of_succ_lt hn)

/-! ## A block's value is the whole result's there -/

theorem blockAt_eq (t : Fin cfg0.N) (r : Fin 512) (n : Fin 2304) (r' : Fin 2048) (hr : r'.val = 512 * t.val + r.val) :
    blockAt (iblk m c 0 t) (iblk m c 1 t) (WD (arrC m c) (arrS m c)) r n
      = opOut (arrA m c) (arrR m c) (arrC m c) (arrS m c) (ValueIdx.ix2 r' n) := by
  unfold blockAt opOut
  exact congrArg₂ (· + ·) (iblk1 m c t r n r' hr)
    (Finset.sum_congr rfl fun k _ => congrArg₂ (· * ·) (iblk0 m c t r k r' hr) rfl)

/-- What a grid point leaves in the result's block. -/
theorem out_eq (hsc : ∀ i, (arrS m c i).toNat ≤ 248) (t : Fin cfg0.N) (y : S512x2304.Idx) :
    (outsAt0 m c t.val t.isLt).1 y = blockAt (iblk m c 0 t) (iblk m c 1 t) (WD (arrC m c) (arrS m c)) (y 0) (y 1) := by
  by_cases h0 : t.val % 4 = 0
  · rw [outsAt0_A m c t h0]
    dsimp only
    refine (out_A c _ _ _ _ _ _ _ _ _ _ _ _ _ _ _ _ _ _ _ _ _ _ _ _ _ _ _ ?_ _).trans ?_
    · rw [iblk4]; exact hsc
    · rw [iblk3, iblk4]
  · rw [outsAt0_B m c t h0]
    dsimp only
    refine (out_B c _ _ _ _ _ _ _ _ _ _ _ _ _ _ _ _ _ _ _ _ _ _ _ _ _ _ _ _ _).trans ?_
    rw [carried m c hsc]

/-- What a grid point writes back is its block of the whole result. -/
theorem flushed_eq (hsc : ∀ i, (arrS m c i).toNat ≤ 248) (t : Fin cfg0.N) :
    (dats m 0 c).flushed 5 t = ((cfg0.win 5).blk t).view.read (Elt Ideal) (opOut (arrA m c) (arrR m c) (arrC m c) (arrS m c)) := by
  rw [Cert.KOprojIdeal.Value.flushed5]
  funext y
  have ht := lt4 t
  have h0 : (y 0).val < 512 := (y 0).isLt
  refine (out_eq m c hsc t _).trans ?_
  refine (blockAt_eq m c t (y 0) (y 1) ⟨512 * t.val + (y 0).val, by omega⟩ rfl).trans ?_
  refine congrArg (opOut (arrA m c) (arrR m c) (arrC m c) (arrS m c)) (funext fun a => Fin.ext ?_)
  match a with
  | ⟨0, _⟩ => show 512 * t.val + (y 0).val = win0_5.index t 0 * 512 + 1 * (y 0).val; rw [(at5 t).1]; omega
  | ⟨1, _⟩ => show (y 1).val = win0_5.index t 1 * 2304 + 1 * (y 1).val; rw [(at5 t).2]; omega

/-- An element is in point `t`'s block when its row is. -/
theorem mem_blk (t : Fin cfg0.N) (i : S2048x2304.Idx) (h : t.val * 512 ≤ (i 0).val ∧ (i 0).val < t.val * 512 + 512) :
    i ∈ ((cfg0.win 5).blk t).view.set := by
  show i ∈ ((View.whole main_v0_0).slice (win0_5.rect t)).set
  rw [View.set_slice_whole, Rect.mem_set_unit]
  intro a
  match a with
  | ⟨0, _⟩ => show win0_5.index t 0 * 512 ≤ (i 0).val ∧ (i 0).val < win0_5.index t 0 * 512 + win0_5.xsize (grid0.coords t) 0
              rw [(at5 t).1, (size5 t).1]; exact h
  | ⟨1, _⟩ => show win0_5.index t 1 * win0_5.size 1 ≤ (i 1).val ∧ (i 1).val < win0_5.index t 1 * win0_5.size 1 + win0_5.xsize (grid0.coords t) 1
              rw [(at5 t).2, (size5 t).2]; have : (i 1).val < 2304 := (i 1).isLt; omega

theorem cover (i : S2048x2304.Idx) : ∃ t : Fin cfg0.N, (cfg0.win 5).flush t = true ∧ i ∈ ((cfg0.win 5).blk t).view.set := by
  have h0 : (i 0).val < 2048 := (i 0).isLt
  have hN : cfg0.N = 4 := N_0
  refine ⟨⟨(i 0).val / 512, by omega⟩, flush0_5 _, mem_blk _ i ?_⟩
  dsimp only
  omega

/-- The result array after the run. -/
theorem final (hsc : ∀ i, (arrS m c i).toNat ≤ 248) :
    (dats m 0 c).arrAt 5 cfg0.N = opOut (arrA m c) (arrR m c) (arrC m c) (arrS m c) :=
  (dats m 0 c).arrAt_eq_of_cover 5 _ (fun t _ => flushed_eq m c hsc t) cover

end Cert.Op
-- ==== Proof.OpRef.lean ====
/-
  The reference's value: its two half products over decoded codes are one sum over all activations.
-/
module

public import proofs.«01_k».proof.Proof.OpArray
public import proofs.«01_k».proof.Proof.RefCode
public import proofs.«01_k».proof.Proof.Gen.ROprojIdeal.Read

@[expose] public section

set_option maxRecDepth 16384

noncomputable section

namespace Cert.Op.Ref

open Cert.ROprojIdeal Cert.ROprojIdeal.Gen Cert.ROprojIdeal.Read Idealize.ShloMosaic Idealize.ShloMosaic.TcCoe Idealize.SL.Sem Idealize.ShloMosaic.StableHlo
open Cert.Dec

theorem lo_code (x3 : IVec S2304x1280 8) (i : S2304x1280.Idx) : val_main_v43 (F := Ideal) x3 i = ((fp4 (x3 i) : ℝ) : EReal) := by
  rw [← nibVal_eq]
  simp only [val_main_c_apply, val_main_v17_apply, val_main_v18_apply, val_main_c_1_apply, val_main_v19_apply, val_main_v20_apply, val_main_c_2_apply, val_main_v21_apply, val_main_v22_apply, val_main_c_3_apply, val_main_v23_apply, val_main_v24_apply, val_main_c_4_apply, val_main_v25_apply, val_main_v26_apply, val_main_c_5_apply, val_main_v27_apply, val_main_v28_apply, val_main_c_6_apply, val_main_v29_apply, val_main_v30_apply, val_main_c_7_apply, val_main_v31_apply, val_main_v32_apply, val_main_c_8_apply, val_main_v33_apply, val_main_v34_apply, val_main_cst_9_apply, val_main_cst_10_apply, val_main_call0_v0_apply, val_main_call0_v1_apply, val_main_v35_apply, val_main_cst_11_apply, val_main_cst_12_apply, val_main_call1_v0_apply, val_main_call1_v1_apply, val_main_v36_apply, val_main_v37_apply, val_main_cst_13_apply, val_main_cst_14_apply, val_main_call3_v0_apply, val_main_call3_v1_apply, val_main_v38_apply, val_main_cst_15_apply, val_main_cst_16_apply, val_main_call4_v0_apply, val_main_call4_v1_apply, val_main_v39_apply, val_main_v40_apply, val_main_v41_apply, val_main_v42_apply, val_main_v43_apply, val_main_v8_apply]
  rfl

theorem hi_code (x3 : IVec S2304x1280 8) (i : S2304x1280.Idx) : val_main_v74 (F := Ideal) x3 i = ((fp4 (x3 i >>> 4) : ℝ) : EReal) := by
  rw [← nibVal_eq]
  simp only [val_main_c_17_apply, val_main_v48_apply, val_main_v49_apply, val_main_c_18_apply, val_main_v50_apply, val_main_v51_apply, val_main_c_19_apply, val_main_v52_apply, val_main_v53_apply, val_main_c_20_apply, val_main_v54_apply, val_main_v55_apply, val_main_c_21_apply, val_main_v56_apply, val_main_v57_apply, val_main_c_22_apply, val_main_v58_apply, val_main_v59_apply, val_main_c_23_apply, val_main_v60_apply, val_main_v61_apply, val_main_c_24_apply, val_main_v62_apply, val_main_v63_apply, val_main_c_25_apply, val_main_v64_apply, val_main_v65_apply, val_main_cst_26_apply, val_main_cst_27_apply, val_main_call8_v0_apply, val_main_call8_v1_apply, val_main_v66_apply, val_main_cst_28_apply, val_main_cst_29_apply, val_main_call9_v0_apply, val_main_call9_v1_apply, val_main_v67_apply, val_main_v68_apply, val_main_cst_30_apply, val_main_cst_31_apply, val_main_call11_v0_apply, val_main_call11_v1_apply, val_main_v69_apply, val_main_cst_32_apply, val_main_cst_33_apply, val_main_call12_v0_apply, val_main_call12_v1_apply, val_main_v70_apply, val_main_v71_apply, val_main_v72_apply, val_main_v73_apply, val_main_v74_apply, val_main_v8_apply, hi_nib]
  rfl

theorem scale_at (x4 : IVec S2304x80 8) (i : S2304x80.Idx) : val_main_v15 (F := Ideal) x4 i = (((2 : ℝ) ^ (((x4 i).toNat : ℤ) - 127) : ℝ) : EReal) := by
  rw [← pow_scale, ← f2, ← f127]
  simp only [val_main_v9_apply, val_main_v10_apply, val_main_cst_apply, val_main_v11_apply, val_main_v12_apply, val_main_cst_0_apply, val_main_v13_apply, val_main_v14_apply, val_main_v15_apply]
  rfl

theorem code_ix (n : Fin 2304) (k : Fin 1280) : idx_main_v44 (idx_main_v47 (ValueIdx.ix2 n k)) = ValueIdx.ix2 n k := by
  have hk := k.isLt
  have hn := n.isLt
  refine funext fun a => Fin.ext ?_
  match a with
  | ⟨0, _⟩ => dsimp [idx_main_v44, idx_main_v47, ValueIdx.ix2]; omega
  | ⟨1, _⟩ => dsimp [idx_main_v44, idx_main_v47, ValueIdx.ix2]; omega

theorem scale_ix (n : Fin 2304) (k : Fin 1280) :
    idx_main_v16 (idx_main_v45 (idx_main_v47 (ValueIdx.ix2 n k))) = ValueIdx.ix2 n ⟨k.val / 16, by have := k.isLt; omega⟩ := by
  have hk := k.isLt
  have hn := n.isLt
  refine funext fun a => Fin.ext ?_
  match a with
  | ⟨0, _⟩ => dsimp [idx_main_v16, idx_main_v45, idx_main_v47, ValueIdx.ix2]; omega
  | ⟨1, _⟩ => dsimp [idx_main_v16, idx_main_v45, idx_main_v47, ValueIdx.ix2]; omega

/-- The low nibbles' weights. -/
theorem lo_weight (x3 : IVec S2304x1280 8) (x4 : IVec S2304x80 8) (n : Fin 2304) (k : Fin 1280) :
    val_main_v47 (F := Ideal) x3 x4 (ValueIdx.ix2 n k) = wv (x3 (ValueIdx.ix2 n k)) (x4 (ValueIdx.ix2 n ⟨k.val / 16, by have := k.isLt; omega⟩)) := by
  rw [val_main_v47_apply, val_main_v46_apply, val_main_v45_apply, val_main_v44_apply, val_main_v16_apply, lo_code, scale_at, code_ix, scale_ix]
  exact (EReal.coe_mul _ _).symm

/-- The high nibbles' weights. -/
theorem hi_weight (x3 : IVec S2304x1280 8) (x4 : IVec S2304x80 8) (n : Fin 2304) (k : Fin 1280) :
    val_main_v78 (F := Ideal) x3 x4 (ValueIdx.ix2 n k) = wv (x3 (ValueIdx.ix2 n k) >>> 4) (x4 (ValueIdx.ix2 n ⟨k.val / 16, by have := k.isLt; omega⟩)) := by
  rw [val_main_v78_apply, val_main_v77_apply, val_main_v76_apply, val_main_v75_apply, val_main_v16_apply, hi_code, scale_at]
  refine (congrArg₂ (fun a b => FloatOps.mulf (F := Ideal) (φ := .bf16) ((fp4 (x3 a >>> 4) : ℝ) : EReal) (((2 : ℝ) ^ (((x4 b).toNat : ℤ) - 127) : ℝ) : EReal)) (code_ix n k) (scale_ix n k)).trans ?_
  exact (EReal.coe_mul _ _).symm

/-- The activations that meet the low nibbles. -/
theorem even_act (x0 : FVec Ideal S2048x2560 .bf16) (t : Fin 2048) (k : Fin 1280) :
    val_main_v3 (F := Ideal) x0 (ValueIdx.ix2 t k) = x0 (ValueIdx.ix2 t (evenCol (C := 10) rfl rfl k)) := by
  have hk := k.isLt
  have ht := t.isLt
  rw [val_main_v3_apply, val_main_v2_apply, val_main_v1_apply, val_main_v0_apply]
  refine congrArg x0 (funext fun a => Fin.ext ?_)
  match a with
  | ⟨0, _⟩ => dsimp [idx_main_v3, idx_main_v2, idx_main_v1, idx_main_v0, ValueIdx.ix2]; omega
  | ⟨1, _⟩ => dsimp [idx_main_v3, idx_main_v2, idx_main_v1, idx_main_v0, ValueIdx.ix2, evenCol]; omega

/-- The activations that meet the high nibbles. -/
theorem odd_act (x0 : FVec Ideal S2048x2560 .bf16) (t : Fin 2048) (k : Fin 1280) :
    val_main_v6 (F := Ideal) x0 (ValueIdx.ix2 t k) = x0 (ValueIdx.ix2 t (oddCol (C := 10) rfl rfl k)) := by
  have hk := k.isLt
  have ht := t.isLt
  rw [val_main_v6_apply, val_main_v5_apply, val_main_v4_apply, val_main_v0_apply]
  refine congrArg x0 (funext fun a => Fin.ext ?_)
  match a with
  | ⟨0, _⟩ => dsimp [idx_main_v6, idx_main_v5, idx_main_v4, idx_main_v0, ValueIdx.ix2]; omega
  | ⟨1, _⟩ => dsimp [idx_main_v6, idx_main_v5, idx_main_v4, idx_main_v0, ValueIdx.ix2, oddCol]; omega

/-- The decoded weight block at the first half's columns, and at the second's. -/
theorem Wb_even (x3 : IVec S2304x1280 8) (x4 : IVec S2304x80 8) (n : Fin 2304) (k : Fin 1280) :
    Wb (R := 2304) (C := 10) (nC := 1280) (nS := 80) (nW := 2560) rfl rfl rfl x3 x4 (ValueIdx.ix2 n (evenCol (C := 10) rfl rfl k))
      = wv (x3 (ValueIdx.ix2 n k)) (x4 (ValueIdx.ix2 n ⟨k.val / 16, by have := k.isLt; omega⟩)) := by
  have hk := k.isLt
  unfold Wb
  refine congrArg₂ wv ((if_pos ?_).trans (congrArg x3 (funext fun a => Fin.ext ?_))) (congrArg x4 (funext fun a => Fin.ext ?_))
  · show (256 * (k.val / 128) + k.val % 128) % 256 < 128; omega
  · match a with
    | ⟨0, _⟩ => rfl
    | ⟨1, _⟩ => show 128 * ((256 * (k.val / 128) + k.val % 128) / 256) + (256 * (k.val / 128) + k.val % 128) % 128 = k.val; omega
  · match a with
    | ⟨0, _⟩ => rfl
    | ⟨1, _⟩ => show 8 * ((256 * (k.val / 128) + k.val % 128) / 256) + (256 * (k.val / 128) + k.val % 128) % 128 / 16 = k.val / 16; omega

theorem Wb_odd (x3 : IVec S2304x1280 8) (x4 : IVec S2304x80 8) (n : Fin 2304) (k : Fin 1280) :
    Wb (R := 2304) (C := 10) (nC := 1280) (nS := 80) (nW := 2560) rfl rfl rfl x3 x4 (ValueIdx.ix2 n (oddCol (C := 10) rfl rfl k))
      = wv (x3 (ValueIdx.ix2 n k) >>> 4) (x4 (ValueIdx.ix2 n ⟨k.val / 16, by have := k.isLt; omega⟩)) := by
  have hk := k.isLt
  unfold Wb
  refine congrArg₂ wv ((if_neg ?_).trans (congrArg (fun b => x3 b >>> 4) (funext fun a => Fin.ext ?_))) (congrArg x4 (funext fun a => Fin.ext ?_))
  · show ¬ (256 * (k.val / 128) + 128 + k.val % 128) % 256 < 128; omega
  · match a with
    | ⟨0, _⟩ => rfl
    | ⟨1, _⟩ => show 128 * ((256 * (k.val / 128) + 128 + k.val % 128) / 256) + (256 * (k.val / 128) + 128 + k.val % 128) % 128 = k.val; omega
  · match a with
    | ⟨0, _⟩ => rfl
    | ⟨1, _⟩ => show 8 * ((256 * (k.val / 128) + 128 + k.val % 128) / 256) + (256 * (k.val / 128) + 128 + k.val % 128) % 128 / 16 = k.val / 16; omega

/-- The reference computes the same array as the kernel. -/
theorem ref_eq (x0 : FVec Ideal S2048x2560 .bf16) (x1 : FVec Ideal S2048x2304 .bf16) (x3 : IVec S2304x1280 8) (x4 : IVec S2304x80 8) :
    val_main_v82 (F := Ideal) x0 x1 x3 x4 = opOut x0 x1 x3 x4 := by
  funext j
  obtain ⟨t, n, rfl⟩ : ∃ (t : Fin 2048) (n : Fin 2304), j = ValueIdx.ix2 t n := ⟨j 0, j 1, ValueIdx.eq_ix2 j⟩
  rw [val_main_v82_apply, val_main_v81_apply, val_main_v80_apply, val_main_v79_apply, val_main_v7_apply]
  unfold opOut
  rw [sum_halves (C := 10) (nC := 1280) (nW := 2560) rfl rfl]
  refine congrArg (fun z : EReal => (x1 (ValueIdx.ix2 t n) : EReal) + z) (congrArg₂ (fun y z : EReal => y + z) (Finset.sum_congr rfl fun k _ => ?_) (Finset.sum_congr rfl fun k _ => ?_))
  · exact congrArg₂ (fun y z : EReal => y * z)
      ((congrArg (val_main_v3 (F := Ideal) x0) (ValueIdx.eq_ix2 _)).trans (even_act x0 t k))
      ((congrArg (val_main_v47 (F := Ideal) x3 x4) (ValueIdx.eq_ix2 _)).trans ((lo_weight x3 x4 n k).trans (Wb_even x3 x4 n k).symm))
  · exact congrArg₂ (fun y z : EReal => y * z)
      ((congrArg (val_main_v6 (F := Ideal) x0) (ValueIdx.eq_ix2 _)).trans (odd_act x0 t k))
      ((congrArg (val_main_v78 (F := Ideal) x3 x4) (ValueIdx.eq_ix2 _)).trans ((hi_weight x3 x4 n k).trans (Wb_odd x3 x4 n k).symm))

end Cert.Op.Ref
-- ==== Proof.lean ====
/-
  The claims about the output projection, the feed-forward call and the down projection, each closed from the runs and the hand-written values.
-/
module

public import proofs.«01_k».proof.Defs
public import proofs.«01_k».proof.Proof.Gen.KOproj
public import proofs.«01_k».proof.Proof.Gen.KOproj.Skeleton
public import proofs.«01_k».proof.Proof.Gen.KOproj.Loops
public import proofs.«01_k».proof.Proof.Gen.KOproj.Launch
public import proofs.«01_k».proof.Proof.Gen.KOproj.Points
public import proofs.«01_k».proof.Proof.Gen.KOproj.Frame
public import proofs.«01_k».proof.Proof.Gen.KOprojIdeal
public import proofs.«01_k».proof.Proof.Gen.KOprojIdeal.Skeleton
public import proofs.«01_k».proof.Proof.Gen.KOprojIdeal.Loops
public import proofs.«01_k».proof.Proof.Gen.KOprojIdeal.Launch
public import proofs.«01_k».proof.Proof.Gen.KOprojIdeal.Points
public import proofs.«01_k».proof.Proof.Gen.KOprojIdeal.Frame
public import proofs.«01_k».proof.Proof.Gen.KOprojIdeal.Value
public import proofs.«01_k».proof.Proof.Gen.ROprojIdeal
public import proofs.«01_k».proof.Proof.Gen.ROprojIdeal.Run
public import proofs.«01_k».proof.Proof.Gen.ROprojIdeal.Read
public import proofs.«01_k».proof.Proof.Gen.KDown
public import proofs.«01_k».proof.Proof.Gen.KDown.Skeleton
public import proofs.«01_k».proof.Proof.Gen.KDown.Loops
public import proofs.«01_k».proof.Proof.Gen.KDown.Launch
public import proofs.«01_k».proof.Proof.Gen.KDown.Points
public import proofs.«01_k».proof.Proof.Gen.KDown.Frame
public import proofs.«01_k».proof.Proof.Gen.KDownIdeal
public import proofs.«01_k».proof.Proof.Gen.KDownIdeal.Skeleton
public import proofs.«01_k».proof.Proof.Gen.KDownIdeal.Loops
public import proofs.«01_k».proof.Proof.Gen.KDownIdeal.Launch
public import proofs.«01_k».proof.Proof.Gen.KDownIdeal.Points
public import proofs.«01_k».proof.Proof.Gen.KDownIdeal.Frame
public import proofs.«01_k».proof.Proof.Gen.KDownIdeal.Value
public import proofs.«01_k».proof.Proof.Gen.RDownIdeal
public import proofs.«01_k».proof.Proof.Gen.RDownIdeal.Run
public import proofs.«01_k».proof.Proof.Gen.RDownIdeal.Read
public import proofs.«01_k».proof.Proof.DownRef
public import proofs.«01_k».proof.Proof.Gen.KFfn.Frame
public import proofs.«01_k».proof.Proof.Gen.KFfn.Loops
public import proofs.«01_k».proof.Proof.Gen.KFfnIdeal.Frame
public import proofs.«01_k».proof.Proof.Gen.KFfnIdeal.Loops
public import proofs.«01_k».proof.Proof.Gen.RFfnIdeal
public import proofs.«01_k».proof.Proof.Gen.RFfnExactIdeal.Run
public import proofs.«01_k».proof.Proof.Gen.RFfnExactIdeal.Read
public import proofs.«01_k».proof.Proof.Gen.RFfnIdeal.Value
public import proofs.«01_k».proof.Proof.Gen.RFfnIdeal.Frame
public import proofs.«01_k».proof.Proof.FfnFrame
public import proofs.«01_k».proof.Proof.FfnFrameBits
public import proofs.«01_k».proof.Proof.FfnRefFinal
public import Idealize.ShloMosaic.Adequacy
public import Idealize.ShloMosaic.Init
public import Idealize.ShloMosaic.Lib.Bf16Pair
public import proofs.«01_k».proof.Proof.OpRef

@[expose] public section

noncomputable section

namespace Cert.Proof

open Idealize.ShloMosaic Idealize.SL.Sem

/-- A byte that passes the precondition's comparison is at most 248. -/
theorem le_of_cmp (b : BitVec 8) (h : IntOp.cmpi .sle (b.setWidth 32) 248#32 = 1#1) : b.toNat ≤ 248 := by
  revert b; decide +kernel

instance pre_facts : Cert.Pre_scales_fit.Facts := ⟨by decide, by decide⟩

theorem scales_le [Cert.Pre_scales_fit.Facts] (a : FVec Ideal ⟨2, ![2048, 9216]⟩ .bf16) (r : FVec Ideal ⟨2, ![2048, 2304]⟩ .f32)
    (codes : IVec ⟨2, ![2304, 4608]⟩ 8) (scales : IVec ⟨2, ![2304, 288]⟩ 8)
    (h : Cert.Pre_scales_fit.fn (F := Ideal) a r codes scales = fun _ => 1#1) (i : (⟨2, ![2304, 288]⟩ : Shape).Idx) : (scales i).toNat ≤ 248 :=
  le_of_cmp (scales i) (congrFun h i)

theorem ref_frame : Cert.quiescent_RDownIdeal := fun m g _ =>
  (θ_run (Cert.RDownIdeal.defs (F := Ideal)) _ _).mono
    (fun r h => ⟨fun c => (h c).2, Idealize.ShloMosaic.sem_eq_zero_of_no_sems (by decide) r.2⟩)
    (Cert.RDownIdeal.Value.run (F := Ideal) m g)

theorem algebraic [Cert.Pre_scales_fit.Facts] : Cert.algebraic_KDownIdeal_RDownIdeal_pre_scales_fit := by
  intro m g m' g' hpre hag
  refine ⟨fun c => Cert.Down.downOut (Cert.Down.arrA m c) (Cert.Down.arrR m c) (Cert.Down.arrC m c) (Cert.Down.arrS m c), ?_, ?_⟩
  · refine (θ_run _ _ _).mono (fun r h c => ⟨(h c).1.trans (Cert.Down.final m c fun i => scales_le _ _ _ _ (hpre c) i), (h c).2⟩)
      (Cert.KDownIdeal.Value.run_blocks m g)
  · refine (θ_run _ _ _).mono (fun r h c => ⟨(h c).1.trans ?_, (h c).2⟩) (Cert.RDownIdeal.Value.run m' g')
    obtain ⟨h0, h1, h2, h3⟩ := hag c
    refine (Cert.RDownIdeal.Read.val_main_v82_eq m' c).trans ((Cert.Down.Ref.ref_eq _ _ _ _).trans ?_)
    rw [h0, h1, h2, h3]

instance ffn_pre_facts : Cert.Pre_ffn_scales_fit.Facts := ⟨by decide, by decide⟩

instance mask_facts : Cert.On_only_codes.Facts := ⟨by decide, by decide⟩

/-- Under the precondition both of the scale arrays stay at or below 248. -/
theorem ffn_scales_le [Cert.Pre_ffn_scales_fit.Facts] (a : FVec Ideal ⟨2, ![2048, 2304]⟩ .bf16) (g : IVec ⟨2, ![9216, 1152]⟩ 8) (gs : IVec ⟨2, ![9216, 72]⟩ 8)
    (u : IVec ⟨2, ![9216, 1152]⟩ 8) (us : IVec ⟨2, ![9216, 72]⟩ 8)
    (h : Cert.Pre_ffn_scales_fit.fn (F := Ideal) a g gs u us = fun _ => 1#1) (i : (⟨2, ![9216, 72]⟩ : Shape).Idx) : (gs i).toNat ≤ 248 ∧ (us i).toNat ≤ 248 := by
  have e : IntOp.andi (IntOp.cmpi .sle ((gs i).setWidth 32) 248#32) (IntOp.cmpi .sle ((us i).setWidth 32) 248#32) = 1#1 := congrFun h i
  have both : ∀ p q : BitVec 1, IntOp.andi p q = 1#1 → p = 1#1 ∧ q = 1#1 := by decide
  exact ⟨le_of_cmp _ (both _ _ e).1, le_of_cmp _ (both _ _ e).2⟩

theorem ffn_exact_frame : Cert.quiescent_RFfnExactIdeal := fun m g _ =>
  (θ_run (Cert.RFfnExactIdeal.defs (F := Ideal)) _ _).mono
    (fun r h => ⟨fun c => (h c).2.2.2.2, Idealize.ShloMosaic.sem_eq_zero_of_no_sems (by decide) r.2⟩)
    (Cert.RFfnExactIdeal.Value.run (F := Ideal) m g)

/-- The mask leaves out the scales and the last output. -/
theorem masked {P : Prop} (h : (0#1 : BitVec 1) = 1#1) : P := absurd h (by decide)

theorem ffn_algebraic [Cert.Pre_ffn_scales_fit.Facts] [Cert.On_only_codes.Facts] : Cert.algebraic_KFfnIdeal_RFfnIdeal_on_only_codes_pre_ffn_scales_fit := by
  intro m g m' g' hpre hag
  refine ⟨fun c => Cert.Ffn.codesOut (Cert.Ffn.arrA m c) (Cert.Ffn.arrG m c) (Cert.Ffn.arrGs m c) (Cert.Ffn.arrU m c) (Cert.Ffn.arrUs m c),
    fun c => m ((c.tc : Thread Cert.KFfnIdeal.nD Cert.KFfnIdeal.τ).loc Cert.KFfnIdeal.main_v0_1),
    fun c => m ((c.tc : Thread Cert.KFfnIdeal.nD Cert.KFfnIdeal.τ).loc Cert.KFfnIdeal.main_v0_2), ?_, ?_⟩
  · refine (θ_run _ _ _).mono (fun r h c => ⟨fun i _ => congrFun ((Cert.KFfnIdeal.Run.final_5 m r h.1 c).trans
        (Cert.Ffn.final m c (fun i => (ffn_scales_le _ _ _ _ _ (hpre c) i).1) (fun i => (ffn_scales_le _ _ _ _ _ (hpre c) i).2))) i,
        fun i hi => masked hi, fun i hi => masked hi, Cert.KFfnIdeal.Run.args_kept m r h.1 c⟩)
      (Cert.KFfnIdeal.Run.run_main_quiescent m g)
  · refine (θ_run _ _ _).mono (fun r h c => ⟨fun i _ => congrFun ((h c).1.trans ((Cert.RFfnIdeal.Host.final m' c).trans ?_)) i,
        fun i hi => masked hi, fun i hi => masked hi, (h c).2.2.2⟩) (Cert.RFfnIdeal.Value.run_blocks m' g')
    obtain ⟨h0, h1, h2, h3, h4⟩ := hag c
    unfold Cert.RFfnIdeal.Host.arg0 Cert.RFfnIdeal.Host.arg1 Cert.RFfnIdeal.Host.arg2 Cert.RFfnIdeal.Host.arg3 Cert.RFfnIdeal.Host.arg4
    rw [h0, h1, h2, h3, h4]

instance o_pre_facts : Cert.Pre_o_scales_fit.Facts := ⟨by decide, by decide⟩

/-- Under the precondition the output projection's scales stay at or below 248. -/
theorem o_scales_le [Cert.Pre_o_scales_fit.Facts] (a : FVec Ideal ⟨2, ![2048, 2560]⟩ .bf16) (x : FVec Ideal ⟨2, ![2048, 2304]⟩ .bf16) (nw : FVec Ideal ⟨2, ![1, 2304]⟩ .f32)
    (codes : IVec ⟨2, ![2304, 1280]⟩ 8) (scales : IVec ⟨2, ![2304, 80]⟩ 8)
    (h : Cert.Pre_o_scales_fit.fn (F := Ideal) a x nw codes scales = fun _ => 1#1) (i : (⟨2, ![2304, 80]⟩ : Shape).Idx) : (scales i).toNat ≤ 248 :=
  le_of_cmp (scales i) (congrFun h i)

/-- The output projection's reference runs and keeps its arguments. -/
theorem o_ref_frame : Cert.quiescent_ROprojIdeal := fun m g _ =>
  (θ_run (Cert.ROprojIdeal.defs (F := Ideal)) _ _).mono
    (fun r h => ⟨fun c => (h c).2, Idealize.ShloMosaic.sem_eq_zero_of_no_sems (by decide) r.2⟩)
    (Cert.ROprojIdeal.Value.run (F := Ideal) m g)

/-- The output projection and its reference compute the same array. -/
theorem o_algebraic [Cert.Pre_o_scales_fit.Facts] : Cert.algebraic_KOprojIdeal_ROprojIdeal_pre_o_scales_fit := by
  intro m g m' g' hpre hag
  refine ⟨fun c => Cert.Op.opOut (Cert.Op.arrA m c) (Cert.Op.arrR m c) (Cert.Op.arrC m c) (Cert.Op.arrS m c), ?_, ?_⟩
  · refine (θ_run _ _ _).mono (fun r h c => ⟨(h c).1.trans (Cert.Op.final m c fun i => o_scales_le _ _ _ _ _ (hpre c) i), (h c).2.2.2.2⟩)
      (Cert.KOprojIdeal.Value.run_blocks m g)
  · refine (θ_run _ _ _).mono (fun r h c => ⟨(h c).1.trans ?_, (h c).2⟩) (Cert.ROprojIdeal.Value.run m' g')
    obtain ⟨h0, h1, h2, h3, h4⟩ := hag c
    refine (Cert.ROprojIdeal.Read.val_main_v82_eq m' c).trans ((Cert.Op.Ref.ref_eq _ _ _ _).trans ?_)
    rw [h0, h1, h3, h4]

theorem claim : Cert.Claim := ⟨Cert.KDown.Gen.facts, Cert.KDownIdeal.Gen.facts, Cert.RDownIdeal.Gen.facts, Cert.KFfn.Gen.facts, Cert.KFfnIdeal.Gen.facts,
  Cert.RFfnIdeal.Gen.facts, Cert.RFfnExactIdeal.Gen.facts, Cert.KOproj.Gen.facts, Cert.KOprojIdeal.Gen.facts, Cert.ROprojIdeal.Gen.facts,
  pre_facts, ffn_pre_facts, o_pre_facts, mask_facts,
  fun m ρ _ => Cert.KDown.Gen.frame m ρ, fun m ρ _ => Cert.KDownIdeal.Gen.frame m ρ, fun m ρ _ => Cert.KDownIdeal.Gen.frame m ρ,
  ref_frame, fun m ρ _ => ref_frame m ρ trivial,
  fun m ρ _ => Cert.KFfn.Run.frame m ρ, fun m ρ _ => Cert.KFfnIdeal.Run.frame m ρ, fun m ρ _ => Cert.KFfnIdeal.Run.frame m ρ,
  fun m ρ _ => Cert.RFfnIdeal.Gen.frame m ρ, fun m ρ _ => Cert.RFfnIdeal.Gen.frame m ρ, ffn_exact_frame,
  fun m ρ _ => Cert.KOproj.Gen.frame m ρ, fun m ρ _ => Cert.KOprojIdeal.Gen.frame m ρ, fun m ρ _ => Cert.KOprojIdeal.Gen.frame m ρ,
  o_ref_frame, fun m ρ _ => o_ref_frame m ρ trivial,
  trivial, algebraic, trivial, ffn_algebraic, Idealize.ShloMosaic.IdealRules.bf16_pair.statement _ _, o_algebraic⟩

end Cert.Proof

end
